-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_ffn_b_finite [hPre_ffn_b_finite : Cert.Pre_ffn_b_finite.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_ffn_b_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))) = (fun _ => 1#1)

def Pre_FfnBRefIdeal (m : (ℓ : Loc Cert.FfnBRefIdeal.nD Cert.FfnBRefIdeal.τ Cert.FfnBRefIdeal.sig) → Buf (Elt Ideal) ℓ) : Prop :=
  True

def Pre_FfnBRefIdeal_ffn_b_finite [hPre_ffn_b_finite : Cert.Pre_ffn_b_finite.Facts] (m : (ℓ : Loc Cert.FfnBRefIdeal.nD Cert.FfnBRefIdeal.τ Cert.FfnBRefIdeal.sig) → Buf (Elt Ideal) ℓ) : Prop :=
  ∀ c : Dev Cert.FfnBRefIdeal.nD,
    (Cert.Pre_ffn_b_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))) = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_ffn_a_finite [hPre_ffn_a_finite : Cert.Pre_ffn_a_finite.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6))) = (fun _ => 1#1)

def Pre_FfnARefIdeal (m : (ℓ : Loc Cert.FfnARefIdeal.nD Cert.FfnARefIdeal.τ Cert.FfnARefIdeal.sig) → Buf (Elt Ideal) ℓ) : Prop :=
  True

def Pre_FfnARefIdeal_ffn_a_finite [hPre_ffn_a_finite : Cert.Pre_ffn_a_finite.Facts] (m : (ℓ : Loc Cert.FfnARefIdeal.nD Cert.FfnARefIdeal.τ Cert.FfnARefIdeal.sig) → Buf (Elt Ideal) ℓ) : Prop :=
  ∀ c : Dev Cert.FfnARefIdeal.nD,
    (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_mix_in_finite [hPre_mix_in_finite : Cert.Pre_mix_in_finite.Facts] (m : (ℓ : Loc Cert.MixInIdeal.nD Cert.MixInIdeal.τ Cert.MixInIdeal.sig) → Buf (Elt Ideal) ℓ) : Prop :=
  ∀ c : Dev Cert.MixInIdeal.nD,
    (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10)) (m ((c.tc : Thread Cert.MixInIdeal.nD Cert.MixInIdeal.τ).loc Cert.MixInIdeal.main_arg11)) (m ((c.tc : Thread Cert.MixInIdeal.nD Cert.MixInIdeal.τ).loc Cert.MixInIdeal.main_arg12)) (m ((c.tc : Thread Cert.MixInIdeal.nD Cert.MixInIdeal.τ).loc Cert.MixInIdeal.main_arg13))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mix_in_finite [hPre_mix_in_finite : Cert.Pre_mix_in_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10)) (m ((c.tc : Thread Cert.MixInRefIdeal.nD Cert.MixInRefIdeal.τ).loc Cert.MixInRefIdeal.main_arg11)) (m ((c.tc : Thread Cert.MixInRefIdeal.nD Cert.MixInRefIdeal.τ).loc Cert.MixInRefIdeal.main_arg12)) (m ((c.tc : Thread Cert.MixInRefIdeal.nD Cert.MixInRefIdeal.τ).loc Cert.MixInRefIdeal.main_arg13))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_mix_out_finite [hPre_mix_out_finite : Cert.Pre_mix_out_finite.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_mix_out_finite.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8)) (m ((c.tc : Thread Cert.MixOutIdeal.nD Cert.MixOutIdeal.τ).loc Cert.MixOutIdeal.main_arg9)) (m ((c.tc : Thread Cert.MixOutIdeal.nD Cert.MixOutIdeal.τ).loc Cert.MixOutIdeal.main_arg10)) (m ((c.tc : Thread Cert.MixOutIdeal.nD Cert.MixOutIdeal.τ).loc Cert.MixOutIdeal.main_arg11)) (m ((c.tc : Thread Cert.MixOutIdeal.nD Cert.MixOutIdeal.τ).loc Cert.MixOutIdeal.main_arg12)) (m ((c.tc : Thread Cert.MixOutIdeal.nD Cert.MixOutIdeal.τ).loc Cert.MixOutIdeal.main_arg13)) (m ((c.tc : Thread Cert.MixOutIdeal.nD Cert.MixOutIdeal.τ).loc Cert.MixOutIdeal.main_arg14))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mix_out_finite [hPre_mix_out_finite : Cert.Pre_mix_out_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8)) (m ((c.tc : Thread Cert.MixOutRefIdeal.nD Cert.MixOutRefIdeal.τ).loc Cert.MixOutRefIdeal.main_arg9)) (m ((c.tc : Thread Cert.MixOutRefIdeal.nD Cert.MixOutRefIdeal.τ).loc Cert.MixOutRefIdeal.main_arg10)) (m ((c.tc : Thread Cert.MixOutRefIdeal.nD Cert.MixOutRefIdeal.τ).loc Cert.MixOutRefIdeal.main_arg11)) (m ((c.tc : Thread Cert.MixOutRefIdeal.nD Cert.MixOutRefIdeal.τ).loc Cert.MixOutRefIdeal.main_arg12)) (m ((c.tc : Thread Cert.MixOutRefIdeal.nD Cert.MixOutRefIdeal.τ).loc Cert.MixOutRefIdeal.main_arg13)) (m ((c.tc : Thread Cert.MixOutRefIdeal.nD Cert.MixOutRefIdeal.τ).loc Cert.MixOutRefIdeal.main_arg14))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_out_fwd_finite [hPre_mix_out_fwd_finite : Cert.Pre_mix_out_fwd_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_out_fwd_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11)) (m ((c.tc : Thread Cert.MixFwdIdeal.nD Cert.MixFwdIdeal.τ).loc Cert.MixFwdIdeal.main_arg12)) (m ((c.tc : Thread Cert.MixFwdIdeal.nD Cert.MixFwdIdeal.τ).loc Cert.MixFwdIdeal.main_arg13)) (m ((c.tc : Thread Cert.MixFwdIdeal.nD Cert.MixFwdIdeal.τ).loc Cert.MixFwdIdeal.main_arg14))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_mix_out_fwd_finite [hPre_mix_out_fwd_finite : Cert.Pre_mix_out_fwd_finite.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_mix_out_fwd_finite.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10)) (m ((c.tc : Thread Cert.MixFwdRefIdeal.nD Cert.MixFwdRefIdeal.τ).loc Cert.MixFwdRefIdeal.main_arg11)) (m ((c.tc : Thread Cert.MixFwdRefIdeal.nD Cert.MixFwdRefIdeal.τ).loc Cert.MixFwdRefIdeal.main_arg12)) (m ((c.tc : Thread Cert.MixFwdRefIdeal.nD Cert.MixFwdRefIdeal.τ).loc Cert.MixFwdRefIdeal.main_arg13)) (m ((c.tc : Thread Cert.MixFwdRefIdeal.nD Cert.MixFwdRefIdeal.τ).loc Cert.MixFwdRefIdeal.main_arg14))) = (fun _ => 1#1)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBIdeal_pre_ffn_b_finite [hFfnBIdeal : Cert.FfnBIdeal.Facts] [hPre_ffn_b_finite : Cert.Pre_ffn_b_finite.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_ffn_b_finite m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6))
      ∧ r.2.sem = fun _ => 0)

def quiescent_FfnBRefIdeal_pre_ffn_b_finite [hFfnBRefIdeal : Cert.FfnBRefIdeal.Facts] [hPre_ffn_b_finite : Cert.Pre_ffn_b_finite.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal_ffn_b_finite m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5)
      ∧ r.2.mem ((c.tc : Thread Cert.FfnA.nD Cert.FfnA.τ).loc Cert.FfnA.main_arg6) = m ((c.tc : Thread Cert.FfnA.nD Cert.FfnA.τ).loc Cert.FfnA.main_arg6))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6))
      ∧ r.2.sem = fun _ => 0)

def quiescent_FfnAIdeal_pre_ffn_a_finite [hFfnAIdeal : Cert.FfnAIdeal.Facts] [hPre_ffn_a_finite : Cert.Pre_ffn_a_finite.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_ffn_a_finite m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6))
      ∧ r.2.sem = fun _ => 0)

def quiescent_FfnARefIdeal_pre_ffn_a_finite [hFfnARefIdeal : Cert.FfnARefIdeal.Facts] [hPre_ffn_a_finite : Cert.Pre_ffn_a_finite.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal_ffn_a_finite m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10)
      ∧ r.2.mem ((c.tc : Thread Cert.MixIn.nD Cert.MixIn.τ).loc Cert.MixIn.main_arg11) = m ((c.tc : Thread Cert.MixIn.nD Cert.MixIn.τ).loc Cert.MixIn.main_arg11)
      ∧ r.2.mem ((c.tc : Thread Cert.MixIn.nD Cert.MixIn.τ).loc Cert.MixIn.main_arg12) = m ((c.tc : Thread Cert.MixIn.nD Cert.MixIn.τ).loc Cert.MixIn.main_arg12)
      ∧ r.2.mem ((c.tc : Thread Cert.MixIn.nD Cert.MixIn.τ).loc Cert.MixIn.main_arg13) = m ((c.tc : Thread Cert.MixIn.nD Cert.MixIn.τ).loc Cert.MixIn.main_arg13))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11)
      ∧ r.2.mem ((c.tc : Thread Cert.MixInIdeal.nD Cert.MixInIdeal.τ).loc Cert.MixInIdeal.main_arg12) = m ((c.tc : Thread Cert.MixInIdeal.nD Cert.MixInIdeal.τ).loc Cert.MixInIdeal.main_arg12)
      ∧ r.2.mem ((c.tc : Thread Cert.MixInIdeal.nD Cert.MixInIdeal.τ).loc Cert.MixInIdeal.main_arg13) = m ((c.tc : Thread Cert.MixInIdeal.nD Cert.MixInIdeal.τ).loc Cert.MixInIdeal.main_arg13))
      ∧ r.2.sem = fun _ => 0)

def quiescent_MixInIdeal_pre_mix_in_finite [hMixInIdeal : Cert.MixInIdeal.Facts] [hPre_mix_in_finite : Cert.Pre_mix_in_finite.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_mix_in_finite m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11)
      ∧ r.2.mem ((c.tc : Thread Cert.MixInIdeal.nD Cert.MixInIdeal.τ).loc Cert.MixInIdeal.main_arg12) = m ((c.tc : Thread Cert.MixInIdeal.nD Cert.MixInIdeal.τ).loc Cert.MixInIdeal.main_arg12)
      ∧ r.2.mem ((c.tc : Thread Cert.MixInIdeal.nD Cert.MixInIdeal.τ).loc Cert.MixInIdeal.main_arg13) = m ((c.tc : Thread Cert.MixInIdeal.nD Cert.MixInIdeal.τ).loc Cert.MixInIdeal.main_arg13))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10)
      ∧ r.2.mem ((c.tc : Thread Cert.MixInRefIdeal.nD Cert.MixInRefIdeal.τ).loc Cert.MixInRefIdeal.main_arg11) = m ((c.tc : Thread Cert.MixInRefIdeal.nD Cert.MixInRefIdeal.τ).loc Cert.MixInRefIdeal.main_arg11)
      ∧ r.2.mem ((c.tc : Thread Cert.MixInRefIdeal.nD Cert.MixInRefIdeal.τ).loc Cert.MixInRefIdeal.main_arg12) = m ((c.tc : Thread Cert.MixInRefIdeal.nD Cert.MixInRefIdeal.τ).loc Cert.MixInRefIdeal.main_arg12)
      ∧ r.2.mem ((c.tc : Thread Cert.MixInRefIdeal.nD Cert.MixInRefIdeal.τ).loc Cert.MixInRefIdeal.main_arg13) = m ((c.tc : Thread Cert.MixInRefIdeal.nD Cert.MixInRefIdeal.τ).loc Cert.MixInRefIdeal.main_arg13))
      ∧ r.2.sem = fun _ => 0)

def quiescent_MixInRefIdeal_pre_mix_in_finite [hMixInRefIdeal : Cert.MixInRefIdeal.Facts] [hPre_mix_in_finite : Cert.Pre_mix_in_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mix_in_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10)
      ∧ r.2.mem ((c.tc : Thread Cert.MixInRefIdeal.nD Cert.MixInRefIdeal.τ).loc Cert.MixInRefIdeal.main_arg11) = m ((c.tc : Thread Cert.MixInRefIdeal.nD Cert.MixInRefIdeal.τ).loc Cert.MixInRefIdeal.main_arg11)
      ∧ r.2.mem ((c.tc : Thread Cert.MixInRefIdeal.nD Cert.MixInRefIdeal.τ).loc Cert.MixInRefIdeal.main_arg12) = m ((c.tc : Thread Cert.MixInRefIdeal.nD Cert.MixInRefIdeal.τ).loc Cert.MixInRefIdeal.main_arg12)
      ∧ r.2.mem ((c.tc : Thread Cert.MixInRefIdeal.nD Cert.MixInRefIdeal.τ).loc Cert.MixInRefIdeal.main_arg13) = m ((c.tc : Thread Cert.MixInRefIdeal.nD Cert.MixInRefIdeal.τ).loc Cert.MixInRefIdeal.main_arg13))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11)
      ∧ r.2.mem ((c.tc : Thread Cert.MixOut.nD Cert.MixOut.τ).loc Cert.MixOut.main_arg12) = m ((c.tc : Thread Cert.MixOut.nD Cert.MixOut.τ).loc Cert.MixOut.main_arg12)
      ∧ r.2.mem ((c.tc : Thread Cert.MixOut.nD Cert.MixOut.τ).loc Cert.MixOut.main_arg13) = m ((c.tc : Thread Cert.MixOut.nD Cert.MixOut.τ).loc Cert.MixOut.main_arg13)
      ∧ r.2.mem ((c.tc : Thread Cert.MixOut.nD Cert.MixOut.τ).loc Cert.MixOut.main_arg14) = m ((c.tc : Thread Cert.MixOut.nD Cert.MixOut.τ).loc Cert.MixOut.main_arg14))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13)
      ∧ r.2.mem ((c.tc : Thread Cert.MixOutIdeal.nD Cert.MixOutIdeal.τ).loc Cert.MixOutIdeal.main_arg14) = m ((c.tc : Thread Cert.MixOutIdeal.nD Cert.MixOutIdeal.τ).loc Cert.MixOutIdeal.main_arg14))
      ∧ r.2.sem = fun _ => 0)

def quiescent_MixOutIdeal_pre_mix_out_finite [hMixOutIdeal : Cert.MixOutIdeal.Facts] [hPre_mix_out_finite : Cert.Pre_mix_out_finite.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_mix_out_finite m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
      ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
      ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13)
      ∧ r.2.mem ((c.tc : Thread Cert.MixOutIdeal.nD Cert.MixOutIdeal.τ).loc Cert.MixOutIdeal.main_arg14) = m ((c.tc : Thread Cert.MixOutIdeal.nD Cert.MixOutIdeal.τ).loc Cert.MixOutIdeal.main_arg14))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13)
      ∧ r.2.mem ((c.tc : Thread Cert.MixOutRefIdeal.nD Cert.MixOutRefIdeal.τ).loc Cert.MixOutRefIdeal.main_arg14) = m ((c.tc : Thread Cert.MixOutRefIdeal.nD Cert.MixOutRefIdeal.τ).loc Cert.MixOutRefIdeal.main_arg14))
      ∧ r.2.sem = fun _ => 0)

def quiescent_MixOutRefIdeal_pre_mix_out_finite [hMixOutRefIdeal : Cert.MixOutRefIdeal.Facts] [hPre_mix_out_finite : Cert.Pre_mix_out_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mix_out_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8)
      ∧ r.2.mem ((c.tc : Thread Cert.MixOutRefIdeal.nD Cert.MixOutRefIdeal.τ).loc Cert.MixOutRefIdeal.main_arg9) = m ((c.tc : Thread Cert.MixOutRefIdeal.nD Cert.MixOutRefIdeal.τ).loc Cert.MixOutRefIdeal.main_arg9)
      ∧ r.2.mem ((c.tc : Thread Cert.MixOutRefIdeal.nD Cert.MixOutRefIdeal.τ).loc Cert.MixOutRefIdeal.main_arg10) = m ((c.tc : Thread Cert.MixOutRefIdeal.nD Cert.MixOutRefIdeal.τ).loc Cert.MixOutRefIdeal.main_arg10)
      ∧ r.2.mem ((c.tc : Thread Cert.MixOutRefIdeal.nD Cert.MixOutRefIdeal.τ).loc Cert.MixOutRefIdeal.main_arg11) = m ((c.tc : Thread Cert.MixOutRefIdeal.nD Cert.MixOutRefIdeal.τ).loc Cert.MixOutRefIdeal.main_arg11)
      ∧ r.2.mem ((c.tc : Thread Cert.MixOutRefIdeal.nD Cert.MixOutRefIdeal.τ).loc Cert.MixOutRefIdeal.main_arg12) = m ((c.tc : Thread Cert.MixOutRefIdeal.nD Cert.MixOutRefIdeal.τ).loc Cert.MixOutRefIdeal.main_arg12)
      ∧ r.2.mem ((c.tc : Thread Cert.MixOutRefIdeal.nD Cert.MixOutRefIdeal.τ).loc Cert.MixOutRefIdeal.main_arg13) = m ((c.tc : Thread Cert.MixOutRefIdeal.nD Cert.MixOutRefIdeal.τ).loc Cert.MixOutRefIdeal.main_arg13)
      ∧ r.2.mem ((c.tc : Thread Cert.MixOutRefIdeal.nD Cert.MixOutRefIdeal.τ).loc Cert.MixOutRefIdeal.main_arg14) = m ((c.tc : Thread Cert.MixOutRefIdeal.nD Cert.MixOutRefIdeal.τ).loc Cert.MixOutRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12)
      ∧ r.2.mem ((c.tc : Thread Cert.MixFwd.nD Cert.MixFwd.τ).loc Cert.MixFwd.main_arg13) = m ((c.tc : Thread Cert.MixFwd.nD Cert.MixFwd.τ).loc Cert.MixFwd.main_arg13)
      ∧ r.2.mem ((c.tc : Thread Cert.MixFwd.nD Cert.MixFwd.τ).loc Cert.MixFwd.main_arg14) = m ((c.tc : Thread Cert.MixFwd.nD Cert.MixFwd.τ).loc Cert.MixFwd.main_arg14))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ r.2.sem = fun _ => 0)

def quiescent_MixFwdIdeal_pre_mix_out_fwd_finite [hMixFwdIdeal : Cert.MixFwdIdeal.Facts] [hPre_mix_out_fwd_finite : Cert.Pre_mix_out_fwd_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_out_fwd_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
      ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
      ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14))
      ∧ r.2.sem = fun _ => 0)

def quiescent_MixFwdRefIdeal_pre_mix_out_fwd_finite [hMixFwdRefIdeal : Cert.MixFwdRefIdeal.Facts] [hPre_mix_out_fwd_finite : Cert.Pre_mix_out_fwd_finite.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_mix_out_fwd_finite m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12)
      ∧ r.2.mem ((c.tc : Thread Cert.MixFwdRefIdeal.nD Cert.MixFwdRefIdeal.τ).loc Cert.MixFwdRefIdeal.main_arg13) = m ((c.tc : Thread Cert.MixFwdRefIdeal.nD Cert.MixFwdRefIdeal.τ).loc Cert.MixFwdRefIdeal.main_arg13)
      ∧ r.2.mem ((c.tc : Thread Cert.MixFwdRefIdeal.nD Cert.MixFwdRefIdeal.τ).loc Cert.MixFwdRefIdeal.main_arg14) = m ((c.tc : Thread Cert.MixFwdRefIdeal.nD Cert.MixFwdRefIdeal.τ).loc Cert.MixFwdRefIdeal.main_arg14))
      ∧ r.2.sem = fun _ => 0)

def preserves_LossHead_LossHeadIdeal : Prop :=
  True

def algebraic_LossHeadIdeal_LossRefIdeal [hLossHeadIdeal : Cert.LossHeadIdeal.Facts] [hLossRefIdeal : Cert.LossRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v6)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v6) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v8) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_FfnB_FfnBIdeal : Prop :=
  True

def algebraic_FfnBIdeal_FfnBRefIdeal_pre_ffn_b_finite [hFfnBIdeal : Cert.FfnBIdeal.Facts] [hFfnBRefIdeal : Cert.FfnBRefIdeal.Facts] [hPre_ffn_b_finite : Cert.Pre_ffn_b_finite.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal_ffn_b_finite m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)
      ∧ m' ((c.tc : Thread Cert.FfnBRefIdeal.nD Cert.FfnBRefIdeal.τ).loc Cert.FfnBRefIdeal.main_arg6) = m ((c.tc : Thread Cert.FfnBIdeal.nD Cert.FfnBIdeal.τ).loc Cert.FfnBIdeal.main_arg6)) →
    ∃ (v0 : (c : Dev Cert.FfnBIdeal.nD) → Buf (Elt Ideal) ((c.tc : Thread Cert.FfnBIdeal.nD Cert.FfnBIdeal.τ).loc Cert.FfnBIdeal.main_v15_0)) (v1 : (c : Dev Cert.FfnBIdeal.nD) → Buf (Elt Ideal) ((c.tc : Thread Cert.FfnBIdeal.nD Cert.FfnBIdeal.τ).loc Cert.FfnBIdeal.main_v15_1)) (v2 : (c : Dev Cert.FfnBIdeal.nD) → Buf (Elt Ideal) ((c.tc : Thread Cert.FfnBIdeal.nD Cert.FfnBIdeal.τ).loc Cert.FfnBIdeal.main_v15_2)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v15_0) = v0 c
          ∧ r.2.mem ((c.tc : Thread Cert.FfnBIdeal.nD Cert.FfnBIdeal.τ).loc Cert.FfnBIdeal.main_v15_1) = v1 c
          ∧ r.2.mem ((c.tc : Thread Cert.FfnBIdeal.nD Cert.FfnBIdeal.τ).loc Cert.FfnBIdeal.main_v15_2) = v2 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v43) = v0 c
          ∧ r.2.mem ((c.tc : Thread Cert.FfnBRefIdeal.nD Cert.FfnBRefIdeal.τ).loc Cert.FfnBRefIdeal.main_v58) = v1 c
          ∧ r.2.mem ((c.tc : Thread Cert.FfnBRefIdeal.nD Cert.FfnBRefIdeal.τ).loc Cert.FfnBRefIdeal.main_v59) = v2 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5)
          ∧ r.2.mem ((c.tc : Thread Cert.FfnBRefIdeal.nD Cert.FfnBRefIdeal.τ).loc Cert.FfnBRefIdeal.main_arg6) = m' ((c.tc : Thread Cert.FfnBRefIdeal.nD Cert.FfnBRefIdeal.τ).loc Cert.FfnBRefIdeal.main_arg6))

def preserves_FfnA_FfnAIdeal : Prop :=
  True

def algebraic_FfnAIdeal_FfnARefIdeal_pre_ffn_a_finite [hFfnAIdeal : Cert.FfnAIdeal.Facts] [hFfnARefIdeal : Cert.FfnARefIdeal.Facts] [hPre_ffn_a_finite : Cert.Pre_ffn_a_finite.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal_ffn_a_finite m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)
      ∧ m' ((c.tc : Thread Cert.FfnARefIdeal.nD Cert.FfnARefIdeal.τ).loc Cert.FfnARefIdeal.main_arg6) = m ((c.tc : Thread Cert.FfnAIdeal.nD Cert.FfnAIdeal.τ).loc Cert.FfnAIdeal.main_arg6)) →
    ∃ (v0 : (c : Dev Cert.FfnAIdeal.nD) → Buf (Elt Ideal) ((c.tc : Thread Cert.FfnAIdeal.nD Cert.FfnAIdeal.τ).loc Cert.FfnAIdeal.main_v45_0)) (v1 : (c : Dev Cert.FfnAIdeal.nD) → Buf (Elt Ideal) ((c.tc : Thread Cert.FfnAIdeal.nD Cert.FfnAIdeal.τ).loc Cert.FfnAIdeal.main_v45_1)) (v2 : (c : Dev Cert.FfnAIdeal.nD) → Buf (Elt Ideal) ((c.tc : Thread Cert.FfnAIdeal.nD Cert.FfnAIdeal.τ).loc Cert.FfnAIdeal.main_v45_2)) (v3 : (c : Dev Cert.FfnAIdeal.nD) → Buf (Elt Ideal) ((c.tc : Thread Cert.FfnAIdeal.nD Cert.FfnAIdeal.τ).loc Cert.FfnAIdeal.main_v45_3)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v45_0) = v0 c
          ∧ r.2.mem ((c.tc : Thread Cert.FfnAIdeal.nD Cert.FfnAIdeal.τ).loc Cert.FfnAIdeal.main_v45_1) = v1 c
          ∧ r.2.mem ((c.tc : Thread Cert.FfnAIdeal.nD Cert.FfnAIdeal.τ).loc Cert.FfnAIdeal.main_v45_2) = v2 c
          ∧ r.2.mem ((c.tc : Thread Cert.FfnAIdeal.nD Cert.FfnAIdeal.τ).loc Cert.FfnAIdeal.main_v45_3) = v3 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
          ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v68) = v0 c
          ∧ r.2.mem ((c.tc : Thread Cert.FfnARefIdeal.nD Cert.FfnARefIdeal.τ).loc Cert.FfnARefIdeal.main_v71) = v1 c
          ∧ r.2.mem ((c.tc : Thread Cert.FfnARefIdeal.nD Cert.FfnARefIdeal.τ).loc Cert.FfnARefIdeal.main_v72) = v2 c
          ∧ r.2.mem ((c.tc : Thread Cert.FfnARefIdeal.nD Cert.FfnARefIdeal.τ).loc Cert.FfnARefIdeal.main_v73) = v3 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5)
          ∧ r.2.mem ((c.tc : Thread Cert.FfnARefIdeal.nD Cert.FfnARefIdeal.τ).loc Cert.FfnARefIdeal.main_arg6) = m' ((c.tc : Thread Cert.FfnARefIdeal.nD Cert.FfnARefIdeal.τ).loc Cert.FfnARefIdeal.main_arg6))

def preserves_MixIn_MixInIdeal : Prop :=
  True

def algebraic_MixInIdeal_MixInRefIdeal_pre_mix_in_finite [hMixInIdeal : Cert.MixInIdeal.Facts] [hMixInRefIdeal : Cert.MixInRefIdeal.Facts] [hPre_mix_in_finite : Cert.Pre_mix_in_finite.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_mix_in_finite m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)
      ∧ m' ((c.tc : Thread Cert.MixInRefIdeal.nD Cert.MixInRefIdeal.τ).loc Cert.MixInRefIdeal.main_arg8) = m ((c.tc : Thread Cert.MixInIdeal.nD Cert.MixInIdeal.τ).loc Cert.MixInIdeal.main_arg8)
      ∧ m' ((c.tc : Thread Cert.MixInRefIdeal.nD Cert.MixInRefIdeal.τ).loc Cert.MixInRefIdeal.main_arg9) = m ((c.tc : Thread Cert.MixInIdeal.nD Cert.MixInIdeal.τ).loc Cert.MixInIdeal.main_arg9)
      ∧ m' ((c.tc : Thread Cert.MixInRefIdeal.nD Cert.MixInRefIdeal.τ).loc Cert.MixInRefIdeal.main_arg10) = m ((c.tc : Thread Cert.MixInIdeal.nD Cert.MixInIdeal.τ).loc Cert.MixInIdeal.main_arg10)
      ∧ m' ((c.tc : Thread Cert.MixInRefIdeal.nD Cert.MixInRefIdeal.τ).loc Cert.MixInRefIdeal.main_arg11) = m ((c.tc : Thread Cert.MixInIdeal.nD Cert.MixInIdeal.τ).loc Cert.MixInIdeal.main_arg11)
      ∧ m' ((c.tc : Thread Cert.MixInRefIdeal.nD Cert.MixInRefIdeal.τ).loc Cert.MixInRefIdeal.main_arg12) = m ((c.tc : Thread Cert.MixInIdeal.nD Cert.MixInIdeal.τ).loc Cert.MixInIdeal.main_arg12)
      ∧ m' ((c.tc : Thread Cert.MixInRefIdeal.nD Cert.MixInRefIdeal.τ).loc Cert.MixInRefIdeal.main_arg13) = m ((c.tc : Thread Cert.MixInIdeal.nD Cert.MixInIdeal.τ).loc Cert.MixInIdeal.main_arg13)) →
    ∃ (v0 : (c : Dev Cert.MixInIdeal.nD) → Buf (Elt Ideal) ((c.tc : Thread Cert.MixInIdeal.nD Cert.MixInIdeal.τ).loc Cert.MixInIdeal.main_v26_0)) (v1 : (c : Dev Cert.MixInIdeal.nD) → Buf (Elt Ideal) ((c.tc : Thread Cert.MixInIdeal.nD Cert.MixInIdeal.τ).loc Cert.MixInIdeal.main_v26_1)) (v2 : (c : Dev Cert.MixInIdeal.nD) → Buf (Elt Ideal) ((c.tc : Thread Cert.MixInIdeal.nD Cert.MixInIdeal.τ).loc Cert.MixInIdeal.main_v26_2)) (v3 : (c : Dev Cert.MixInIdeal.nD) → Buf (Elt Ideal) ((c.tc : Thread Cert.MixInIdeal.nD Cert.MixInIdeal.τ).loc Cert.MixInIdeal.main_v26_3)) (v4 : (c : Dev Cert.MixInIdeal.nD) → Buf (Elt Ideal) ((c.tc : Thread Cert.MixInIdeal.nD Cert.MixInIdeal.τ).loc Cert.MixInIdeal.main_v26_4)) (v5 : (c : Dev Cert.MixInIdeal.nD) → Buf (Elt Ideal) ((c.tc : Thread Cert.MixInIdeal.nD Cert.MixInIdeal.τ).loc Cert.MixInIdeal.main_v26_5)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v26_0) = v0 c
          ∧ r.2.mem ((c.tc : Thread Cert.MixInIdeal.nD Cert.MixInIdeal.τ).loc Cert.MixInIdeal.main_v26_1) = v1 c
          ∧ r.2.mem ((c.tc : Thread Cert.MixInIdeal.nD Cert.MixInIdeal.τ).loc Cert.MixInIdeal.main_v26_2) = v2 c
          ∧ r.2.mem ((c.tc : Thread Cert.MixInIdeal.nD Cert.MixInIdeal.τ).loc Cert.MixInIdeal.main_v26_3) = v3 c
          ∧ r.2.mem ((c.tc : Thread Cert.MixInIdeal.nD Cert.MixInIdeal.τ).loc Cert.MixInIdeal.main_v26_4) = v4 c
          ∧ r.2.mem ((c.tc : Thread Cert.MixInIdeal.nD Cert.MixInIdeal.τ).loc Cert.MixInIdeal.main_v26_5) = v5 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
          ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11)
          ∧ r.2.mem ((c.tc : Thread Cert.MixInIdeal.nD Cert.MixInIdeal.τ).loc Cert.MixInIdeal.main_arg12) = m ((c.tc : Thread Cert.MixInIdeal.nD Cert.MixInIdeal.τ).loc Cert.MixInIdeal.main_arg12)
          ∧ r.2.mem ((c.tc : Thread Cert.MixInIdeal.nD Cert.MixInIdeal.τ).loc Cert.MixInIdeal.main_arg13) = m ((c.tc : Thread Cert.MixInIdeal.nD Cert.MixInIdeal.τ).loc Cert.MixInIdeal.main_arg13))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v203) = v0 c
          ∧ r.2.mem ((c.tc : Thread Cert.MixInRefIdeal.nD Cert.MixInRefIdeal.τ).loc Cert.MixInRefIdeal.main_v204) = v1 c
          ∧ r.2.mem ((c.tc : Thread Cert.MixInRefIdeal.nD Cert.MixInRefIdeal.τ).loc Cert.MixInRefIdeal.main_v205) = v2 c
          ∧ r.2.mem ((c.tc : Thread Cert.MixInRefIdeal.nD Cert.MixInRefIdeal.τ).loc Cert.MixInRefIdeal.main_v174) = v3 c
          ∧ r.2.mem ((c.tc : Thread Cert.MixInRefIdeal.nD Cert.MixInRefIdeal.τ).loc Cert.MixInRefIdeal.main_v206) = v4 c
          ∧ r.2.mem ((c.tc : Thread Cert.MixInRefIdeal.nD Cert.MixInRefIdeal.τ).loc Cert.MixInRefIdeal.main_v123) = v5 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7)
          ∧ r.2.mem ((c.tc : Thread Cert.MixInRefIdeal.nD Cert.MixInRefIdeal.τ).loc Cert.MixInRefIdeal.main_arg8) = m' ((c.tc : Thread Cert.MixInRefIdeal.nD Cert.MixInRefIdeal.τ).loc Cert.MixInRefIdeal.main_arg8)
          ∧ r.2.mem ((c.tc : Thread Cert.MixInRefIdeal.nD Cert.MixInRefIdeal.τ).loc Cert.MixInRefIdeal.main_arg9) = m' ((c.tc : Thread Cert.MixInRefIdeal.nD Cert.MixInRefIdeal.τ).loc Cert.MixInRefIdeal.main_arg9)
          ∧ r.2.mem ((c.tc : Thread Cert.MixInRefIdeal.nD Cert.MixInRefIdeal.τ).loc Cert.MixInRefIdeal.main_arg10) = m' ((c.tc : Thread Cert.MixInRefIdeal.nD Cert.MixInRefIdeal.τ).loc Cert.MixInRefIdeal.main_arg10)
          ∧ r.2.mem ((c.tc : Thread Cert.MixInRefIdeal.nD Cert.MixInRefIdeal.τ).loc Cert.MixInRefIdeal.main_arg11) = m' ((c.tc : Thread Cert.MixInRefIdeal.nD Cert.MixInRefIdeal.τ).loc Cert.MixInRefIdeal.main_arg11)
          ∧ r.2.mem ((c.tc : Thread Cert.MixInRefIdeal.nD Cert.MixInRefIdeal.τ).loc Cert.MixInRefIdeal.main_arg12) = m' ((c.tc : Thread Cert.MixInRefIdeal.nD Cert.MixInRefIdeal.τ).loc Cert.MixInRefIdeal.main_arg12)
          ∧ r.2.mem ((c.tc : Thread Cert.MixInRefIdeal.nD Cert.MixInRefIdeal.τ).loc Cert.MixInRefIdeal.main_arg13) = m' ((c.tc : Thread Cert.MixInRefIdeal.nD Cert.MixInRefIdeal.τ).loc Cert.MixInRefIdeal.main_arg13))

def preserves_MixOut_MixOutIdeal : Prop :=
  IdealRules.named_const.Statement Cert.MixOutIdeal.κ "gelu_c" .f32 0x3D372713#32 ((8943 / 200000 : ℝ) : EReal)
  ∧ IdealRules.named_const.Statement Cert.MixOutIdeal.κ "gelu_3c" .f32 0x3E095D4F#32 ((26829 / 200000 : ℝ) : EReal)

def algebraic_MixOutIdeal_MixOutRefIdeal_pre_mix_out_finite [hMixOutIdeal : Cert.MixOutIdeal.Facts] [hMixOutRefIdeal : Cert.MixOutRefIdeal.Facts] [hPre_mix_out_finite : Cert.Pre_mix_out_finite.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_mix_out_finite m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)
      ∧ m' ((c.tc : Thread Cert.MixOutRefIdeal.nD Cert.MixOutRefIdeal.τ).loc Cert.MixOutRefIdeal.main_arg9) = m ((c.tc : Thread Cert.MixOutIdeal.nD Cert.MixOutIdeal.τ).loc Cert.MixOutIdeal.main_arg9)
      ∧ m' ((c.tc : Thread Cert.MixOutRefIdeal.nD Cert.MixOutRefIdeal.τ).loc Cert.MixOutRefIdeal.main_arg10) = m ((c.tc : Thread Cert.MixOutIdeal.nD Cert.MixOutIdeal.τ).loc Cert.MixOutIdeal.main_arg10)
      ∧ m' ((c.tc : Thread Cert.MixOutRefIdeal.nD Cert.MixOutRefIdeal.τ).loc Cert.MixOutRefIdeal.main_arg11) = m ((c.tc : Thread Cert.MixOutIdeal.nD Cert.MixOutIdeal.τ).loc Cert.MixOutIdeal.main_arg11)
      ∧ m' ((c.tc : Thread Cert.MixOutRefIdeal.nD Cert.MixOutRefIdeal.τ).loc Cert.MixOutRefIdeal.main_arg12) = m ((c.tc : Thread Cert.MixOutIdeal.nD Cert.MixOutIdeal.τ).loc Cert.MixOutIdeal.main_arg12)
      ∧ m' ((c.tc : Thread Cert.MixOutRefIdeal.nD Cert.MixOutRefIdeal.τ).loc Cert.MixOutRefIdeal.main_arg13) = m ((c.tc : Thread Cert.MixOutIdeal.nD Cert.MixOutIdeal.τ).loc Cert.MixOutIdeal.main_arg13)
      ∧ m' ((c.tc : Thread Cert.MixOutRefIdeal.nD Cert.MixOutRefIdeal.τ).loc Cert.MixOutRefIdeal.main_arg14) = m ((c.tc : Thread Cert.MixOutIdeal.nD Cert.MixOutIdeal.τ).loc Cert.MixOutIdeal.main_arg14)) →
    ∃ (v0 : (c : Dev Cert.MixOutIdeal.nD) → Buf (Elt Ideal) ((c.tc : Thread Cert.MixOutIdeal.nD Cert.MixOutIdeal.τ).loc Cert.MixOutIdeal.main_v152_0)) (v1 : (c : Dev Cert.MixOutIdeal.nD) → Buf (Elt Ideal) ((c.tc : Thread Cert.MixOutIdeal.nD Cert.MixOutIdeal.τ).loc Cert.MixOutIdeal.main_v152_1)) (v2 : (c : Dev Cert.MixOutIdeal.nD) → Buf (Elt Ideal) ((c.tc : Thread Cert.MixOutIdeal.nD Cert.MixOutIdeal.τ).loc Cert.MixOutIdeal.main_v152_2)) (v3 : (c : Dev Cert.MixOutIdeal.nD) → Buf (Elt Ideal) ((c.tc : Thread Cert.MixOutIdeal.nD Cert.MixOutIdeal.τ).loc Cert.MixOutIdeal.main_v152_3)) (v4 : (c : Dev Cert.MixOutIdeal.nD) → Buf (Elt Ideal) ((c.tc : Thread Cert.MixOutIdeal.nD Cert.MixOutIdeal.τ).loc Cert.MixOutIdeal.main_v152_4)) (v5 : (c : Dev Cert.MixOutIdeal.nD) → Buf (Elt Ideal) ((c.tc : Thread Cert.MixOutIdeal.nD Cert.MixOutIdeal.τ).loc Cert.MixOutIdeal.main_v152_5)) (v6 : (c : Dev Cert.MixOutIdeal.nD) → Buf (Elt Ideal) ((c.tc : Thread Cert.MixOutIdeal.nD Cert.MixOutIdeal.τ).loc Cert.MixOutIdeal.main_v152_8)) (v7 : (c : Dev Cert.MixOutIdeal.nD) → Buf (Elt Ideal) ((c.tc : Thread Cert.MixOutIdeal.nD Cert.MixOutIdeal.τ).loc Cert.MixOutIdeal.main_v152_9)) (v8 : (c : Dev Cert.MixOutIdeal.nD) → Buf (Elt Ideal) ((c.tc : Thread Cert.MixOutIdeal.nD Cert.MixOutIdeal.τ).loc Cert.MixOutIdeal.main_v152_10)) (v9 : (c : Dev Cert.MixOutIdeal.nD) → Buf (Elt Ideal) ((c.tc : Thread Cert.MixOutIdeal.nD Cert.MixOutIdeal.τ).loc Cert.MixOutIdeal.main_v152_11)) (v10 : (c : Dev Cert.MixOutIdeal.nD) → Buf (Elt Ideal) ((c.tc : Thread Cert.MixOutIdeal.nD Cert.MixOutIdeal.τ).loc Cert.MixOutIdeal.main_v152_6)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v152_0) = v0 c
          ∧ r.2.mem ((c.tc : Thread Cert.MixOutIdeal.nD Cert.MixOutIdeal.τ).loc Cert.MixOutIdeal.main_v152_1) = v1 c
          ∧ r.2.mem ((c.tc : Thread Cert.MixOutIdeal.nD Cert.MixOutIdeal.τ).loc Cert.MixOutIdeal.main_v152_2) = v2 c
          ∧ r.2.mem ((c.tc : Thread Cert.MixOutIdeal.nD Cert.MixOutIdeal.τ).loc Cert.MixOutIdeal.main_v152_3) = v3 c
          ∧ r.2.mem ((c.tc : Thread Cert.MixOutIdeal.nD Cert.MixOutIdeal.τ).loc Cert.MixOutIdeal.main_v152_4) = v4 c
          ∧ r.2.mem ((c.tc : Thread Cert.MixOutIdeal.nD Cert.MixOutIdeal.τ).loc Cert.MixOutIdeal.main_v152_5) = v5 c
          ∧ r.2.mem ((c.tc : Thread Cert.MixOutIdeal.nD Cert.MixOutIdeal.τ).loc Cert.MixOutIdeal.main_v152_8) = v6 c
          ∧ r.2.mem ((c.tc : Thread Cert.MixOutIdeal.nD Cert.MixOutIdeal.τ).loc Cert.MixOutIdeal.main_v152_9) = v7 c
          ∧ r.2.mem ((c.tc : Thread Cert.MixOutIdeal.nD Cert.MixOutIdeal.τ).loc Cert.MixOutIdeal.main_v152_10) = v8 c
          ∧ r.2.mem ((c.tc : Thread Cert.MixOutIdeal.nD Cert.MixOutIdeal.τ).loc Cert.MixOutIdeal.main_v152_11) = v9 c
          ∧ r.2.mem ((c.tc : Thread Cert.MixOutIdeal.nD Cert.MixOutIdeal.τ).loc Cert.MixOutIdeal.main_v152_6) = v10 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11)
          ∧ r.2.mem ((c.tc : Thread Cert.MixOutIdeal.nD Cert.MixOutIdeal.τ).loc Cert.MixOutIdeal.main_arg12) = m ((c.tc : Thread Cert.MixOutIdeal.nD Cert.MixOutIdeal.τ).loc Cert.MixOutIdeal.main_arg12)
          ∧ r.2.mem ((c.tc : Thread Cert.MixOutIdeal.nD Cert.MixOutIdeal.τ).loc Cert.MixOutIdeal.main_arg13) = m ((c.tc : Thread Cert.MixOutIdeal.nD Cert.MixOutIdeal.τ).loc Cert.MixOutIdeal.main_arg13)
          ∧ r.2.mem ((c.tc : Thread Cert.MixOutIdeal.nD Cert.MixOutIdeal.τ).loc Cert.MixOutIdeal.main_arg14) = m ((c.tc : Thread Cert.MixOutIdeal.nD Cert.MixOutIdeal.τ).loc Cert.MixOutIdeal.main_arg14))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v215) = v0 c
          ∧ r.2.mem ((c.tc : Thread Cert.MixOutRefIdeal.nD Cert.MixOutRefIdeal.τ).loc Cert.MixOutRefIdeal.main_v216) = v1 c
          ∧ r.2.mem ((c.tc : Thread Cert.MixOutRefIdeal.nD Cert.MixOutRefIdeal.τ).loc Cert.MixOutRefIdeal.main_v217) = v2 c
          ∧ r.2.mem ((c.tc : Thread Cert.MixOutRefIdeal.nD Cert.MixOutRefIdeal.τ).loc Cert.MixOutRefIdeal.main_v218) = v3 c
          ∧ r.2.mem ((c.tc : Thread Cert.MixOutRefIdeal.nD Cert.MixOutRefIdeal.τ).loc Cert.MixOutRefIdeal.main_v219) = v4 c
          ∧ r.2.mem ((c.tc : Thread Cert.MixOutRefIdeal.nD Cert.MixOutRefIdeal.τ).loc Cert.MixOutRefIdeal.main_v220) = v5 c
          ∧ r.2.mem ((c.tc : Thread Cert.MixOutRefIdeal.nD Cert.MixOutRefIdeal.τ).loc Cert.MixOutRefIdeal.main_v221) = v6 c
          ∧ r.2.mem ((c.tc : Thread Cert.MixOutRefIdeal.nD Cert.MixOutRefIdeal.τ).loc Cert.MixOutRefIdeal.main_v199) = v7 c
          ∧ r.2.mem ((c.tc : Thread Cert.MixOutRefIdeal.nD Cert.MixOutRefIdeal.τ).loc Cert.MixOutRefIdeal.main_v213) = v8 c
          ∧ r.2.mem ((c.tc : Thread Cert.MixOutRefIdeal.nD Cert.MixOutRefIdeal.τ).loc Cert.MixOutRefIdeal.main_v222) = v9 c
          ∧ r.2.mem ((c.tc : Thread Cert.MixOutRefIdeal.nD Cert.MixOutRefIdeal.τ).loc Cert.MixOutRefIdeal.main_v308) = v10 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8)
          ∧ r.2.mem ((c.tc : Thread Cert.MixOutRefIdeal.nD Cert.MixOutRefIdeal.τ).loc Cert.MixOutRefIdeal.main_arg9) = m' ((c.tc : Thread Cert.MixOutRefIdeal.nD Cert.MixOutRefIdeal.τ).loc Cert.MixOutRefIdeal.main_arg9)
          ∧ r.2.mem ((c.tc : Thread Cert.MixOutRefIdeal.nD Cert.MixOutRefIdeal.τ).loc Cert.MixOutRefIdeal.main_arg10) = m' ((c.tc : Thread Cert.MixOutRefIdeal.nD Cert.MixOutRefIdeal.τ).loc Cert.MixOutRefIdeal.main_arg10)
          ∧ r.2.mem ((c.tc : Thread Cert.MixOutRefIdeal.nD Cert.MixOutRefIdeal.τ).loc Cert.MixOutRefIdeal.main_arg11) = m' ((c.tc : Thread Cert.MixOutRefIdeal.nD Cert.MixOutRefIdeal.τ).loc Cert.MixOutRefIdeal.main_arg11)
          ∧ r.2.mem ((c.tc : Thread Cert.MixOutRefIdeal.nD Cert.MixOutRefIdeal.τ).loc Cert.MixOutRefIdeal.main_arg12) = m' ((c.tc : Thread Cert.MixOutRefIdeal.nD Cert.MixOutRefIdeal.τ).loc Cert.MixOutRefIdeal.main_arg12)
          ∧ r.2.mem ((c.tc : Thread Cert.MixOutRefIdeal.nD Cert.MixOutRefIdeal.τ).loc Cert.MixOutRefIdeal.main_arg13) = m' ((c.tc : Thread Cert.MixOutRefIdeal.nD Cert.MixOutRefIdeal.τ).loc Cert.MixOutRefIdeal.main_arg13)
          ∧ r.2.mem ((c.tc : Thread Cert.MixOutRefIdeal.nD Cert.MixOutRefIdeal.τ).loc Cert.MixOutRefIdeal.main_arg14) = m' ((c.tc : Thread Cert.MixOutRefIdeal.nD Cert.MixOutRefIdeal.τ).loc Cert.MixOutRefIdeal.main_arg14))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)) (v2 : (c : Dev Cert.FfnIdeal.nD) → Buf (Elt Ideal) ((c.tc : Thread Cert.FfnIdeal.nD Cert.FfnIdeal.τ).loc Cert.FfnIdeal.main_v11_2)) (v3 : (c : Dev Cert.FfnIdeal.nD) → Buf (Elt Ideal) ((c.tc : Thread Cert.FfnIdeal.nD Cert.FfnIdeal.τ).loc Cert.FfnIdeal.main_v11_3)) (v4 : (c : Dev Cert.FfnIdeal.nD) → Buf (Elt Ideal) ((c.tc : Thread Cert.FfnIdeal.nD Cert.FfnIdeal.τ).loc Cert.FfnIdeal.main_v11_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_v11_2) = v2 c
          ∧ r.2.mem ((c.tc : Thread Cert.FfnIdeal.nD Cert.FfnIdeal.τ).loc Cert.FfnIdeal.main_v11_3) = v3 c
          ∧ r.2.mem ((c.tc : Thread Cert.FfnIdeal.nD Cert.FfnIdeal.τ).loc Cert.FfnIdeal.main_v11_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_v42) = v1 c
          ∧ r.2.mem ((c.tc : Thread Cert.FfnRefIdeal.nD Cert.FfnRefIdeal.τ).loc Cert.FfnRefIdeal.main_v45) = v2 c
          ∧ r.2.mem ((c.tc : Thread Cert.FfnRefIdeal.nD Cert.FfnRefIdeal.τ).loc Cert.FfnRefIdeal.main_v48) = v3 c
          ∧ r.2.mem ((c.tc : Thread Cert.FfnRefIdeal.nD Cert.FfnRefIdeal.τ).loc Cert.FfnRefIdeal.main_v49) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MixFwd_MixFwdIdeal : Prop :=
  True

def algebraic_MixFwdIdeal_MixFwdRefIdeal_pre_mix_out_fwd_finite [hMixFwdIdeal : Cert.MixFwdIdeal.Facts] [hMixFwdRefIdeal : Cert.MixFwdRefIdeal.Facts] [hPre_mix_out_fwd_finite : Cert.Pre_mix_out_fwd_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_mix_out_fwd_finite m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)
      ∧ m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12)
      ∧ m' ((c.tc : Thread Cert.MixFwdRefIdeal.nD Cert.MixFwdRefIdeal.τ).loc Cert.MixFwdRefIdeal.main_arg13) = m ((c.tc : Thread Cert.MixFwdIdeal.nD Cert.MixFwdIdeal.τ).loc Cert.MixFwdIdeal.main_arg13)
      ∧ m' ((c.tc : Thread Cert.MixFwdRefIdeal.nD Cert.MixFwdRefIdeal.τ).loc Cert.MixFwdRefIdeal.main_arg14) = m ((c.tc : Thread Cert.MixFwdIdeal.nD Cert.MixFwdIdeal.τ).loc Cert.MixFwdIdeal.main_arg14)) →
    ∃ (v0 : (c : Dev Cert.MixFwdIdeal.nD) → Buf (Elt Ideal) ((c.tc : Thread Cert.MixFwdIdeal.nD Cert.MixFwdIdeal.τ).loc Cert.MixFwdIdeal.main_v14_0)) (v1 : (c : Dev Cert.MixFwdIdeal.nD) → Buf (Elt Ideal) ((c.tc : Thread Cert.MixFwdIdeal.nD Cert.MixFwdIdeal.τ).loc Cert.MixFwdIdeal.main_v14_1)) (v2 : (c : Dev Cert.MixFwdIdeal.nD) → Buf (Elt Ideal) ((c.tc : Thread Cert.MixFwdIdeal.nD Cert.MixFwdIdeal.τ).loc Cert.MixFwdIdeal.main_v14_2)) (v3 : (c : Dev Cert.MixFwdIdeal.nD) → Buf (Elt Ideal) ((c.tc : Thread Cert.MixFwdIdeal.nD Cert.MixFwdIdeal.τ).loc Cert.MixFwdIdeal.main_v14_3)) (v4 : (c : Dev Cert.MixFwdIdeal.nD) → Buf (Elt Ideal) ((c.tc : Thread Cert.MixFwdIdeal.nD Cert.MixFwdIdeal.τ).loc Cert.MixFwdIdeal.main_v14_4)) (v5 : (c : Dev Cert.MixFwdIdeal.nD) → Buf (Elt Ideal) ((c.tc : Thread Cert.MixFwdIdeal.nD Cert.MixFwdIdeal.τ).loc Cert.MixFwdIdeal.main_v14_5)) (v6 : (c : Dev Cert.MixFwdIdeal.nD) → Buf (Elt Ideal) ((c.tc : Thread Cert.MixFwdIdeal.nD Cert.MixFwdIdeal.τ).loc Cert.MixFwdIdeal.main_v14_6)) (v7 : (c : Dev Cert.MixFwdIdeal.nD) → Buf (Elt Ideal) ((c.tc : Thread Cert.MixFwdIdeal.nD Cert.MixFwdIdeal.τ).loc Cert.MixFwdIdeal.main_v14_7)) (v8 : (c : Dev Cert.MixFwdIdeal.nD) → Buf (Elt Ideal) ((c.tc : Thread Cert.MixFwdIdeal.nD Cert.MixFwdIdeal.τ).loc Cert.MixFwdIdeal.main_v14_8)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v14_0) = v0 c
          ∧ r.2.mem ((c.tc : Thread Cert.MixFwdIdeal.nD Cert.MixFwdIdeal.τ).loc Cert.MixFwdIdeal.main_v14_1) = v1 c
          ∧ r.2.mem ((c.tc : Thread Cert.MixFwdIdeal.nD Cert.MixFwdIdeal.τ).loc Cert.MixFwdIdeal.main_v14_2) = v2 c
          ∧ r.2.mem ((c.tc : Thread Cert.MixFwdIdeal.nD Cert.MixFwdIdeal.τ).loc Cert.MixFwdIdeal.main_v14_3) = v3 c
          ∧ r.2.mem ((c.tc : Thread Cert.MixFwdIdeal.nD Cert.MixFwdIdeal.τ).loc Cert.MixFwdIdeal.main_v14_4) = v4 c
          ∧ r.2.mem ((c.tc : Thread Cert.MixFwdIdeal.nD Cert.MixFwdIdeal.τ).loc Cert.MixFwdIdeal.main_v14_5) = v5 c
          ∧ r.2.mem ((c.tc : Thread Cert.MixFwdIdeal.nD Cert.MixFwdIdeal.τ).loc Cert.MixFwdIdeal.main_v14_6) = v6 c
          ∧ r.2.mem ((c.tc : Thread Cert.MixFwdIdeal.nD Cert.MixFwdIdeal.τ).loc Cert.MixFwdIdeal.main_v14_7) = v7 c
          ∧ r.2.mem ((c.tc : Thread Cert.MixFwdIdeal.nD Cert.MixFwdIdeal.τ).loc Cert.MixFwdIdeal.main_v14_8) = v8 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12)
          ∧ r.2.mem ((c.tc : Thread Cert.MixFwdIdeal.nD Cert.MixFwdIdeal.τ).loc Cert.MixFwdIdeal.main_arg13) = m ((c.tc : Thread Cert.MixFwdIdeal.nD Cert.MixFwdIdeal.τ).loc Cert.MixFwdIdeal.main_arg13)
          ∧ r.2.mem ((c.tc : Thread Cert.MixFwdIdeal.nD Cert.MixFwdIdeal.τ).loc Cert.MixFwdIdeal.main_arg14) = m ((c.tc : Thread Cert.MixFwdIdeal.nD Cert.MixFwdIdeal.τ).loc Cert.MixFwdIdeal.main_arg14))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v144) = v0 c
          ∧ r.2.mem ((c.tc : Thread Cert.MixFwdRefIdeal.nD Cert.MixFwdRefIdeal.τ).loc Cert.MixFwdRefIdeal.main_v145) = v1 c
          ∧ r.2.mem ((c.tc : Thread Cert.MixFwdRefIdeal.nD Cert.MixFwdRefIdeal.τ).loc Cert.MixFwdRefIdeal.main_v146) = v2 c
          ∧ r.2.mem ((c.tc : Thread Cert.MixFwdRefIdeal.nD Cert.MixFwdRefIdeal.τ).loc Cert.MixFwdRefIdeal.main_v147) = v3 c
          ∧ r.2.mem ((c.tc : Thread Cert.MixFwdRefIdeal.nD Cert.MixFwdRefIdeal.τ).loc Cert.MixFwdRefIdeal.main_v148) = v4 c
          ∧ r.2.mem ((c.tc : Thread Cert.MixFwdRefIdeal.nD Cert.MixFwdRefIdeal.τ).loc Cert.MixFwdRefIdeal.main_v149) = v5 c
          ∧ r.2.mem ((c.tc : Thread Cert.MixFwdRefIdeal.nD Cert.MixFwdRefIdeal.τ).loc Cert.MixFwdRefIdeal.main_v150) = v6 c
          ∧ r.2.mem ((c.tc : Thread Cert.MixFwdRefIdeal.nD Cert.MixFwdRefIdeal.τ).loc Cert.MixFwdRefIdeal.main_v151) = v7 c
          ∧ r.2.mem ((c.tc : Thread Cert.MixFwdRefIdeal.nD Cert.MixFwdRefIdeal.τ).loc Cert.MixFwdRefIdeal.main_v152) = v8 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11)
          ∧ r.2.mem ((c.tc : Thread Cert.MixFwdRefIdeal.nD Cert.MixFwdRefIdeal.τ).loc Cert.MixFwdRefIdeal.main_arg12) = m' ((c.tc : Thread Cert.MixFwdRefIdeal.nD Cert.MixFwdRefIdeal.τ).loc Cert.MixFwdRefIdeal.main_arg12)
          ∧ r.2.mem ((c.tc : Thread Cert.MixFwdRefIdeal.nD Cert.MixFwdRefIdeal.τ).loc Cert.MixFwdRefIdeal.main_arg13) = m' ((c.tc : Thread Cert.MixFwdRefIdeal.nD Cert.MixFwdRefIdeal.τ).loc Cert.MixFwdRefIdeal.main_arg13)
          ∧ r.2.mem ((c.tc : Thread Cert.MixFwdRefIdeal.nD Cert.MixFwdRefIdeal.τ).loc Cert.MixFwdRefIdeal.main_arg14) = m' ((c.tc : Thread Cert.MixFwdRefIdeal.nD Cert.MixFwdRefIdeal.τ).loc Cert.MixFwdRefIdeal.main_arg14))

def Claim : Prop :=
  ∃ (hLossHead : Cert.LossHead.Facts) (hLossHeadIdeal : Cert.LossHeadIdeal.Facts) (hLossRefIdeal : Cert.LossRefIdeal.Facts) (hFfnB : Cert.FfnB.Facts) (hFfnBIdeal : Cert.FfnBIdeal.Facts) (hFfnBRefIdeal : Cert.FfnBRefIdeal.Facts) (hFfnA : Cert.FfnA.Facts) (hFfnAIdeal : Cert.FfnAIdeal.Facts) (hFfnARefIdeal : Cert.FfnARefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hFfn : Cert.Ffn.Facts) (hFfnIdeal : Cert.FfnIdeal.Facts) (hFfnRefIdeal : Cert.FfnRefIdeal.Facts) (hMixFwd : Cert.MixFwd.Facts) (hMixFwdIdeal : Cert.MixFwdIdeal.Facts) (hMixFwdRefIdeal : Cert.MixFwdRefIdeal.Facts) (hPre_ffn_b_finite : Cert.Pre_ffn_b_finite.Facts) (hPre_ffn_a_finite : Cert.Pre_ffn_a_finite.Facts) (hPre_mix_in_finite : Cert.Pre_mix_in_finite.Facts) (hPre_mix_out_finite : Cert.Pre_mix_out_finite.Facts) (hPre_ffn_finite : Cert.Pre_ffn_finite.Facts) (hPre_mix_out_fwd_finite : Cert.Pre_mix_out_fwd_finite.Facts),
    quiescent_LossHead (hLossHead := hLossHead)
    ∧ quiescent_LossHeadIdeal (hLossHeadIdeal := hLossHeadIdeal)
    ∧ quiescent_LossRefIdeal (hLossRefIdeal := hLossRefIdeal)
    ∧ quiescent_FfnB (hFfnB := hFfnB)
    ∧ quiescent_FfnBIdeal (hFfnBIdeal := hFfnBIdeal)
    ∧ quiescent_FfnBIdeal_pre_ffn_b_finite (hFfnBIdeal := hFfnBIdeal) (hPre_ffn_b_finite := hPre_ffn_b_finite)
    ∧ quiescent_FfnBRefIdeal (hFfnBRefIdeal := hFfnBRefIdeal)
    ∧ quiescent_FfnBRefIdeal_pre_ffn_b_finite (hFfnBRefIdeal := hFfnBRefIdeal) (hPre_ffn_b_finite := hPre_ffn_b_finite)
    ∧ quiescent_FfnA (hFfnA := hFfnA)
    ∧ quiescent_FfnAIdeal (hFfnAIdeal := hFfnAIdeal)
    ∧ quiescent_FfnAIdeal_pre_ffn_a_finite (hFfnAIdeal := hFfnAIdeal) (hPre_ffn_a_finite := hPre_ffn_a_finite)
    ∧ quiescent_FfnARefIdeal (hFfnARefIdeal := hFfnARefIdeal)
    ∧ quiescent_FfnARefIdeal_pre_ffn_a_finite (hFfnARefIdeal := hFfnARefIdeal) (hPre_ffn_a_finite := hPre_ffn_a_finite)
    ∧ quiescent_MixIn (hMixIn := hMixIn)
    ∧ quiescent_MixInIdeal (hMixInIdeal := hMixInIdeal)
    ∧ quiescent_MixInIdeal_pre_mix_in_finite (hMixInIdeal := hMixInIdeal) (hPre_mix_in_finite := hPre_mix_in_finite)
    ∧ quiescent_MixInRefIdeal (hMixInRefIdeal := hMixInRefIdeal)
    ∧ quiescent_MixInRefIdeal_pre_mix_in_finite (hMixInRefIdeal := hMixInRefIdeal) (hPre_mix_in_finite := hPre_mix_in_finite)
    ∧ quiescent_MixOut (hMixOut := hMixOut)
    ∧ quiescent_MixOutIdeal (hMixOutIdeal := hMixOutIdeal)
    ∧ quiescent_MixOutIdeal_pre_mix_out_finite (hMixOutIdeal := hMixOutIdeal) (hPre_mix_out_finite := hPre_mix_out_finite)
    ∧ quiescent_MixOutRefIdeal (hMixOutRefIdeal := hMixOutRefIdeal)
    ∧ quiescent_MixOutRefIdeal_pre_mix_out_finite (hMixOutRefIdeal := hMixOutRefIdeal) (hPre_mix_out_finite := hPre_mix_out_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_MixFwd (hMixFwd := hMixFwd)
    ∧ quiescent_MixFwdIdeal (hMixFwdIdeal := hMixFwdIdeal)
    ∧ quiescent_MixFwdIdeal_pre_mix_out_fwd_finite (hMixFwdIdeal := hMixFwdIdeal) (hPre_mix_out_fwd_finite := hPre_mix_out_fwd_finite)
    ∧ quiescent_MixFwdRefIdeal (hMixFwdRefIdeal := hMixFwdRefIdeal)
    ∧ quiescent_MixFwdRefIdeal_pre_mix_out_fwd_finite (hMixFwdRefIdeal := hMixFwdRefIdeal) (hPre_mix_out_fwd_finite := hPre_mix_out_fwd_finite)
    ∧ preserves_LossHead_LossHeadIdeal
    ∧ algebraic_LossHeadIdeal_LossRefIdeal (hLossHeadIdeal := hLossHeadIdeal) (hLossRefIdeal := hLossRefIdeal)
    ∧ preserves_FfnB_FfnBIdeal
    ∧ algebraic_FfnBIdeal_FfnBRefIdeal_pre_ffn_b_finite (hFfnBIdeal := hFfnBIdeal) (hFfnBRefIdeal := hFfnBRefIdeal) (hPre_ffn_b_finite := hPre_ffn_b_finite)
    ∧ preserves_FfnA_FfnAIdeal
    ∧ algebraic_FfnAIdeal_FfnARefIdeal_pre_ffn_a_finite (hFfnAIdeal := hFfnAIdeal) (hFfnARefIdeal := hFfnARefIdeal) (hPre_ffn_a_finite := hPre_ffn_a_finite)
    ∧ preserves_MixIn_MixInIdeal
    ∧ algebraic_MixInIdeal_MixInRefIdeal_pre_mix_in_finite (hMixInIdeal := hMixInIdeal) (hMixInRefIdeal := hMixInRefIdeal) (hPre_mix_in_finite := hPre_mix_in_finite)
    ∧ preserves_MixOut_MixOutIdeal
    ∧ algebraic_MixOutIdeal_MixOutRefIdeal_pre_mix_out_finite (hMixOutIdeal := hMixOutIdeal) (hMixOutRefIdeal := hMixOutRefIdeal) (hPre_mix_out_finite := hPre_mix_out_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_MixFwd_MixFwdIdeal
    ∧ algebraic_MixFwdIdeal_MixFwdRefIdeal_pre_mix_out_fwd_finite (hMixFwdIdeal := hMixFwdIdeal) (hMixFwdRefIdeal := hMixFwdRefIdeal) (hPre_mix_out_fwd_finite := hPre_mix_out_fwd_finite)
-- ==== Pre_ffn_a_finite.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_arg6 : FVec F S1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S1x16384x1024 .f32) (main_arg1 : FVec F S1x16384x1024 .f32) (main_arg2 : FVec F S1024 .f32) (main_arg3 : FVec F S1024x2816 .f32) (main_arg4 : FVec F S1024x2816 .f32) (main_arg5 : FVec F S2816x1024 .f32) (main_arg6 : FVec F S1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x16384x1024 .f32 := Host.absf main_arg1
  let main_cst_0 : FVec F S_ .f32 := constant S_ .f32 0x7F800000#32
  let main_v5 : FVec F S1x16384x1024 .f32 := broadcastInDim S1x16384x1024 ![] bcast_S_S1x16384x1024 main_cst_0
  let main_v6 : IVec S1x16384x1024 1 := cmpf .olt main_v4 main_v5
  let main_c_1 : IVec S_ 1 := constantI S_ 1 1#1
  let main_v7 : IVec S_ 1 := (fun x v => Host.reduce IntOp.andi x v reducesTo_S1x16384x1024_S_d0_1_2 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_ffn_b_finite.lean ====
abbrev S1x16384x1024 : Shape := ⟨3, ![1, 16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn_part1 {F : FTy → Type} [FloatOps F] (main_arg5 : FVec F S16384x2816 .f32) (main_arg6 : FVec F S16384x2816 .f32) (main_v3 : IVec S_ 1) (main_v7 : IVec S_ 1) (main_v11 : IVec S_ 1) (main_v15 : IVec S_ 1) : IVec S_ 1 :=
  let main_v16 : FVec F S16384x2816 .f32 := Host.absf main_arg5
  let main_cst_6 : FVec F S_ .f32 := constant S_ .f32 0x7F800000#32
  let main_v17 : FVec F S16384x2816 .f32 := broadcastInDim S16384x2816 ![] bcast_S_S16384x2816 main_cst_6
  let main_v18 : IVec S16384x2816 1 := cmpf .olt main_v16 main_v17
  let main_c_7 : IVec S_ 1 := constantI S_ 1 1#1
  let main_v19 : IVec S_ 1 := (fun x v => Host.reduce IntOp.andi x v reducesTo_S16384x2816_S_d0_1 h_S_) main_v18 main_c_7
  let main_v20 : FVec F S16384x2816 .f32 := Host.absf main_arg6
  let main_cst_8 : FVec F S_ .f32 := constant S_ .f32 0x7F800000#32
  let main_v21 : FVec F S16384x2816 .f32 := broadcastInDim S16384x2816 ![] bcast_S_S16384x2816 main_cst_8
  let main_v22 : IVec S16384x2816 1 := cmpf .olt main_v20 main_v21
  let main_c_9 : IVec S_ 1 := constantI S_ 1 1#1
  let main_v23 : IVec S_ 1 := (fun x v => Host.reduce IntOp.andi x v reducesTo_S16384x2816_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1x16384x1024 .f32) (main_arg1 : FVec F S1x16384x1024 .f32) (main_arg2 : FVec F S1024 .f32) (main_arg3 : FVec F S1024x2816 .f32) (main_arg4 : FVec F S1024x2816 .f32) (main_arg5 : FVec F S16384x2816 .f32) (main_arg6 : FVec F S16384x2816 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg3
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg4
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg5 main_arg6 main_v3 main_v7 main_v11 main_v15
-- ==== Pre_ffn_finite.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S1x16384x1024 .f32) (main_arg1 : FVec F S1024 .f32) (main_arg2 : FVec F S1024x2816 .f32) (main_arg3 : FVec F S1024x2816 .f32) (main_arg4 : FVec F S2816x1024 .f32) (main_arg5 : FVec F S1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_v3 main_v7 main_v11 main_v15
-- ==== Pre_mix_in_finite.lean ====
abbrev S1x16384x1024 : Shape := ⟨3, ![1, 16384, 1024]⟩
abbrev S1024 : Shape := ⟨1, ![1024]⟩
abbrev S1024x7680 : Shape := ⟨2, ![1024, 7680]⟩
abbrev S4x1024 : Shape := ⟨2, ![4, 1024]⟩
abbrev S3x512 : Shape := ⟨2, ![3, 512]⟩
abbrev S16384x1024 : Shape := ⟨2, ![16384, 1024]⟩
abbrev S16384x512 : Shape := ⟨2, ![16384, 512]⟩
abbrev S16384x3072 : Shape := ⟨2, ![16384, 3072]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7680 : S_.BroadcastsInDim S1024x7680 (![] : Fin 0 → Fin S1024x7680.rank)
  reducesTo_S1024x7680_S_d0_1 : S1024x7680.ReducesTo [0, 1] S_
  bcast_S_S4x1024 : S_.BroadcastsInDim S4x1024 (![] : Fin 0 → Fin S4x1024.rank)
  reducesTo_S4x1024_S_d0_1 : S4x1024.ReducesTo [0, 1] S_
  bcast_S_S3x512 : S_.BroadcastsInDim S3x512 (![] : Fin 0 → Fin S3x512.rank)
  reducesTo_S3x512_S_d0_1 : S3x512.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x3072 : S_.BroadcastsInDim S16384x3072 (![] : Fin 0 → Fin S16384x3072.rank)
  reducesTo_S16384x3072_S_d0_1 : S16384x3072.ReducesTo [0, 1] S_

variable [Facts]

def fn_part3 {F : FTy → Type} [FloatOps F] (main_arg13 : FVec F S16384x3072 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S16384x3072 .f32 := Host.absf main_arg13
  let main_cst_22 : FVec F S_ .f32 := constant S_ .f32 0x7F800000#32
  let main_v49 : FVec F S16384x3072 .f32 := broadcastInDim S16384x3072 ![] bcast_S_S16384x3072 main_cst_22
  let main_v50 : IVec S16384x3072 1 := cmpf .olt main_v48 main_v49
  let main_c_23 : IVec S_ 1 := constantI S_ 1 1#1
  let main_v51 : IVec S_ 1 := (fun x v => Host.reduce IntOp.andi x v reducesTo_S16384x3072_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg9 : FVec F S16384x1024 .f32) (main_arg10 : FVec F S16384x512 .f32) (main_arg11 : FVec F S16384x512 .f32) (main_arg12 : FVec F S16384x512 .f32) (main_arg13 : FVec F S16384x3072 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x1024 .f32 := Host.absf main_arg9
  let main_cst_14 : FVec F S_ .f32 := constant S_ .f32 0x7F800000#32
  let main_v33 : FVec F S16384x1024 .f32 := broadcastInDim S16384x1024 ![] bcast_S_S16384x1024 main_cst_14
  let main_v34 : IVec S16384x1024 1 := cmpf .olt main_v32 main_v33
  let main_c_15 : IVec S_ 1 := constantI S_ 1 1#1
  let main_v35 : IVec S_ 1 := (fun x v => Host.reduce IntOp.andi x v reducesTo_S16384x1024_S_d0_1 h_S_) main_v34 main_c_15
  let main_v36 : FVec F S16384x512 .f32 := Host.absf main_arg10
  let main_cst_16 : FVec F S_ .f32 := constant S_ .f32 0x7F800000#32
  let main_v37 : FVec F S16384x512 .f32 := broadcastInDim S16384x512 ![] bcast_S_S16384x512 main_cst_16
  let main_v38 : IVec S16384x512 1 := cmpf .olt main_v36 main_v37
  let main_c_17 : IVec S_ 1 := constantI S_ 1 1#1
  let main_v39 : IVec S_ 1 := (fun x v => Host.reduce IntOp.andi x v reducesTo_S16384x512_S_d0_1 h_S_) main_v38 main_c_17
  let main_v40 : FVec F S16384x512 .f32 := Host.absf main_arg11
  let main_cst_18 : FVec F S_ .f32 := constant S_ .f32 0x7F800000#32
  let main_v41 : FVec F S16384x512 .f32 := broadcastInDim S16384x512 ![] bcast_S_S16384x512 main_cst_18
  let main_v42 : IVec S16384x512 1 := cmpf .olt main_v40 main_v41
  let main_c_19 : IVec S_ 1 := constantI S_ 1 1#1
  let main_v43 : IVec S_ 1 := (fun x v => Host.reduce IntOp.andi x v reducesTo_S16384x512_S_d0_1 h_S_) main_v42 main_c_19
  let main_v44 : FVec F S16384x512 .f32 := Host.absf main_arg12
  let main_cst_20 : FVec F S_ .f32 := constant S_ .f32 0x7F800000#32
  let main_v45 : FVec F S16384x512 .f32 := broadcastInDim S16384x512 ![] bcast_S_S16384x512 main_cst_20
  let main_v46 : IVec S16384x512 1 := cmpf .olt main_v44 main_v45
  let main_c_21 : IVec S_ 1 := constantI S_ 1 1#1
  let main_v47 : IVec S_ 1 := (fun x v => Host.reduce IntOp.andi x v reducesTo_S16384x512_S_d0_1 h_S_) main_v46 main_c_21
  fn_part3 (F := F) main_arg13 main_v3 main_v7 main_v11 main_v15 main_v19 main_v23 main_v27 main_v31 main_v35 main_v39 main_v43 main_v47

def fn_part1 {F : FTy → Type} [FloatOps F] (main_arg5 : FVec F S3x512 .f32) (main_arg6 : FVec F S16384x1024 .f32) (main_arg7 : FVec F S16384x1024 .f32) (main_arg8 : FVec F S16384x512 .f32) (main_arg9 : FVec F S16384x1024 .f32) (main_arg10 : FVec F S16384x512 .f32) (main_arg11 : FVec F S16384x512 .f32) (main_arg12 : FVec F S16384x512 .f32) (main_arg13 : FVec F S16384x3072 .f32) (main_v3 : IVec S_ 1) (main_v7 : IVec S_ 1) (main_v11 : IVec S_ 1) (main_v15 : IVec S_ 1) : IVec S_ 1 :=
  let main_v16 : FVec F S3x512 .f32 := Host.absf main_arg5
  let main_cst_6 : FVec F S_ .f32 := constant S_ .f32 0x7F800000#32
  let main_v17 : FVec F S3x512 .f32 := broadcastInDim S3x512 ![] bcast_S_S3x512 main_cst_6
  let main_v18 : IVec S3x512 1 := cmpf .olt main_v16 main_v17
  let main_c_7 : IVec S_ 1 := constantI S_ 1 1#1
  let main_v19 : IVec S_ 1 := (fun x v => Host.reduce IntOp.andi x v reducesTo_S3x512_S_d0_1 h_S_) main_v18 main_c_7
  let main_v20 : FVec F S16384x1024 .f32 := Host.absf main_arg6
  let main_cst_8 : FVec F S_ .f32 := constant S_ .f32 0x7F800000#32
  let main_v21 : FVec F S16384x1024 .f32 := broadcastInDim S16384x1024 ![] bcast_S_S16384x1024 main_cst_8
  let main_v22 : IVec S16384x1024 1 := cmpf .olt main_v20 main_v21
  let main_c_9 : IVec S_ 1 := constantI S_ 1 1#1
  let main_v23 : IVec S_ 1 := (fun x v => Host.reduce IntOp.andi x v reducesTo_S16384x1024_S_d0_1 h_S_) main_v22 main_c_9
  let main_v24 : FVec F S16384x1024 .f32 := Host.absf main_arg7
  let main_cst_10 : FVec F S_ .f32 := constant S_ .f32 0x7F800000#32
  let main_v25 : FVec F S16384x1024 .f32 := broadcastInDim S16384x1024 ![] bcast_S_S16384x1024 main_cst_10
  let main_v26 : IVec S16384x1024 1 := cmpf .olt main_v24 main_v25
  let main_c_11 : IVec S_ 1 := constantI S_ 1 1#1
  let main_v27 : IVec S_ 1 := (fun x v => Host.reduce IntOp.andi x v reducesTo_S16384x1024_S_d0_1 h_S_) main_v26 main_c_11
  let main_v28 : FVec F S16384x512 .f32 := Host.absf main_arg8
  let main_cst_12 : FVec F S_ .f32 := constant S_ .f32 0x7F800000#32
  let main_v29 : FVec F S16384x512 .f32 := broadcastInDim S16384x512 ![] bcast_S_S16384x512 main_cst_12
  let main_v30 : IVec S16384x512 1 := cmpf .olt main_v28 main_v29
  let main_c_13 : IVec S_ 1 := constantI S_ 1 1#1
  let main_v31 : IVec S_ 1 := (fun x v => Host.reduce IntOp.andi x v reducesTo_S16384x512_S_d0_1 h_S_) main_v30 main_c_13
  fn_part2 (F := F) main_arg9 main_arg10 main_arg11 main_arg12 main_arg13 main_v3 main_v7 main_v11 main_v15 main_v19 main_v23 main_v27 main_v31

def fn {F : FTy → Type} [FloatOps F] (main_arg0 : FVec F S1x16384x1024 .f32) (main_arg1 : FVec F S1x16384x1024 .f32) (main_arg2 : FVec F S1024 .f32) (main_arg3 : FVec F S1024x7680 .f32) (main_arg4 : FVec F S4x1024 .f32) (main_arg5 : FVec F S3x512 .f32) (main_arg6 : FVec F S16384x1024 .f32) (main_arg7 : FVec F S16384x1024 .f32) (main_arg8 : FVec F S16384x512 .f32) (main_arg9 : FVec F S16384x1024 .f32) (main_arg10 : FVec F S16384x512 .f32) (main_arg11 : FVec F S16384x512 .f32) (main_arg12 : FVec F S16384x512 .f32) (main_arg13 : FVec F S16384x3072 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x7680 .f32 := Host.absf main_arg3
  let main_cst_2 : FVec F S_ .f32 := constant S_ .f32 0x7F800000#32
  let main_v9 : FVec F S1024x7680 .f32 := broadcastInDim S1024x7680 ![] bcast_S_S1024x7680 main_cst_2
  let main_v10 : IVec S1024x7680 1 := cmpf .olt main_v8 main_v9
  let main_c_3 : IVec S_ 1 := constantI S_ 1 1#1
  let main_v11 : IVec S_ 1 := (fun x v => Host.reduce IntOp.andi x v reducesTo_S1024x7680_S_d0_1 h_S_) main_v10 main_c_3
  let main_v12 : FVec F S4x1024 .f32 := Host.absf main_arg4
  let main_cst_4 : FVec F S_ .f32 := constant S_ .f32 0x7F800000#32
  let main_v13 : FVec F S4x1024 .f32 := broadcastInDim S4x1024 ![] bcast_S_S4x1024 main_cst_4
  let main_v14 : IVec S4x1024 1 := cmpf .olt main_v12 main_v13
  let main_c_5 : IVec S_ 1 := constantI S_ 1 1#1
  let main_v15 : IVec S_ 1 := (fun x v => Host.reduce IntOp.andi x v reducesTo_S4x1024_S_d0_1 h_S_) main_v14 main_c_5
  fn_part1 (F := F) main_arg5 main_arg6 main_arg7 main_arg8 main_arg9 main_arg10 main_arg11 main_arg12 main_arg13 main_v3 main_v7 main_v11 main_v15
-- ==== Pre_mix_out_finite.lean ====
abbrev S16384x1024 : Shape := ⟨2, ![16384, 1024]⟩
abbrev S16384x4608 : Shape := ⟨2, ![16384, 4608]⟩
abbrev S16384x3072 : Shape := ⟨2, ![16384, 3072]⟩
abbrev S1024x1024 : Shape := ⟨2, ![1024, 1024]⟩
abbrev S3x512 : Shape := ⟨2, ![3, 512]⟩
abbrev S512x1024 : Shape := ⟨2, ![512, 1024]⟩
abbrev S512 : Shape := ⟨1, ![512]⟩
abbrev S4x128x128 : Shape := ⟨3, ![4, 128, 128]⟩
abbrev S4x128 : Shape := ⟨2, ![4, 128]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x4608 : S_.BroadcastsInDim S16384x4608 (![] : Fin 0 → Fin S16384x4608.rank)
  reducesTo_S16384x4608_S_d0_1 : S16384x4608.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S3x512 : S_.BroadcastsInDim S3x512 (![] : Fin 0 → Fin S3x512.rank)
  reducesTo_S3x512_S_d0_1 : S3x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v65 : IVec S_ 1) : IVec S_ 1 :=
  let main_v66 : IVec S_ 1 := andi main_v65 main_v31
  let main_v67 : IVec S_ 1 := andi main_v66 main_v35
  let main_v68 : IVec S_ 1 := andi main_v67 main_v39
  let main_v69 : IVec S_ 1 := andi main_v68 main_v43
  let main_v70 : IVec S_ 1 := andi main_v69 main_v47
  let main_v71 : IVec S_ 1 := andi main_v70 main_v51
  let main_v72 : IVec S_ 1 := andi main_v71 main_v55
  let main_v73 : IVec S_ 1 := andi main_v72 main_v59
  main_v73

def fn_part3 {F : FTy → Type} [FloatOps F] (main_arg12 : FVec F S512x1024 .f32) (main_arg13 : FVec F S1024x1024 .f32) (main_arg14 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S512x1024 .f32 := Host.absf main_arg12
  let main_cst_22 : FVec F S_ .f32 := constant S_ .f32 0x7F800000#32
  let main_v49 : FVec F S512x1024 .f32 := broadcastInDim S512x1024 ![] bcast_S_S512x1024 main_cst_22
  let main_v50 : IVec S512x1024 1 := cmpf .olt main_v48 main_v49
  let main_c_23 : IVec S_ 1 := constantI S_ 1 1#1
  let main_v51 : IVec S_ 1 := (fun x v => Host.reduce IntOp.andi x v reducesTo_S512x1024_S_d0_1 h_S_) main_v50 main_c_23
  let main_v52 : FVec F S1024x1024 .f32 := Host.absf main_arg13
  let main_cst_24 : FVec F S_ .f32 := constant S_ .f32 0x7F800000#32
  let main_v53 : FVec F S1024x1024 .f32 := broadcastInDim S1024x1024 ![] bcast_S_S1024x1024 main_cst_24
  let main_v54 : IVec S1024x1024 1 := cmpf .olt main_v52 main_v53
  let main_c_25 : IVec S_ 1 := constantI S_ 1 1#1
  let main_v55 : IVec S_ 1 := (fun x v => Host.reduce IntOp.andi x v reducesTo_S1024x1024_S_d0_1 h_S_) main_v54 main_c_25
  let main_v56 : FVec F S1024 .f32 := Host.absf main_arg14
  let main_cst_26 : FVec F S_ .f32 := constant S_ .f32 0x7F800000#32
  let main_v57 : FVec F S1024 .f32 := broadcastInDim S1024 ![] bcast_S_S1024 main_cst_26
  let main_v58 : IVec S1024 1 := cmpf .olt main_v56 main_v57
  let main_c_27 : IVec S_ 1 := constantI S_ 1 1#1
  let main_v59 : IVec S_ 1 := (fun x v => Host.reduce IntOp.andi x v reducesTo_S1024_S_d0 h_S_) main_v58 main_c_27
  let main_v60 : IVec S_ 1 := andi main_v3 main_v7
  let main_v61 : IVec S_ 1 := andi main_v60 main_v11
  let main_v62 : IVec S_ 1 := andi main_v61 main_v15
  let main_v63 : IVec S_ 1 := andi main_v62 main_v19
  let main_v64 : IVec S_ 1 := andi main_v63 main_v23
  let main_v65 : IVec S_ 1 := andi main_v64 main_v27
  fn_part4 (F := F) main_v31 main_v35 main_v39 main_v43 main_v47 main_v51 main_v55 main_v59 main_v65

def fn_part2 {F : FTy → Type} [FloatOps F] (main_arg8 : FVec F S512 .f32) (main_arg9 : FVec F S512 .f32) (main_arg10 : FVec F S4x128x128 .f32) (main_arg11 : FVec F S4x128 .f32) (main_arg12 : FVec F S512x1024 .f32) (main_arg13 : FVec F S1024x1024 .f32) (main_arg14 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512 .f32 := Host.absf main_arg8
  let main_cst_14 : FVec F S_ .f32 := constant S_ .f32 0x7F800000#32
  let main_v33 : FVec F S512 .f32 := broadcastInDim S512 ![] bcast_S_S512 main_cst_14
  let main_v34 : IVec S512 1 := cmpf .olt main_v32 main_v33
  let main_c_15 : IVec S_ 1 := constantI S_ 1 1#1
  let main_v35 : IVec S_ 1 := (fun x v => Host.reduce IntOp.andi x v reducesTo_S512_S_d0 h_S_) main_v34 main_c_15
  let main_v36 : FVec F S512 .f32 := Host.absf main_arg9
  let main_cst_16 : FVec F S_ .f32 := constant S_ .f32 0x7F800000#32
  let main_v37 : FVec F S512 .f32 := broadcastInDim S512 ![] bcast_S_S512 main_cst_16
  let main_v38 : IVec S512 1 := cmpf .olt main_v36 main_v37
  let main_c_17 : IVec S_ 1 := constantI S_ 1 1#1
  let main_v39 : IVec S_ 1 := (fun x v => Host.reduce IntOp.andi x v reducesTo_S512_S_d0 h_S_) main_v38 main_c_17
  let main_v40 : FVec F S4x128x128 .f32 := Host.absf main_arg10
  let main_cst_18 : FVec F S_ .f32 := constant S_ .f32 0x7F800000#32
  let main_v41 : FVec F S4x128x128 .f32 := broadcastInDim S4x128x128 ![] bcast_S_S4x128x128 main_cst_18
  let main_v42 : IVec S4x128x128 1 := cmpf .olt main_v40 main_v41
  let main_c_19 : IVec S_ 1 := constantI S_ 1 1#1
  let main_v43 : IVec S_ 1 := (fun x v => Host.reduce IntOp.andi x v reducesTo_S4x128x128_S_d0_1_2 h_S_) main_v42 main_c_19
  let main_v44 : FVec F S4x128 .f32 := Host.absf main_arg11
  let main_cst_20 : FVec F S_ .f32 := constant S_ .f32 0x7F800000#32
  let main_v45 : FVec F S4x128 .f32 := broadcastInDim S4x128 ![] bcast_S_S4x128 main_cst_20
  let main_v46 : IVec S4x128 1 := cmpf .olt main_v44 main_v45
  let main_c_21 : IVec S_ 1 := constantI S_ 1 1#1
  let main_v47 : IVec S_ 1 := (fun x v => Host.reduce IntOp.andi x v reducesTo_S4x128_S_d0_1 h_S_) main_v46 main_c_21
  fn_part3 (F := F) main_arg12 main_arg13 main_arg14 main_v3 main_v7 main_v11 main_v15 main_v19 main_v23 main_v27 main_v31 main_v35 main_v39 main_v43 main_v47

def fn_part1 {F : FTy → Type} [FloatOps F] (main_arg4 : FVec F S16384x1024 .f32) (main_arg5 : FVec F S1024x1024 .f32) (main_arg6 : FVec F S3x512 .f32) (main_arg7 : FVec F S512x1024 .f32) (main_arg8 : FVec F S512 .f32) (main_arg9 : FVec F S512 .f32) (main_arg10 : FVec F S4x128x128 .f32) (main_arg11 : FVec F S4x128 .f32) (main_arg12 : FVec F S512x1024 .f32) (main_arg13 : FVec F S1024x1024 .f32) (main_arg14 : FVec F S1024 .f32) (main_v3 : IVec S_ 1) (main_v7 : IVec S_ 1) (main_v11 : IVec S_ 1) (main_v15 : IVec S_ 1) : IVec S_ 1 :=
  let main_v16 : FVec F S16384x1024 .f32 := Host.absf main_arg4
  let main_cst_6 : FVec F S_ .f32 := constant S_ .f32 0x7F800000#32
  let main_v17 : FVec F S16384x1024 .f32 := broadcastInDim S16384x1024 ![] bcast_S_S16384x1024 main_cst_6
  let main_v18 : IVec S16384x1024 1 := cmpf .olt main_v16 main_v17
  let main_c_7 : IVec S_ 1 := constantI S_ 1 1#1
  let main_v19 : IVec S_ 1 := (fun x v => Host.reduce IntOp.andi x v reducesTo_S16384x1024_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S3x512 .f32 := Host.absf main_arg6
  let main_cst_10 : FVec F S_ .f32 := constant S_ .f32 0x7F800000#32
  let main_v25 : FVec F S3x512 .f32 := broadcastInDim S3x512 ![] bcast_S_S3x512 main_cst_10
  let main_v26 : IVec S3x512 1 := cmpf .olt main_v24 main_v25
  let main_c_11 : IVec S_ 1 := constantI S_ 1 1#1
  let main_v27 : IVec S_ 1 := (fun x v => Host.reduce IntOp.andi x v reducesTo_S3x512_S_d0_1 h_S_) main_v26 main_c_11
  let main_v28 : FVec F S512x1024 .f32 := Host.absf main_arg7
  let main_cst_12 : FVec F S_ .f32 := constant S_ .f32 0x7F800000#32
  let main_v29 : FVec F S512x1024 .f32 := broadcastInDim S512x1024 ![] bcast_S_S512x1024 main_cst_12
  let main_v30 : IVec S512x1024 1 := cmpf .olt main_v28 main_v29
  let main_c_13 : IVec S_ 1 := constantI S_ 1 1#1
  let main_v31 : IVec S_ 1 := (fun x v => Host.reduce IntOp.andi x v reducesTo_S512x1024_S_d0_1 h_S_) main_v30 main_c_13
  fn_part2 (F := F) main_arg8 main_arg9 main_arg10 main_arg11 main_arg12 main_arg13 main_arg14 main_v3 main_v7 main_v11 main_v15 main_v19 main_v23 main_v27 main_v31

def fn {F : FTy → Type} [FloatOps F] (main_arg0 : FVec F S16384x1024 .f32) (main_arg1 : FVec F S16384x4608 .f32) (main_arg2 : FVec F S16384x3072 .f32) (main_arg3 : FVec F S16384x1024 .f32) (main_arg4 : FVec F S16384x1024 .f32) (main_arg5 : FVec F S1024x1024 .f32) (main_arg6 : FVec F S3x512 .f32) (main_arg7 : FVec F S512x1024 .f32) (main_arg8 : FVec F S512 .f32) (main_arg9 : FVec F S512 .f32) (main_arg10 : FVec F S4x128x128 .f32) (main_arg11 : FVec F S4x128 .f32) (main_arg12 : FVec F S512x1024 .f32) (main_arg13 : FVec F S1024x1024 .f32) (main_arg14 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x4608 .f32 := Host.absf main_arg1
  let main_cst_0 : FVec F S_ .f32 := constant S_ .f32 0x7F800000#32
  let main_v5 : FVec F S16384x4608 .f32 := broadcastInDim S16384x4608 ![] bcast_S_S16384x4608 main_cst_0
  let main_v6 : IVec S16384x4608 1 := cmpf .olt main_v4 main_v5
  let main_c_1 : IVec S_ 1 := constantI S_ 1 1#1
  let main_v7 : IVec S_ 1 := (fun x v => Host.reduce IntOp.andi x v reducesTo_S16384x4608_S_d0_1 h_S_) main_v6 main_c_1
  let main_v8 : FVec F S16384x3072 .f32 := Host.absf main_arg2
  let main_cst_2 : FVec F S_ .f32 := constant S_ .f32 0x7F800000#32
  let main_v9 : FVec F S16384x3072 .f32 := broadcastInDim S16384x3072 ![] bcast_S_S16384x3072 main_cst_2
  let main_v10 : IVec S16384x3072 1 := cmpf .olt main_v8 main_v9
  let main_c_3 : IVec S_ 1 := constantI S_ 1 1#1
  let main_v11 : IVec S_ 1 := (fun x v => Host.reduce IntOp.andi x v reducesTo_S16384x3072_S_d0_1 h_S_) main_v10 main_c_3
  let main_v12 : FVec F S16384x1024 .f32 := Host.absf main_arg3
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_arg5 main_arg6 main_arg7 main_arg8 main_arg9 main_arg10 main_arg11 main_arg12 main_arg13 main_arg14 main_v3 main_v7 main_v11 main_v15
-- ==== Pre_mix_out_fwd_finite.lean ====
abbrev S1x16384x1024 : Shape := ⟨3, ![1, 16384, 1024]⟩
abbrev S16384x4608 : Shape := ⟨2, ![16384, 4608]⟩
abbrev S16384x3072 : Shape := ⟨2, ![16384, 3072]⟩
abbrev S16384x1024 : Shape := ⟨2, ![16384, 1024]⟩
abbrev S1024x1024 : Shape := ⟨2, ![1024, 1024]⟩
abbrev S3x512 : Shape := ⟨2, ![3, 512]⟩
abbrev S512x1024 : Shape := ⟨2, ![512, 1024]⟩
abbrev S512 : Shape := ⟨1, ![512]⟩
abbrev S4x128x128 : Shape := ⟨3, ![4, 128, 128]⟩
abbrev S4x128 : Shape := ⟨2, ![4, 128]⟩
abbrev S1024 : Shape := ⟨1, ![1024]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel

variable [Facts]

def fn {F : FTy → Type} [FloatOps F] (main_arg0 : FVec F S1x16384x1024 .f32) (main_arg1 : FVec F S16384x4608 .f32) (main_arg2 : FVec F S16384x3072 .f32) (main_arg3 : FVec F S16384x1024 .f32) (main_arg4 : FVec F S16384x1024 .f32) (main_arg5 : FVec F S1024x1024 .f32) (main_arg6 : FVec F S3x512 .f32) (main_arg7 : FVec F S512x1024 .f32) (main_arg8 : FVec F S512 .f32) (main_arg9 : FVec F S512 .f32) (main_arg10 : FVec F S4x128x128 .f32) (main_arg11 : FVec F S4x128 .f32) (main_arg12 : FVec F S512x1024 .f32) (main_arg13 : FVec F S1024x1024 .f32) (main_arg14 : FVec F S1024 .f32) : IVec S_ 1 :=
  let main_v0 : FVec F S16384x3072 .f32 := Host.absf main_arg2
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  main_v3
-- ==== LossHead.lean ====
abbrev S1x16384x1024 : Shape := ⟨3, ![1, 16384, 1024]⟩
abbrev S16384x1024 : Shape := ⟨2, ![16384, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1x16384x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_6 : BitVec 32 := 0#32
  let v13 : BitVec 1 := Scalar.cmpi .ne v12 c0_i32_6
  v13

def k0_cond2 (i : grid0.Coords) : BitVec 1 :=
  let arg0 : BitVec 32 := BitVec.ofNat 32 (i 0).val
  let c0_i32 : BitVec 32 := 0#32
  let v11 : BitVec 1 := Scalar.cmpi .eq arg0 c0_i32
  let v_true : BitVec 1 := 1#1
  let v14 : BitVec 1 := Scalar.xori v11 v_true
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x16384x1024 : Shape := ⟨3, ![1, 16384, 1024]⟩
abbrev S_ : Shape := ⟨0, ![]⟩
abbrev S1x16384 : Shape := ⟨2, ![1, 16384]⟩

abbrev nBuf : Space → Nat
  | .hbm => 25
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S_, .f32⟩
  | .hbm, ⟨5, _⟩ => ⟨S1x16384x1024, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S_, .f32⟩
  | .hbm, ⟨10, _⟩ => ⟨S1x16384, .f32⟩
  | .hbm, ⟨11, _⟩ => ⟨S1x16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x16384, .f32⟩
  | .hbm, ⟨20, _⟩ => ⟨S_, .f32⟩
  | .hbm, ⟨21, _⟩ => ⟨S1x16384, .f32⟩
  | .hbm, ⟨22, _⟩ => ⟨S1x16384, .f32⟩
  | .hbm, ⟨23, _⟩ => ⟨S1x16384x1024, .f32⟩
  | .hbm, ⟨24, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FfnB.lean ====
abbrev S1x16384x1024 : Shape := ⟨3, ![1, 16384, 1024]⟩
abbrev S1024 : Shape := ⟨1, ![1024]⟩
abbrev S1024x2816 : Shape := ⟨2, ![1024, 2816]⟩
abbrev S16384x2816 : Shape := ⟨2, ![16384, 2816]⟩
abbrev S2816x1024 : Shape := ⟨2, ![2816, 1024]⟩
abbrev S4x704x1024 : Shape := ⟨3, ![4, 704, 1024]⟩
abbrev S16384x1024 : Shape := ⟨2, ![16384, 1024]⟩
abbrev S16384x4x704 : Shape := ⟨3, ![16384, 4, 704]⟩
abbrev S4x16384x704 : Shape := ⟨3, ![4, 16384, 704]⟩
abbrev S1x1024 : Shape := ⟨2, ![1, 1024]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 25
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S16384x1024, .f32⟩
  | .hbm, ⟨14, _⟩ => ⟨S16384x1024, .f32⟩
  | .hbm, ⟨15, _⟩ => ⟨S16384x4x704, .f32⟩
  | .hbm, ⟨16, _⟩ => ⟨S4x16384x704, .f32⟩
  | .hbm, ⟨17, _⟩ => ⟨S4x16384x704, .bf16⟩
  | .hbm, ⟨18, _⟩ => ⟨S16384x4x704, .f32⟩
  | .hbm, ⟨19, _⟩ => ⟨S4x16384x704, .f32⟩
  | .hbm, ⟨20, _⟩ => ⟨S4x16384x704, .bf16⟩
  | .hbm, ⟨21, _⟩ => ⟨S1x1024, .f32⟩
  | .hbm, ⟨22, _⟩ => ⟨S16384x1024, .f32⟩
  | .hbm, ⟨23, _⟩ => ⟨S16384x1024, .bf16⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v98 : BitVec 1 := Scalar.cmpi .eq arg0 c0_i32
  let v99 : BitVec 32 := Scalar.extui v98
  let c0_i32_73 : BitVec 32 := 0#32
  let v100 : BitVec 1 := Scalar.cmpi .ne v99 c0_i32_73
  v100

def k0_cond2 (i : grid0.Coords) : BitVec 1 :=
  let arg0 : BitVec 32 := BitVec.ofNat 32 (i 0).val
  let c0_i32 : BitVec 32 := 0#32
  let v98 : BitVec 1 := Scalar.cmpi .eq arg0 c0_i32
  let v_true : BitVec 1 := 1#1
  let v101 : BitVec 1 := Scalar.xori v98 v_true
  let v102 : BitVec 32 := Scalar.extui v101
  let c0_i32_74 : BitVec 32 := 0#32
  let v103 : BitVec 1 := Scalar.cmpi .ne v102 c0_i32_74
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnBRefIdeal.lean ====
abbrev S1x16384x1024 : Shape := ⟨3, ![1, 16384, 1024]⟩
abbrev S1024 : Shape := ⟨1, ![1024]⟩
abbrev S1024x2816 : Shape := ⟨2, ![1024, 2816]⟩
abbrev S16384x2816 : Shape := ⟨2, ![16384, 2816]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S16384x2816, .f32⟩
  | .hbm, ⟨6, _⟩ => ⟨S16384x2816, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .bf16⟩
  | .hbm, ⟨78, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== FfnA.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S4x704x1024 : Shape := ⟨3, ![4, 704, 1024]⟩
abbrev S16384x4x704 : Shape := ⟨3, ![16384, 4, 704]⟩
abbrev S4x16384x704 : Shape := ⟨3, ![4, 16384, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 64
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x1024, .f32⟩
  | .hbm, ⟨49, _⟩ => ⟨S16384x1024, .bf16⟩
  | .hbm, ⟨50, _⟩ => ⟨S4x704x1024, .f32⟩
  | .hbm, ⟨51, _⟩ => ⟨S4x704x1024, .bf16⟩
  | .hbm, ⟨52, _⟩ => ⟨S16384x1024, .f32⟩
  | .hbm, ⟨53, _⟩ => ⟨S16384x4x704, .f32⟩
  | .hbm, ⟨54, _⟩ => ⟨S4x16384x704, .f32⟩
  | .hbm, ⟨55, _⟩ => ⟨S4x16384x704, .bf16⟩
  | .hbm, ⟨56, _⟩ => ⟨S16384x4x704, .f32⟩
  | .hbm, ⟨57, _⟩ => ⟨S4x16384x704, .f32⟩
  | .hbm, ⟨58, _⟩ => ⟨S4x16384x704, .bf16⟩
  | .hbm, ⟨59, _⟩ => ⟨S1x1024, .f32⟩
  | .hbm, ⟨60, _⟩ => ⟨S4x16384x704, .bf16⟩
  | .hbm, ⟨61, _⟩ => ⟨S4x16384x704, .bf16⟩
  | .hbm, ⟨62, _⟩ => ⟨S16384x1024, .bf16⟩
  | .hbm, ⟨63, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S4x704x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v45_2 : Ref sig .tc := ⟨.hbm, 62, rfl⟩
abbrev main_v45_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v112 : BitVec 1 := Scalar.cmpi .eq arg0 c0_i32
  let v113 : BitVec 32 := Scalar.extui v112
  let c0_i32_74 : BitVec 32 := 0#32
  let v114 : BitVec 1 := Scalar.cmpi .ne v113 c0_i32_74
  v114

def k0_cond2 (i : grid0.Coords) : BitVec 1 :=
  let arg0 : BitVec 32 := BitVec.ofNat 32 (i 0).val
  let c0_i32 : BitVec 32 := 0#32
  let v112 : BitVec 1 := Scalar.cmpi .eq arg0 c0_i32
  let v_true : BitVec 1 := 1#1
  let v115 : BitVec 1 := Scalar.xori v112 v_true
  let v116 : BitVec 32 := Scalar.extui v115
  let c0_i32_75 : BitVec 32 := 0#32
  let v117 : BitVec 1 := Scalar.cmpi .ne v116 c0_i32_75
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnARefIdeal.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x4x704 : Shape := ⟨3, ![16384, 4, 704]⟩
abbrev S4x16384x704 : Shape := ⟨3, ![4, 16384, 704]⟩

abbrev nBuf : Space → Nat
  | .hbm => 110
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x2816, .f32⟩
  | .hbm, ⟨96, _⟩ => ⟨S16384x2816, .f32⟩
  | .hbm, ⟨97, _⟩ => ⟨S16384x2816, .f32⟩
  | .hbm, ⟨98, _⟩ => ⟨S16384x2816, .f32⟩
  | .hbm, ⟨99, _⟩ => ⟨S16384x2816, .f32⟩
  | .hbm, ⟨100, _⟩ => ⟨S16384x2816, .f32⟩
  | .hbm, ⟨101, _⟩ => ⟨S16384x2816, .f32⟩
  | .hbm, ⟨102, _⟩ => ⟨S16384x4x704, .f32⟩
  | .hbm, ⟨103, _⟩ => ⟨S4x16384x704, .f32⟩
  | .hbm, ⟨104, _⟩ => ⟨S4x16384x704, .bf16⟩
  | .hbm, ⟨105, _⟩ => ⟨S16384x4x704, .f32⟩
  | .hbm, ⟨106, _⟩ => ⟨S4x16384x704, .f32⟩
  | .hbm, ⟨107, _⟩ => ⟨S4x16384x704, .bf16⟩
  | .hbm, ⟨108, _⟩ => ⟨S16384x1024, .bf16⟩
  | .hbm, ⟨109, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]
-- ==== MixIn.lean ====
abbrev S1x16384x1024 : Shape := ⟨3, ![1, 16384, 1024]⟩
abbrev S1024 : Shape := ⟨1, ![1024]⟩
abbrev S1024x7680 : Shape := ⟨2, ![1024, 7680]⟩
abbrev S4x1024 : Shape := ⟨2, ![4, 1024]⟩
abbrev S3x512 : Shape := ⟨2, ![3, 512]⟩
abbrev S16384x1024 : Shape := ⟨2, ![16384, 1024]⟩
abbrev S16384x512 : Shape := ⟨2, ![16384, 512]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7680 : Shape := ⟨2, ![16384, 7680]⟩
abbrev S16384x4608 : Shape := ⟨2, ![16384, 4608]⟩
abbrev S7680x1024 : Shape := ⟨2, ![7680, 1024]⟩
abbrev S256x1024 : Shape := ⟨2, ![256, 1024]⟩
abbrev S16x1024 : Shape := ⟨2, ![16, 1024]⟩
abbrev S256x512 : Shape := ⟨2, ![256, 512]⟩
abbrev S16x512 : Shape := ⟨2, ![16, 512]⟩
abbrev S8x1024 : Shape := ⟨2, ![8, 1024]⟩
abbrev S8x512 : Shape := ⟨2, ![8, 512]⟩
abbrev S256x3072 : Shape := ⟨2, ![256, 3072]⟩
abbrev S256x7680 : Shape := ⟨2, ![256, 7680]⟩
abbrev S256x1 : Shape := ⟨2, ![256, 1]⟩
abbrev S8x1 : Shape := ⟨2, ![8, 1]⟩
abbrev S248x1024 : Shape := ⟨2, ![248, 1024]⟩
abbrev S1x512 : Shape := ⟨2, ![1, 512]⟩
abbrev S248x512 : Shape := ⟨2, ![248, 512]⟩
abbrev S512 : Shape := ⟨1, ![512]⟩
abbrev S256 : Shape := ⟨1, ![256]⟩

abbrev nBuf : Space → Nat
  | .hbm => 49
  | .vmem => 62
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1024, .f32⟩
  | .hbm, ⟨3, _⟩ => ⟨S1024x7680, .f32⟩
  | .hbm, ⟨4, _⟩ => ⟨S4x1024, .f32⟩
  | .hbm, ⟨5, _⟩ => ⟨S3x512, .f32⟩
  | .hbm, ⟨6, _⟩ => ⟨S16384x1024, .f32⟩
  | .hbm, ⟨7, _⟩ => ⟨S16384x1024, .f32⟩
  | .hbm, ⟨8, _⟩ => ⟨S16384x512, .f32⟩
  | .hbm, ⟨9, _⟩ => ⟨S16384x1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x3072, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x7680, .f32⟩
  | .hbm, ⟨32, _⟩ => ⟨S16384x4608, .f32⟩
  | .hbm, ⟨33, _⟩ => ⟨S16384x4608, .bf16⟩
  | .hbm, ⟨34, _⟩ => ⟨S16384x1024, .f32⟩
  | .hbm, ⟨35, _⟩ => ⟨S16384x1024, .bf16⟩
  | .hbm, ⟨36, _⟩ => ⟨S16384x512, .bf16⟩
  | .hbm, ⟨37, _⟩ => ⟨S16384x512, .bf16⟩
  | .hbm, ⟨38, _⟩ => ⟨S16384x512, .bf16⟩
  | .hbm, ⟨39, _⟩ => ⟨S16384x3072, .bf16⟩
  | .hbm, ⟨40, _⟩ => ⟨S1x1024, .f32⟩
  | .hbm, ⟨41, _⟩ => ⟨S7680x1024, .f32⟩
  | .hbm, ⟨42, _⟩ => ⟨S7680x1024, .bf16⟩
  | .hbm, ⟨43, _⟩ => ⟨S16384x1024, .f32⟩
  | .hbm, ⟨44, _⟩ => ⟨S16384x7680, .bf16⟩
  | .hbm, ⟨45, _⟩ => ⟨S1x1024, .f32⟩
  | .hbm, ⟨46, _⟩ => ⟨S4x1024, .f32⟩
  | .hbm, ⟨47, _⟩ => ⟨S1x1024, .f32⟩
  | .hbm, ⟨48, _⟩ => ⟨S3x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S256x512, .bf16⟩
  | .local _ .vmem, ⟨11, _⟩ => ⟨S256x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S256x512, .bf16⟩
  | .local _ .vmem, ⟨17, _⟩ => ⟨S256x512, .bf16⟩
  | .local _ .vmem, ⟨18, _⟩ => ⟨S16x512, .bf16⟩
  | .local _ .vmem, ⟨19, _⟩ => ⟨S16x512, .bf16⟩
  | .local _ .vmem, ⟨20, _⟩ => ⟨S16x512, .bf16⟩
  | .local _ .vmem, ⟨21, _⟩ => ⟨S16x512, .bf16⟩
  | .local _ .vmem, ⟨22, _⟩ => ⟨S256x1024, .f32⟩
  | .local _ .vmem, ⟨23, _⟩ => ⟨S256x1024, .f32⟩
  | .local _ .vmem, ⟨24, _⟩ => ⟨S8x1024, .f32⟩
  | .local _ .vmem, ⟨25, _⟩ => ⟨S8x1024, .f32⟩
  | .local _ .vmem, ⟨26, _⟩ => ⟨S8x1024, .f32⟩
  | .local _ .vmem, ⟨27, _⟩ => ⟨S8x1024, .f32⟩
  | .local _ .vmem, ⟨28, _⟩ => ⟨S256x1024, .f32⟩
  | .local _ .vmem, ⟨29, _⟩ => ⟨S256x1024, .f32⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | .local _ .vmem, ⟨34, _⟩ => ⟨S256x512, .f32⟩
  | .local _ .vmem, ⟨35, _⟩ => ⟨S256x512, .f32⟩
  | .local _ .vmem, ⟨36, _⟩ => ⟨S8x512, .f32⟩
  | .local _ .vmem, ⟨37, _⟩ => ⟨S8x512, .f32⟩
  | .local _ .vmem, ⟨38, _⟩ => ⟨S8x512, .f32⟩
  | .local _ .vmem, ⟨39, _⟩ => ⟨S8x512, .f32⟩
  | .local _ .vmem, ⟨40, _⟩ => ⟨S256x1024, .bf16⟩
  | .local _ .vmem, ⟨41, _⟩ => ⟨S256x1024, .bf16⟩
  | .local _ .vmem, ⟨42, _⟩ => ⟨S256x512, .bf16⟩
  | .local _ .vmem, ⟨43, _⟩ => ⟨S256x512, .bf16⟩
  | .local _ .vmem, ⟨44, _⟩ => ⟨S256x512, .bf16⟩
  | .local _ .vmem, ⟨45, _⟩ => ⟨S256x512, .bf16⟩
  | .local _ .vmem, ⟨46, _⟩ => ⟨S256x512, .bf16⟩
  | .local _ .vmem, ⟨47, _⟩ => ⟨S256x512, .bf16⟩
  | .local _ .vmem, ⟨48, _⟩ => ⟨S256x3072, .bf16⟩
  | .local _ .vmem, ⟨49, _⟩ => ⟨S256x3072, .bf16⟩
  | .local _ .vmem, ⟨50, _⟩ => ⟨S1x1024, .f32⟩
  | .local _ .vmem, ⟨51, _⟩ => ⟨S4x1024, .f32⟩
  | .local _ .vmem, ⟨52, _⟩ => ⟨S3x512, .f32⟩
  | .local _ .vmem, ⟨53, _⟩ => ⟨S7680x1024, .bf16⟩
  | .local _ .vmem, ⟨54, _⟩ => ⟨S256x1024, .f32⟩
  | .local _ .vmem, ⟨55, _⟩ => ⟨S256x1024, .f32⟩
  | .local _ .vmem, ⟨56, _⟩ => ⟨S256x7680, .bf16⟩
  | .local _ .vmem, ⟨57, _⟩ => ⟨S256x7680, .bf16⟩
  | .local _ .vmem, ⟨58, _⟩ => ⟨S1x1024, .f32⟩
  | .local _ .vmem, ⟨59, _⟩ => ⟨S4x1024, .f32⟩
  | .local _ .vmem, ⟨60, _⟩ => ⟨S1x1024, .f32⟩
  | .local _ .vmem, ⟨61, _⟩ => ⟨S3x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v26_3 : Ref sig .tc := ⟨.hbm, 46, rfl⟩
abbrev main_v26_4 : Ref sig .tc := ⟨.hbm, 47, rfl⟩
abbrev main_v26_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg26_0 : Ref sig .tc := ⟨.vmem, 51, rfl⟩
abbrev cc0_stg27_0 : Ref sig .tc := ⟨.vmem, 52, rfl⟩
abbrev cc0_stg28_0 : Ref sig .tc := ⟨.vmem, 53, rfl⟩
abbrev cc0_stg29_0 : Ref sig .tc := ⟨.vmem, 54, rfl⟩
abbrev cc0_stg29_1 : Ref sig .tc := ⟨.vmem, 55, rfl⟩
abbrev cc0_stg30_0 : Ref sig .tc := ⟨.vmem, 56, rfl⟩
abbrev cc0_stg30_1 : Ref sig .tc := ⟨.vmem, 57, rfl⟩
abbrev cc0_stg31_0 : Ref sig .tc := ⟨.vmem, 58, rfl⟩
abbrev cc0_stg32_0 : Ref sig .tc := ⟨.vmem, 59, rfl⟩
abbrev cc0_stg33_0 : Ref sig .tc := ⟨.vmem, 60, rfl⟩
abbrev cc0_stg34_0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem26_0 : DmaSem sig := 51
abbrev cc0_sem27_0 : DmaSem sig := 52
abbrev cc0_sem28_0 : DmaSem sig := 53
abbrev cc0_sem29_0 : DmaSem sig := 54
abbrev cc0_sem29_1 : DmaSem sig := 55
abbrev cc0_sem30_0 : DmaSem sig := 56
abbrev cc0_sem30_1 : DmaSem sig := 57
abbrev cc0_sem31_0 : DmaSem sig := 58
abbrev cc0_sem32_0 : DmaSem sig := 59
abbrev cc0_sem33_0 : DmaSem sig := 60
abbrev cc0_sem34_0 : DmaSem sig := 61

abbrev nD : Nat := 1
abbrev τ : Topo := Topo.v7x

variable {F : FTy → Type} [FloatOps F]

abbrev grid0 : Pipeline.Grid := ⟨1, ![64], ![false]⟩

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v376 : BitVec 32 := Scalar.extui v0
  let c0_i32_153 : BitVec 32 := 0#32
  let v377 : BitVec 1 := Scalar.cmpi .ne v376 c0_i32_153
  v377

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_154 : BitVec 1 := 1#1
  let v378 : BitVec 1 := Scalar.xori v0 true_154
  let v379 : BitVec 32 := Scalar.extui v378
  let c0_i32_155 : BitVec 32 := 0#32
  let v380 : BitVec 1 := Scalar.cmpi .ne v379 c0_i32_155
  v380

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v131 : BitVec 32 := Scalar.extui v0
  let c0_i32_40 : BitVec 32 := 0#32
  let v132 : BitVec 1 := Scalar.cmpi .ne v131 c0_i32_40
  v132

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_41 : BitVec 1 := 1#1
  let v133 : BitVec 1 := Scalar.xori v0 true_41
  let v134 : BitVec 32 := Scalar.extui v133
  let c0_i32_42 : BitVec 32 := 0#32
  let v135 : BitVec 1 := Scalar.cmpi .ne v134 c0_i32_42
  v135

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v152 : BitVec 32 := Scalar.extui v0
  let c0_i32_46 : BitVec 32 := 0#32
  let v153 : BitVec 1 := Scalar.cmpi .ne v152 c0_i32_46
  v153

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_47 : BitVec 1 := 1#1
  let v154 : BitVec 1 := Scalar.xori v0 true_47
  let v155 : BitVec 32 := Scalar.extui v154
  let c0_i32_48 : BitVec 32 := 0#32
  let v156 : BitVec 1 := Scalar.cmpi .ne v155 c0_i32_48
  v156

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v160 : BitVec 32 := Scalar.extui v0
  let c0_i32_50 : BitVec 32 := 0#32
  let v161 : BitVec 1 := Scalar.cmpi .ne v160 c0_i32_50
  v161

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_51 : BitVec 1 := 1#1
  let v162 : BitVec 1 := Scalar.xori v0 true_51
  let v163 : BitVec 32 := Scalar.extui v162
  let c0_i32_52 : BitVec 32 := 0#32
  let v164 : BitVec 1 := Scalar.cmpi .ne v163 c0_i32_52
  v164

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v181 : BitVec 32 := Scalar.extui v0
  let c0_i32_56 : BitVec 32 := 0#32
  let v182 : BitVec 1 := Scalar.cmpi .ne v181 c0_i32_56
  v182

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v183 : BitVec 1 := Scalar.xori v0 true_57
  let v184 : BitVec 32 := Scalar.extui v183
  let c0_i32_58 : BitVec 32 := 0#32
  let v185 : BitVec 1 := Scalar.cmpi .ne v184 c0_i32_58
  v185

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v102 : BitVec 32 := Scalar.extui v0
  let c0_i32_35 : BitVec 32 := 0#32
  let v103 : BitVec 1 := Scalar.cmpi .ne v102 c0_i32_35
  v103

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v104 : BitVec 1 := Scalar.xori v0 v_true
  let v105 : BitVec 32 := Scalar.extui v104
  let c0_i32_36 : BitVec 32 := 0#32
  let v106 : BitVec 1 := Scalar.cmpi .ne v105 c0_i32_36
  v106

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v294 : BitVec 32 := Scalar.extui v0
  let c0_i32_104 : BitVec 32 := 0#32
  let v295 : BitVec 1 := Scalar.cmpi .ne v294 c0_i32_104
  v295

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_105 : BitVec 1 := 1#1
  let v296 : BitVec 1 := Scalar.xori v0 true_105
  let v297 : BitVec 32 := Scalar.extui v296
  let c0_i32_106 : BitVec 32 := 0#32
  let v298 : BitVec 1 := Scalar.cmpi .ne v297 c0_i32_106
  v298

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v302 : BitVec 32 := Scalar.extui v0
  let c0_i32_108 : BitVec 32 := 0#32
  let v303 : BitVec 1 := Scalar.cmpi .ne v302 c0_i32_108
  v303

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_109 : BitVec 1 := 1#1
  let v304 : BitVec 1 := Scalar.xori v0 true_109
  let v305 : BitVec 32 := Scalar.extui v304
  let c0_i32_110 : BitVec 32 := 0#32
  let v306 : BitVec 1 := Scalar.cmpi .ne v305 c0_i32_110
  v306

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v310 : BitVec 32 := Scalar.extui v0
  let c0_i32_112 : BitVec 32 := 0#32
  let v311 : BitVec 1 := Scalar.cmpi .ne v310 c0_i32_112
  v311

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_113 : BitVec 1 := 1#1
  let v312 : BitVec 1 := Scalar.xori v0 true_113
  let v313 : BitVec 32 := Scalar.extui v312
  let c0_i32_114 : BitVec 32 := 0#32
  let v314 : BitVec 1 := Scalar.cmpi .ne v313 c0_i32_114
  v314

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S4x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S3x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S7680x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S256x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x7680 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S4x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S3x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== MixInRefIdeal.lean ====
abbrev S1x16384x1024 : Shape := ⟨3, ![1, 16384, 1024]⟩
abbrev S1024 : Shape := ⟨1, ![1024]⟩
abbrev S1024x7680 : Shape := ⟨2, ![1024, 7680]⟩
abbrev S4x1024 : Shape := ⟨2, ![4, 1024]⟩
abbrev S3x512 : Shape := ⟨2, ![3, 512]⟩
abbrev S16384x1024 : Shape := ⟨2, ![16384, 1024]⟩
abbrev S16384x512 : Shape := ⟨2, ![16384, 512]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7680 : Shape := ⟨2, ![16384, 7680]⟩
abbrev S2x1024 : Shape := ⟨2, ![2, 1024]⟩
abbrev S16387x1024 : Shape := ⟨2, ![16387, 1024]⟩
abbrev S1x512 : Shape := ⟨2, ![1, 512]⟩
abbrev S16386x512 : Shape := ⟨2, ![16386, 512]⟩
abbrev S512 : Shape := ⟨1, ![512]⟩

abbrev nBuf : Space → Nat
  | .hbm => 271
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1024, .f32⟩
  | 3 => ⟨S1024x7680, .f32⟩
  | 4 => ⟨S4x1024, .f32⟩
  | 5 => ⟨S3x512, .f32⟩
  | 6 => ⟨S16384x1024, .f32⟩
  | 7 => ⟨S16384x1024, .f32⟩
  | 8 => ⟨S16384x512, .f32⟩
  | 9 => ⟨S16384x1024, .f32⟩
  | 10 => ⟨S16384x512, .f32⟩
  | 11 => ⟨S16384x512, .f32⟩
  | 12 => ⟨S16384x512, .f32⟩
  | 13 => ⟨S16384x3072, .f32⟩
  | 14 => ⟨S16384x1024, .f32⟩
  | 15 => ⟨S16384x1024, .f32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1024, .f32⟩
  | 31 => ⟨S16384x1024, .f32⟩
  | 32 => ⟨S1x1024, .f32⟩
  | 33 => ⟨S16384x1024, .f32⟩
  | 34 => ⟨S16384x1024, .f32⟩
  | 35 => ⟨S16384x7680, .f32⟩
  | 36 => ⟨S_, .f32⟩
  | 37 => ⟨S1024, .f32⟩
  | 38 => ⟨S16384x1024, .f32⟩
  | 39 => ⟨S16384x1024, .f32⟩
  | 40 => ⟨S16384x512, .f32⟩
  | 41 => ⟨S16384x512, .f32⟩
  | 42 => ⟨S16384x512, .f32⟩
  | 43 => ⟨S16384x512, .f32⟩
  | 44 => ⟨S16384x512, .f32⟩
  | 45 => ⟨S16384x3072, .f32⟩
  | 46 => ⟨S_, .f32⟩
  | 47 => ⟨S2x1024, .f32⟩
  | 48 => ⟨S_, .f32⟩
  | 49 => ⟨S1x1024, .f32⟩
  | 50 => ⟨S16387x1024, .f32⟩
  | 51 => ⟨S_, .f32⟩
  | 52 => ⟨S2x1024, .f32⟩
  | 53 => ⟨S_, .f32⟩
  | 54 => ⟨S1x1024, .f32⟩
  | 55 => ⟨S16384x1024, .f32⟩
  | 56 => ⟨S1x1024, .f32⟩
  | 57 => ⟨S1024, .f32⟩
  | 58 => ⟨S1x1024, .f32⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S16384x1024, .f32⟩
  | 65 => ⟨S1x1024, .f32⟩
  | 66 => ⟨S1024, .f32⟩
  | 67 => ⟨S1x1024, .f32⟩
  | 68 => ⟨S16384x1024, .f32⟩
  | 69 => ⟨S16384x1024, .f32⟩
  | 70 => ⟨S16384x1024, .f32⟩
  | 71 => ⟨S16384x1024, .f32⟩
  | 72 => ⟨S1x1024, .f32⟩
  | 73 => ⟨S1024, .f32⟩
  | 74 => ⟨S1x1024, .f32⟩
  | 75 => ⟨S16384x1024, .f32⟩
  | 76 => ⟨S16384x1024, .f32⟩
  | 77 => ⟨S16384x1024, .f32⟩
  | 78 => ⟨S16384x1024, .f32⟩
  | 79 => ⟨S1x1024, .f32⟩
  | 80 => ⟨S1024, .f32⟩
  | 81 => ⟨S1x1024, .f32⟩
  | 82 => ⟨S16384x1024, .f32⟩
  | 83 => ⟨S16384x1024, .f32⟩
  | 84 => ⟨S16384x1024, .f32⟩
  | 85 => ⟨S1x1024, .f32⟩
  | 86 => ⟨S16384x1024, .f32⟩
  | 87 => ⟨S16384x1024, .f32⟩
  | 88 => ⟨S16384x512, .f32⟩
  | 89 => ⟨S_, .f32⟩
  | 90 => ⟨S1x512, .f32⟩
  | 91 => ⟨S_, .f32⟩
  | 92 => ⟨S1x512, .f32⟩
  | 93 => ⟨S16386x512, .f32⟩
  | 94 => ⟨S_, .f32⟩
  | 95 => ⟨S1x512, .f32⟩
  | 96 => ⟨S_, .f32⟩
  | 97 => ⟨S1x512, .f32⟩
  | 98 => ⟨S16384x512, .f32⟩
  | 99 => ⟨S1x512, .f32⟩
  | 100 => ⟨S512, .f32⟩
  | 101 => ⟨S1x512, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S16384x512, .f32⟩
  | 108 => ⟨S1x512, .f32⟩
  | 109 => ⟨S512, .f32⟩
  | 110 => ⟨S1x512, .f32⟩
  | 111 => ⟨S16384x512, .f32⟩
  | 112 => ⟨S16384x512, .f32⟩
  | 113 => ⟨S16384x512, .f32⟩
  | 114 => ⟨S16384x512, .f32⟩
  | 115 => ⟨S1x512, .f32⟩
  | 116 => ⟨S512, .f32⟩
  | 117 => ⟨S1x512, .f32⟩
  | 118 => ⟨S16384x512, .f32⟩
  | 119 => ⟨S16384x512, .f32⟩
  | 120 => ⟨S16384x512, .f32⟩
  | 121 => ⟨S16384x1024, .f32⟩
  | 122 => ⟨S16384x512, .f32⟩
  | 123 => ⟨S16384x512, .f32⟩
  | 124 => ⟨S16384x512, .f32⟩
  | 125 => ⟨S_, .f32⟩
  | 126 => ⟨S512, .f32⟩
  | 127 => ⟨S1x512, .f32⟩
  | _ => ⟨S1x16384x1024, .f32⟩

abbrev hbmTy0_1 (i : Nat) : BufTy := match i % 128 with
  | 0 => ⟨S16384x512, .f32⟩
  | 1 => ⟨S16384x512, .f32⟩
  | 2 => ⟨S_, .f32⟩
  | 3 => ⟨S512, .f32⟩
  | 4 => ⟨S1x512, .f32⟩
  | 5 => ⟨S_, .f32⟩
  | 6 => ⟨S3x512, .f32⟩
  | 7 => ⟨S_, .f32⟩
  | 8 => ⟨S16386x512, .f32⟩
  | 9 => ⟨S16384x512, .f32⟩
  | 10 => ⟨S_, .f32⟩
  | 11 => ⟨S512, .f32⟩
  | 12 => ⟨S1x512, .f32⟩
  | 13 => ⟨S16384x512, .f32⟩
  | 14 => ⟨S16384x512, .f32⟩
  | 15 => ⟨S_, .f32⟩
  | 16 => ⟨S512, .f32⟩
  | 17 => ⟨S1x512, .f32⟩
  | 18 => ⟨S_, .f32⟩
  | 19 => ⟨S3x512, .f32⟩
  | 20 => ⟨S3x512, .f32⟩
  | 21 => ⟨S_, .f32⟩
  | 22 => ⟨S16386x512, .f32⟩
  | 23 => ⟨S16386x512, .f32⟩
  | 24 => ⟨S16384x512, .f32⟩
  | 25 => ⟨S_, .f32⟩
  | 26 => ⟨S512, .f32⟩
  | 27 => ⟨S1x512, .f32⟩
  | 28 => ⟨S16384x512, .f32⟩
  | 29 => ⟨S16384x512, .f32⟩
  | 30 => ⟨S_, .f32⟩
  | 31 => ⟨S512, .f32⟩
  | 32 => ⟨S1x512, .f32⟩
  | 33 => ⟨S_, .f32⟩
  | 34 => ⟨S3x512, .f32⟩
  | 35 => ⟨S3x512, .f32⟩
  | 36 => ⟨S_, .f32⟩
  | 37 => ⟨S16386x512, .f32⟩
  | 38 => ⟨S16386x512, .f32⟩
  | 39 => ⟨S1x512, .f32⟩
  | 40 => ⟨S16384x512, .f32⟩
  | 41 => ⟨S1x512, .f32⟩
  | 42 => ⟨S16384x512, .f32⟩
  | 43 => ⟨S16384x512, .f32⟩
  | 44 => ⟨S16384x1024, .f32⟩
  | 45 => ⟨S_, .f32⟩
  | 46 => ⟨S1024, .f32⟩
  | 47 => ⟨S1x1024, .f32⟩
  | 48 => ⟨S_, .f32⟩
  | 49 => ⟨S1024, .f32⟩
  | 50 => ⟨S16384x1024, .f32⟩
  | 51 => ⟨S_, .f32⟩
  | 52 => ⟨S1024, .f32⟩
  | 53 => ⟨S1x1024, .f32⟩
  | 54 => ⟨S16384x1024, .f32⟩
  | 55 => ⟨S16384x1024, .f32⟩
  | 56 => ⟨S_, .f32⟩
  | 57 => ⟨S1024, .f32⟩
  | 58 => ⟨S1x1024, .f32⟩
  | 59 => ⟨S_, .f32⟩
  | 60 => ⟨S4x1024, .f32⟩
  | 61 => ⟨S_, .f32⟩
  | 62 => ⟨S16387x1024, .f32⟩
  | 63 => ⟨S16384x1024, .f32⟩
  | 64 => ⟨S_, .f32⟩
  | 65 => ⟨S1024, .f32⟩
  | 66 => ⟨S1x1024, .f32⟩
  | 67 => ⟨S16384x1024, .f32⟩
  | 68 => ⟨S16384x1024, .f32⟩
  | 69 => ⟨S_, .f32⟩
  | 70 => ⟨S1024, .f32⟩
  | 71 => ⟨S1x1024, .f32⟩
  | 72 => ⟨S_, .f32⟩
  | 73 => ⟨S4x1024, .f32⟩
  | 74 => ⟨S4x1024, .f32⟩
  | 75 => ⟨S_, .f32⟩
  | 76 => ⟨S16387x1024, .f32⟩
  | 77 => ⟨S16387x1024, .f32⟩
  | 78 => ⟨S16384x1024, .f32⟩
  | 79 => ⟨S_, .f32⟩
  | 80 => ⟨S1024, .f32⟩
  | 81 => ⟨S1x1024, .f32⟩
  | 82 => ⟨S16384x1024, .f32⟩
  | 83 => ⟨S16384x1024, .f32⟩
  | 84 => ⟨S_, .f32⟩
  | 85 => ⟨S1024, .f32⟩
  | 86 => ⟨S1x1024, .f32⟩
  | 87 => ⟨S_, .f32⟩
  | 88 => ⟨S4x1024, .f32⟩
  | 89 => ⟨S4x1024, .f32⟩
  | 90 => ⟨S_, .f32⟩
  | 91 => ⟨S16387x1024, .f32⟩
  | 92 => ⟨S16387x1024, .f32⟩
  | 93 => ⟨S16384x1024, .f32⟩
  | 94 => ⟨S_, .f32⟩
  | 95 => ⟨S1024, .f32⟩
  | 96 => ⟨S1x1024, .f32⟩
  | 97 => ⟨S16384x1024, .f32⟩
  | 98 => ⟨S16384x1024, .f32⟩
  | 99 => ⟨S_, .f32⟩
  | 100 => ⟨S1024, .f32⟩
  | 101 => ⟨S1x1024, .f32⟩
  | 102 => ⟨S_, .f32⟩
  | 103 => ⟨S4x1024, .f32⟩
  | 104 => ⟨S4x1024, .f32⟩
  | 105 => ⟨S_, .f32⟩
  | 106 => ⟨S16387x1024, .f32⟩
  | 107 => ⟨S16387x1024, .f32⟩
  | 108 => ⟨S2x1024, .f32⟩
  | 109 => ⟨S16384x1024, .f32⟩
  | 110 => ⟨S1x1024, .f32⟩
  | 111 => ⟨S16384x7680, .f32⟩
  | 112 => ⟨S16384x1024, .f32⟩
  | 113 => ⟨S16384x1024, .f32⟩
  | 114 => ⟨S16384x1024, .f32⟩
  | 115 => ⟨S_, .f32⟩
  | 116 => ⟨S1024, .f32⟩
  | 117 => ⟨S1x1024, .f32⟩
  | 118 => ⟨S16384x1024, .f32⟩
  | 119 => ⟨S16384x1024, .f32⟩
  | 120 => ⟨S_, .f32⟩
  | 121 => ⟨S1024, .f32⟩
  | 122 => ⟨S16384x1024, .f32⟩
  | 123 => ⟨S_, .f32⟩
  | 124 => ⟨S16384, .f32⟩
  | 125 => ⟨S16384x1, .f32⟩
  | 126 => ⟨S16384x1024, .f32⟩
  | 127 => ⟨S16384x1024, .f32⟩
  | _ => ⟨S1x16384x1024, .f32⟩

abbrev hbmTy0_2 (i : Nat) : BufTy := match i % 128 with
  | 0 => ⟨S16384x1024, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x7680, .bf16⟩
  | 13 => ⟨S1x1024, .f32⟩
  | 14 => ⟨S1x1024, .f32⟩
  | _ => ⟨S1x16384x1024, .f32⟩

abbrev hbmTy (i : Nat) : BufTy := match i / 128 with
  | 0 => hbmTy0_0 i
  | 1 => hbmTy0_1 i
  | 2 => hbmTy0_2 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_15 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_cst_17 : Ref sig .tc := ⟨.hbm, 135, rfl⟩
abbrev main_v103 : Ref sig .tc := ⟨.hbm, 136, rfl⟩
abbrev main_v104 : Ref sig .tc := ⟨.hbm, 137, rfl⟩
abbrev main_cst_18 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_19 : Ref sig .tc := ⟨.hbm, 143, rfl⟩
abbrev main_v109 : Ref sig .tc := ⟨.hbm, 144, rfl⟩
abbrev main_v110 : Ref sig .tc := ⟨.hbm, 145, rfl⟩
abbrev main_cst_20 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_22 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_v121 : Ref sig .tc := ⟨.hbm, 160, rfl⟩
abbrev main_cst_24 : Ref sig .tc := ⟨.hbm, 161, rfl⟩
abbrev main_v122 : Ref sig .tc := ⟨.hbm, 162, rfl⟩
abbrev main_v123 : Ref sig .tc := ⟨.hbm, 163, rfl⟩
abbrev main_cst_25 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_26 : Ref sig .tc := ⟨.hbm, 173, rfl⟩
abbrev main_v132 : Ref sig .tc := ⟨.hbm, 174, rfl⟩
abbrev main_v133 : Ref sig .tc := ⟨.hbm, 175, rfl⟩
abbrev main_cst_27 : Ref sig .tc := ⟨.hbm, 176, rfl⟩
abbrev main_v134 : Ref sig .tc := ⟨.hbm, 177, rfl⟩
abbrev main_v135 : Ref sig .tc := ⟨.hbm, 178, rfl⟩
abbrev main_cst_28 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_29 : Ref sig .tc := ⟨.hbm, 184, rfl⟩
abbrev main_v140 : Ref sig .tc := ⟨.hbm, 185, rfl⟩
abbrev main_v141 : Ref sig .tc := ⟨.hbm, 186, rfl⟩
abbrev main_cst_30 : Ref sig .tc := ⟨.hbm, 187, rfl⟩
abbrev main_v142 : Ref sig .tc := ⟨.hbm, 188, rfl⟩
abbrev main_cst_31 : Ref sig .tc := ⟨.hbm, 189, rfl⟩
abbrev main_v143 : Ref sig .tc := ⟨.hbm, 190, rfl⟩
abbrev main_v144 : Ref sig .tc := ⟨.hbm, 191, rfl⟩
abbrev main_cst_32 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_33 : Ref sig .tc := ⟨.hbm, 197, rfl⟩
abbrev main_v149 : Ref sig .tc := ⟨.hbm, 198, rfl⟩
abbrev main_v150 : Ref sig .tc := ⟨.hbm, 199, rfl⟩
abbrev main_cst_34 : Ref sig .tc := ⟨.hbm, 200, rfl⟩
abbrev main_v151 : Ref sig .tc := ⟨.hbm, 201, rfl⟩
abbrev main_v152 : Ref sig .tc := ⟨.hbm, 202, rfl⟩
abbrev main_cst_35 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_36 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_37 : Ref sig .tc := ⟨.hbm, 212, rfl⟩
abbrev main_v160 : Ref sig .tc := ⟨.hbm, 213, rfl⟩
abbrev main_v161 : Ref sig .tc := ⟨.hbm, 214, rfl⟩
abbrev main_cst_38 : Ref sig .tc := ⟨.hbm, 215, rfl⟩
abbrev main_v162 : Ref sig .tc := ⟨.hbm, 216, rfl⟩
abbrev main_v163 : Ref sig .tc := ⟨.hbm, 217, rfl⟩
abbrev main_cst_39 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_40 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_cst_41 : Ref sig .tc := ⟨.hbm, 227, rfl⟩
abbrev main_v171 : Ref sig .tc := ⟨.hbm, 228, rfl⟩
abbrev main_v172 : Ref sig .tc := ⟨.hbm, 229, rfl⟩
abbrev main_cst_42 : Ref sig .tc := ⟨.hbm, 230, rfl⟩
abbrev main_v173 : Ref sig .tc := ⟨.hbm, 231, rfl⟩
abbrev main_v174 : Ref sig .tc := ⟨.hbm, 232, rfl⟩
abbrev main_cst_43 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_44 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_45 : Ref sig .tc := ⟨.hbm, 248, rfl⟩
abbrev main_v188 : Ref sig .tc := ⟨.hbm, 249, rfl⟩
abbrev main_v189 : Ref sig .tc := ⟨.hbm, 250, rfl⟩
abbrev main_cst_46 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_47 : Ref sig .tc := ⟨.hbm, 258, rfl⟩
abbrev main_v196 : Ref sig .tc := ⟨.hbm, 259, rfl⟩
abbrev main_v197 : Ref sig .tc := ⟨.hbm, 260, rfl⟩
abbrev main_cst_48 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩

abbrev nD : Nat := 1
abbrev τ : Topo := Topo.v7x

variable {F : FTy → Type} [FloatOps F]
-- ==== MixOut.lean ====
abbrev S16384x1024 : Shape := ⟨2, ![16384, 1024]⟩
abbrev S16384x4608 : Shape := ⟨2, ![16384, 4608]⟩
abbrev S16384x3072 : Shape := ⟨2, ![16384, 3072]⟩
abbrev S1024x1024 : Shape := ⟨2, ![1024, 1024]⟩
abbrev S3x512 : Shape := ⟨2, ![3, 512]⟩
abbrev S512x1024 : Shape := ⟨2, ![512, 1024]⟩
abbrev S512 : Shape := ⟨1, ![512]⟩
abbrev S4x128x128 : Shape := ⟨3, ![4, 128, 128]⟩
abbrev S4x128 : Shape := ⟨2, ![4, 128]⟩
abbrev S1024 : Shape := ⟨1, ![1024]⟩
abbrev S_ : Shape := ⟨0, ![]⟩
abbrev S16384x512 : Shape := ⟨2, ![16384, 512]⟩
abbrev S1x512 : Shape := ⟨2, ![1, 512]⟩
abbrev S16386x512 : Shape := ⟨2, ![16386, 512]⟩
abbrev S16384 : Shape := ⟨1, ![16384]⟩
abbrev S16384x1 : Shape := ⟨2, ![16384, 1]⟩
abbrev S128x128x4x128 : Shape := ⟨4, ![128, 128, 4, 128]⟩
abbrev S4x128x128x128 : Shape := ⟨4, ![4, 128, 128, 128]⟩
abbrev S128x4 : Shape := ⟨2, ![128, 4]⟩
abbrev S128x4x1 : Shape := ⟨3, ![128, 4, 1]⟩
abbrev S1x128x4x1 : Shape := ⟨4, ![1, 128, 4, 1]⟩
abbrev S16384x3x1024 : Shape := ⟨3, ![16384, 3, 1024]⟩
abbrev S16384x1x1024 : Shape := ⟨3, ![16384, 1, 1024]⟩
abbrev S1x1024 : Shape := ⟨2, ![1, 1024]⟩
abbrev S256x1024 : Shape := ⟨2, ![256, 1024]⟩
abbrev S256x512 : Shape := ⟨2, ![256, 512]⟩
abbrev S16x512 : Shape := ⟨2, ![16, 512]⟩
abbrev S256x3072 : Shape := ⟨2, ![256, 3072]⟩
abbrev S256x1 : Shape := ⟨2, ![256, 1]⟩
abbrev S256 : Shape := ⟨1, ![256]⟩
abbrev S8x1 : Shape := ⟨2, ![8, 1]⟩
abbrev S8x512 : Shape := ⟨2, ![8, 512]⟩
abbrev S248x512 : Shape := ⟨2, ![248, 512]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 208
  | .vmem => 76
  | .smem => 0
  | _ => 0

abbrev hbmTy0_0 (i : Nat) : BufTy := match i % 128 with
  | 0 => ⟨S16384x1024, .f32⟩
  | 1 => ⟨S16384x4608, .f32⟩
  | 2 => ⟨S16384x3072, .f32⟩
  | 3 => ⟨S16384x1024, .f32⟩
  | 4 => ⟨S16384x1024, .f32⟩
  | 5 => ⟨S1024x1024, .f32⟩
  | 6 => ⟨S3x512, .f32⟩
  | 7 => ⟨S512x1024, .f32⟩
  | 8 => ⟨S512, .f32⟩
  | 9 => ⟨S512, .f32⟩
  | 10 => ⟨S4x128x128, .f32⟩
  | 11 => ⟨S4x128, .f32⟩
  | 12 => ⟨S512x1024, .f32⟩
  | 13 => ⟨S1024x1024, .f32⟩
  | 14 => ⟨S1024, .f32⟩
  | 15 => ⟨S16384x1024, .f32⟩
  | 16 => ⟨S16384x1024, .f32⟩
  | 17 => ⟨S_, .f32⟩
  | 18 => ⟨S_, .f32⟩
  | 19 => ⟨S_, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x512, .f32⟩
  | 39 => ⟨S16384x512, .f32⟩
  | 40 => ⟨S16384x512, .f32⟩
  | 41 => ⟨S16384x512, .f32⟩
  | 42 => ⟨S_, .f32⟩
  | 43 => ⟨S1x512, .f32⟩
  | 44 => ⟨S_, .f32⟩
  | 45 => ⟨S1x512, .f32⟩
  | 46 => ⟨S16386x512, .f32⟩
  | 47 => ⟨S16384x512, .f32⟩
  | 48 => ⟨S1x512, .f32⟩
  | 49 => ⟨S512, .f32⟩
  | 50 => ⟨S1x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S1x512, .f32⟩
  | 58 => ⟨S512, .f32⟩
  | 59 => ⟨S1x512, .f32⟩
  | 60 => ⟨S16384x512, .f32⟩
  | 61 => ⟨S16384x512, .f32⟩
  | 62 => ⟨S16384x512, .f32⟩
  | 63 => ⟨S16384x512, .f32⟩
  | 64 => ⟨S1x512, .f32⟩
  | 65 => ⟨S512, .f32⟩
  | 66 => ⟨S1x512, .f32⟩
  | 67 => ⟨S16384x512, .f32⟩
  | 68 => ⟨S16384x512, .f32⟩
  | 69 => ⟨S16384x512, .f32⟩
  | 70 => ⟨S16384x512, .f32⟩
  | 71 => ⟨S16384x1024, .f32⟩
  | 72 => ⟨S16384x512, .f32⟩
  | 73 => ⟨S16384x512, .f32⟩
  | 74 => ⟨S_, .f32⟩
  | 75 => ⟨S_, .f32⟩
  | 76 => ⟨S_, .f32⟩
  | 77 => ⟨S16384x512, .f32⟩
  | 78 => ⟨S16384x512, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S_, .f32⟩
  | 90 => ⟨S16384x512, .f32⟩
  | 91 => ⟨S16384x512, .f32⟩
  | 92 => ⟨S16384x512, .f32⟩
  | 93 => ⟨S_, .f32⟩
  | 94 => ⟨S_, .f32⟩
  | 95 => ⟨S_, .f32⟩
  | 96 => ⟨S16384x512, .f32⟩
  | 97 => ⟨S16384x512, .f32⟩
  | 98 => ⟨S16384x512, .f32⟩
  | 99 => ⟨S16384x512, .f32⟩
  | 100 => ⟨S16384x512, .f32⟩
  | 101 => ⟨S_, .f32⟩
  | 102 => ⟨S16384x512, .f32⟩
  | 103 => ⟨S16384x512, .f32⟩
  | 104 => ⟨S16384x512, .f32⟩
  | 105 => ⟨S_, .f32⟩
  | 106 => ⟨S16384x512, .f32⟩
  | 107 => ⟨S16384x512, .f32⟩
  | 108 => ⟨S_, .f32⟩
  | 109 => ⟨S16384x512, .f32⟩
  | 110 => ⟨S16384x512, .f32⟩
  | 111 => ⟨S16384x512, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S16384x512, .f32⟩
  | 119 => ⟨S16384x512, .f32⟩
  | 120 => ⟨S16384x512, .f32⟩
  | 121 => ⟨S_, .f32⟩
  | 122 => ⟨S16384, .f32⟩
  | 123 => ⟨S16384x1, .f32⟩
  | 124 => ⟨S_, .f32⟩
  | 125 => ⟨S16384x1, .f32⟩
  | 126 => ⟨S16384x1, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x1, .f32⟩
  | 3 => ⟨S16384x1, .f32⟩
  | 4 => ⟨S16384x1, .f32⟩
  | 5 => ⟨S16384x512, .f32⟩
  | 6 => ⟨S16384x512, .f32⟩
  | 7 => ⟨S1x512, .f32⟩
  | 8 => ⟨S16384x512, .f32⟩
  | 9 => ⟨S16384x512, .f32⟩
  | 10 => ⟨S1x512, .f32⟩
  | 11 => ⟨S16384x512, .f32⟩
  | 12 => ⟨S16384x512, .f32⟩
  | 13 => ⟨S128x128x4x128, .f32⟩
  | 14 => ⟨S4x128x128x128, .f32⟩
  | 15 => ⟨S128x128x4x128, .f32⟩
  | 16 => ⟨S128x4, .f32⟩
  | 17 => ⟨S128x4x1, .f32⟩
  | 18 => ⟨S1x128x4x1, .f32⟩
  | 19 => ⟨S128x128x4x128, .f32⟩
  | 20 => ⟨S128x128x4x128, .f32⟩
  | 21 => ⟨S16384x512, .f32⟩
  | 22 => ⟨S16384x512, .f32⟩
  | 23 => ⟨S16384x1024, .f32⟩
  | 24 => ⟨S16384x3072, .f32⟩
  | 25 => ⟨S16384x3072, .f32⟩
  | 26 => ⟨S_, .f32⟩
  | 27 => ⟨S16384x3072, .f32⟩
  | 28 => ⟨S16384x3072, .f32⟩
  | 29 => ⟨S_, .f32⟩
  | 30 => ⟨S16384x3072, .f32⟩
  | 31 => ⟨S16384x3072, .f32⟩
  | 32 => ⟨S16384x3x1024, .f32⟩
  | 33 => ⟨S16384x1x1024, .f32⟩
  | 34 => ⟨S16384x1024, .f32⟩
  | 35 => ⟨S16384x1024, .f32⟩
  | 36 => ⟨S16384x1x1024, .f32⟩
  | 37 => ⟨S16384x1024, .f32⟩
  | 38 => ⟨S16384x1024, .f32⟩
  | 39 => ⟨S16384x1024, .f32⟩
  | 40 => ⟨S16384x1x1024, .f32⟩
  | 41 => ⟨S16384x1024, .f32⟩
  | 42 => ⟨S16384x1024, .f32⟩
  | 43 => ⟨S16384x1024, .f32⟩
  | 44 => ⟨S16384x1024, .f32⟩
  | 45 => ⟨S16384x4608, .bf16⟩
  | 46 => ⟨S16384x3072, .bf16⟩
  | 47 => ⟨S16384x1024, .bf16⟩
  | 48 => ⟨S16384x1024, .bf16⟩
  | 49 => ⟨S16384x1024, .bf16⟩
  | 50 => ⟨S16384x1024, .bf16⟩
  | 51 => ⟨S16384x1024, .bf16⟩
  | 52 => ⟨S16384x1024, .bf16⟩
  | 53 => ⟨S1024x1024, .bf16⟩
  | 54 => ⟨S512x1024, .bf16⟩
  | 55 => ⟨S1x512, .f32⟩
  | 56 => ⟨S1x512, .f32⟩
  | 57 => ⟨S4x128x128, .bf16⟩
  | 58 => ⟨S4x128x128, .f32⟩
  | 59 => ⟨S4x128x128, .bf16⟩
  | 60 => ⟨S128x4, .f32⟩
  | 61 => ⟨S512x1024, .bf16⟩
  | 62 => ⟨S1024x1024, .bf16⟩
  | 63 => ⟨S1x1024, .f32⟩
  | 64 => ⟨S16384x1024, .bf16⟩
  | 65 => ⟨S16384x1024, .bf16⟩
  | 66 => ⟨S16384x1024, .bf16⟩
  | 67 => ⟨S16384x1024, .bf16⟩
  | 68 => ⟨S16384x1024, .bf16⟩
  | 69 => ⟨S16384x512, .bf16⟩
  | 70 => ⟨S16384x512, .bf16⟩
  | 71 => ⟨S16384x512, .bf16⟩
  | 72 => ⟨S16384x3072, .bf16⟩
  | 73 => ⟨S16384x1024, .f32⟩
  | 74 => ⟨S16384x512, .f32⟩
  | 75 => ⟨S1x1024, .f32⟩
  | 76 => ⟨S1x512, .f32⟩
  | 77 => ⟨S1x512, .f32⟩
  | 78 => ⟨S4x128x128, .f32⟩
  | 79 => ⟨S4x128x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S256x512, .bf16⟩
  | .local _ .vmem, ⟨13, _⟩ => ⟨S256x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x3072, .bf16⟩
  | .local _ .vmem, ⟨23, _⟩ => ⟨S256x3072, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1024x1024, .bf16⟩
  | .local _ .vmem, ⟨37, _⟩ => ⟨S3x512, .f32⟩
  | .local _ .vmem, ⟨38, _⟩ => ⟨S512x1024, .bf16⟩
  | .local _ .vmem, ⟨39, _⟩ => ⟨S1x512, .f32⟩
  | .local _ .vmem, ⟨40, _⟩ => ⟨S1x512, .f32⟩
  | .local _ .vmem, ⟨41, _⟩ => ⟨S4x128x128, .bf16⟩
  | .local _ .vmem, ⟨42, _⟩ => ⟨S4x128x128, .bf16⟩
  | .local _ .vmem, ⟨43, _⟩ => ⟨S128x4, .f32⟩
  | .local _ .vmem, ⟨44, _⟩ => ⟨S512x1024, .bf16⟩
  | .local _ .vmem, ⟨45, _⟩ => ⟨S1024x1024, .bf16⟩
  | .local _ .vmem, ⟨46, _⟩ => ⟨S1x1024, .f32⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S256x1024, .bf16⟩
  | .local _ .vmem, ⟨55, _⟩ => ⟨S256x1024, .bf16⟩
  | .local _ .vmem, ⟨56, _⟩ => ⟨S256x1024, .bf16⟩
  | .local _ .vmem, ⟨57, _⟩ => ⟨S256x512, .bf16⟩
  | .local _ .vmem, ⟨58, _⟩ => ⟨S256x512, .bf16⟩
  | .local _ .vmem, ⟨59, _⟩ => ⟨S256x512, .bf16⟩
  | .local _ .vmem, ⟨60, _⟩ => ⟨S256x512, .bf16⟩
  | .local _ .vmem, ⟨61, _⟩ => ⟨S256x512, .bf16⟩
  | .local _ .vmem, ⟨62, _⟩ => ⟨S256x512, .bf16⟩
  | .local _ .vmem, ⟨63, _⟩ => ⟨S256x3072, .bf16⟩
  | .local _ .vmem, ⟨64, _⟩ => ⟨S256x3072, .bf16⟩
  | .local _ .vmem, ⟨65, _⟩ => ⟨S256x1024, .f32⟩
  | .local _ .vmem, ⟨66, _⟩ => ⟨S256x1024, .f32⟩
  | .local _ .vmem, ⟨67, _⟩ => ⟨S256x512, .f32⟩
  | .local _ .vmem, ⟨68, _⟩ => ⟨S256x512, .f32⟩
  | .local _ .vmem, ⟨69, _⟩ => ⟨S1x1024, .f32⟩
  | .local _ .vmem, ⟨70, _⟩ => ⟨S1x512, .f32⟩
  | .local _ .vmem, ⟨71, _⟩ => ⟨S1x512, .f32⟩
  | .local _ .vmem, ⟨72, _⟩ => ⟨S4x128x128, .f32⟩
  | .local _ .vmem, ⟨73, _⟩ => ⟨S4x128x128, .f32⟩
  | .local _ .vmem, ⟨74, _⟩ => ⟨S256x512, .f32⟩
  | .local _ .vmem, ⟨75, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_cst_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_cst_20 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_21 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_22 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152_0 : Ref sig .tc := ⟨.hbm, 192, rfl⟩
abbrev main_v152_1 : Ref sig .tc := ⟨.hbm, 193, rfl⟩
abbrev main_v152_2 : Ref sig .tc := ⟨.hbm, 194, rfl⟩
abbrev main_v152_3 : Ref sig .tc := ⟨.hbm, 195, rfl⟩
abbrev main_v152_4 : Ref sig .tc := ⟨.hbm, 196, rfl⟩
abbrev main_v152_5 : Ref sig .tc := ⟨.hbm, 197, rfl⟩
abbrev main_v152_6 : Ref sig .tc := ⟨.hbm, 198, rfl⟩
abbrev main_v152_7 : Ref sig .tc := ⟨.hbm, 199, rfl⟩
abbrev main_v152_8 : Ref sig .tc := ⟨.hbm, 200, rfl⟩
abbrev main_v152_9 : Ref sig .tc := ⟨.hbm, 201, rfl⟩
abbrev main_v152_10 : Ref sig .tc := ⟨.hbm, 202, rfl⟩
abbrev main_v152_11 : Ref sig .tc := ⟨.hbm, 203, rfl⟩
abbrev main_v152_12 : Ref sig .tc := ⟨.hbm, 204, rfl⟩
abbrev main_v152_13 : Ref sig .tc := ⟨.hbm, 205, rfl⟩
abbrev main_v152_14 : Ref sig .tc := ⟨.hbm, 206, rfl⟩
abbrev main_v152_15 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg26_0 : Ref sig .tc := ⟨.vmem, 44, rfl⟩
abbrev cc0_stg27_0 : Ref sig .tc := ⟨.vmem, 45, rfl⟩
abbrev cc0_stg28_0 : Ref sig .tc := ⟨.vmem, 46, rfl⟩
abbrev cc0_stg29_0 : Ref sig .tc := ⟨.vmem, 47, rfl⟩
abbrev cc0_stg29_1 : Ref sig .tc := ⟨.vmem, 48, rfl⟩
abbrev cc0_stg30_0 : Ref sig .tc := ⟨.vmem, 49, rfl⟩
abbrev cc0_stg30_1 : Ref sig .tc := ⟨.vmem, 50, rfl⟩
abbrev cc0_stg31_0 : Ref sig .tc := ⟨.vmem, 51, rfl⟩
abbrev cc0_stg31_1 : Ref sig .tc := ⟨.vmem, 52, rfl⟩
abbrev cc0_stg32_0 : Ref sig .tc := ⟨.vmem, 53, rfl⟩
abbrev cc0_stg32_1 : Ref sig .tc := ⟨.vmem, 54, rfl⟩
abbrev cc0_stg33_0 : Ref sig .tc := ⟨.vmem, 55, rfl⟩
abbrev cc0_stg33_1 : Ref sig .tc := ⟨.vmem, 56, rfl⟩
abbrev cc0_stg34_0 : Ref sig .tc := ⟨.vmem, 57, rfl⟩
abbrev cc0_stg34_1 : Ref sig .tc := ⟨.vmem, 58, rfl⟩
abbrev cc0_stg35_0 : Ref sig .tc := ⟨.vmem, 59, rfl⟩
abbrev cc0_stg35_1 : Ref sig .tc := ⟨.vmem, 60, rfl⟩
abbrev cc0_stg36_0 : Ref sig .tc := ⟨.vmem, 61, rfl⟩
abbrev cc0_stg36_1 : Ref sig .tc := ⟨.vmem, 62, rfl⟩
abbrev cc0_stg37_0 : Ref sig .tc := ⟨.vmem, 63, rfl⟩
abbrev cc0_stg37_1 : Ref sig .tc := ⟨.vmem, 64, rfl⟩
abbrev cc0_stg38_0 : Ref sig .tc := ⟨.vmem, 65, rfl⟩
abbrev cc0_stg38_1 : Ref sig .tc := ⟨.vmem, 66, rfl⟩
abbrev cc0_stg39_0 : Ref sig .tc := ⟨.vmem, 67, rfl⟩
abbrev cc0_stg39_1 : Ref sig .tc := ⟨.vmem, 68, rfl⟩
abbrev cc0_stg40_0 : Ref sig .tc := ⟨.vmem, 69, rfl⟩
abbrev cc0_stg41_0 : Ref sig .tc := ⟨.vmem, 70, rfl⟩
abbrev cc0_stg42_0 : Ref sig .tc := ⟨.vmem, 71, rfl⟩
abbrev cc0_stg43_0 : Ref sig .tc := ⟨.vmem, 72, rfl⟩
abbrev cc0_stg44_0 : Ref sig .tc := ⟨.vmem, 73, rfl⟩
abbrev cc0_scratch0 : Ref sig .tc := ⟨.vmem, 74, rfl⟩
abbrev cc0_scratch1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem26_0 : DmaSem sig := 44
abbrev cc0_sem27_0 : DmaSem sig := 45
abbrev cc0_sem28_0 : DmaSem sig := 46
abbrev cc0_sem29_0 : DmaSem sig := 47
abbrev cc0_sem29_1 : DmaSem sig := 48
abbrev cc0_sem30_0 : DmaSem sig := 49
abbrev cc0_sem30_1 : DmaSem sig := 50
abbrev cc0_sem31_0 : DmaSem sig := 51
abbrev cc0_sem31_1 : DmaSem sig := 52
abbrev cc0_sem32_0 : DmaSem sig := 53
abbrev cc0_sem32_1 : DmaSem sig := 54
abbrev cc0_sem33_0 : DmaSem sig := 55
abbrev cc0_sem33_1 : DmaSem sig := 56
abbrev cc0_sem34_0 : DmaSem sig := 57
abbrev cc0_sem34_1 : DmaSem sig := 58
abbrev cc0_sem35_0 : DmaSem sig := 59
abbrev cc0_sem35_1 : DmaSem sig := 60
abbrev cc0_sem36_0 : DmaSem sig := 61
abbrev cc0_sem36_1 : DmaSem sig := 62
abbrev cc0_sem37_0 : DmaSem sig := 63
abbrev cc0_sem37_1 : DmaSem sig := 64
abbrev cc0_sem38_0 : DmaSem sig := 65
abbrev cc0_sem38_1 : DmaSem sig := 66
abbrev cc0_sem39_0 : DmaSem sig := 67
abbrev cc0_sem39_1 : DmaSem sig := 68
abbrev cc0_sem40_0 : DmaSem sig := 69
abbrev cc0_sem41_0 : DmaSem sig := 70
abbrev cc0_sem42_0 : DmaSem sig := 71
abbrev cc0_sem43_0 : DmaSem sig := 72
abbrev cc0_sem44_0 : DmaSem sig := 73

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v33 : BitVec 32 := Scalar.extui v0
  let c0_i32_10 : BitVec 32 := 0#32
  let v34 : BitVec 1 := Scalar.cmpi .ne v33 c0_i32_10
  v34

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v35 : BitVec 1 := Scalar.xori v0 v_true
  let v36 : BitVec 32 := Scalar.extui v35
  let c0_i32_11 : BitVec 32 := 0#32
  let v37 : BitVec 1 := Scalar.cmpi .ne v36 c0_i32_11
  v37

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v593 : BitVec 32 := Scalar.extui v0
  let c0_i32_315 : BitVec 32 := 0#32
  let v594 : BitVec 1 := Scalar.cmpi .ne v593 c0_i32_315
  v594

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_316 : BitVec 1 := 1#1
  let v595 : BitVec 1 := Scalar.xori v0 true_316
  let v596 : BitVec 32 := Scalar.extui v595
  let c0_i32_317 : BitVec 32 := 0#32
  let v597 : BitVec 1 := Scalar.cmpi .ne v596 c0_i32_317
  v597

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v600 : BitVec 32 := Scalar.extui v0
  let c0_i32_319 : BitVec 32 := 0#32
  let v601 : BitVec 1 := Scalar.cmpi .ne v600 c0_i32_319
  v601

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_320 : BitVec 1 := 1#1
  let v602 : BitVec 1 := Scalar.xori v0 true_320
  let v603 : BitVec 32 := Scalar.extui v602
  let c0_i32_321 : BitVec 32 := 0#32
  let v604 : BitVec 1 := Scalar.cmpi .ne v603 c0_i32_321
  v604

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v544 : BitVec 32 := Scalar.extui v0
  let c0_i32_271 : BitVec 32 := 0#32
  let v545 : BitVec 1 := Scalar.cmpi .ne v544 c0_i32_271
  v545

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_272 : BitVec 1 := 1#1
  let v546 : BitVec 1 := Scalar.xori v0 true_272
  let v547 : BitVec 32 := Scalar.extui v546
  let c0_i32_274 : BitVec 32 := 0#32
  let v548 : BitVec 1 := Scalar.cmpi .ne v547 c0_i32_274
  v548

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v554 : BitVec 32 := Scalar.extui v0
  let c0_i32_281 : BitVec 32 := 0#32
  let v555 : BitVec 1 := Scalar.cmpi .ne v554 c0_i32_281
  v555

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_282 : BitVec 1 := 1#1
  let v556 : BitVec 1 := Scalar.xori v0 true_282
  let v557 : BitVec 32 := Scalar.extui v556
  let c0_i32_284 : BitVec 32 := 0#32
  let v558 : BitVec 1 := Scalar.cmpi .ne v557 c0_i32_284
  v558

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v564 : BitVec 32 := Scalar.extui v0
  let c0_i32_290 : BitVec 32 := 0#32
  let v565 : BitVec 1 := Scalar.cmpi .ne v564 c0_i32_290
  v565

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_291 : BitVec 1 := 1#1
  let v566 : BitVec 1 := Scalar.xori v0 true_291
  let v567 : BitVec 32 := Scalar.extui v566
  let c0_i32_293 : BitVec 32 := 0#32
  let v568 : BitVec 1 := Scalar.cmpi .ne v567 c0_i32_293
  v568

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v574 : BitVec 32 := Scalar.extui v0
  let c0_i32_299 : BitVec 32 := 0#32
  let v575 : BitVec 1 := Scalar.cmpi .ne v574 c0_i32_299
  v575

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_300 : BitVec 1 := 1#1
  let v576 : BitVec 1 := Scalar.xori v0 true_300
  let v577 : BitVec 32 := Scalar.extui v576
  let c0_i32_302 : BitVec 32 := 0#32
  let v578 : BitVec 1 := Scalar.cmpi .ne v577 c0_i32_302
  v578

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v549 : BitVec 32 := Scalar.extui v0
  let c0_i32_276 : BitVec 32 := 0#32
  let v550 : BitVec 1 := Scalar.cmpi .ne v549 c0_i32_276
  v550

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_277 : BitVec 1 := 1#1
  let v551 : BitVec 1 := Scalar.xori v0 true_277
  let v552 : BitVec 32 := Scalar.extui v551
  let c0_i32_279 : BitVec 32 := 0#32
  let v553 : BitVec 1 := Scalar.cmpi .ne v552 c0_i32_279
  v553

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v559 : BitVec 32 := Scalar.extui v0
  let c0_i32_286 : BitVec 32 := 0#32
  let v560 : BitVec 1 := Scalar.cmpi .ne v559 c0_i32_286
  v560

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_287 : BitVec 1 := 1#1
  let v561 : BitVec 1 := Scalar.xori v0 true_287
  let v562 : BitVec 32 := Scalar.extui v561
  let c0_i32_289 : BitVec 32 := 0#32
  let v563 : BitVec 1 := Scalar.cmpi .ne v562 c0_i32_289
  v563

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v569 : BitVec 32 := Scalar.extui v0
  let c0_i32_295 : BitVec 32 := 0#32
  let v570 : BitVec 1 := Scalar.cmpi .ne v569 c0_i32_295
  v570

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_296 : BitVec 1 := 1#1
  let v571 : BitVec 1 := Scalar.xori v0 true_296
  let v572 : BitVec 32 := Scalar.extui v571
  let c0_i32_298 : BitVec 32 := 0#32
  let v573 : BitVec 1 := Scalar.cmpi .ne v572 c0_i32_298
  v573

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v579 : BitVec 32 := Scalar.extui v0
  let c0_i32_304 : BitVec 32 := 0#32
  let v580 : BitVec 1 := Scalar.cmpi .ne v579 c0_i32_304
  v580

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_305 : BitVec 1 := 1#1
  let v581 : BitVec 1 := Scalar.xori v0 true_305
  let v582 : BitVec 32 := Scalar.extui v581
  let c0_i32_307 : BitVec 32 := 0#32
  let v583 : BitVec 1 := Scalar.cmpi .ne v582 c0_i32_307
  v583

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_44 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1024x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S256x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x1024 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S256x1024 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S256x512 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S256x512 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S256x512 .bf16 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S256x3072 .bf16 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S256x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S256x512 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S1x512 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S1x512 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S4x128x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]

abbrev stage0_44 : Fin 1 → Memref sig .tc .vmem S4x128x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]
-- ==== MixOutIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixOutRefIdeal.lean ====
abbrev S16384x1024 : Shape := ⟨2, ![16384, 1024]⟩
abbrev S16384x4608 : Shape := ⟨2, ![16384, 4608]⟩
abbrev S16384x3072 : Shape := ⟨2, ![16384, 3072]⟩
abbrev S1024x1024 : Shape := ⟨2, ![1024, 1024]⟩
abbrev S3x512 : Shape := ⟨2, ![3, 512]⟩
abbrev S512x1024 : Shape := ⟨2, ![512, 1024]⟩
abbrev S512 : Shape := ⟨1, ![512]⟩
abbrev S4x128x128 : Shape := ⟨3, ![4, 128, 128]⟩
abbrev S4x128 : Shape := ⟨2, ![4, 128]⟩
abbrev S1024 : Shape := ⟨1, ![1024]⟩
abbrev S16384x512 : Shape := ⟨2, ![16384, 512]⟩
abbrev S_ : Shape := ⟨0, ![]⟩
abbrev S1x512 : Shape := ⟨2, ![1, 512]⟩
abbrev S16386x512 : Shape := ⟨2, ![16386, 512]⟩
abbrev S16384 : Shape := ⟨1, ![16384]⟩
abbrev S16384x1 : Shape := ⟨2, ![16384, 1]⟩
abbrev S128x128x4x128 : Shape := ⟨4, ![128, 128, 4, 128]⟩
abbrev S4x128x128x128 : Shape := ⟨4, ![4, 128, 128, 128]⟩
abbrev S128x4 : Shape := ⟨2, ![128, 4]⟩
abbrev S128x4x1 : Shape := ⟨3, ![128, 4, 1]⟩
abbrev S1x128x4x1 : Shape := ⟨4, ![1, 128, 4, 1]⟩
abbrev S16384x3x1024 : Shape := ⟨3, ![16384, 3, 1024]⟩
abbrev S16384x1x1024 : Shape := ⟨3, ![16384, 1, 1024]⟩
abbrev S1x1024 : Shape := ⟨2, ![1, 1024]⟩

abbrev nBuf : Space → Nat
  | .hbm => 387
  | .vmem => 0
  | .smem => 0
  | _ => 0

abbrev hbmTy0_0 (i : Nat) : BufTy := match i % 128 with
  | 0 => ⟨S16384x1024, .f32⟩
  | 1 => ⟨S16384x4608, .f32⟩
  | 2 => ⟨S16384x3072, .f32⟩
  | 3 => ⟨S16384x1024, .f32⟩
  | 4 => ⟨S16384x1024, .f32⟩
  | 5 => ⟨S1024x1024, .f32⟩
  | 6 => ⟨S3x512, .f32⟩
  | 7 => ⟨S512x1024, .f32⟩
  | 8 => ⟨S512, .f32⟩
  | 9 => ⟨S512, .f32⟩
  | 10 => ⟨S4x128x128, .f32⟩
  | 11 => ⟨S4x128, .f32⟩
  | 12 => ⟨S512x1024, .f32⟩
  | 13 => ⟨S1024x1024, .f32⟩
  | 14 => ⟨S1024, .f32⟩
  | 15 => ⟨S16384x1024, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S16384x512, .f32⟩
  | 22 => ⟨S_, .f32⟩
  | 23 => ⟨S1x512, .f32⟩
  | 24 => ⟨S_, .f32⟩
  | 25 => ⟨S1x512, .f32⟩
  | 26 => ⟨S16386x512, .f32⟩
  | 27 => ⟨S16384x512, .f32⟩
  | 28 => ⟨S1x512, .f32⟩
  | 29 => ⟨S512, .f32⟩
  | 30 => ⟨S1x512, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S1x512, .f32⟩
  | 38 => ⟨S512, .f32⟩
  | 39 => ⟨S1x512, .f32⟩
  | 40 => ⟨S16384x512, .f32⟩
  | 41 => ⟨S16384x512, .f32⟩
  | 42 => ⟨S16384x512, .f32⟩
  | 43 => ⟨S16384x512, .f32⟩
  | 44 => ⟨S1x512, .f32⟩
  | 45 => ⟨S512, .f32⟩
  | 46 => ⟨S1x512, .f32⟩
  | 47 => ⟨S16384x512, .f32⟩
  | 48 => ⟨S16384x512, .f32⟩
  | 49 => ⟨S16384x512, .f32⟩
  | 50 => ⟨S16384x1024, .f32⟩
  | 51 => ⟨S_, .f32⟩
  | 52 => ⟨S_, .f32⟩
  | 53 => ⟨S_, .f32⟩
  | 54 => ⟨S16384x1024, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S_, .f32⟩
  | 64 => ⟨S16384x1024, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S_, .f32⟩
  | 78 => ⟨S16384x1024, .f32⟩
  | 79 => ⟨S16384x1024, .f32⟩
  | 80 => ⟨S16384x1024, .f32⟩
  | 81 => ⟨S16384x1024, .f32⟩
  | 82 => ⟨S16384x1024, .f32⟩
  | 83 => ⟨S16384x512, .f32⟩
  | 84 => ⟨S16384x1024, .f32⟩
  | 85 => ⟨S_, .f32⟩
  | 86 => ⟨S_, .f32⟩
  | 87 => ⟨S_, .f32⟩
  | 88 => ⟨S16384x512, .f32⟩
  | 89 => ⟨S16384x512, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S16384x512, .f32⟩
  | 104 => ⟨S_, .f32⟩
  | 105 => ⟨S_, .f32⟩
  | 106 => ⟨S_, .f32⟩
  | 107 => ⟨S16384x512, .f32⟩
  | 108 => ⟨S16384x512, .f32⟩
  | 109 => ⟨S16384x512, .f32⟩
  | 110 => ⟨S16384x512, .f32⟩
  | 111 => ⟨S16384x512, .f32⟩
  | 112 => ⟨S_, .f32⟩
  | 113 => ⟨S16384x512, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S_, .f32⟩
  | 120 => ⟨S16384x512, .f32⟩
  | 121 => ⟨S16384x512, .f32⟩
  | 122 => ⟨S16384x512, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S16384x1024, .f32⟩

abbrev hbmTy0_1 (i : Nat) : BufTy := match i % 128 with
  | 0 => ⟨S16384x1, .f32⟩
  | 1 => ⟨S16384x512, .f32⟩
  | 2 => ⟨S16384x512, .f32⟩
  | 3 => ⟨S16384x512, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S16384x512, .f32⟩
  | 11 => ⟨S16384x512, .f32⟩
  | 12 => ⟨S_, .f32⟩
  | 13 => ⟨S16384x1, .f32⟩
  | 14 => ⟨S16384x1, .f32⟩
  | 15 => ⟨S16384x1, .f32⟩
  | 16 => ⟨S16384x512, .f32⟩
  | 17 => ⟨S16384x512, .f32⟩
  | 18 => ⟨S1x512, .f32⟩
  | 19 => ⟨S16384x512, .f32⟩
  | 20 => ⟨S16384x512, .f32⟩
  | 21 => ⟨S1x512, .f32⟩
  | 22 => ⟨S16384x512, .f32⟩
  | 23 => ⟨S16384x512, .f32⟩
  | 24 => ⟨S128x128x4x128, .f32⟩
  | 25 => ⟨S4x128x128x128, .f32⟩
  | 26 => ⟨S128x128x4x128, .f32⟩
  | 27 => ⟨S128x4, .f32⟩
  | 28 => ⟨S128x4x1, .f32⟩
  | 29 => ⟨S1x128x4x1, .f32⟩
  | 30 => ⟨S128x128x4x128, .f32⟩
  | 31 => ⟨S128x128x4x128, .f32⟩
  | 32 => ⟨S16384x512, .f32⟩
  | 33 => ⟨S16384x512, .f32⟩
  | 34 => ⟨S16384x1024, .f32⟩
  | 35 => ⟨S16384x3072, .f32⟩
  | 36 => ⟨S16384x3072, .f32⟩
  | 37 => ⟨S_, .f32⟩
  | 38 => ⟨S16384x3072, .f32⟩
  | 39 => ⟨S16384x3072, .f32⟩
  | 40 => ⟨S_, .f32⟩
  | 41 => ⟨S16384x3072, .f32⟩
  | 42 => ⟨S16384x3072, .f32⟩
  | 43 => ⟨S_, .f32⟩
  | 44 => ⟨S16384x3072, .f32⟩
  | 45 => ⟨S16384x3072, .f32⟩
  | 46 => ⟨S16384x3072, .f32⟩
  | 47 => ⟨S16384x3x1024, .f32⟩
  | 48 => ⟨S16384x1x1024, .f32⟩
  | 49 => ⟨S16384x1024, .f32⟩
  | 50 => ⟨S16384x1024, .f32⟩
  | 51 => ⟨S16384x1x1024, .f32⟩
  | 52 => ⟨S16384x1024, .f32⟩
  | 53 => ⟨S16384x1024, .f32⟩
  | 54 => ⟨S16384x1024, .f32⟩
  | 55 => ⟨S16384x1x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S_, .f32⟩
  | 62 => ⟨S16384, .f32⟩
  | 63 => ⟨S16384x1, .f32⟩
  | 64 => ⟨S_, .f32⟩
  | 65 => ⟨S16384x1, .f32⟩
  | 66 => ⟨S16384x1, .f32⟩
  | 67 => ⟨S_, .f32⟩
  | 68 => ⟨S16384x1, .f32⟩
  | 69 => ⟨S16384x1, .f32⟩
  | 70 => ⟨S16384x1, .f32⟩
  | 71 => ⟨S16384x1, .f32⟩
  | 72 => ⟨S_, .f32⟩
  | 73 => ⟨S16384x1, .f32⟩
  | 74 => ⟨S16384x1, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S16384x1024, .f32⟩
  | 81 => ⟨S_, .f32⟩
  | 82 => ⟨S1024, .f32⟩
  | 83 => ⟨S1x1024, .f32⟩
  | 84 => ⟨S16384x1024, .f32⟩
  | 85 => ⟨S16384x1024, .f32⟩
  | 86 => ⟨S_, .f32⟩
  | 87 => ⟨S1024, .f32⟩
  | 88 => ⟨S16384x1024, .f32⟩
  | 89 => ⟨S_, .f32⟩
  | 90 => ⟨S16384, .f32⟩
  | 91 => ⟨S16384x1, .f32⟩
  | 92 => ⟨S16384x1024, .f32⟩
  | 93 => ⟨S16384x1024, .f32⟩
  | 94 => ⟨S16384x1, .f32⟩
  | 95 => ⟨S_, .f32⟩
  | 96 => ⟨S16384x1, .f32⟩
  | 97 => ⟨S16384x1, .f32⟩
  | 98 => ⟨S_, .f32⟩
  | 99 => ⟨S16384, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S16384x1024, .f32⟩
  | 106 => ⟨S16384x1024, .f32⟩
  | 107 => ⟨S16384x1024, .f32⟩
  | 108 => ⟨S16384x1x1024, .f32⟩
  | 109 => ⟨S_, .f32⟩
  | 110 => ⟨S16384x3x1024, .f32⟩
  | 111 => ⟨S16384x1024, .f32⟩
  | 112 => ⟨S16384x1024, .f32⟩
  | 113 => ⟨S16384x1x1024, .f32⟩
  | 114 => ⟨S_, .f32⟩
  | 115 => ⟨S16384x3x1024, .f32⟩
  | 116 => ⟨S16384x3x1024, .f32⟩
  | 117 => ⟨S16384x1024, .f32⟩
  | 118 => ⟨S16384x1024, .f32⟩
  | 119 => ⟨S16384x1x1024, .f32⟩
  | 120 => ⟨S_, .f32⟩
  | 121 => ⟨S16384x3x1024, .f32⟩
  | 122 => ⟨S16384x3x1024, .f32⟩
  | 123 => ⟨S16384x3072, .f32⟩
  | 124 => ⟨S16384x3072, .f32⟩
  | 125 => ⟨S16384x1024, .f32⟩
  | 126 => ⟨S16384x1024, .f32⟩
  | 127 => ⟨S16384x1024, .f32⟩
  | _ => ⟨S16384x1024, .f32⟩

abbrev hbmTy0_2 (i : Nat) : BufTy := match i % 128 with
  | 0 => ⟨S16384x1024, .f32⟩
  | 1 => ⟨S16384x1024, .f32⟩
  | 2 => ⟨S_, .f32⟩
  | 3 => ⟨S16384x1024, .f32⟩
  | 4 => ⟨S16384x1024, .f32⟩
  | 5 => ⟨S16384x1024, .f32⟩
  | 6 => ⟨S_, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S16384x512, .f32⟩
  | 15 => ⟨S16384x512, .f32⟩
  | 16 => ⟨S16384x512, .f32⟩
  | 17 => ⟨S16384x1024, .bf16⟩
  | 18 => ⟨S16384x1024, .bf16⟩
  | 19 => ⟨S16384x1024, .bf16⟩
  | 20 => ⟨S16384x1024, .bf16⟩
  | 21 => ⟨S16384x1024, .bf16⟩
  | 22 => ⟨S16384x512, .bf16⟩
  | 23 => ⟨S16384x3072, .bf16⟩
  | 24 => ⟨S1x1024, .f32⟩
  | 25 => ⟨S_, .f32⟩
  | 26 => ⟨S_, .f32⟩
  | 27 => ⟨S_, .f32⟩
  | 28 => ⟨S16384x512, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S16384x512, .f32⟩
  | 55 => ⟨S_, .f32⟩
  | 56 => ⟨S_, .f32⟩
  | 57 => ⟨S_, .f32⟩
  | 58 => ⟨S16384x512, .f32⟩
  | 59 => ⟨S16384x512, .f32⟩
  | 60 => ⟨S16384x512, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S16384x512, .f32⟩
  | 81 => ⟨S16384x512, .f32⟩
  | 82 => ⟨S16384x512, .f32⟩
  | 83 => ⟨S_, .f32⟩
  | 84 => ⟨S16384, .f32⟩
  | 85 => ⟨S16384x1, .f32⟩
  | 86 => ⟨S_, .f32⟩
  | 87 => ⟨S16384x1, .f32⟩
  | 88 => ⟨S16384x1, .f32⟩
  | 89 => ⟨S16384x512, .f32⟩
  | 90 => ⟨S16384x512, .f32⟩
  | 91 => ⟨S_, .f32⟩
  | 92 => ⟨S16384x1, .f32⟩
  | 93 => ⟨S16384x1, .f32⟩
  | 94 => ⟨S16384x1, .f32⟩
  | 95 => ⟨S16384x512, .f32⟩
  | 96 => ⟨S16384x512, .f32⟩
  | 97 => ⟨S1x512, .f32⟩
  | 98 => ⟨S16384x512, .f32⟩
  | 99 => ⟨S16384x512, .f32⟩
  | 100 => ⟨S1x512, .f32⟩
  | 101 => ⟨S16384x512, .f32⟩
  | 102 => ⟨S16384x512, .f32⟩
  | 103 => ⟨S128x128x4x128, .f32⟩
  | 104 => ⟨S4x128x128x128, .f32⟩
  | 105 => ⟨S128x128x4x128, .f32⟩
  | 106 => ⟨S128x4, .f32⟩
  | 107 => ⟨S128x4x1, .f32⟩
  | 108 => ⟨S1x128x4x1, .f32⟩
  | 109 => ⟨S128x128x4x128, .f32⟩
  | 110 => ⟨S128x128x4x128, .f32⟩
  | 111 => ⟨S16384x512, .f32⟩
  | 112 => ⟨S16384x512, .f32⟩
  | 113 => ⟨S16384x1024, .f32⟩
  | 114 => ⟨S16384x512, .f32⟩
  | 115 => ⟨S16384x512, .f32⟩
  | 116 => ⟨S16384x512, .f32⟩
  | 117 => ⟨S16384x512, .f32⟩
  | 118 => ⟨S_, .f32⟩
  | 119 => ⟨S16384x512, .f32⟩
  | 120 => ⟨S16384x512, .f32⟩
  | 121 => ⟨S16384x512, .f32⟩
  | 122 => ⟨S_, .f32⟩
  | 123 => ⟨S16384x512, .f32⟩
  | 124 => ⟨S16384x512, .f32⟩
  | 125 => ⟨S16384x512, .f32⟩
  | 126 => ⟨S16384x512, .f32⟩
  | 127 => ⟨S16384x512, .f32⟩
  | _ => ⟨S16384x1024, .f32⟩

abbrev hbmTy0_3 (i : Nat) : BufTy := match i % 128 with
  | 0 => ⟨S16384x512, .f32⟩
  | 1 => ⟨S16384x512, .f32⟩
  | 2 => ⟨S16384x512, .bf16⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_cst_19 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_24 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_25 : Ref sig .tc := ⟨.hbm, 165, rfl⟩
abbrev main_v124 : Ref sig .tc := ⟨.hbm, 166, rfl⟩
abbrev main_v125 : Ref sig .tc := ⟨.hbm, 167, rfl⟩
abbrev main_cst_26 : Ref sig .tc := ⟨.hbm, 168, rfl⟩
abbrev main_v126 : Ref sig .tc := ⟨.hbm, 169, rfl⟩
abbrev main_v127 : Ref sig .tc := ⟨.hbm, 170, rfl⟩
abbrev main_cst_27 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_28 : Ref sig .tc := ⟨.hbm, 189, rfl⟩
abbrev main_v145 : Ref sig .tc := ⟨.hbm, 190, rfl⟩
abbrev main_v146 : Ref sig .tc := ⟨.hbm, 191, rfl⟩
abbrev main_cst_29 : Ref sig .tc := ⟨.hbm, 192, rfl⟩
abbrev main_v147 : Ref sig .tc := ⟨.hbm, 193, rfl⟩
abbrev main_v148 : Ref sig .tc := ⟨.hbm, 194, rfl⟩
abbrev main_cst_30 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_31 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_32 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_33 : Ref sig .tc := ⟨.hbm, 214, rfl⟩
abbrev main_v165 : Ref sig .tc := ⟨.hbm, 215, rfl⟩
abbrev main_v166 : Ref sig .tc := ⟨.hbm, 216, rfl⟩
abbrev main_cst_34 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_35 : Ref sig .tc := ⟨.hbm, 223, rfl⟩
abbrev main_v172 : Ref sig .tc := ⟨.hbm, 224, rfl⟩
abbrev main_v173 : Ref sig .tc := ⟨.hbm, 225, rfl⟩
abbrev main_cst_36 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_37 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_cst_38 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_39 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_cst_40 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_cst_41 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_cst_42 : Ref sig .tc := ⟨.hbm, 281, rfl⟩
abbrev main_cst_43 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_cst_44 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_cst_45 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_cst_46 : Ref sig .tc := ⟨.hbm, 297, rfl⟩
abbrev main_v235 : Ref sig .tc := ⟨.hbm, 298, rfl⟩
abbrev main_v236 : Ref sig .tc := ⟨.hbm, 299, rfl⟩
abbrev main_cst_47 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_cst_48 : Ref sig .tc := ⟨.hbm, 304, rfl⟩
abbrev main_v240 : Ref sig .tc := ⟨.hbm, 305, rfl⟩
abbrev main_v241 : Ref sig .tc := ⟨.hbm, 306, rfl⟩
abbrev main_cst_49 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_cst_50 : Ref sig .tc := ⟨.hbm, 311, rfl⟩
abbrev main_cst_51 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_cst_52 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_cst_53 : Ref sig .tc := ⟨.hbm, 323, rfl⟩
abbrev main_v254 : Ref sig .tc := ⟨.hbm, 324, rfl⟩
abbrev main_v255 : Ref sig .tc := ⟨.hbm, 325, rfl⟩
abbrev main_cst_54 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_cst_55 : Ref sig .tc := ⟨.hbm, 330, rfl⟩
abbrev main_v259 : Ref sig .tc := ⟨.hbm, 331, rfl⟩
abbrev main_v260 : Ref sig .tc := ⟨.hbm, 332, rfl⟩
abbrev main_cst_56 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_cst_57 : Ref sig .tc := ⟨.hbm, 339, rfl⟩
abbrev main_v266 : Ref sig .tc := ⟨.hbm, 340, rfl⟩
abbrev main_v267 : Ref sig .tc := ⟨.hbm, 341, rfl⟩
abbrev main_cst_58 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_cst_59 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_cst_60 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_cst_61 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩

abbrev nD : Nat := 1
abbrev τ : Topo := Topo.v7x

variable {F : FTy → Type} [FloatOps F]
-- ==== Ffn.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S16384x1024 : Shape := ⟨2, ![16384, 1024]⟩
abbrev S1x1024 : Shape := ⟨2, ![1, 1024]⟩
abbrev S4x16384x704 : Shape := ⟨3, ![4, 16384, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 22
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S16384x1024, .f32⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S4x16384x704, .bf16⟩
  | .hbm, ⟨19, _⟩ => ⟨S4x16384x704, .bf16⟩
  | .hbm, ⟨20, _⟩ => ⟨S4x16384x704, .bf16⟩
  | .hbm, ⟨21, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .bf16⟩
  | .local _ .vmem, ⟨16, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x4x704 : Shape := ⟨3, ![16384, 4, 704]⟩
abbrev S4x16384x704 : Shape := ⟨3, ![4, 16384, 704]⟩

abbrev nBuf : Space → Nat
  | .hbm => 79
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x4x704, .f32⟩
  | .hbm, ⟨70, _⟩ => ⟨S4x16384x704, .f32⟩
  | .hbm, ⟨71, _⟩ => ⟨S4x16384x704, .bf16⟩
  | .hbm, ⟨72, _⟩ => ⟨S16384x4x704, .f32⟩
  | .hbm, ⟨73, _⟩ => ⟨S4x16384x704, .f32⟩
  | .hbm, ⟨74, _⟩ => ⟨S4x16384x704, .bf16⟩
  | .hbm, ⟨75, _⟩ => ⟨S16384x4x704, .f32⟩
  | .hbm, ⟨76, _⟩ => ⟨S4x16384x704, .f32⟩
  | .hbm, ⟨77, _⟩ => ⟨S4x16384x704, .bf16⟩
  | .hbm, ⟨78, _⟩ => ⟨S16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== MixFwd.lean ====
abbrev S1x16384x1024 : Shape := ⟨3, ![1, 16384, 1024]⟩
abbrev S16384x4608 : Shape := ⟨2, ![16384, 4608]⟩
abbrev S16384x3072 : Shape := ⟨2, ![16384, 3072]⟩
abbrev S16384x1024 : Shape := ⟨2, ![16384, 1024]⟩
abbrev S1024x1024 : Shape := ⟨2, ![1024, 1024]⟩
abbrev S3x512 : Shape := ⟨2, ![3, 512]⟩
abbrev S512x1024 : Shape := ⟨2, ![512, 1024]⟩
abbrev S512 : Shape := ⟨1, ![512]⟩
abbrev S4x128x128 : Shape := ⟨3, ![4, 128, 128]⟩
abbrev S4x128 : Shape := ⟨2, ![4, 128]⟩
abbrev S1024 : Shape := ⟨1, ![1024]⟩
abbrev S1x512 : Shape := ⟨2, ![1, 512]⟩
abbrev S128x4 : Shape := ⟨2, ![128, 4]⟩
abbrev S1x1024 : Shape := ⟨2, ![1, 1024]⟩
abbrev S16384x512 : Shape := ⟨2, ![16384, 512]⟩
abbrev S256x1024 : Shape := ⟨2, ![256, 1024]⟩
abbrev S256x512 : Shape := ⟨2, ![256, 512]⟩
abbrev S16x512 : Shape := ⟨2, ![16, 512]⟩
abbrev S256x3072 : Shape := ⟨2, ![256, 3072]⟩
abbrev S256x1 : Shape := ⟨2, ![256, 1]⟩
abbrev S8x1 : Shape := ⟨2, ![8, 1]⟩
abbrev S8x512 : Shape := ⟨2, ![8, 512]⟩
abbrev S248x512 : Shape := ⟨2, ![248, 512]⟩
abbrev S256 : Shape := ⟨1, ![256]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 38
  | .vmem => 57
  | .smem => 0
  | _ => 0

abbrev bufTy : (tb : Table) → Fin (tcTables nBuf tb) → BufTy
  | .hbm, ⟨0, _⟩ => ⟨S1x16384x1024, .f32⟩
  | .hbm, ⟨1, _⟩ => ⟨S16384x4608, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S3x512, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S4x128x128, .f32⟩
  | .hbm, ⟨11, _⟩ => ⟨S4x128, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S16384x1024, .f32⟩
  | .hbm, ⟨16, _⟩ => ⟨S16384x4608, .bf16⟩
  | .hbm, ⟨17, _⟩ => ⟨S16384x3072, .bf16⟩
  | .hbm, ⟨18, _⟩ => ⟨S16384x1024, .bf16⟩
  | .hbm, ⟨19, _⟩ => ⟨S16384x1024, .bf16⟩
  | .hbm, ⟨20, _⟩ => ⟨S1024x1024, .bf16⟩
  | .hbm, ⟨21, _⟩ => ⟨S512x1024, .bf16⟩
  | .hbm, ⟨22, _⟩ => ⟨S1x512, .f32⟩
  | .hbm, ⟨23, _⟩ => ⟨S1x512, .f32⟩
  | .hbm, ⟨24, _⟩ => ⟨S4x128x128, .bf16⟩
  | .hbm, ⟨25, _⟩ => ⟨S128x4, .f32⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S16384x1024, .f32⟩
  | .hbm, ⟨30, _⟩ => ⟨S16384x1024, .bf16⟩
  | .hbm, ⟨31, _⟩ => ⟨S16384x512, .bf16⟩
  | .hbm, ⟨32, _⟩ => ⟨S16384x512, .bf16⟩
  | .hbm, ⟨33, _⟩ => ⟨S16384x1024, .bf16⟩
  | .hbm, ⟨34, _⟩ => ⟨S16384x1024, .bf16⟩
  | .hbm, ⟨35, _⟩ => ⟨S16384x1024, .bf16⟩
  | .hbm, ⟨36, _⟩ => ⟨S16384x1024, .bf16⟩
  | .hbm, ⟨37, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S256x512, .bf16⟩
  | .local _ .vmem, ⟨13, _⟩ => ⟨S256x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x3072, .bf16⟩
  | .local _ .vmem, ⟨23, _⟩ => ⟨S256x3072, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S1024x1024, .bf16⟩
  | .local _ .vmem, ⟨29, _⟩ => ⟨S3x512, .f32⟩
  | .local _ .vmem, ⟨30, _⟩ => ⟨S512x1024, .bf16⟩
  | .local _ .vmem, ⟨31, _⟩ => ⟨S1x512, .f32⟩
  | .local _ .vmem, ⟨32, _⟩ => ⟨S1x512, .f32⟩
  | .local _ .vmem, ⟨33, _⟩ => ⟨S4x128x128, .bf16⟩
  | .local _ .vmem, ⟨34, _⟩ => ⟨S128x4, .f32⟩
  | .local _ .vmem, ⟨35, _⟩ => ⟨S512x1024, .bf16⟩
  | .local _ .vmem, ⟨36, _⟩ => ⟨S1024x1024, .bf16⟩
  | .local _ .vmem, ⟨37, _⟩ => ⟨S1x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .bf16⟩
  | .local _ .vmem, ⟨41, _⟩ => ⟨S256x1024, .bf16⟩
  | .local _ .vmem, ⟨42, _⟩ => ⟨S256x512, .bf16⟩
  | .local _ .vmem, ⟨43, _⟩ => ⟨S256x512, .bf16⟩
  | .local _ .vmem, ⟨44, _⟩ => ⟨S256x512, .bf16⟩
  | .local _ .vmem, ⟨45, _⟩ => ⟨S256x512, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S256x1024, .bf16⟩
  | .local _ .vmem, ⟨55, _⟩ => ⟨S256x1024, .bf16⟩
  | .local _ .vmem, ⟨56, _⟩ => ⟨S256x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev main_v14_6 : Ref sig .tc := ⟨.hbm, 35, rfl⟩
abbrev main_v14_7 : Ref sig .tc := ⟨.hbm, 36, rfl⟩
abbrev main_v14_8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg28_1 : Ref sig .tc := ⟨.vmem, 47, rfl⟩
abbrev cc0_stg29_0 : Ref sig .tc := ⟨.vmem, 48, rfl⟩
abbrev cc0_stg29_1 : Ref sig .tc := ⟨.vmem, 49, rfl⟩
abbrev cc0_stg30_0 : Ref sig .tc := ⟨.vmem, 50, rfl⟩
abbrev cc0_stg30_1 : Ref sig .tc := ⟨.vmem, 51, rfl⟩
abbrev cc0_stg31_0 : Ref sig .tc := ⟨.vmem, 52, rfl⟩
abbrev cc0_stg31_1 : Ref sig .tc := ⟨.vmem, 53, rfl⟩
abbrev cc0_stg32_0 : Ref sig .tc := ⟨.vmem, 54, rfl⟩
abbrev cc0_stg32_1 : Ref sig .tc := ⟨.vmem, 55, rfl⟩
abbrev cc0_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47
abbrev cc0_sem29_0 : DmaSem sig := 48
abbrev cc0_sem29_1 : DmaSem sig := 49
abbrev cc0_sem30_0 : DmaSem sig := 50
abbrev cc0_sem30_1 : DmaSem sig := 51
abbrev cc0_sem31_0 : DmaSem sig := 52
abbrev cc0_sem31_1 : DmaSem sig := 53
abbrev cc0_sem32_0 : DmaSem sig := 54
abbrev cc0_sem32_1 : DmaSem sig := 55

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x1024 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== MixFwdRefIdeal.lean ====
abbrev S1x16384x1024 : Shape := ⟨3, ![1, 16384, 1024]⟩
abbrev S16384x4608 : Shape := ⟨2, ![16384, 4608]⟩
abbrev S16384x3072 : Shape := ⟨2, ![16384, 3072]⟩
abbrev S16384x1024 : Shape := ⟨2, ![16384, 1024]⟩
abbrev S1024x1024 : Shape := ⟨2, ![1024, 1024]⟩
abbrev S3x512 : Shape := ⟨2, ![3, 512]⟩
abbrev S512x1024 : Shape := ⟨2, ![512, 1024]⟩
abbrev S512 : Shape := ⟨1, ![512]⟩
abbrev S4x128x128 : Shape := ⟨3, ![4, 128, 128]⟩
abbrev S4x128 : Shape := ⟨2, ![4, 128]⟩
abbrev S1024 : Shape := ⟨1, ![1024]⟩
abbrev S16384x512 : Shape := ⟨2, ![16384, 512]⟩
abbrev S_ : Shape := ⟨0, ![]⟩
abbrev S1x512 : Shape := ⟨2, ![1, 512]⟩
abbrev S16386x512 : Shape := ⟨2, ![16386, 512]⟩
abbrev S16384 : Shape := ⟨1, ![16384]⟩
abbrev S16384x1 : Shape := ⟨2, ![16384, 1]⟩
abbrev S128x128x4x128 : Shape := ⟨4, ![128, 128, 4, 128]⟩
abbrev S4x128x128x128 : Shape := ⟨4, ![4, 128, 128, 128]⟩
abbrev S128x4 : Shape := ⟨2, ![128, 4]⟩
abbrev S128x4x1 : Shape := ⟨3, ![128, 4, 1]⟩
abbrev S1x128x4x1 : Shape := ⟨4, ![1, 128, 4, 1]⟩
abbrev S16384x3x1024 : Shape := ⟨3, ![16384, 3, 1024]⟩
abbrev S16384x1x1024 : Shape := ⟨3, ![16384, 1, 1024]⟩
abbrev S1x1024 : Shape := ⟨2, ![1, 1024]⟩

abbrev nBuf : Space → Nat
  | .hbm => 193
  | .vmem => 0
  | .smem => 0
  | _ => 0

abbrev hbmTy0_0 (i : Nat) : BufTy := match i % 128 with
  | 0 => ⟨S1x16384x1024, .f32⟩
  | 1 => ⟨S16384x4608, .f32⟩
  | 2 => ⟨S16384x3072, .f32⟩
  | 3 => ⟨S16384x1024, .f32⟩
  | 4 => ⟨S16384x1024, .f32⟩
  | 5 => ⟨S1024x1024, .f32⟩
  | 6 => ⟨S3x512, .f32⟩
  | 7 => ⟨S512x1024, .f32⟩
  | 8 => ⟨S512, .f32⟩
  | 9 => ⟨S512, .f32⟩
  | 10 => ⟨S4x128x128, .f32⟩
  | 11 => ⟨S4x128, .f32⟩
  | 12 => ⟨S512x1024, .f32⟩
  | 13 => ⟨S1024x1024, .f32⟩
  | 14 => ⟨S1024, .f32⟩
  | 15 => ⟨S16384x1024, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x1024, .f32⟩
  | 32 => ⟨S_, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S16384x1024, .f32⟩
  | 39 => ⟨S16384x1024, .f32⟩
  | 40 => ⟨S16384x512, .f32⟩
  | 41 => ⟨S_, .f32⟩
  | 42 => ⟨S1x512, .f32⟩
  | 43 => ⟨S_, .f32⟩
  | 44 => ⟨S1x512, .f32⟩
  | 45 => ⟨S16386x512, .f32⟩
  | 46 => ⟨S16384x512, .f32⟩
  | 47 => ⟨S1x512, .f32⟩
  | 48 => ⟨S512, .f32⟩
  | 49 => ⟨S1x512, .f32⟩
  | 50 => ⟨S16384x512, .f32⟩
  | 51 => ⟨S16384x512, .f32⟩
  | 52 => ⟨S_, .f32⟩
  | 53 => ⟨S16384x512, .f32⟩
  | 54 => ⟨S16384x512, .f32⟩
  | 55 => ⟨S16384x512, .f32⟩
  | 56 => ⟨S1x512, .f32⟩
  | 57 => ⟨S512, .f32⟩
  | 58 => ⟨S1x512, .f32⟩
  | 59 => ⟨S16384x512, .f32⟩
  | 60 => ⟨S16384x512, .f32⟩
  | 61 => ⟨S16384x512, .f32⟩
  | 62 => ⟨S16384x512, .f32⟩
  | 63 => ⟨S1x512, .f32⟩
  | 64 => ⟨S512, .f32⟩
  | 65 => ⟨S1x512, .f32⟩
  | 66 => ⟨S16384x512, .f32⟩
  | 67 => ⟨S16384x512, .f32⟩
  | 68 => ⟨S16384x512, .f32⟩
  | 69 => ⟨S16384x512, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x512, .f32⟩
  | 76 => ⟨S_, .f32⟩
  | 77 => ⟨S16384x512, .f32⟩
  | 78 => ⟨S16384x512, .f32⟩
  | 79 => ⟨S16384x512, .f32⟩
  | 80 => ⟨S_, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S16384x512, .f32⟩
  | 87 => ⟨S16384x512, .f32⟩
  | 88 => ⟨S16384x512, .f32⟩
  | 89 => ⟨S_, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S16384x512, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x512, .f32⟩
  | 111 => ⟨S16384x512, .f32⟩
  | 112 => ⟨S16384x512, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S16384x512, .f32⟩
  | 120 => ⟨S16384x512, .f32⟩
  | 121 => ⟨S_, .f32⟩
  | 122 => ⟨S16384x1, .f32⟩
  | 123 => ⟨S16384x1, .f32⟩
  | 124 => ⟨S16384x1, .f32⟩
  | 125 => ⟨S16384x512, .f32⟩
  | 126 => ⟨S16384x512, .f32⟩
  | 127 => ⟨S1x512, .f32⟩
  | _ => ⟨S1x16384x1024, .f32⟩

abbrev hbmTy0_1 (i : Nat) : BufTy := match i % 128 with
  | 0 => ⟨S16384x512, .f32⟩
  | 1 => ⟨S16384x512, .f32⟩
  | 2 => ⟨S1x512, .f32⟩
  | 3 => ⟨S16384x512, .f32⟩
  | 4 => ⟨S16384x512, .f32⟩
  | 5 => ⟨S128x128x4x128, .f32⟩
  | 6 => ⟨S4x128x128x128, .f32⟩
  | 7 => ⟨S128x128x4x128, .f32⟩
  | 8 => ⟨S128x4, .f32⟩
  | 9 => ⟨S128x4x1, .f32⟩
  | 10 => ⟨S1x128x4x1, .f32⟩
  | 11 => ⟨S128x128x4x128, .f32⟩
  | 12 => ⟨S128x128x4x128, .f32⟩
  | 13 => ⟨S16384x512, .f32⟩
  | 14 => ⟨S16384x512, .f32⟩
  | 15 => ⟨S16384x1024, .f32⟩
  | 16 => ⟨S16384x1024, .f32⟩
  | 17 => ⟨S16384x1024, .f32⟩
  | 18 => ⟨S16384x3072, .f32⟩
  | 19 => ⟨S16384x3072, .f32⟩
  | 20 => ⟨S_, .f32⟩
  | 21 => ⟨S16384x3072, .f32⟩
  | 22 => ⟨S16384x3072, .f32⟩
  | 23 => ⟨S_, .f32⟩
  | 24 => ⟨S16384x3072, .f32⟩
  | 25 => ⟨S16384x3072, .f32⟩
  | 26 => ⟨S16384x3x1024, .f32⟩
  | 27 => ⟨S16384x1x1024, .f32⟩
  | 28 => ⟨S16384x1024, .f32⟩
  | 29 => ⟨S16384x1024, .f32⟩
  | 30 => ⟨S16384x1x1024, .f32⟩
  | 31 => ⟨S16384x1024, .f32⟩
  | 32 => ⟨S16384x1024, .f32⟩
  | 33 => ⟨S16384x1024, .f32⟩
  | 34 => ⟨S16384x1x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S_, .f32⟩
  | 42 => ⟨S16384, .f32⟩
  | 43 => ⟨S16384x1, .f32⟩
  | 44 => ⟨S_, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x1, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | 57 => ⟨S16384x1024, .bf16⟩
  | 58 => ⟨S16384x512, .bf16⟩
  | 59 => ⟨S16384x512, .bf16⟩
  | 60 => ⟨S16384x1024, .bf16⟩
  | 61 => ⟨S16384x1024, .bf16⟩
  | 62 => ⟨S16384x1024, .bf16⟩
  | 63 => ⟨S16384x1024, .bf16⟩
  | 64 => ⟨S16384x1024, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_cst_20 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_21 : Ref sig .tc := ⟨.hbm, 169, rfl⟩
abbrev main_v132 : Ref sig .tc := ⟨.hbm, 170, rfl⟩
abbrev main_v133 : Ref sig .tc := ⟨.hbm, 171, rfl⟩
abbrev main_cst_22 : Ref sig .tc := ⟨.hbm, 172, rfl⟩
abbrev main_v134 : Ref sig .tc := ⟨.hbm, 173, rfl⟩
abbrev main_v135 : Ref sig .tc := ⟨.hbm, 174, rfl⟩
abbrev main_cst_23 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩

abbrev nD : Nat := 1
abbrev τ : Topo := Topo.v7x

variable {F : FTy → Type} [FloatOps F]
-- ==== Proof.LossKernel.lean ====
/- What the loss kernel's two output arrays hold after the run, over the extended reals: the error scaled by 1/1024, and
   per column the sum over all rows of the squared error. -/
module

public import proofs.«01_k».proof.Proof.Gen.LossHeadIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.LossHeadIdeal.Val

open Cert.LossHeadIdeal Cert.LossHeadIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, win0_0.index t = ![t.val, 0] ∧ win0_1.index t = ![t.val, 0] ∧ win0_2.index t = ![t.val, 0]
    ∧ win0_3.index t = ![0, 0] ∧ t.val < 32 :=
  (by decide +kernel : ∀ t : Fin grid0.N, _)

/-- The gradient array: the error, scaled. -/
def dyArr (y g : FVec Ideal S1x16384x1024 .f32) : FVec Ideal S16384x1024 .f32 := fun j =>
  (y (ix3 0 (j 0) (j 1)) - g (ix3 0 (j 0) (j 1))) * Ideal.ofBits .f32 0x3A800000#32

/-- The squared error summed over the rows, per column. -/
def sqArr (y g : FVec Ideal S1x16384x1024 .f32) : FVec Ideal S1x1024 .f32 := fun j =>
  ∑ s : Fin 16384, (y (ix3 0 s (j 1)) - g (ix3 0 s (j 1))) * (y (ix3 0 s (j 1)) - g (ix3 0 s (j 1)))

/-- The region finds each input with its leading axis of size one dropped. -/
theorem V_v0 (c : Dev nD) (j : S16384x1024.Idx) :
    V m c main_v0 j = m ((c : Thread nD τ).loc main_arg0) (ix3 0 (j 0) (j 1)) := by
  unfold V V0
  after_reads_at

theorem V_v1 (c : Dev nD) (j : S16384x1024.Idx) :
    V m c main_v1 j = m ((c : Thread nD τ).loc main_arg1) (ix3 0 (j 0) (j 1)) := by
  unfold V V0
  after_reads_at

theorem out2 (c : Dev nD) (t : Fin cfg0.N) : (outsAt0 m c t.val t.isLt).1 = k0_pay2 (iblk m c 0 t) (iblk m c 1 t) := by
  have := (idx t).2.2.2.2
  by_cases h : t.val = 0
  · rw [outsAt0_A m c t (by omega) (by omega)]; frame_out
  · rw [outsAt0_B m c t (by omega) (by omega)]; frame_out

theorem final2 (c : Dev nD) : (dats m 0 c).arrAt 2 (cfgs 0).N
    = dyArr (m ((c : Thread nD τ).loc main_arg0)) (m ((c : Thread nD τ).loc main_arg1)) := by
  refine (dats m 0 c).arrAt_eq_of_covers 2 _ (by decide +kernel) fun t _ y => ?_
  blk_simp
  rw [after0_2, out2]
  pointwise [k0_pay2, k0_pay1, dyArr]
  blk_simp [iblk]
  rw [V_v0, V_v1]
  blk_point [idx t]

theorem final3 (c : Dev nD) : (dats m 0 c).arrAt 3 (cfgs 0).N
    = sqArr (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_last (fun n h => (outsAt0 m c n h).2) 32 (fun _ => (0 : EReal))
    (fun t => k0_pay3 (iblk m c 0 t) (iblk m c 1 t))
    (fun t h j => by
      have := (idx t).2.2.2.2
      rw [outsAt0_A m c t (by omega) (by omega)]; frame_out; rw [zero_add])
    (fun t h j => by
      have := (idx t).2.2.2.2
      rw [outsAt0_B m c t (by omega) (by omega)]; frame_out; unfold k0_pay4; rw [shapeCast_self]; rfl)
    (le_of_eq N_0) t (by have h := (flush0_3 t).mp hf; have := (idx t).2.2.2.2; have e : cfg0.N = 32 := N_0; omega), zero_add]
  simp only [k0_pay3, k0_pay1, sqArr]
  pointwise
  rw [Fin.sum_univ_tiles 32 512 rfl]
  refine Fin.sum_fin_congr fun p => Fin.sum_fin_congr fun r => ?_
  blk_simp [iblk]
  rw [V_v0, V_v1]
  blk_point [idx t, idx p]

/-! ## The results, after the lines behind the kernel -/

theorem arrays_apart : Function.Injective (Pipeline.arrRef spec0) := by decide

theorem dy_tail (c : Dev nD) (j : S1x16384x1024.Idx) : Pipeline.afterTail₀ cfgs (dats m) 0 (V0 m) [hostOps1] c main_v3 j
    = dyArr (m ((c : Thread nD τ).loc main_arg0)) (m ((c : Thread nD τ).loc main_arg1)) (ix2 (j 1) (j 2)) := by
  unfold Pipeline.afterTail₀
  after_reads_at
  exact congrFun ((Pipeline.withArrays_arr spec0 arrays_apart c (V0 m c) _ 2).trans (final2 m c)) _

theorem loss_tail (c : Dev nD) (j : S_.Idx) : (Pipeline.afterTail₀ cfgs (dats m) 0 (V0 m) [hostOps1] c main_v6 : S_.Idx → EReal) j
    = Ideal.div (Ideal.ofBits .f32 0x3F000000#32 * ∑ k0 : Fin 1, ∑ k1 : Fin 1024,
        sqArr (m ((c : Thread nD τ).loc main_arg0)) (m ((c : Thread nD τ).loc main_arg1)) (ix2 k0 k1)) (Ideal.ofBits .f32 0x44800000#32) := by
  unfold Pipeline.afterTail₀
  after_reads_at
  have h := (Pipeline.withArrays_arr spec0 arrays_apart c (V0 m c) (fun w => (dats m 0 c).arrAt w (cfgs 0).N) 3).trans (final3 m c)
  exact congrArg (fun s : EReal => Ideal.div (_ * s) _)
    (Finset.sum_congr rfl fun k0 _ => Finset.sum_congr rfl fun k1 _ => congrFun h (ix2 k0 k1))

end Cert.LossHeadIdeal.Val

end
-- ==== Proof.Literals.lean ====
/- The numbers that the programs' float words stand for, and sums over the extended reals with a finite factor. -/
module

public import Idealize.ShloMosaic.Lib.Pointwise

@[expose] public section

noncomputable section

namespace Cert.Lit

open Idealize.ShloMosaic

theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem thousand : Ideal.ofBits .f32 0x44800000#32 = ((1024 : ℝ) : EReal) := by
  simp [Ideal.ofBits, Ideal.ieee, -EReal.coe_mul]; norm_num
theorem thousandth : Ideal.ofBits .f32 0x3A800000#32 = ((1 / 1024 : ℝ) : EReal) := by
  simp [Ideal.ofBits, Ideal.ieee, -EReal.coe_mul]; norm_num

theorem minus_half : Ideal.ofBits .f32 0xBF000000#32 = ((-1 / 2 : ℝ) : EReal) := by
  simp [Ideal.ofBits, Ideal.ieee, -EReal.coe_mul, -EReal.coe_neg]; norm_num
/-- The constant under the norms' roots. -/
theorem eps : ∃ e : ℝ, 0 < e ∧ Ideal.ofBits .f32 0x358637BD#32 = (e : EReal) := by
  refine ⟨_, ?_, by simp [Ideal.ofBits, Ideal.ieee, -EReal.coe_mul]; rfl⟩
  norm_num

/-- A finite factor that is not negative goes into a sum over the extended reals, whatever the terms are. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, mul_comm (f a), mul_comm (∑ i ∈ s, f i),
      EReal.left_distrib_of_nonneg_of_ne_top (by exact_mod_cast hr) (EReal.coe_ne_top r)]

end Cert.Lit

end
-- ==== Proof.LossTie.lean ====
/- The loss kernel's results are the reference's: the loss, and its gradient with respect to the last layer's output. -/
module

public import proofs.«01_k».proof.Proof.LossKernel
public import proofs.«01_k».proof.Proof.Literals
public import proofs.«01_k».proof.Proof.Gen.LossRefIdeal.Read

@[expose] public section

set_option maxRecDepth 16384

noncomputable section

namespace Cert.LossTie

open Idealize.ShloMosaic Idealize.ShloMosaic.TcCoe Idealize.SL.Sem
open Cert.LossHeadIdeal (S1x16384x1024 S_ nD τ)
open Cert.LossRefIdeal.Read

/-- The gradient: halving, dividing by 1024 and doubling is dividing by 1024. -/
theorem dy_eq (y g : FVec Ideal S1x16384x1024 .f32) (j : S1x16384x1024.Idx) :
    Cert.LossHeadIdeal.Val.dyArr y g (ix2 (j 1) (j 2)) = val_main_v14 (F := Ideal) y g j := by
  idx_vars j
  unfold Cert.LossHeadIdeal.Val.dyArr
  pointwise [val_main_v14, val_main_v13, val_main_v12, val_main_v11, val_main_v10, val_main_v9, val_main_v3, val_main_v2, val_main_v1, val_main_v0, val_main_cst, val_main_cst_0, val_main_cst_1, val_main_cst_2, val_main_cst_3, val_main_cst_4, val_main_cst_5, val_main_cst_6]
  rw [Lit.half, Lit.two, Lit.thousand, Lit.thousandth, Ideal.div_coe (by norm_num : (1024 : ℝ) ≠ 0), show j0 = 0 from Subsingleton.elim _ _,
    ← mul_assoc, mul_comm, ← EReal.coe_mul, ← EReal.coe_mul]
  norm_num

theorem loss_eq (y g : FVec Ideal S1x16384x1024 .f32) (j : S_.Idx) :
    Ideal.div (Ideal.ofBits .f32 0x3F000000#32 * ∑ k0 : Fin 1, ∑ k1 : Fin 1024, Cert.LossHeadIdeal.Val.sqArr y g (ix2 k0 k1))
      (Ideal.ofBits .f32 0x44800000#32) = val_main_v8 (F := Ideal) y g j := by
  unfold Cert.LossHeadIdeal.Val.sqArr
  pointwise [val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [Fin.sum_univ_one]
  rw [Lit.half, Lit.thousand, Ideal.div_coe (by norm_num : (1024 : ℝ) ≠ 0), Finset.sum_comm, mul_assoc, Lit.sum_mul_coe _ _ _ (by norm_num)]
  simp only [Ideal.div_coe (by norm_num : (1024 : ℝ) ≠ 0)]

open Cert.LossHeadIdeal Cert.LossHeadIdeal.Gen in
/-- The kernel program's run, its results the reference's terms of the same arguments. -/
theorem run (m : (ℓ : Loc Cert.LossHeadIdeal.nD Cert.LossHeadIdeal.τ Cert.LossHeadIdeal.sig) → Buf (Elt Ideal) ℓ)
    (g : Dev Cert.LossHeadIdeal.nD → PrngReg) :
    θ_run (Cert.LossHeadIdeal.defs (F := Ideal)) (onTc (τ := Cert.LossHeadIdeal.τ) (Cert.LossHeadIdeal.main (F := Ideal))) ⟨m, fun _ => 0, g⟩
      (fun r => ∀ c : Dev Cert.LossHeadIdeal.nD,
        r.2.mem ((c.tc : Thread _ _).loc Cert.LossHeadIdeal.main_v3)
          = val_main_v14 (F := Ideal) (m ((c.tc : Thread _ _).loc Cert.LossHeadIdeal.main_arg0)) (m ((c.tc : Thread _ _).loc Cert.LossHeadIdeal.main_arg1))
        ∧ r.2.mem ((c.tc : Thread _ _).loc Cert.LossHeadIdeal.main_v6)
          = val_main_v8 (F := Ideal) (m ((c.tc : Thread _ _).loc Cert.LossHeadIdeal.main_arg0)) (m ((c.tc : Thread _ _).loc Cert.LossHeadIdeal.main_arg1))
        ∧ r.2.mem ((c.tc : Thread _ _).loc Cert.LossHeadIdeal.main_arg0) = m ((c.tc : Thread _ _).loc Cert.LossHeadIdeal.main_arg0)
        ∧ r.2.mem ((c.tc : Thread _ _).loc Cert.LossHeadIdeal.main_arg1) = m ((c.tc : Thread _ _).loc Cert.LossHeadIdeal.main_arg1)) := by
  refine (θ_run _ _ _).mono (fun r h c => ?_) (θ_run_and (Cert.LossHeadIdeal.Gen.run_main m g) (Cert.LossHeadIdeal.Gen.unchanged m g))
  refine ⟨?_, ?_, (h.2 c).1, (h.2 c).2⟩
  · refine (h.1.rest_eq c main_v3 (Pipeline.mem_restRefs_of _ (by decide) (by decide))).trans (funext fun j => ?_)
    exact (Cert.LossHeadIdeal.Val.dy_tail m c j).trans (dy_eq _ _ j)
  · refine (h.1.rest_eq c main_v6 (Pipeline.mem_restRefs_of _ (by decide) (by decide))).trans (funext fun j => ?_)
    exact (Cert.LossHeadIdeal.Val.loss_tail m c j).trans (loss_eq _ _ j)

end Cert.LossTie

end
-- ==== Proof.Finite.lean ====
/- What a test `all(|x| < ∞)` says over the extended reals: the array is one of real numbers. And how sums, products and
   roots of real numbers stand among the extended reals. -/
module

public import Idealize.ShloMosaic.Lib.Pointwise
public import Idealize.ShloMosaic.Lib.ReduceAll

@[expose] public section

noncomputable section

namespace Cert.Finite

open Idealize.ShloMosaic

/-- A real number among the extended reals. -/
def IsR (a : EReal) : Prop := ∃ r : ℝ, a = (r : EReal)

/-- An array of real numbers. -/
def IsReal {ι : Type*} (x : ι → EReal) : Prop := ∀ i, IsR (x i)

theorem inf_word : Ideal.ofBits .f32 0x7F800000#32 = ⊤ := by
  simp [Ideal.ofBits, Ideal.ieee]

/-- The test of one array. -/
theorem isReal_of_test {s t u : Shape} {axes : List (Fin s.rank)} [Subsingleton t.Idx] (x : FVec Ideal s .f32)
    (hb : (⟨0, ![]⟩ : Shape).BroadcastsInDim s (![] : Fin 0 → Fin s.rank)) (init : u.Idx → BitVec 1) (hr : s.ReducesTo axes t)
    (hu : 0 < u.numel) (j : t.Idx)
    (e : Host.reduce IntOp.andi (cmpf .olt (Host.absf x) (broadcastInDim s ![] hb (constant (F := Ideal) ⟨0, ![]⟩ .f32 0x7F800000#32))) init hr hu j = 1#1) :
    IsReal x := by
  have h : ∀ i, x i ≠ ⊤ ∧ x i ≠ ⊥ := fun i => by
    have := Host.reduce_andi_all _ init hr hu j e i
    pointwise at this
    rw [inf_word] at this
    have hlt : max (x i) (-x i) < ⊤ := by
      by_contra hn
      rw [Ideal.absf_def, decide_eq_false hn] at this
      exact absurd this (by decide)
    constructor
    · intro he; rw [he] at hlt; simp at hlt
    · intro he; rw [he] at hlt; simp at hlt
  exact fun i => ⟨(x i).toReal, (EReal.coe_toReal (h i).1 (h i).2).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.choose {ι : Type*} {x : ι → EReal} (h : IsReal x) : ∃ r : ι → ℝ, x = fun i => (r i : EReal) :=
  ⟨fun i => (h i).choose, funext fun i => (h i).choose_spec⟩

theorem IsR.coe (r : ℝ) : IsR (r : EReal) := ⟨r, rfl⟩
theorem IsR.zero : IsR 0 := ⟨0, EReal.coe_zero.symm⟩
theorem IsR.one : IsR 1 := ⟨1, EReal.coe_one.symm⟩

theorem IsR.add {a b : EReal} : IsR a → IsR b → IsR (a + b) := by
  rintro ⟨r, rfl⟩ ⟨s, rfl⟩; exact ⟨r + s, (EReal.coe_add r s).symm⟩

theorem IsR.sub {a b : EReal} : IsR a → IsR b → IsR (a - b) := by
  rintro ⟨r, rfl⟩ ⟨s, rfl⟩; exact ⟨r - s, (EReal.coe_sub r s).symm⟩

theorem IsR.neg {a : EReal} : IsR a → IsR (-a) := by
  rintro ⟨r, rfl⟩; exact ⟨-r, (EReal.coe_neg r).symm⟩

theorem IsR.mul {a b : EReal} : IsR a → IsR b → IsR (a * b) := by
  rintro ⟨r, rfl⟩ ⟨s, rfl⟩; exact ⟨r * s, (EReal.coe_mul r s).symm⟩

theorem IsR.sum {ι : Type*} (s : Finset ι) {f : ι → EReal} (h : ∀ i, IsR (f i)) : IsR (∑ i ∈ s, f i) := by
  obtain ⟨r, rfl⟩ := IsReal.choose (x := f) h
  exact ⟨∑ i ∈ s, r i, (coe_sum s r).symm⟩

theorem IsR.div {a : EReal} {y : ℝ} (hy : y ≠ 0) (h : IsR a) : IsR (Ideal.div a (y : EReal)) := by
  rw [Ideal.div_coe hy]; exact h.mul (.coe _)

theorem IsR.tanh {a : EReal} : IsR a → IsR (Ideal.tanh a) := by
  rintro ⟨r, rfl⟩; exact ⟨Real.tanh r, Ideal.tanh_coe r⟩

theorem IsR.exp {a : EReal} : IsR a → IsR (Ideal.exp a) := by
  rintro ⟨r, rfl⟩; exact ⟨Real.exp r, Ideal.exp_coe r⟩

end Cert.Finite

end
-- ==== Proof.Rows.lean ====
/- One row of 1024 entries: the scale of the root-mean-square norm, and the norm's gradient. -/
module

public import proofs.«01_k».proof.Proof.Literals
public import proofs.«01_k».proof.Proof.Finite

@[expose] public section

noncomputable section

namespace Cert.Rows

open Idealize.ShloMosaic Cert.Finite

/-- The mean of the squares of a row, with the small constant added: what the norm takes the root of. -/
def meanSq (x : Fin 1024 → EReal) : EReal :=
  Ideal.div (∑ l, x l * x l) (Ideal.ofBits .f32 0x44800000#32) + Ideal.ofBits .f32 0x358637BD#32

/-- The factor the norm multiplies a row with. -/
def scale (x : Fin 1024 → EReal) : EReal := Ideal.rsqrt (meanSq x)

/-- The norm's gradient as the kernels compute it: `d` is the gradient of the norm's output, `g` the norm's gain. -/
def back (d x g : Fin 1024 → EReal) (l : Fin 1024) : EReal :=
  scale x * (d l * g l - x l * scale x * Ideal.div (∑ k, d k * g k * (x k * scale x)) (Ideal.ofBits .f32 0x44800000#32))

theorem congr3 {α β γ δ : Type*} (f : α → β → γ → δ) {a a' : α} {b b' : β} {g g' : γ} (ha : a = a') (hb : b = b') (hg : g = g') :
    f a b g = f a' b' g' := by rw [ha, hb, hg]

/-- On a row of real numbers the norm divides by the root of a positive number. -/
theorem meanSq_coe (x : Fin 1024 → ℝ) : ∃ r : ℝ, 0 < r ∧ meanSq (fun l => (x l : EReal)) = (((r ^ 2)⁻¹ : ℝ) : EReal)
    ∧ scale (fun l => (x l : EReal)) = (r : EReal) := by
  obtain ⟨e, he, h⟩ := Lit.eps
  have hm : meanSq (fun l => (x l : EReal)) = (((∑ l, x l * x l) * (1 / 1024) + e : ℝ) : EReal) := by
    unfold meanSq
    rw [h, Lit.thousand, Ideal.div_coe (by norm_num)]
    simp only [← EReal.coe_mul, ← coe_sum, ← EReal.coe_add]
  have hp : 0 < (∑ l, x l * x l) * (1 / 1024) + e := by
    have : 0 ≤ ∑ l, x l * x l := Finset.sum_nonneg fun l _ => mul_self_nonneg _
    positivity
  refine ⟨(Real.sqrt ((∑ l, x l * x l) * (1 / 1024) + e))⁻¹, by positivity, ?_, ?_⟩
  · rw [hm, inv_pow, inv_inv, Real.sq_sqrt hp.le]
  · unfold scale
    rw [hm, Ideal.rsqrt_coe, if_neg (not_lt.2 hp.le), if_neg hp.ne']

theorem isR_scale {x : Fin 1024 → EReal} (hx : IsReal x) : IsR (scale x) := by
  obtain ⟨x, rfl⟩ := hx.choose
  obtain ⟨r, _, _, h⟩ := meanSq_coe x
  exact ⟨r, h⟩

/-- The norm's gradient as the chain rule writes it, through the mean of the squares. -/
def chain (d x g : Fin 1024 → EReal) (l : Fin 1024) : EReal :=
  d l * g l * scale x
    + x l * Ideal.div ((∑ k, x k * (d k * g k)) * (Ideal.ofBits .f32 0xBF000000#32 * Ideal.div (scale x) (meanSq x))) (Ideal.ofBits .f32 0x44800000#32)
    + Ideal.div ((∑ k, x k * (d k * g k)) * (Ideal.ofBits .f32 0xBF000000#32 * Ideal.div (scale x) (meanSq x))) (Ideal.ofBits .f32 0x44800000#32) * x l

/-- Both say the same of real numbers. -/
theorem back_eq_chain {d x g : Fin 1024 → EReal} (hd : IsReal d) (hx : IsReal x) (hg : IsReal g) (l : Fin 1024) :
    back d x g l = chain d x g l := by
  obtain ⟨d, rfl⟩ := hd.choose
  obtain ⟨x, rfl⟩ := hx.choose
  obtain ⟨g, rfl⟩ := hg.choose
  obtain ⟨r, hr, hm, hs⟩ := meanSq_coe x
  unfold back chain
  rw [hs, hm, Lit.minus_half, Lit.thousand]
  simp only [Ideal.div_coe (by norm_num : (1024 : ℝ) ≠ 0), Ideal.div_coe (inv_ne_zero (pow_ne_zero 2 hr.ne')), ← EReal.coe_mul, ← coe_sum,
    ← EReal.coe_add, ← EReal.coe_sub]
  congr 1
  have e : ∑ k, d k * g k * (x k * r) = (∑ k, x k * (d k * g k)) * r := by
    rw [Finset.sum_mul]; exact Finset.sum_congr rfl fun k _ => by ring
  have e2 : 1 / (r ^ 2)⁻¹ = r ^ 2 := by rw [one_div, inv_inv]
  rw [e, e2]
  ring

/-- The norm's gradient of real rows is real. -/
theorem isR_back {d x g : Fin 1024 → EReal} (hd : IsReal d) (hx : IsReal x) (hg : IsReal g) (l : Fin 1024) : IsR (back d x g l) := by
  have hs := isR_scale hx
  unfold back
  rw [Lit.thousand]
  exact hs.mul (((hd l).mul (hg l)).sub (((hx l).mul hs).mul (.div (by norm_num) (.sum _ fun k => ((hd k).mul (hg k)).mul ((hx k).mul hs)))))

end Cert.Rows

end
-- ==== Proof.FfnBKernel.lean ====
/- What the second half of the feed-forward block's gradient leaves in its three output arrays, over the extended reals:
   the gradient of the block's input, the normed input, and the gradient of the norm's gain. -/
module

public import proofs.«01_k».proof.Proof.Rows
public import proofs.«01_k».proof.Proof.Gen.FfnBIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.FfnBIdeal.Val

open Cert.FfnBIdeal Cert.FfnBIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, (win0_0.index t = ![t.val, 0] ∧ win0_1.index t = ![t.val, 0] ∧ win0_2.index t = ![0, t.val, 0]
    ∧ win0_3.index t = ![0, t.val, 0] ∧ win0_4.index t = ![0, 0] ∧ win0_5.index t = ![0, 0, 0] ∧ win0_6.index t = ![0, 0, 0]
    ∧ win0_7.index t = ![t.val, 0] ∧ win0_8.index t = ![t.val, 0] ∧ win0_9.index t = ![0, 0]) ∧ t.val < 32 :=
  (by decide +kernel : ∀ t : Fin grid0.N, _)

/-- Column `q` of the `k`-th of the four column blocks. -/
def col (k : Fin 4) (q : Fin 704) : Fin 2816 := ⟨k.val * 704 + q.val, by omega⟩

/-! ## The arrays, as functions of the program's arguments -/

/-- The gradient of the normed input: through both projections, the four column blocks added up. -/
def dh (wg wu : FVec Ideal S1024x2816 .f32) (dg du : FVec Ideal S16384x2816 .f32) (s : Fin 16384) (l : Fin 1024) : EReal :=
  ∑ k : Fin 4, (∑ q : Fin 704, dg (ix2 s (col k q)) * wg (ix2 l (col k q)) + ∑ q : Fin 704, du (ix2 s (col k q)) * wu (ix2 l (col k q)))

/-- Row `s` of an array with a leading axis of size one. -/
def row (x : FVec Ideal S1x16384x1024 .f32) (s : Fin 16384) : Fin 1024 → EReal := fun l => x (ix3 0 s l)

def dxArr (x dy : FVec Ideal S1x16384x1024 .f32) (pg : FVec Ideal S1024 .f32) (wg wu : FVec Ideal S1024x2816 .f32)
    (dg du : FVec Ideal S16384x2816 .f32) : FVec Ideal S16384x1024 .f32 := fun j =>
  dy (ix3 0 (j 0) (j 1)) + Rows.back (dh wg wu dg du (j 0)) (row x (j 0)) (fun l => pg (ix1 l)) (j 1)

def hArr (x : FVec Ideal S1x16384x1024 .f32) (pg : FVec Ideal S1024 .f32) : FVec Ideal S16384x1024 .bf16 := fun j =>
  x (ix3 0 (j 0) (j 1)) * Rows.scale (row x (j 0)) * pg (ix1 (j 1))

def dpgArr (x : FVec Ideal S1x16384x1024 .f32) (wg wu : FVec Ideal S1024x2816 .f32)
    (dg du : FVec Ideal S16384x2816 .f32) : FVec Ideal S1x1024 .f32 := fun j =>
  ∑ s : Fin 16384, dh wg wu dg du s (j 1) * (x (ix3 0 s (j 1)) * Rows.scale (row x s))

/-! ## What the region finds, the lines before it done -/

theorem V_v2 (c : Dev nD) (j : S4x704x1024.Idx) : V m c main_v2 j = m ((c : Thread nD τ).loc main_arg3) (ix2 (j 2) (col (j 0) (j 1))) := by
  unfold V; after_reads_at; rfl
theorem V_v5 (c : Dev nD) (j : S4x704x1024.Idx) : V m c main_v5 j = m ((c : Thread nD τ).loc main_arg4) (ix2 (j 2) (col (j 0) (j 1))) := by
  unfold V; after_reads_at; rfl
theorem V_v6 (c : Dev nD) (j : S16384x1024.Idx) : V m c main_v6 j = m ((c : Thread nD τ).loc main_arg1) (ix3 0 (j 0) (j 1)) := by
  unfold V; after_reads_at
theorem V_v7 (c : Dev nD) (j : S16384x1024.Idx) : V m c main_v7 j = m ((c : Thread nD τ).loc main_arg0) (ix3 0 (j 0) (j 1)) := by
  unfold V; after_reads_at
theorem V_v10 (c : Dev nD) (j : S4x16384x704.Idx) : V m c main_v10 j = m ((c : Thread nD τ).loc main_arg5) (ix2 (j 1) (col (j 0) (j 2))) := by
  unfold V; after_reads_at; rfl
theorem V_v13 (c : Dev nD) (j : S4x16384x704.Idx) : V m c main_v13 j = m ((c : Thread nD τ).loc main_arg6) (ix2 (j 1) (col (j 0) (j 2))) := by
  unfold V; after_reads_at; rfl
theorem V_v14 (c : Dev nD) (j : S1x1024.Idx) : V m c main_v14 j = m ((c : Thread nD τ).loc main_arg2) (ix1 (j 1)) := by
  unfold V; after_reads_at

/-! ## One point's block -/

/-- The block of `dh`: the rows' products with both weights, the four column blocks added up. -/
def dhBlk (g u : Vec Ideal S4x512x704 .bf16) (wg wu : Vec Ideal S4x704x1024 .bf16) : FVec Ideal S512x1024 .f32 := fun y =>
  ∑ k : Fin 4, (∑ q : Fin 704, g (ix3 k (y 0) q) * wg (ix3 k q (y 1)) + ∑ q : Fin 704, u (ix3 k (y 0) q) * wu (ix3 k q (y 1)))

/-- The first column block. -/
def dhWord1 (g u : Vec Ideal S4x512x704 .bf16) (wg wu : Vec Ideal S4x704x1024 .bf16) : FVec Ideal S512x1024 .f32 :=
  k0_pay4
    (View.ld (Val := Elt Ideal) g (Rect.unit ![0, 0, 0] ![1, 512, 704] inb_S4x512x704_S1x512x704_0_0_0))
    (View.ld (Val := Elt Ideal) wg (Rect.unit ![0, 0, 0] ![1, 704, 1024] inb_S4x704x1024_S1x704x1024_0_0_0))
    (View.ld (Val := Elt Ideal) u (Rect.unit ![0, 0, 0] ![1, 512, 704] inb_S4x512x704_S1x512x704_0_0_0))
    (View.ld (Val := Elt Ideal) wu (Rect.unit ![0, 0, 0] ![1, 704, 1024] inb_S4x704x1024_S1x704x1024_0_0_0))

/-- The first three. -/
def dhWord3 (g u : Vec Ideal S4x512x704 .bf16) (wg wu : Vec Ideal S4x704x1024 .bf16) : FVec Ideal S512x1024 .f32 :=
  k0_pay5 (dhWord1 g u wg wu)
    (View.ld (Val := Elt Ideal) g (Rect.unit ![1, 0, 0] ![1, 512, 704] inb_S4x512x704_S1x512x704_1_0_0))
    (View.ld (Val := Elt Ideal) wg (Rect.unit ![1, 0, 0] ![1, 704, 1024] inb_S4x704x1024_S1x704x1024_1_0_0))
    (View.ld (Val := Elt Ideal) u (Rect.unit ![1, 0, 0] ![1, 512, 704] inb_S4x512x704_S1x512x704_1_0_0))
    (View.ld (Val := Elt Ideal) wu (Rect.unit ![1, 0, 0] ![1, 704, 1024] inb_S4x704x1024_S1x704x1024_1_0_0))
    (View.ld (Val := Elt Ideal) g (Rect.unit ![2, 0, 0] ![1, 512, 704] inb_S4x512x704_S1x512x704_2_0_0))
    (View.ld (Val := Elt Ideal) wg (Rect.unit ![2, 0, 0] ![1, 704, 1024] inb_S4x704x1024_S1x704x1024_2_0_0))
    (View.ld (Val := Elt Ideal) u (Rect.unit ![2, 0, 0] ![1, 512, 704] inb_S4x512x704_S1x512x704_2_0_0))
    (View.ld (Val := Elt Ideal) wu (Rect.unit ![2, 0, 0] ![1, 704, 1024] inb_S4x704x1024_S1x704x1024_2_0_0))

theorem dhWord1_at (g u wg wu) (y0 : Fin 512) (y1 : Fin 1024) : dhWord1 g u wg wu (ix2 y0 y1) =
    ∑ q : Fin 704, g (ix3 0 y0 q) * wg (ix3 0 q y1) + ∑ q : Fin 704, u (ix3 0 y0 q) * wu (ix3 0 q y1) := by
  pointwise [dhWord1, k0_pay4]

theorem dhWord3_at (g u wg wu) (y0 : Fin 512) (y1 : Fin 1024) : dhWord3 g u wg wu (ix2 y0 y1) = dhWord1 g u wg wu (ix2 y0 y1)
    + (∑ q : Fin 704, g (ix3 1 y0 q) * wg (ix3 1 q y1) + ∑ q : Fin 704, u (ix3 1 y0 q) * wu (ix3 1 q y1))
    + (∑ q : Fin 704, g (ix3 2 y0 q) * wg (ix3 2 q y1) + ∑ q : Fin 704, u (ix3 2 y0 q) * wu (ix3 2 q y1)) := by
  pointwise [dhWord3, k0_pay5]
  ac_rfl

theorem dhWord_eq (g u wg wu) : k0_pay8 (dhWord3 g u wg wu)
    (k0_pay6 (View.ld (Val := Elt Ideal) g (Rect.unit ![3, 0, 0] ![1, 512, 704] inb_S4x512x704_S1x512x704_3_0_0)))
    (k0_pay7 (View.ld (Val := Elt Ideal) wg (Rect.unit ![3, 0, 0] ![1, 704, 1024] inb_S4x704x1024_S1x704x1024_3_0_0)))
    (constant S512x1024 FTy.f32 0#32)
    (View.ld (Val := Elt Ideal) u (Rect.unit ![3, 0, 0] ![1, 512, 704] inb_S4x512x704_S1x512x704_3_0_0))
    (View.ld (Val := Elt Ideal) wu (Rect.unit ![3, 0, 0] ![1, 704, 1024] inb_S4x704x1024_S1x704x1024_3_0_0)) = dhBlk g u wg wu := by
  funext y
  idx_vars y
  pointwise [k0_pay8, k0_pay7, k0_pay6, dhBlk]
  rw [dhWord3_at, dhWord1_at, Fin.sum_univ_four]
  exact add_assoc _ _ _

/-- The three blocks written, as functions of the blocks read. -/
def dxBlk (dy x : Vec Ideal S512x1024 .f32) (g u : Vec Ideal S4x512x704 .bf16) (pg : Vec Ideal S1x1024 .f32)
    (wg wu : Vec Ideal S4x704x1024 .bf16) : FVec Ideal S512x1024 .f32 := fun y =>
  dy y + Rows.back (fun l => dhBlk g u wg wu (ix2 (y 0) l)) (fun l => x (ix2 (y 0) l)) (fun l => pg (ix2 0 l)) (y 1)

def dpgBlk (x : Vec Ideal S512x1024 .f32) (g u : Vec Ideal S4x512x704 .bf16)
    (wg wu : Vec Ideal S4x704x1024 .bf16) : FVec Ideal S1x1024 .f32 := fun y =>
  ∑ s : Fin 512, dhBlk g u wg wu (ix2 s (y 1)) * (x (ix2 s (y 1)) * Rows.scale (fun l => x (ix2 s l)))

theorem pay12_eq (dy x g u pg wg wu) : k0_pay12 (k0_pay2 x) (dhWord3 g u wg wu)
    (k0_pay6 (View.ld (Val := Elt Ideal) g (Rect.unit ![3, 0, 0] ![1, 512, 704] inb_S4x512x704_S1x512x704_3_0_0)))
    (k0_pay7 (View.ld (Val := Elt Ideal) wg (Rect.unit ![3, 0, 0] ![1, 704, 1024] inb_S4x704x1024_S1x704x1024_3_0_0)))
    (constant S512x1024 FTy.f32 0#32)
    (View.ld (Val := Elt Ideal) u (Rect.unit ![3, 0, 0] ![1, 512, 704] inb_S4x512x704_S1x512x704_3_0_0))
    (View.ld (Val := Elt Ideal) wu (Rect.unit ![3, 0, 0] ![1, 704, 1024] inb_S4x704x1024_S1x704x1024_3_0_0)) pg dy = dxBlk dy x g u pg wg wu := by
  funext y
  idx_vars y
  unfold k0_pay12
  rw [dhWord_eq]
  pointwise [k0_pay10, k0_pay9, k0_pay2, dxBlk, Rows.back, Rows.scale, Rows.meanSq]

theorem pay11_eq (x g u wg wu) : k0_pay11 (k0_pay2 x) (dhWord3 g u wg wu)
    (k0_pay6 (View.ld (Val := Elt Ideal) g (Rect.unit ![3, 0, 0] ![1, 512, 704] inb_S4x512x704_S1x512x704_3_0_0)))
    (k0_pay7 (View.ld (Val := Elt Ideal) wg (Rect.unit ![3, 0, 0] ![1, 704, 1024] inb_S4x704x1024_S1x704x1024_3_0_0)))
    (constant S512x1024 FTy.f32 0#32)
    (View.ld (Val := Elt Ideal) u (Rect.unit ![3, 0, 0] ![1, 512, 704] inb_S4x512x704_S1x512x704_3_0_0))
    (View.ld (Val := Elt Ideal) wu (Rect.unit ![3, 0, 0] ![1, 704, 1024] inb_S4x704x1024_S1x704x1024_3_0_0)) = dpgBlk x g u wg wu := by
  funext y
  idx_vars y
  unfold k0_pay11
  rw [dhWord_eq]
  pointwise [k0_pay10, k0_pay9, k0_pay2, dpgBlk, Rows.scale, Rows.meanSq]

theorem out7 (c : Dev nD) (t : Fin cfg0.N) : (outsAt0 m c t.val t.isLt).1
    = dxBlk (iblk m c 0 t) (iblk m c 1 t) (iblk m c 2 t) (iblk m c 3 t) (iblk m c 4 t) (iblk m c 5 t) (iblk m c 6 t) := by
  have := (idx t).2
  by_cases h : t.val = 0
  · rw [outsAt0_A m c t (by omega) (by omega)]; frame_out; exact pay12_eq _ _ _ _ _ _ _
  · rw [outsAt0_B m c t (by omega) (by omega)]; frame_out; exact pay12_eq _ _ _ _ _ _ _

theorem out8 (c : Dev nD) (t : Fin cfg0.N) : (outsAt0 m c t.val t.isLt).2.1 = k0_pay3 (iblk m c 1 t) (iblk m c 4 t) := by
  have := (idx t).2
  by_cases h : t.val = 0
  · rw [outsAt0_A m c t (by omega) (by omega)]; frame_out
  · rw [outsAt0_B m c t (by omega) (by omega)]; frame_out

/-! ## The arrays after the run -/

/-- Row `r` of the block at point `t`, in the whole array. -/
def rowAt (t : Fin cfg0.N) (r : Fin 512) : Fin 16384 := ⟨t.val * 512 + r.val, by have := (idx t).2; omega⟩

theorem iblk0_at (c : Dev nD) (t : Fin cfg0.N) (r : Fin 512) (l : Fin 1024) :
    iblk m c 0 t (ix2 r l) = m ((c : Thread nD τ).loc main_arg1) (ix3 0 (rowAt t r) l) := by
  blk_simp [iblk]; rw [V_v6]; blk_point [idx t, rowAt, col]
theorem iblk1_at (c : Dev nD) (t : Fin cfg0.N) (r : Fin 512) (l : Fin 1024) :
    iblk m c 1 t (ix2 r l) = m ((c : Thread nD τ).loc main_arg0) (ix3 0 (rowAt t r) l) := by
  blk_simp [iblk]; rw [V_v7]; blk_point [idx t, rowAt, col]
theorem iblk2_at (c : Dev nD) (t : Fin cfg0.N) (k : Fin 4) (r : Fin 512) (q : Fin 704) :
    iblk m c 2 t (ix3 k r q) = m ((c : Thread nD τ).loc main_arg5) (ix2 (rowAt t r) (col k q)) := by
  blk_simp [iblk]; rw [V_v10]; blk_point [idx t, rowAt, col]
theorem iblk3_at (c : Dev nD) (t : Fin cfg0.N) (k : Fin 4) (r : Fin 512) (q : Fin 704) :
    iblk m c 3 t (ix3 k r q) = m ((c : Thread nD τ).loc main_arg6) (ix2 (rowAt t r) (col k q)) := by
  blk_simp [iblk]; rw [V_v13]; blk_point [idx t, rowAt, col]
theorem iblk4_at (c : Dev nD) (t : Fin cfg0.N) (l : Fin 1024) :
    iblk m c 4 t (ix2 0 l) = m ((c : Thread nD τ).loc main_arg2) (ix1 l) := by
  blk_simp [iblk]; rw [V_v14]; blk_point [idx t]
theorem iblk5_at (c : Dev nD) (t : Fin cfg0.N) (k : Fin 4) (q : Fin 704) (l : Fin 1024) :
    iblk m c 5 t (ix3 k q l) = m ((c : Thread nD τ).loc main_arg3) (ix2 l (col k q)) := by
  blk_simp [iblk]; rw [V_v2]; blk_point [idx t, col]
theorem iblk6_at (c : Dev nD) (t : Fin cfg0.N) (k : Fin 4) (q : Fin 704) (l : Fin 1024) :
    iblk m c 6 t (ix3 k q l) = m ((c : Thread nD τ).loc main_arg4) (ix2 l (col k q)) := by
  blk_simp [iblk]; rw [V_v5]; blk_point [idx t, col]

theorem emb7 (t : Fin cfg0.N) (r : Fin 512) (l : Fin 1024) : ((View.whole main_v15_0).slice (win0_7.rect t)).emb (ix2 r l) = ix2 (rowAt t r) l := by
  blk_ext [idx t, rowAt]
theorem emb8 (t : Fin cfg0.N) (r : Fin 512) (l : Fin 1024) : ((View.whole main_v15_1).slice (win0_8.rect t)).emb (ix2 r l) = ix2 (rowAt t r) l := by
  blk_ext [idx t, rowAt]
theorem emb9 (t : Fin cfg0.N) (l : Fin 1024) : ((View.whole main_v15_2).slice (win0_9.rect t)).emb (ix2 0 l) = ix2 0 l := by
  blk_ext [idx t]

theorem dh_at (c : Dev nD) (t : Fin cfg0.N) (r : Fin 512) (l : Fin 1024) :
    dhBlk (iblk m c 2 t) (iblk m c 3 t) (iblk m c 5 t) (iblk m c 6 t) (ix2 r l)
      = dh (m ((c : Thread nD τ).loc main_arg3)) (m ((c : Thread nD τ).loc main_arg4)) (m ((c : Thread nD τ).loc main_arg5)) (m ((c : Thread nD τ).loc main_arg6)) (rowAt t r) l := by
  unfold dhBlk dh
  exact Finset.sum_congr rfl fun k _ => congrArg₂ (· + ·)
    (Finset.sum_congr rfl fun q _ => congrArg₂ (· * ·) (iblk2_at m c t k r q) (iblk5_at m c t k q l))
    (Finset.sum_congr rfl fun q _ => congrArg₂ (· * ·) (iblk3_at m c t k r q) (iblk6_at m c t k q l))

theorem dx_at (c : Dev nD) (t : Fin cfg0.N) (r : Fin 512) (l : Fin 1024) :
    dxBlk (iblk m c 0 t) (iblk m c 1 t) (iblk m c 2 t) (iblk m c 3 t) (iblk m c 4 t) (iblk m c 5 t) (iblk m c 6 t) (ix2 r l)
      = dxArr (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (ix2 (rowAt t r) l) := by
  unfold dxBlk dxArr
  exact congrArg₂ (· + ·) (iblk0_at m c t r l) (Rows.congr3 (fun a b g => Rows.back a b g l)
    (funext fun k => dh_at m c t r k) (funext fun k => iblk1_at m c t r k) (funext fun k => iblk4_at m c t k))

theorem h_at (c : Dev nD) (t : Fin cfg0.N) (r : Fin 512) (l : Fin 1024) :
    k0_pay3 (iblk m c 1 t) (iblk m c 4 t) (ix2 r l) = hArr (m ((c : Thread nD τ).loc main_arg0)) (m ((c : Thread nD τ).loc main_arg2)) (ix2 (rowAt t r) l) := by
  pointwise [k0_pay3, k0_pay2, hArr, row, Rows.scale, Rows.meanSq]
  simp only [iblk1_at, iblk4_at]

theorem dpg_at (c : Dev nD) (t : Fin cfg0.N) (l : Fin 1024) :
    dpgBlk (iblk m c 1 t) (iblk m c 2 t) (iblk m c 3 t) (iblk m c 5 t) (iblk m c 6 t) (ix2 0 l)
      = ∑ r : Fin 512, dh (m ((c : Thread nD τ).loc main_arg3)) (m ((c : Thread nD τ).loc main_arg4)) (m ((c : Thread nD τ).loc main_arg5)) (m ((c : Thread nD τ).loc main_arg6)) (rowAt t r) l
          * (row (m ((c : Thread nD τ).loc main_arg0)) (rowAt t r) l * Rows.scale (row (m ((c : Thread nD τ).loc main_arg0)) (rowAt t r))) := by
  unfold dpgBlk
  exact Finset.sum_congr rfl fun r _ => congrArg₂ (fun a b : EReal => a * b) (dh_at m c t r l) (congrArg₂ (fun a b : EReal => a * b) (iblk1_at m c t r l)
    (congrArg Rows.scale (funext fun k => iblk1_at m c t r k)))

theorem dpg_sum (c : Dev nD) (l : Fin 1024) :
    ∑ p : Fin 32, dpgBlk (iblk m c 1 ⟨p.val, p.isLt.trans_eq N_0.symm⟩) (iblk m c 2 ⟨p.val, p.isLt.trans_eq N_0.symm⟩)
        (iblk m c 3 ⟨p.val, p.isLt.trans_eq N_0.symm⟩) (iblk m c 5 ⟨p.val, p.isLt.trans_eq N_0.symm⟩)
        (iblk m c 6 ⟨p.val, p.isLt.trans_eq N_0.symm⟩) (ix2 0 l)
      = dpgArr (m ((c : Thread nD τ).loc main_arg0)) (m ((c : Thread nD τ).loc main_arg3)) (m ((c : Thread nD τ).loc main_arg4)) (m ((c : Thread nD τ).loc main_arg5)) (m ((c : Thread nD τ).loc main_arg6)) (ix2 0 l) := by
  unfold dpgArr
  rw [Fin.sum_univ_tiles 32 512 rfl]
  exact Finset.sum_congr rfl fun p _ => dpg_at m c _ l

theorem final7 (c : Dev nD) : (dats m 0 c).arrAt 7 (cfgs 0).N
    = dxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, out7]
  idx_vars y
  exact (dx_at m c t y0 y1).trans (congrArg _ (emb7 t y0 y1).symm)

theorem final8 (c : Dev nD) : (dats m 0 c).arrAt 8 (cfgs 0).N = hArr (m ((c : Thread nD τ).loc main_arg0)) (m ((c : Thread nD τ).loc main_arg2)) := by
  refine (dats m 0 c).arrAt_eq_of_covers 8 _ (by decide +kernel) fun t _ y => ?_
  blk_simp
  rw [after0_8, out8]
  idx_vars y
  exact (h_at m c t y0 y1).trans (congrArg _ (emb8 t y0 y1).symm)

theorem final9 (c : Dev nD) : (dats m 0 c).arrAt 9 (cfgs 0).N
    = dpgArr (m ((c : Thread nD τ).loc main_arg0)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9, Pipeline.eq_sum_fin_of_reset_step_apply_last (fun n h => (outsAt0 m c n h).2.2) 32 (fun _ => (0 : EReal))
    (fun t => dpgBlk (iblk m c 1 t) (iblk m c 2 t) (iblk m c 3 t) (iblk m c 5 t) (iblk m c 6 t))
    (fun t h j => by
      have := (idx t).2
      rw [outsAt0_A m c t (by omega) (by omega)]; frame_out; rw [zero_add]; exact congrFun (pay11_eq _ _ _ _ _) j)
    (fun t h j => by
      have := (idx t).2
      rw [outsAt0_B m c t (by omega) (by omega)]; frame_out; unfold k0_pay1; rw [shapeCast_self]
      exact congrArg (_ + ·) (congrFun (pay11_eq _ _ _ _ _) j))
    (le_of_eq N_0) t (by have h := (flush0_9 t).mp hf; have := (idx t).2; have e : cfg0.N = 32 := N_0; omega), zero_add]
  idx_vars y
  obtain rfl : y0 = 0 := Subsingleton.elim _ _
  exact (dpg_sum m c y1).trans (congrArg _ (emb9 t y1).symm)

end Cert.FfnBIdeal.Val

end
-- ==== Proof.FfnBTie.lean ====
/- The second half of the feed-forward block's gradient is what the chain rule says: the kernel's three results are the
   reference's, on real arguments. -/
module

public import proofs.«01_k».proof.Proof.FfnBKernel
public import proofs.«01_k».proof.Proof.Gen.FfnBRefIdeal.Read
public import proofs.«01_k».proof.Defs

@[expose] public section

set_option maxRecDepth 16384

noncomputable section

namespace Cert.FfnBTie

open Idealize.ShloMosaic Idealize.ShloMosaic.TcCoe Idealize.SL.Sem
open Cert.FfnBIdeal (S1x16384x1024 S1024x2816 S16384x2816 S16384x1024 S1x1024 S1024 nD τ)
open Cert.FfnBRefIdeal.Read Cert.Finite

/-- Arrays over the tokens, the weights, and the gradients of the two projections' outputs. -/
abbrev Tok := FVec Ideal S1x16384x1024 .f32
abbrev Wt := FVec Ideal S1024x2816 .f32
abbrev Gr := FVec Ideal S16384x2816 .f32

/-- The gradient of the normed input: the columns in one sum, or by the four column blocks. -/
theorem dh_eq (wg wu : Wt) (dg du : Gr) (s : Fin 16384) (l : Fin 1024) :
    val_main_v22 (F := Ideal) wg wu dg du (ix2 s l) = Cert.FfnBIdeal.Val.dh wg wu dg du s l := by
  pointwise [val_main_v22, val_main_v21, val_main_v20]
  unfold Cert.FfnBIdeal.Val.dh
  rw [Fin.sum_univ_tiles 4 704 rfl, Fin.sum_univ_tiles 4 704 rfl, Finset.sum_add_distrib, add_comm]
  rfl

theorem meanSq_eq (x : Tok) (s : Fin 16384) : val_main_v7 (F := Ideal) x (ix2 s 0) = Rows.meanSq (Cert.FfnBIdeal.Val.row x s) := by
  unfold Rows.meanSq Cert.FfnBIdeal.Val.row
  pointwise [val_main_v7, val_main_v6, val_main_v5, val_main_v4, val_main_v3, val_main_v2, val_main_v1, val_main_v0, val_main_cst, val_main_cst_0, val_main_cst_1]

theorem h_eq (x : Tok) (pg : FVec Ideal S1024 .f32) (j : S16384x1024.Idx) :
    Cert.FfnBIdeal.Val.hArr x pg j = val_main_v58 (F := Ideal) x pg j := by
  idx_vars j
  unfold Cert.FfnBIdeal.Val.hArr Rows.scale Rows.meanSq Cert.FfnBIdeal.Val.row
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_v21, val_main_v22, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45, val_main_cst_8, val_main_v46, val_main_v47, val_main_cst_9, val_main_v48, val_main_v49, val_main_cst_10, val_main_v50, val_main_v51, val_main_v52, val_main_v53, val_main_v54, val_main_v55, val_main_v56, val_main_v57, val_main_v58, val_main_v59]

theorem dpg_eq (x : Tok) (wg wu : Wt) (dg du : Gr) (j : S1x1024.Idx) :
    Cert.FfnBIdeal.Val.dpgArr x wg wu dg du j = val_main_v59 (F := Ideal) x wg wu dg du j := by
  idx_vars j
  unfold Cert.FfnBIdeal.Val.dpgArr
  pointwise [val_main_v0, val_main_v1, val_main_cst, val_main_v2, val_main_v3, val_main_cst_0, val_main_v4, val_main_v5, val_main_cst_1, val_main_v6, val_main_v8, val_main_v9, val_main_cst_2, val_main_v10, val_main_v11, val_main_v12, val_main_v13, val_main_v14, val_main_v15, val_main_v16, val_main_v17, val_main_v18, val_main_v19, val_main_v20, val_main_v21, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45, val_main_cst_8, val_main_v46, val_main_v47, val_main_cst_9, val_main_v48, val_main_v49, val_main_cst_10, val_main_v50, val_main_v51, val_main_v52, val_main_v53, val_main_v54, val_main_v55, val_main_v56, val_main_v57, val_main_v58, val_main_v59]
  simp only [dh_eq, meanSq_eq, Fin.sum_univ_one]
  exact Finset.sum_congr rfl fun s _ => mul_comm _ _

theorem isReal_dh {wg wu : Wt} {dg du : Gr} (hwg : IsReal wg) (hwu : IsReal wu) (hdg : IsReal dg) (hdu : IsReal du) (s : Fin 16384) :
    IsReal (Cert.FfnBIdeal.Val.dh wg wu dg du s) := fun l =>
  .sum _ fun k => (IsR.sum _ fun q => (hdg _).mul (hwg _)).add (.sum _ fun q => (hdu _).mul (hwu _))

theorem dx_eq {x dy : Tok} {pg : FVec Ideal S1024 .f32} {wg wu : Wt} {dg du : Gr} (hx : IsReal x) (hpg : IsReal pg)
    (hwg : IsReal wg) (hwu : IsReal wu) (hdg : IsReal dg) (hdu : IsReal du) (j : S16384x1024.Idx) :
    Cert.FfnBIdeal.Val.dxArr x dy pg wg wu dg du j = val_main_v43 (F := Ideal) x dy pg wg wu dg du j := by
  idx_vars j
  unfold Cert.FfnBIdeal.Val.dxArr
  pointwise [val_main_v0, val_main_v1, val_main_cst, val_main_v2, val_main_v3, val_main_cst_0, val_main_v4, val_main_v5, val_main_cst_1, val_main_v6, val_main_v8, val_main_v9, val_main_cst_2, val_main_v10, val_main_v11, val_main_v12, val_main_v13, val_main_v14, val_main_v15, val_main_v16, val_main_v17, val_main_v18, val_main_v19, val_main_v20, val_main_v21, val_main_v23, val_main_cst_3, val_main_v24, val_main_v25, val_main_v26, val_main_v27, val_main_cst_4, val_main_v28, val_main_v29, val_main_cst_5, val_main_v30, val_main_v31, val_main_v32, val_main_v33, val_main_v34, val_main_v35, val_main_cst_6, val_main_v36, val_main_v37, val_main_cst_7, val_main_v38, val_main_v39, val_main_v40, val_main_v41, val_main_v42, val_main_v43, val_main_v44, val_main_v45, val_main_cst_8, val_main_v46, val_main_v47, val_main_cst_9, val_main_v48, val_main_v49, val_main_cst_10, val_main_v50, val_main_v51, val_main_v52, val_main_v53, val_main_v54, val_main_v55, val_main_v56, val_main_v57, val_main_v58, val_main_v59]
  simp only [Fin.sum_univ_one, dh_eq, Fin.isValue, meanSq_eq]
  refine (congrArg (_ + ·) (Rows.back_eq_chain (isReal_dh hwg hwu hdg hdu j0) (fun l => hx _) (fun l => hpg _) j1)).trans ?_
  exact (add_assoc _ _ _).symm.trans (congrArg (· + _) (add_assoc _ _ _).symm)

/-- What the precondition says of the arguments. -/
theorem real_args (m : (ℓ : Loc Cert.FfnBIdeal.nD Cert.FfnBIdeal.τ Cert.FfnBIdeal.sig) → Buf (Elt Ideal) ℓ) [Cert.Pre_ffn_b_finite.Facts]
    (h : Cert.Pre_FfnBIdeal_ffn_b_finite m) (c : Dev Cert.FfnBIdeal.nD) :
    IsReal (m ((c.tc : Thread _ _).loc Cert.FfnBIdeal.main_arg0)) ∧ IsReal (m ((c.tc : Thread _ _).loc Cert.FfnBIdeal.main_arg2))
      ∧ IsReal (m ((c.tc : Thread _ _).loc Cert.FfnBIdeal.main_arg3)) ∧ IsReal (m ((c.tc : Thread _ _).loc Cert.FfnBIdeal.main_arg4))
      ∧ IsReal (m ((c.tc : Thread _ _).loc Cert.FfnBIdeal.main_arg5)) ∧ IsReal (m ((c.tc : Thread _ _).loc Cert.FfnBIdeal.main_arg6)) := by
  have e := congrFun (h c) (fun a => a.elim0)
  unfold Cert.Pre_ffn_b_finite.fn Cert.Pre_ffn_b_finite.fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨isReal_of_test _ _ _ _ _ _ e0, isReal_of_test _ _ _ _ _ _ e2, isReal_of_test _ _ _ _ _ _ e3,
    isReal_of_test _ _ _ _ _ _ e4, isReal_of_test _ _ _ _ _ _ e5, isReal_of_test _ _ _ _ _ _ e6⟩

open Cert.FfnBIdeal Cert.FfnBIdeal.Gen in
/-- The kernel program's run, its results the reference's terms of the same arguments. -/
theorem run (m : (ℓ : Loc Cert.FfnBIdeal.nD Cert.FfnBIdeal.τ Cert.FfnBIdeal.sig) → Buf (Elt Ideal) ℓ) (g : Dev Cert.FfnBIdeal.nD → PrngReg) [Cert.Pre_ffn_b_finite.Facts]
    (hp : Cert.Pre_FfnBIdeal_ffn_b_finite m) :
    θ_run (Cert.FfnBIdeal.defs (F := Ideal)) (onTc (τ := Cert.FfnBIdeal.τ) (Cert.FfnBIdeal.main (F := Ideal))) ⟨m, fun _ => 0, g⟩
      (fun r => ∀ c : Dev Cert.FfnBIdeal.nD,
        r.2.mem ((c.tc : Thread _ _).loc Cert.FfnBIdeal.main_v15_0) = val_main_v43 (F := Ideal) (m ((c.tc : Thread _ _).loc Cert.FfnBIdeal.main_arg0)) (m ((c.tc : Thread _ _).loc Cert.FfnBIdeal.main_arg1)) (m ((c.tc : Thread _ _).loc Cert.FfnBIdeal.main_arg2)) (m ((c.tc : Thread _ _).loc Cert.FfnBIdeal.main_arg3)) (m ((c.tc : Thread _ _).loc Cert.FfnBIdeal.main_arg4)) (m ((c.tc : Thread _ _).loc Cert.FfnBIdeal.main_arg5)) (m ((c.tc : Thread _ _).loc Cert.FfnBIdeal.main_arg6))
        ∧ r.2.mem ((c.tc : Thread _ _).loc Cert.FfnBIdeal.main_v15_1) = val_main_v58 (F := Ideal) (m ((c.tc : Thread _ _).loc Cert.FfnBIdeal.main_arg0)) (m ((c.tc : Thread _ _).loc Cert.FfnBIdeal.main_arg2))
        ∧ r.2.mem ((c.tc : Thread _ _).loc Cert.FfnBIdeal.main_v15_2) = val_main_v59 (F := Ideal) (m ((c.tc : Thread _ _).loc Cert.FfnBIdeal.main_arg0)) (m ((c.tc : Thread _ _).loc Cert.FfnBIdeal.main_arg3)) (m ((c.tc : Thread _ _).loc Cert.FfnBIdeal.main_arg4)) (m ((c.tc : Thread _ _).loc Cert.FfnBIdeal.main_arg5)) (m ((c.tc : Thread _ _).loc Cert.FfnBIdeal.main_arg6))
        ∧ r.2.mem ((c.tc : Thread _ _).loc Cert.FfnBIdeal.main_arg0) = m ((c.tc : Thread _ _).loc Cert.FfnBIdeal.main_arg0) ∧ r.2.mem ((c.tc : Thread _ _).loc Cert.FfnBIdeal.main_arg1) = m ((c.tc : Thread _ _).loc Cert.FfnBIdeal.main_arg1) ∧ r.2.mem ((c.tc : Thread _ _).loc Cert.FfnBIdeal.main_arg2) = m ((c.tc : Thread _ _).loc Cert.FfnBIdeal.main_arg2) ∧ r.2.mem ((c.tc : Thread _ _).loc Cert.FfnBIdeal.main_arg3) = m ((c.tc : Thread _ _).loc Cert.FfnBIdeal.main_arg3) ∧ r.2.mem ((c.tc : Thread _ _).loc Cert.FfnBIdeal.main_arg4) = m ((c.tc : Thread _ _).loc Cert.FfnBIdeal.main_arg4) ∧ r.2.mem ((c.tc : Thread _ _).loc Cert.FfnBIdeal.main_arg5) = m ((c.tc : Thread _ _).loc Cert.FfnBIdeal.main_arg5) ∧ r.2.mem ((c.tc : Thread _ _).loc Cert.FfnBIdeal.main_arg6) = m ((c.tc : Thread _ _).loc Cert.FfnBIdeal.main_arg6)) := by
  refine (θ_run _ _ _).mono (fun r h c => ?_) (θ_run_and (Cert.FfnBIdeal.Gen.run_main m g) (Cert.FfnBIdeal.Gen.unchanged m g))
  obtain ⟨h0, h2, h3, h4, h5, h6⟩ := real_args m hp c
  refine ⟨?_, ?_, ?_, h.2 c⟩
  · exact ((h.1.out_eq c 7).trans (Val.final7 m c)).trans (funext fun j => dx_eq h0 h2 h3 h4 h5 h6 j)
  · exact ((h.1.out_eq c 8).trans (Val.final8 m c)).trans (funext fun j => h_eq _ _ j)
  · exact ((h.1.out_eq c 9).trans (Val.final9 m c)).trans (funext fun j => dpg_eq _ _ _ _ _ j)

end Cert.FfnBTie

end
-- ==== Proof.FfnAKernel.lean ====
/- What the first half of the feed-forward block's gradient leaves in its four output arrays, over the extended reals: the
   gradients of the two projections' outputs, of the output projection's result, and of the gain of the norm behind it. -/
module

public import proofs.«01_k».proof.Proof.Rows
public import proofs.«01_k».proof.Proof.Gen.FfnAIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.FfnAIdeal.Val

open Cert.FfnAIdeal Cert.FfnAIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits at a point. -/
theorem idx : ∀ t : Fin cfg0.N, (win0_0.index t = ![t.val, 0] ∧ win0_1.index t = ![0, t.val, 0] ∧ win0_2.index t = ![0, t.val, 0]
    ∧ win0_3.index t = ![t.val, 0] ∧ win0_4.index t = ![0, 0] ∧ win0_5.index t = ![0, 0, 0]
    ∧ win0_6.index t = ![0, t.val, 0] ∧ win0_7.index t = ![0, t.val, 0] ∧ win0_8.index t = ![t.val, 0] ∧ win0_9.index t = ![0, 0]) ∧ t.val < 32 :=
  (by decide +kernel : ∀ t : Fin grid0.N, _)

/-- Column `q` of the `k`-th of the four column blocks. -/
def col (k : Fin 4) (q : Fin 704) : Fin 2816 := ⟨k.val * 704 + q.val, by omega⟩

/-! ## The arrays, as functions of the program's arguments -/

abbrev Tok := FVec Ideal S1x16384x1024 .f32
abbrev Vc := FVec Ideal S1024 .f32
abbrev Wt := FVec Ideal S1024x2816 .f32
abbrev Wd := FVec Ideal S2816x1024 .f32

/-- Row `s` of an array with a leading axis of size one. -/
def row (x : Tok) (s : Fin 16384) : Fin 1024 → EReal := fun l => x (ix3 0 s l)

/-- A projection of the normed input. -/
def proj (x : Tok) (pg : Vc) (w : Wt) (s : Fin 16384) (q : Fin 2816) : EReal :=
  ∑ l : Fin 1024, x (ix3 0 s l) * Rows.scale (row x s) * pg (ix1 l) * w (ix2 l q)

/-- The logistic function, by the hyperbolic tangent. -/
def sgm (a : EReal) : EReal :=
  Ideal.ofBits .f32 0x3F000000#32 * Ideal.tanh (Ideal.ofBits .f32 0x3F000000#32 * a) + Ideal.ofBits .f32 0x3F000000#32

/-- What the output projection makes of the gated activations. -/
def out (x : Tok) (pg : Vc) (wg wu : Wt) (wd : Wd) (s : Fin 16384) (l : Fin 1024) : EReal :=
  ∑ q : Fin 2816, proj x pg wg s q * sgm (proj x pg wg s q) * proj x pg wu s q * wd (ix2 q l)

/-- The gated activations' derivative by the gate's input `g`, and by the other factor. -/
def dGate (g u : EReal) : EReal := u * (sgm g * (1 + g * (1 - sgm g)))
def dUp (g : EReal) : EReal := g * sgm g

/-- The gradient that comes back through the halved branch. -/
def half (dy : Tok) (s : Fin 16384) : Fin 1024 → EReal := fun l => Ideal.ofBits .f32 0x3F000000#32 * dy (ix3 0 s l)

def df (x dy : Tok) (pg : Vc) (wg wu : Wt) (wd : Wd) (qg : Vc) (s : Fin 16384) (l : Fin 1024) : EReal :=
  Rows.back (half dy s) (out x pg wg wu wd s) (fun l => qg (ix1 l)) l

/-- The gradient of the gated activations. -/
def da (x dy : Tok) (pg : Vc) (wg wu : Wt) (wd : Wd) (qg : Vc) (s : Fin 16384) (q : Fin 2816) : EReal :=
  ∑ l : Fin 1024, df x dy pg wg wu wd qg s l * wd (ix2 q l)

def dgArr (x dy : Tok) (pg : Vc) (wg wu : Wt) (wd : Wd) (qg : Vc) : FVec Ideal S4x16384x704 .bf16 := fun j =>
  da x dy pg wg wu wd qg (j 1) (col (j 0) (j 2)) * dGate (proj x pg wg (j 1) (col (j 0) (j 2))) (proj x pg wu (j 1) (col (j 0) (j 2)))

def duArr (x dy : Tok) (pg : Vc) (wg wu : Wt) (wd : Wd) (qg : Vc) : FVec Ideal S4x16384x704 .bf16 := fun j =>
  da x dy pg wg wu wd qg (j 1) (col (j 0) (j 2)) * dUp (proj x pg wg (j 1) (col (j 0) (j 2)))

def dfArr (x dy : Tok) (pg : Vc) (wg wu : Wt) (wd : Wd) (qg : Vc) : FVec Ideal S16384x1024 .bf16 := fun j =>
  df x dy pg wg wu wd qg (j 0) (j 1)

def dqgArr (x dy : Tok) (pg : Vc) (wg wu : Wt) (wd : Wd) : FVec Ideal S1x1024 .f32 := fun j =>
  ∑ s : Fin 16384, half dy s (j 1) * (out x pg wg wu wd s (j 1) * Rows.scale (out x pg wg wu wd s))

/-! ## What the region finds, the lines before it done -/

theorem V_v34 (c : Dev nD) (j : S16384x1024.Idx) :
    V m c main_v34 j = out (m ((c : Thread nD τ).loc main_arg0)) (m ((c : Thread nD τ).loc main_arg2)) (m ((c : Thread nD τ).loc main_arg3)) (m ((c : Thread nD τ).loc main_arg4)) (m ((c : Thread nD τ).loc main_arg5)) (j 0) (j 1) := by
  unfold V; after_reads_at; rfl
theorem V_v36 (c : Dev nD) (j : S4x704x1024.Idx) : V m c main_v36 j = m ((c : Thread nD τ).loc main_arg5) (ix2 (col (j 0) (j 1)) (j 2)) := by
  unfold V; after_reads_at; rfl
theorem V_v37 (c : Dev nD) (j : S16384x1024.Idx) : V m c main_v37 j = m ((c : Thread nD τ).loc main_arg1) (ix3 0 (j 0) (j 1)) := by
  unfold V; after_reads_at
theorem V_v40 (c : Dev nD) (j : S4x16384x704.Idx) : V m c main_v40 j
    = dGate (proj (m ((c : Thread nD τ).loc main_arg0)) (m ((c : Thread nD τ).loc main_arg2)) (m ((c : Thread nD τ).loc main_arg3)) (j 1) (col (j 0) (j 2))) (proj (m ((c : Thread nD τ).loc main_arg0)) (m ((c : Thread nD τ).loc main_arg2)) (m ((c : Thread nD τ).loc main_arg4)) (j 1) (col (j 0) (j 2))) := by
  unfold V; after_reads_at; rfl
theorem V_v43 (c : Dev nD) (j : S4x16384x704.Idx) : V m c main_v43 j
    = dUp (proj (m ((c : Thread nD τ).loc main_arg0)) (m ((c : Thread nD τ).loc main_arg2)) (m ((c : Thread nD τ).loc main_arg3)) (j 1) (col (j 0) (j 2))) := by
  unfold V; after_reads_at; rfl
theorem V_v44 (c : Dev nD) (j : S1x1024.Idx) : V m c main_v44 j = m ((c : Thread nD τ).loc main_arg6) (ix1 (j 1)) := by
  unfold V; after_reads_at

/-! ## One point's block -/

/-- The block of `(df · wdᵀ) * d`, by the four column blocks. -/
def gradBlk (e : Vec Ideal S512x1024 .bf16) (wd : Vec Ideal S4x704x1024 .bf16) (d : Vec Ideal S4x512x704 .bf16) : Vec Ideal S4x512x704 .bf16 := fun y =>
  (∑ l : Fin 1024, e (ix2 (y 1) l) * wd (ix3 (y 0) (y 2) l)) * d (ix3 (y 0) (y 1) (y 2))

theorem pay10_eq (dy : Vec Ideal S512x1024 .f32) (f : Vec Ideal S512x1024 .bf16) (qg : Vec Ideal S1x1024 .f32) (w : Vec Ideal S1x704x1024 .bf16) :
    k0_pay10 dy f qg w = k0_pay13 (k0_pay9 dy f qg) w := rfl

theorem out6 (c : Dev nD) (t : Fin cfg0.N) : (outsAt0 m c t.val t.isLt).1
    = gradBlk (k0_pay9 (iblk m c 0 t) (iblk m c 3 t) (iblk m c 4 t)) (iblk m c 5 t) (iblk m c 1 t) := by
  have := (idx t).2
  by_cases ht : t.val = 0
  · rw [outsAt0_A m c t (by omega) (by omega)]; frame_out
    rw [pay10_eq]
    generalize k0_pay9 (iblk m c 0 t) (iblk m c 3 t) (iblk m c 4 t) = e
    generalize (iblk m c 5 t) = wd
    generalize (iblk m c 1 t) = d
    funext y; clear this ht
    canon_tiles x h
    all_goals (open_payloads; pointwise; refine Eq.trans (b := gradBlk e wd d (ix3 _ (x 1) (x 2))) rfl (congrArg _ ?_); blk_ext)
  · rw [outsAt0_B m c t (by omega) (by omega)]; frame_out
    rw [pay10_eq]
    generalize k0_pay9 (iblk m c 0 t) (iblk m c 3 t) (iblk m c 4 t) = e
    generalize (iblk m c 5 t) = wd
    generalize (iblk m c 1 t) = d
    funext y; clear this ht
    canon_tiles x h
    all_goals (open_payloads; pointwise; refine Eq.trans (b := gradBlk e wd d (ix3 _ (x 1) (x 2))) rfl (congrArg _ ?_); blk_ext)

theorem out7 (c : Dev nD) (t : Fin cfg0.N) : (outsAt0 m c t.val t.isLt).2.1
    = gradBlk (k0_pay9 (iblk m c 0 t) (iblk m c 3 t) (iblk m c 4 t)) (iblk m c 5 t) (iblk m c 2 t) := by
  have := (idx t).2
  by_cases ht : t.val = 0
  · rw [outsAt0_A m c t (by omega) (by omega)]; frame_out
    rw [pay10_eq]
    generalize k0_pay9 (iblk m c 0 t) (iblk m c 3 t) (iblk m c 4 t) = e
    generalize (iblk m c 5 t) = wd
    generalize (iblk m c 2 t) = d
    funext y; clear this ht
    canon_tiles x h
    all_goals (open_payloads; pointwise; refine Eq.trans (b := gradBlk e wd d (ix3 _ (x 1) (x 2))) rfl (congrArg _ ?_); blk_ext)
  · rw [outsAt0_B m c t (by omega) (by omega)]; frame_out
    rw [pay10_eq]
    generalize k0_pay9 (iblk m c 0 t) (iblk m c 3 t) (iblk m c 4 t) = e
    generalize (iblk m c 5 t) = wd
    generalize (iblk m c 2 t) = d
    funext y; clear this ht
    canon_tiles x h
    all_goals (open_payloads; pointwise; refine Eq.trans (b := gradBlk e wd d (ix3 _ (x 1) (x 2))) rfl (congrArg _ ?_); blk_ext)

theorem out8 (c : Dev nD) (t : Fin cfg0.N) : (outsAt0 m c t.val t.isLt).2.2.1 = k0_pay9 (iblk m c 0 t) (iblk m c 3 t) (iblk m c 4 t) := by
  have := (idx t).2
  by_cases ht : t.val = 0
  · rw [outsAt0_A m c t (by omega) (by omega)]; frame_out
  · rw [outsAt0_B m c t (by omega) (by omega)]; frame_out

/-! ## The blocks, in the whole arrays -/

/-- Row `r` of the block at point `t`, in the whole array. -/
def rowAt (t : Fin cfg0.N) (r : Fin 512) : Fin 16384 := ⟨t.val * 512 + r.val, by have := (idx t).2; omega⟩

theorem iblk0_at (c : Dev nD) (t : Fin cfg0.N) (r : Fin 512) (l : Fin 1024) :
    iblk m c 0 t (ix2 r l) = m ((c : Thread nD τ).loc main_arg1) (ix3 0 (rowAt t r) l) := by
  blk_simp [iblk]; rw [V_v37]; blk_point [idx t, rowAt]

theorem emb1 (t : Fin cfg0.N) (k : Fin 4) (r : Fin 512) (q : Fin 704) :
    ((View.whole main_v40).slice (win0_1.rect t)).emb (ix3 k r q) = ix3 k (rowAt t r) q := by blk_ext [idx t, rowAt]
theorem emb2 (t : Fin cfg0.N) (k : Fin 4) (r : Fin 512) (q : Fin 704) :
    ((View.whole main_v43).slice (win0_2.rect t)).emb (ix3 k r q) = ix3 k (rowAt t r) q := by blk_ext [idx t, rowAt]
theorem emb3 (t : Fin cfg0.N) (r : Fin 512) (l : Fin 1024) :
    ((View.whole main_v34).slice (win0_3.rect t)).emb (ix2 r l) = ix2 (rowAt t r) l := by blk_ext [idx t, rowAt]
theorem emb6 (t : Fin cfg0.N) (k : Fin 4) (r : Fin 512) (q : Fin 704) :
    ((View.whole main_v45_0).slice (win0_6.rect t)).emb (ix3 k r q) = ix3 k (rowAt t r) q := by blk_ext [idx t, rowAt]
theorem emb7 (t : Fin cfg0.N) (k : Fin 4) (r : Fin 512) (q : Fin 704) :
    ((View.whole main_v45_1).slice (win0_7.rect t)).emb (ix3 k r q) = ix3 k (rowAt t r) q := by blk_ext [idx t, rowAt]
theorem emb8 (t : Fin cfg0.N) (r : Fin 512) (l : Fin 1024) :
    ((View.whole main_v45_2).slice (win0_8.rect t)).emb (ix2 r l) = ix2 (rowAt t r) l := by blk_ext [idx t, rowAt]
theorem emb9 (t : Fin cfg0.N) (l : Fin 1024) :
    ((View.whole main_v45_3).slice (win0_9.rect t)).emb (ix2 0 l) = ix2 0 l := by blk_ext [idx t]

theorem iblk1_at (c : Dev nD) (t : Fin cfg0.N) (k : Fin 4) (r : Fin 512) (q : Fin 704) : iblk m c 1 t (ix3 k r q)
    = dGate (proj (m ((c : Thread nD τ).loc main_arg0)) (m ((c : Thread nD τ).loc main_arg2)) (m ((c : Thread nD τ).loc main_arg3)) (rowAt t r) (col k q)) (proj (m ((c : Thread nD τ).loc main_arg0)) (m ((c : Thread nD τ).loc main_arg2)) (m ((c : Thread nD τ).loc main_arg4)) (rowAt t r) (col k q)) := by
  blk_simp [iblk]; rw [V_v40, emb1]; rfl
theorem iblk2_at (c : Dev nD) (t : Fin cfg0.N) (k : Fin 4) (r : Fin 512) (q : Fin 704) : iblk m c 2 t (ix3 k r q)
    = dUp (proj (m ((c : Thread nD τ).loc main_arg0)) (m ((c : Thread nD τ).loc main_arg2)) (m ((c : Thread nD τ).loc main_arg3)) (rowAt t r) (col k q)) := by
  blk_simp [iblk]; rw [V_v43, emb2]; rfl
theorem iblk3_at (c : Dev nD) (t : Fin cfg0.N) (r : Fin 512) (l : Fin 1024) : iblk m c 3 t (ix2 r l)
    = out (m ((c : Thread nD τ).loc main_arg0)) (m ((c : Thread nD τ).loc main_arg2)) (m ((c : Thread nD τ).loc main_arg3)) (m ((c : Thread nD τ).loc main_arg4)) (m ((c : Thread nD τ).loc main_arg5)) (rowAt t r) l := by
  blk_simp [iblk]; rw [V_v34, emb3]; rfl
theorem iblk4_at (c : Dev nD) (t : Fin cfg0.N) (l : Fin 1024) : iblk m c 4 t (ix2 0 l) = m ((c : Thread nD τ).loc main_arg6) (ix1 l) := by
  blk_simp [iblk]; rw [V_v44]; blk_point [idx t]
theorem iblk5_at (c : Dev nD) (t : Fin cfg0.N) (k : Fin 4) (q : Fin 704) (l : Fin 1024) :
    iblk m c 5 t (ix3 k q l) = m ((c : Thread nD τ).loc main_arg5) (ix2 (col k q) l) := by
  blk_simp [iblk]; rw [V_v36]; blk_point [idx t, col]

theorem pay9_at (dy : Vec Ideal S512x1024 .f32) (f : Vec Ideal S512x1024 .bf16) (qg : Vec Ideal S1x1024 .f32) (r : Fin 512) (l : Fin 1024) :
    k0_pay9 dy f qg (ix2 r l) = Rows.back (fun l => Ideal.ofBits .f32 0x3F000000#32 * dy (ix2 r l)) (fun l => f (ix2 r l)) (fun l => qg (ix2 0 l)) l := by
  pointwise [k0_pay9, k0_pay7, k0_pay6, k0_pay5, k0_pay4, Rows.back, Rows.scale, Rows.meanSq]

theorem pay8_at (dy : Vec Ideal S512x1024 .f32) (f : Vec Ideal S512x1024 .bf16) (l : Fin 1024) :
    k0_pay8 dy f (ix2 0 l) = ∑ r : Fin 512, Ideal.ofBits .f32 0x3F000000#32 * dy (ix2 r l) * (f (ix2 r l) * Rows.scale (fun l => f (ix2 r l))) := by
  pointwise [k0_pay8, k0_pay7, k0_pay6, k0_pay5, k0_pay4, Rows.scale, Rows.meanSq]

theorem df_at (c : Dev nD) (t : Fin cfg0.N) (r : Fin 512) (l : Fin 1024) : k0_pay9 (iblk m c 0 t) (iblk m c 3 t) (iblk m c 4 t) (ix2 r l)
    = df (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowAt t r) l := by
  rw [pay9_at]
  unfold df half
  exact Rows.congr3 (fun a b g => Rows.back a b g l) (funext fun k => congrArg (fun a : EReal => _ * a) (iblk0_at m c t r k))
    (funext fun k => iblk3_at m c t r k) (funext fun k => iblk4_at m c t k)

theorem da_at (c : Dev nD) (t : Fin cfg0.N) (k : Fin 4) (r : Fin 512) (q : Fin 704) :
    ∑ l : Fin 1024, k0_pay9 (iblk m c 0 t) (iblk m c 3 t) (iblk m c 4 t) (ix2 r l) * (iblk m c 5 t (ix3 k q l) : EReal)
      = da (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowAt t r) (col k q) :=
  Finset.sum_congr rfl fun l _ => congrArg₂ (fun a b : EReal => a * b) (df_at m c t r l) (iblk5_at m c t k q l)

theorem dqg_at (c : Dev nD) (t : Fin cfg0.N) (l : Fin 1024) : k0_pay8 (F := Ideal) (iblk m c 0 t) (iblk m c 3 t) (ix2 0 l)
    = ∑ r : Fin 512, half (m ((c : Thread nD τ).loc main_arg1)) (rowAt t r) l * (out (m ((c : Thread nD τ).loc main_arg0)) (m ((c : Thread nD τ).loc main_arg2)) (m ((c : Thread nD τ).loc main_arg3)) (m ((c : Thread nD τ).loc main_arg4)) (m ((c : Thread nD τ).loc main_arg5)) (rowAt t r) l
        * Rows.scale (out (m ((c : Thread nD τ).loc main_arg0)) (m ((c : Thread nD τ).loc main_arg2)) (m ((c : Thread nD τ).loc main_arg3)) (m ((c : Thread nD τ).loc main_arg4)) (m ((c : Thread nD τ).loc main_arg5)) (rowAt t r))) :=
  (pay8_at _ _ l).trans <| Finset.sum_congr rfl fun r _ => congrArg₂ (fun a b : EReal => a * b) (congrArg (fun a : EReal => _ * a) (iblk0_at m c t r l))
    (congrArg₂ (fun a b : EReal => a * b) (iblk3_at m c t r l) (congrArg Rows.scale (funext fun k => iblk3_at m c t r k)))

theorem dqg_sum (c : Dev nD) (l : Fin 1024) :
    ∑ p : Fin 32, k0_pay8 (F := Ideal) (iblk m c 0 ⟨p.val, p.isLt.trans_eq N_0.symm⟩) (iblk m c 3 ⟨p.val, p.isLt.trans_eq N_0.symm⟩) (ix2 0 l)
      = dqgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 0 l) := by
  unfold dqgArr
  rw [Fin.sum_univ_tiles 32 512 rfl]
  exact Finset.sum_congr rfl fun p _ => dqg_at m c _ l

/-! ## The arrays after the run -/

theorem dg_at (c : Dev nD) (t : Fin cfg0.N) (k : Fin 4) (r : Fin 512) (q : Fin 704) :
    gradBlk (k0_pay9 (iblk m c 0 t) (iblk m c 3 t) (iblk m c 4 t)) (iblk m c 5 t) (iblk m c 1 t) (ix3 k r q)
      = dgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 k (rowAt t r) q) := by
  unfold gradBlk dgArr
  exact congrArg₂ (fun a b : EReal => a * b) (da_at m c t k r q) (iblk1_at m c t k r q)

theorem du_at (c : Dev nD) (t : Fin cfg0.N) (k : Fin 4) (r : Fin 512) (q : Fin 704) :
    gradBlk (k0_pay9 (iblk m c 0 t) (iblk m c 3 t) (iblk m c 4 t)) (iblk m c 5 t) (iblk m c 2 t) (ix3 k r q)
      = duArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 k (rowAt t r) q) := by
  unfold gradBlk duArr
  exact congrArg₂ (fun a b : EReal => a * b) (da_at m c t k r q) (iblk2_at m c t k r q)

theorem dfArr_at (c : Dev nD) (t : Fin cfg0.N) (r : Fin 512) (l : Fin 1024) : k0_pay9 (iblk m c 0 t) (iblk m c 3 t) (iblk m c 4 t) (ix2 r l)
    = dfArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowAt t r) l) := by
  unfold dfArr
  exact df_at m c t r l

theorem final6 (c : Dev nD) : (dats m 0 c).arrAt 6 (cfgs 0).N = dgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t _ y => ?_
  blk_simp
  rw [after0_6, out6]
  idx_vars y
  exact (dg_at m c t y0 y1 y2).trans (congrArg _ (emb6 t y0 y1 y2).symm)

theorem final7 (c : Dev nD) : (dats m 0 c).arrAt 7 (cfgs 0).N = duArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7, out7]
  idx_vars y
  exact (du_at m c t y0 y1 y2).trans (congrArg _ (emb7 t y0 y1 y2).symm)

theorem final8 (c : Dev nD) : (dats m 0 c).arrAt 8 (cfgs 0).N = dfArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8, out8]
  idx_vars y
  exact (dfArr_at m c t y0 y1).trans (congrArg _ (emb8 t y0 y1).symm)

theorem final9 (c : Dev nD) : (dats m 0 c).arrAt 9 (cfgs 0).N = dqgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_last (fun n h => (outsAt0 m c n h).2.2.2) 32 (fun _ => (0 : EReal))
    (fun t => k0_pay8 (iblk m c 0 t) (iblk m c 3 t))
    (fun t h j => by
      have := (idx t).2
      rw [outsAt0_A m c t (by omega) (by omega)]; frame_out; rw [zero_add])
    (fun t h j => by
      have := (idx t).2
      rw [outsAt0_B m c t (by omega) (by omega)]; frame_out; unfold k0_pay3; rw [shapeCast_self]; rfl)
    (le_of_eq N_0) t (by have h := (flush0_9 t).mp hf; have := (idx t).2; have e : cfg0.N = 32 := N_0; omega), zero_add]
  idx_vars y
  obtain rfl : y0 = 0 := Subsingleton.elim _ _
  exact (dqg_sum m c y1).trans (congrArg _ (emb9 t y1).symm)

end Cert.FfnAIdeal.Val

end
-- ==== Proof.FfnATie.lean ====
/- The first half of the feed-forward block's gradient is what the chain rule says: the kernel's four results are the
   reference's, on real arguments. -/
module

public import proofs.«01_k».proof.Proof.FfnAKernel
public import proofs.«01_k».proof.Proof.Gen.FfnARefIdeal.Read
public import proofs.«01_k».proof.Defs

@[expose] public section

set_option maxRecDepth 16384

noncomputable section

namespace Cert.FfnATie

open Idealize.ShloMosaic Idealize.ShloMosaic.TcCoe Idealize.SL.Sem
open Cert.FfnAIdeal (S1x16384x1024 S1024x2816 S2816x1024 S16384x2816 S16384x1024 S4x16384x704 S1x1024 S1024 nD τ)
open Cert.FfnARefIdeal.Read Cert.Finite
open Cert.FfnAIdeal.Val (Tok Vc Wt Wd row proj sgm out dGate dUp half df da col dgArr duArr dfArr dqgArr)

/-! ## The logistic function, and the gate's derivative -/

theorem sgm_coe (a : ℝ) : sgm (a : EReal) = ((1 + Real.exp (-a))⁻¹ : ℝ) := by
  unfold sgm
  rw [Lit.half, ← EReal.coe_mul, Ideal.tanh_coe, ← EReal.coe_mul, ← EReal.coe_add]
  congr 1
  have hp := Real.exp_pos (1 / 2 * a)
  rw [Real.tanh_eq_sinh_div_cosh, Real.sinh_eq, Real.cosh_eq, show -a = -(1 / 2 * a) + -(1 / 2 * a) by ring, Real.exp_add, Real.exp_neg]
  field_simp
  ring

theorem logistic_eq {a : EReal} (h : IsR a) : Ideal.div 1 (1 + Ideal.exp (-a)) = sgm a := by
  obtain ⟨a, rfl⟩ := h
  have hp : (1 + Real.exp (-a)) ≠ 0 := by positivity
  rw [sgm_coe, ← EReal.coe_neg, Ideal.exp_coe, ← EReal.coe_one, ← EReal.coe_add, Ideal.div_coe hp, one_div, ← EReal.coe_mul, one_mul]

theorem isR_sgm {a : EReal} (h : IsR a) : IsR (sgm a) := by
  obtain ⟨a, rfl⟩ := h
  exact ⟨_, sgm_coe a⟩

theorem gate_eq {d g u s : EReal} (hd : IsR d) (hg : IsR g) (hu : IsR u) (hs : IsR s) :
    d * (u * (s * (1 + g * (1 - s)))) = d * u * s + g * (d * u) * (s * (1 - s)) := by
  obtain ⟨d, rfl⟩ := hd
  obtain ⟨g, rfl⟩ := hg
  obtain ⟨u, rfl⟩ := hu
  obtain ⟨s, rfl⟩ := hs
  simp only [← EReal.coe_one, ← EReal.coe_mul, ← EReal.coe_add, ← EReal.coe_sub]
  congr 1
  ring

/-! ## The forward pass -/

theorem meanSq_eq (x : Tok) (s : Fin 16384) : val_main_v7 (F := Ideal) x (ix2 s 0) = Rows.meanSq (row x s) := by
  unfold Rows.meanSq row
  pointwise [val_main_cst, val_main_v0, val_main_v1, val_main_v2, val_main_v3, val_main_cst_0, val_main_v4, val_main_v5, val_main_cst_1, val_main_v6, val_main_v7]

theorem gate_proj (x : Tok) (pg : Vc) (w : Wt) (s : Fin 16384) (q : Fin 2816) : val_main_v14 (F := Ideal) x pg w (ix2 s q) = proj x pg w s q := by
  pointwise [val_main_v0, val_main_v8, val_main_v9, val_main_v10, val_main_v11, val_main_v12, val_main_v13, val_main_v14]
  simp only [meanSq_eq, Fin.isValue]
  rfl

theorem up_proj (x : Tok) (pg : Vc) (w : Wt) (s : Fin 16384) (q : Fin 2816) : val_main_v15 (F := Ideal) x pg w (ix2 s q) = proj x pg w s q := by
  pointwise [val_main_v0, val_main_v8, val_main_v9, val_main_v10, val_main_v11, val_main_v12, val_main_v13, val_main_v15]
  simp only [meanSq_eq, Fin.isValue]
  rfl

variable {x dy : Tok} {pg qg : Vc} {wg wu : Wt} {wd : Wd}

theorem isR_proj (hx : IsReal x) (hpg : IsReal pg) {w : Wt} (hw : IsReal w) (s : Fin 16384) (q : Fin 2816) : IsR (proj x pg w s q) :=
  .sum _ fun l => (((hx _).mul (Rows.isR_scale fun k => hx _)).mul (hpg _)).mul (hw _)

theorem isR_out (hx : IsReal x) (hpg : IsReal pg) (hwg : IsReal wg) (hwu : IsReal wu) (hwd : IsReal wd) (s : Fin 16384) :
    IsReal (out x pg wg wu wd s) := fun l =>
  .sum _ fun q => (((isR_proj hx hpg hwg s q).mul (isR_sgm (isR_proj hx hpg hwg s q))).mul (isR_proj hx hpg hwu s q)).mul (hwd _)

theorem sgm_eq (hx : IsReal x) (hpg : IsReal pg) (hwg : IsReal wg) (s : Fin 16384) (q : Fin 2816) :
    val_main_v16_2 (F := Ideal) x pg wg (ix2 s q) = sgm (proj x pg wg s q) := by
  pointwise [val_main_call0_v0, val_main_call0_v1, val_main_call0_cst, val_main_call0_v2, val_main_call0_v3, val_main_call0_cst_0, val_main_call0_v4, val_main_v16_2]
  simp only [gate_proj]
  exact logistic_eq (isR_proj hx hpg hwg s q)

theorem out_eq (hx : IsReal x) (hpg : IsReal pg) (hwg : IsReal wg) (s : Fin 16384) (l : Fin 1024) :
    val_main_v18 (F := Ideal) x pg wg wu wd (ix2 s l) = out x pg wg wu wd s l := by
  pointwise [val_main_v16_0, val_main_v17, val_main_v18]
  simp only [gate_proj, up_proj, sgm_eq hx hpg hwg]
  rfl

theorem outSq_eq (hx : IsReal x) (hpg : IsReal pg) (hwg : IsReal wg) (s : Fin 16384) :
    val_main_v26 (F := Ideal) x pg wg wu wd (ix2 s 0) = Rows.meanSq (out x pg wg wu wd s) := by
  unfold Rows.meanSq
  pointwise [val_main_cst_2, val_main_v20, val_main_v21, val_main_v22, val_main_cst_3, val_main_v23, val_main_v24, val_main_cst_4, val_main_v25, val_main_v26]
  simp only [out_eq hx hpg hwg]

/-! ## The four results -/

theorem half_isR (hdy : IsReal dy) (s : Fin 16384) : IsReal (half dy s) := fun l => IsR.mul ⟨_, Lit.half⟩ (hdy _)

theorem df_eq (hx : IsReal x) (hdy : IsReal dy) (hpg : IsReal pg) (hwg : IsReal wg) (hwu : IsReal wu) (hwd : IsReal wd) (hqg : IsReal qg)
    (s : Fin 16384) (l : Fin 1024) : val_main_v61 (F := Ideal) x dy pg wg wu wd qg (ix2 s l) = df x dy pg wg wu wd qg s l := by
  pointwise [val_main_v39, val_main_cst_7, val_main_v40, val_main_v41, val_main_v33, val_main_v45, val_main_v46, val_main_v27, val_main_v51, val_main_v52, val_main_cst_12, val_main_v28, val_main_cst_5, val_main_v29, val_main_v30, val_main_cst_10, val_main_v48, val_main_v49, val_main_v50, val_main_v53, val_main_cst_11, val_main_v54, val_main_v55, val_main_v56, val_main_v57, val_main_v58, val_main_v59, val_main_v60, val_main_v61]
  simp only [Fin.sum_univ_one, out_eq hx hpg hwg, outSq_eq hx hpg hwg, Fin.isValue]
  exact (Rows.back_eq_chain (half_isR hdy s) (isR_out hx hpg hwg hwu hwd s) (fun l => hqg _) l).symm

theorem da_eq (hx : IsReal x) (hdy : IsReal dy) (hpg : IsReal pg) (hwg : IsReal wg) (hwu : IsReal wu) (hwd : IsReal wd) (hqg : IsReal qg)
    (s : Fin 16384) (q : Fin 2816) : val_main_v62 (F := Ideal) x dy pg wg wu wd qg (ix2 s q) = da x dy pg wg wu wd qg s q := by
  pointwise [val_main_v62]
  simp only [df_eq hx hdy hpg hwg hwu hwd hqg]
  rfl

theorem isR_da (hx : IsReal x) (hdy : IsReal dy) (hpg : IsReal pg) (hwg : IsReal wg) (hwu : IsReal wu) (hwd : IsReal wd) (hqg : IsReal qg)
    (s : Fin 16384) (q : Fin 2816) : IsR (da x dy pg wg wu wd qg s q) :=
  .sum _ fun l => (Rows.isR_back (half_isR hdy s) (isR_out hx hpg hwg hwu hwd s) (fun l => hqg _) l).mul (hwd _)

theorem dg_eq (hx : IsReal x) (hdy : IsReal dy) (hpg : IsReal pg) (hwg : IsReal wg) (hwu : IsReal wu) (hwd : IsReal wd) (hqg : IsReal qg)
    (j : S4x16384x704.Idx) : dgArr x dy pg wg wu wd qg j = val_main_v68 (F := Ideal) x dy pg wg wu wd qg j := by
  idx_vars j
  have e : val_main_v68 (F := Ideal) x dy pg wg wu wd qg (ix3 j0 j1 j2) = val_main_v65 (F := Ideal) x dy pg wg wu wd qg (ix2 j1 (col j0 j2)) := by
    pointwise [val_main_v66, val_main_v67, val_main_v68]
    blk_ext [col]
  rw [e]
  pointwise [val_main_v64, val_main_call1_v1, val_main_call1_v0, val_main_call0_cst_1, val_main_call0_v6, val_main_call0_v7, val_main_v16_1, val_main_call1_v2, val_main_v65]
  simp only [gate_proj, up_proj, sgm_eq hx hpg hwg, da_eq hx hdy hpg hwg hwu hwd hqg]
  exact gate_eq (isR_da hx hdy hpg hwg hwu hwd hqg _ _) (isR_proj hx hpg hwg _ _) (isR_proj hx hpg hwu _ _) (isR_sgm (isR_proj hx hpg hwg _ _))

theorem du_eq (hx : IsReal x) (hdy : IsReal dy) (hpg : IsReal pg) (hwg : IsReal wg) (hwu : IsReal wu) (hwd : IsReal wd) (hqg : IsReal qg)
    (j : S4x16384x704.Idx) : duArr x dy pg wg wu wd qg j = val_main_v71 (F := Ideal) x dy pg wg wu wd qg j := by
  idx_vars j
  have e : val_main_v71 (F := Ideal) x dy pg wg wu wd qg (ix3 j0 j1 j2) = val_main_v63 (F := Ideal) x dy pg wg wu wd qg (ix2 j1 (col j0 j2)) := by
    pointwise [val_main_v69, val_main_v70, val_main_v71]
    blk_ext [col]
  rw [e]
  pointwise [val_main_v16_0, val_main_v63]
  simp only [gate_proj, sgm_eq hx hpg hwg, da_eq hx hdy hpg hwg hwu hwd hqg]
  exact mul_comm _ _

theorem dfArr_eq (hx : IsReal x) (hdy : IsReal dy) (hpg : IsReal pg) (hwg : IsReal wg) (hwu : IsReal wu) (hwd : IsReal wd) (hqg : IsReal qg)
    (j : S16384x1024.Idx) : dfArr x dy pg wg wu wd qg j = val_main_v72 (F := Ideal) x dy pg wg wu wd qg j := by
  idx_vars j
  pointwise [val_main_v72]
  exact (df_eq hx hdy hpg hwg hwu hwd hqg j0 j1).symm

theorem dqg_eq (hx : IsReal x) (hpg : IsReal pg) (hwg : IsReal wg) (j : S1x1024.Idx) :
    dqgArr x dy pg wg wu wd j = val_main_v73 (F := Ideal) x dy pg wg wu wd j := by
  idx_vars j
  unfold dqgArr
  pointwise [val_main_cst_9, val_main_cst_8, val_main_v27, val_main_v31, val_main_v32, val_main_v39, val_main_cst_7, val_main_v40, val_main_v41, val_main_v42, val_main_v43, val_main_v44, val_main_v47, val_main_v73]
  simp only [Fin.sum_univ_one, out_eq hx hpg hwg, outSq_eq hx hpg hwg, Fin.isValue]
  exact Finset.sum_congr rfl fun s _ => mul_comm _ _

/-- What the precondition says of the arguments. -/
theorem real_args (m : (ℓ : Loc Cert.FfnAIdeal.nD Cert.FfnAIdeal.τ Cert.FfnAIdeal.sig) → Buf (Elt Ideal) ℓ) [Cert.Pre_ffn_a_finite.Facts]
    (h : Cert.Pre_FfnAIdeal_ffn_a_finite m) (c : Dev Cert.FfnAIdeal.nD) :
    IsReal (m ((c.tc : Thread _ _).loc Cert.FfnAIdeal.main_arg0)) ∧ IsReal (m ((c.tc : Thread _ _).loc Cert.FfnAIdeal.main_arg1)) ∧ IsReal (m ((c.tc : Thread _ _).loc Cert.FfnAIdeal.main_arg2)) ∧ IsReal (m ((c.tc : Thread _ _).loc Cert.FfnAIdeal.main_arg3)) ∧ IsReal (m ((c.tc : Thread _ _).loc Cert.FfnAIdeal.main_arg4)) ∧ IsReal (m ((c.tc : Thread _ _).loc Cert.FfnAIdeal.main_arg5)) ∧ IsReal (m ((c.tc : Thread _ _).loc Cert.FfnAIdeal.main_arg6)) := by
  have e := congrFun (h c) (fun a => a.elim0)
  unfold Cert.Pre_ffn_a_finite.fn Cert.Pre_ffn_a_finite.fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_test _ _ _ _ _ _ e0, isReal_of_test _ _ _ _ _ _ e1, isReal_of_test _ _ _ _ _ _ e2, isReal_of_test _ _ _ _ _ _ e3,
    isReal_of_test _ _ _ _ _ _ e4, isReal_of_test _ _ _ _ _ _ e5, isReal_of_test _ _ _ _ _ _ e6⟩

open Cert.FfnAIdeal Cert.FfnAIdeal.Gen in
/-- The kernel program's run, its results the reference's terms of the same arguments. -/
theorem run (m : (ℓ : Loc Cert.FfnAIdeal.nD Cert.FfnAIdeal.τ Cert.FfnAIdeal.sig) → Buf (Elt Ideal) ℓ) (g : Dev Cert.FfnAIdeal.nD → PrngReg) [Cert.Pre_ffn_a_finite.Facts]
    (hp : Cert.Pre_FfnAIdeal_ffn_a_finite m) :
    θ_run (Cert.FfnAIdeal.defs (F := Ideal)) (onTc (τ := Cert.FfnAIdeal.τ) (Cert.FfnAIdeal.main (F := Ideal))) ⟨m, fun _ => 0, g⟩
      (fun r => ∀ c : Dev Cert.FfnAIdeal.nD,
        r.2.mem ((c.tc : Thread _ _).loc Cert.FfnAIdeal.main_v45_0) = val_main_v68 (F := Ideal) (m ((c.tc : Thread _ _).loc Cert.FfnAIdeal.main_arg0)) (m ((c.tc : Thread _ _).loc Cert.FfnAIdeal.main_arg1)) (m ((c.tc : Thread _ _).loc Cert.FfnAIdeal.main_arg2)) (m ((c.tc : Thread _ _).loc Cert.FfnAIdeal.main_arg3)) (m ((c.tc : Thread _ _).loc Cert.FfnAIdeal.main_arg4)) (m ((c.tc : Thread _ _).loc Cert.FfnAIdeal.main_arg5)) (m ((c.tc : Thread _ _).loc Cert.FfnAIdeal.main_arg6))
        ∧ r.2.mem ((c.tc : Thread _ _).loc Cert.FfnAIdeal.main_v45_1) = val_main_v71 (F := Ideal) (m ((c.tc : Thread _ _).loc Cert.FfnAIdeal.main_arg0)) (m ((c.tc : Thread _ _).loc Cert.FfnAIdeal.main_arg1)) (m ((c.tc : Thread _ _).loc Cert.FfnAIdeal.main_arg2)) (m ((c.tc : Thread _ _).loc Cert.FfnAIdeal.main_arg3)) (m ((c.tc : Thread _ _).loc Cert.FfnAIdeal.main_arg4)) (m ((c.tc : Thread _ _).loc Cert.FfnAIdeal.main_arg5)) (m ((c.tc : Thread _ _).loc Cert.FfnAIdeal.main_arg6))
        ∧ r.2.mem ((c.tc : Thread _ _).loc Cert.FfnAIdeal.main_v45_2) = val_main_v72 (F := Ideal) (m ((c.tc : Thread _ _).loc Cert.FfnAIdeal.main_arg0)) (m ((c.tc : Thread _ _).loc Cert.FfnAIdeal.main_arg1)) (m ((c.tc : Thread _ _).loc Cert.FfnAIdeal.main_arg2)) (m ((c.tc : Thread _ _).loc Cert.FfnAIdeal.main_arg3)) (m ((c.tc : Thread _ _).loc Cert.FfnAIdeal.main_arg4)) (m ((c.tc : Thread _ _).loc Cert.FfnAIdeal.main_arg5)) (m ((c.tc : Thread _ _).loc Cert.FfnAIdeal.main_arg6))
        ∧ r.2.mem ((c.tc : Thread _ _).loc Cert.FfnAIdeal.main_v45_3) = val_main_v73 (F := Ideal) (m ((c.tc : Thread _ _).loc Cert.FfnAIdeal.main_arg0)) (m ((c.tc : Thread _ _).loc Cert.FfnAIdeal.main_arg1)) (m ((c.tc : Thread _ _).loc Cert.FfnAIdeal.main_arg2)) (m ((c.tc : Thread _ _).loc Cert.FfnAIdeal.main_arg3)) (m ((c.tc : Thread _ _).loc Cert.FfnAIdeal.main_arg4)) (m ((c.tc : Thread _ _).loc Cert.FfnAIdeal.main_arg5))
        ∧ r.2.mem ((c.tc : Thread _ _).loc Cert.FfnAIdeal.main_arg0) = m ((c.tc : Thread _ _).loc Cert.FfnAIdeal.main_arg0) ∧ r.2.mem ((c.tc : Thread _ _).loc Cert.FfnAIdeal.main_arg1) = m ((c.tc : Thread _ _).loc Cert.FfnAIdeal.main_arg1) ∧ r.2.mem ((c.tc : Thread _ _).loc Cert.FfnAIdeal.main_arg2) = m ((c.tc : Thread _ _).loc Cert.FfnAIdeal.main_arg2) ∧ r.2.mem ((c.tc : Thread _ _).loc Cert.FfnAIdeal.main_arg3) = m ((c.tc : Thread _ _).loc Cert.FfnAIdeal.main_arg3) ∧ r.2.mem ((c.tc : Thread _ _).loc Cert.FfnAIdeal.main_arg4) = m ((c.tc : Thread _ _).loc Cert.FfnAIdeal.main_arg4) ∧ r.2.mem ((c.tc : Thread _ _).loc Cert.FfnAIdeal.main_arg5) = m ((c.tc : Thread _ _).loc Cert.FfnAIdeal.main_arg5) ∧ r.2.mem ((c.tc : Thread _ _).loc Cert.FfnAIdeal.main_arg6) = m ((c.tc : Thread _ _).loc Cert.FfnAIdeal.main_arg6)) := by
  refine (θ_run _ _ _).mono (fun r h c => ?_) (θ_run_and (Cert.FfnAIdeal.Gen.run_main m g) (Cert.FfnAIdeal.Gen.unchanged m g))
  obtain ⟨h0, h1, h2, h3, h4, h5, h6⟩ := real_args m hp c
  refine ⟨?_, ?_, ?_, ?_, h.2 c⟩
  · exact ((h.1.out_eq c 6).trans (Val.final6 m c)).trans (funext fun j => dg_eq h0 h1 h2 h3 h4 h5 h6 j)
  · exact ((h.1.out_eq c 7).trans (Val.final7 m c)).trans (funext fun j => du_eq h0 h1 h2 h3 h4 h5 h6 j)
  · exact ((h.1.out_eq c 8).trans (Val.final8 m c)).trans (funext fun j => dfArr_eq h0 h1 h2 h3 h4 h5 h6 j)
  · exact ((h.1.out_eq c 9).trans (Val.final9 m c)).trans (funext fun j => dqg_eq h0 h2 h3 j)

end Cert.FfnATie

end
-- ==== Proof.MixInBlocks.lean ====
/- The blocks one grid point of the input layer's gradient leaves, as functions of the blocks it reads. -/
module

public import proofs.«01_k».proof.Proof.Gen.MixInIdeal.Skeleton
public import Idealize.ShloMosaic.Lib.Pipeline.ValueKit

@[expose] public section

set_option maxRecDepth 16384

noncomputable section

namespace Cert.MixInIdeal.Body

open Cert.MixInIdeal Cert.MixInIdeal.Gen Idealize.ShloMosaic Idealize.ShloMosaic.TcCoe

variable {F : FTy → Type} [FloatOps F]

/-- The row numbers within a block of 256 rows. -/
abbrev rowIds := iota Kind.tc S256x1 32 [0] iota_S256x1_d0_w32

/-- The grid point's number, as the body computes with it. -/
abbrev pt (i : grid0.Coords) : BitVec 32 := BitVec.ofNat 32 (i 0).val

/-- The gradient at the recurrence's convolution taken back to the convolution's input. -/
def dlxBlk (i : grid0.Coords) (x11 : Vec F S256x1024 .f32) (x12 x13 : Vec F S8x1024 .f32) (x14 : Vec F S256x1024 .f32)
    (x15 x16 : Vec F S8x1024 .f32) (x26 : Vec F S4x1024 .f32) :=
  k0_pay17
    (k0_pay14 rowIds (k0_pay6 x11 x14) (k0_pay8 i x13 x16)
      (k0_pay9 x11 x14 (View.ld x26 (Rect.unit ![2, 0] ![1, 1024] inb_S4x1024_S1x1024_2_0)))
      (View.ld x26 (Rect.unit ![0, 0] ![1, 1024] inb_S4x1024_S1x1024_0_0)) (k0_pay10 x11 x14) k0_pay11
      (k0_pay12 x11 x14) k0_pay13 (View.ld x26 (Rect.unit ![1, 0] ![1, 1024] inb_S4x1024_S1x1024_1_0)))
    (k0_pay15 rowIds (k0_pay6 x11 x14) (k0_pay7 i x12 x15))
    (k0_pay16 (View.ld x26 (Rect.unit ![3, 0] ![1, 1024] inb_S4x1024_S1x1024_3_0)))

/-- The gradient at the short convolution taken back to the convolution's input. -/
def dpBlk (i : grid0.Coords) (x17 : Vec F S256x512 .f32) (x18 x19 : Vec F S8x512 .f32) (x27 : Vec F S3x512 .f32) :=
  k0_pay45 (pt i) rowIds (Scalar.cmpi CmpIPredicate.sgt (pt i) 0#32) x18 k0_pay44 x19 x17
    (View.ld x27 (Rect.unit ![1, 0] ![1, 512] inb_S3x512_S1x512_1_0))
    (View.ld x27 (Rect.unit ![0, 0] ![1, 512] inb_S3x512_S1x512_0_0))
    (View.ld x27 (Rect.unit ![2, 0] ![1, 512] inb_S3x512_S1x512_2_0))

/-- The eight column ranges of the gradient at the projection's columns: the last stored comes first. -/
def dzPieces (dlx : FVec F S256x1024 .f32) (dp : FVec F S256x512 .f32) (x5 x8 : Vec F S256x512 .bf16) (x20 : Vec F S256x1024 .bf16)
    (x21 x22 x23 : Vec F S256x512 .bf16) (x24 : Vec F S256x3072 .bf16) : List (View.Piece (Elt F) S256x7680 .bf16) :=
  [⟨Rect.unit ![0, 4608] ![256, 3072] inb_S256x7680_S256x3072_0_4608, k0_pay60 x24⟩,
    ⟨Rect.unit ![0, 4096] ![256, 512] inb_S256x7680_S256x512_0_4096, k0_pay59 x23⟩,
    ⟨Rect.unit ![0, 3584] ![256, 512] inb_S256x7680_S256x512_0_3584, k0_pay58 x22⟩,
    ⟨Rect.unit ![0, 3072] ![256, 512] inb_S256x7680_S256x512_0_3072, k0_pay57 (k0_pay39 x5) dp⟩,
    ⟨Rect.unit ![0, 2560] ![256, 512] inb_S256x7680_S256x512_0_2560, k0_pay56 (k0_pay40 x8) dp⟩,
    ⟨Rect.unit ![0, 2048] ![256, 512] inb_S256x7680_S256x512_0_2048, k0_pay55 x21⟩,
    ⟨Rect.unit ![0, 1024] ![256, 1024] inb_S256x7680_S256x1024_0_1024, k0_pay54 dlx⟩,
    ⟨Rect.unit ![0, 0] ![256, 1024] inb_S256x7680_S256x1024_0_0, k0_pay53 x20⟩]

/-- The gradient at the projection's columns. -/
def dzBlk (i : grid0.Coords) (x5 x8 : Vec F S256x512 .bf16) (x11 : Vec F S256x1024 .f32) (x12 x13 : Vec F S8x1024 .f32)
    (x14 : Vec F S256x1024 .f32) (x15 x16 : Vec F S8x1024 .f32) (x17 : Vec F S256x512 .f32) (x18 x19 : Vec F S8x512 .f32)
    (x20 : Vec F S256x1024 .bf16) (x21 x22 x23 : Vec F S256x512 .bf16) (x24 : Vec F S256x3072 .bf16) (x26 : Vec F S4x1024 .f32)
    (x27 : Vec F S3x512 .f32) : Vec F S256x7680 .bf16 :=
  View.canon (dzPieces (dlxBlk i x11 x12 x13 x14 x15 x16 x26) (dpBlk i x17 x18 x19 x27) x5 x8 x20 x21 x22 x23 x24)

/-- The layer's input gradient, from that at the projection's columns. -/
def dxBlk (dz : Vec F S256x7680 .bf16) (x0 x1 : Vec F S256x1024 .f32) (x25 : Vec F S1x1024 .f32) (x28 : Vec F S7680x1024 .bf16) :
    Vec F S256x1024 .f32 :=
  k0_pay4 (k0_pay61 dz x28) (k0_pay62 x1) (k0_pay63 x25) (k0_pay64 x1) x0

/-- The term of the norm's gain gradient, -/
def dpgTerm (dz : Vec F S256x7680 .bf16) (x1 : Vec F S256x1024 .f32) (x28 : Vec F S7680x1024 .bf16) : Vec F S1x1024 .f32 :=
  k0_pay3 (k0_pay61 dz x28) (k0_pay62 x1) (k0_pay64 x1)

/-- and that term added to the sum so far. -/
def dpgNext (dz : Vec F S256x7680 .bf16) (x1 : Vec F S256x1024 .f32) (x28 : Vec F S7680x1024 .bf16) (xo : Vec F S1x1024 .f32) :
    Vec F S1x1024 .f32 :=
  k0_pay5 (k0_pay61 dz x28) (k0_pay62 x1) (k0_pay64 x1) xo

/-- The four rows of the term of the recurrence's convolution weights' gradient, -/
def dlcwFirst (i : grid0.Coords) (x2 : Vec F S256x1024 .bf16) (x3 x4 : Vec F S16x1024 .bf16) (x11 x14 : Vec F S256x1024 .f32) :
    Vec F S4x1024 .f32 :=
  View.canon
    [⟨Rect.unit ![3, 0] ![1, 1024] inb_S4x1024_S1x1024_3_0, k0_pay34 rowIds (k0_pay6 x11 x14) (k0_pay19 (pt i) x4) (k0_pay20 x2)⟩,
      ⟨Rect.unit ![2, 0] ![1, 1024] inb_S4x1024_S1x1024_2_0, k0_pay32 (k0_pay6 x11 x14) (k0_pay20 x2)⟩,
      ⟨Rect.unit ![1, 0] ![1, 1024] inb_S4x1024_S1x1024_1_0, k0_pay30 rowIds (k0_pay6 x11 x14) (k0_pay18 (pt i) x3) (k0_pay20 x2)⟩,
      ⟨Rect.unit ![0, 0] ![1, 1024] inb_S4x1024_S1x1024_0_0,
        k0_pay28 (k0_pay6 x11 x14) (k0_pay23 x2) (k0_pay25 (pt i) rowIds x3 x2) (k0_pay26 rowIds) (k0_pay27 (pt i) x3)⟩]

/-- and each added to that row of the sum so far. -/
def dlcwNext (i : grid0.Coords) (x2 : Vec F S256x1024 .bf16) (x3 x4 : Vec F S16x1024 .bf16) (x11 x14 : Vec F S256x1024 .f32)
    (xo : Vec F S4x1024 .f32) : Vec F S4x1024 .f32 :=
  View.canon
    [⟨Rect.unit ![3, 0] ![1, 1024] inb_S4x1024_S1x1024_3_0,
        k0_pay35 rowIds (k0_pay6 x11 x14) (k0_pay19 (pt i) x4) (k0_pay20 x2)
          (View.ld xo (Rect.unit ![3, 0] ![1, 1024] inb_S4x1024_S1x1024_3_0))⟩,
      ⟨Rect.unit ![2, 0] ![1, 1024] inb_S4x1024_S1x1024_2_0,
        k0_pay33 (k0_pay32 (k0_pay6 x11 x14) (k0_pay20 x2)) (View.ld xo (Rect.unit ![2, 0] ![1, 1024] inb_S4x1024_S1x1024_2_0))⟩,
      ⟨Rect.unit ![1, 0] ![1, 1024] inb_S4x1024_S1x1024_1_0,
        k0_pay31 rowIds (k0_pay6 x11 x14) (k0_pay18 (pt i) x3) (k0_pay20 x2)
          (View.ld xo (Rect.unit ![1, 0] ![1, 1024] inb_S4x1024_S1x1024_1_0))⟩,
      ⟨Rect.unit ![0, 0] ![1, 1024] inb_S4x1024_S1x1024_0_0,
        k0_pay29 (k0_pay6 x11 x14) (k0_pay23 x2) (k0_pay25 (pt i) rowIds x3 x2) (k0_pay26 rowIds) (k0_pay27 (pt i) x3)
          (View.ld xo (Rect.unit ![0, 0] ![1, 1024] inb_S4x1024_S1x1024_0_0))⟩]

/-- The three rows of the term of the short convolution weights' gradient, -/
def dscwFirst (i : grid0.Coords) (x5 : Vec F S256x512 .bf16) (x6 x7 : Vec F S16x512 .bf16) (x8 : Vec F S256x512 .bf16)
    (x9 x10 : Vec F S16x512 .bf16) (x17 : Vec F S256x512 .f32) : Vec F S3x512 .f32 :=
  View.canon
    [⟨Rect.unit ![2, 0] ![1, 512] inb_S3x512_S1x512_2_0,
        k0_pay51 (k0_pay43 (pt i) rowIds (k0_pay37 (pt i) x7) x10 x5 x8) x17⟩,
      ⟨Rect.unit ![1, 0] ![1, 512] inb_S3x512_S1x512_1_0, k0_pay49 (k0_pay41 x5 x8) x17⟩,
      ⟨Rect.unit ![0, 0] ![1, 512] inb_S3x512_S1x512_0_0,
        k0_pay47 (k0_pay46 (k0_pay42 rowIds (k0_pay36 (pt i) x6) (k0_pay38 (pt i) x9) x5 x8) x17)⟩]

/-- and each added to that row of the sum so far. -/
def dscwNext (i : grid0.Coords) (x5 : Vec F S256x512 .bf16) (x6 x7 : Vec F S16x512 .bf16) (x8 : Vec F S256x512 .bf16)
    (x9 x10 : Vec F S16x512 .bf16) (x17 : Vec F S256x512 .f32) (xo : Vec F S3x512 .f32) : Vec F S3x512 .f32 :=
  View.canon
    [⟨Rect.unit ![2, 0] ![1, 512] inb_S3x512_S1x512_2_0,
        k0_pay52 (k0_pay43 (pt i) rowIds (k0_pay37 (pt i) x7) x10 x5 x8) x17
          (View.ld xo (Rect.unit ![2, 0] ![1, 512] inb_S3x512_S1x512_2_0))⟩,
      ⟨Rect.unit ![1, 0] ![1, 512] inb_S3x512_S1x512_1_0,
        k0_pay50 (k0_pay41 x5 x8) x17 (View.ld xo (Rect.unit ![1, 0] ![1, 512] inb_S3x512_S1x512_1_0))⟩,
      ⟨Rect.unit ![0, 0] ![1, 512] inb_S3x512_S1x512_0_0,
        k0_pay48 (k0_pay46 (k0_pay42 rowIds (k0_pay36 (pt i) x6) (k0_pay38 (pt i) x9) x5 x8) x17)
          (View.ld xo (Rect.unit ![0, 0] ![1, 512] inb_S3x512_S1x512_0_0))⟩]

end Cert.MixInIdeal.Body

end
-- ==== Proof.Shift.lean ====
/- Rows of a long array read one or two places away, tile by tile: a tile of 256 rows is turned round, and the rows that
   belong to the neighbouring tile are put in by a choice on the row's number; beyond the array's ends they are zero. -/
module

public import proofs.«01_k».proof.Proof.Finite
public import Idealize.ShloMosaic.Lib.Pipeline.ValueKit
public import Idealize.ShloMosaic.Lib.Pointwise

@[expose] public section

set_option maxRecDepth 16384

noncomputable section

namespace Cert.Shift

open Idealize.ShloMosaic

/-- Row `y` of tile `t`. -/
def at_ (t : Fin 64) (y : Fin 256) : Fin 16384 := ⟨t.val * 256 + y.val, by omega⟩

/-- The row `d` places before, or zero before the first row. -/
def behind (d : ℕ) (X : Fin 16384 → EReal) (s : Fin 16384) : EReal := if h : d ≤ s.val then X ⟨s.val - d, by omega⟩ else 0

/-- The row `d` places after, or zero after the last row. -/
def ahead (d : ℕ) (X : Fin 16384 → EReal) (s : Fin 16384) : EReal := if h : s.val + d < 16384 then X ⟨s.val + d, h⟩ else 0

/-! ## The choices -/

theorem sgt_zero : ∀ t : Fin 64, Scalar.cmpi .sgt (BitVec.ofNat 32 t.val) 0#32 = if 0 < t.val then 1#1 else 0#1 := by decide +kernel

theorem slt_last : ∀ t : Fin 64, Scalar.cmpi .slt (BitVec.ofNat 32 t.val) 63#32 = if t.val < 63 then 1#1 else 0#1 := by decide +kernel

theorem eq_num : ∀ (y : Fin 256) (n : Fin 8), IntOp.cmpi .eq (BitVec.ofNat 32 y.val) (BitVec.ofNat 32 n.val) = if y.val = n.val then 1#1 else 0#1 := by
  decide +kernel

theorem select_ite {α : Type} (p : Prop) [Decidable p] (a b : α) : Scalar.select (if p then 1#1 else 0#1) a b = if p then a else b := by
  by_cases h : p <;> simp [h, Scalar.select]

/-- A choice on whether there is a tile before, -/
theorem select_pos {α : Type} (t : Fin 64) (a b : α) :
    Scalar.select (Scalar.cmpi .sgt (BitVec.ofNat 32 t.val) 0#32) a b = if 0 < t.val then a else b := by
  rw [sgt_zero, select_ite]

/-- on whether there is one after, -/
theorem select_last {α : Type} (t : Fin 64) (a b : α) :
    Scalar.select (Scalar.cmpi .slt (BitVec.ofNat 32 t.val) 63#32) a b = if t.val < 63 then a else b := by
  rw [slt_last, select_ite]

/-- and on a row's number. -/
theorem select_row {α : Type} {n : ℕ} (hn : n < 256) (k : Fin 8) (a b : α) :
    Scalar.select (IntOp.cmpi .eq (BitVec.ofNat 32 n) (BitVec.ofNat 32 k.val)) a b = if n = k.val then a else b := by
  rw [eq_num ⟨n, hn⟩ k, select_ite]

theorem gate_add (p : Prop) [Decidable p] (a b : EReal) : ((if p then a else 0) + if p then b else 0) = if p then a + b else 0 := by
  by_cases h : p <;> simp [h]

theorem gate_twice (p : Prop) [Decidable p] (a : EReal) : (if p then if p then a else 0 else 0) = if p then a else 0 := by
  by_cases h : p <;> simp [h]

theorem gate_mul (p : Prop) [Decidable p] (a b : EReal) : ((if p then a else 0) * if p then b else 0) = if p then a * b else 0 := by
  by_cases h : p <;> simp [h]

/-! ## The four shifts of a tile -/

section

variable (X : Fin 16384 → EReal) (t : Fin 64) (x : Fin 256 → EReal) (hx : ∀ y, x y = X (at_ t y))
include hx

theorem behind_one (p : EReal) (hp : ∀ s : Fin 16384, s.val + 1 = t.val * 256 → p = X s) (y : Fin 256) :
    (if h : y.val < 8 then Scalar.select (IntOp.cmpi .eq (BitVec.ofNat 32 y.val) 0#32) (if 0 < t.val then p else 0)
        (x ⟨(y.val + 256 - 1) % 256, Nat.mod_lt _ (by norm_num)⟩)
      else x ⟨(8 + (y.val - 8) + 256 - 1) % 256, Nat.mod_lt _ (by norm_num)⟩) = behind 1 X (at_ t y) := by
  have e := fun a b : EReal => select_row (n := y.val) (by omega) 0 a b
  simp only [Fin.val_zero] at e
  unfold behind at_
  rw [e]
  dsimp only
  split_ifs with h1 h2 h3 h4 h5 h6
  all_goals first
    | (exfalso; omega)
    | rfl
    | exact hp _ (by dsimp only; omega)
    | (rw [hx]; exact congrArg X (Fin.ext (by unfold at_; dsimp only; omega)))

theorem behind_two (p q : EReal) (hp : ∀ s : Fin 16384, s.val + 1 = t.val * 256 → p = X s)
    (hq : ∀ s : Fin 16384, s.val + 2 = t.val * 256 → q = X s) (y : Fin 256) :
    (if h : y.val < 8 then Scalar.select (IntOp.cmpi .eq (BitVec.ofNat 32 y.val) 1#32) (if 0 < t.val then p else 0)
        (Scalar.select (IntOp.cmpi .eq (BitVec.ofNat 32 y.val) 0#32) (if 0 < t.val then q else 0)
        (x ⟨(y.val + 256 - 2) % 256, Nat.mod_lt _ (by norm_num)⟩))
      else x ⟨(8 + (y.val - 8) + 256 - 2) % 256, Nat.mod_lt _ (by norm_num)⟩) = behind 2 X (at_ t y) := by
  have e := fun a b : EReal => select_row (n := y.val) (by omega) 0 a b
  have e1 := fun a b : EReal => select_row (n := y.val) (by omega) 1 a b
  simp only [Fin.val_zero] at e
  unfold behind at_
  rw [e, show (1#32 : BitVec 32) = BitVec.ofNat 32 (1 : Fin 8).val from rfl, e1]
  rw [show ((1 : Fin 8).val) = 1 from rfl]
  dsimp only
  split_ifs with h1 h2 h3 h4 h5 h6
  all_goals first
    | (exfalso; omega)
    | rfl
    | exact hp _ (by dsimp only; omega)
    | exact hq _ (by dsimp only; omega)
    | (rw [hx]; exact congrArg X (Fin.ext (by unfold at_; dsimp only; omega)))

theorem ahead_one (p : EReal) (hp : ∀ s : Fin 16384, s.val = t.val * 256 + 256 → p = X s) (y : Fin 256) :
    (if h : y.val < 248 then x ⟨(y.val + 256 - 255) % 256, Nat.mod_lt _ (by norm_num)⟩
      else Scalar.select (IntOp.cmpi .eq (BitVec.ofNat 32 (y.val - 248)) 7#32) (if t.val < 63 then p else 0)
        (x ⟨(248 + (y.val - 248) + 256 - 255) % 256, Nat.mod_lt _ (by norm_num)⟩)) = ahead 1 X (at_ t y) := by
  have e := fun a b : EReal => select_row (n := y.val - 248) (by omega) 7 a b
  unfold ahead at_
  rw [show (7#32 : BitVec 32) = BitVec.ofNat 32 (7 : Fin 8).val from rfl, e]
  rw [show ((7 : Fin 8).val) = 7 from rfl]
  dsimp only
  split_ifs with h1 h2 h3 h4 h5 h6
  all_goals first
    | (exfalso; omega)
    | rfl
    | exact hp _ (by dsimp only; omega)
    | (rw [hx]; exact congrArg X (Fin.ext (by unfold at_; dsimp only; omega)))

theorem ahead_two (p q : EReal) (hp : ∀ s : Fin 16384, s.val = t.val * 256 + 256 → p = X s)
    (hq : ∀ s : Fin 16384, s.val = t.val * 256 + 257 → q = X s) (y : Fin 256) :
    (if h : y.val < 248 then x ⟨(y.val + 256 - 254) % 256, Nat.mod_lt _ (by norm_num)⟩
      else Scalar.select (IntOp.cmpi .eq (BitVec.ofNat 32 (y.val - 248)) 7#32) (if t.val < 63 then q else 0)
        (Scalar.select (IntOp.cmpi .eq (BitVec.ofNat 32 (y.val - 248)) 6#32) (if t.val < 63 then p else 0)
        (x ⟨(248 + (y.val - 248) + 256 - 254) % 256, Nat.mod_lt _ (by norm_num)⟩))) = ahead 2 X (at_ t y) := by
  have e := fun a b : EReal => select_row (n := y.val - 248) (by omega) 7 a b
  have e6 := fun a b : EReal => select_row (n := y.val - 248) (by omega) 6 a b
  unfold ahead at_
  rw [show (7#32 : BitVec 32) = BitVec.ofNat 32 (7 : Fin 8).val from rfl, e, show (6#32 : BitVec 32) = BitVec.ofNat 32 (6 : Fin 8).val from rfl, e6]
  rw [show ((7 : Fin 8).val) = 7 from rfl, show ((6 : Fin 8).val) = 6 from rfl]
  dsimp only
  split_ifs with h1 h2 h3 h4 h5 h6
  all_goals first
    | (exfalso; omega)
    | rfl
    | exact hp _ (by dsimp only; omega)
    | exact hq _ (by dsimp only; omega)
    | (rw [hx]; exact congrArg X (Fin.ext (by unfold at_; dsimp only; omega)))

end

/-! ## Sums over a tile whose first, or last, eight rows are treated apart -/

theorem sum_first (f : Fin 256 → EReal) : ∑ y, f y = (∑ y : Fin 8, f ⟨y.val, by omega⟩) + ∑ y : Fin 248, f ⟨8 + y.val, by omega⟩ :=
  Fin.sum_univ_add (a := 8) (b := 248) f

theorem sum_last (f : Fin 256 → EReal) : ∑ y, f y = (∑ y : Fin 248, f ⟨y.val, by omega⟩) + ∑ y : Fin 8, f ⟨248 + y.val, by omega⟩ :=
  Fin.sum_univ_add (a := 248) (b := 8) f

section

variable (X : Fin 16384 → EReal) (t : Fin 64) (x : Fin 256 → EReal) (hx : ∀ y, x y = X (at_ t y)) (g : Fin 256 → EReal)
include hx

theorem sum_behind_one (p : EReal) (hp : ∀ s : Fin 16384, s.val + 1 = t.val * 256 → p = X s) :
    ((∑ y : Fin 8, g ⟨y.val, by omega⟩ * Scalar.select (IntOp.cmpi .eq (BitVec.ofNat 32 y.val) 0#32) (if 0 < t.val then p else 0)
        (x ⟨(y.val + 256 - 1) % 256, Nat.mod_lt _ (by norm_num)⟩))
      + ∑ y : Fin 248, g ⟨8 + y.val, by omega⟩ * x ⟨(8 + y.val + 256 - 1) % 256, Nat.mod_lt _ (by norm_num)⟩)
      = ∑ y, g y * behind 1 X (at_ t y) := by
  rw [sum_first]
  refine congrArg₂ (· + ·) (Finset.sum_congr rfl fun y _ => congrArg (_ * ·) ?_) (Finset.sum_congr rfl fun y _ => congrArg (_ * ·) ?_)
  · have e := behind_one X t x hx p hp ⟨y.val, by omega⟩
    rwa [dif_pos (show y.val < 8 by omega)] at e
  · have e := behind_one X t x hx p hp ⟨8 + y.val, by omega⟩
    rw [dif_neg (show ¬8 + y.val < 8 by omega)] at e
    simpa only [Nat.add_sub_cancel_left] using e

theorem sum_behind_two (p q : EReal) (hp : ∀ s : Fin 16384, s.val + 1 = t.val * 256 → p = X s)
    (hq : ∀ s : Fin 16384, s.val + 2 = t.val * 256 → q = X s) :
    ((∑ y : Fin 8, g ⟨y.val, by omega⟩ * Scalar.select (IntOp.cmpi .eq (BitVec.ofNat 32 y.val) 1#32) (if 0 < t.val then p else 0)
        (Scalar.select (IntOp.cmpi .eq (BitVec.ofNat 32 y.val) 0#32) (if 0 < t.val then q else 0)
        (x ⟨(y.val + 256 - 2) % 256, Nat.mod_lt _ (by norm_num)⟩)))
      + ∑ y : Fin 248, g ⟨8 + y.val, by omega⟩ * x ⟨(8 + y.val + 256 - 2) % 256, Nat.mod_lt _ (by norm_num)⟩)
      = ∑ y, g y * behind 2 X (at_ t y) := by
  rw [sum_first]
  refine congrArg₂ (· + ·) (Finset.sum_congr rfl fun y _ => congrArg (_ * ·) ?_) (Finset.sum_congr rfl fun y _ => congrArg (_ * ·) ?_)
  · have e := behind_two X t x hx p q hp hq ⟨y.val, by omega⟩
    rwa [dif_pos (show y.val < 8 by omega)] at e
  · have e := behind_two X t x hx p q hp hq ⟨8 + y.val, by omega⟩
    rw [dif_neg (show ¬8 + y.val < 8 by omega)] at e
    simpa only [Nat.add_sub_cancel_left] using e

theorem sum_ahead_one (p : EReal) (hp : ∀ s : Fin 16384, s.val = t.val * 256 + 256 → p = X s) :
    ((∑ y : Fin 248, g ⟨y.val, by omega⟩ * x ⟨(y.val + 256 - 255) % 256, Nat.mod_lt _ (by norm_num)⟩)
      + ∑ y : Fin 8, g ⟨248 + y.val, by omega⟩ * Scalar.select (IntOp.cmpi .eq (BitVec.ofNat 32 y.val) 7#32) (if t.val < 63 then p else 0)
        (x ⟨(248 + y.val + 256 - 255) % 256, Nat.mod_lt _ (by norm_num)⟩))
      = ∑ y, g y * ahead 1 X (at_ t y) := by
  rw [sum_last]
  refine congrArg₂ (· + ·) (Finset.sum_congr rfl fun y _ => congrArg (_ * ·) ?_) (Finset.sum_congr rfl fun y _ => congrArg (_ * ·) ?_)
  · have e := ahead_one X t x hx p hp ⟨y.val, by omega⟩
    rwa [dif_pos (show y.val < 248 by omega)] at e
  · have e := ahead_one X t x hx p hp ⟨248 + y.val, by omega⟩
    rw [dif_neg (show ¬248 + y.val < 248 by omega)] at e
    simpa only [Nat.add_sub_cancel_left] using e

end

/-- The four rows the first convolution reads for row `s`, -/
def tap4 (r : Fin 4) (X : Fin 16384 → EReal) (s : Fin 16384) : EReal := ![behind 2 X s, behind 1 X s, X s, ahead 1 X s] r

/-- and the three the second reads. -/
def tap3 (r : Fin 3) (X : Fin 16384 → EReal) (s : Fin 16384) : EReal := ![behind 1 X s, X s, ahead 1 X s] r

end Cert.Shift

end
-- ==== Proof.MixInPay.lean ====
/- The blocks one grid point of the input layer's gradient leaves, entry by entry over the extended reals. -/
module

public import proofs.«01_k».proof.Proof.MixInBlocks
public import proofs.«01_k».proof.Proof.Shift
public import proofs.«01_k».proof.Proof.Rows
public import Idealize.ShloMosaic.Lib.Pointwise
public import Idealize.ShloMosaic.Lib.Ring

@[expose] public section

set_option maxRecDepth 16384

noncomputable section

namespace Cert.MixInIdeal.Pay

open Cert.MixInIdeal Cert.MixInIdeal.Gen Cert.MixInIdeal.Body Cert.Shift Idealize.ShloMosaic Idealize.ShloMosaic.TcCoe

section

variable {i : grid0.Coords} {t : Fin 64} (hi : (i 0).val = t.val)
include hi

/-- The first convolution taken back. -/
theorem dlx_at {x11 x14 : Vec Ideal S256x1024 .f32} {x12 x13 x15 x16 : Vec Ideal S8x1024 .f32} (x26 : Vec Ideal S4x1024 .f32)
    {f : Fin 16384 → Fin 1024 → EReal} (h : ∀ y k, x11 (ix2 y k) + x14 (ix2 y k) = f (at_ t y) k)
    (hp : ∀ s : Fin 16384, s.val + 1 = t.val * 256 → ∀ k, x12 (ix2 7 k) + x15 (ix2 7 k) = f s k)
    (hn : ∀ s : Fin 16384, s.val = t.val * 256 + 256 → ∀ k, x13 (ix2 0 k) + x16 (ix2 0 k) = f s k)
    (hn1 : ∀ s : Fin 16384, s.val = t.val * 256 + 257 → ∀ k, x13 (ix2 1 k) + x16 (ix2 1 k) = f s k) (y : Fin 256) (k : Fin 1024) :
    dlxBlk i x11 x12 x13 x14 x15 x16 x26 (ix2 y k) = x26 (ix2 2 k) * f (at_ t y) k + x26 (ix2 0 k) * ahead 2 (fun s => f s k) (at_ t y)
      + x26 (ix2 1 k) * ahead 1 (fun s => f s k) (at_ t y) + x26 (ix2 3 k) * behind 1 (fun s => f s k) (at_ t y) := by
  unfold dlxBlk
  pointwise [k0_pay17, k0_pay14, k0_pay6, k0_pay8, k0_pay9, k0_pay10, k0_pay11, k0_pay12, k0_pay13, k0_pay15, k0_pay7, k0_pay16]
  simp only [hi, select_pos, select_last, gate_add]
  refine congrArg₂ (· + ·) (congrArg₂ (· + ·) (congrArg₂ (· + ·) (congrArg (_ * ·) (h y k))
    (congrArg (_ * ·) ?_)) (congrArg (_ * ·) ?_)) (congrArg (_ * ·) ?_)
  · exact ahead_two (fun s => f s k) t (fun y => x11 (ix2 y k) + x14 (ix2 y k)) (h · k) _ _ (hn · · k) (hn1 · · k) y
  · exact ahead_one (fun s => f s k) t (fun y => x11 (ix2 y k) + x14 (ix2 y k)) (h · k) _ (hn · · k) y
  · exact behind_one (fun s => f s k) t (fun y => x11 (ix2 y k) + x14 (ix2 y k)) (h · k) _ (hp · · k) y

/-- The second convolution taken back. -/
theorem dp_at {x17 : Vec Ideal S256x512 .f32} {x18 x19 : Vec Ideal S8x512 .f32} (x27 : Vec Ideal S3x512 .f32)
    {f : Fin 16384 → Fin 512 → EReal} (h : ∀ y k, x17 (ix2 y k) = f (at_ t y) k)
    (hp : ∀ s : Fin 16384, s.val + 1 = t.val * 256 → ∀ k, x18 (ix2 7 k) = f s k)
    (hn : ∀ s : Fin 16384, s.val = t.val * 256 + 256 → ∀ k, x19 (ix2 0 k) = f s k) (y : Fin 256) (k : Fin 512) :
    dpBlk i x17 x18 x19 x27 (ix2 y k) = x27 (ix2 1 k) * f (at_ t y) k + x27 (ix2 0 k) * ahead 1 (fun s => f s k) (at_ t y)
      + x27 (ix2 2 k) * behind 1 (fun s => f s k) (at_ t y) := by
  unfold dpBlk
  pointwise [k0_pay45, k0_pay44]
  simp only [pt, hi, select_pos, select_last]
  refine congrArg₂ (· + ·) (congrArg₂ (· + ·) (congrArg (_ * ·) (h y k)) (congrArg (_ * ·) ?_)) (congrArg (_ * ·) ?_)
  · exact ahead_one (fun s => f s k) t (fun y => x17 (ix2 y k)) (h · k) _ (hn · · k) y
  · exact behind_one (fun s => f s k) t (fun y => x17 (ix2 y k)) (h · k) _ (hp · · k) y

end

set_option maxHeartbeats 2000000 in
/-- The eight column blocks of the joined gradient. -/
theorem dz_at (dlx : FVec Ideal S256x1024 .f32) (dp : FVec Ideal S256x512 .f32) (x5 x8 : Vec Ideal S256x512 .bf16) (x20 : Vec Ideal S256x1024 .bf16)
    (x21 x22 x23 : Vec Ideal S256x512 .bf16) (x24 : Vec Ideal S256x3072 .bf16) (y : Fin 256) (q : Fin 7680) :
    View.canon (dzPieces dlx dp x5 x8 x20 x21 x22 x23 x24) (ix2 y q) =
      if h : q.val < 1024 then x20 (ix2 y ⟨q.val, h⟩)
      else if h1 : q.val < 2048 then dlx (ix2 y ⟨q.val - 1024, by omega⟩)
      else if h2 : q.val < 2560 then x21 (ix2 y ⟨q.val - 2048, by omega⟩)
      else if h3 : q.val < 3072 then dp (ix2 y ⟨q.val - 2560, by omega⟩) * x8 (ix2 y ⟨q.val - 2560, by omega⟩)
      else if h4 : q.val < 3584 then dp (ix2 y ⟨q.val - 3072, by omega⟩) * x5 (ix2 y ⟨q.val - 3072, by omega⟩)
      else if h5 : q.val < 4096 then x22 (ix2 y ⟨q.val - 3584, by omega⟩)
      else if h6 : q.val < 4608 then x23 (ix2 y ⟨q.val - 4096, by omega⟩)
      else x24 (ix2 y ⟨q.val - 4608, by omega⟩) := by
  unfold dzPieces
  canon_tiles x hh using (View.cover_of_tiledBy _ ![256, 512] (by sl_kernel_rfl) _)
  all_goals
    idx_vars x
    obtain ⟨q, hq⟩ := q
    obtain rfl : y = x0 := Fin.ext hh0
    replace hh1 : q = _ := hh1
    pointwise [k0_pay53, k0_pay54, k0_pay55, k0_pay56, k0_pay57, k0_pay58, k0_pay59, k0_pay60, k0_pay39, k0_pay40]
    subst hh1
    split_ifs
    all_goals first
      | (exfalso; omega)
      | simp only [Nat.add_sub_cancel_left, Fin.eta]

/-- The input's gradient. -/
theorem dx_at (dz : Vec Ideal S256x7680 .bf16) (x0 x1 : Vec Ideal S256x1024 .f32) (x25 : Vec Ideal S1x1024 .f32) (x28 : Vec Ideal S7680x1024 .bf16)
    (y : Fin 256) (k : Fin 1024) : dxBlk dz x0 x1 x25 x28 (ix2 y k) =
      x0 (ix2 y k) + Rows.back (fun l => ∑ q : Fin 7680, dz (ix2 y q) * x28 (ix2 q l)) (fun l => x1 (ix2 y l)) (fun l => x25 (ix2 0 l)) k := by
  unfold dxBlk
  pointwise [k0_pay4, k0_pay61, k0_pay62, k0_pay63, k0_pay64, k0_pay1, k0_pay2, Rows.back, Rows.scale, Rows.meanSq]

/-- The term of the gain's gradient. -/
theorem dpgTerm_at (dz : Vec Ideal S256x7680 .bf16) (x1 : Vec Ideal S256x1024 .f32) (x28 : Vec Ideal S7680x1024 .bf16) (k : Fin 1024) :
    dpgTerm dz x1 x28 (ix2 0 k) =
      ∑ y : Fin 256, (∑ q : Fin 7680, dz (ix2 y q) * x28 (ix2 q k)) * (x1 (ix2 y k) * Rows.scale fun l => x1 (ix2 y l)) := by
  unfold dpgTerm
  pointwise [k0_pay3, k0_pay61, k0_pay62, k0_pay64, k0_pay1, k0_pay2, Rows.scale, Rows.meanSq]

theorem dpgNext_at (dz : Vec Ideal S256x7680 .bf16) (x1 : Vec Ideal S256x1024 .f32) (x28 : Vec Ideal S7680x1024 .bf16) (xo : Vec Ideal S1x1024 .f32)
    (k : Fin 1024) : dpgNext dz x1 x28 xo (ix2 0 k) = xo (ix2 0 k) + dpgTerm dz x1 x28 (ix2 0 k) := by
  unfold dpgNext dpgTerm
  generalize k0_pay61 dz x28 = a
  generalize k0_pay62 x1 = b
  generalize k0_pay64 x1 = d
  pointwise [k0_pay5, k0_pay3, k0_pay1, k0_pay2]

/-- The term of the first convolution's bias. -/
theorem dlcb_at (x11 x14 : Vec Ideal S256x1024 .f32) (k : Fin 1024) :
    k0_pay21 (F := Ideal) (k0_pay6 x11 x14) (ix2 0 k) = ∑ y : Fin 256, (x11 (ix2 y k) + x14 (ix2 y k)) := by
  pointwise [k0_pay21, k0_pay6]

theorem dlcbNext_at (x11 x14 : Vec Ideal S256x1024 .f32) (xo : Vec Ideal S1x1024 .f32) (k : Fin 1024) :
    k0_pay22 (k0_pay6 x11 x14) xo (ix2 0 k) = xo (ix2 0 k) + k0_pay21 (F := Ideal) (k0_pay6 x11 x14) (ix2 0 k) := by
  pointwise [k0_pay22, k0_pay21, k0_pay6]

section

variable {i : grid0.Coords} {t : Fin 64} (hi : (i 0).val = t.val)
include hi

set_option maxHeartbeats 2000000 in
/-- The terms of the first convolution's weight. -/
theorem dlcw_at {x2 : Vec Ideal S256x1024 .bf16} {x3 x4 : Vec Ideal S16x1024 .bf16} {x11 x14 : Vec Ideal S256x1024 .f32}
    {f g : Fin 16384 → Fin 1024 → EReal} (hg : ∀ y k, x11 (ix2 y k) + x14 (ix2 y k) = g (at_ t y) k)
    (h : ∀ y k, x2 (ix2 y k) = f (at_ t y) k)
    (hp : ∀ s : Fin 16384, s.val + 1 = t.val * 256 → ∀ k, x3 (ix2 15 k) = f s k)
    (hp2 : ∀ s : Fin 16384, s.val + 2 = t.val * 256 → ∀ k, x3 (ix2 14 k) = f s k)
    (hn : ∀ s : Fin 16384, s.val = t.val * 256 + 256 → ∀ k, x4 (ix2 0 k) = f s k) (r : Fin 4) (k : Fin 1024) :
    dlcwFirst i x2 x3 x4 x11 x14 (ix2 r k) = ∑ y : Fin 256, g (at_ t y) k * tap4 r (fun s => f s k) (at_ t y) := by
  simp only [← hg]
  unfold dlcwFirst
  canon_tiles x hh
  all_goals
    idx_vars x
    obtain ⟨r, hr⟩ := r
    replace hh0 : r = _ := hh0
    obtain rfl : k = x1 := Fin.ext (hh1.trans (by omega))
    obtain rfl : x0 = 0 := Subsingleton.elim _ _
    subst hh0
    pointwise [k0_pay34, k0_pay32, k0_pay30, k0_pay28, k0_pay6, k0_pay18, k0_pay19, k0_pay20, k0_pay23, k0_pay24, k0_pay25, k0_pay26, k0_pay27]
    try simp only [pt, hi, select_pos, select_last]
  · exact sum_ahead_one (fun s => f s k) t (fun y => x2 (ix2 y k)) (h · k) (fun y => x11 (ix2 y k) + x14 (ix2 y k)) _ (hn · · k)
  · exact Finset.sum_congr rfl fun y _ => congrArg (_ * ·) (h y k)
  · exact sum_behind_one (fun s => f s k) t (fun y => x2 (ix2 y k)) (h · k) (fun y => x11 (ix2 y k) + x14 (ix2 y k)) _ (hp · · k)
  · exact sum_behind_two (fun s => f s k) t (fun y => x2 (ix2 y k)) (h · k) (fun y => x11 (ix2 y k) + x14 (ix2 y k)) _ _ (hp · · k) (hp2 · · k)

set_option maxHeartbeats 2000000 in
/-- The terms of the second convolution's weight. -/
theorem dscw_at {x5 x8 : Vec Ideal S256x512 .bf16} {x6 x7 x9 x10 : Vec Ideal S16x512 .bf16} {x17 : Vec Ideal S256x512 .f32}
    {f g : Fin 16384 → Fin 512 → EReal} (hg : ∀ y k, x17 (ix2 y k) = g (at_ t y) k)
    (h : ∀ y k, x5 (ix2 y k) * x8 (ix2 y k) = f (at_ t y) k)
    (hp : ∀ s : Fin 16384, s.val + 1 = t.val * 256 → ∀ k, x6 (ix2 15 k) * x9 (ix2 15 k) = f s k)
    (hn : ∀ s : Fin 16384, s.val = t.val * 256 + 256 → ∀ k, x7 (ix2 0 k) * x10 (ix2 0 k) = f s k) (r : Fin 3) (k : Fin 512) :
    dscwFirst i x5 x6 x7 x8 x9 x10 x17 (ix2 r k) = ∑ y : Fin 256, g (at_ t y) k * tap3 r (fun s => f s k) (at_ t y) := by
  simp only [← hg]
  unfold dscwFirst
  canon_tiles x hh
  all_goals
    idx_vars x
    obtain ⟨r, hr⟩ := r
    replace hh0 : r = _ := hh0
    obtain rfl : k = x1 := Fin.ext (hh1.trans (by omega))
    obtain rfl : x0 = 0 := Subsingleton.elim _ _
    subst hh0
    pointwise [k0_pay51, k0_pay49, k0_pay47, k0_pay46, k0_pay43, k0_pay42, k0_pay41, k0_pay39, k0_pay40, k0_pay38, k0_pay37, k0_pay36]
    try simp only [pt, hi, select_pos, select_last, gate_twice]
  · have e := sum_ahead_one (fun s => f s k) t (fun y => x5 (ix2 y k) * x8 (ix2 y k)) (h · k) (fun y => x17 (ix2 y k)) (x7 (ix2 0 k) * x10 (ix2 0 k)) (hn · · k)
    exact e
  · exact Finset.sum_congr rfl fun y _ => congrArg (_ * ·) (h y k)
  · have e := sum_behind_one (fun s => f s k) t (fun y => x5 (ix2 y k) * x8 (ix2 y k)) (h · k) (fun y => x17 (ix2 y k)) (x6 (ix2 15 k) * x9 (ix2 15 k)) (hp · · k)
    exact e

set_option maxHeartbeats 2000000 in
/-- The same terms added to the sums so far. -/
theorem dlcwNext_at {x2 : Vec Ideal S256x1024 .bf16} {x3 x4 : Vec Ideal S16x1024 .bf16} {x11 x14 : Vec Ideal S256x1024 .f32}
    (xo : Vec Ideal S4x1024 .f32) {f g : Fin 16384 → Fin 1024 → EReal} (hg : ∀ y k, x11 (ix2 y k) + x14 (ix2 y k) = g (at_ t y) k)
    (h : ∀ y k, x2 (ix2 y k) = f (at_ t y) k)
    (hp : ∀ s : Fin 16384, s.val + 1 = t.val * 256 → ∀ k, x3 (ix2 15 k) = f s k)
    (hp2 : ∀ s : Fin 16384, s.val + 2 = t.val * 256 → ∀ k, x3 (ix2 14 k) = f s k)
    (hn : ∀ s : Fin 16384, s.val = t.val * 256 + 256 → ∀ k, x4 (ix2 0 k) = f s k) (r : Fin 4) (k : Fin 1024) :
    dlcwNext i x2 x3 x4 x11 x14 xo (ix2 r k) = xo (ix2 r k) + ∑ y : Fin 256, g (at_ t y) k * tap4 r (fun s => f s k) (at_ t y) := by
  simp only [← hg]
  unfold dlcwNext
  canon_tiles x hh
  all_goals
    idx_vars x
    obtain ⟨r, hr⟩ := r
    replace hh0 : r = _ := hh0
    obtain rfl : k = x1 := Fin.ext (hh1.trans (by omega))
    obtain rfl : x0 = 0 := Subsingleton.elim _ _
    subst hh0
    pointwise [k0_pay35, k0_pay34, k0_pay33, k0_pay32, k0_pay31, k0_pay30, k0_pay29, k0_pay28, k0_pay6, k0_pay18, k0_pay19, k0_pay20, k0_pay23, k0_pay24, k0_pay25, k0_pay26, k0_pay27]
    try simp only [pt, hi, select_pos, select_last]
  · exact congrArg (xo _ + ·) (sum_ahead_one (fun s => f s k) t (fun y => x2 (ix2 y k)) (h · k) (fun y => x11 (ix2 y k) + x14 (ix2 y k)) _ (hn · · k))
  · exact congrArg (xo _ + ·) (Finset.sum_congr rfl fun y _ => congrArg (_ * ·) (h y k))
  · exact congrArg (xo _ + ·) (sum_behind_one (fun s => f s k) t (fun y => x2 (ix2 y k)) (h · k) (fun y => x11 (ix2 y k) + x14 (ix2 y k)) _ (hp · · k))
  · exact congrArg (xo _ + ·) (sum_behind_two (fun s => f s k) t (fun y => x2 (ix2 y k)) (h · k) (fun y => x11 (ix2 y k) + x14 (ix2 y k)) _ _ (hp · · k) (hp2 · · k))

set_option maxHeartbeats 2000000 in
/-- The same terms added to the sums so far. -/
theorem dscwNext_at {x5 x8 : Vec Ideal S256x512 .bf16} {x6 x7 x9 x10 : Vec Ideal S16x512 .bf16} {x17 : Vec Ideal S256x512 .f32}
    (xo : Vec Ideal S3x512 .f32) {f g : Fin 16384 → Fin 512 → EReal} (hg : ∀ y k, x17 (ix2 y k) = g (at_ t y) k)
    (h : ∀ y k, x5 (ix2 y k) * x8 (ix2 y k) = f (at_ t y) k)
    (hp : ∀ s : Fin 16384, s.val + 1 = t.val * 256 → ∀ k, x6 (ix2 15 k) * x9 (ix2 15 k) = f s k)
    (hn : ∀ s : Fin 16384, s.val = t.val * 256 + 256 → ∀ k, x7 (ix2 0 k) * x10 (ix2 0 k) = f s k) (r : Fin 3) (k : Fin 512) :
    dscwNext i x5 x6 x7 x8 x9 x10 x17 xo (ix2 r k) = xo (ix2 r k) + ∑ y : Fin 256, g (at_ t y) k * tap3 r (fun s => f s k) (at_ t y) := by
  simp only [← hg]
  unfold dscwNext
  canon_tiles x hh
  all_goals
    idx_vars x
    obtain ⟨r, hr⟩ := r
    replace hh0 : r = _ := hh0
    obtain rfl : k = x1 := Fin.ext (hh1.trans (by omega))
    obtain rfl : x0 = 0 := Subsingleton.elim _ _
    subst hh0
    pointwise [k0_pay52, k0_pay51, k0_pay50, k0_pay49, k0_pay48, k0_pay47, k0_pay46, k0_pay43, k0_pay42, k0_pay41, k0_pay39, k0_pay40, k0_pay38, k0_pay37, k0_pay36]
    try simp only [pt, hi, select_pos, select_last, gate_twice]
  · have e := sum_ahead_one (fun s => f s k) t (fun y => x5 (ix2 y k) * x8 (ix2 y k)) (h · k) (fun y => x17 (ix2 y k)) (x7 (ix2 0 k) * x10 (ix2 0 k)) (hn · · k)
    exact congrArg (xo _ + ·) e
  · exact congrArg (xo _ + ·) (Finset.sum_congr rfl fun y _ => congrArg (_ * ·) (h y k))
  · have e := sum_behind_one (fun s => f s k) t (fun y => x5 (ix2 y k) * x8 (ix2 y k)) (h · k) (fun y => x17 (ix2 y k)) (x6 (ix2 15 k) * x9 (ix2 15 k)) (hp · · k)
    exact congrArg (xo _ + ·) e

end

end Cert.MixInIdeal.Pay

end
-- ==== Proof.MixInVal.lean ====
/- What the input layer's backward call is given and what its blocks compute of it, over the extended reals: the projection's
   columns from the host's lines, the shifted rows from the neighbouring blocks, and from them each block of the results. -/
module

public import proofs.«01_k».proof.Proof.MixInPay
public import proofs.«01_k».proof.Proof.Gen.MixInIdeal.Frame.Runs
public import Idealize.ShloMosaic.Lib.Pipeline.ValueKit
public import Idealize.ShloMosaic.Lib.StableHlo.ReadAt

@[expose] public section

set_option maxRecDepth 16384

noncomputable section

namespace Cert.MixInIdeal.Val

open Cert.MixInIdeal Cert.MixInIdeal.Gen Cert.MixInIdeal.Body Cert.Shift Idealize.ShloMosaic Idealize.ShloMosaic.TcCoe Idealize.SL.Sem
open Idealize.ShloMosaic.Pipeline (Dat)

variable (m : (ℓ : Loc nD τ sig) → Buf (Elt Ideal) ℓ)

/-- Where each window's block sits at a point: the tile, its neighbours' rows nearest to it, or the whole array. -/
theorem idxA : ∀ t : Fin cfg0.N, win0_0.index t = ![t.val, 0] ∧ win0_1.index t = ![t.val, 0] ∧ win0_2.index t = ![t.val, 1]
    ∧ win0_3.index t = ![t.val * 16 - 1, 1] ∧ win0_4.index t = ![min ((t.val + 1) * 16) 1023, 1]
    ∧ win0_5.index t = ![t.val, 5] ∧ win0_6.index t = ![t.val * 16 - 1, 5] ∧ win0_7.index t = ![min ((t.val + 1) * 16) 1023, 5]
    ∧ win0_8.index t = ![t.val, 6] ∧ win0_9.index t = ![t.val * 16 - 1, 6] ∧ win0_10.index t = ![min ((t.val + 1) * 16) 1023, 6]
    ∧ win0_11.index t = ![t.val, 0] ∧ win0_12.index t = ![t.val * 32 - 1, 0] ∧ win0_13.index t = ![min ((t.val + 1) * 32) 2047, 0]
    ∧ win0_14.index t = ![t.val, 0] ∧ win0_15.index t = ![t.val * 32 - 1, 0] ∧ win0_16.index t = ![min ((t.val + 1) * 32) 2047, 0]
    :=
  (by decide +kernel : ∀ t : Fin grid0.N, _)

theorem idxB : ∀ t : Fin cfg0.N, (win0_17.index t = ![t.val, 0] ∧ win0_18.index t = ![t.val * 32 - 1, 0] ∧ win0_19.index t = ![min ((t.val + 1) * 32) 2047, 0]
    ∧ win0_20.index t = ![t.val, 0] ∧ win0_21.index t = ![t.val, 0] ∧ win0_22.index t = ![t.val, 0] ∧ win0_23.index t = ![t.val, 0]
    ∧ win0_24.index t = ![t.val, 0] ∧ win0_25.index t = ![0, 0] ∧ win0_26.index t = ![0, 0] ∧ win0_27.index t = ![0, 0]
    ∧ win0_28.index t = ![0, 0] ∧ win0_29.index t = ![t.val, 0] ∧ win0_30.index t = ![t.val, 0] ∧ win0_31.index t = ![0, 0]
    ∧ win0_32.index t = ![0, 0] ∧ win0_33.index t = ![0, 0] ∧ win0_34.index t = ![0, 0]) ∧ (grid0.coords t 0).val = t.val ∧ t.val < 64 :=
  (by decide +kernel : ∀ t : Fin grid0.N, _)

/-- The point as a tile's number. -/
def tile (t : Fin cfg0.N) : Fin 64 := ⟨t.val, (idxB t).2.2⟩

theorem coord (t : Fin cfg0.N) : (grid0.coords t 0).val = (tile t).val := (idxB t).2.1

/-! ## The arrays, as functions of the program's arguments -/

abbrev Tok := FVec Ideal S1x16384x1024 .f32
abbrev Vc := FVec Ideal S1024 .f32
abbrev Wt := FVec Ideal S1024x7680 .f32
abbrev Wide := FVec Ideal S16384x1024 .f32
abbrev Half := FVec Ideal S16384x512 .f32
abbrev Taps4 := FVec Ideal S4x1024 .f32
abbrev Taps3 := FVec Ideal S3x512 .f32

/-- Row `s` of an array with a leading axis of size one. -/
def row (x : Tok) (s : Fin 16384) : Fin 1024 → EReal := fun l => x (ix3 0 s l)

/-- The projection of the normed input. -/
def z (x : Tok) (pg : Vc) (w : Wt) (s : Fin 16384) (q : Fin 7680) : EReal :=
  ∑ l : Fin 1024, x (ix3 0 s l) * Rows.scale (row x s) * pg (ix1 l) * w (ix2 l q)

/-- The columns the first convolution reads, and the two factors of the one the second reads. -/
def lx (x : Tok) (pg : Vc) (w : Wt) (s : Fin 16384) (k : Fin 1024) : EReal := z x pg w s ⟨1024 + k.val, by omega⟩
def cv (x : Tok) (pg : Vc) (w : Wt) (s : Fin 16384) (k : Fin 512) : EReal := z x pg w s ⟨2560 + k.val, by omega⟩
def xv (x : Tok) (pg : Vc) (w : Wt) (s : Fin 16384) (k : Fin 512) : EReal := z x pg w s ⟨3072 + k.val, by omega⟩

/-- The gradients of the two convolutions' results, the first's from both directions. -/
def entry (f : Half) (s : Fin 16384) (k : Fin 512) : EReal := f (ix2 s k)
def dxc (f r : Wide) (s : Fin 16384) (k : Fin 1024) : EReal := f (ix2 s k) + r (ix2 s k)

/-- The first convolution taken back. -/
def dlx (lcw : Taps4) (f r : Wide) (s : Fin 16384) (k : Fin 1024) : EReal :=
  lcw (ix2 2 k) * dxc f r s k + lcw (ix2 0 k) * ahead 2 (fun s => dxc f r s k) s
    + lcw (ix2 1 k) * ahead 1 (fun s => dxc f r s k) s + lcw (ix2 3 k) * behind 1 (fun s => dxc f r s k) s

/-- The second convolution taken back. -/
def dp (scw : Taps3) (dcp : Half) (s : Fin 16384) (k : Fin 512) : EReal :=
  scw (ix2 1 k) * entry dcp s k + scw (ix2 0 k) * ahead 1 (fun s => entry dcp s k) s + scw (ix2 2 k) * behind 1 (fun s => entry dcp s k) s

/-- The gradient at the projection's columns. -/
def dz (x : Tok) (pg : Vc) (w : Wt) (lcw : Taps4) (scw : Taps3) (f r : Wide) (dcp : Half) (dgate : Wide) (dscb dsu dsv : Half)
    (dzm : FVec Ideal S16384x3072 .f32) (s : Fin 16384) (q : Fin 7680) : EReal :=
  if h : q.val < 1024 then dgate (ix2 s ⟨q.val, h⟩)
  else if h1 : q.val < 2048 then dlx lcw f r s ⟨q.val - 1024, by omega⟩
  else if h2 : q.val < 2560 then dscb (ix2 s ⟨q.val - 2048, by omega⟩)
  else if h3 : q.val < 3072 then dp scw dcp s ⟨q.val - 2560, by omega⟩ * xv x pg w s ⟨q.val - 2560, by omega⟩
  else if h4 : q.val < 3584 then dp scw dcp s ⟨q.val - 3072, by omega⟩ * cv x pg w s ⟨q.val - 3072, by omega⟩
  else if h5 : q.val < 4096 then dsu (ix2 s ⟨q.val - 3584, by omega⟩)
  else if h6 : q.val < 4608 then dsv (ix2 s ⟨q.val - 4096, by omega⟩)
  else dzm (ix2 s ⟨q.val - 4608, by omega⟩)

/-- The gradient at the norm's output. -/
def dh (x : Tok) (pg : Vc) (w : Wt) (lcw : Taps4) (scw : Taps3) (f r : Wide) (dcp : Half) (dgate : Wide) (dscb dsu dsv : Half)
    (dzm : FVec Ideal S16384x3072 .f32) (s : Fin 16384) (l : Fin 1024) : EReal :=
  ∑ q : Fin 7680, dz x pg w lcw scw f r dcp dgate dscb dsu dsv dzm s q * w (ix2 l q)

/-- The six results. -/
def dxArr (x dy : Tok) (pg : Vc) (w : Wt) (lcw : Taps4) (scw : Taps3) (f r : Wide) (dcp : Half) (dgate : Wide) (dscb dsu dsv : Half)
    (dzm : FVec Ideal S16384x3072 .f32) : FVec Ideal S16384x1024 .f32 := fun j =>
  dy (ix3 0 (j 0) (j 1)) + Rows.back (dh x pg w lcw scw f r dcp dgate dscb dsu dsv dzm (j 0)) (row x (j 0)) (fun l => pg (ix1 l)) (j 1)
def dzArr (x : Tok) (pg : Vc) (w : Wt) (lcw : Taps4) (scw : Taps3) (f r : Wide) (dcp : Half) (dgate : Wide) (dscb dsu dsv : Half)
    (dzm : FVec Ideal S16384x3072 .f32) : FVec Ideal S16384x7680 .bf16 := fun j =>
  dz x pg w lcw scw f r dcp dgate dscb dsu dsv dzm (j 0) (j 1)
def dpgArr (x : Tok) (pg : Vc) (w : Wt) (lcw : Taps4) (scw : Taps3) (f r : Wide) (dcp : Half) (dgate : Wide) (dscb dsu dsv : Half)
    (dzm : FVec Ideal S16384x3072 .f32) : FVec Ideal S1x1024 .f32 := fun j =>
  ∑ s : Fin 16384, dh x pg w lcw scw f r dcp dgate dscb dsu dsv dzm s (j 1) * (x (ix3 0 s (j 1)) * Rows.scale (row x s))
def dlcwArr (x : Tok) (pg : Vc) (w : Wt) (f r : Wide) : FVec Ideal S4x1024 .f32 := fun j =>
  ∑ s : Fin 16384, dxc f r s (j 1) * tap4 (j 0) (fun s => lx x pg w s (j 1)) s
def dlcbArr (f r : Wide) : FVec Ideal S1x1024 .f32 := fun j => ∑ s : Fin 16384, dxc f r s (j 1)
def dscwArr (x : Tok) (pg : Vc) (w : Wt) (dcp : Half) : FVec Ideal S3x512 .f32 := fun j =>
  ∑ s : Fin 16384, entry dcp s (j 1) * tap3 (j 0) (fun s => cv x pg w s (j 1) * xv x pg w s (j 1)) s

/-! ## What the region finds, the lines before it done -/

theorem V_v0 (c : Dev nD) (j : S16384x1024.Idx) : V m c main_v0 j = (m ((c : Thread nD τ).loc main_arg0)) (ix3 0 (j 0) (j 1)) := by
  unfold V; after_reads_at
theorem V_v16 (c : Dev nD) (j : S16384x4608.Idx) : V m c main_v16 j = z (m ((c : Thread nD τ).loc main_arg0)) (m ((c : Thread nD τ).loc main_arg2)) (m ((c : Thread nD τ).loc main_arg3)) (j 0) ⟨(j 1).val, by have : (j 1).val < 4608 := (j 1).isLt; omega⟩ := by
  unfold V; after_reads_at; rfl
theorem V_v17 (c : Dev nD) (j : S16384x1024.Idx) : V m c main_v17 j = (m ((c : Thread nD τ).loc main_arg1)) (ix3 0 (j 0) (j 1)) := by
  unfold V; after_reads_at
theorem V_v18 (c : Dev nD) (j : S16384x1024.Idx) : V m c main_v18 j = (m ((c : Thread nD τ).loc main_arg9)) j := by
  unfold V; after_reads_at
theorem V_v19 (c : Dev nD) (j : S16384x512.Idx) : V m c main_v19 j = (m ((c : Thread nD τ).loc main_arg10)) j := by
  unfold V; after_reads_at
theorem V_v20 (c : Dev nD) (j : S16384x512.Idx) : V m c main_v20 j = (m ((c : Thread nD τ).loc main_arg11)) j := by
  unfold V; after_reads_at
theorem V_v21 (c : Dev nD) (j : S16384x512.Idx) : V m c main_v21 j = (m ((c : Thread nD τ).loc main_arg12)) j := by
  unfold V; after_reads_at
theorem V_v22 (c : Dev nD) (j : S16384x3072.Idx) : V m c main_v22 j = (m ((c : Thread nD τ).loc main_arg13)) j := by
  unfold V; after_reads_at
theorem V_v23 (c : Dev nD) (j : S1x1024.Idx) : V m c main_v23 j = (m ((c : Thread nD τ).loc main_arg2)) (ix1 (j 1)) := by
  unfold V; after_reads_at
theorem V_v25 (c : Dev nD) (j : S7680x1024.Idx) : V m c main_v25 j = (m ((c : Thread nD τ).loc main_arg3)) (ix2 (j 1) (j 0)) := by
  unfold V; after_reads_at
theorem V_arg4 (c : Dev nD) : V m c main_arg4 = (m ((c : Thread nD τ).loc main_arg4)) := by
  unfold V; after_reads_at
theorem V_arg5 (c : Dev nD) : V m c main_arg5 = (m ((c : Thread nD τ).loc main_arg5)) := by
  unfold V; after_reads_at
theorem V_arg6 (c : Dev nD) : V m c main_arg6 = (m ((c : Thread nD τ).loc main_arg6)) := by
  unfold V; after_reads_at
theorem V_arg7 (c : Dev nD) : V m c main_arg7 = (m ((c : Thread nD τ).loc main_arg7)) := by
  unfold V; after_reads_at
theorem V_arg8 (c : Dev nD) : V m c main_arg8 = (m ((c : Thread nD τ).loc main_arg8)) := by
  unfold V; after_reads_at

/-! ## The blocks, in the whole arrays -/

theorem iblk0_at (c : Dev nD) (t : Fin cfg0.N) (y : Fin 256) (k : Fin 1024) : iblk m c 0 t (ix2 y k) = (m ((c : Thread nD τ).loc main_arg1)) (ix3 0 (at_ (tile t) y) k) := by
  blk_simp [iblk]; rw [V_v17]; blk_point [idxA t, idxB t, at_, tile]
theorem iblk1_at (c : Dev nD) (t : Fin cfg0.N) (y : Fin 256) (k : Fin 1024) : iblk m c 1 t (ix2 y k) = (m ((c : Thread nD τ).loc main_arg0)) (ix3 0 (at_ (tile t) y) k) := by
  blk_simp [iblk]; rw [V_v0]; blk_point [idxA t, idxB t, at_, tile]
theorem iblk11_at (c : Dev nD) (t : Fin cfg0.N) (y : Fin 256) (k : Fin 1024) : iblk m c 11 t (ix2 y k) = (m ((c : Thread nD τ).loc main_arg6)) (ix2 (at_ (tile t) y) k) := by
  blk_simp [iblk]; rw [V_arg6]; blk_point [idxA t, idxB t, at_, tile]
theorem iblk14_at (c : Dev nD) (t : Fin cfg0.N) (y : Fin 256) (k : Fin 1024) : iblk m c 14 t (ix2 y k) = (m ((c : Thread nD τ).loc main_arg7)) (ix2 (at_ (tile t) y) k) := by
  blk_simp [iblk]; rw [V_arg7]; blk_point [idxA t, idxB t, at_, tile]
theorem iblk17_at (c : Dev nD) (t : Fin cfg0.N) (y : Fin 256) (k : Fin 512) : iblk m c 17 t (ix2 y k) = (m ((c : Thread nD τ).loc main_arg8)) (ix2 (at_ (tile t) y) k) := by
  blk_simp [iblk]; rw [V_arg8]; blk_point [idxA t, idxB t, at_, tile]
theorem iblk20_at (c : Dev nD) (t : Fin cfg0.N) (y : Fin 256) (k : Fin 1024) : iblk m c 20 t (ix2 y k) = (m ((c : Thread nD τ).loc main_arg9)) (ix2 (at_ (tile t) y) k) := by
  blk_simp [iblk]; rw [V_v18]; blk_point [idxA t, idxB t, at_, tile]
theorem iblk21_at (c : Dev nD) (t : Fin cfg0.N) (y : Fin 256) (k : Fin 512) : iblk m c 21 t (ix2 y k) = (m ((c : Thread nD τ).loc main_arg10)) (ix2 (at_ (tile t) y) k) := by
  blk_simp [iblk]; rw [V_v19]; blk_point [idxA t, idxB t, at_, tile]
theorem iblk22_at (c : Dev nD) (t : Fin cfg0.N) (y : Fin 256) (k : Fin 512) : iblk m c 22 t (ix2 y k) = (m ((c : Thread nD τ).loc main_arg11)) (ix2 (at_ (tile t) y) k) := by
  blk_simp [iblk]; rw [V_v20]; blk_point [idxA t, idxB t, at_, tile]
theorem iblk23_at (c : Dev nD) (t : Fin cfg0.N) (y : Fin 256) (k : Fin 512) : iblk m c 23 t (ix2 y k) = (m ((c : Thread nD τ).loc main_arg12)) (ix2 (at_ (tile t) y) k) := by
  blk_simp [iblk]; rw [V_v21]; blk_point [idxA t, idxB t, at_, tile]
theorem iblk24_at (c : Dev nD) (t : Fin cfg0.N) (y : Fin 256) (k : Fin 3072) : iblk m c 24 t (ix2 y k) = (m ((c : Thread nD τ).loc main_arg13)) (ix2 (at_ (tile t) y) k) := by
  blk_simp [iblk]; rw [V_v22]; blk_point [idxA t, idxB t, at_, tile]
theorem iblk26_at (c : Dev nD) (t : Fin cfg0.N) (y : Fin 4) (k : Fin 1024) : iblk m c 26 t (ix2 y k) = (m ((c : Thread nD τ).loc main_arg4)) (ix2 y k) := by
  blk_simp [iblk]; rw [V_arg4]; blk_point [idxA t, idxB t]
theorem iblk27_at (c : Dev nD) (t : Fin cfg0.N) (y : Fin 3) (k : Fin 512) : iblk m c 27 t (ix2 y k) = (m ((c : Thread nD τ).loc main_arg5)) (ix2 y k) := by
  blk_simp [iblk]; rw [V_arg5]; blk_point [idxA t, idxB t]
theorem iblk28_at (c : Dev nD) (t : Fin cfg0.N) (y : Fin 7680) (k : Fin 1024) : iblk m c 28 t (ix2 y k) = (m ((c : Thread nD τ).loc main_arg3)) (ix2 k y) := by
  blk_simp [iblk]; rw [V_v25]; blk_point [idxA t, idxB t]
theorem iblk25_at (c : Dev nD) (t : Fin cfg0.N) (k : Fin 1024) : iblk m c 25 t (ix2 0 k) = (m ((c : Thread nD τ).loc main_arg2)) (ix1 k) := by
  blk_simp [iblk]; rw [V_v23]; blk_point [idxA t, idxB t]
theorem emb5 (t : Fin cfg0.N) (y : Fin 256) (k : Fin 512) : ((View.whole main_v16).slice (win0_5.rect t)).emb (ix2 y k) = ix2 (at_ (tile t) y) ⟨2560 + k.val, by omega⟩ := by
  blk_ext [idxA t, idxB t, at_, tile]
theorem iblk5_at (c : Dev nD) (t : Fin cfg0.N) (y : Fin 256) (k : Fin 512) : iblk m c 5 t (ix2 y k) = cv (m ((c : Thread nD τ).loc main_arg0)) (m ((c : Thread nD τ).loc main_arg2)) (m ((c : Thread nD τ).loc main_arg3)) (at_ (tile t) y) k := by
  blk_simp [iblk]; rw [V_v16, emb5]; rfl
theorem emb8 (t : Fin cfg0.N) (y : Fin 256) (k : Fin 512) : ((View.whole main_v16).slice (win0_8.rect t)).emb (ix2 y k) = ix2 (at_ (tile t) y) ⟨3072 + k.val, by omega⟩ := by
  blk_ext [idxA t, idxB t, at_, tile]
theorem iblk8_at (c : Dev nD) (t : Fin cfg0.N) (y : Fin 256) (k : Fin 512) : iblk m c 8 t (ix2 y k) = xv (m ((c : Thread nD τ).loc main_arg0)) (m ((c : Thread nD τ).loc main_arg2)) (m ((c : Thread nD τ).loc main_arg3)) (at_ (tile t) y) k := by
  blk_simp [iblk]; rw [V_v16, emb8]; rfl

/-! ## The rows next to the tile -/

theorem halo12_7 (c : Dev nD) (t : Fin cfg0.N) (s : Fin 16384) (h : s.val + 1 = t.val * 256) (k : Fin 1024) : iblk m c 12 t (ix2 7 k) = (m ((c : Thread nD τ).loc main_arg6)) (ix2 s k) := by
  have ht := (idxB t).2.2
  blk_simp [iblk]; rw [V_arg6]; have hs := s.isLt; blk_point [idxA t, idxB t]
theorem halo15_7 (c : Dev nD) (t : Fin cfg0.N) (s : Fin 16384) (h : s.val + 1 = t.val * 256) (k : Fin 1024) : iblk m c 15 t (ix2 7 k) = (m ((c : Thread nD τ).loc main_arg7)) (ix2 s k) := by
  have ht := (idxB t).2.2
  blk_simp [iblk]; rw [V_arg7]; have hs := s.isLt; blk_point [idxA t, idxB t]
theorem halo18_7 (c : Dev nD) (t : Fin cfg0.N) (s : Fin 16384) (h : s.val + 1 = t.val * 256) (k : Fin 512) : iblk m c 18 t (ix2 7 k) = (m ((c : Thread nD τ).loc main_arg8)) (ix2 s k) := by
  have ht := (idxB t).2.2
  blk_simp [iblk]; rw [V_arg8]; have hs := s.isLt; blk_point [idxA t, idxB t]
theorem halo13_0 (c : Dev nD) (t : Fin cfg0.N) (s : Fin 16384) (h : s.val = t.val * 256 + 256) (k : Fin 1024) : iblk m c 13 t (ix2 0 k) = (m ((c : Thread nD τ).loc main_arg6)) (ix2 s k) := by
  have ht := (idxB t).2.2
  blk_simp [iblk]; rw [V_arg6]; have hs := s.isLt; blk_point [idxA t, idxB t]
theorem halo13_1 (c : Dev nD) (t : Fin cfg0.N) (s : Fin 16384) (h : s.val = t.val * 256 + 257) (k : Fin 1024) : iblk m c 13 t (ix2 1 k) = (m ((c : Thread nD τ).loc main_arg6)) (ix2 s k) := by
  have ht := (idxB t).2.2
  blk_simp [iblk]; rw [V_arg6]; have hs := s.isLt; blk_point [idxA t, idxB t]
theorem halo16_0 (c : Dev nD) (t : Fin cfg0.N) (s : Fin 16384) (h : s.val = t.val * 256 + 256) (k : Fin 1024) : iblk m c 16 t (ix2 0 k) = (m ((c : Thread nD τ).loc main_arg7)) (ix2 s k) := by
  have ht := (idxB t).2.2
  blk_simp [iblk]; rw [V_arg7]; have hs := s.isLt; blk_point [idxA t, idxB t]
theorem halo16_1 (c : Dev nD) (t : Fin cfg0.N) (s : Fin 16384) (h : s.val = t.val * 256 + 257) (k : Fin 1024) : iblk m c 16 t (ix2 1 k) = (m ((c : Thread nD τ).loc main_arg7)) (ix2 s k) := by
  have ht := (idxB t).2.2
  blk_simp [iblk]; rw [V_arg7]; have hs := s.isLt; blk_point [idxA t, idxB t]
theorem halo19_0 (c : Dev nD) (t : Fin cfg0.N) (s : Fin 16384) (h : s.val = t.val * 256 + 256) (k : Fin 512) : iblk m c 19 t (ix2 0 k) = (m ((c : Thread nD τ).loc main_arg8)) (ix2 s k) := by
  have ht := (idxB t).2.2
  blk_simp [iblk]; rw [V_arg8]; have hs := s.isLt; blk_point [idxA t, idxB t]
theorem embh6_15 (t : Fin cfg0.N) (s : Fin 16384) (h : s.val + 1 = t.val * 256) (k : Fin 512) : ((View.whole main_v16).slice (win0_6.rect t)).emb (ix2 15 k) = ix2 s ⟨2560 + k.val, by omega⟩ := by
  have ht := (idxB t).2.2
  have hs := s.isLt
  blk_ext [idxA t, idxB t]
theorem halo6_15 (c : Dev nD) (t : Fin cfg0.N) (s : Fin 16384) (h : s.val + 1 = t.val * 256) (k : Fin 512) : iblk m c 6 t (ix2 15 k) = cv (m ((c : Thread nD τ).loc main_arg0)) (m ((c : Thread nD τ).loc main_arg2)) (m ((c : Thread nD τ).loc main_arg3)) s k := by
  have ht := (idxB t).2.2
  blk_simp [iblk]; rw [V_v16, embh6_15 t s h k]; rfl
theorem embh9_15 (t : Fin cfg0.N) (s : Fin 16384) (h : s.val + 1 = t.val * 256) (k : Fin 512) : ((View.whole main_v16).slice (win0_9.rect t)).emb (ix2 15 k) = ix2 s ⟨3072 + k.val, by omega⟩ := by
  have ht := (idxB t).2.2
  have hs := s.isLt
  blk_ext [idxA t, idxB t]
theorem halo9_15 (c : Dev nD) (t : Fin cfg0.N) (s : Fin 16384) (h : s.val + 1 = t.val * 256) (k : Fin 512) : iblk m c 9 t (ix2 15 k) = xv (m ((c : Thread nD τ).loc main_arg0)) (m ((c : Thread nD τ).loc main_arg2)) (m ((c : Thread nD τ).loc main_arg3)) s k := by
  have ht := (idxB t).2.2
  blk_simp [iblk]; rw [V_v16, embh9_15 t s h k]; rfl
theorem embh7_0 (t : Fin cfg0.N) (s : Fin 16384) (h : s.val = t.val * 256 + 256) (k : Fin 512) : ((View.whole main_v16).slice (win0_7.rect t)).emb (ix2 0 k) = ix2 s ⟨2560 + k.val, by omega⟩ := by
  have ht := (idxB t).2.2
  have hs := s.isLt
  blk_ext [idxA t, idxB t]
theorem halo7_0 (c : Dev nD) (t : Fin cfg0.N) (s : Fin 16384) (h : s.val = t.val * 256 + 256) (k : Fin 512) : iblk m c 7 t (ix2 0 k) = cv (m ((c : Thread nD τ).loc main_arg0)) (m ((c : Thread nD τ).loc main_arg2)) (m ((c : Thread nD τ).loc main_arg3)) s k := by
  have ht := (idxB t).2.2
  blk_simp [iblk]; rw [V_v16, embh7_0 t s h k]; rfl
theorem embh10_0 (t : Fin cfg0.N) (s : Fin 16384) (h : s.val = t.val * 256 + 256) (k : Fin 512) : ((View.whole main_v16).slice (win0_10.rect t)).emb (ix2 0 k) = ix2 s ⟨3072 + k.val, by omega⟩ := by
  have ht := (idxB t).2.2
  have hs := s.isLt
  blk_ext [idxA t, idxB t]
theorem halo10_0 (c : Dev nD) (t : Fin cfg0.N) (s : Fin 16384) (h : s.val = t.val * 256 + 256) (k : Fin 512) : iblk m c 10 t (ix2 0 k) = xv (m ((c : Thread nD τ).loc main_arg0)) (m ((c : Thread nD τ).loc main_arg2)) (m ((c : Thread nD τ).loc main_arg3)) s k := by
  have ht := (idxB t).2.2
  blk_simp [iblk]; rw [V_v16, embh10_0 t s h k]; rfl
theorem x2_at (c : Dev nD) (t : Fin cfg0.N) (y : Fin 256) (k : Fin 1024) : X0_2 m c t (ix2 y k) = lx (m ((c : Thread nD τ).loc main_arg0)) (m ((c : Thread nD τ).loc main_arg2)) (m ((c : Thread nD τ).loc main_arg3)) (at_ (tile t) y) k := by
  unfold X0_2 Pipeline.Window.fill; rw [dif_pos (moved0_2 t (ix2 y k))]; blk_simp [iblk]; rw [V_v16]; unfold lx; refine congrArg₂ (z _ _ _) (Fin.ext ?_) (Fin.ext ?_) <;> blk_simp [idxA t, idxB t, at_, tile]
theorem x3_15 (c : Dev nD) (t : Fin cfg0.N) (s : Fin 16384) (h : s.val + 1 = t.val * 256) (k : Fin 1024) : X0_3 m c t (ix2 15 k) = lx (m ((c : Thread nD τ).loc main_arg0)) (m ((c : Thread nD τ).loc main_arg2)) (m ((c : Thread nD τ).loc main_arg3)) s k := by
  have ht := (idxB t).2.2
  have hs := s.isLt
  unfold X0_3 Pipeline.Window.fill; rw [dif_pos (moved0_3 t (ix2 15 k))]; blk_simp [iblk]; rw [V_v16]; unfold lx
  refine congrArg₂ (z _ _ _) (Fin.ext ?_) (Fin.ext ?_) <;> blk_simp [idxA t, idxB t]
  show (t.val * 16 - 1) * 16 + 15 = s.val; omega
theorem x3_14 (c : Dev nD) (t : Fin cfg0.N) (s : Fin 16384) (h : s.val + 2 = t.val * 256) (k : Fin 1024) : X0_3 m c t (ix2 14 k) = lx (m ((c : Thread nD τ).loc main_arg0)) (m ((c : Thread nD τ).loc main_arg2)) (m ((c : Thread nD τ).loc main_arg3)) s k := by
  have ht := (idxB t).2.2
  have hs := s.isLt
  unfold X0_3 Pipeline.Window.fill; rw [dif_pos (moved0_3 t (ix2 14 k))]; blk_simp [iblk]; rw [V_v16]; unfold lx
  refine congrArg₂ (z _ _ _) (Fin.ext ?_) (Fin.ext ?_) <;> blk_simp [idxA t, idxB t]
  show (t.val * 16 - 1) * 16 + 14 = s.val; omega
theorem x4_0 (c : Dev nD) (t : Fin cfg0.N) (s : Fin 16384) (h : s.val = t.val * 256 + 256) (k : Fin 1024) : X0_4 m c t (ix2 0 k) = lx (m ((c : Thread nD τ).loc main_arg0)) (m ((c : Thread nD τ).loc main_arg2)) (m ((c : Thread nD τ).loc main_arg3)) s k := by
  have ht := (idxB t).2.2
  have hs := s.isLt
  unfold X0_4 Pipeline.Window.fill; rw [dif_pos (moved0_4 t (ix2 0 k))]; blk_simp [iblk]; rw [V_v16]; unfold lx
  refine congrArg₂ (z _ _ _) (Fin.ext ?_) (Fin.ext ?_) <;> blk_simp [idxA t, idxB t]
  show min ((t.val + 1) * 16) 1023 * 16 + 0 = s.val; omega

/-! ## The blocks of the results -/

variable (c : Dev nD) (t : Fin cfg0.N)

theorem dxc_at (y : Fin 256) (k : Fin 1024) : @HAdd.hAdd EReal EReal EReal _ (iblk m c 11 t (ix2 y k)) (iblk m c 14 t (ix2 y k)) = dxc (m ((c : Thread nD τ).loc main_arg6)) (m ((c : Thread nD τ).loc main_arg7)) (at_ (tile t) y) k :=
  congrArg₂ (fun a b : EReal => a + b) (iblk11_at m c t y k) (iblk14_at m c t y k)

theorem dlx_blk (y : Fin 256) (k : Fin 1024) : dlxBlk (F := Ideal) (grid0.coords t) (iblk m c 11 t) (iblk m c 12 t) (iblk m c 13 t) (iblk m c 14 t) (iblk m c 15 t)
    (iblk m c 16 t) (iblk m c 26 t) (ix2 y k) = dlx (m ((c : Thread nD τ).loc main_arg4)) (m ((c : Thread nD τ).loc main_arg6)) (m ((c : Thread nD τ).loc main_arg7)) (at_ (tile t) y) k := by
  refine (Pay.dlx_at (coord t) (iblk m c 26 t) (f := dxc (m ((c : Thread nD τ).loc main_arg6)) (m ((c : Thread nD τ).loc main_arg7))) (dxc_at m c t)
    (fun s h k => congrArg₂ (fun a b : EReal => a + b) (halo12_7 m c t s h k) (halo15_7 m c t s h k))
    (fun s h k => congrArg₂ (fun a b : EReal => a + b) (halo13_0 m c t s h k) (halo16_0 m c t s h k))
    (fun s h k => congrArg₂ (fun a b : EReal => a + b) (halo13_1 m c t s h k) (halo16_1 m c t s h k)) y k).trans ?_
  rw [iblk26_at, iblk26_at, iblk26_at, iblk26_at]; rfl

theorem dp_blk (y : Fin 256) (k : Fin 512) : dpBlk (F := Ideal) (grid0.coords t) (iblk m c 17 t) (iblk m c 18 t) (iblk m c 19 t) (iblk m c 27 t) (ix2 y k)
    = dp (m ((c : Thread nD τ).loc main_arg5)) (m ((c : Thread nD τ).loc main_arg8)) (at_ (tile t) y) k := by
  refine (Pay.dp_at (coord t) (iblk m c 27 t) (f := entry (m ((c : Thread nD τ).loc main_arg8))) (iblk17_at m c t)
    (halo18_7 m c t) (halo19_0 m c t) y k).trans ?_
  rw [iblk27_at, iblk27_at, iblk27_at]; rfl

set_option maxHeartbeats 2000000 in
/-- The joined gradient's block. -/
theorem dz_blk (y : Fin 256) (q : Fin 7680) : dzBlk (F := Ideal) (grid0.coords t) (iblk m c 5 t) (iblk m c 8 t) (iblk m c
    11 t) (iblk m c 12 t) (iblk m c 13 t) (iblk m c 14 t) (iblk m c 15 t) (iblk m c 16 t) (iblk m c 17 t) (iblk m c 18 t) (iblk m
    c 19 t) (iblk m c 20 t) (iblk m c 21 t) (iblk m c 22 t) (iblk m c 23 t) (iblk m c 24 t) (iblk m c 26 t) (iblk m c 27 t) (ix2 y q)
      = dz (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (at_ (tile t) y) q := by
  unfold dzBlk dz
  refine (Pay.dz_at _ _ _ _ _ _ _ _ _ y q).trans ?_
  split_ifs
  · exact iblk20_at m c t y _
  · exact dlx_blk m c t y _
  · exact iblk21_at m c t y _
  · exact congrArg₂ (fun a b : EReal => a * b) (dp_blk m c t y _) (iblk8_at m c t y _)
  · exact congrArg₂ (fun a b : EReal => a * b) (dp_blk m c t y _) (iblk5_at m c t y _)
  · exact iblk22_at m c t y _
  · exact iblk23_at m c t y _
  · exact iblk24_at m c t y _

/-- The terms of the first convolution's weight's gradient, -/
theorem dlcw_blk (r : Fin 4) (k : Fin 1024) : dlcwFirst (F := Ideal) (grid0.coords t) (X0_2 m c t) (X0_3 m c t) (X0_4 m c t) (iblk m c 11 t) (iblk m c 14 t) (ix2 r k)
    = ∑ y : Fin 256, dxc (m ((c : Thread nD τ).loc main_arg6)) (m ((c : Thread nD τ).loc main_arg7)) (at_ (tile t) y) k * tap4 r (fun s => lx (m ((c : Thread nD τ).loc main_arg0)) (m ((c : Thread nD τ).loc main_arg2)) (m ((c : Thread nD τ).loc main_arg3)) s k) (at_ (tile t) y) :=
  Pay.dlcw_at (coord t) (g := dxc (m ((c : Thread nD τ).loc main_arg6)) (m ((c : Thread nD τ).loc main_arg7))) (f := lx (m ((c : Thread nD τ).loc main_arg0)) (m ((c : Thread nD τ).loc main_arg2)) (m ((c : Thread nD τ).loc main_arg3))) (dxc_at m c t) (x2_at m c t) (x3_15 m c t) (x3_14 m c t) (x4_0 m c t) r k
theorem dlcwNext_blk (xo : Vec Ideal S4x1024 .f32) (r : Fin 4) (k : Fin 1024) : dlcwNext (F := Ideal) (grid0.coords t) (X0_2 m c t) (X0_3 m c t) (X0_4 m c t) (iblk m c 11 t) (iblk m c 14 t) xo (ix2 r k)
    = xo (ix2 r k) + ∑ y : Fin 256, dxc (m ((c : Thread nD τ).loc main_arg6)) (m ((c : Thread nD τ).loc main_arg7)) (at_ (tile t) y) k * tap4 r (fun s => lx (m ((c : Thread nD τ).loc main_arg0)) (m ((c : Thread nD τ).loc main_arg2)) (m ((c : Thread nD τ).loc main_arg3)) s k) (at_ (tile t) y) :=
  Pay.dlcwNext_at (coord t) xo (g := dxc (m ((c : Thread nD τ).loc main_arg6)) (m ((c : Thread nD τ).loc main_arg7))) (f := lx (m ((c : Thread nD τ).loc main_arg0)) (m ((c : Thread nD τ).loc main_arg2)) (m ((c : Thread nD τ).loc main_arg3))) (dxc_at m c t) (x2_at m c t) (x3_15 m c t) (x3_14 m c t) (x4_0 m c t) r k

/-- and of the second's. -/
theorem dscw_blk (r : Fin 3) (k : Fin 512) : dscwFirst (F := Ideal) (grid0.coords t) (iblk m c 5 t) (iblk m c 6 t) (iblk m c 7 t) (iblk m c 8 t) (iblk m c 9 t) (iblk m c 10 t) (iblk m c 17 t) (ix2 r k)
    = ∑ y : Fin 256, entry (m ((c : Thread nD τ).loc main_arg8)) (at_ (tile t) y) k * tap3 r (fun s => cv (m ((c : Thread nD τ).loc main_arg0)) (m ((c : Thread nD τ).loc main_arg2)) (m ((c : Thread nD τ).loc main_arg3)) s k * xv (m ((c : Thread nD τ).loc main_arg0)) (m ((c : Thread nD τ).loc main_arg2)) (m ((c : Thread nD τ).loc main_arg3)) s k) (at_ (tile t) y) :=
  Pay.dscw_at (coord t) (g := entry (m ((c : Thread nD τ).loc main_arg8))) (f := fun s k => cv (m ((c : Thread nD τ).loc main_arg0)) (m ((c : Thread nD τ).loc main_arg2)) (m ((c : Thread nD τ).loc main_arg3)) s k * xv (m ((c : Thread nD τ).loc main_arg0)) (m ((c : Thread nD τ).loc main_arg2)) (m ((c : Thread nD τ).loc main_arg3)) s k) (iblk17_at m c t)
    (fun y k => congrArg₂ (fun a b : EReal => a * b) (iblk5_at m c t y k) (iblk8_at m c t y k))
    (fun s h k => congrArg₂ (fun a b : EReal => a * b) (halo6_15 m c t s h k) (halo9_15 m c t s h k))
    (fun s h k => congrArg₂ (fun a b : EReal => a * b) (halo7_0 m c t s h k) (halo10_0 m c t s h k)) r k
theorem dscwNext_blk (xo : Vec Ideal S3x512 .f32) (r : Fin 3) (k : Fin 512) : dscwNext (F := Ideal) (grid0.coords t) (iblk m c 5 t) (iblk m c 6 t) (iblk m c 7 t) (iblk m c 8 t) (iblk m c 9 t) (iblk m c 10 t) (iblk m c 17 t) xo (ix2 r k)
    = xo (ix2 r k) + ∑ y : Fin 256, entry (m ((c : Thread nD τ).loc main_arg8)) (at_ (tile t) y) k * tap3 r (fun s => cv (m ((c : Thread nD τ).loc main_arg0)) (m ((c : Thread nD τ).loc main_arg2)) (m ((c : Thread nD τ).loc main_arg3)) s k * xv (m ((c : Thread nD τ).loc main_arg0)) (m ((c : Thread nD τ).loc main_arg2)) (m ((c : Thread nD τ).loc main_arg3)) s k) (at_ (tile t) y) :=
  Pay.dscwNext_at (coord t) xo (g := entry (m ((c : Thread nD τ).loc main_arg8))) (f := fun s k => cv (m ((c : Thread nD τ).loc main_arg0)) (m ((c : Thread nD τ).loc main_arg2)) (m ((c : Thread nD τ).loc main_arg3)) s k * xv (m ((c : Thread nD τ).loc main_arg0)) (m ((c : Thread nD τ).loc main_arg2)) (m ((c : Thread nD τ).loc main_arg3)) s k) (iblk17_at m c t)
    (fun y k => congrArg₂ (fun a b : EReal => a * b) (iblk5_at m c t y k) (iblk8_at m c t y k))
    (fun s h k => congrArg₂ (fun a b : EReal => a * b) (halo6_15 m c t s h k) (halo9_15 m c t s h k))
    (fun s h k => congrArg₂ (fun a b : EReal => a * b) (halo7_0 m c t s h k) (halo10_0 m c t s h k)) r k

end Cert.MixInIdeal.Val

end
-- ==== Proof.MixInBody.lean ====
module

public import proofs.«01_k».proof.Proof.Gen.MixInIdeal.Frame.Runs
public import proofs.«01_k».proof.Proof.MixInBlocks
public import Idealize.ShloMosaic.Lib.Claim

/-! # One grid point of the gradient of the mixer's inputs

At each of the 64 grid points the body reads its 29 blocks, writes two blocks of results and adds to four running sums. Here is what
it leaves in each of the six buffers, as a function of the blocks, and the proof that running it leaves exactly that: once at the
first point, where the sums are started, and once at the later ones, where they are continued. Nothing depends on how floats are
read. -/

@[expose] public section

set_option maxRecDepth 16384

noncomputable section

namespace Cert.MixInIdeal.Body

open Cert.MixInIdeal Cert.MixInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Reading the whole of a buffer that has been stored into in pieces. -/
theorem readCov_whole (v : View sig .tc .vmem S256x7680 .bf16) (L : List (View.Piece (Elt F) S256x7680 .bf16)) :
    v.readCov L (Rect.unit ![0, 0] ![256, 7680] inb_S256x7680_S256x7680_0_0).toLoadRect = View.canon L :=
  (View.readCov_eq_canon' v L _).trans (View.ld_unit_lit' (Val := Elt F) inb_S256x7680_S256x7680_0_0 (View.canon L) (by decide))

/-- The grid point starts the sums: which of the body's conditions hold then, -/
abbrev Starts (i : grid0.Coords) : Prop :=
  cond0_0 i ∧ ¬cond0_1 i ∧ cond0_2 i ∧ ¬cond0_3 i ∧ cond0_4 i ∧ ¬cond0_5 i ∧ cond0_6 i ∧ ¬cond0_7 i ∧ cond0_8 i ∧ ¬cond0_9 i ∧
    cond0_10 i ∧ ¬cond0_11 i ∧ cond0_12 i ∧ ¬cond0_13 i ∧ cond0_14 i ∧ ¬cond0_15 i ∧ cond0_16 i ∧ ¬cond0_17 i

/-- or it continues them. -/
abbrev Continues (i : grid0.Coords) : Prop :=
  ¬cond0_0 i ∧ cond0_1 i ∧ ¬cond0_2 i ∧ cond0_3 i ∧ ¬cond0_4 i ∧ cond0_5 i ∧ ¬cond0_6 i ∧ cond0_7 i ∧ ¬cond0_8 i ∧ cond0_9 i ∧
    ¬cond0_10 i ∧ cond0_11 i ∧ ¬cond0_12 i ∧ cond0_13 i ∧ ¬cond0_14 i ∧ cond0_15 i ∧ ¬cond0_16 i ∧ cond0_17 i

/-- The first point starts the sums, -/
theorem starts : ∀ t : Fin cfg0.N, t.val = 0 → Starts (grid0.coords t) :=
  (by decide +kernel : ∀ t : Fin grid0.N, t.val = 0 → Starts (grid0.coords t))

/-- and every later one continues them. -/
theorem continues : ∀ t : Fin cfg0.N, t.val ≠ 0 → Continues (grid0.coords t) :=
  (by decide +kernel : ∀ t : Fin grid0.N, t.val ≠ 0 → Continues (grid0.coords t))

-- the body is some three hundred operations long: the steps through it add up
set_option maxHeartbeats 4000000 in
/-- **The first point.** From the blocks and any contents of the six results, the body ends with the blocks as they were and the
results as above. -/
theorem run_first (c : Dev nD) (i : grid0.Coords)
    (arg1 arg2 : Memref sig .tc .vmem S256x1024 .f32) (arg3 : Memref sig .tc .vmem S256x1024 .bf16) (arg4 arg5 : Memref sig .tc
    .vmem S16x1024 .bf16) (arg6 : Memref sig .tc .vmem S256x512 .bf16) (arg7 arg8 : Memref sig .tc .vmem S16x512 .bf16) (arg9 :
    Memref sig .tc .vmem S256x512 .bf16) (arg10 arg11 : Memref sig .tc .vmem S16x512 .bf16) (arg12 : Memref sig .tc .vmem S256x1024
    .f32) (arg13 arg14 : Memref sig .tc .vmem S8x1024 .f32) (arg15 : Memref sig .tc .vmem S256x1024 .f32) (arg16 arg17 : Memref sig
    .tc .vmem S8x1024 .f32) (arg18 : Memref sig .tc .vmem S256x512 .f32) (arg19 arg20 : Memref sig .tc .vmem S8x512 .f32) (arg21 :
    Memref sig .tc .vmem S256x1024 .bf16) (arg22 arg23 arg24 : Memref sig .tc .vmem S256x512 .bf16) (arg25 : Memref sig .tc .vmem
    S256x3072 .bf16) (arg26 : Memref sig .tc .vmem S1x1024 .f32) (arg27 : Memref sig .tc .vmem S4x1024 .f32) (arg28 : Memref sig .tc
    .vmem S3x512 .f32) (arg29 : Memref sig .tc .vmem S7680x1024 .bf16) (arg30 : Memref sig .tc .vmem S256x1024 .f32) (arg31 : Memref
    sig .tc .vmem S256x7680 .bf16) (arg32 : Memref sig .tc .vmem S1x1024 .f32) (arg33 : Memref sig .tc .vmem S4x1024 .f32) (arg34 :
    Memref sig .tc .vmem S1x1024 .f32) (arg35 : Memref sig .tc .vmem S3x512 .f32)
    (w1 : arg1.IsWhole) (w2 : arg2.IsWhole) (w3 : arg3.IsWhole) (w4 : arg4.IsWhole) (w5 : arg5.IsWhole) (w6 : arg6.IsWhole) (w7 :
    arg7.IsWhole) (w8 : arg8.IsWhole) (w9 : arg9.IsWhole) (w10 : arg10.IsWhole) (w11 : arg11.IsWhole) (w12 : arg12.IsWhole) (w13 :
    arg13.IsWhole) (w14 : arg14.IsWhole) (w15 : arg15.IsWhole) (w16 : arg16.IsWhole) (w17 : arg17.IsWhole) (w18 : arg18.IsWhole)
    (w19 : arg19.IsWhole) (w20 : arg20.IsWhole) (w21 : arg21.IsWhole) (w22 : arg22.IsWhole) (w23 : arg23.IsWhole) (w24 :
    arg24.IsWhole) (w25 : arg25.IsWhole) (w26 : arg26.IsWhole) (w27 : arg27.IsWhole) (w28 : arg28.IsWhole) (w29 : arg29.IsWhole)
    (w30 : arg30.IsWhole) (w31 : arg31.IsWhole) (w32 : arg32.IsWhole) (w33 : arg33.IsWhole) (w34 : arg34.IsWhole) (w35 :
    arg35.IsWhole)
    (h : Starts i)
    (x0 x1 : Vec F S256x1024 .f32) (x2 : Vec F S256x1024 .bf16) (x3 x4 : Vec F S16x1024 .bf16) (x5 : Vec F S256x512 .bf16) (x6 x7 :
    Vec F S16x512 .bf16) (x8 : Vec F S256x512 .bf16) (x9 x10 : Vec F S16x512 .bf16) (x11 : Vec F S256x1024 .f32) (x12 x13 : Vec F
    S8x1024 .f32) (x14 : Vec F S256x1024 .f32) (x15 x16 : Vec F S8x1024 .f32) (x17 : Vec F S256x512 .f32) (x18 x19 : Vec F S8x512
    .f32) (x20 : Vec F S256x1024 .bf16) (x21 x22 x23 : Vec F S256x512 .bf16) (x24 : Vec F S256x3072 .bf16) (x25 : Vec F S1x1024
    .f32) (x26 : Vec F S4x1024 .f32) (x27 : Vec F S3x512 .f32) (x28 : Vec F S7680x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare
      x11 ∗ owns (c : Thread nD τ) arg13 fullShare x12 ∗ owns (c : Thread nD τ) arg14 fullShare x13 ∗ owns (c : Thread nD τ) arg15
      fullShare x14 ∗ owns (c : Thread nD τ) arg16 fullShare x15 ∗ owns (c : Thread nD τ) arg17 fullShare x16 ∗ owns (c : Thread nD τ)
      arg18 fullShare x17 ∗ owns (c : Thread nD τ) arg19 fullShare x18 ∗ owns (c : Thread nD τ) arg20 fullShare x19 ∗ owns (c : Thread
      nD τ) arg21 fullShare x20 ∗ owns (c : Thread nD τ) arg22 fullShare x21 ∗ owns (c : Thread nD τ) arg23 fullShare x22 ∗ owns (c :
      Thread nD τ) arg24 fullShare x23 ∗ owns (c : Thread nD τ) arg25 fullShare x24 ∗ owns (c : Thread nD τ) arg26 fullShare x25 ∗
      owns (c : Thread nD τ) arg27 fullShare x26 ∗ owns (c : Thread nD τ) arg28 fullShare x27 ∗ owns (c : Thread nD τ) arg29 fullShare
      x28 ∗ (∃ d, owns (c : Thread nD τ) arg30 fullShare d) ∗ (∃ d, owns (c : Thread nD τ) arg31 fullShare d) ∗ (∃ d, owns (c : Thread
      nD τ) arg32 fullShare d) ∗ (∃ d, owns (c : Thread nD τ) arg33 fullShare d) ∗ (∃ d, owns (c : Thread nD τ) arg34 fullShare d) ∗
      (∃ d, owns (c : Thread nD τ) arg35 fullShare d)
      ∗ (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare
        x11 ∗ owns (c : Thread nD τ) arg13 fullShare x12 ∗ owns (c : Thread nD τ) arg14 fullShare x13 ∗ owns (c : Thread nD τ) arg15
        fullShare x14 ∗ owns (c : Thread nD τ) arg16 fullShare x15 ∗ owns (c : Thread nD τ) arg17 fullShare x16 ∗ owns (c : Thread nD τ)
        arg18 fullShare x17 ∗ owns (c : Thread nD τ) arg19 fullShare x18 ∗ owns (c : Thread nD τ) arg20 fullShare x19 ∗ owns (c : Thread
        nD τ) arg21 fullShare x20 ∗ owns (c : Thread nD τ) arg22 fullShare x21 ∗ owns (c : Thread nD τ) arg23 fullShare x22 ∗ owns (c :
        Thread nD τ) arg24 fullShare x23 ∗ owns (c : Thread nD τ) arg25 fullShare x24 ∗ owns (c : Thread nD τ) arg26 fullShare x25 ∗
        owns (c : Thread nD τ) arg27 fullShare x26 ∗ owns (c : Thread nD τ) arg28 fullShare x27 ∗ owns (c : Thread nD τ) arg29 fullShare
        x28 ∗ owns (c : Thread nD τ) arg30 fullShare (dxBlk (dzBlk i x5 x8 x11 x12 x13 x14 x15 x16 x17 x18 x19 x20 x21 x22 x23 x24 x26
        x27) x0 x1 x25 x28) ∗ owns (c : Thread nD τ) arg31 fullShare (dzBlk i x5 x8 x11 x12 x13 x14 x15 x16 x17 x18 x19 x20 x21 x22 x23
        x24 x26 x27) ∗ owns (c : Thread nD τ) arg32 fullShare (dpgTerm (dzBlk i x5 x8 x11 x12 x13 x14 x15 x16 x17 x18 x19 x20 x21 x22
        x23 x24 x26 x27) x1 x28) ∗ owns (c : Thread nD τ) arg33 fullShare (dlcwFirst i x2 x3 x4 x11 x14) ∗ owns (c : Thread nD τ) arg34
        fullShare (k0_pay21 (k0_pay6 x11 x14)) ∗ owns (c : Thread nD τ) arg35 fullShare (dscwFirst i x5 x6 x7 x8 x9 x10 x17)) -∗ K ⟨⟩))
    ⊢ wp frame (wpE (defs₀ (F := F)) Variants.none c none) E
      (cc0_mix_in_bwd i arg1 w1 arg2 w2 arg3 w3 arg4 w4 arg5 w5 arg6 w6 arg7 w7 arg8 w8 arg9 w9 arg10 w10 arg11 w11 arg12 w12 arg13 w13 arg14 w14 arg15
        w15 arg16 w16 arg17 w17 arg18 w18 arg19 w19 arg20 w20 arg21 w21 arg22 w22 arg23 w23 arg24 w24 arg25 w25 arg26 w26 arg27 w27
        arg28 w28 arg29 w29 arg30 w30 arg31 w31 arg32 w32 arg33 w33 arg34 w34 arg35 w35) K := by
  obtain ⟨h0, h1, h2, h3, h4, h5, h6, h7, h8, h9, h10, h11, h12, h13, h14, h15, h16, h17⟩ := h
  simp only [cc0_mix_in_bwd_eq_skeleton]; unfold cc0_mix_in_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, ⟨%f16, %e16, H16⟩, ⟨%f17, %e17, H17⟩, ⟨%f18, %e18, H18⟩, ⟨%f19, %e19, H19⟩, ⟨%f20, %e20, H20⟩, ⟨%f21, %e21,
    H21⟩, ⟨%f22, %e22, H22⟩, ⟨%f23, %e23, H23⟩, ⟨%f24, %e24, H24⟩, ⟨%f25, %e25, H25⟩, ⟨%f26, %e26, H26⟩, ⟨%f27, %e27, H27⟩, ⟨%f28,
    %e28, H28⟩, ⟨%d29, %f29, -, H29⟩, ⟨%d30, %f30, -, H30⟩, ⟨%d31, %f31, -, H31⟩, ⟨%d32, %f32, -, H32⟩, ⟨%d33, %f33, -, H33⟩, ⟨%d34,
    %f34, -, H34⟩, Hk⟩
  obtain rfl := w1.eq_unread e0
  obtain rfl := w2.eq_unread e1
  obtain rfl := w3.eq_unread e2
  obtain rfl := w4.eq_unread e3
  obtain rfl := w5.eq_unread e4
  obtain rfl := w6.eq_unread e5
  obtain rfl := w7.eq_unread e6
  obtain rfl := w8.eq_unread e7
  obtain rfl := w9.eq_unread e8
  obtain rfl := w10.eq_unread e9
  obtain rfl := w11.eq_unread e10
  obtain rfl := w12.eq_unread e11
  obtain rfl := w13.eq_unread e12
  obtain rfl := w14.eq_unread e13
  obtain rfl := w15.eq_unread e14
  obtain rfl := w16.eq_unread e15
  obtain rfl := w17.eq_unread e16
  obtain rfl := w18.eq_unread e17
  obtain rfl := w19.eq_unread e18
  obtain rfl := w20.eq_unread e19
  obtain rfl := w21.eq_unread e20
  obtain rfl := w22.eq_unread e21
  obtain rfl := w23.eq_unread e22
  obtain rfl := w24.eq_unread e23
  obtain rfl := w25.eq_unread e24
  obtain rfl := w26.eq_unread e25
  obtain rfl := w27.eq_unread e26
  obtain rfl := w28.eq_unread e27
  obtain rfl := w29.eq_unread e28
  sl_exec (disch := first | sl_exact h0 | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H0]; · iexists _; isplitr; (· ipureintro; exact w1.read_unread _); iexact H0
  isplitl [H1]; · iexists _; isplitr; (· ipureintro; exact w2.read_unread _); iexact H1
  isplitl [H2]; · iexists _; isplitr; (· ipureintro; exact w3.read_unread _); iexact H2
  isplitl [H3]; · iexists _; isplitr; (· ipureintro; exact w4.read_unread _); iexact H3
  isplitl [H4]; · iexists _; isplitr; (· ipureintro; exact w5.read_unread _); iexact H4
  isplitl [H5]; · iexists _; isplitr; (· ipureintro; exact w6.read_unread _); iexact H5
  isplitl [H6]; · iexists _; isplitr; (· ipureintro; exact w7.read_unread _); iexact H6
  isplitl [H7]; · iexists _; isplitr; (· ipureintro; exact w8.read_unread _); iexact H7
  isplitl [H8]; · iexists _; isplitr; (· ipureintro; exact w9.read_unread _); iexact H8
  isplitl [H9]; · iexists _; isplitr; (· ipureintro; exact w10.read_unread _); iexact H9
  isplitl [H10]; · iexists _; isplitr; (· ipureintro; exact w11.read_unread _); iexact H10
  isplitl [H11]; · iexists _; isplitr; (· ipureintro; exact w12.read_unread _); iexact H11
  isplitl [H12]; · iexists _; isplitr; (· ipureintro; exact w13.read_unread _); iexact H12
  isplitl [H13]; · iexists _; isplitr; (· ipureintro; exact w14.read_unread _); iexact H13
  isplitl [H14]; · iexists _; isplitr; (· ipureintro; exact w15.read_unread _); iexact H14
  isplitl [H15]; · iexists _; isplitr; (· ipureintro; exact w16.read_unread _); iexact H15
  isplitl [H16]; · iexists _; isplitr; (· ipureintro; exact w17.read_unread _); iexact H16
  isplitl [H17]; · iexists _; isplitr; (· ipureintro; exact w18.read_unread _); iexact H17
  isplitl [H18]; · iexists _; isplitr; (· ipureintro; exact w19.read_unread _); iexact H18
  isplitl [H19]; · iexists _; isplitr; (· ipureintro; exact w20.read_unread _); iexact H19
  isplitl [H20]; · iexists _; isplitr; (· ipureintro; exact w21.read_unread _); iexact H20
  isplitl [H21]; · iexists _; isplitr; (· ipureintro; exact w22.read_unread _); iexact H21
  isplitl [H22]; · iexists _; isplitr; (· ipureintro; exact w23.read_unread _); iexact H22
  isplitl [H23]; · iexists _; isplitr; (· ipureintro; exact w24.read_unread _); iexact H23
  isplitl [H24]; · iexists _; isplitr; (· ipureintro; exact w25.read_unread _); iexact H24
  isplitl [H25]; · iexists _; isplitr; (· ipureintro; exact w26.read_unread _); iexact H25
  isplitl [H26]; · iexists _; isplitr; (· ipureintro; exact w27.read_unread _); iexact H26
  isplitl [H27]; · iexists _; isplitr; (· ipureintro; exact w28.read_unread _); iexact H27
  isplitl [H28]; · iexists _; isplitr; (· ipureintro; exact w29.read_unread _); iexact H28
  isplitl [H29]
  · iexists _; isplitr
    swap; · iexact H29
    ipureintro
    refine Eq.trans (View.read_writes_eq_canon _ _ _ ?_) ?_
    · exact View.cover_of_tiledL _ S256x1024.size (by sl_kernel_rfl)
    frame_out [readCov_whole] <;> rfl
  isplitl [H30]
  · iexists _; isplitr
    swap; · iexact H30
    ipureintro
    refine Eq.trans (View.read_writes_eq_canon _ _ _ ?_) ?_
    · exact View.cover_of_tiledBy _ ![256, 512] (by sl_kernel_rfl)
    frame_out [readCov_whole] <;> rfl
  isplitl [H31]
  · iexists _; isplitr
    swap; · iexact H31
    ipureintro
    refine Eq.trans (View.read_writes_eq_canon _ _ _ ?_) ?_
    · exact View.cover_of_tiledL _ S1x1024.size (by sl_kernel_rfl)
    frame_out [readCov_whole] <;> rfl
  isplitl [H32]
  · iexists _; isplitr
    swap; · iexact H32
    ipureintro
    refine Eq.trans (View.read_writes_eq_canon _ _ _ ?_) ?_
    · exact View.cover_of_tiledL _ S1x1024.size (by sl_kernel_rfl)
    frame_out [readCov_whole] <;> rfl
  isplitl [H33]
  · iexists _; isplitr
    swap; · iexact H33
    ipureintro
    refine Eq.trans (View.read_writes_eq_canon _ _ _ ?_) ?_
    · exact View.cover_of_tiledL _ S1x1024.size (by sl_kernel_rfl)
    frame_out [readCov_whole] <;> rfl
  iexists _; isplitr
  swap; · iexact H34
  ipureintro
  refine Eq.trans (View.read_writes_eq_canon _ _ _ ?_) ?_
  · exact View.cover_of_tiledL _ S1x512.size (by sl_kernel_rfl)
  frame_out [readCov_whole] <;> rfl

-- the body is some three hundred operations long: the steps through it add up
set_option maxHeartbeats 4000000 in
/-- **A later point.** The same, with the four sums continued from what they hold. -/
theorem run_next (c : Dev nD) (i : grid0.Coords)
    (arg1 arg2 : Memref sig .tc .vmem S256x1024 .f32) (arg3 : Memref sig .tc .vmem S256x1024 .bf16) (arg4 arg5 : Memref sig .tc
    .vmem S16x1024 .bf16) (arg6 : Memref sig .tc .vmem S256x512 .bf16) (arg7 arg8 : Memref sig .tc .vmem S16x512 .bf16) (arg9 :
    Memref sig .tc .vmem S256x512 .bf16) (arg10 arg11 : Memref sig .tc .vmem S16x512 .bf16) (arg12 : Memref sig .tc .vmem S256x1024
    .f32) (arg13 arg14 : Memref sig .tc .vmem S8x1024 .f32) (arg15 : Memref sig .tc .vmem S256x1024 .f32) (arg16 arg17 : Memref sig
    .tc .vmem S8x1024 .f32) (arg18 : Memref sig .tc .vmem S256x512 .f32) (arg19 arg20 : Memref sig .tc .vmem S8x512 .f32) (arg21 :
    Memref sig .tc .vmem S256x1024 .bf16) (arg22 arg23 arg24 : Memref sig .tc .vmem S256x512 .bf16) (arg25 : Memref sig .tc .vmem
    S256x3072 .bf16) (arg26 : Memref sig .tc .vmem S1x1024 .f32) (arg27 : Memref sig .tc .vmem S4x1024 .f32) (arg28 : Memref sig .tc
    .vmem S3x512 .f32) (arg29 : Memref sig .tc .vmem S7680x1024 .bf16) (arg30 : Memref sig .tc .vmem S256x1024 .f32) (arg31 : Memref
    sig .tc .vmem S256x7680 .bf16) (arg32 : Memref sig .tc .vmem S1x1024 .f32) (arg33 : Memref sig .tc .vmem S4x1024 .f32) (arg34 :
    Memref sig .tc .vmem S1x1024 .f32) (arg35 : Memref sig .tc .vmem S3x512 .f32)
    (w1 : arg1.IsWhole) (w2 : arg2.IsWhole) (w3 : arg3.IsWhole) (w4 : arg4.IsWhole) (w5 : arg5.IsWhole) (w6 : arg6.IsWhole) (w7 :
    arg7.IsWhole) (w8 : arg8.IsWhole) (w9 : arg9.IsWhole) (w10 : arg10.IsWhole) (w11 : arg11.IsWhole) (w12 : arg12.IsWhole) (w13 :
    arg13.IsWhole) (w14 : arg14.IsWhole) (w15 : arg15.IsWhole) (w16 : arg16.IsWhole) (w17 : arg17.IsWhole) (w18 : arg18.IsWhole)
    (w19 : arg19.IsWhole) (w20 : arg20.IsWhole) (w21 : arg21.IsWhole) (w22 : arg22.IsWhole) (w23 : arg23.IsWhole) (w24 :
    arg24.IsWhole) (w25 : arg25.IsWhole) (w26 : arg26.IsWhole) (w27 : arg27.IsWhole) (w28 : arg28.IsWhole) (w29 : arg29.IsWhole)
    (w30 : arg30.IsWhole) (w31 : arg31.IsWhole) (w32 : arg32.IsWhole) (w33 : arg33.IsWhole) (w34 : arg34.IsWhole) (w35 :
    arg35.IsWhole)
    (h : Continues i)
    (x0 x1 : Vec F S256x1024 .f32) (x2 : Vec F S256x1024 .bf16) (x3 x4 : Vec F S16x1024 .bf16) (x5 : Vec F S256x512 .bf16) (x6 x7 :
    Vec F S16x512 .bf16) (x8 : Vec F S256x512 .bf16) (x9 x10 : Vec F S16x512 .bf16) (x11 : Vec F S256x1024 .f32) (x12 x13 : Vec F
    S8x1024 .f32) (x14 : Vec F S256x1024 .f32) (x15 x16 : Vec F S8x1024 .f32) (x17 : Vec F S256x512 .f32) (x18 x19 : Vec F S8x512
    .f32) (x20 : Vec F S256x1024 .bf16) (x21 x22 x23 : Vec F S256x512 .bf16) (x24 : Vec F S256x3072 .bf16) (x25 : Vec F S1x1024
    .f32) (x26 : Vec F S4x1024 .f32) (x27 : Vec F S3x512 .f32) (x28 : Vec F S7680x1024 .bf16) (xo31 : Vec F S1x1024 .f32) (xo32 :
    Vec F S4x1024 .f32) (xo33 : Vec F S1x1024 .f32) (xo34 : Vec F S3x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare
      x11 ∗ owns (c : Thread nD τ) arg13 fullShare x12 ∗ owns (c : Thread nD τ) arg14 fullShare x13 ∗ owns (c : Thread nD τ) arg15
      fullShare x14 ∗ owns (c : Thread nD τ) arg16 fullShare x15 ∗ owns (c : Thread nD τ) arg17 fullShare x16 ∗ owns (c : Thread nD τ)
      arg18 fullShare x17 ∗ owns (c : Thread nD τ) arg19 fullShare x18 ∗ owns (c : Thread nD τ) arg20 fullShare x19 ∗ owns (c : Thread
      nD τ) arg21 fullShare x20 ∗ owns (c : Thread nD τ) arg22 fullShare x21 ∗ owns (c : Thread nD τ) arg23 fullShare x22 ∗ owns (c :
      Thread nD τ) arg24 fullShare x23 ∗ owns (c : Thread nD τ) arg25 fullShare x24 ∗ owns (c : Thread nD τ) arg26 fullShare x25 ∗
      owns (c : Thread nD τ) arg27 fullShare x26 ∗ owns (c : Thread nD τ) arg28 fullShare x27 ∗ owns (c : Thread nD τ) arg29 fullShare
      x28 ∗ (∃ d, owns (c : Thread nD τ) arg30 fullShare d) ∗ (∃ d, owns (c : Thread nD τ) arg31 fullShare d) ∗ owns (c : Thread nD τ)
      arg32 fullShare xo31 ∗ owns (c : Thread nD τ) arg33 fullShare xo32 ∗ owns (c : Thread nD τ) arg34 fullShare xo33 ∗ owns (c :
      Thread nD τ) arg35 fullShare xo34
      ∗ (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare
        x11 ∗ owns (c : Thread nD τ) arg13 fullShare x12 ∗ owns (c : Thread nD τ) arg14 fullShare x13 ∗ owns (c : Thread nD τ) arg15
        fullShare x14 ∗ owns (c : Thread nD τ) arg16 fullShare x15 ∗ owns (c : Thread nD τ) arg17 fullShare x16 ∗ owns (c : Thread nD τ)
        arg18 fullShare x17 ∗ owns (c : Thread nD τ) arg19 fullShare x18 ∗ owns (c : Thread nD τ) arg20 fullShare x19 ∗ owns (c : Thread
        nD τ) arg21 fullShare x20 ∗ owns (c : Thread nD τ) arg22 fullShare x21 ∗ owns (c : Thread nD τ) arg23 fullShare x22 ∗ owns (c :
        Thread nD τ) arg24 fullShare x23 ∗ owns (c : Thread nD τ) arg25 fullShare x24 ∗ owns (c : Thread nD τ) arg26 fullShare x25 ∗
        owns (c : Thread nD τ) arg27 fullShare x26 ∗ owns (c : Thread nD τ) arg28 fullShare x27 ∗ owns (c : Thread nD τ) arg29 fullShare
        x28 ∗ owns (c : Thread nD τ) arg30 fullShare (dxBlk (dzBlk i x5 x8 x11 x12 x13 x14 x15 x16 x17 x18 x19 x20 x21 x22 x23 x24 x26
        x27) x0 x1 x25 x28) ∗ owns (c : Thread nD τ) arg31 fullShare (dzBlk i x5 x8 x11 x12 x13 x14 x15 x16 x17 x18 x19 x20 x21 x22 x23
        x24 x26 x27) ∗ owns (c : Thread nD τ) arg32 fullShare (dpgNext (dzBlk i x5 x8 x11 x12 x13 x14 x15 x16 x17 x18 x19 x20 x21 x22
        x23 x24 x26 x27) x1 x28 xo31) ∗ owns (c : Thread nD τ) arg33 fullShare (dlcwNext i x2 x3 x4 x11 x14 xo32) ∗ owns (c : Thread nD
        τ) arg34 fullShare (k0_pay22 (k0_pay6 x11 x14) xo33) ∗ owns (c : Thread nD τ) arg35 fullShare (dscwNext i x5 x6 x7 x8 x9 x10 x17
        xo34)) -∗ K ⟨⟩))
    ⊢ wp frame (wpE (defs₀ (F := F)) Variants.none c none) E
      (cc0_mix_in_bwd i arg1 w1 arg2 w2 arg3 w3 arg4 w4 arg5 w5 arg6 w6 arg7 w7 arg8 w8 arg9 w9 arg10 w10 arg11 w11 arg12 w12 arg13 w13 arg14 w14 arg15
        w15 arg16 w16 arg17 w17 arg18 w18 arg19 w19 arg20 w20 arg21 w21 arg22 w22 arg23 w23 arg24 w24 arg25 w25 arg26 w26 arg27 w27
        arg28 w28 arg29 w29 arg30 w30 arg31 w31 arg32 w32 arg33 w33 arg34 w34 arg35 w35) K := by
  obtain ⟨h0, h1, h2, h3, h4, h5, h6, h7, h8, h9, h10, h11, h12, h13, h14, h15, h16, h17⟩ := h
  simp only [cc0_mix_in_bwd_eq_skeleton]; unfold cc0_mix_in_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, ⟨%f16, %e16, H16⟩, ⟨%f17, %e17, H17⟩, ⟨%f18, %e18, H18⟩, ⟨%f19, %e19, H19⟩, ⟨%f20, %e20, H20⟩, ⟨%f21, %e21,
    H21⟩, ⟨%f22, %e22, H22⟩, ⟨%f23, %e23, H23⟩, ⟨%f24, %e24, H24⟩, ⟨%f25, %e25, H25⟩, ⟨%f26, %e26, H26⟩, ⟨%f27, %e27, H27⟩, ⟨%f28,
    %e28, H28⟩, ⟨%d29, %f29, -, H29⟩, ⟨%d30, %f30, -, H30⟩, ⟨%f31, %e31, H31⟩, ⟨%f32, %e32, H32⟩, ⟨%f33, %e33, H33⟩, ⟨%f34, %e34,
    H34⟩, Hk⟩
  obtain rfl := w1.eq_unread e0
  obtain rfl := w2.eq_unread e1
  obtain rfl := w3.eq_unread e2
  obtain rfl := w4.eq_unread e3
  obtain rfl := w5.eq_unread e4
  obtain rfl := w6.eq_unread e5
  obtain rfl := w7.eq_unread e6
  obtain rfl := w8.eq_unread e7
  obtain rfl := w9.eq_unread e8
  obtain rfl := w10.eq_unread e9
  obtain rfl := w11.eq_unread e10
  obtain rfl := w12.eq_unread e11
  obtain rfl := w13.eq_unread e12
  obtain rfl := w14.eq_unread e13
  obtain rfl := w15.eq_unread e14
  obtain rfl := w16.eq_unread e15
  obtain rfl := w17.eq_unread e16
  obtain rfl := w18.eq_unread e17
  obtain rfl := w19.eq_unread e18
  obtain rfl := w20.eq_unread e19
  obtain rfl := w21.eq_unread e20
  obtain rfl := w22.eq_unread e21
  obtain rfl := w23.eq_unread e22
  obtain rfl := w24.eq_unread e23
  obtain rfl := w25.eq_unread e24
  obtain rfl := w26.eq_unread e25
  obtain rfl := w27.eq_unread e26
  obtain rfl := w28.eq_unread e27
  obtain rfl := w29.eq_unread e28
  obtain rfl := w32.eq_unread e31
  obtain rfl := w33.eq_unread e32
  obtain rfl := w34.eq_unread e33
  obtain rfl := w35.eq_unread e34
  sl_exec (disch := first | sl_exact h0 | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17)
  sl_step
  iapply Hk
  isplitl [H0]; · iexists _; isplitr; (· ipureintro; exact w1.read_unread _); iexact H0
  isplitl [H1]; · iexists _; isplitr; (· ipureintro; exact w2.read_unread _); iexact H1
  isplitl [H2]; · iexists _; isplitr; (· ipureintro; exact w3.read_unread _); iexact H2
  isplitl [H3]; · iexists _; isplitr; (· ipureintro; exact w4.read_unread _); iexact H3
  isplitl [H4]; · iexists _; isplitr; (· ipureintro; exact w5.read_unread _); iexact H4
  isplitl [H5]; · iexists _; isplitr; (· ipureintro; exact w6.read_unread _); iexact H5
  isplitl [H6]; · iexists _; isplitr; (· ipureintro; exact w7.read_unread _); iexact H6
  isplitl [H7]; · iexists _; isplitr; (· ipureintro; exact w8.read_unread _); iexact H7
  isplitl [H8]; · iexists _; isplitr; (· ipureintro; exact w9.read_unread _); iexact H8
  isplitl [H9]; · iexists _; isplitr; (· ipureintro; exact w10.read_unread _); iexact H9
  isplitl [H10]; · iexists _; isplitr; (· ipureintro; exact w11.read_unread _); iexact H10
  isplitl [H11]; · iexists _; isplitr; (· ipureintro; exact w12.read_unread _); iexact H11
  isplitl [H12]; · iexists _; isplitr; (· ipureintro; exact w13.read_unread _); iexact H12
  isplitl [H13]; · iexists _; isplitr; (· ipureintro; exact w14.read_unread _); iexact H13
  isplitl [H14]; · iexists _; isplitr; (· ipureintro; exact w15.read_unread _); iexact H14
  isplitl [H15]; · iexists _; isplitr; (· ipureintro; exact w16.read_unread _); iexact H15
  isplitl [H16]; · iexists _; isplitr; (· ipureintro; exact w17.read_unread _); iexact H16
  isplitl [H17]; · iexists _; isplitr; (· ipureintro; exact w18.read_unread _); iexact H17
  isplitl [H18]; · iexists _; isplitr; (· ipureintro; exact w19.read_unread _); iexact H18
  isplitl [H19]; · iexists _; isplitr; (· ipureintro; exact w20.read_unread _); iexact H19
  isplitl [H20]; · iexists _; isplitr; (· ipureintro; exact w21.read_unread _); iexact H20
  isplitl [H21]; · iexists _; isplitr; (· ipureintro; exact w22.read_unread _); iexact H21
  isplitl [H22]; · iexists _; isplitr; (· ipureintro; exact w23.read_unread _); iexact H22
  isplitl [H23]; · iexists _; isplitr; (· ipureintro; exact w24.read_unread _); iexact H23
  isplitl [H24]; · iexists _; isplitr; (· ipureintro; exact w25.read_unread _); iexact H24
  isplitl [H25]; · iexists _; isplitr; (· ipureintro; exact w26.read_unread _); iexact H25
  isplitl [H26]; · iexists _; isplitr; (· ipureintro; exact w27.read_unread _); iexact H26
  isplitl [H27]; · iexists _; isplitr; (· ipureintro; exact w28.read_unread _); iexact H27
  isplitl [H28]; · iexists _; isplitr; (· ipureintro; exact w29.read_unread _); iexact H28
  isplitl [H29]
  · iexists _; isplitr
    swap; · iexact H29
    ipureintro
    refine Eq.trans (View.read_writes_eq_canon _ _ _ ?_) ?_
    · exact View.cover_of_tiledL _ S256x1024.size (by sl_kernel_rfl)
    frame_out [readCov_whole] <;> rfl
  isplitl [H30]
  · iexists _; isplitr
    swap; · iexact H30
    ipureintro
    refine Eq.trans (View.read_writes_eq_canon _ _ _ ?_) ?_
    · exact View.cover_of_tiledBy _ ![256, 512] (by sl_kernel_rfl)
    frame_out [readCov_whole] <;> rfl
  isplitl [H31]
  · iexists _; isplitr
    swap; · iexact H31
    ipureintro
    refine Eq.trans (View.read_writes_eq_canon _ _ _ ?_) ?_
    · exact View.cover_of_tiledL _ S1x1024.size (by sl_kernel_rfl)
    frame_out [readCov_whole] <;> rfl
  isplitl [H32]
  · iexists _; isplitr
    swap; · iexact H32
    ipureintro
    refine Eq.trans (View.read_writes_eq_canon _ _ _ ?_) ?_
    · exact View.cover_of_tiledL _ S1x1024.size (by sl_kernel_rfl)
    frame_out [readCov_whole] <;> rfl
  isplitl [H33]
  · iexists _; isplitr
    swap; · iexact H33
    ipureintro
    refine Eq.trans (View.read_writes_eq_canon _ _ _ ?_) ?_
    · exact View.cover_of_tiledL _ S1x1024.size (by sl_kernel_rfl)
    frame_out [readCov_whole] <;> rfl
  iexists _; isplitr
  swap; · iexact H34
  ipureintro
  refine Eq.trans (View.read_writes_eq_canon _ _ _ ?_) ?_
  · exact View.cover_of_tiledL _ S1x512.size (by sl_kernel_rfl)
  frame_out [readCov_whole] <;> rfl

end Cert.MixInIdeal.Body

end
-- ==== Proof.MixInFrame.lean ====
/- The input layer's backward call at every grid point: what each window's staging buffer holds there, the four
   running sums included, and from it the run of the whole program, its results and its unchanged arguments. -/
module

public import proofs.«01_k».proof.Proof.MixInBody
public import Idealize.ShloMosaic.Lib.Claim

@[expose] public section

set_option maxRecDepth 16384

noncomputable section

namespace Cert.MixInIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixInIdeal.Gen Cert.MixInIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The block of the joined gradient `dz` at point `t`. -/
def dzAt (c : Dev nD) (t : Fin cfg0.N) : Vec F S256x7680 .bf16 := dzBlk (grid0.coords t) (iblk m c 5 t) (iblk m c 8 t) (iblk m c
    11 t) (iblk m c 12 t) (iblk m c 13 t) (iblk m c 14 t) (iblk m c 15 t) (iblk m c 16 t) (iblk m c 17 t) (iblk m c 18 t) (iblk m
    c 19 t) (iblk m c 20 t) (iblk m c 21 t) (iblk m c 22 t) (iblk m c 23 t) (iblk m c 24 t) (iblk m c 26 t) (iblk m c 27 t)

/-- The block of the layer's input gradient at point `t`. -/
def dxAt (c : Dev nD) (t : Fin cfg0.N) : Vec F S256x1024 .f32 := dxBlk (dzAt m c t) (iblk m c 0 t) (iblk m c 1 t) (iblk m c 25 t) (iblk m c 28 t)

/-- The four running sums: of the norm weight's gradient, the first convolution's weight and bias, the second one's weight. -/
abbrev Sums (F : FTy → Type) := Vec F S1x1024 .f32 × Vec F S4x1024 .f32 × Vec F S1x1024 .f32 × Vec F S3x512 .f32

/-- Their first terms, from the blocks at point `t`. -/
def first (c : Dev nD) (t : Fin cfg0.N) : Sums F := (dpgTerm (dzAt m c t) (iblk m c 1 t) (iblk m c 28 t), dlcwFirst (grid0.coords
    t) (X0_2 m c t) (X0_3 m c t) (X0_4 m c t) (iblk m c 11 t) (iblk m c 14 t), k0_pay21 (k0_pay6 (iblk m c 11 t) (iblk m c 14 t)),
    dscwFirst (grid0.coords t) (iblk m c 5 t) (iblk m c 6 t) (iblk m c 7 t) (iblk m c 8 t) (iblk m c 9 t) (iblk m c 10 t) (iblk m
    c 17 t))

/-- The terms of point `t` added to the sums `p`. -/
def next (c : Dev nD) (t : Fin cfg0.N) (p : Sums F) : Sums F := (dpgNext (dzAt m c t) (iblk m c 1 t) (iblk m c 28 t) p.1, dlcwNext
    (grid0.coords t) (X0_2 m c t) (X0_3 m c t) (X0_4 m c t) (iblk m c 11 t) (iblk m c 14 t) p.2.1, k0_pay22 (k0_pay6 (iblk m c 11
    t) (iblk m c 14 t)) p.2.2.1, dscwNext (grid0.coords t) (iblk m c 5 t) (iblk m c 6 t) (iblk m c 7 t) (iblk m c 8 t) (iblk m c 9
    t) (iblk m c 10 t) (iblk m c 17 t) p.2.2.2)

/-- The sums after point `n`. -/
def sums (c : Dev nD) : (n : ℕ) → n < cfg0.N → Sums F
  | 0, h => first m c ⟨0, h⟩
  | n + 1, h => next m c ⟨n + 1, h⟩ (sums c n (Nat.lt_of_succ_lt h))

theorem sums_start (c : Dev nD) (t : Fin cfg0.N) (ht : t.val = 0) : sums m c t.val t.isLt = first m c t := by
  obtain ⟨n, hn⟩ := t
  obtain rfl : n = 0 := ht
  rfl

theorem sums_step (c : Dev nD) (t : Fin cfg0.N) (ht : t.val ≠ 0) :
    sums m c t.val t.isLt = next m c t (sums m c (t.val - 1) (Nat.lt_of_le_of_lt (Nat.sub_le _ _) t.isLt)) := by
  obtain ⟨n, hn⟩ := t
  cases n with
  | zero => exact absurd rfl ht
  | succ n => rfl

/-! ## The proof data -/

/-- What every window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => dxAt m c t
    | ⟨30, _⟩ => dzAt m c t
    | ⟨31, _⟩ => (sums m c t.val t.isLt).1
    | ⟨32, _⟩ => (sums m c t.val t.isLt).2.1
    | ⟨33, _⟩ => (sums m c t.val t.isLt).2.2.1
    | ⟨34, _⟩ => (sums m c t.val t.isLt).2.2.2
    | ⟨_ + 35, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = X0_2 m c t := by dsimp only [dats]
theorem after0_3 : (dats m 0 c).after 3 t = X0_3 m c t := by dsimp only [dats]
theorem after0_4 : (dats m 0 c).after 4 t = X0_4 m c t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = iblk m c 20 t := by dsimp only [dats]
theorem after0_21 : (dats m 0 c).after 21 t = iblk m c 21 t := by dsimp only [dats]
theorem after0_22 : (dats m 0 c).after 22 t = iblk m c 22 t := by dsimp only [dats]
theorem after0_23 : (dats m 0 c).after 23 t = iblk m c 23 t := by dsimp only [dats]
theorem after0_24 : (dats m 0 c).after 24 t = iblk m c 24 t := by dsimp only [dats]
theorem after0_25 : (dats m 0 c).after 25 t = iblk m c 25 t := by dsimp only [dats]
theorem after0_26 : (dats m 0 c).after 26 t = iblk m c 26 t := by dsimp only [dats]
theorem after0_27 : (dats m 0 c).after 27 t = iblk m c 27 t := by dsimp only [dats]
theorem after0_28 : (dats m 0 c).after 28 t = iblk m c 28 t := by dsimp only [dats]
theorem after0_29 : (dats m 0 c).after 29 t = dxAt m c t := by dsimp only [dats]
theorem after0_30 : (dats m 0 c).after 30 t = dzAt m c t := by dsimp only [dats]
theorem after0_31 : (dats m 0 c).after 31 t = (sums m c t.val t.isLt).1 := by dsimp only [dats]
theorem after0_32 : (dats m 0 c).after 32 t = (sums m c t.val t.isLt).2.1 := by dsimp only [dats]
theorem after0_33 : (dats m 0 c).after 33 t = (sums m c t.val t.isLt).2.2.1 := by dsimp only [dats]
theorem after0_34 : (dats m 0 c).after 34 t = (sums m c t.val t.isLt).2.2.2 := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = X0_2 m c t := before0_2_of m (dats m 0 c) (A_eq m c 2) (after0_2 m c) t d
theorem before0_3 (d) : (dats m 0 c).before 3 t d = X0_3 m c t := before0_3_of m (dats m 0 c) (A_eq m c 3) (after0_3 m c) t d
theorem before0_4 (d) : (dats m 0 c).before 4 t d = X0_4 m c t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d
theorem before0_10 (d) : (dats m 0 c).before 10 t d = iblk m c 10 t := before0_10_of m (dats m 0 c) (A_eq m c 10) (after0_10 m c) t d
theorem before0_11 (d) : (dats m 0 c).before 11 t d = iblk m c 11 t := before0_11_of m (dats m 0 c) (A_eq m c 11) (after0_11 m c) t d
theorem before0_12 (d) : (dats m 0 c).before 12 t d = iblk m c 12 t := before0_12_of m (dats m 0 c) (A_eq m c 12) (after0_12 m c) t d
theorem before0_13 (d) : (dats m 0 c).before 13 t d = iblk m c 13 t := before0_13_of m (dats m 0 c) (A_eq m c 13) (after0_13 m c) t d
theorem before0_14 (d) : (dats m 0 c).before 14 t d = iblk m c 14 t := before0_14_of m (dats m 0 c) (A_eq m c 14) (after0_14 m c) t d
theorem before0_15 (d) : (dats m 0 c).before 15 t d = iblk m c 15 t := before0_15_of m (dats m 0 c) (A_eq m c 15) (after0_15 m c) t d
theorem before0_16 (d) : (dats m 0 c).before 16 t d = iblk m c 16 t := before0_16_of m (dats m 0 c) (A_eq m c 16) (after0_16 m c) t d
theorem before0_17 (d) : (dats m 0 c).before 17 t d = iblk m c 17 t := before0_17_of m (dats m 0 c) (A_eq m c 17) (after0_17 m c) t d
theorem before0_18 (d) : (dats m 0 c).before 18 t d = iblk m c 18 t := before0_18_of m (dats m 0 c) (A_eq m c 18) (after0_18 m c) t d
theorem before0_19 (d) : (dats m 0 c).before 19 t d = iblk m c 19 t := before0_19_of m (dats m 0 c) (A_eq m c 19) (after0_19 m c) t d
theorem before0_20 (d) : (dats m 0 c).before 20 t d = iblk m c 20 t := before0_20_of m (dats m 0 c) (A_eq m c 20) (after0_20 m c) t d
theorem before0_21 (d) : (dats m 0 c).before 21 t d = iblk m c 21 t := before0_21_of m (dats m 0 c) (A_eq m c 21) (after0_21 m c) t d
theorem before0_22 (d) : (dats m 0 c).before 22 t d = iblk m c 22 t := before0_22_of m (dats m 0 c) (A_eq m c 22) (after0_22 m c) t d
theorem before0_23 (d) : (dats m 0 c).before 23 t d = iblk m c 23 t := before0_23_of m (dats m 0 c) (A_eq m c 23) (after0_23 m c) t d
theorem before0_24 (d) : (dats m 0 c).before 24 t d = iblk m c 24 t := before0_24_of m (dats m 0 c) (A_eq m c 24) (after0_24 m c) t d
theorem before0_25 (d) : (dats m 0 c).before 25 t d = iblk m c 25 t := before0_25_of m (dats m 0 c) (A_eq m c 25) (after0_25 m c) t d
theorem before0_26 (d) : (dats m 0 c).before 26 t d = iblk m c 26 t := before0_26_of m (dats m 0 c) (A_eq m c 26) (after0_26 m c) t d
theorem before0_27 (d) : (dats m 0 c).before 27 t d = iblk m c 27 t := before0_27_of m (dats m 0 c) (A_eq m c 27) (after0_27 m c) t d
theorem before0_28 (d) : (dats m 0 c).before 28 t d = iblk m c 28 t := before0_28_of m (dats m 0 c) (A_eq m c 28) (after0_28 m c) t d

end

/-- A fact under the conditions one by one, from all of them. -/
theorem spread {p0 p1 p2 p3 p4 p5 p6 p7 p8 p9 p10 p11 p12 p13 p14 p15 p16 p17 P : Prop}
    (f : p0 → p1 → p2 → p3 → p4 → p5 → p6 → p7 → p8 → p9 → p10 → p11 → p12 → p13 → p14 → p15 → p16 → p17 → P)
    (h : p0 ∧ p1 ∧ p2 ∧ p3 ∧ p4 ∧ p5 ∧ p6 ∧ p7 ∧ p8 ∧ p9 ∧ p10 ∧ p11 ∧ p12 ∧ p13 ∧ p14 ∧ p15 ∧ p16 ∧ p17) : P :=
  let ⟨h0, h1, h2, h3, h4, h5, h6, h7, h8, h9, h10, h11, h12, h13, h14, h15, h16, h17⟩ := h
  f h0 h1 h2 h3 h4 h5 h6 h7 h8 h9 h10 h11 h12 h13 h14 h15 h16 h17

/-- Sum 1 is stored at every point. -/
theorem live_31 (t : Fin cfg0.N) : cfg0.idle 31 (grid0.coords t) = false := by
  by_cases ht : t.val = 0
  · exact spread (liveAt0_31_A t) (starts t ht)
  · exact spread (liveAt0_31_B t) (continues t ht)

/-- After the first point its buffer holds what the point before left. -/
theorem before_31 (c : Dev nD) (t : Fin cfg0.N) (ht : t.val ≠ 0) (d) :
    (dats m 0 c).before 31 t d = (sums m c (t.val - 1) (Nat.lt_of_le_of_lt (Nat.sub_le _ _) t.isLt)).1 := by
  rw [Dat.before_out_traj _ 31 rfl (fun _ _ => rfl)
    (fun s _ hi _ => absurd hi (by rw [live_31 s]; exact Bool.false_ne_true)) t.val t rfl d,
    if_neg (by rw [spread (notFresh0_31_B t) (continues t ht)]; exact Bool.false_ne_true)]
  dsimp only [dats]

/-- Sum 2 is stored at every point. -/
theorem live_32 (t : Fin cfg0.N) : cfg0.idle 32 (grid0.coords t) = false := by
  by_cases ht : t.val = 0
  · exact spread (liveAt0_32_A t) (starts t ht)
  · exact spread (liveAt0_32_B t) (continues t ht)

/-- After the first point its buffer holds what the point before left. -/
theorem before_32 (c : Dev nD) (t : Fin cfg0.N) (ht : t.val ≠ 0) (d) :
    (dats m 0 c).before 32 t d = (sums m c (t.val - 1) (Nat.lt_of_le_of_lt (Nat.sub_le _ _) t.isLt)).2.1 := by
  rw [Dat.before_out_traj _ 32 rfl (fun _ _ => rfl)
    (fun s _ hi _ => absurd hi (by rw [live_32 s]; exact Bool.false_ne_true)) t.val t rfl d,
    if_neg (by rw [spread (notFresh0_32_B t) (continues t ht)]; exact Bool.false_ne_true)]
  dsimp only [dats]

/-- Sum 3 is stored at every point. -/
theorem live_33 (t : Fin cfg0.N) : cfg0.idle 33 (grid0.coords t) = false := by
  by_cases ht : t.val = 0
  · exact spread (liveAt0_33_A t) (starts t ht)
  · exact spread (liveAt0_33_B t) (continues t ht)

/-- After the first point its buffer holds what the point before left. -/
theorem before_33 (c : Dev nD) (t : Fin cfg0.N) (ht : t.val ≠ 0) (d) :
    (dats m 0 c).before 33 t d = (sums m c (t.val - 1) (Nat.lt_of_le_of_lt (Nat.sub_le _ _) t.isLt)).2.2.1 := by
  rw [Dat.before_out_traj _ 33 rfl (fun _ _ => rfl)
    (fun s _ hi _ => absurd hi (by rw [live_33 s]; exact Bool.false_ne_true)) t.val t rfl d,
    if_neg (by rw [spread (notFresh0_33_B t) (continues t ht)]; exact Bool.false_ne_true)]
  dsimp only [dats]

/-- Sum 4 is stored at every point. -/
theorem live_34 (t : Fin cfg0.N) : cfg0.idle 34 (grid0.coords t) = false := by
  by_cases ht : t.val = 0
  · exact spread (liveAt0_34_A t) (starts t ht)
  · exact spread (liveAt0_34_B t) (continues t ht)

/-- After the first point its buffer holds what the point before left. -/
theorem before_34 (c : Dev nD) (t : Fin cfg0.N) (ht : t.val ≠ 0) (d) :
    (dats m 0 c).before 34 t d = (sums m c (t.val - 1) (Nat.lt_of_le_of_lt (Nat.sub_le _ _) t.isLt)).2.2.2 := by
  rw [Dat.before_out_traj _ 34 rfl (fun _ _ => rfl)
    (fun s _ hi _ => absurd hi (by rw [live_34 s]; exact Bool.false_ne_true)) t.val t rfl d,
    if_neg (by rw [spread (notFresh0_34_B t) (continues t ht)]; exact Bool.false_ne_true)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d))
    ∗ (∃ d, owns c.tc (ms0_16 t) fullShare ((dats m 0 c).before 16 t d))
    ∗ (∃ d, owns c.tc (ms0_17 t) fullShare ((dats m 0 c).before 17 t d))
    ∗ (∃ d, owns c.tc (ms0_18 t) fullShare ((dats m 0 c).before 18 t d))
    ∗ (∃ d, owns c.tc (ms0_19 t) fullShare ((dats m 0 c).before 19 t d))
    ∗ (∃ d, owns c.tc (ms0_20 t) fullShare ((dats m 0 c).before 20 t d))
    ∗ (∃ d, owns c.tc (ms0_21 t) fullShare ((dats m 0 c).before 21 t d))
    ∗ (∃ d, owns c.tc (ms0_22 t) fullShare ((dats m 0 c).before 22 t d))
    ∗ (∃ d, owns c.tc (ms0_23 t) fullShare ((dats m 0 c).before 23 t d))
    ∗ (∃ d, owns c.tc (ms0_24 t) fullShare ((dats m 0 c).before 24 t d))
    ∗ (∃ d, owns c.tc (ms0_25 t) fullShare ((dats m 0 c).before 25 t d))
    ∗ (∃ d, owns c.tc (ms0_26 t) fullShare ((dats m 0 c).before 26 t d))
    ∗ (∃ d, owns c.tc (ms0_27 t) fullShare ((dats m 0 c).before 27 t d))
    ∗ (∃ d, owns c.tc (ms0_28 t) fullShare ((dats m 0 c).before 28 t d))
    ∗ (∃ d, owns c.tc (ms0_29 t) fullShare ((dats m 0 c).before 29 t d))
    ∗ (∃ d, owns c.tc (ms0_30 t) fullShare ((dats m 0 c).before 30 t d))
    ∗ (∃ d, owns c.tc (ms0_31 t) fullShare ((dats m 0 c).before 31 t d))
    ∗ (∃ d, owns c.tc (ms0_32 t) fullShare ((dats m 0 c).before 32 t d))
    ∗ (∃ d, owns c.tc (ms0_33 t) fullShare ((dats m 0 c).before 33 t d))
    ∗ (∃ d, owns c.tc (ms0_34 t) fullShare ((dats m 0 c).before 34 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t)

section
variable (c : Dev nD) (t : Fin cfg0.N)

theorem leaves_0 : (dats m 0 c).leavesExact 0 t = owns c.tc (ms0_0 t) fullShare ((dats m 0 c).after 0 t) := by unfold Dat.leavesExact; rw [liveAt0_0 t]
theorem leaves_1 : (dats m 0 c).leavesExact 1 t = owns c.tc (ms0_1 t) fullShare ((dats m 0 c).after 1 t) := by unfold Dat.leavesExact; rw [liveAt0_1 t]
theorem leaves_2 : (dats m 0 c).leavesExact 2 t = owns c.tc (ms0_2 t) fullShare ((dats m 0 c).after 2 t) := by unfold Dat.leavesExact; rw [liveAt0_2 t]
theorem leaves_3 : (dats m 0 c).leavesExact 3 t = owns c.tc (ms0_3 t) fullShare ((dats m 0 c).after 3 t) := by unfold Dat.leavesExact; rw [liveAt0_3 t]
theorem leaves_4 : (dats m 0 c).leavesExact 4 t = owns c.tc (ms0_4 t) fullShare ((dats m 0 c).after 4 t) := by unfold Dat.leavesExact; rw [liveAt0_4 t]
theorem leaves_5 : (dats m 0 c).leavesExact 5 t = owns c.tc (ms0_5 t) fullShare ((dats m 0 c).after 5 t) := by unfold Dat.leavesExact; rw [liveAt0_5 t]
theorem leaves_6 : (dats m 0 c).leavesExact 6 t = owns c.tc (ms0_6 t) fullShare ((dats m 0 c).after 6 t) := by unfold Dat.leavesExact; rw [liveAt0_6 t]
theorem leaves_7 : (dats m 0 c).leavesExact 7 t = owns c.tc (ms0_7 t) fullShare ((dats m 0 c).after 7 t) := by unfold Dat.leavesExact; rw [liveAt0_7 t]
theorem leaves_8 : (dats m 0 c).leavesExact 8 t = owns c.tc (ms0_8 t) fullShare ((dats m 0 c).after 8 t) := by unfold Dat.leavesExact; rw [liveAt0_8 t]
theorem leaves_9 : (dats m 0 c).leavesExact 9 t = owns c.tc (ms0_9 t) fullShare ((dats m 0 c).after 9 t) := by unfold Dat.leavesExact; rw [liveAt0_9 t]
theorem leaves_10 : (dats m 0 c).leavesExact 10 t = owns c.tc (ms0_10 t) fullShare ((dats m 0 c).after 10 t) := by unfold Dat.leavesExact; rw [liveAt0_10 t]
theorem leaves_11 : (dats m 0 c).leavesExact 11 t = owns c.tc (ms0_11 t) fullShare ((dats m 0 c).after 11 t) := by unfold Dat.leavesExact; rw [liveAt0_11 t]
theorem leaves_12 : (dats m 0 c).leavesExact 12 t = owns c.tc (ms0_12 t) fullShare ((dats m 0 c).after 12 t) := by unfold Dat.leavesExact; rw [liveAt0_12 t]
theorem leaves_13 : (dats m 0 c).leavesExact 13 t = owns c.tc (ms0_13 t) fullShare ((dats m 0 c).after 13 t) := by unfold Dat.leavesExact; rw [liveAt0_13 t]
theorem leaves_14 : (dats m 0 c).leavesExact 14 t = owns c.tc (ms0_14 t) fullShare ((dats m 0 c).after 14 t) := by unfold Dat.leavesExact; rw [liveAt0_14 t]
theorem leaves_15 : (dats m 0 c).leavesExact 15 t = owns c.tc (ms0_15 t) fullShare ((dats m 0 c).after 15 t) := by unfold Dat.leavesExact; rw [liveAt0_15 t]
theorem leaves_16 : (dats m 0 c).leavesExact 16 t = owns c.tc (ms0_16 t) fullShare ((dats m 0 c).after 16 t) := by unfold Dat.leavesExact; rw [liveAt0_16 t]
theorem leaves_17 : (dats m 0 c).leavesExact 17 t = owns c.tc (ms0_17 t) fullShare ((dats m 0 c).after 17 t) := by unfold Dat.leavesExact; rw [liveAt0_17 t]
theorem leaves_18 : (dats m 0 c).leavesExact 18 t = owns c.tc (ms0_18 t) fullShare ((dats m 0 c).after 18 t) := by unfold Dat.leavesExact; rw [liveAt0_18 t]
theorem leaves_19 : (dats m 0 c).leavesExact 19 t = owns c.tc (ms0_19 t) fullShare ((dats m 0 c).after 19 t) := by unfold Dat.leavesExact; rw [liveAt0_19 t]
theorem leaves_20 : (dats m 0 c).leavesExact 20 t = owns c.tc (ms0_20 t) fullShare ((dats m 0 c).after 20 t) := by unfold Dat.leavesExact; rw [liveAt0_20 t]
theorem leaves_21 : (dats m 0 c).leavesExact 21 t = owns c.tc (ms0_21 t) fullShare ((dats m 0 c).after 21 t) := by unfold Dat.leavesExact; rw [liveAt0_21 t]
theorem leaves_22 : (dats m 0 c).leavesExact 22 t = owns c.tc (ms0_22 t) fullShare ((dats m 0 c).after 22 t) := by unfold Dat.leavesExact; rw [liveAt0_22 t]
theorem leaves_23 : (dats m 0 c).leavesExact 23 t = owns c.tc (ms0_23 t) fullShare ((dats m 0 c).after 23 t) := by unfold Dat.leavesExact; rw [liveAt0_23 t]
theorem leaves_24 : (dats m 0 c).leavesExact 24 t = owns c.tc (ms0_24 t) fullShare ((dats m 0 c).after 24 t) := by unfold Dat.leavesExact; rw [liveAt0_24 t]
theorem leaves_25 : (dats m 0 c).leavesExact 25 t = owns c.tc (ms0_25 t) fullShare ((dats m 0 c).after 25 t) := by unfold Dat.leavesExact; rw [liveAt0_25 t]
theorem leaves_26 : (dats m 0 c).leavesExact 26 t = owns c.tc (ms0_26 t) fullShare ((dats m 0 c).after 26 t) := by unfold Dat.leavesExact; rw [liveAt0_26 t]
theorem leaves_27 : (dats m 0 c).leavesExact 27 t = owns c.tc (ms0_27 t) fullShare ((dats m 0 c).after 27 t) := by unfold Dat.leavesExact; rw [liveAt0_27 t]
theorem leaves_28 : (dats m 0 c).leavesExact 28 t = owns c.tc (ms0_28 t) fullShare ((dats m 0 c).after 28 t) := by unfold Dat.leavesExact; rw [liveAt0_28 t]
theorem leaves_29 : (dats m 0 c).leavesExact 29 t = owns c.tc (ms0_29 t) fullShare ((dats m 0 c).after 29 t) := by unfold Dat.leavesExact; rw [liveAt0_29 t]
theorem leaves_30 : (dats m 0 c).leavesExact 30 t = owns c.tc (ms0_30 t) fullShare ((dats m 0 c).after 30 t) := by unfold Dat.leavesExact; rw [liveAt0_30 t]
theorem leaves_31 : (dats m 0 c).leavesExact 31 t = owns c.tc (ms0_31 t) fullShare ((dats m 0 c).after 31 t) := by unfold Dat.leavesExact; rw [live_31 t]
theorem leaves_32 : (dats m 0 c).leavesExact 32 t = owns c.tc (ms0_32 t) fullShare ((dats m 0 c).after 32 t) := by unfold Dat.leavesExact; rw [live_32 t]
theorem leaves_33 : (dats m 0 c).leavesExact 33 t = owns c.tc (ms0_33 t) fullShare ((dats m 0 c).after 33 t) := by unfold Dat.leavesExact; rw [live_33 t]
theorem leaves_34 : (dats m 0 c).leavesExact 34 t = owns c.tc (ms0_34 t) fullShare ((dats m 0 c).after 34 t) := by unfold Dat.leavesExact; rw [live_34 t]

end

set_option maxHeartbeats 6400000 in
/-- The body at any point takes the blocks it finds to the blocks stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24, before0_25, before0_26, before0_27, before0_28]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_6, leaves_7, leaves_8, leaves_9, leaves_10, leaves_11,
    leaves_12, leaves_13, leaves_14, leaves_15, leaves_16, leaves_17, leaves_18, leaves_19, leaves_20, leaves_21, leaves_22,
    leaves_23, leaves_24, leaves_25, leaves_26, leaves_27, leaves_28, leaves_29, leaves_30, leaves_31, leaves_32, leaves_33,
    leaves_34]
  rw [after0_0, after0_1, after0_2, after0_3, after0_4, after0_5, after0_6, after0_7, after0_8, after0_9, after0_10,
    after0_11, after0_12, after0_13, after0_14, after0_15, after0_16, after0_17, after0_18, after0_19, after0_20, after0_21,
    after0_22, after0_23, after0_24, after0_25, after0_26, after0_27, after0_28, after0_29, after0_30, after0_31, after0_32,
    after0_33, after0_34]
  by_cases ht : t.val = 0
  · rw [sums_start m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19,
      H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩,
      ⟨%d29, H29⟩, ⟨%d30, H30⟩, ⟨%d31, H31⟩, ⟨%d32, H32⟩, ⟨%d33, H33⟩, ⟨%d34, H34⟩⟩
    iapply (run_first c (grid0.coords t) _ _ _ _ _ _ _ _ _ _ _ _ _ _ _ _ _ _ _ _ _ _ _ _ _ _ _ _ _ _ _ _ _ _ _ (hs0_0 t) (hs0_1 t)
      (hs0_2 t) (hs0_3 t) (hs0_4 t) (hs0_5 t) (hs0_6 t) (hs0_7 t) (hs0_8 t) (hs0_9 t) (hs0_10 t) (hs0_11 t) (hs0_12 t) (hs0_13 t)
      (hs0_14 t) (hs0_15 t) (hs0_16 t) (hs0_17 t) (hs0_18 t) (hs0_19 t) (hs0_20 t) (hs0_21 t) (hs0_22 t) (hs0_23 t) (hs0_24 t)
      (hs0_25 t) (hs0_26 t) (hs0_27 t) (hs0_28 t) (hs0_29 t) (hs0_30 t) (hs0_31 t) (hs0_32 t) (hs0_33 t) (hs0_34 t) (starts t ht)
      (iblk m c 0 t) (iblk m c 1 t) (X0_2 m c t) (X0_3 m c t) (X0_4 m c t) (iblk m c 5 t) (iblk m c 6 t) (iblk m c 7 t)
      (iblk m c 8 t) (iblk m c 9 t) (iblk m c 10 t) (iblk m c 11 t) (iblk m c 12 t) (iblk m c 13 t) (iblk m c 14 t)
      (iblk m c 15 t) (iblk m c 16 t) (iblk m c 17 t) (iblk m c 18 t) (iblk m c 19 t) (iblk m c 20 t) (iblk m c 21 t)
      (iblk m c 22 t) (iblk m c 23 t) (iblk m c 24 t) (iblk m c 25 t) (iblk m c 26 t) (iblk m c 27 t) (iblk m c 28 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    iintro ⟨H0, H1, H2, H3, H4, H5, H6, H7, H8, H9, H10, H11, H12, H13, H14, H15, H16, H17, H18, H19, H20, H21, H22, H23, H24, H25,
      H26, H27, H28, H29, H30, H31, H32, H33, H34⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  · rw [sums_step m c t ht]
    simp only [before_31 m c t ht, before_32 m c t ht, before_33 m c t ht, before_34 m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19,
      H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩,
      ⟨%d29, H29⟩, ⟨%d30, H30⟩, ⟨%d31, H31⟩, ⟨%d32, H32⟩, ⟨%d33, H33⟩, ⟨%d34, H34⟩⟩
    iapply (run_next c (grid0.coords t) _ _ _ _ _ _ _ _ _ _ _ _ _ _ _ _ _ _ _ _ _ _ _ _ _ _ _ _ _ _ _ _ _ _ _ (hs0_0 t) (hs0_1 t)
      (hs0_2 t) (hs0_3 t) (hs0_4 t) (hs0_5 t) (hs0_6 t) (hs0_7 t) (hs0_8 t) (hs0_9 t) (hs0_10 t) (hs0_11 t) (hs0_12 t) (hs0_13 t)
      (hs0_14 t) (hs0_15 t) (hs0_16 t) (hs0_17 t) (hs0_18 t) (hs0_19 t) (hs0_20 t) (hs0_21 t) (hs0_22 t) (hs0_23 t) (hs0_24 t)
      (hs0_25 t) (hs0_26 t) (hs0_27 t) (hs0_28 t) (hs0_29 t) (hs0_30 t) (hs0_31 t) (hs0_32 t) (hs0_33 t) (hs0_34 t)
      (continues t ht) (iblk m c 0 t) (iblk m c 1 t) (X0_2 m c t) (X0_3 m c t) (X0_4 m c t) (iblk m c 5 t) (iblk m c 6 t)
      (iblk m c 7 t) (iblk m c 8 t) (iblk m c 9 t) (iblk m c 10 t) (iblk m c 11 t) (iblk m c 12 t) (iblk m c 13 t) (iblk m c 14 t)
      (iblk m c 15 t) (iblk m c 16 t) (iblk m c 17 t) (iblk m c 18 t) (iblk m c 19 t) (iblk m c 20 t) (iblk m c 21 t)
      (iblk m c 22 t) (iblk m c 23 t) (iblk m c 24 t) (iblk m c 25 t) (iblk m c 26 t) (iblk m c 27 t) (iblk m c 28 t)
      (sums m c (t.val - 1) (Nat.lt_of_le_of_lt (Nat.sub_le _ _) t.isLt)).1 (sums m c (t.val - 1)
      (Nat.lt_of_le_of_lt (Nat.sub_le _ _) t.isLt)).2.1 (sums m c (t.val - 1) (Nat.lt_of_le_of_lt (Nat.sub_le _ _) t.isLt)).2.2.1
      (sums m c (t.val - 1) (Nat.lt_of_le_of_lt (Nat.sub_le _ _) t.isLt)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexact H31
    isplitl [H32]; · iexact H32
    isplitl [H33]; · iexact H33
    isplitl [H34]; · iexact H34
    iintro ⟨H0, H1, H2, H3, H4, H5, H6, H7, H8, H9, H10, H11, H12, H13, H14, H15, H16, H17, H18, H19, H20, H21, H22, H23, H24, H25,
      H26, H27, H28, H29, H30, H31, H32, H33, H34⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays end as the proof data say, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.MixInIdeal.Whole

end
-- ==== Proof.MixInKernel.lean ====
/- What the input layer's backward call leaves in its six output arrays, over the extended reals. -/
module

public import proofs.«01_k».proof.Proof.MixInVal
public import proofs.«01_k».proof.Proof.MixInFrame

@[expose] public section

set_option maxRecDepth 16384

noncomputable section

namespace Cert.MixInIdeal.Val

open Cert.MixInIdeal Cert.MixInIdeal.Gen Cert.MixInIdeal.Body Cert.MixInIdeal.Whole Cert.Shift
open Idealize.ShloMosaic Idealize.ShloMosaic.TcCoe Idealize.SL.Sem
open Idealize.ShloMosaic.Pipeline (Dat)

variable (m : (ℓ : Loc nD τ sig) → Buf (Elt Ideal) ℓ) (c : Dev nD)

theorem emb29 (t : Fin cfg0.N) (y : Fin 256) (k : Fin 1024) : ((View.whole main_v26_0).slice (win0_29.rect t)).emb (ix2 y k) = ix2 (at_ (tile t) y) k := by
  blk_ext [idxB t, at_, tile]
theorem emb30 (t : Fin cfg0.N) (y : Fin 256) (k : Fin 7680) : ((View.whole main_v26_1).slice (win0_30.rect t)).emb (ix2 y k) = ix2 (at_ (tile t) y) k := by
  blk_ext [idxB t, at_, tile]
theorem emb31 (t : Fin cfg0.N) (y : Fin 1) (k : Fin 1024) : ((View.whole main_v26_2).slice (win0_31.rect t)).emb (ix2 y k) = ix2 y k := by
  blk_ext [idxB t]
theorem emb32 (t : Fin cfg0.N) (y : Fin 4) (k : Fin 1024) : ((View.whole main_v26_3).slice (win0_32.rect t)).emb (ix2 y k) = ix2 y k := by
  blk_ext [idxB t]
theorem emb33 (t : Fin cfg0.N) (y : Fin 1) (k : Fin 1024) : ((View.whole main_v26_4).slice (win0_33.rect t)).emb (ix2 y k) = ix2 y k := by
  blk_ext [idxB t]
theorem emb34 (t : Fin cfg0.N) (y : Fin 3) (k : Fin 512) : ((View.whole main_v26_5).slice (win0_34.rect t)).emb (ix2 y k) = ix2 y k := by
  blk_ext [idxB t]

/-! ## The blocks of the two arrays written tile by tile -/

theorem dzAt_at (t : Fin cfg0.N) (y : Fin 256) (q : Fin 7680) : dzAt m c t (ix2 y q) = dz (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (at_ (tile t) y) q :=
  dz_blk m c t y q

theorem dh_at (t : Fin cfg0.N) (y : Fin 256) (l : Fin 1024) :
    (∑ q : Fin 7680, @HMul.hMul EReal EReal EReal _ (dzAt m c t (ix2 y q)) (iblk m c 28 t (ix2 q l))) = dh (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (at_ (tile t) y) l :=
  Finset.sum_congr rfl fun q _ => congrArg₂ (fun a b : EReal => a * b) (dzAt_at m c t y q) (iblk28_at m c t q l)

theorem dx_blk (t : Fin cfg0.N) (y : Fin 256) (k : Fin 1024) : dxAt m c t (ix2 y k) = dxArr (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (ix2 (at_ (tile t) y) k) := by
  unfold dxAt
  refine (Pay.dx_at _ _ _ _ _ y k).trans ?_
  exact congrArg₂ (fun a b : EReal => a + b) (iblk0_at m c t y k)
    (Rows.congr3 (fun a b g => Rows.back a b g k) (funext fun l => dh_at m c t y l) (funext fun l => iblk1_at m c t y l)
      (funext fun l => iblk25_at m c t l))

theorem final29 : (dats m 0 c).arrAt 29 (cfgs 0).N = dxArr (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) := by
  refine (dats m 0 c).arrAt_eq_of_covers 29 _ (by decide +kernel) fun t _ y => ?_
  blk_simp
  rw [after0_29]
  idx_vars y
  exact (dx_blk m c t y0 y1).trans (congrArg _ (emb29 t y0 y1).symm)

theorem final30 : (dats m 0 c).arrAt 30 (cfgs 0).N = dzArr (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) := by
  refine (dats m 0 c).arrAt_eq_of_covers 30 _ (by decide +kernel) fun t _ y => ?_
  blk_simp
  rw [after0_30]
  idx_vars y
  exact (dzAt_at m c t y0 y1).trans (congrArg (dzArr (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))) (emb30 t y0 y1).symm)

/-! ## The four sums -/

theorem dpg_blk (t : Fin cfg0.N) (k : Fin 1024) : dpgTerm (F := Ideal) (dzAt m c t) (iblk m c 1 t) (iblk m c 28 t) (ix2 0 k)
    = ∑ y : Fin 256, dh (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (at_ (tile t) y) k * (@HMul.hMul EReal EReal EReal _ ((m (c.tc.loc main_arg0)) (ix3 0 (at_ (tile t) y) k)) (Rows.scale (row (m (c.tc.loc main_arg0)) (at_ (tile t) y)))) :=
  (Pay.dpgTerm_at _ _ _ k).trans <| Finset.sum_congr rfl fun y _ => congrArg₂ (fun a b : EReal => a * b) (dh_at m c t y k)
    (congrArg₂ (fun a b : EReal => a * b) (iblk1_at m c t y k) (congrArg Rows.scale (funext fun l => iblk1_at m c t y l)))

theorem dlcb_blk (t : Fin cfg0.N) (k : Fin 1024) : k0_pay21 (F := Ideal) (k0_pay6 (iblk m c 11 t) (iblk m c 14 t)) (ix2 0 k)
    = ∑ y : Fin 256, dxc (m (c.tc.loc main_arg6)) (m (c.tc.loc main_arg7)) (at_ (tile t) y) k :=
  (Pay.dlcb_at _ _ k).trans <| Finset.sum_congr rfl fun y _ => dxc_at m c t y k

/-- What starts with the first tile's sum and takes in each further tile's is the sum over all rows. -/
theorem total (S : ∀ n, n < cfg0.N → EReal) (g : Fin 16384 → EReal)
    (h0 : ∀ t : Fin cfg0.N, t.val = 0 → S t.val t.isLt = ∑ y : Fin 256, g (at_ (tile t) y))
    (hs : ∀ t : Fin cfg0.N, t.val ≠ 0 →
      S t.val t.isLt = S (t.val - 1) (Nat.lt_of_le_of_lt (Nat.sub_le _ _) t.isLt) + ∑ y : Fin 256, g (at_ (tile t) y))
    (t : Fin cfg0.N) (ht : t.val % 64 = 63) : S t.val t.isLt = ∑ s, g s := by
  have e : cfg0.N = 64 := N_0
  have H : ∀ n (hn : n < cfg0.N), S n hn = ∑ p : Fin (n + 1), ∑ y : Fin 256, g (at_ ⟨p.val, by omega⟩ y) := by
    intro n
    induction n with
    | zero => exact fun hn => by rw [Fin.sum_univ_one]; exact h0 ⟨0, hn⟩ rfl
    | succ n ih =>
      intro hn
      rw [Fin.sum_univ_castSucc]
      exact (hs ⟨n + 1, hn⟩ (Nat.succ_ne_zero n)).trans (congrArg₂ (fun a b : EReal => a + b) (ih (by omega)) rfl)
  obtain ⟨n, hn⟩ := t
  obtain rfl : n = 63 := by dsimp only at ht; omega
  rw [Fin.sum_univ_tiles 64 256 rfl]
  exact H 63 hn

theorem start31 (r : Fin 1) (k : Fin 1024) (t : Fin cfg0.N) (ht : t.val = 0) : (sums m c t.val t.isLt).1 (ix2 r k)
    = ∑ y : Fin 256, (fun s : Fin 16384 => dh (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) s k * (@HMul.hMul EReal EReal EReal _ ((m (c.tc.loc main_arg0)) (ix3 0 s k)) (Rows.scale (row (m (c.tc.loc main_arg0)) s)))) (at_ (tile t) y) := by
  obtain rfl : r = 0 := Subsingleton.elim _ _
  exact (congrArg (fun p : Sums Ideal => p.1 (ix2 0 k)) (sums_start m c t ht)).trans (dpg_blk m c t k)

theorem step31 (r : Fin 1) (k : Fin 1024) (t : Fin cfg0.N) (ht : t.val ≠ 0) : (sums m c t.val t.isLt).1 (ix2 r k)
    = @HAdd.hAdd EReal EReal EReal _ ((sums m c (t.val - 1) (Nat.lt_of_le_of_lt (Nat.sub_le _ _) t.isLt)).1 (ix2 r k)) (∑ y : Fin 256, (fun s : Fin 16384 => dh (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) s k * (@HMul.hMul EReal EReal EReal _ ((m (c.tc.loc main_arg0)) (ix3 0 s k)) (Rows.scale (row (m (c.tc.loc main_arg0)) s)))) (at_ (tile t) y)) := by
  obtain rfl : r = 0 := Subsingleton.elim _ _
  exact (congrArg (fun p : Sums Ideal => p.1 (ix2 0 k)) (sums_step m c t ht)).trans ((Pay.dpgNext_at _ _ _ _ _).trans (congrArg (_ + ·) (dpg_blk m c t k)))

theorem sum31 (r : Fin 1) (k : Fin 1024) : ∑ s : Fin 16384, (fun s : Fin 16384 => dh (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) s k * (@HMul.hMul EReal EReal EReal _ ((m (c.tc.loc main_arg0)) (ix3 0 s k)) (Rows.scale (row (m (c.tc.loc main_arg0)) s)))) s = dpgArr (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (ix2 r k) := by
  unfold dpgArr; rfl

theorem final31 : (dats m 0 c).arrAt 31 (cfgs 0).N = dpgArr (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) := by
  refine (dats m 0 c).arrAt_eq_of_covers 31 _ (by decide +kernel) fun t hf y => ?_
  blk_simp
  rw [after0_31]
  idx_vars y
  exact (total (fun n h => (sums m c n h).1 (ix2 y0 y1)) _ (start31 m c y0 y1) (step31 m c y0 y1) t ((flush0_31 t).mp hf)).trans
    ((sum31 m c y0 y1).trans (congrArg (dpgArr (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13))) (emb31 t y0 y1).symm))

theorem first32 (t : Fin cfg0.N) : (first m c t).2.1 = dlcwFirst (grid0.coords t) (X0_2 m c t) (X0_3 m c t) (X0_4 m c t) (iblk m c 11 t) (iblk m c 14 t) := by
  unfold first; dsimp only

theorem next32 (t : Fin cfg0.N) (p : Sums Ideal) : (next m c t p).2.1 = dlcwNext (grid0.coords t) (X0_2 m c t) (X0_3 m c t) (X0_4 m c t) (iblk m c 11 t) (iblk m c 14 t) p.2.1 := by
  unfold next; dsimp only

theorem start32 (r : Fin 4) (k : Fin 1024) (t : Fin cfg0.N) (ht : t.val = 0) : (sums m c t.val t.isLt).2.1 (ix2 r k)
    = ∑ y : Fin 256, (fun s : Fin 16384 => dxc (m (c.tc.loc main_arg6)) (m (c.tc.loc main_arg7)) s k * tap4 r (fun s => lx (m (c.tc.loc main_arg0)) (m (c.tc.loc main_arg2)) (m (c.tc.loc main_arg3)) s k) s) (at_ (tile t) y) := by
  exact (congrArg (fun p : Sums Ideal => p.2.1 (ix2 r k)) (sums_start m c t ht)).trans ((congrFun (first32 m c t) (ix2 r k)).trans (dlcw_blk m c t r k))

theorem step32 (r : Fin 4) (k : Fin 1024) (t : Fin cfg0.N) (ht : t.val ≠ 0) : (sums m c t.val t.isLt).2.1 (ix2 r k)
    = @HAdd.hAdd EReal EReal EReal _ ((sums m c (t.val - 1) (Nat.lt_of_le_of_lt (Nat.sub_le _ _) t.isLt)).2.1 (ix2 r k)) (∑ y : Fin 256, (fun s : Fin 16384 => dxc (m (c.tc.loc main_arg6)) (m (c.tc.loc main_arg7)) s k * tap4 r (fun s => lx (m (c.tc.loc main_arg0)) (m (c.tc.loc main_arg2)) (m (c.tc.loc main_arg3)) s k) s) (at_ (tile t) y)) := by
  exact (congrArg (fun p : Sums Ideal => p.2.1 (ix2 r k)) (sums_step m c t ht)).trans ((congrFun (next32 m c t _) (ix2 r k)).trans (dlcwNext_blk m c t _ r k))

theorem sum32 (r : Fin 4) (k : Fin 1024) : ∑ s : Fin 16384, (fun s : Fin 16384 => dxc (m (c.tc.loc main_arg6)) (m (c.tc.loc main_arg7)) s k * tap4 r (fun s => lx (m (c.tc.loc main_arg0)) (m (c.tc.loc main_arg2)) (m (c.tc.loc main_arg3)) s k) s) s = dlcwArr (m (c.tc.loc main_arg0)) (m (c.tc.loc main_arg2)) (m (c.tc.loc main_arg3)) (m (c.tc.loc main_arg6)) (m (c.tc.loc main_arg7)) (ix2 r k) := by
  unfold dlcwArr; rfl

theorem final32 : (dats m 0 c).arrAt 32 (cfgs 0).N = dlcwArr (m (c.tc.loc main_arg0)) (m (c.tc.loc main_arg2)) (m (c.tc.loc main_arg3)) (m (c.tc.loc main_arg6)) (m (c.tc.loc main_arg7)) := by
  refine (dats m 0 c).arrAt_eq_of_covers 32 _ (by decide +kernel) fun t hf y => ?_
  blk_simp
  rw [after0_32]
  idx_vars y
  exact (total (fun n h => (sums m c n h).2.1 (ix2 y0 y1)) _ (start32 m c y0 y1) (step32 m c y0 y1) t ((flush0_32 t).mp hf)).trans
    ((sum32 m c y0 y1).trans (congrArg (dlcwArr (m (c.tc.loc main_arg0)) (m (c.tc.loc main_arg2)) (m (c.tc.loc main_arg3)) (m (c.tc.loc main_arg6)) (m (c.tc.loc main_arg7))) (emb32 t y0 y1).symm))

theorem start33 (r : Fin 1) (k : Fin 1024) (t : Fin cfg0.N) (ht : t.val = 0) : (sums m c t.val t.isLt).2.2.1 (ix2 r k)
    = ∑ y : Fin 256, (fun s : Fin 16384 => dxc (m (c.tc.loc main_arg6)) (m (c.tc.loc main_arg7)) s k) (at_ (tile t) y) := by
  obtain rfl : r = 0 := Subsingleton.elim _ _
  exact (congrArg (fun p : Sums Ideal => p.2.2.1 (ix2 0 k)) (sums_start m c t ht)).trans (dlcb_blk m c t k)

theorem step33 (r : Fin 1) (k : Fin 1024) (t : Fin cfg0.N) (ht : t.val ≠ 0) : (sums m c t.val t.isLt).2.2.1 (ix2 r k)
    = @HAdd.hAdd EReal EReal EReal _ ((sums m c (t.val - 1) (Nat.lt_of_le_of_lt (Nat.sub_le _ _) t.isLt)).2.2.1 (ix2 r k)) (∑ y : Fin 256, (fun s : Fin 16384 => dxc (m (c.tc.loc main_arg6)) (m (c.tc.loc main_arg7)) s k) (at_ (tile t) y)) := by
  obtain rfl : r = 0 := Subsingleton.elim _ _
  exact (congrArg (fun p : Sums Ideal => p.2.2.1 (ix2 0 k)) (sums_step m c t ht)).trans ((Pay.dlcbNext_at _ _ _ _).trans (congrArg (_ + ·) (dlcb_blk m c t k)))

theorem sum33 (r : Fin 1) (k : Fin 1024) : ∑ s : Fin 16384, (fun s : Fin 16384 => dxc (m (c.tc.loc main_arg6)) (m (c.tc.loc main_arg7)) s k) s = dlcbArr (m (c.tc.loc main_arg6)) (m (c.tc.loc main_arg7)) (ix2 r k) := by
  unfold dlcbArr; rfl

theorem final33 : (dats m 0 c).arrAt 33 (cfgs 0).N = dlcbArr (m (c.tc.loc main_arg6)) (m (c.tc.loc main_arg7)) := by
  refine (dats m 0 c).arrAt_eq_of_covers 33 _ (by decide +kernel) fun t hf y => ?_
  blk_simp
  rw [after0_33]
  idx_vars y
  exact (total (fun n h => (sums m c n h).2.2.1 (ix2 y0 y1)) _ (start33 m c y0 y1) (step33 m c y0 y1) t ((flush0_33 t).mp hf)).trans
    ((sum33 m c y0 y1).trans (congrArg (dlcbArr (m (c.tc.loc main_arg6)) (m (c.tc.loc main_arg7))) (emb33 t y0 y1).symm))

theorem first34 (t : Fin cfg0.N) : (first m c t).2.2.2 = dscwFirst (grid0.coords t) (iblk m c 5 t) (iblk m c 6 t) (iblk m c 7 t) (iblk m c 8 t) (iblk m c 9 t) (iblk m c 10 t) (iblk m c 17 t) := by
  unfold first; dsimp only

theorem next34 (t : Fin cfg0.N) (p : Sums Ideal) : (next m c t p).2.2.2 = dscwNext (grid0.coords t) (iblk m c 5 t) (iblk m c 6 t) (iblk m c 7 t) (iblk m c 8 t) (iblk m c 9 t) (iblk m c 10 t) (iblk m c 17 t) p.2.2.2 := by
  unfold next; dsimp only

theorem start34 (r : Fin 3) (k : Fin 512) (t : Fin cfg0.N) (ht : t.val = 0) : (sums m c t.val t.isLt).2.2.2 (ix2 r k)
    = ∑ y : Fin 256, (fun s : Fin 16384 => entry (m (c.tc.loc main_arg8)) s k * tap3 r (fun s => cv (m (c.tc.loc main_arg0)) (m (c.tc.loc main_arg2)) (m (c.tc.loc main_arg3)) s k * xv (m (c.tc.loc main_arg0)) (m (c.tc.loc main_arg2)) (m (c.tc.loc main_arg3)) s k) s) (at_ (tile t) y) := by
  exact (congrArg (fun p : Sums Ideal => p.2.2.2 (ix2 r k)) (sums_start m c t ht)).trans ((congrFun (first34 m c t) (ix2 r k)).trans (dscw_blk m c t r k))

theorem step34 (r : Fin 3) (k : Fin 512) (t : Fin cfg0.N) (ht : t.val ≠ 0) : (sums m c t.val t.isLt).2.2.2 (ix2 r k)
    = @HAdd.hAdd EReal EReal EReal _ ((sums m c (t.val - 1) (Nat.lt_of_le_of_lt (Nat.sub_le _ _) t.isLt)).2.2.2 (ix2 r k)) (∑ y : Fin 256, (fun s : Fin 16384 => entry (m (c.tc.loc main_arg8)) s k * tap3 r (fun s => cv (m (c.tc.loc main_arg0)) (m (c.tc.loc main_arg2)) (m (c.tc.loc main_arg3)) s k * xv (m (c.tc.loc main_arg0)) (m (c.tc.loc main_arg2)) (m (c.tc.loc main_arg3)) s k) s) (at_ (tile t) y)) := by
  exact (congrArg (fun p : Sums Ideal => p.2.2.2 (ix2 r k)) (sums_step m c t ht)).trans ((congrFun (next34 m c t _) (ix2 r k)).trans (dscwNext_blk m c t _ r k))

theorem sum34 (r : Fin 3) (k : Fin 512) : ∑ s : Fin 16384, (fun s : Fin 16384 => entry (m (c.tc.loc main_arg8)) s k * tap3 r (fun s => cv (m (c.tc.loc main_arg0)) (m (c.tc.loc main_arg2)) (m (c.tc.loc main_arg3)) s k * xv (m (c.tc.loc main_arg0)) (m (c.tc.loc main_arg2)) (m (c.tc.loc main_arg3)) s k) s) s = dscwArr (m (c.tc.loc main_arg0)) (m (c.tc.loc main_arg2)) (m (c.tc.loc main_arg3)) (m (c.tc.loc main_arg8)) (ix2 r k) := by
  unfold dscwArr; rfl

theorem final34 : (dats m 0 c).arrAt 34 (cfgs 0).N = dscwArr (m (c.tc.loc main_arg0)) (m (c.tc.loc main_arg2)) (m (c.tc.loc main_arg3)) (m (c.tc.loc main_arg8)) := by
  refine (dats m 0 c).arrAt_eq_of_covers 34 _ (by decide +kernel) fun t hf y => ?_
  blk_simp
  rw [after0_34]
  idx_vars y
  exact (total (fun n h => (sums m c n h).2.2.2 (ix2 y0 y1)) _ (start34 m c y0 y1) (step34 m c y0 y1) t ((flush0_34 t).mp hf)).trans
    ((sum34 m c y0 y1).trans (congrArg (dscwArr (m (c.tc.loc main_arg0)) (m (c.tc.loc main_arg2)) (m (c.tc.loc main_arg3)) (m (c.tc.loc main_arg8))) (emb34 t y0 y1).symm))

end Cert.MixInIdeal.Val

end
-- ==== Proof.MixInTie.lean ====
/- The input layer's gradient is what the chain rule says: the kernel's six results are the reference's, on real arguments. -/
module

public import proofs.«01_k».proof.Proof.MixInKernel
public import proofs.«01_k».proof.Proof.Gen.MixInRefIdeal.Read
public import proofs.«01_k».proof.Defs

@[expose] public section

set_option maxRecDepth 16384

noncomputable section

namespace Cert.MixInTie

open Idealize.ShloMosaic Idealize.ShloMosaic.TcCoe Idealize.SL.Sem
open Cert.MixInIdeal (S1x16384x1024 S1024 S1024x7680 S16384x1024 S16384x512 S16384x3072 S16384x7680 S4x1024 S3x512 S1x1024 nD τ)
open Cert.MixInRefIdeal.Read Cert.Finite Cert.Shift
open Cert.MixInIdeal.Val (Tok Vc Wt Wide Half Taps4 Taps3 row z lx cv xv entry dxc dlx dp dz dh dxArr dzArr dpgArr dlcwArr dlcbArr dscwArr)

variable {x dy : Tok} {pg : Vc} {w : Wt} {lcw : Taps4} {scw : Taps3} {f r : Wide} {dcp : Half} {dgate : Wide} {dscb dsu dsv : Half}
  {dzm : FVec Ideal S16384x3072 .f32}

theorem meanSq_eq (x : Tok) (s : Fin 16384) : val_main_v7 (F := Ideal) x (ix2 s 0) = Rows.meanSq (row x s) := by
  unfold Rows.meanSq row
  pointwise [val_main_cst, val_main_v0, val_main_v1, val_main_v2, val_main_v3, val_main_cst_0, val_main_v4, val_main_v5, val_main_cst_1, val_main_v6, val_main_v7]

theorem z_eq (x : Tok) (pg : Vc) (w : Wt) (s : Fin 16384) (q : Fin 7680) : val_main_v17 (F := Ideal) x pg w (ix2 s q) = z x pg w s q := by
  pointwise [val_main_v0, val_main_v8, val_main_v12, val_main_v13, val_main_v14, val_main_v15, val_main_v16, val_main_v17]
  simp only [meanSq_eq, Fin.isValue]
  rfl

/-- A row before, read through zero rows laid around the array, times a tap, -/
theorem behind_mul (d : ℕ) (X : Fin 16384 → EReal) (s : Fin 16384) (a : EReal) {p : Prop} [Decidable p] (n : p → Fin 16384)
    (hp : p ↔ d ≤ s.val) (hn : ∀ h, (n h).val + d = s.val) : (if h : p then X (n h) * a else 0) = a * behind d X s := by
  unfold behind
  by_cases h : d ≤ s.val
  · rw [dif_pos h, dif_pos (hp.2 h), mul_comm]
    exact congrArg (fun i => a * X i) (Fin.ext (by have := hn (hp.2 h); dsimp only; omega))
  · rw [dif_neg h, dif_neg (fun k => h (hp.1 k)), mul_zero]

/-- and a row after. -/
theorem ahead_mul (d : ℕ) (X : Fin 16384 → EReal) (s : Fin 16384) (a : EReal) {p : Prop} [Decidable p] (n : p → Fin 16384)
    (hp : p ↔ s.val + d < 16384) (hn : ∀ h, (n h).val = s.val + d) : (if h : p then X (n h) * a else 0) = a * ahead d X s := by
  unfold ahead
  by_cases h : s.val + d < 16384
  · rw [dif_pos h, dif_pos (hp.2 h), mul_comm]
    exact congrArg (fun i => a * X i) (Fin.ext (hn (hp.2 h)))
  · rw [dif_neg h, dif_neg (fun k => h (hp.1 k)), mul_zero]

/-- The same two in an array set between zero rows. -/
theorem behind_pad (d : ℕ) (X : Fin 16384 → EReal) (s : Fin 16384) {p q : Prop} [Decidable p] [Decidable q] (n : ¬ p → q → Fin 16384)
    (hp : (¬ p ∧ q) ↔ d ≤ s.val) (hn : ∀ k h, (n k h).val + d = s.val) :
    (if k : p then 0 else if h : q then X (n k h) else 0) = behind d X s := by
  unfold behind
  by_cases h : d ≤ s.val
  · rw [dif_pos h, dif_neg (hp.2 h).1, dif_pos (hp.2 h).2]
    exact congrArg X (Fin.ext (by have := hn (hp.2 h).1 (hp.2 h).2; dsimp only; omega))
  · rw [dif_neg h]
    by_cases k : p
    · rw [dif_pos k]
    · rw [dif_neg k, dif_neg (fun l => h (hp.1 ⟨k, l⟩))]

theorem ahead_pad (d : ℕ) (X : Fin 16384 → EReal) (s : Fin 16384) {p q : Prop} [Decidable p] [Decidable q] (n : ¬ p → q → Fin 16384)
    (hp : (¬ p ∧ q) ↔ s.val + d < 16384) (hn : ∀ k h, (n k h).val = s.val + d) :
    (if k : p then 0 else if h : q then X (n k h) else 0) = ahead d X s := by
  unfold ahead
  by_cases h : s.val + d < 16384
  · rw [dif_pos h, dif_neg (hp.2 h).1, dif_pos (hp.2 h).2]
    exact congrArg X (Fin.ext (hn (hp.2 h).1 (hp.2 h).2))
  · rw [dif_neg h]
    by_cases k : p
    · rw [dif_pos k]
    · rw [dif_neg k, dif_neg (fun l => h (hp.1 ⟨k, l⟩))]

theorem dp_eq (s : Fin 16384) (k : Fin 512) : val_main_v127 (F := Ideal) scw dcp (ix2 s k) = dp scw dcp s k := by
  pointwise [val_main_cst_17, val_main_v94, val_main_v86, val_main_v87, val_main_v88, val_main_v98, val_main_v99, val_main_v103, val_main_cst_21, val_main_v79, val_main_v80, val_main_v81, val_main_v107, val_main_v93, val_main_v108, val_main_v113, val_main_v114, val_main_cst_25, val_main_v71, val_main_v72, val_main_v73, val_main_v118, val_main_v119, val_main_v124, val_main_v125, val_main_v127]
  unfold dp
  refine (congrArg₂ (· + ·) (congrArg₂ (· + ·)
    (behind_mul 1 (fun s => entry dcp s k) s (scw (ix2 2 k)) (fun h => ⟨1 + s.val - 2, h.2⟩) (by omega) (fun h => by dsimp only; omega)) rfl)
    (ahead_mul 1 (fun s => entry dcp s k) s (scw (ix2 0 k)) (fun h => ⟨1 + s.val, h⟩) (by omega) (fun h => by dsimp only; omega))).trans ?_
  rw [mul_comm (dcp (ix2 s k))]
  unfold entry
  abel

theorem dlx_eq (s : Fin 16384) (k : Fin 1024) : val_main_v178 (F := Ideal) lcw f r (ix2 s k) = dlx lcw f r s k := by
  pointwise [val_main_cst_31, val_main_v92, val_main_v131, val_main_v55, val_main_v56, val_main_v57, val_main_v138, val_main_v139, val_main_v143, val_main_cst_35, val_main_v48, val_main_v49, val_main_v50, val_main_v147, val_main_v148, val_main_v153, val_main_v154, val_main_cst_39, val_main_v41, val_main_v42, val_main_v43, val_main_v158, val_main_v159, val_main_v164, val_main_v165, val_main_cst_43, val_main_v33, val_main_v34, val_main_v35, val_main_v169, val_main_v170, val_main_v175, val_main_v176, val_main_v178]
  unfold dlx
  refine (congrArg₂ (· + ·) (congrArg₂ (· + ·) (congrArg₂ (· + ·)
    (behind_mul 1 (fun s => dxc f r s k) s (lcw (ix2 3 k)) (fun h => ⟨2 + s.val - 3, h.2⟩) (by omega) (fun h => by dsimp only; omega)) rfl)
    (ahead_mul 1 (fun s => dxc f r s k) s (lcw (ix2 1 k)) (fun h => ⟨2 + s.val - 1, h.2⟩) (by omega) (fun h => by dsimp only; omega)))
    (ahead_mul 2 (fun s => dxc f r s k) s (lcw (ix2 0 k)) (fun h => ⟨2 + s.val, h⟩) (by omega) (fun h => by dsimp only; omega))).trans ?_
  rw [mul_comm (f (ix2 s k) + r (ix2 s k))]
  unfold dxc
  abel

theorem dscw_eq (j : S3x512.Idx) : dscwArr x pg w dcp j = val_main_v123 (F := Ideal) x pg w dcp j := by
  idx_vars j
  symm
  pointwise [val_main_cst_16, val_main_cst_15, val_main_cst_14, val_main_v22, val_main_v23, val_main_v64, val_main_cst_9, val_main_v65, val_main_cst_10, val_main_v66, val_main_v67, val_main_v85, val_main_v94, val_main_v95, val_main_v96, val_main_v97, val_main_v100, val_main_v101, val_main_v102, val_main_cst_20, val_main_cst_19, val_main_cst_18, val_main_v78, val_main_v93, val_main_v104, val_main_v105, val_main_v106, val_main_v109, val_main_v110, val_main_v111, val_main_v112, val_main_cst_24, val_main_cst_23, val_main_cst_22, val_main_v70, val_main_v115, val_main_v116, val_main_v117, val_main_v120, val_main_v121, val_main_v122, val_main_v123]
  unfold dscwArr
  simp only [z_eq, Fin.sum_univ_one]
  match j0 with
  | 0 =>
    rw [dif_neg (by decide), dif_neg (by decide), dif_pos (by decide), zero_add, zero_add]
    refine Finset.sum_congr rfl fun s _ => ?_
    exact (congrArg (fun a : EReal => a * _) (behind_pad 1 (fun s => cv x pg w s j1 * xv x pg w s j1) s (fun _ h => ⟨s.val - 1, h⟩) (by omega) (fun k h => by dsimp only; omega))).trans (mul_comm _ _)
  | 1 =>
    rw [dif_neg (by decide), dif_pos (by decide), dif_neg (by decide), zero_add, add_zero]
    exact Finset.sum_congr rfl fun s _ => mul_comm _ _
  | 2 =>
    rw [dif_pos (by decide), dif_neg (by decide), dif_neg (by decide), add_zero, add_zero]
    refine Finset.sum_congr rfl fun s _ => ?_
    exact (congrArg (fun a : EReal => a * _) (ahead_pad 1 (fun s => cv x pg w s j1 * xv x pg w s j1) s (fun _ h => ⟨2 + s.val - 1, h⟩) (by omega) (fun k h => by dsimp only; omega))).trans (mul_comm _ _)

theorem dlcw_eq (j : S4x1024.Idx) : dlcwArr x pg w f r j = val_main_v174 (F := Ideal) x pg w f r j := by
  idx_vars j
  symm
  pointwise [val_main_cst_30, val_main_cst_29, val_main_cst_28, val_main_v92, val_main_v131, val_main_v20, val_main_cst_4, val_main_v27, val_main_cst_5, val_main_v28, val_main_v29, val_main_v54, val_main_v135, val_main_v136, val_main_v137, val_main_v140, val_main_v141, val_main_v142, val_main_cst_34, val_main_cst_33, val_main_cst_32, val_main_v47, val_main_v144, val_main_v145, val_main_v146, val_main_v149, val_main_v150, val_main_v151, val_main_v152, val_main_cst_38, val_main_cst_37, val_main_cst_36, val_main_v40, val_main_v155, val_main_v156, val_main_v157, val_main_v160, val_main_v161, val_main_v162, val_main_v163, val_main_cst_42, val_main_cst_41, val_main_cst_40, val_main_v32, val_main_v166, val_main_v167, val_main_v168, val_main_v171, val_main_v172, val_main_v173, val_main_v174]
  unfold dlcwArr
  simp only [z_eq, Fin.sum_univ_one]
  match j0 with
  | 0 =>
    rw [dif_neg (by decide), dif_neg (by decide), dif_neg (by decide), dif_pos (by decide), zero_add, zero_add, zero_add]
    refine Finset.sum_congr rfl fun s _ => ?_
    exact (congrArg (fun a : EReal => a * _) (behind_pad 2 (fun s => lx x pg w s j1) s (fun _ h => ⟨s.val - 2, h⟩) (by omega) (fun k h => by dsimp only; omega))).trans (mul_comm _ _)
  | 1 =>
    rw [dif_neg (by decide), dif_neg (by decide), dif_pos (by decide), dif_neg (by decide), zero_add, zero_add, add_zero]
    refine Finset.sum_congr rfl fun s _ => ?_
    exact (congrArg (fun a : EReal => a * _) (behind_pad 1 (fun s => lx x pg w s j1) s (fun _ h => ⟨1 + s.val - 2, h⟩) (by omega) (fun k h => by dsimp only; omega))).trans (mul_comm _ _)
  | 2 =>
    rw [dif_neg (by decide), dif_pos (by decide), dif_neg (by decide), dif_neg (by decide), zero_add, add_zero, add_zero]
    exact Finset.sum_congr rfl fun s _ => mul_comm _ _
  | 3 =>
    rw [dif_pos (by decide), dif_neg (by decide), dif_neg (by decide), dif_neg (by decide), add_zero, add_zero, add_zero]
    refine Finset.sum_congr rfl fun s _ => ?_
    exact (congrArg (fun a : EReal => a * _) (ahead_pad 1 (fun s => lx x pg w s j1) s (fun _ h => ⟨3 + s.val - 2, h⟩) (by omega) (fun k h => by dsimp only; omega))).trans (mul_comm _ _)

theorem dlcb_eq (j : S1x1024.Idx) : dlcbArr f r j = val_main_v206 (F := Ideal) f r j := by
  idx_vars j
  unfold dlcbArr dxc
  pointwise [val_main_cst_27, val_main_cst_26, val_main_v92, val_main_v132, val_main_v133, val_main_v134, val_main_v206]
  simp only [Fin.sum_univ_one]

theorem dpx_eq (s : Fin 16384) (k : Fin 512) : val_main_v130 (F := Ideal) x pg w scw dcp (ix2 s k) = dp scw dcp s k * xv x pg w s k := by
  pointwise [val_main_v23, val_main_v130]
  exact congrArg₂ (fun a b : EReal => a * b) (dp_eq s k) (z_eq x pg w s _)

theorem dpc_eq (s : Fin 16384) (k : Fin 512) : val_main_v129 (F := Ideal) x pg w scw dcp (ix2 s k) = dp scw dcp s k * cv x pg w s k := by
  pointwise [val_main_v22, val_main_v129]
  exact (mul_comm _ _).trans (congrArg₂ (fun a b : EReal => a * b) (dp_eq s k) (z_eq x pg w s _))

/-- Off the axis of columns a piece is read at the same row. -/
theorem same_row {n n' : ℕ} (s : Fin 16384) (i : Fin n) (q : Fin n') (b : Fin 2) (hb : b ≠ 1) :
    ((ix2 s i : (⟨2, ![16384, n]⟩ : Shape).Idx) b).val = ((ix2 s q : (⟨2, ![16384, n']⟩ : Shape).Idx) b).val := by
  match b with
  | 0 => rfl
  | 1 => exact absurd rfl hb

theorem dz_eq (s : Fin 16384) (q : Fin 7680) : val_main_v180 (F := Ideal) x pg w lcw scw f r dcp dgate dscb dsu dsv dzm (ix2 s q) = dz x pg w lcw scw f r dcp dgate dscb dsu dsv dzm s q := by
  unfold dz val_main_v180
  split_ifs
  · exact (concatenate_apply_piece 1 _ _ (ix2 s q) 0 (by simp only [List.length_cons, List.length_nil]; omega) Cert.MixInRefIdeal.S16384x1024 dgate rfl rfl 0 (by rfl)
      (ix2 s ⟨q.val, by omega⟩) (fun b hb => same_row s _ q b hb) (by show 0 + (q.val) = q.val; omega)).trans (rfl)
  · exact (concatenate_apply_piece 1 _ _ (ix2 s q) 1 (by simp only [List.length_cons, List.length_nil]; omega) Cert.MixInRefIdeal.S16384x1024 (val_main_v178 (F := Ideal) lcw f r) rfl rfl 1024 (by rfl)
      (ix2 s ⟨q.val - 1024, by omega⟩) (fun b hb => same_row s _ q b hb) (by show 1024 + (q.val - 1024) = q.val; omega)).trans (dlx_eq _ _)
  · exact (concatenate_apply_piece 1 _ _ (ix2 s q) 2 (by simp only [List.length_cons, List.length_nil]; omega) Cert.MixInRefIdeal.S16384x512 dscb rfl rfl 2048 (by rfl)
      (ix2 s ⟨q.val - 2048, by omega⟩) (fun b hb => same_row s _ q b hb) (by show 2048 + (q.val - 2048) = q.val; omega)).trans (rfl)
  · exact (concatenate_apply_piece 1 _ _ (ix2 s q) 3 (by simp only [List.length_cons, List.length_nil]; omega) Cert.MixInRefIdeal.S16384x512 (val_main_v130 (F := Ideal) x pg w scw dcp) rfl rfl 2560 (by rfl)
      (ix2 s ⟨q.val - 2560, by omega⟩) (fun b hb => same_row s _ q b hb) (by show 2560 + (q.val - 2560) = q.val; omega)).trans (dpx_eq _ _)
  · exact (concatenate_apply_piece 1 _ _ (ix2 s q) 4 (by simp only [List.length_cons, List.length_nil]; omega) Cert.MixInRefIdeal.S16384x512 (val_main_v129 (F := Ideal) x pg w scw dcp) rfl rfl 3072 (by rfl)
      (ix2 s ⟨q.val - 3072, by omega⟩) (fun b hb => same_row s _ q b hb) (by show 3072 + (q.val - 3072) = q.val; omega)).trans (dpc_eq _ _)
  · exact (concatenate_apply_piece 1 _ _ (ix2 s q) 5 (by simp only [List.length_cons, List.length_nil]; omega) Cert.MixInRefIdeal.S16384x512 dsu rfl rfl 3584 (by rfl)
      (ix2 s ⟨q.val - 3584, by omega⟩) (fun b hb => same_row s _ q b hb) (by show 3584 + (q.val - 3584) = q.val; omega)).trans (rfl)
  · exact (concatenate_apply_piece 1 _ _ (ix2 s q) 6 (by simp only [List.length_cons, List.length_nil]; omega) Cert.MixInRefIdeal.S16384x512 dsv rfl rfl 4096 (by rfl)
      (ix2 s ⟨q.val - 4096, by omega⟩) (fun b hb => same_row s _ q b hb) (by show 4096 + (q.val - 4096) = q.val; omega)).trans (rfl)
  · exact (concatenate_apply_piece 1 _ _ (ix2 s q) 7 (by simp only [List.length_cons, List.length_nil]; omega) Cert.MixInRefIdeal.S16384x3072 dzm rfl rfl 4608 (by rfl)
      (ix2 s ⟨q.val - 4608, by omega⟩) (fun b hb => same_row s _ q b hb) (by show 4608 + (q.val - 4608) = q.val; omega)).trans (rfl)

theorem dh_eq (s : Fin 16384) (l : Fin 1024) : val_main_v182 (F := Ideal) x pg w lcw scw f r dcp dgate dscb dsu dsv dzm (ix2 s l) = dh x pg w lcw scw f r dcp dgate dscb dsu dsv dzm s l := by
  pointwise [val_main_v182]
  simp only [dz_eq]
  rfl

theorem dzArr_eq (j : S16384x7680.Idx) : dzArr x pg w lcw scw f r dcp dgate dscb dsu dsv dzm j = val_main_v204 (F := Ideal) x pg w lcw scw f r dcp dgate dscb dsu dsv dzm j := by
  idx_vars j
  exact (dz_eq j0 j1).symm

theorem dpg_eq (j : S1x1024.Idx) : dpgArr x pg w lcw scw f r dcp dgate dscb dsu dsv dzm j = val_main_v205 (F := Ideal) x pg w lcw scw f r dcp dgate dscb dsu dsv dzm j := by
  idx_vars j
  unfold dpgArr
  pointwise [val_main_cst_45, val_main_cst_44, val_main_v0, val_main_v8, val_main_v12, val_main_v13, val_main_v183, val_main_v184, val_main_v185, val_main_v188, val_main_v205]
  simp only [Fin.sum_univ_one, dh_eq, Fin.isValue, meanSq_eq]
  exact Finset.sum_congr rfl fun s _ => mul_comm _ _

theorem isR_behind {X : Fin 16384 → EReal} (h : ∀ s, IsR (X s)) (d : ℕ) (s : Fin 16384) : IsR (behind d X s) := by
  unfold behind; split_ifs
  · exact h _
  · exact IsR.zero

theorem isR_ahead {X : Fin 16384 → EReal} (h : ∀ s, IsR (X s)) (d : ℕ) (s : Fin 16384) : IsR (ahead d X s) := by
  unfold ahead; split_ifs
  · exact h _
  · exact IsR.zero

theorem isR_z (hx : IsReal x) (hpg : IsReal pg) (hw : IsReal w) (s : Fin 16384) (q : Fin 7680) : IsR (z x pg w s q) :=
  IsR.sum _ fun l => (((hx _).mul (Rows.isR_scale (fun l => hx _))).mul (hpg _)).mul (hw _)

theorem isR_dlx (hl : IsReal lcw) (hf : IsReal f) (hr : IsReal r) (s : Fin 16384) (k : Fin 1024) : IsR (dlx lcw f r s k) := by
  have e : ∀ s, IsR (dxc f r s k) := fun s => (hf _).add (hr _)
  exact ((((hl _).mul (e s)).add ((hl _).mul (isR_ahead e 2 s))).add ((hl _).mul (isR_ahead e 1 s))).add ((hl _).mul (isR_behind e 1 s))

theorem isR_dp (hs : IsReal scw) (hd : IsReal dcp) (s : Fin 16384) (k : Fin 512) : IsR (dp scw dcp s k) := by
  have e : ∀ s, IsR (entry dcp s k) := fun s => hd _
  exact (((hs _).mul (e s)).add ((hs _).mul (isR_ahead e 1 s))).add ((hs _).mul (isR_behind e 1 s))

theorem isR_dz (hx : IsReal x) (hpg : IsReal pg) (hw : IsReal w) (hl : IsReal lcw) (hs : IsReal scw) (hf : IsReal f) (hr : IsReal r)
    (hd : IsReal dcp) (hg : IsReal dgate) (hb : IsReal dscb) (hu : IsReal dsu) (hv : IsReal dsv) (hm : IsReal dzm) (s : Fin 16384) (q : Fin 7680) :
    IsR (dz x pg w lcw scw f r dcp dgate dscb dsu dsv dzm s q) := by
  unfold dz
  split_ifs
  · exact hg _
  · exact isR_dlx hl hf hr _ _
  · exact hb _
  · exact (isR_dp hs hd _ _).mul (isR_z hx hpg hw _ _)
  · exact (isR_dp hs hd _ _).mul (isR_z hx hpg hw _ _)
  · exact hu _
  · exact hv _
  · exact hm _

theorem isR_dh (hx : IsReal x) (hpg : IsReal pg) (hw : IsReal w) (hl : IsReal lcw) (hs : IsReal scw) (hf : IsReal f) (hr : IsReal r)
    (hd : IsReal dcp) (hg : IsReal dgate) (hb : IsReal dscb) (hu : IsReal dsu) (hv : IsReal dsv) (hm : IsReal dzm) (s : Fin 16384) :
    IsReal (dh x pg w lcw scw f r dcp dgate dscb dsu dsv dzm s) := fun l =>
  IsR.sum _ fun q => (isR_dz hx hpg hw hl hs hf hr hd hg hb hu hv hm s q).mul (hw _)

theorem dx_eq (hx : IsReal x) (hpg : IsReal pg) (hw : IsReal w) (hl : IsReal lcw) (hs : IsReal scw) (hf : IsReal f) (hr : IsReal r)
    (hd : IsReal dcp) (hg : IsReal dgate) (hb : IsReal dscb) (hu : IsReal dsu) (hv : IsReal dsv) (hm : IsReal dzm) (j : S16384x1024.Idx) :
    dxArr x dy pg w lcw scw f r dcp dgate dscb dsu dsv dzm j = val_main_v203 (F := Ideal) x dy pg w lcw scw f r dcp dgate dscb dsu dsv dzm j := by
  idx_vars j
  unfold dxArr
  pointwise [val_main_v181, val_main_v14, val_main_v186, val_main_v187, val_main_cst, val_main_v0, val_main_v1, val_main_v2, val_main_v3, val_main_cst_0, val_main_v4, val_main_v5, val_main_cst_1, val_main_v6, val_main_v7, val_main_v8, val_main_v192, val_main_v193, val_main_v194, val_main_cst_48, val_main_cst_2, val_main_v10, val_main_v9, val_main_v11, val_main_cst_46, val_main_v189, val_main_v190, val_main_v191, val_main_v195, val_main_cst_47, val_main_v196, val_main_v197, val_main_v198, val_main_v199, val_main_v200, val_main_v201, val_main_v202, val_main_v203]
  simp only [Fin.sum_univ_one, dh_eq, Fin.isValue, meanSq_eq]
  refine (congrArg (_ + ·) (Rows.back_eq_chain (isR_dh hx hpg hw hl hs hf hr hd hg hb hu hv hm j0) (fun l => hx _) (fun l => hpg _) j1)).trans ?_
  exact (add_assoc _ _ _).symm.trans (congrArg (· + _) (add_assoc _ _ _).symm)

open Cert.MixInIdeal in
/-- A device's array. -/
abbrev loc (c : Dev nD) (r : Ref sig .tc) : Loc nD τ sig := (c : Thread nD τ).loc r

open Cert.MixInIdeal in
/-- What the precondition says of the arguments. -/
theorem real_args (m : (ℓ : Loc Cert.MixInIdeal.nD Cert.MixInIdeal.τ Cert.MixInIdeal.sig) → Buf (Elt Ideal) ℓ) [Cert.Pre_mix_in_finite.Facts]
    (h : Cert.Pre_MixInIdeal_mix_in_finite m) (c : Dev Cert.MixInIdeal.nD) :
    IsReal (m (loc c main_arg0)) ∧ IsReal (m (loc c main_arg2)) ∧ IsReal (m (loc c main_arg3)) ∧ IsReal (m (loc c main_arg4)) ∧ IsReal (m (loc c main_arg5)) ∧ IsReal (m (loc c main_arg6)) ∧ IsReal (m (loc c main_arg7)) ∧ IsReal (m (loc c main_arg8)) ∧ IsReal (m (loc c main_arg9)) ∧ IsReal (m (loc c main_arg10)) ∧ IsReal (m (loc c main_arg11)) ∧ IsReal (m (loc c main_arg12)) ∧ IsReal (m (loc c main_arg13)) := by
  have e := congrFun (h c) (fun a => a.elim0)
  unfold Cert.Pre_mix_in_finite.fn Cert.Pre_mix_in_finite.fn_part1 Cert.Pre_mix_in_finite.fn_part2 Cert.Pre_mix_in_finite.fn_part3 at e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨isReal_of_test _ _ _ _ _ _ e0, isReal_of_test _ _ _ _ _ _ e2, isReal_of_test _ _ _ _ _ _ e3,
    isReal_of_test _ _ _ _ _ _ e4, isReal_of_test _ _ _ _ _ _ e5, isReal_of_test _ _ _ _ _ _ e6, isReal_of_test _ _ _ _ _ _ e7,
    isReal_of_test _ _ _ _ _ _ e8, isReal_of_test _ _ _ _ _ _ e9, isReal_of_test _ _ _ _ _ _ e10, isReal_of_test _ _ _ _ _ _ e11,
    isReal_of_test _ _ _ _ _ _ e12, isReal_of_test _ _ _ _ _ _ e13⟩

set_option maxHeartbeats 1000000 in
open Cert.MixInIdeal Cert.MixInIdeal.Gen in
/-- The kernel program's run, its results the reference's terms of the same arguments. -/
theorem run (m : (ℓ : Loc Cert.MixInIdeal.nD Cert.MixInIdeal.τ Cert.MixInIdeal.sig) → Buf (Elt Ideal) ℓ) (g : Dev Cert.MixInIdeal.nD → PrngReg) [Cert.Pre_mix_in_finite.Facts]
    (hp : Cert.Pre_MixInIdeal_mix_in_finite m) :
    θ_run (Cert.MixInIdeal.defs (F := Ideal)) (onTc (τ := Cert.MixInIdeal.τ) (Cert.MixInIdeal.main (F := Ideal))) ⟨m, fun _ => 0, g⟩
      (fun r => ∀ c : Dev Cert.MixInIdeal.nD,
        r.2.mem (loc c main_v26_0) = val_main_v203 (F := Ideal) (m (loc c main_arg0)) (m (loc c main_arg1)) (m (loc c main_arg2)) (m (loc c main_arg3)) (m (loc c main_arg4)) (m (loc c main_arg5)) (m (loc c main_arg6)) (m (loc c main_arg7)) (m (loc c main_arg8)) (m (loc c main_arg9)) (m (loc c main_arg10)) (m (loc c main_arg11)) (m (loc c main_arg12)) (m (loc c main_arg13))
        ∧ r.2.mem (loc c main_v26_1) = val_main_v204 (F := Ideal) (m (loc c main_arg0)) (m (loc c main_arg2)) (m (loc c main_arg3)) (m (loc c main_arg4)) (m (loc c main_arg5)) (m (loc c main_arg6)) (m (loc c main_arg7)) (m (loc c main_arg8)) (m (loc c main_arg9)) (m (loc c main_arg10)) (m (loc c main_arg11)) (m (loc c main_arg12)) (m (loc c main_arg13))
        ∧ r.2.mem (loc c main_v26_2) = val_main_v205 (F := Ideal) (m (loc c main_arg0)) (m (loc c main_arg2)) (m (loc c main_arg3)) (m (loc c main_arg4)) (m (loc c main_arg5)) (m (loc c main_arg6)) (m (loc c main_arg7)) (m (loc c main_arg8)) (m (loc c main_arg9)) (m (loc c main_arg10)) (m (loc c main_arg11)) (m (loc c main_arg12)) (m (loc c main_arg13))
        ∧ r.2.mem (loc c main_v26_3) = val_main_v174 (F := Ideal) (m (loc c main_arg0)) (m (loc c main_arg2)) (m (loc c main_arg3)) (m (loc c main_arg6)) (m (loc c main_arg7))
        ∧ r.2.mem (loc c main_v26_4) = val_main_v206 (F := Ideal) (m (loc c main_arg6)) (m (loc c main_arg7))
        ∧ r.2.mem (loc c main_v26_5) = val_main_v123 (F := Ideal) (m (loc c main_arg0)) (m (loc c main_arg2)) (m (loc c main_arg3)) (m (loc c main_arg8))
        ∧ r.2.mem (loc c main_arg0) = m (loc c main_arg0) ∧ r.2.mem (loc c main_arg1) = m (loc c main_arg1) ∧ r.2.mem (loc c main_arg2) = m (loc c main_arg2) ∧ r.2.mem (loc c main_arg3) = m (loc c main_arg3) ∧ r.2.mem (loc c main_arg4) = m (loc c main_arg4) ∧ r.2.mem (loc c main_arg5) = m (loc c main_arg5) ∧ r.2.mem (loc c main_arg6) = m (loc c main_arg6) ∧ r.2.mem (loc c main_arg7) = m (loc c main_arg7) ∧ r.2.mem (loc c main_arg8) = m (loc c main_arg8) ∧ r.2.mem (loc c main_arg9) = m (loc c main_arg9) ∧ r.2.mem (loc c main_arg10) = m (loc c main_arg10) ∧ r.2.mem (loc c main_arg11) = m (loc c main_arg11) ∧ r.2.mem (loc c main_arg12) = m (loc c main_arg12) ∧ r.2.mem (loc c main_arg13) = m (loc c main_arg13)) := by
  refine (θ_run _ _ _).mono (fun r h c => ?_) (θ_run_and (Whole.run_main m g) (Whole.frame m g))
  obtain ⟨h0, h2, h3, h4, h5, h6, h7, h8, h9, h10, h11, h12, h13⟩ := real_args m hp c
  refine ⟨?_, ?_, ?_, ?_, ?_, ?_, h.2.1 c⟩
  · exact ((h.1.out_eq c 29).trans (Val.final29 m c)).trans (funext fun j => dx_eq h0 h2 h3 h4 h5 h6 h7 h8 h9 h10 h11 h12 h13 j)
  · exact ((h.1.out_eq c 30).trans (Val.final30 m c)).trans (funext fun j => dzArr_eq j)
  · exact ((h.1.out_eq c 31).trans (Val.final31 m c)).trans (funext fun j => dpg_eq j)
  · exact ((h.1.out_eq c 32).trans (Val.final32 m c)).trans (funext fun j => dlcw_eq j)
  · exact ((h.1.out_eq c 33).trans (Val.final33 m c)).trans (funext fun j => dlcb_eq j)
  · exact ((h.1.out_eq c 34).trans (Val.final34 m c)).trans (funext fun j => dscw_eq j)

end Cert.MixInTie

end
-- ==== Proof.MixOutBlocks.lean ====
/- The blocks one grid point of the output layer's gradient leaves, as functions of the blocks it reads. -/
module

public import proofs.«01_k».proof.Proof.Gen.MixOutIdeal.Skeleton
public import Idealize.ShloMosaic.Lib.Pipeline.ValueKit

@[expose] public section

set_option maxRecDepth 16384

noncomputable section

namespace Cert.MixOutIdeal.Body

open Cert.MixOutIdeal Cert.MixOutIdeal.Gen Idealize.ShloMosaic Idealize.ShloMosaic.TcCoe

variable {F : FTy → Type} [FloatOps F] [Named F]

/-- The row numbers within a block of 256 rows. -/
abbrev rowIds := iota Kind.tc S256x1 32 [0] iota_S256x1_d0_w32

/-- The grid point's number, as the body computes with it. -/
abbrev pt (i : grid0.Coords) : BitVec 32 := BitVec.ofNat 32 (i 0).val

/-- The gradient in front of the norm. -/
def dmxBlk (x0 : Vec F S256x1024 .f32) (x17 : Vec F S256x1024 .bf16) (x28 : Vec F S1x1024 .f32) :=
  k0_pay7 x0 x17 x28

/-- The gradient at the first branch, -/
def dyaBlk (x0 : Vec F S256x1024 .f32) (x11 : Vec F S256x3072 .bf16) (x17 : Vec F S256x1024 .bf16) (x27 : Vec F S1024x1024
    .bf16) (x28 : Vec F S1x1024 .f32) :=
  k0_pay10 (dmxBlk x0 x17 x28) x27 (View.ld x11 (Rect.unit ![0, 0] ![256, 1024] inb_S256x3072_S256x1024_0_0))

/-- The gradient at the merged branches. -/
def dmBlk (x0 : Vec F S256x1024 .f32) (x17 : Vec F S256x1024 .bf16) (x27 : Vec F S1024x1024 .bf16) (x28 : Vec F S1x1024 .f32) :=
  k0_pay8 (dmxBlk x0 x17 x28) x27

/-- The second branch's gate. -/
def gateBBlk (x11 : Vec F S256x3072 .bf16) :=
  k0_pay12 (View.ld x11 (Rect.unit ![0, 1024] ![256, 1024] inb_S256x3072_S256x1024_0_1024))

/-- at the second -/
def dybBlk (x0 : Vec F S256x1024 .f32) (x11 : Vec F S256x3072 .bf16) (x17 : Vec F S256x1024 .bf16) (x27 : Vec F S1024x1024
    .bf16) (x28 : Vec F S1x1024 .f32) :=
  k0_pay13 (dmBlk x0 x17 x27 x28) (gateBBlk x11)

/-- and at the third. -/
def dycBlk (x0 : Vec F S256x1024 .f32) (x11 : Vec F S256x3072 .bf16) (x17 : Vec F S256x1024 .bf16) (x27 : Vec F S1024x1024
    .bf16) (x28 : Vec F S1x1024 .f32) :=
  k0_pay16 (dmBlk x0 x17 x27 x28) (View.ld x11 (Rect.unit ![0, 2048] ![256, 1024] inb_S256x3072_S256x1024_0_2048))

/-- The first branch's gradient taken back through its projection. -/
def dyaInBlk (x0 : Vec F S256x1024 .f32) (x11 : Vec F S256x3072 .bf16) (x17 : Vec F S256x1024 .bf16) (x18 x27 : Vec F S1024x1024
    .bf16) (x28 : Vec F S1x1024 .f32) :=
  k0_pay18 (dyaBlk x0 x11 x17 x27 x28) x18

/-- its derivative -/
def dgeluBlk (x1 : Vec F S256x1024 .bf16) :=
  k0_pay22 x1

/-- and what it gates: the two directions of the recurrence together. -/
def hsBlk (x12 : Vec F S256x1024 .bf16) :=
  k0_pay23 x12

/-- The gradient at the recurrence's gate. -/
def dgateBlk (x0 : Vec F S256x1024 .f32) (x1 : Vec F S256x1024 .bf16) (x11 : Vec F S256x3072 .bf16) (x12 x13 x17 : Vec F
    S256x1024 .bf16) (x18 x27 : Vec F S1024x1024 .bf16) (x28 : Vec F S1x1024 .f32) : Vec F S256x1024 .bf16 :=
  k0_pay25 (dyaInBlk x0 x11 x17 x18 x27 x28) (dgeluBlk x1) (hsBlk x12) x13

/-- The second branch's gradient taken back through its projection. -/
def dqbBlk (x0 : Vec F S256x1024 .f32) (x11 : Vec F S256x3072 .bf16) (x17 : Vec F S256x1024 .bf16) (x20 : Vec F S512x1024 .bf16)
    (x27 : Vec F S1024x1024 .bf16) (x28 : Vec F S1x1024 .f32) :=
  k0_pay26 (dybBlk x0 x11 x17 x27 x28) x20

/-- those after it, -/
def cAfter (i : grid0.Coords) (x5 : Vec F S16x512 .bf16) :=
  k0_pay28 (pt i) x5

/-- before the block and after it. -/
def xAfter (x8 : Vec F S16x512 .bf16) :=
  k0_pay30 x8

/-- The product of the two factors one row later. -/
def pNext (i : grid0.Coords) (x3 : Vec F S256x512 .bf16) (x5 : Vec F S16x512 .bf16) (x6 : Vec F S256x512 .bf16) (x8 : Vec F
    S16x512 .bf16) :=
  k0_pay32 rowIds (cAfter i x5) (Scalar.cmpi .slt (pt i) 63#32) (xAfter x8) (Scalar.ofBits .f32 0x00000000#32) x3 x6

/-- The rows of the first factor before the block, -/
def cBefore (i : grid0.Coords) (x4 : Vec F S16x512 .bf16) :=
  k0_pay27 (pt i) x4

/-- and the same of the second factor: -/
def xBefore (i : grid0.Coords) (x7 : Vec F S16x512 .bf16) :=
  k0_pay29 (pt i) x7

/-- Two of the three terms of the convolution -/
def convTwo (i : grid0.Coords) (x3 : Vec F S256x512 .bf16) (x4 : Vec F S16x512 .bf16) (x6 : Vec F S256x512 .bf16) (x7 : Vec F
    S16x512 .bf16) (x19 : Vec F S3x512 .f32) :=
  k0_pay33 rowIds (cBefore i x4) (xBefore i x7) x3 x6 (View.ld x19 (Rect.unit ![0, 0] ![1, 512] inb_S3x512_S1x512_0_0)) (View.ld
    x19 (Rect.unit ![1, 0] ![1, 512] inb_S3x512_S1x512_1_0))

/-- and the third tap. -/
def tapThree (x19 : Vec F S3x512 .f32) :=
  k0_pay34 (View.ld x19 (Rect.unit ![2, 0] ![1, 512] inb_S3x512_S1x512_2_0))

/-- The gradient at the short convolution's gate. -/
def dscbBlk (i : grid0.Coords) (x0 : Vec F S256x1024 .f32) (x3 : Vec F S256x512 .bf16) (x4 x5 : Vec F S16x512 .bf16) (x6 : Vec F
    S256x512 .bf16) (x7 x8 : Vec F S16x512 .bf16) (x11 : Vec F S256x3072 .bf16) (x17 : Vec F S256x1024 .bf16) (x19 : Vec F S3x512
    .f32) (x20 : Vec F S512x1024 .bf16) (x27 : Vec F S1024x1024 .bf16) (x28 : Vec F S1x1024 .f32) : Vec F S256x512 .bf16 :=
  k0_pay35 (dqbBlk x0 x11 x17 x20 x27 x28) (pNext i x3 x5 x6 x8) (convTwo i x3 x4 x6 x7 x19) (tapThree x19)

/-- What gates the unit, read as f32, -/
def suBlk (x9 : Vec F S256x512 .bf16) :=
  k0_pay48 x9

/-- its GeLU's inner function, -/
def suTanh (x9 : Vec F S256x512 .bf16) :=
  k0_pay49 x9

/-- the GeLU's derivative, -/
def dugBlk (x9 : Vec F S256x512 .bf16) :=
  k0_pay51 (suBlk x9) (suTanh x9)

/-- The third branch's gradient taken back through its projection. -/
def dycInBlk (x0 : Vec F S256x1024 .f32) (x11 : Vec F S256x3072 .bf16) (x17 : Vec F S256x1024 .bf16) (x26 : Vec F S512x1024
    .bf16) (x27 : Vec F S1024x1024 .bf16) (x28 : Vec F S1x1024 .f32) :=
  k0_pay37 (dycBlk x0 x11 x17 x27 x28) x26

/-- Its GeLU less the mean, -/
def cenBlk (x10 : Vec F S256x512 .bf16) :=
  k0_pay40 x10

/-- and the same scaled and shifted. -/
def vBlk (x10 : Vec F S256x512 .bf16) (x21 x22 : Vec F S1x512 .f32) :=
  k0_pay47 (cenBlk x10) x21 x22

/-- The product of the first chunk's first group. -/
def mixFirst (x10 : Vec F S256x512 .bf16) (x21 x22 : Vec F S1x512 .f32) (x23 : Vec F S4x128x128 .bf16) :=
  k0_pay62 (vBlk x10 x21 x22) (View.ld x23 (Rect.unit ![0, 0, 0] ![1, 128, 128] inb_S4x128x128_S1x128x128_0_0_0))

/-- The rows mixed within their chunks, group by group. -/
def mixedBlk (x10 : Vec F S256x512 .bf16) (x21 x22 : Vec F S1x512 .f32) (x23 : Vec F S4x128x128 .bf16) (x25 : Vec F S128x4 .f32)
    : Vec F S256x512 .f32 :=
  View.canon
    [⟨Rect.unit ![128, 384] ![128, 128] inb_S256x512_S128x128_128_384, (k0_pay94 (vBlk x10 x21 x22) (View.ld x23 (Rect.unit ![3,
      0, 0] ![1, 128, 128] inb_S4x128x128_S1x128x128_3_0_0)) (View.ld x25 (Rect.unit ![0, 3] ![128, 1] inb_S128x4_S128x1_0_3)))⟩,
      ⟨Rect.unit ![128, 256] ![128, 128] inb_S256x512_S128x128_128_256, (k0_pay90 (vBlk x10 x21 x22) (View.ld x23 (Rect.unit
        ![2, 0, 0] ![1, 128, 128] inb_S4x128x128_S1x128x128_2_0_0)) (View.ld x25 (Rect.unit ![0, 2] ![128, 1]
        inb_S128x4_S128x1_0_2)))⟩,
      ⟨Rect.unit ![128, 128] ![128, 128] inb_S256x512_S128x128_128_128, (k0_pay86 (vBlk x10 x21 x22) (View.ld x23 (Rect.unit
        ![1, 0, 0] ![1, 128, 128] inb_S4x128x128_S1x128x128_1_0_0)) (View.ld x25 (Rect.unit ![0, 1] ![128, 1]
        inb_S128x4_S128x1_0_1)))⟩,
      ⟨Rect.unit ![128, 0] ![128, 128] inb_S256x512_S128x128_128_0, (k0_pay82 (vBlk x10 x21 x22) (View.ld x23 (Rect.unit ![0, 0,
        0] ![1, 128, 128] inb_S4x128x128_S1x128x128_0_0_0)) (View.ld x25 (Rect.unit ![0, 0] ![128, 1] inb_S128x4_S128x1_0_0)))⟩,
      ⟨Rect.unit ![0, 384] ![128, 128] inb_S256x512_S128x128_0_384, (k0_pay78 (vBlk x10 x21 x22) (k0_pay77 (View.ld x23
        (Rect.unit ![3, 0, 0] ![1, 128, 128] inb_S4x128x128_S1x128x128_3_0_0))) (View.ld x25 (Rect.unit ![0, 3] ![128, 1]
        inb_S128x4_S128x1_0_3)))⟩,
      ⟨Rect.unit ![0, 256] ![128, 128] inb_S256x512_S128x128_0_256, (k0_pay73 (vBlk x10 x21 x22) (View.ld x23 (Rect.unit ![2, 0,
        0] ![1, 128, 128] inb_S4x128x128_S1x128x128_2_0_0)) (View.ld x25 (Rect.unit ![0, 2] ![128, 1] inb_S128x4_S128x1_0_2)))⟩,
      ⟨Rect.unit ![0, 128] ![128, 128] inb_S256x512_S128x128_0_128, (k0_pay67 (vBlk x10 x21 x22) (View.ld x23 (Rect.unit ![1, 0,
        0] ![1, 128, 128] inb_S4x128x128_S1x128x128_1_0_0)) (View.ld x25 (Rect.unit ![0, 1] ![128, 1] inb_S128x4_S128x1_0_1)))⟩,
      ⟨Rect.unit ![0, 0] ![128, 128] inb_S256x512_S128x128_0_0, (k0_pay63 (mixFirst x10 x21 x22 x23) (View.ld x25 (Rect.unit
        ![0, 0] ![128, 1] inb_S128x4_S128x1_0_0)))⟩]

/-- The gradient at the gate's GeLU. -/
def duTerm (x0 : Vec F S256x1024 .f32) (x10 : Vec F S256x512 .bf16) (x11 : Vec F S256x3072 .bf16) (x17 : Vec F S256x1024 .bf16)
    (x21 x22 : Vec F S1x512 .f32) (x23 : Vec F S4x128x128 .bf16) (x25 : Vec F S128x4 .f32) (x26 : Vec F S512x1024 .bf16) (x27 : Vec
    F S1024x1024 .bf16) (x28 : Vec F S1x1024 .f32) :=
  k0_pay114 (dycInBlk x0 x11 x17 x26 x27 x28) (mixedBlk x10 x21 x22 x23 x25)

/-- The gradient at the spatial gating unit's gate -/
def dsuBlk (x0 : Vec F S256x1024 .f32) (x9 x10 : Vec F S256x512 .bf16) (x11 : Vec F S256x3072 .bf16) (x17 : Vec F S256x1024
    .bf16) (x21 x22 : Vec F S1x512 .f32) (x23 : Vec F S4x128x128 .bf16) (x25 : Vec F S128x4 .f32) (x26 : Vec F S512x1024 .bf16) (x27
    : Vec F S1024x1024 .bf16) (x28 : Vec F S1x1024 .f32) : Vec F S256x512 .bf16 :=
  k0_pay115 (dugBlk x9) (duTerm x0 x10 x11 x17 x21 x22 x23 x25 x26 x27 x28)

/-- What the spatial gating unit normalizes, read as f32. -/
def svBlk (x10 : Vec F S256x512 .bf16) :=
  k0_pay38 x10

/-- the first half of the GeLU's derivative -/
def svHalf (x10 : Vec F S256x512 .bf16) :=
  k0_pay41 x10

/-- and the rest of it, -/
def svRest (x10 : Vec F S256x512 .bf16) :=
  k0_pay42 x10

/-- the derivative itself, -/
def dvgBlk (x10 : Vec F S256x512 .bf16) :=
  k0_pay43 (svBlk x10) (svHalf x10) (svRest x10)

/-- the reciprocal deviation, -/
def rsBlk (x10 : Vec F S256x512 .bf16) :=
  k0_pay45 (cenBlk x10)

/-- the normalized rows, -/
def vnBlk (x10 : Vec F S256x512 .bf16) :=
  k0_pay46 (cenBlk x10)

/-- stored so. -/
def dmbBlk (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay53 (dycInBlk x0 x11 x17 x26 x27 x28) (suBlk x9) (suTanh x9)

/-- The gradient at the rows that are mixed, taken back by the mixing weights' transposes. -/
def dvBlk (x0 : Vec F S256x1024 .f32) (x9 : Vec F S256x512 .bf16) (x11 : Vec F S256x3072 .bf16) (x17 : Vec F S256x1024 .bf16)
    (x24 : Vec F S4x128x128 .bf16) (x26 : Vec F S512x1024 .bf16) (x27 : Vec F S1024x1024 .bf16) (x28 : Vec F S1x1024 .f32) : Vec F
    S256x512 .f32 :=
  View.canon
    [⟨Rect.unit ![128, 384] ![128, 128] inb_S256x512_S128x128_128_384, (k0_pay95 (dmbBlk x0 x9 x11 x17 x26 x27 x28) (View.ld x24
      (Rect.unit ![3, 0, 0] ![1, 128, 128] inb_S4x128x128_S1x128x128_3_0_0)))⟩,
      ⟨Rect.unit ![128, 256] ![128, 128] inb_S256x512_S128x128_128_256, (k0_pay91 (dmbBlk x0 x9 x11 x17 x26 x27 x28) (View.ld
        x24 (Rect.unit ![2, 0, 0] ![1, 128, 128] inb_S4x128x128_S1x128x128_2_0_0)))⟩,
      ⟨Rect.unit ![128, 128] ![128, 128] inb_S256x512_S128x128_128_128, (k0_pay87 (dmbBlk x0 x9 x11 x17 x26 x27 x28) (View.ld
        x24 (Rect.unit ![1, 0, 0] ![1, 128, 128] inb_S4x128x128_S1x128x128_1_0_0)))⟩,
      ⟨Rect.unit ![128, 0] ![128, 128] inb_S256x512_S128x128_128_0, (k0_pay83 (dmbBlk x0 x9 x11 x17 x26 x27 x28) (View.ld x24
        (Rect.unit ![0, 0, 0] ![1, 128, 128] inb_S4x128x128_S1x128x128_0_0_0)))⟩,
      ⟨Rect.unit ![0, 384] ![128, 128] inb_S256x512_S128x128_0_384, (k0_pay79 (dmbBlk x0 x9 x11 x17 x26 x27 x28) (View.ld x24
        (Rect.unit ![3, 0, 0] ![1, 128, 128] inb_S4x128x128_S1x128x128_3_0_0)))⟩,
      ⟨Rect.unit ![0, 256] ![128, 128] inb_S256x512_S128x128_0_256, (k0_pay74 (dmbBlk x0 x9 x11 x17 x26 x27 x28) (View.ld x24
        (Rect.unit ![2, 0, 0] ![1, 128, 128] inb_S4x128x128_S1x128x128_2_0_0)))⟩,
      ⟨Rect.unit ![0, 128] ![128, 128] inb_S256x512_S128x128_0_128, (k0_pay70 (k0_pay68 (View.ld x24 (Rect.unit ![1, 0, 0] ![1,
        128, 128] inb_S4x128x128_S1x128x128_1_0_0))) (k0_pay69 (dmbBlk x0 x9 x11 x17 x26 x27 x28)) (constant S128x128 .f32
        0x00000000#32))⟩,
      ⟨Rect.unit ![0, 0] ![128, 128] inb_S256x512_S128x128_0_0, (k0_pay64 (dmbBlk x0 x9 x11 x17 x26 x27 x28) (View.ld x24
        (Rect.unit ![0, 0, 0] ![1, 128, 128] inb_S4x128x128_S1x128x128_0_0_0)))⟩]

/-- The norm's gradient before its scale. -/
def dcenRest (x0 : Vec F S256x1024 .f32) (x9 x10 : Vec F S256x512 .bf16) (x11 : Vec F S256x3072 .bf16) (x17 : Vec F S256x1024
    .bf16) (x21 : Vec F S1x512 .f32) (x24 : Vec F S4x128x128 .bf16) (x26 : Vec F S512x1024 .bf16) (x27 : Vec F S1024x1024 .bf16)
    (x28 : Vec F S1x1024 .f32) :=
  k0_pay120 (vnBlk x10) (dvBlk x0 x9 x11 x17 x24 x26 x27 x28) x21

/-- and at what it mixes. -/
def dsvBlk (x0 : Vec F S256x1024 .f32) (x9 x10 : Vec F S256x512 .bf16) (x11 : Vec F S256x3072 .bf16) (x17 : Vec F S256x1024
    .bf16) (x21 : Vec F S1x512 .f32) (x24 : Vec F S4x128x128 .bf16) (x26 : Vec F S512x1024 .bf16) (x27 : Vec F S1024x1024 .bf16)
    (x28 : Vec F S1x1024 .f32) : Vec F S256x512 .bf16 :=
  k0_pay1 (dvgBlk x10) (rsBlk x10) (dcenRest x0 x9 x10 x11 x17 x21 x24 x26 x27 x28)

/-- The gradient at the merge gates, branch by branch. -/
def dzmBlk (x0 : Vec F S256x1024 .f32) (x11 : Vec F S256x3072 .bf16) (x14 x15 x16 x17 : Vec F S256x1024 .bf16) (x27 : Vec F
    S1024x1024 .bf16) (x28 : Vec F S1x1024 .f32) : Vec F S256x3072 .bf16 :=
  View.canon
    [⟨Rect.unit ![0, 2048] ![256, 1024] inb_S256x3072_S256x1024_0_2048, (k0_pay17 (dmBlk x0 x17 x27 x28) (View.ld x11 (Rect.unit
      ![0, 2048] ![256, 1024] inb_S256x3072_S256x1024_0_2048)) x16)⟩,
      ⟨Rect.unit ![0, 1024] ![256, 1024] inb_S256x3072_S256x1024_0_1024, (k0_pay14 (dmBlk x0 x17 x27 x28) (gateBBlk x11) x15)⟩,
      ⟨Rect.unit ![0, 0] ![256, 1024] inb_S256x3072_S256x1024_0_0, (k0_pay11 (dmxBlk x0 x17 x28) x27 (View.ld x11 (Rect.unit
        ![0, 0] ![256, 1024] inb_S256x3072_S256x1024_0_0)) x14)⟩]

/-- The GeLU gate, -/
def geluBlk (x1 : Vec F S256x1024 .bf16) :=
  k0_pay21 x1

/-- The gradient at the recurrence's two directions, -/
def dhsBlk (x0 : Vec F S256x1024 .f32) (x1 : Vec F S256x1024 .bf16) (x11 : Vec F S256x3072 .bf16) (x17 : Vec F S256x1024 .bf16)
    (x18 x27 : Vec F S1024x1024 .bf16) (x28 : Vec F S1x1024 .f32) : Vec F S256x1024 .f32 :=
  k0_pay24 (dyaInBlk x0 x11 x17 x18 x27 x28) (geluBlk x1)

/-- and at the short convolution. -/
def dcpBlk (x0 : Vec F S256x1024 .f32) (x2 : Vec F S256x512 .bf16) (x11 : Vec F S256x3072 .bf16) (x17 : Vec F S256x1024 .bf16)
    (x20 : Vec F S512x1024 .bf16) (x27 : Vec F S1024x1024 .bf16) (x28 : Vec F S1x1024 .f32) : Vec F S256x512 .f32 :=
  k0_pay36 (dqbBlk x0 x11 x17 x20 x27 x28) x2

/-- The term of the norm's gain gradient, -/
def dqgTerm (x0 : Vec F S256x1024 .f32) (x17 : Vec F S256x1024 .bf16) : Vec F S1x1024 .f32 :=
  k0_pay5 x0 x17

/-- and that term added to the sum so far. -/
def dqgNext (x0 : Vec F S256x1024 .f32) (x17 : Vec F S256x1024 .bf16) (xo40 : Vec F S1x1024 .f32) : Vec F S1x1024 .f32 :=
  k0_pay6 x0 x17 xo40

/-- The term of the unit's gain gradient, -/
def dlgTerm (x0 : Vec F S256x1024 .f32) (x9 x10 : Vec F S256x512 .bf16) (x11 : Vec F S256x3072 .bf16) (x17 : Vec F S256x1024
    .bf16) (x24 : Vec F S4x128x128 .bf16) (x26 : Vec F S512x1024 .bf16) (x27 : Vec F S1024x1024 .bf16) (x28 : Vec F S1x1024 .f32) :
    Vec F S1x512 .f32 :=
  k0_pay116 (vnBlk x10) (dvBlk x0 x9 x11 x17 x24 x26 x27 x28)

/-- added to the sum so far, -/
def dlgNext (x0 : Vec F S256x1024 .f32) (x9 x10 : Vec F S256x512 .bf16) (x11 : Vec F S256x3072 .bf16) (x17 : Vec F S256x1024
    .bf16) (x24 : Vec F S4x128x128 .bf16) (x26 : Vec F S512x1024 .bf16) (x27 : Vec F S1024x1024 .bf16) (x28 : Vec F S1x1024 .f32)
    (xo41 : Vec F S1x512 .f32) : Vec F S1x512 .f32 :=
  k0_pay117 (vnBlk x10) (dvBlk x0 x9 x11 x17 x24 x26 x27 x28) xo41

/-- the term of its shift's gradient, -/
def dlbTerm (x0 : Vec F S256x1024 .f32) (x9 : Vec F S256x512 .bf16) (x11 : Vec F S256x3072 .bf16) (x17 : Vec F S256x1024 .bf16)
    (x24 : Vec F S4x128x128 .bf16) (x26 : Vec F S512x1024 .bf16) (x27 : Vec F S1024x1024 .bf16) (x28 : Vec F S1x1024 .f32) : Vec F
    S1x512 .f32 :=
  k0_pay118 (dvBlk x0 x9 x11 x17 x24 x26 x27 x28)

/-- added to the sum so far, -/
def dlbNext (x0 : Vec F S256x1024 .f32) (x9 : Vec F S256x512 .bf16) (x11 : Vec F S256x3072 .bf16) (x17 : Vec F S256x1024 .bf16)
    (x24 : Vec F S4x128x128 .bf16) (x26 : Vec F S512x1024 .bf16) (x27 : Vec F S1024x1024 .bf16) (x28 : Vec F S1x1024 .f32) (xo42 :
    Vec F S1x512 .f32) : Vec F S1x512 .f32 :=
  k0_pay119 (dvBlk x0 x9 x11 x17 x24 x26 x27 x28) xo42

def dwsHalf3 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay80 (vBlk x10 x21 x22) (dmbBlk x0 x9 x11 x17 x26 x27 x28) (k0_pay57 (F := F))

def dwsBlk3 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay96 (vBlk x10 x21 x22) (dmbBlk x0 x9 x11 x17 x26 x27 x28) (dwsHalf3 x0 x9 x10 x11 x17 x21 x22 x26 x27 x28)

def dwsHalf2 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay75 (vBlk x10 x21 x22) (dmbBlk x0 x9 x11 x17 x26 x27 x28) (k0_pay56 (F := F))

def dwsBlk2 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay92 (vBlk x10 x21 x22) (dmbBlk x0 x9 x11 x17 x26 x27 x28) (dwsHalf2 x0 x9 x10 x11 x17 x21 x22 x26 x27 x28)

def dwsHalf1 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay71 (vBlk x10 x21 x22) (dmbBlk x0 x9 x11 x17 x26 x27 x28) (k0_pay55 (F := F))

def dwsBlk1 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay88 (vBlk x10 x21 x22) (dmbBlk x0 x9 x11 x17 x26 x27 x28) (dwsHalf1 x0 x9 x10 x11 x17 x21 x22 x26 x27 x28)

/-- The first chunk's term of the mixing weights' gradient, group by group, -/
def dwsHalf0 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay65 (vBlk x10 x21 x22) (dmbBlk x0 x9 x11 x17 x26 x27 x28) (k0_pay54 (F := F))

/-- Both chunks' term of the mixing weights' gradient, group by group, -/
def dwsBlk0 (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :=
  k0_pay84 (vBlk x10 x21 x22) (dmbBlk x0 x9 x11 x17 x26 x27 x28) (dwsHalf0 x0 x9 x10 x11 x17 x21 x22 x26 x27 x28)

/-- the term of the mixing weights' gradient, -/
def dwsTerm (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32) :
    Vec F S4x128x128 .f32 :=
  View.canon
    [⟨Rect.unit ![3, 0, 0] ![1, 128, 128] inb_S4x128x128_S1x128x128_3_0_0, (k0_pay110 (dwsBlk3 x0 x9 x10 x11 x17 x21 x22 x26 x27
      x28))⟩,
      ⟨Rect.unit ![2, 0, 0] ![1, 128, 128] inb_S4x128x128_S1x128x128_2_0_0, (k0_pay106 (dwsBlk2 x0 x9 x10 x11 x17 x21 x22 x26
        x27 x28))⟩,
      ⟨Rect.unit ![1, 0, 0] ![1, 128, 128] inb_S4x128x128_S1x128x128_1_0_0, (k0_pay102 (dwsBlk1 x0 x9 x10 x11 x17 x21 x22 x26
        x27 x28))⟩,
      ⟨Rect.unit ![0, 0, 0] ![1, 128, 128] inb_S4x128x128_S1x128x128_0_0_0, (k0_pay98 (dwsBlk0 x0 x9 x10 x11 x17 x21 x22 x26 x27
        x28))⟩]

/-- added to the sum so far, -/
def dwsNext (x0 : Vec F S256x1024 .f32) (x9 x10 : Vec F S256x512 .bf16) (x11 : Vec F S256x3072 .bf16) (x17 : Vec F S256x1024
    .bf16) (x21 x22 : Vec F S1x512 .f32) (x26 : Vec F S512x1024 .bf16) (x27 : Vec F S1024x1024 .bf16) (x28 : Vec F S1x1024 .f32)
    (xo43 : Vec F S4x128x128 .f32) : Vec F S4x128x128 .f32 :=
  View.canon
    [⟨Rect.unit ![3, 0, 0] ![1, 128, 128] inb_S4x128x128_S1x128x128_3_0_0, (k0_pay111 (dwsBlk3 x0 x9 x10 x11 x17 x21 x22 x26 x27
      x28) (View.ld xo43 (Rect.unit ![3, 0, 0] ![1, 128, 128] inb_S4x128x128_S1x128x128_3_0_0)))⟩,
      ⟨Rect.unit ![2, 0, 0] ![1, 128, 128] inb_S4x128x128_S1x128x128_2_0_0, (k0_pay107 (dwsBlk2 x0 x9 x10 x11 x17 x21 x22 x26
        x27 x28) (View.ld xo43 (Rect.unit ![2, 0, 0] ![1, 128, 128] inb_S4x128x128_S1x128x128_2_0_0)))⟩,
      ⟨Rect.unit ![1, 0, 0] ![1, 128, 128] inb_S4x128x128_S1x128x128_1_0_0, (k0_pay103 (dwsBlk1 x0 x9 x10 x11 x17 x21 x22 x26
        x27 x28) (View.ld xo43 (Rect.unit ![1, 0, 0] ![1, 128, 128] inb_S4x128x128_S1x128x128_1_0_0)))⟩,
      ⟨Rect.unit ![0, 0, 0] ![1, 128, 128] inb_S4x128x128_S1x128x128_0_0_0, (k0_pay99 (dwsBlk0 x0 x9 x10 x11 x17 x21 x22 x26 x27
        x28) (View.ld xo43 (Rect.unit ![0, 0, 0] ![1, 128, 128] inb_S4x128x128_S1x128x128_0_0_0)))⟩]

/-- and the gradient at the mixed rows, -/
def dmixedBlk (x0 : Vec F S256x1024 .f32) (x9 : Vec F S256x512 .bf16) (x11 : Vec F S256x3072 .bf16) (x17 : Vec F S256x1024
    .bf16) (x26 : Vec F S512x1024 .bf16) (x27 : Vec F S1024x1024 .bf16) (x28 : Vec F S1x1024 .f32) :=
  k0_pay52 (dycInBlk x0 x11 x17 x26 x27 x28) (suBlk x9) (suTanh x9)

def dbsHalf3 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay81 (dmixedBlk x0 x9 x11 x17 x26 x27 x28) (k0_pay61 (F := F))

def dbsBlk3 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay97 (dmixedBlk x0 x9 x11 x17 x26 x27 x28) (dbsHalf3 x0 x9 x11 x17 x26 x27 x28)

def dbsHalf2 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay76 (dmixedBlk x0 x9 x11 x17 x26 x27 x28) (k0_pay60 (F := F))

def dbsBlk2 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay93 (dmixedBlk x0 x9 x11 x17 x26 x27 x28) (dbsHalf2 x0 x9 x11 x17 x26 x27 x28)

def dbsHalf1 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay72 (dmixedBlk x0 x9 x11 x17 x26 x27 x28) (k0_pay59 (F := F))

def dbsBlk1 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay89 (dmixedBlk x0 x9 x11 x17 x26 x27 x28) (dbsHalf1 x0 x9 x11 x17 x26 x27 x28)

/-- and of the mixing bias's. -/
def dbsHalf0 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay66 (dmixedBlk x0 x9 x11 x17 x26 x27 x28) (k0_pay58 (F := F))

/-- and of the mixing bias's. -/
def dbsBlk0 (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) :=
  k0_pay85 (dmixedBlk x0 x9 x11 x17 x26 x27 x28) (dbsHalf0 x0 x9 x11 x17 x26 x27 x28)

/-- the term of the mixing bias's gradient, -/
def dbsTerm (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) : Vec F S4x128x128 .f32 :=
  View.canon
    [⟨Rect.unit ![3, 0, 0] ![1, 128, 128] inb_S4x128x128_S1x128x128_3_0_0, (k0_pay112 (dbsBlk3 x0 x9 x11 x17 x26 x27 x28))⟩,
      ⟨Rect.unit ![2, 0, 0] ![1, 128, 128] inb_S4x128x128_S1x128x128_2_0_0, (k0_pay108 (dbsBlk2 x0 x9 x11 x17 x26 x27 x28))⟩,
      ⟨Rect.unit ![1, 0, 0] ![1, 128, 128] inb_S4x128x128_S1x128x128_1_0_0, (k0_pay104 (dbsBlk1 x0 x9 x11 x17 x26 x27 x28))⟩,
      ⟨Rect.unit ![0, 0, 0] ![1, 128, 128] inb_S4x128x128_S1x128x128_0_0_0, (k0_pay100 (dbsBlk0 x0 x9 x11 x17 x26 x27 x28))⟩]

/-- and added to the sum so far. -/
def dbsNext (x0 : Vec F S256x1024 .f32) (x9 : Vec F S256x512 .bf16) (x11 : Vec F S256x3072 .bf16) (x17 : Vec F S256x1024 .bf16)
    (x26 : Vec F S512x1024 .bf16) (x27 : Vec F S1024x1024 .bf16) (x28 : Vec F S1x1024 .f32) (xo44 : Vec F S4x128x128 .f32) : Vec F
    S4x128x128 .f32 :=
  View.canon
    [⟨Rect.unit ![3, 0, 0] ![1, 128, 128] inb_S4x128x128_S1x128x128_3_0_0, (k0_pay113 (dbsBlk3 x0 x9 x11 x17 x26 x27 x28)
      (View.ld xo44 (Rect.unit ![3, 0, 0] ![1, 128, 128] inb_S4x128x128_S1x128x128_3_0_0)))⟩,
      ⟨Rect.unit ![2, 0, 0] ![1, 128, 128] inb_S4x128x128_S1x128x128_2_0_0, (k0_pay109 (dbsBlk2 x0 x9 x11 x17 x26 x27 x28)
        (View.ld xo44 (Rect.unit ![2, 0, 0] ![1, 128, 128] inb_S4x128x128_S1x128x128_2_0_0)))⟩,
      ⟨Rect.unit ![1, 0, 0] ![1, 128, 128] inb_S4x128x128_S1x128x128_1_0_0, (k0_pay105 (dbsBlk1 x0 x9 x11 x17 x26 x27 x28)
        (View.ld xo44 (Rect.unit ![1, 0, 0] ![1, 128, 128] inb_S4x128x128_S1x128x128_1_0_0)))⟩,
      ⟨Rect.unit ![0, 0, 0] ![1, 128, 128] inb_S4x128x128_S1x128x128_0_0_0, (k0_pay101 (dbsBlk0 x0 x9 x11 x17 x26 x27 x28)
        (View.ld xo44 (Rect.unit ![0, 0, 0] ![1, 128, 128] inb_S4x128x128_S1x128x128_0_0_0)))⟩]

end Cert.MixOutIdeal.Body

end
-- ==== Proof.Gelu.lean ====
/- The two gates' scalar functions, over the extended reals: the logistic as the kernels write it, and the GeLU's
   tanh form with its derivative. -/
module

public import proofs.«01_k».proof.Proof.Literals
public import proofs.«01_k».proof.Proof.Finite

@[expose] public section

noncomputable section

namespace Cert.Gelu

open Idealize.ShloMosaic Cert.Finite

/-- The logistic, through the hyperbolic tangent. -/
def sgm (x : EReal) : EReal :=
  Ideal.ofBits .f32 0x3F000000#32 * Ideal.tanh (Ideal.ofBits .f32 0x3F000000#32 * x) + Ideal.ofBits .f32 0x3F000000#32

/-- The GeLU's cubic coefficient, and three times it. -/
def c : EReal := ((8943 / 200000 : ℝ) : EReal)
def c3 : EReal := ((26829 / 200000 : ℝ) : EReal)

/-- The hyperbolic tangent in the GeLU. -/
def th (x : EReal) : EReal := Ideal.tanh (Ideal.ofBits .f32 0x3F4C422A#32 * (x + c * x * x * x))

/-- The GeLU. -/
def gelu (x : EReal) : EReal := Ideal.ofBits .f32 0x3F000000#32 * x * (1 + th x)

/-- Its derivative. -/
def dgelu (x : EReal) : EReal :=
  Ideal.ofBits .f32 0x3F000000#32 * (1 + th x)
    + Ideal.ofBits .f32 0x3F000000#32 * x * (1 - th x * th x) * (Ideal.ofBits .f32 0x3F4C422A#32 * (1 + c3 * x * x))

end Cert.Gelu

end
-- ==== Proof.MixOutPay.lean ====
/- The blocks one grid point of the output layer's gradient leaves, entry by entry over the extended reals. -/
module

public import proofs.«01_k».proof.Proof.MixOutBlocks
public import proofs.«01_k».proof.Proof.Shift
public import proofs.«01_k».proof.Proof.Rows
public import proofs.«01_k».proof.Proof.Gelu
public import Idealize.ShloMosaic.Lib.Pointwise
public import Idealize.ShloMosaic.Lib.Ring

@[expose] public section

set_option maxRecDepth 16384

noncomputable section

namespace Cert.MixOutIdeal.Pay

open Cert.MixOutIdeal Cert.MixOutIdeal.Gen Cert.MixOutIdeal.Body Cert.Shift Cert.Gelu Idealize.ShloMosaic Idealize.ShloMosaic.TcCoe

/-- The two named constants. -/
theorem named_c : Named.named (F := Ideal) (φ := .f32) κ "gelu_c" 0x3D372713#32 = c := IdealRules.named_const.ideal_named_scalar _ _ _ _ rfl
theorem named_c3 : Named.named (F := Ideal) (φ := .f32) κ "gelu_3c" 0x3E095D4F#32 = c3 := IdealRules.named_const.ideal_named_scalar _ _ _ _ rfl

/-- The gradient in front of the norm. -/
theorem dmx_at (x0 : Vec Ideal S256x1024 .f32) (x17 : Vec Ideal S256x1024 .bf16) (x28 : Vec Ideal S1x1024 .f32) (y : Fin 256) (k : Fin 1024) :
    dmxBlk x0 x17 x28 (ix2 y k) = Rows.back (fun l => x0 (ix2 y l)) (fun l => x17 (ix2 y l)) (fun l => x28 (ix2 0 l)) k := by
  unfold dmxBlk
  pointwise [k0_pay7, k0_pay4, k0_pay3, k0_pay2, Rows.back, Rows.scale, Rows.meanSq]

/-- The term of the gain's gradient. -/
theorem dqgTerm_at (x0 : Vec Ideal S256x1024 .f32) (x17 : Vec Ideal S256x1024 .bf16) (k : Fin 1024) :
    dqgTerm x0 x17 (ix2 0 k) = ∑ y : Fin 256, x0 (ix2 y k) * (x17 (ix2 y k) * Rows.scale fun l => x17 (ix2 y l)) := by
  unfold dqgTerm
  pointwise [k0_pay5, k0_pay4, k0_pay3, k0_pay2, Rows.scale, Rows.meanSq]

theorem dqgNext_at (x0 : Vec Ideal S256x1024 .f32) (x17 : Vec Ideal S256x1024 .bf16) (xo : Vec Ideal S1x1024 .f32) (k : Fin 1024) :
    dqgNext x0 x17 xo (ix2 0 k) = xo (ix2 0 k) + dqgTerm x0 x17 (ix2 0 k) := by
  unfold dqgNext dqgTerm
  generalize k0_pay4 x17 = a
  pointwise [k0_pay6, k0_pay5]

/-- The gradient in front of the merge's projection. -/
theorem dm_at (D : FVec Ideal S256x1024 .bf16) (x27 : Vec Ideal S1024x1024 .bf16) (y : Fin 256) (k : Fin 1024) :
    k0_pay8 D x27 (ix2 y k) = ∑ l : Fin 1024, D (ix2 y l) * x27 (ix2 k l) := by
  pointwise [k0_pay8]

section
variable (x0 : Vec Ideal S256x1024 .f32) (x11 : Vec Ideal S256x3072 .bf16) (x14 x15 x16 x17 : Vec Ideal S256x1024 .bf16)
  (x27 : Vec Ideal S1024x1024 .bf16) (x28 : Vec Ideal S1x1024 .f32) (y : Fin 256) (k : Fin 1024)

/-- The gradients at the three branches. -/
theorem dya_at : dyaBlk x0 x11 x17 x27 x28 (ix2 y k) = dmBlk x0 x17 x27 x28 (ix2 y k) * sgm (x11 (ix2 y ⟨k.val, by omega⟩)) := by
  unfold dyaBlk dmBlk
  generalize dmxBlk x0 x17 x28 = D
  pointwise [k0_pay10, k0_pay8, k0_pay9, sgm]
theorem dyb_at : dybBlk x0 x11 x17 x27 x28 (ix2 y k) = dmBlk x0 x17 x27 x28 (ix2 y k) * sgm (x11 (ix2 y ⟨1024 + k.val, by omega⟩)) := by
  unfold dybBlk gateBBlk
  generalize dmBlk x0 x17 x27 x28 = D
  pointwise [k0_pay13, k0_pay12, sgm]
theorem dyc_at : dycBlk x0 x11 x17 x27 x28 (ix2 y k) = dmBlk x0 x17 x27 x28 (ix2 y k) * sgm (x11 (ix2 y ⟨2048 + k.val, by omega⟩)) := by
  unfold dycBlk
  generalize dmBlk x0 x17 x27 x28 = D
  pointwise [k0_pay16, k0_pay15, sgm]

/-- The gradient at the merge gates. -/
theorem dzm_at (q : Fin 3072) : dzmBlk x0 x11 x14 x15 x16 x17 x27 x28 (ix2 y q) =
    if h : q.val < 1024 then dmBlk x0 x17 x27 x28 (ix2 y ⟨q.val, h⟩) * x14 (ix2 y ⟨q.val, h⟩) * sgm (x11 (ix2 y q)) * (1 - sgm (x11 (ix2 y q)))
    else if h1 : q.val < 2048 then dmBlk x0 x17 x27 x28 (ix2 y ⟨q.val - 1024, by omega⟩) * x15 (ix2 y ⟨q.val - 1024, by omega⟩)
      * sgm (x11 (ix2 y q)) * (1 - sgm (x11 (ix2 y q)))
    else dmBlk x0 x17 x27 x28 (ix2 y ⟨q.val - 2048, by omega⟩) * x16 (ix2 y ⟨q.val - 2048, by omega⟩)
      * sgm (x11 (ix2 y q)) * (1 - sgm (x11 (ix2 y q))) := by
  unfold dzmBlk gateBBlk dmBlk
  generalize dmxBlk x0 x17 x28 = D
  canon_tiles x hh using (View.cover_of_tiledBy _ ![256, 1024] (by sl_kernel_rfl) _)
  all_goals
    idx_vars x
    obtain ⟨q, hq⟩ := q
    obtain rfl : y = x0 := Fin.ext hh0
    replace hh1 : q = _ := hh1
    pointwise [k0_pay17, k0_pay14, k0_pay11, k0_pay15, k0_pay12, k0_pay9, k0_pay8, sgm]
    subst hh1
    split_ifs
    all_goals first
      | (exfalso; omega)
      | simp only [Nat.add_sub_cancel_left, Fin.eta]

/-- The first branch's gradient behind its projection. -/
theorem dyaIn_at (x18 : Vec Ideal S1024x1024 .bf16) : dyaInBlk x0 x11 x17 x18 x27 x28 (ix2 y k)
    = ∑ l : Fin 1024, dyaBlk x0 x11 x17 x27 x28 (ix2 y l) * x18 (ix2 k l) := by
  unfold dyaInBlk
  generalize dyaBlk x0 x11 x17 x27 x28 = D
  pointwise [k0_pay18]

/-- The gradient at the recurrence's result, -/
theorem dhs_at (x1 : Vec Ideal S256x1024 .bf16) (x18 : Vec Ideal S1024x1024 .bf16) : dhsBlk x0 x1 x11 x17 x18 x27 x28 (ix2 y k)
    = dyaInBlk x0 x11 x17 x18 x27 x28 (ix2 y k) * gelu (x1 (ix2 y k)) := by
  unfold dhsBlk geluBlk
  generalize dyaInBlk x0 x11 x17 x18 x27 x28 = D
  pointwise [k0_pay24, k0_pay21, k0_pay20, k0_pay19, gelu, th]
  simp only [named_c]

/-- and at its gate. -/
theorem dgate_at (x1 x12 x13 : Vec Ideal S256x1024 .bf16) (x18 : Vec Ideal S1024x1024 .bf16) :
    dgateBlk x0 x1 x11 x12 x13 x17 x18 x27 x28 (ix2 y k)
      = dyaInBlk x0 x11 x17 x18 x27 x28 (ix2 y k) * (x12 (ix2 y k) + x13 (ix2 y k)) * dgelu (x1 (ix2 y k)) := by
  unfold dgateBlk dgeluBlk hsBlk
  generalize dyaInBlk x0 x11 x17 x18 x27 x28 = D
  pointwise [k0_pay25, k0_pay23, k0_pay22, k0_pay20, k0_pay19, dgelu, th]
  simp only [named_c, named_c3]

/-- The second branch's gradient behind its projection, -/
theorem dqb_at (x20 : Vec Ideal S512x1024 .bf16) (q : Fin 512) : dqbBlk x0 x11 x17 x20 x27 x28 (ix2 y q)
    = ∑ l : Fin 1024, dybBlk x0 x11 x17 x27 x28 (ix2 y l) * x20 (ix2 q l) := by
  unfold dqbBlk
  generalize dybBlk x0 x11 x17 x27 x28 = D
  pointwise [k0_pay26]

/-- and at the convolution. -/
theorem dcp_at (x2 : Vec Ideal S256x512 .bf16) (x20 : Vec Ideal S512x1024 .bf16) (q : Fin 512) :
    dcpBlk x0 x2 x11 x17 x20 x27 x28 (ix2 y q) = dqbBlk x0 x11 x17 x20 x27 x28 (ix2 y q) * x2 (ix2 y q) := by
  unfold dcpBlk
  generalize dqbBlk x0 x11 x17 x20 x27 x28 = D
  pointwise [k0_pay36]

/-- The gradient at the convolution's gate. -/
theorem dscb_at {i : grid0.Coords} {t : Fin 64} (hi : (i 0).val = t.val) {x3 x6 : Vec Ideal S256x512 .bf16} {x4 x5 x7 x8 : Vec Ideal S16x512 .bf16}
    (x19 : Vec Ideal S3x512 .f32) (x20 : Vec Ideal S512x1024 .bf16) {f : Fin 16384 → Fin 512 → EReal}
    (h : ∀ y k, x3 (ix2 y k) * x6 (ix2 y k) = f (at_ t y) k)
    (hp : ∀ s : Fin 16384, s.val + 1 = t.val * 256 → ∀ k, x4 (ix2 15 k) * x7 (ix2 15 k) = f s k)
    (hn : ∀ s : Fin 16384, s.val = t.val * 256 + 256 → ∀ k, x5 (ix2 0 k) * x8 (ix2 0 k) = f s k) (q : Fin 512) :
    dscbBlk i x0 x3 x4 x5 x6 x7 x8 x11 x17 x19 x20 x27 x28 (ix2 y q) = dqbBlk x0 x11 x17 x20 x27 x28 (ix2 y q)
      * (x19 (ix2 0 q) * behind 1 (fun s => f s q) (at_ t y) + x19 (ix2 1 q) * f (at_ t y) q + x19 (ix2 2 q) * ahead 1 (fun s => f s q) (at_ t y)) := by
  unfold dscbBlk pNext convTwo tapThree cAfter xAfter cBefore xBefore
  generalize dqbBlk x0 x11 x17 x20 x27 x28 = D
  pointwise [k0_pay35, k0_pay34, k0_pay33, k0_pay32, k0_pay31, k0_pay30, k0_pay29, k0_pay28, k0_pay27]
  simp only [pt, hi, select_pos, select_last, gate_mul, gate_twice]
  refine congrArg (_ * ·) (congrArg₂ (· + ·) (congrArg₂ (· + ·) (congrArg (_ * ·) ?_) (congrArg (_ * ·) (h y q))) (congrArg (_ * ·) ?_))
  · exact behind_one (fun s => f s q) t (fun y => x3 (ix2 y q) * x6 (ix2 y q)) (h · q) (x4 (ix2 15 q) * x7 (ix2 15 q)) (hp · · q) y
  · exact ahead_one (fun s => f s q) t (fun y => x3 (ix2 y q) * x6 (ix2 y q)) (h · q) (x5 (ix2 0 q) * x8 (ix2 0 q)) (hn · · q) y

end

end Cert.MixOutIdeal.Pay

end
-- ==== Proof.MixOutVal.lean ====
/- What the output layer's backward call is given and what its blocks compute of it, over the extended reals: the forward
   pass's branches and merged rows from the host's lines, the shifted rows from the neighbouring blocks, and from them each
   block of the results. -/
module

public import proofs.«01_k».proof.Proof.MixOutPay
public import proofs.«01_k».proof.Proof.Gen.MixOutRefIdeal.Read
public import proofs.«01_k».proof.Proof.Gen.MixOutIdeal.Frame.Runs
public import Idealize.ShloMosaic.Lib.Pipeline.ValueKit
public import Idealize.ShloMosaic.Lib.StableHlo.ReadAt

@[expose] public section

set_option maxRecDepth 16384

noncomputable section

namespace Cert.MixOutIdeal.Val

open Cert.MixOutIdeal Cert.MixOutIdeal.Gen Cert.MixOutIdeal.Body Cert.Shift Cert.Gelu Idealize.ShloMosaic Idealize.ShloMosaic.TcCoe Idealize.SL.Sem
open Idealize.ShloMosaic.Pipeline (Dat)
open Cert.MixOutRefIdeal.Read (val_main_v56 val_main_v58 val_main_v121 val_main_v143)

variable (m : (ℓ : Loc nD τ sig) → Buf (Elt Ideal) ℓ)

/-- Where each window's block sits at a point: the tile, its neighbours' rows nearest to it, or the whole array. -/
theorem idxA : ∀ t : Fin cfg0.N, win0_0.index t = ![t.val, 0] ∧ win0_1.index t = ![t.val, 0] ∧ win0_2.index t = ![t.val, 4]
    ∧ win0_3.index t = ![t.val, 5] ∧ win0_4.index t = ![t.val * 16 - 1, 5] ∧ win0_5.index t = ![min ((t.val + 1) * 16) 1023, 5]
    ∧ win0_6.index t = ![t.val, 6] ∧ win0_7.index t = ![t.val * 16 - 1, 6] ∧ win0_8.index t = ![min ((t.val + 1) * 16) 1023, 6]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

theorem idxB : ∀ t : Fin cfg0.N, (win0_18.index t = ![0, 0] ∧ win0_19.index t = ![0, 0] ∧ win0_20.index t = ![0, 0] ∧ win0_27.index t = ![0, 0]
    ∧ win0_28.index t = ![0, 0] ∧ win0_29.index t = ![t.val, 0] ∧ win0_30.index t = ![t.val, 0] ∧ win0_31.index t = ![t.val, 0]
    ∧ win0_32.index t = ![t.val, 0] ∧ win0_33.index t = ![t.val, 0] ∧ win0_34.index t = ![t.val, 0] ∧ win0_37.index t = ![t.val, 0]
    ∧ win0_38.index t = ![t.val, 0] ∧ win0_39.index t = ![t.val, 0] ∧ win0_40.index t = ![0, 0])
    ∧ (grid0.coords t 0).val = t.val ∧ t.val < 64 :=
  (by decide +kernel : ∀ t : Fin grid0.N, _)

/-- The point as a tile's number. -/
def tile (t : Fin cfg0.N) : Fin 64 := ⟨t.val, (idxB t).2.2⟩

theorem coord (t : Fin cfg0.N) : (grid0.coords t 0).val = (tile t).val := (idxB t).2.1

/-! ## The arrays, as functions of the program's arguments -/

/-- The arguments the results depend on. -/
structure Args where
  dy : FVec Ideal S16384x1024 .f32
  za : FVec Ideal S16384x4608 .f32
  zm : FVec Ideal S16384x3072 .f32
  hf : FVec Ideal S16384x1024 .f32
  hr : FVec Ideal S16384x1024 .f32
  wlo : FVec Ideal S1024x1024 .f32
  scw : FVec Ideal S3x512 .f32
  wso : FVec Ideal S512x1024 .f32
  lg : FVec Ideal S512 .f32
  lb : FVec Ideal S512 .f32
  ws : FVec Ideal S4x128x128 .f32
  bs : FVec Ideal S4x128 .f32
  wgo : FVec Ideal S512x1024 .f32
  wo : FVec Ideal S1024x1024 .f32
  qg : FVec Ideal S1024 .f32

variable (A : Args)

/-- The forward pass's three branches and the rows it merges them into. -/
def ya : FVec Ideal S16384x1024 .f32 := val_main_v56 (F := Ideal) A.za A.hf A.hr A.wlo
def yb : FVec Ideal S16384x1024 .f32 := val_main_v58 (F := Ideal) A.za A.scw A.wso
def yc : FVec Ideal S16384x1024 .f32 := val_main_v121 (F := Ideal) A.za A.lg A.lb A.ws A.bs A.wgo
def mx : FVec Ideal S16384x1024 .f32 := val_main_v143 (F := Ideal) A.za A.zm A.hf A.hr A.wlo A.scw A.wso A.lg A.lb A.ws A.bs A.wgo A.wo

/-- A row of the merged rows. -/
def mrow (s : Fin 16384) (l : Fin 1024) : EReal := mx A (ix2 s l)

/-- The gradient at them, and behind the last projection. -/
def dmx (s : Fin 16384) (k : Fin 1024) : EReal := Rows.back (fun l => A.dy (ix2 s l)) (mrow A s) (fun l => A.qg (ix1 l)) k
def dm (s : Fin 16384) (k : Fin 1024) : EReal := ∑ l : Fin 1024, dmx A s l * A.wo (ix2 k l)

/-- The gradients at the three branches. -/
def dya (s : Fin 16384) (k : Fin 1024) : EReal := dm A s k * sgm (A.zm (ix2 s ⟨k.val, by omega⟩))
def dyb (s : Fin 16384) (k : Fin 1024) : EReal := dm A s k * sgm (A.zm (ix2 s ⟨1024 + k.val, by omega⟩))
def dyc (s : Fin 16384) (k : Fin 1024) : EReal := dm A s k * sgm (A.zm (ix2 s ⟨2048 + k.val, by omega⟩))

/-- The gradient at the merge gates. -/
def dzm (s : Fin 16384) (q : Fin 3072) : EReal :=
  if h : q.val < 1024 then dm A s ⟨q.val, h⟩ * ya A (ix2 s ⟨q.val, h⟩) * sgm (A.zm (ix2 s q)) * (1 - sgm (A.zm (ix2 s q)))
  else if h1 : q.val < 2048 then dm A s ⟨q.val - 1024, by omega⟩ * yb A (ix2 s ⟨q.val - 1024, by omega⟩)
    * sgm (A.zm (ix2 s q)) * (1 - sgm (A.zm (ix2 s q)))
  else dm A s ⟨q.val - 2048, by omega⟩ * yc A (ix2 s ⟨q.val - 2048, by omega⟩)
    * sgm (A.zm (ix2 s q)) * (1 - sgm (A.zm (ix2 s q)))

/-- The first branch: behind its projection, at the recurrence's result, and at its gate. -/
def dyaIn (s : Fin 16384) (k : Fin 1024) : EReal := ∑ l : Fin 1024, dya A s l * A.wlo (ix2 k l)
def dhs (s : Fin 16384) (k : Fin 1024) : EReal := dyaIn A s k * gelu (A.za (ix2 s ⟨k.val, by omega⟩))
def dgate (s : Fin 16384) (k : Fin 1024) : EReal :=
  dyaIn A s k * (A.hf (ix2 s k) + A.hr (ix2 s k)) * dgelu (A.za (ix2 s ⟨k.val, by omega⟩))

/-- The second branch: behind its projection, at the convolution, and at its gate. -/
def dqb (s : Fin 16384) (k : Fin 512) : EReal := ∑ l : Fin 1024, dyb A s l * A.wso (ix2 k l)
def dcp (s : Fin 16384) (k : Fin 512) : EReal := dqb A s k * A.za (ix2 s ⟨2048 + k.val, by omega⟩)
def p (s : Fin 16384) (k : Fin 512) : EReal :=
  A.za (ix2 s ⟨2560 + k.val, by omega⟩) * A.za (ix2 s ⟨3072 + k.val, by omega⟩)
def dscb (s : Fin 16384) (k : Fin 512) : EReal := dqb A s k
  * (A.scw (ix2 0 k) * behind 1 (fun s => p A s k) s + A.scw (ix2 1 k) * p A s k + A.scw (ix2 2 k) * ahead 1 (fun s => p A s k) s)

/-- The ten results. -/
def dmxArr : FVec Ideal S16384x1024 .bf16 := fun j => dmx A (j 0) (j 1)
def dyaArr : FVec Ideal S16384x1024 .bf16 := fun j => dya A (j 0) (j 1)
def dybArr : FVec Ideal S16384x1024 .bf16 := fun j => dyb A (j 0) (j 1)
def dycArr : FVec Ideal S16384x1024 .bf16 := fun j => dyc A (j 0) (j 1)
def dgateArr : FVec Ideal S16384x1024 .bf16 := fun j => dgate A (j 0) (j 1)
def dscbArr : FVec Ideal S16384x512 .bf16 := fun j => dscb A (j 0) (j 1)
def dzmArr : FVec Ideal S16384x3072 .bf16 := fun j => dzm A (j 0) (j 1)
def dhsArr : FVec Ideal S16384x1024 .f32 := fun j => dhs A (j 0) (j 1)
def dcpArr : FVec Ideal S16384x512 .f32 := fun j => dcp A (j 0) (j 1)
def dqgArr : FVec Ideal S1x1024 .f32 := fun j =>
  ∑ s : Fin 16384, A.dy (ix2 s (j 1)) * (mx A (ix2 s (j 1)) * Rows.scale (mrow A s))

/-- What a device's arguments hold. -/
def args (c : Dev nD) : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩

/-! ## What the region finds, the lines before it done -/

theorem V_v133 (c : Dev nD) (j : S16384x4608.Idx) : V m c main_v133 j = (args m c).za j := by
  unfold V; after_reads_at; rfl
theorem V_v134 (c : Dev nD) (j : S16384x3072.Idx) : V m c main_v134 j = (args m c).zm j := by
  unfold V; after_reads_at; rfl
theorem V_v135 (c : Dev nD) (j : S16384x1024.Idx) : V m c main_v135 j = (args m c).hf j := by
  unfold V; after_reads_at; rfl
theorem V_v136 (c : Dev nD) (j : S16384x1024.Idx) : V m c main_v136 j = (args m c).hr j := by
  unfold V; after_reads_at; rfl
theorem V_v141 (c : Dev nD) (j : S1024x1024.Idx) : V m c main_v141 j = (args m c).wlo j := by
  unfold V; after_reads_at; rfl
theorem V_v142 (c : Dev nD) (j : S512x1024.Idx) : V m c main_v142 j = (args m c).wso j := by
  unfold V; after_reads_at; rfl
theorem V_v150 (c : Dev nD) (j : S1024x1024.Idx) : V m c main_v150 j = (args m c).wo j := by
  unfold V; after_reads_at; rfl
theorem V_v151 (c : Dev nD) (j : S1x1024.Idx) : V m c main_v151 j = (args m c).qg (ix1 (j 1)) := by
  unfold V; after_reads_at; rfl
theorem V_arg0 (c : Dev nD) : V m c main_arg0 = (args m c).dy := by
  unfold V; after_reads_at; rfl
theorem V_arg6 (c : Dev nD) : V m c main_arg6 = (args m c).scw := by
  unfold V; after_reads_at; rfl
theorem V_v137 (c : Dev nD) : V m c main_v137 = ya (args m c) := by
  unfold V ya args
  after_reads_simp
  rfl
theorem V_v138 (c : Dev nD) : V m c main_v138 = yb (args m c) := by
  unfold V yb args
  after_reads_simp
  rfl
set_option maxHeartbeats 4000000 in
theorem V_v139 (c : Dev nD) : V m c main_v139 = yc (args m c) := by
  unfold V yc args
  after_reads_simp
  rfl
set_option maxHeartbeats 8000000 in
theorem V_v140 (c : Dev nD) : V m c main_v140 = mx (args m c) := by
  unfold V mx args
  after_reads_simp
  rfl

/-! ## The blocks, in the whole arrays -/

theorem iblk0_at (c : Dev nD) (t : Fin cfg0.N) (y : Fin 256) (k : Fin 1024) : iblk m c 0 t (ix2 y k) = (args m c).dy (ix2 (at_ (tile t) y) k) := by
  blk_simp [iblk]; rw [V_arg0]; blk_point [idxA t, idxB t, at_, tile]
theorem iblk11_at (c : Dev nD) (t : Fin cfg0.N) (y : Fin 256) (k : Fin 3072) : iblk m c 11 t (ix2 y k) = (args m c).zm (ix2 (at_ (tile t) y) k) := by
  blk_simp [iblk]; rw [V_v134]; blk_point [idxA t, idxB t, at_, tile]
theorem iblk12_at (c : Dev nD) (t : Fin cfg0.N) (y : Fin 256) (k : Fin 1024) : iblk m c 12 t (ix2 y k) = (args m c).hf (ix2 (at_ (tile t) y) k) := by
  blk_simp [iblk]; rw [V_v135]; blk_point [idxA t, idxB t, at_, tile]
theorem iblk13_at (c : Dev nD) (t : Fin cfg0.N) (y : Fin 256) (k : Fin 1024) : iblk m c 13 t (ix2 y k) = (args m c).hr (ix2 (at_ (tile t) y) k) := by
  blk_simp [iblk]; rw [V_v136]; blk_point [idxA t, idxB t, at_, tile]
theorem iblk14_at (c : Dev nD) (t : Fin cfg0.N) (y : Fin 256) (k : Fin 1024) : iblk m c 14 t (ix2 y k) = ya (args m c) (ix2 (at_ (tile t) y) k) := by
  blk_simp [iblk]; rw [V_v137]; blk_point [idxA t, idxB t, at_, tile]
theorem iblk15_at (c : Dev nD) (t : Fin cfg0.N) (y : Fin 256) (k : Fin 1024) : iblk m c 15 t (ix2 y k) = yb (args m c) (ix2 (at_ (tile t) y) k) := by
  blk_simp [iblk]; rw [V_v138]; blk_point [idxA t, idxB t, at_, tile]
theorem iblk16_at (c : Dev nD) (t : Fin cfg0.N) (y : Fin 256) (k : Fin 1024) : iblk m c 16 t (ix2 y k) = yc (args m c) (ix2 (at_ (tile t) y) k) := by
  blk_simp [iblk]; rw [V_v139]; blk_point [idxA t, idxB t, at_, tile]
theorem iblk17_at (c : Dev nD) (t : Fin cfg0.N) (y : Fin 256) (k : Fin 1024) : iblk m c 17 t (ix2 y k) = mx (args m c) (ix2 (at_ (tile t) y) k) := by
  blk_simp [iblk]; rw [V_v140]; blk_point [idxA t, idxB t, at_, tile]
theorem iblk18_at (c : Dev nD) (t : Fin cfg0.N) (y : Fin 1024) (k : Fin 1024) : iblk m c 18 t (ix2 y k) = (args m c).wlo (ix2 y k) := by
  blk_simp [iblk]; rw [V_v141]; blk_point [idxA t, idxB t]
theorem iblk19_at (c : Dev nD) (t : Fin cfg0.N) (y : Fin 3) (k : Fin 512) : iblk m c 19 t (ix2 y k) = (args m c).scw (ix2 y k) := by
  blk_simp [iblk]; rw [V_arg6]; blk_point [idxA t, idxB t]
theorem iblk20_at (c : Dev nD) (t : Fin cfg0.N) (y : Fin 512) (k : Fin 1024) : iblk m c 20 t (ix2 y k) = (args m c).wso (ix2 y k) := by
  blk_simp [iblk]; rw [V_v142]; blk_point [idxA t, idxB t]
theorem iblk27_at (c : Dev nD) (t : Fin cfg0.N) (y : Fin 1024) (k : Fin 1024) : iblk m c 27 t (ix2 y k) = (args m c).wo (ix2 y k) := by
  blk_simp [iblk]; rw [V_v150]; blk_point [idxA t, idxB t]
theorem iblk28_at (c : Dev nD) (t : Fin cfg0.N) (k : Fin 1024) : iblk m c 28 t (ix2 0 k) = (args m c).qg (ix1 k) := by
  blk_simp [iblk]; rw [V_v151]; blk_point [idxA t, idxB t]
theorem emb2 (t : Fin cfg0.N) (y : Fin 256) (k : Fin 512) : ((View.whole main_v133).slice (win0_2.rect t)).emb (ix2 y k) = ix2 (at_ (tile t) y) ⟨2048 + k.val, by omega⟩ := by
  blk_ext [idxA t, idxB t, at_, tile]
theorem iblk2_at (c : Dev nD) (t : Fin cfg0.N) (y : Fin 256) (k : Fin 512) : iblk m c 2 t (ix2 y k) = (args m c).za (ix2 (at_ (tile t) y) ⟨2048 + k.val, by omega⟩) := by
  blk_simp [iblk]; rw [V_v133, emb2]
theorem emb3 (t : Fin cfg0.N) (y : Fin 256) (k : Fin 512) : ((View.whole main_v133).slice (win0_3.rect t)).emb (ix2 y k) = ix2 (at_ (tile t) y) ⟨2560 + k.val, by omega⟩ := by
  blk_ext [idxA t, idxB t, at_, tile]
theorem iblk3_at (c : Dev nD) (t : Fin cfg0.N) (y : Fin 256) (k : Fin 512) : iblk m c 3 t (ix2 y k) = (args m c).za (ix2 (at_ (tile t) y) ⟨2560 + k.val, by omega⟩) := by
  blk_simp [iblk]; rw [V_v133, emb3]
theorem emb6 (t : Fin cfg0.N) (y : Fin 256) (k : Fin 512) : ((View.whole main_v133).slice (win0_6.rect t)).emb (ix2 y k) = ix2 (at_ (tile t) y) ⟨3072 + k.val, by omega⟩ := by
  blk_ext [idxA t, idxB t, at_, tile]
theorem iblk6_at (c : Dev nD) (t : Fin cfg0.N) (y : Fin 256) (k : Fin 512) : iblk m c 6 t (ix2 y k) = (args m c).za (ix2 (at_ (tile t) y) ⟨3072 + k.val, by omega⟩) := by
  blk_simp [iblk]; rw [V_v133, emb6]
theorem x1_at (c : Dev nD) (t : Fin cfg0.N) (y : Fin 256) (k : Fin 1024) : X0_1 m c t (ix2 y k) = (args m c).za (ix2 (at_ (tile t) y) ⟨k.val, by omega⟩) := by
  unfold X0_1 Pipeline.Window.fill; rw [dif_pos (moved0_1 t (ix2 y k))]; blk_simp [iblk]; rw [V_v133]
  refine congrArg _ (funext fun d => ?_)
  fin_cases d
  all_goals refine Fin.ext ?_; (blk_simp [idxA t, idxB t, at_, tile]; rfl)

/-! ## The rows next to the tile -/

theorem embh4 (t : Fin cfg0.N) (s : Fin 16384) (h : s.val + 1 = t.val * 256) (k : Fin 512) : ((View.whole main_v133).slice (win0_4.rect t)).emb (ix2 15 k) = ix2 s ⟨2560 + k.val, by omega⟩ := by
  have ht := (idxB t).2.2
  have hs := s.isLt
  blk_ext [idxA t, idxB t]
theorem halo4 (c : Dev nD) (t : Fin cfg0.N) (s : Fin 16384) (h : s.val + 1 = t.val * 256) (k : Fin 512) : iblk m c 4 t (ix2 15 k) = (args m c).za (ix2 s ⟨2560 + k.val, by omega⟩) := by
  blk_simp [iblk]; rw [V_v133, embh4 t s h k]
theorem embh7 (t : Fin cfg0.N) (s : Fin 16384) (h : s.val + 1 = t.val * 256) (k : Fin 512) : ((View.whole main_v133).slice (win0_7.rect t)).emb (ix2 15 k) = ix2 s ⟨3072 + k.val, by omega⟩ := by
  have ht := (idxB t).2.2
  have hs := s.isLt
  blk_ext [idxA t, idxB t]
theorem halo7 (c : Dev nD) (t : Fin cfg0.N) (s : Fin 16384) (h : s.val + 1 = t.val * 256) (k : Fin 512) : iblk m c 7 t (ix2 15 k) = (args m c).za (ix2 s ⟨3072 + k.val, by omega⟩) := by
  blk_simp [iblk]; rw [V_v133, embh7 t s h k]
theorem embh5 (t : Fin cfg0.N) (s : Fin 16384) (h : s.val = t.val * 256 + 256) (k : Fin 512) : ((View.whole main_v133).slice (win0_5.rect t)).emb (ix2 0 k) = ix2 s ⟨2560 + k.val, by omega⟩ := by
  have ht := (idxB t).2.2
  have hs := s.isLt
  blk_ext [idxA t, idxB t]
theorem halo5 (c : Dev nD) (t : Fin cfg0.N) (s : Fin 16384) (h : s.val = t.val * 256 + 256) (k : Fin 512) : iblk m c 5 t (ix2 0 k) = (args m c).za (ix2 s ⟨2560 + k.val, by omega⟩) := by
  blk_simp [iblk]; rw [V_v133, embh5 t s h k]
theorem embh8 (t : Fin cfg0.N) (s : Fin 16384) (h : s.val = t.val * 256 + 256) (k : Fin 512) : ((View.whole main_v133).slice (win0_8.rect t)).emb (ix2 0 k) = ix2 s ⟨3072 + k.val, by omega⟩ := by
  have ht := (idxB t).2.2
  have hs := s.isLt
  blk_ext [idxA t, idxB t]
theorem halo8 (c : Dev nD) (t : Fin cfg0.N) (s : Fin 16384) (h : s.val = t.val * 256 + 256) (k : Fin 512) : iblk m c 8 t (ix2 0 k) = (args m c).za (ix2 s ⟨3072 + k.val, by omega⟩) := by
  blk_simp [iblk]; rw [V_v133, embh8 t s h k]

/-! ## The blocks of the results -/

variable (c : Dev nD) (t : Fin cfg0.N)

theorem dmx_blk (y : Fin 256) (k : Fin 1024) : dmxBlk (F := Ideal) (iblk m c 0 t) (iblk m c 17 t) (iblk m c 28 t) (ix2 y k) = dmx (args m c) (at_ (tile t) y) k :=
  (Pay.dmx_at _ _ _ y k).trans (Rows.congr3 (fun a b g => Rows.back a b g k) (funext (iblk0_at m c t y)) (funext (iblk17_at m c t y)) (funext (iblk28_at m c t)))

theorem dm_blk (y : Fin 256) (k : Fin 1024) : dmBlk (F := Ideal) (iblk m c 0 t) (iblk m c 17 t) (iblk m c 27 t) (iblk m c 28 t) (ix2 y k) = dm (args m c) (at_ (tile t) y) k :=
  (Pay.dm_at _ _ y k).trans (Finset.sum_congr rfl fun l _ => congrArg₂ (fun a b : EReal => a * b) (dmx_blk m c t y l) (iblk27_at m c t k l))

theorem dya_blk (y : Fin 256) (k : Fin 1024) : dyaBlk (F := Ideal) (iblk m c 0 t) (iblk m c 11 t) (iblk m c 17 t) (iblk m c 27 t) (iblk m c 28 t) (ix2 y k) = dya (args m c) (at_ (tile t) y) k :=
  (Pay.dya_at _ _ _ _ _ y k).trans (congrArg₂ (fun a b : EReal => a * b) (dm_blk m c t y k) (congrArg sgm (iblk11_at m c t y _)))

theorem dyb_blk (y : Fin 256) (k : Fin 1024) : dybBlk (F := Ideal) (iblk m c 0 t) (iblk m c 11 t) (iblk m c 17 t) (iblk m c 27 t) (iblk m c 28 t) (ix2 y k) = dyb (args m c) (at_ (tile t) y) k :=
  (Pay.dyb_at _ _ _ _ _ y k).trans (congrArg₂ (fun a b : EReal => a * b) (dm_blk m c t y k) (congrArg sgm (iblk11_at m c t y _)))

theorem dyc_blk (y : Fin 256) (k : Fin 1024) : dycBlk (F := Ideal) (iblk m c 0 t) (iblk m c 11 t) (iblk m c 17 t) (iblk m c 27 t) (iblk m c 28 t) (ix2 y k) = dyc (args m c) (at_ (tile t) y) k :=
  (Pay.dyc_at _ _ _ _ _ y k).trans (congrArg₂ (fun a b : EReal => a * b) (dm_blk m c t y k) (congrArg sgm (iblk11_at m c t y _)))

theorem dzm_blk (y : Fin 256) (q : Fin 3072) : dzmBlk (F := Ideal) (iblk m c 0 t) (iblk m c 11 t) (iblk m c 14 t) (iblk m c 15 t) (iblk m c 16 t) (iblk m c 17 t) (iblk m c 27 t) (iblk m c 28 t) (ix2 y q) = dzm (args m c) (at_ (tile t) y) q := by
  refine (Pay.dzm_at _ _ _ _ _ _ _ _ y q).trans ?_
  unfold dzm
  split_ifs
  · rw [dm_blk, iblk11_at, iblk14_at]
  · rw [dm_blk, iblk11_at, iblk15_at]
  · rw [dm_blk, iblk11_at, iblk16_at]

theorem dyaIn_blk (y : Fin 256) (k : Fin 1024) : dyaInBlk (F := Ideal) (iblk m c 0 t) (iblk m c 11 t) (iblk m c 17 t) (iblk m c 18 t) (iblk m c 27 t) (iblk m c 28 t) (ix2 y k) = dyaIn (args m c) (at_ (tile t) y) k :=
  (Pay.dyaIn_at _ _ _ _ _ y k _).trans (Finset.sum_congr rfl fun l _ => congrArg₂ (fun a b : EReal => a * b) (dya_blk m c t y l) (iblk18_at m c t k l))

theorem dhs_blk (y : Fin 256) (k : Fin 1024) : dhsBlk (F := Ideal) (iblk m c 0 t) (X0_1 m c t) (iblk m c 11 t) (iblk m c 17 t) (iblk m c 18 t) (iblk m c 27 t) (iblk m c 28 t) (ix2 y k) = dhs (args m c) (at_ (tile t) y) k :=
  (Pay.dhs_at _ _ _ _ _ y k _ _).trans (congrArg₂ (fun a b : EReal => a * b) (dyaIn_blk m c t y k) (congrArg gelu (x1_at m c t y k)))

theorem dgate_blk (y : Fin 256) (k : Fin 1024) : dgateBlk (F := Ideal) (iblk m c 0 t) (X0_1 m c t) (iblk m c 11 t) (iblk m c 12 t) (iblk m c 13 t) (iblk m c 17 t) (iblk m c 18 t) (iblk m c 27 t) (iblk m c 28 t) (ix2 y k) = dgate (args m c) (at_ (tile t) y) k :=
  (Pay.dgate_at _ _ _ _ _ y k _ _ _ _).trans (congrArg₂ (fun a b : EReal => a * b) (congrArg₂ (fun a b : EReal => a * b) (dyaIn_blk m c t y k)
    (congrArg₂ (fun a b : EReal => a + b) (iblk12_at m c t y k) (iblk13_at m c t y k))) (congrArg dgelu (x1_at m c t y k)))

theorem dqb_blk (y : Fin 256) (k : Fin 512) : dqbBlk (F := Ideal) (iblk m c 0 t) (iblk m c 11 t) (iblk m c 17 t) (iblk m c 20 t) (iblk m c 27 t) (iblk m c 28 t) (ix2 y k) = dqb (args m c) (at_ (tile t) y) k :=
  (Pay.dqb_at _ _ _ _ _ y _ k).trans (Finset.sum_congr rfl fun l _ => congrArg₂ (fun a b : EReal => a * b) (dyb_blk m c t y l) (iblk20_at m c t k l))

theorem dcp_blk (y : Fin 256) (k : Fin 512) : dcpBlk (F := Ideal) (iblk m c 0 t) (iblk m c 2 t) (iblk m c 11 t) (iblk m c 17 t) (iblk m c 20 t) (iblk m c 27 t) (iblk m c 28 t) (ix2 y k) = dcp (args m c) (at_ (tile t) y) k :=
  (Pay.dcp_at _ _ _ _ _ y _ _ k).trans (congrArg₂ (fun a b : EReal => a * b) (dqb_blk m c t y k) (iblk2_at m c t y k))

theorem dscb_blk (y : Fin 256) (k : Fin 512) : dscbBlk (F := Ideal) (grid0.coords t) (iblk m c 0 t) (iblk m c 3 t) (iblk m c 4 t) (iblk m c 5 t) (iblk m c 6 t) (iblk m c 7 t) (iblk m c 8 t) (iblk m c 11 t) (iblk m c 17 t) (iblk m c 19 t) (iblk m c 20 t) (iblk m c 27 t) (iblk m c 28 t) (ix2 y k)
    = dscb (args m c) (at_ (tile t) y) k := by
  refine (Pay.dscb_at _ _ _ _ _ y (coord t) (iblk m c 19 t) (iblk m c 20 t) (f := p (args m c))
    (fun y k => congrArg₂ (fun a b : EReal => a * b) (iblk3_at m c t y k) (iblk6_at m c t y k))
    (fun s h k => congrArg₂ (fun a b : EReal => a * b) (halo4 m c t s h k) (halo7 m c t s h k))
    (fun s h k => congrArg₂ (fun a b : EReal => a * b) (halo5 m c t s h k) (halo8 m c t s h k)) k).trans ?_
  rw [iblk19_at, iblk19_at, iblk19_at, dqb_blk]; rfl

theorem dqg_blk (k : Fin 1024) : dqgTerm (F := Ideal) (iblk m c 0 t) (iblk m c 17 t) (ix2 0 k)
    = ∑ y : Fin 256, (args m c).dy (ix2 (at_ (tile t) y) k) * (mx (args m c) (ix2 (at_ (tile t) y) k) * Rows.scale (mrow (args m c) (at_ (tile t) y))) :=
  (Pay.dqgTerm_at _ _ k).trans (Finset.sum_congr rfl fun y _ => congrArg₂ (fun a b : EReal => a * b) (iblk0_at m c t y k)
    (congrArg₂ (fun a b : EReal => a * b) (iblk17_at m c t y k) (congrArg Rows.scale (funext (iblk17_at m c t y)))))
theorem dqgNext_blk (xo : Vec Ideal S1x1024 .f32) (k : Fin 1024) : dqgNext (F := Ideal) (iblk m c 0 t) (iblk m c 17 t) xo (ix2 0 k)
    = xo (ix2 0 k) + ∑ y : Fin 256, (args m c).dy (ix2 (at_ (tile t) y) k) * (mx (args m c) (ix2 (at_ (tile t) y) k) * Rows.scale (mrow (args m c) (at_ (tile t) y))) :=
  (Pay.dqgNext_at _ _ xo k).trans (congrArg (fun a : EReal => xo (ix2 0 k) + a) (dqg_blk m c t k))

end Cert.MixOutIdeal.Val

end
-- ==== Proof.MixOutConds.lean ====
module

public import proofs.«01_k».proof.Proof.Gen.MixOutIdeal.Frame.Runs
public import proofs.«01_k».proof.Proof.MixOutBlocks
public import Idealize.ShloMosaic.Lib.Claim

/-! # Which grid points start the sums

The output layer's gradient keeps five running sums over its 64 grid points: the first point starts them and every later one
continues them. -/

@[expose] public section

set_option maxRecDepth 16384

noncomputable section

namespace Cert.MixOutIdeal.Body

open Cert.MixOutIdeal Cert.MixOutIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Reading the whole of a buffer that has been stored into in pieces. -/
theorem readCov_whole (v : View sig .tc .vmem S256x512 .f32) (L : List (View.Piece (Elt F) S256x512 .f32)) :
    v.readCov L (Rect.unit ![0, 0] ![256, 512] inb_S256x512_S256x512_0_0).toLoadRect = View.canon L :=
  (View.readCov_eq_canon' v L _).trans (View.ld_unit_lit' (Val := Elt F) inb_S256x512_S256x512_0_0 (View.canon L) (by decide))

/-- The grid point starts the sums: which of the body's conditions hold then, -/
abbrev Starts (i : grid0.Coords) : Prop :=
  cond0_0 i ∧ ¬cond0_1 i ∧ cond0_2 i ∧ ¬cond0_3 i ∧ cond0_4 i ∧ ¬cond0_5 i ∧ cond0_6 i ∧ ¬cond0_7 i ∧ cond0_8 i ∧ ¬cond0_9 i ∧
    cond0_10 i ∧ ¬cond0_11 i ∧ cond0_12 i ∧ ¬cond0_13 i ∧ cond0_14 i ∧ ¬cond0_15 i ∧ cond0_16 i ∧ ¬cond0_17 i ∧ cond0_18 i ∧
    ¬cond0_19 i ∧ cond0_20 i ∧ ¬cond0_21 i

/-- or it continues them. -/
abbrev Continues (i : grid0.Coords) : Prop :=
  ¬cond0_0 i ∧ cond0_1 i ∧ ¬cond0_2 i ∧ cond0_3 i ∧ ¬cond0_4 i ∧ cond0_5 i ∧ ¬cond0_6 i ∧ cond0_7 i ∧ ¬cond0_8 i ∧ cond0_9 i ∧
    ¬cond0_10 i ∧ cond0_11 i ∧ ¬cond0_12 i ∧ cond0_13 i ∧ ¬cond0_14 i ∧ cond0_15 i ∧ ¬cond0_16 i ∧ cond0_17 i ∧ ¬cond0_18 i ∧
    cond0_19 i ∧ ¬cond0_20 i ∧ cond0_21 i

/-- The first point starts the sums, -/
theorem starts : ∀ t : Fin cfg0.N, t.val = 0 → Starts (grid0.coords t) :=
  (by decide +kernel : ∀ t : Fin grid0.N, t.val = 0 → Starts (grid0.coords t))

/-- and every later one continues them. -/
theorem continues : ∀ t : Fin cfg0.N, t.val ≠ 0 → Continues (grid0.coords t) :=
  (by decide +kernel : ∀ t : Fin grid0.N, t.val ≠ 0 → Continues (grid0.coords t))

end Cert.MixOutIdeal.Body

end
-- ==== Proof.MixOutFirst.lean ====
module

public import proofs.«01_k».proof.Proof.MixOutConds

/-! # The first grid point of the output layer's gradient

What running the body there leaves in each of its sixteen results, as a function of the 29 blocks. Nothing depends on how floats are
read. -/

@[expose] public section

set_option maxRecDepth 16384

noncomputable section

namespace Cert.MixOutIdeal.Body

open Cert.MixOutIdeal Cert.MixOutIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the body is some five hundred operations long: the steps through it add up
set_option maxHeartbeats 8000000 in
/-- **The first point.** From the blocks and any contents of the results and the two scratch buffers, the body ends with the blocks
as they were, the results as stated, and something in the scratch buffers. -/
theorem run_first (c : Dev nD) (i : grid0.Coords)
    (arg1 : Memref sig .tc .vmem S256x1024 .f32) (arg2 : Memref sig .tc .vmem S256x1024 .bf16) (arg3 arg4 : Memref sig .tc .vmem
    S256x512 .bf16) (arg5 arg6 : Memref sig .tc .vmem S16x512 .bf16) (arg7 : Memref sig .tc .vmem S256x512 .bf16) (arg8 arg9 :
    Memref sig .tc .vmem S16x512 .bf16) (arg10 arg11 : Memref sig .tc .vmem S256x512 .bf16) (arg12 : Memref sig .tc .vmem S256x3072
    .bf16) (arg13 arg14 arg15 arg16 arg17 arg18 : Memref sig .tc .vmem S256x1024 .bf16) (arg19 : Memref sig .tc .vmem S1024x1024
    .bf16) (arg20 : Memref sig .tc .vmem S3x512 .f32) (arg21 : Memref sig .tc .vmem S512x1024 .bf16) (arg22 arg23 : Memref sig .tc
    .vmem S1x512 .f32) (arg24 arg25 : Memref sig .tc .vmem S4x128x128 .bf16) (arg26 : Memref sig .tc .vmem S128x4 .f32) (arg27 :
    Memref sig .tc .vmem S512x1024 .bf16) (arg28 : Memref sig .tc .vmem S1024x1024 .bf16) (arg29 : Memref sig .tc .vmem S1x1024
    .f32) (arg30 arg31 arg32 arg33 arg34 : Memref sig .tc .vmem S256x1024 .bf16) (arg35 arg36 arg37 : Memref sig .tc .vmem S256x512
    .bf16) (arg38 : Memref sig .tc .vmem S256x3072 .bf16) (arg39 : Memref sig .tc .vmem S256x1024 .f32) (arg40 : Memref sig .tc
    .vmem S256x512 .f32) (arg41 : Memref sig .tc .vmem S1x1024 .f32) (arg42 arg43 : Memref sig .tc .vmem S1x512 .f32) (arg44 arg45 :
    Memref sig .tc .vmem S4x128x128 .f32) (arg46 arg47 : Memref sig .tc .vmem S256x512 .f32)
    (w1 : arg1.IsWhole) (w2 : arg2.IsWhole) (w3 : arg3.IsWhole) (w4 : arg4.IsWhole) (w5 : arg5.IsWhole) (w6 : arg6.IsWhole) (w7 :
    arg7.IsWhole) (w8 : arg8.IsWhole) (w9 : arg9.IsWhole) (w10 : arg10.IsWhole) (w11 : arg11.IsWhole) (w12 : arg12.IsWhole) (w13 :
    arg13.IsWhole) (w14 : arg14.IsWhole) (w15 : arg15.IsWhole) (w16 : arg16.IsWhole) (w17 : arg17.IsWhole) (w18 : arg18.IsWhole)
    (w19 : arg19.IsWhole) (w20 : arg20.IsWhole) (w21 : arg21.IsWhole) (w22 : arg22.IsWhole) (w23 : arg23.IsWhole) (w24 :
    arg24.IsWhole) (w25 : arg25.IsWhole) (w26 : arg26.IsWhole) (w27 : arg27.IsWhole) (w28 : arg28.IsWhole) (w29 : arg29.IsWhole)
    (w30 : arg30.IsWhole) (w31 : arg31.IsWhole) (w32 : arg32.IsWhole) (w33 : arg33.IsWhole) (w34 : arg34.IsWhole) (w35 :
    arg35.IsWhole) (w36 : arg36.IsWhole) (w37 : arg37.IsWhole) (w38 : arg38.IsWhole) (w39 : arg39.IsWhole) (w40 : arg40.IsWhole)
    (w41 : arg41.IsWhole) (w42 : arg42.IsWhole) (w43 : arg43.IsWhole) (w44 : arg44.IsWhole) (w45 : arg45.IsWhole) (w46 :
    arg46.IsWhole) (w47 : arg47.IsWhole)
    (h : Starts i)
    (x0 : Vec F S256x1024 .f32) (x1 : Vec F S256x1024 .bf16) (x2 x3 : Vec F S256x512 .bf16) (x4 x5 : Vec F S16x512 .bf16) (x6 : Vec
    F S256x512 .bf16) (x7 x8 : Vec F S16x512 .bf16) (x9 x10 : Vec F S256x512 .bf16) (x11 : Vec F S256x3072 .bf16) (x12 x13 x14 x15
    x16 x17 : Vec F S256x1024 .bf16) (x18 : Vec F S1024x1024 .bf16) (x19 : Vec F S3x512 .f32) (x20 : Vec F S512x1024 .bf16) (x21 x22
    : Vec F S1x512 .f32) (x23 x24 : Vec F S4x128x128 .bf16) (x25 : Vec F S128x4 .f32) (x26 : Vec F S512x1024 .bf16) (x27 : Vec F
    S1024x1024 .bf16) (x28 : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare
      x11 ∗ owns (c : Thread nD τ) arg13 fullShare x12 ∗ owns (c : Thread nD τ) arg14 fullShare x13 ∗ owns (c : Thread nD τ) arg15
      fullShare x14 ∗ owns (c : Thread nD τ) arg16 fullShare x15 ∗ owns (c : Thread nD τ) arg17 fullShare x16 ∗ owns (c : Thread nD τ)
      arg18 fullShare x17 ∗ owns (c : Thread nD τ) arg19 fullShare x18 ∗ owns (c : Thread nD τ) arg20 fullShare x19 ∗ owns (c : Thread
      nD τ) arg21 fullShare x20 ∗ owns (c : Thread nD τ) arg22 fullShare x21 ∗ owns (c : Thread nD τ) arg23 fullShare x22 ∗ owns (c :
      Thread nD τ) arg24 fullShare x23 ∗ owns (c : Thread nD τ) arg25 fullShare x24 ∗ owns (c : Thread nD τ) arg26 fullShare x25 ∗
      owns (c : Thread nD τ) arg27 fullShare x26 ∗ owns (c : Thread nD τ) arg28 fullShare x27 ∗ owns (c : Thread nD τ) arg29 fullShare
      x28 ∗ (∃ d, owns (c : Thread nD τ) arg30 fullShare d) ∗ (∃ d, owns (c : Thread nD τ) arg31 fullShare d) ∗ (∃ d, owns (c : Thread
      nD τ) arg32 fullShare d) ∗ (∃ d, owns (c : Thread nD τ) arg33 fullShare d) ∗ (∃ d, owns (c : Thread nD τ) arg34 fullShare d) ∗
      (∃ d, owns (c : Thread nD τ) arg35 fullShare d) ∗ (∃ d, owns (c : Thread nD τ) arg36 fullShare d) ∗ (∃ d, owns (c : Thread nD τ)
      arg37 fullShare d) ∗ (∃ d, owns (c : Thread nD τ) arg38 fullShare d) ∗ (∃ d, owns (c : Thread nD τ) arg39 fullShare d) ∗ (∃ d,
      owns (c : Thread nD τ) arg40 fullShare d) ∗ (∃ d, owns (c : Thread nD τ) arg41 fullShare d) ∗ (∃ d, owns (c : Thread nD τ) arg42
      fullShare d) ∗ (∃ d, owns (c : Thread nD τ) arg43 fullShare d) ∗ (∃ d, owns (c : Thread nD τ) arg44 fullShare d) ∗ (∃ d, owns (c
      : Thread nD τ) arg45 fullShare d) ∗ (∃ d, owns (c : Thread nD τ) arg46 fullShare d) ∗ (∃ d, owns (c : Thread nD τ) arg47
      fullShare d)
      ∗ (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare
        x11 ∗ owns (c : Thread nD τ) arg13 fullShare x12 ∗ owns (c : Thread nD τ) arg14 fullShare x13 ∗ owns (c : Thread nD τ) arg15
        fullShare x14 ∗ owns (c : Thread nD τ) arg16 fullShare x15 ∗ owns (c : Thread nD τ) arg17 fullShare x16 ∗ owns (c : Thread nD τ)
        arg18 fullShare x17 ∗ owns (c : Thread nD τ) arg19 fullShare x18 ∗ owns (c : Thread nD τ) arg20 fullShare x19 ∗ owns (c : Thread
        nD τ) arg21 fullShare x20 ∗ owns (c : Thread nD τ) arg22 fullShare x21 ∗ owns (c : Thread nD τ) arg23 fullShare x22 ∗ owns (c :
        Thread nD τ) arg24 fullShare x23 ∗ owns (c : Thread nD τ) arg25 fullShare x24 ∗ owns (c : Thread nD τ) arg26 fullShare x25 ∗
        owns (c : Thread nD τ) arg27 fullShare x26 ∗ owns (c : Thread nD τ) arg28 fullShare x27 ∗ owns (c : Thread nD τ) arg29 fullShare
        x28 ∗ owns (c : Thread nD τ) arg30 fullShare (dmxBlk x0 x17 x28) ∗ owns (c : Thread nD τ) arg31 fullShare (dyaBlk x0 x11 x17 x27
        x28) ∗ owns (c : Thread nD τ) arg32 fullShare (dybBlk x0 x11 x17 x27 x28) ∗ owns (c : Thread nD τ) arg33 fullShare (dycBlk x0
        x11 x17 x27 x28) ∗ owns (c : Thread nD τ) arg34 fullShare (dgateBlk x0 x1 x11 x12 x13 x17 x18 x27 x28) ∗ owns (c : Thread nD τ)
        arg35 fullShare (dscbBlk i x0 x3 x4 x5 x6 x7 x8 x11 x17 x19 x20 x27 x28) ∗ owns (c : Thread nD τ) arg36 fullShare (dsuBlk x0 x9
        x10 x11 x17 x21 x22 x23 x25 x26 x27 x28) ∗ owns (c : Thread nD τ) arg37 fullShare (dsvBlk x0 x9 x10 x11 x17 x21 x24 x26 x27 x28)
        ∗ owns (c : Thread nD τ) arg38 fullShare (dzmBlk x0 x11 x14 x15 x16 x17 x27 x28) ∗ owns (c : Thread nD τ) arg39 fullShare
        (dhsBlk x0 x1 x11 x17 x18 x27 x28) ∗ owns (c : Thread nD τ) arg40 fullShare (dcpBlk x0 x2 x11 x17 x20 x27 x28) ∗ owns (c :
        Thread nD τ) arg41 fullShare (dqgTerm x0 x17) ∗ owns (c : Thread nD τ) arg42 fullShare (dlgTerm x0 x9 x10 x11 x17 x24 x26 x27
        x28) ∗ owns (c : Thread nD τ) arg43 fullShare (dlbTerm x0 x9 x11 x17 x24 x26 x27 x28) ∗ owns (c : Thread nD τ) arg44 fullShare
        (dwsTerm x0 x9 x10 x11 x17 x21 x22 x26 x27 x28) ∗ owns (c : Thread nD τ) arg45 fullShare (dbsTerm x0 x9 x11 x17 x26 x27 x28) ∗
        (∃ d, owns (c : Thread nD τ) arg46 fullShare d) ∗ (∃ d, owns (c : Thread nD τ) arg47 fullShare d)) -∗ K ⟨⟩))
    ⊢ wp frame (wpE (defs₀ (F := F)) Variants.none c none) E
      (cc0_mix_out_bwd i arg1 w1 arg2 w2 arg3 w3 arg4 w4 arg5 w5 arg6 w6 arg7 w7 arg8 w8 arg9 w9 arg10 w10 arg11 w11 arg12 w12 arg13 w13 arg14 w14 arg15
        w15 arg16 w16 arg17 w17 arg18 w18 arg19 w19 arg20 w20 arg21 w21 arg22 w22 arg23 w23 arg24 w24 arg25 w25 arg26 w26 arg27 w27
        arg28 w28 arg29 w29 arg30 w30 arg31 w31 arg32 w32 arg33 w33 arg34 w34 arg35 w35 arg36 w36 arg37 w37 arg38 w38 arg39 w39 arg40
        w40 arg41 w41 arg42 w42 arg43 w43 arg44 w44 arg45 w45 arg46 w46 arg47 w47) K := by
  obtain ⟨h0, h1, h2, h3, h4, h5, h6, h7, h8, h9, h10, h11, h12, h13, h14, h15, h16, h17, h18, h19, h20, h21⟩ := h
  simp only [cc0_mix_out_bwd_eq_skeleton]; unfold cc0_mix_out_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, ⟨%f16, %e16, H16⟩, ⟨%f17, %e17, H17⟩, ⟨%f18, %e18, H18⟩, ⟨%f19, %e19, H19⟩, ⟨%f20, %e20, H20⟩, ⟨%f21, %e21,
    H21⟩, ⟨%f22, %e22, H22⟩, ⟨%f23, %e23, H23⟩, ⟨%f24, %e24, H24⟩, ⟨%f25, %e25, H25⟩, ⟨%f26, %e26, H26⟩, ⟨%f27, %e27, H27⟩, ⟨%f28,
    %e28, H28⟩, ⟨%d29, %f29, -, H29⟩, ⟨%d30, %f30, -, H30⟩, ⟨%d31, %f31, -, H31⟩, ⟨%d32, %f32, -, H32⟩, ⟨%d33, %f33, -, H33⟩, ⟨%d34,
    %f34, -, H34⟩, ⟨%d35, %f35, -, H35⟩, ⟨%d36, %f36, -, H36⟩, ⟨%d37, %f37, -, H37⟩, ⟨%d38, %f38, -, H38⟩, ⟨%d39, %f39, -, H39⟩,
    ⟨%d40, %f40, -, H40⟩, ⟨%d41, %f41, -, H41⟩, ⟨%d42, %f42, -, H42⟩, ⟨%d43, %f43, -, H43⟩, ⟨%d44, %f44, -, H44⟩, ⟨%d45, %f45, -,
    H45⟩, ⟨%d46, %f46, -, H46⟩, Hk⟩
  obtain rfl := w1.eq_unread e0
  obtain rfl := w2.eq_unread e1
  obtain rfl := w3.eq_unread e2
  obtain rfl := w4.eq_unread e3
  obtain rfl := w5.eq_unread e4
  obtain rfl := w6.eq_unread e5
  obtain rfl := w7.eq_unread e6
  obtain rfl := w8.eq_unread e7
  obtain rfl := w9.eq_unread e8
  obtain rfl := w10.eq_unread e9
  obtain rfl := w11.eq_unread e10
  obtain rfl := w12.eq_unread e11
  obtain rfl := w13.eq_unread e12
  obtain rfl := w14.eq_unread e13
  obtain rfl := w15.eq_unread e14
  obtain rfl := w16.eq_unread e15
  obtain rfl := w17.eq_unread e16
  obtain rfl := w18.eq_unread e17
  obtain rfl := w19.eq_unread e18
  obtain rfl := w20.eq_unread e19
  obtain rfl := w21.eq_unread e20
  obtain rfl := w22.eq_unread e21
  obtain rfl := w23.eq_unread e22
  obtain rfl := w24.eq_unread e23
  obtain rfl := w25.eq_unread e24
  obtain rfl := w26.eq_unread e25
  obtain rfl := w27.eq_unread e26
  obtain rfl := w28.eq_unread e27
  obtain rfl := w29.eq_unread e28
  sl_exec (disch := first | sl_exact h0 | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18 | sl_exact h19 | sl_exact h20 | sl_exact h21)
  sl_step
  iapply Hk
  isplitl [H0]; · iexists _; isplitr; (· ipureintro; exact w1.read_unread _); iexact H0
  isplitl [H1]; · iexists _; isplitr; (· ipureintro; exact w2.read_unread _); iexact H1
  isplitl [H2]; · iexists _; isplitr; (· ipureintro; exact w3.read_unread _); iexact H2
  isplitl [H3]; · iexists _; isplitr; (· ipureintro; exact w4.read_unread _); iexact H3
  isplitl [H4]; · iexists _; isplitr; (· ipureintro; exact w5.read_unread _); iexact H4
  isplitl [H5]; · iexists _; isplitr; (· ipureintro; exact w6.read_unread _); iexact H5
  isplitl [H6]; · iexists _; isplitr; (· ipureintro; exact w7.read_unread _); iexact H6
  isplitl [H7]; · iexists _; isplitr; (· ipureintro; exact w8.read_unread _); iexact H7
  isplitl [H8]; · iexists _; isplitr; (· ipureintro; exact w9.read_unread _); iexact H8
  isplitl [H9]; · iexists _; isplitr; (· ipureintro; exact w10.read_unread _); iexact H9
  isplitl [H10]; · iexists _; isplitr; (· ipureintro; exact w11.read_unread _); iexact H10
  isplitl [H11]; · iexists _; isplitr; (· ipureintro; exact w12.read_unread _); iexact H11
  isplitl [H12]; · iexists _; isplitr; (· ipureintro; exact w13.read_unread _); iexact H12
  isplitl [H13]; · iexists _; isplitr; (· ipureintro; exact w14.read_unread _); iexact H13
  isplitl [H14]; · iexists _; isplitr; (· ipureintro; exact w15.read_unread _); iexact H14
  isplitl [H15]; · iexists _; isplitr; (· ipureintro; exact w16.read_unread _); iexact H15
  isplitl [H16]; · iexists _; isplitr; (· ipureintro; exact w17.read_unread _); iexact H16
  isplitl [H17]; · iexists _; isplitr; (· ipureintro; exact w18.read_unread _); iexact H17
  isplitl [H18]; · iexists _; isplitr; (· ipureintro; exact w19.read_unread _); iexact H18
  isplitl [H19]; · iexists _; isplitr; (· ipureintro; exact w20.read_unread _); iexact H19
  isplitl [H20]; · iexists _; isplitr; (· ipureintro; exact w21.read_unread _); iexact H20
  isplitl [H21]; · iexists _; isplitr; (· ipureintro; exact w22.read_unread _); iexact H21
  isplitl [H22]; · iexists _; isplitr; (· ipureintro; exact w23.read_unread _); iexact H22
  isplitl [H23]; · iexists _; isplitr; (· ipureintro; exact w24.read_unread _); iexact H23
  isplitl [H24]; · iexists _; isplitr; (· ipureintro; exact w25.read_unread _); iexact H24
  isplitl [H25]; · iexists _; isplitr; (· ipureintro; exact w26.read_unread _); iexact H25
  isplitl [H26]; · iexists _; isplitr; (· ipureintro; exact w27.read_unread _); iexact H26
  isplitl [H27]; · iexists _; isplitr; (· ipureintro; exact w28.read_unread _); iexact H27
  isplitl [H28]; · iexists _; isplitr; (· ipureintro; exact w29.read_unread _); iexact H28
  isplitl [H29]
  · iexists _; isplitr
    swap; · iexact H29
    ipureintro
    refine Eq.trans (View.read_writes_eq_canon _ _ _ ?_) ?_
    · exact View.cover_of_tiledL _ S256x1024.size (by sl_kernel_rfl)
    frame_out [readCov_whole] <;> rfl
  isplitl [H30]
  · iexists _; isplitr
    swap; · iexact H30
    ipureintro
    refine Eq.trans (View.read_writes_eq_canon _ _ _ ?_) ?_
    · exact View.cover_of_tiledL _ S256x1024.size (by sl_kernel_rfl)
    frame_out [readCov_whole] <;> rfl
  isplitl [H31]
  · iexists _; isplitr
    swap; · iexact H31
    ipureintro
    refine Eq.trans (View.read_writes_eq_canon _ _ _ ?_) ?_
    · exact View.cover_of_tiledL _ S256x1024.size (by sl_kernel_rfl)
    frame_out [readCov_whole] <;> rfl
  isplitl [H32]
  · iexists _; isplitr
    swap; · iexact H32
    ipureintro
    refine Eq.trans (View.read_writes_eq_canon _ _ _ ?_) ?_
    · exact View.cover_of_tiledL _ S256x1024.size (by sl_kernel_rfl)
    frame_out [readCov_whole] <;> rfl
  isplitl [H33]
  · iexists _; isplitr
    swap; · iexact H33
    ipureintro
    refine Eq.trans (View.read_writes_eq_canon _ _ _ ?_) ?_
    · exact View.cover_of_tiledL _ S256x1024.size (by sl_kernel_rfl)
    frame_out [readCov_whole] <;> rfl
  isplitl [H34]
  · iexists _; isplitr
    swap; · iexact H34
    ipureintro
    refine Eq.trans (View.read_writes_eq_canon _ _ _ ?_) ?_
    · exact View.cover_of_tiledL _ S256x512.size (by sl_kernel_rfl)
    frame_out [readCov_whole] <;> rfl
  isplitl [H35]
  · iexists _; isplitr
    swap; · iexact H35
    ipureintro
    refine Eq.trans (View.read_writes_eq_canon _ _ _ ?_) ?_
    · exact View.cover_of_tiledL _ S256x512.size (by sl_kernel_rfl)
    frame_out [readCov_whole] <;> rfl
  isplitl [H36]
  · iexists _; isplitr
    swap; · iexact H36
    ipureintro
    refine Eq.trans (View.read_writes_eq_canon _ _ _ ?_) ?_
    · exact View.cover_of_tiledL _ S256x512.size (by sl_kernel_rfl)
    frame_out [readCov_whole] <;> rfl
  isplitl [H37]
  · iexists _; isplitr
    swap; · iexact H37
    ipureintro
    refine Eq.trans (View.read_writes_eq_canon _ _ _ ?_) ?_
    · exact View.cover_of_tiledL _ ![256, 1024] (by sl_kernel_rfl)
    frame_out [readCov_whole] <;> rfl
  isplitl [H38]
  · iexists _; isplitr
    swap; · iexact H38
    ipureintro
    refine Eq.trans (View.read_writes_eq_canon _ _ _ ?_) ?_
    · exact View.cover_of_tiledL _ S256x1024.size (by sl_kernel_rfl)
    frame_out [readCov_whole] <;> rfl
  isplitl [H39]
  · iexists _; isplitr
    swap; · iexact H39
    ipureintro
    refine Eq.trans (View.read_writes_eq_canon _ _ _ ?_) ?_
    · exact View.cover_of_tiledL _ S256x512.size (by sl_kernel_rfl)
    frame_out [readCov_whole] <;> rfl
  isplitl [H40]
  · iexists _; isplitr
    swap; · iexact H40
    ipureintro
    refine Eq.trans (View.read_writes_eq_canon _ _ _ ?_) ?_
    · exact View.cover_of_tiledL _ S1x1024.size (by sl_kernel_rfl)
    frame_out [readCov_whole] <;> rfl
  isplitl [H41]
  · iexists _; isplitr
    swap; · iexact H41
    ipureintro
    refine Eq.trans (View.read_writes_eq_canon _ _ _ ?_) ?_
    · exact View.cover_of_tiledL _ S1x512.size (by sl_kernel_rfl)
    frame_out [readCov_whole] <;> rfl
  isplitl [H42]
  · iexists _; isplitr
    swap; · iexact H42
    ipureintro
    refine Eq.trans (View.read_writes_eq_canon _ _ _ ?_) ?_
    · exact View.cover_of_tiledL _ S1x512.size (by sl_kernel_rfl)
    frame_out [readCov_whole] <;> rfl
  isplitl [H43]
  · iexists _; isplitr
    swap; · iexact H43
    ipureintro
    refine Eq.trans (View.read_writes_eq_canon _ _ _ ?_) ?_
    · exact View.cover_of_tiledL _ ![1, 128, 128] (by sl_kernel_rfl)
    frame_out [readCov_whole] <;> rfl
  isplitl [H44]
  · iexists _; isplitr
    swap; · iexact H44
    ipureintro
    refine Eq.trans (View.read_writes_eq_canon _ _ _ ?_) ?_
    · exact View.cover_of_tiledL _ ![1, 128, 128] (by sl_kernel_rfl)
    frame_out [readCov_whole] <;> rfl
  isplitl [H45]
  · iexists _; iexists _; isplitr
    swap; · iexact H45
    ipureintro; rfl
  iexists _; iexists _; isplitr
  swap; · iexact H46
  ipureintro; rfl

end Cert.MixOutIdeal.Body

end
-- ==== Proof.MixOutNext.lean ====
module

public import proofs.«01_k».proof.Proof.MixOutConds

/-! # A later grid point of the output layer's gradient

What running the body there leaves in each of its sixteen results, as a function of the 29 blocks and of the five sums so far. -/

@[expose] public section

set_option maxRecDepth 16384

noncomputable section

namespace Cert.MixOutIdeal.Body

open Cert.MixOutIdeal Cert.MixOutIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the body is some five hundred operations long: the steps through it add up
set_option maxHeartbeats 8000000 in
/-- **A later point.** The same, with the five sums continued from what they hold. -/
theorem run_next (c : Dev nD) (i : grid0.Coords)
    (arg1 : Memref sig .tc .vmem S256x1024 .f32) (arg2 : Memref sig .tc .vmem S256x1024 .bf16) (arg3 arg4 : Memref sig .tc .vmem
    S256x512 .bf16) (arg5 arg6 : Memref sig .tc .vmem S16x512 .bf16) (arg7 : Memref sig .tc .vmem S256x512 .bf16) (arg8 arg9 :
    Memref sig .tc .vmem S16x512 .bf16) (arg10 arg11 : Memref sig .tc .vmem S256x512 .bf16) (arg12 : Memref sig .tc .vmem S256x3072
    .bf16) (arg13 arg14 arg15 arg16 arg17 arg18 : Memref sig .tc .vmem S256x1024 .bf16) (arg19 : Memref sig .tc .vmem S1024x1024
    .bf16) (arg20 : Memref sig .tc .vmem S3x512 .f32) (arg21 : Memref sig .tc .vmem S512x1024 .bf16) (arg22 arg23 : Memref sig .tc
    .vmem S1x512 .f32) (arg24 arg25 : Memref sig .tc .vmem S4x128x128 .bf16) (arg26 : Memref sig .tc .vmem S128x4 .f32) (arg27 :
    Memref sig .tc .vmem S512x1024 .bf16) (arg28 : Memref sig .tc .vmem S1024x1024 .bf16) (arg29 : Memref sig .tc .vmem S1x1024
    .f32) (arg30 arg31 arg32 arg33 arg34 : Memref sig .tc .vmem S256x1024 .bf16) (arg35 arg36 arg37 : Memref sig .tc .vmem S256x512
    .bf16) (arg38 : Memref sig .tc .vmem S256x3072 .bf16) (arg39 : Memref sig .tc .vmem S256x1024 .f32) (arg40 : Memref sig .tc
    .vmem S256x512 .f32) (arg41 : Memref sig .tc .vmem S1x1024 .f32) (arg42 arg43 : Memref sig .tc .vmem S1x512 .f32) (arg44 arg45 :
    Memref sig .tc .vmem S4x128x128 .f32) (arg46 arg47 : Memref sig .tc .vmem S256x512 .f32)
    (w1 : arg1.IsWhole) (w2 : arg2.IsWhole) (w3 : arg3.IsWhole) (w4 : arg4.IsWhole) (w5 : arg5.IsWhole) (w6 : arg6.IsWhole) (w7 :
    arg7.IsWhole) (w8 : arg8.IsWhole) (w9 : arg9.IsWhole) (w10 : arg10.IsWhole) (w11 : arg11.IsWhole) (w12 : arg12.IsWhole) (w13 :
    arg13.IsWhole) (w14 : arg14.IsWhole) (w15 : arg15.IsWhole) (w16 : arg16.IsWhole) (w17 : arg17.IsWhole) (w18 : arg18.IsWhole)
    (w19 : arg19.IsWhole) (w20 : arg20.IsWhole) (w21 : arg21.IsWhole) (w22 : arg22.IsWhole) (w23 : arg23.IsWhole) (w24 :
    arg24.IsWhole) (w25 : arg25.IsWhole) (w26 : arg26.IsWhole) (w27 : arg27.IsWhole) (w28 : arg28.IsWhole) (w29 : arg29.IsWhole)
    (w30 : arg30.IsWhole) (w31 : arg31.IsWhole) (w32 : arg32.IsWhole) (w33 : arg33.IsWhole) (w34 : arg34.IsWhole) (w35 :
    arg35.IsWhole) (w36 : arg36.IsWhole) (w37 : arg37.IsWhole) (w38 : arg38.IsWhole) (w39 : arg39.IsWhole) (w40 : arg40.IsWhole)
    (w41 : arg41.IsWhole) (w42 : arg42.IsWhole) (w43 : arg43.IsWhole) (w44 : arg44.IsWhole) (w45 : arg45.IsWhole) (w46 :
    arg46.IsWhole) (w47 : arg47.IsWhole)
    (h : Continues i)
    (x0 : Vec F S256x1024 .f32) (x1 : Vec F S256x1024 .bf16) (x2 x3 : Vec F S256x512 .bf16) (x4 x5 : Vec F S16x512 .bf16) (x6 : Vec
    F S256x512 .bf16) (x7 x8 : Vec F S16x512 .bf16) (x9 x10 : Vec F S256x512 .bf16) (x11 : Vec F S256x3072 .bf16) (x12 x13 x14 x15
    x16 x17 : Vec F S256x1024 .bf16) (x18 : Vec F S1024x1024 .bf16) (x19 : Vec F S3x512 .f32) (x20 : Vec F S512x1024 .bf16) (x21 x22
    : Vec F S1x512 .f32) (x23 x24 : Vec F S4x128x128 .bf16) (x25 : Vec F S128x4 .f32) (x26 : Vec F S512x1024 .bf16) (x27 : Vec F
    S1024x1024 .bf16) (x28 : Vec F S1x1024 .f32) (xo40 : Vec F S1x1024 .f32) (xo41 xo42 : Vec F S1x512 .f32) (xo43 xo44 : Vec F
    S4x128x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare
      x11 ∗ owns (c : Thread nD τ) arg13 fullShare x12 ∗ owns (c : Thread nD τ) arg14 fullShare x13 ∗ owns (c : Thread nD τ) arg15
      fullShare x14 ∗ owns (c : Thread nD τ) arg16 fullShare x15 ∗ owns (c : Thread nD τ) arg17 fullShare x16 ∗ owns (c : Thread nD τ)
      arg18 fullShare x17 ∗ owns (c : Thread nD τ) arg19 fullShare x18 ∗ owns (c : Thread nD τ) arg20 fullShare x19 ∗ owns (c : Thread
      nD τ) arg21 fullShare x20 ∗ owns (c : Thread nD τ) arg22 fullShare x21 ∗ owns (c : Thread nD τ) arg23 fullShare x22 ∗ owns (c :
      Thread nD τ) arg24 fullShare x23 ∗ owns (c : Thread nD τ) arg25 fullShare x24 ∗ owns (c : Thread nD τ) arg26 fullShare x25 ∗
      owns (c : Thread nD τ) arg27 fullShare x26 ∗ owns (c : Thread nD τ) arg28 fullShare x27 ∗ owns (c : Thread nD τ) arg29 fullShare
      x28 ∗ (∃ d, owns (c : Thread nD τ) arg30 fullShare d) ∗ (∃ d, owns (c : Thread nD τ) arg31 fullShare d) ∗ (∃ d, owns (c : Thread
      nD τ) arg32 fullShare d) ∗ (∃ d, owns (c : Thread nD τ) arg33 fullShare d) ∗ (∃ d, owns (c : Thread nD τ) arg34 fullShare d) ∗
      (∃ d, owns (c : Thread nD τ) arg35 fullShare d) ∗ (∃ d, owns (c : Thread nD τ) arg36 fullShare d) ∗ (∃ d, owns (c : Thread nD τ)
      arg37 fullShare d) ∗ (∃ d, owns (c : Thread nD τ) arg38 fullShare d) ∗ (∃ d, owns (c : Thread nD τ) arg39 fullShare d) ∗ (∃ d,
      owns (c : Thread nD τ) arg40 fullShare d) ∗ owns (c : Thread nD τ) arg41 fullShare xo40 ∗ owns (c : Thread nD τ) arg42 fullShare
      xo41 ∗ owns (c : Thread nD τ) arg43 fullShare xo42 ∗ owns (c : Thread nD τ) arg44 fullShare xo43 ∗ owns (c : Thread nD τ) arg45
      fullShare xo44 ∗ (∃ d, owns (c : Thread nD τ) arg46 fullShare d) ∗ (∃ d, owns (c : Thread nD τ) arg47 fullShare d)
      ∗ (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare
        x11 ∗ owns (c : Thread nD τ) arg13 fullShare x12 ∗ owns (c : Thread nD τ) arg14 fullShare x13 ∗ owns (c : Thread nD τ) arg15
        fullShare x14 ∗ owns (c : Thread nD τ) arg16 fullShare x15 ∗ owns (c : Thread nD τ) arg17 fullShare x16 ∗ owns (c : Thread nD τ)
        arg18 fullShare x17 ∗ owns (c : Thread nD τ) arg19 fullShare x18 ∗ owns (c : Thread nD τ) arg20 fullShare x19 ∗ owns (c : Thread
        nD τ) arg21 fullShare x20 ∗ owns (c : Thread nD τ) arg22 fullShare x21 ∗ owns (c : Thread nD τ) arg23 fullShare x22 ∗ owns (c :
        Thread nD τ) arg24 fullShare x23 ∗ owns (c : Thread nD τ) arg25 fullShare x24 ∗ owns (c : Thread nD τ) arg26 fullShare x25 ∗
        owns (c : Thread nD τ) arg27 fullShare x26 ∗ owns (c : Thread nD τ) arg28 fullShare x27 ∗ owns (c : Thread nD τ) arg29 fullShare
        x28 ∗ owns (c : Thread nD τ) arg30 fullShare (dmxBlk x0 x17 x28) ∗ owns (c : Thread nD τ) arg31 fullShare (dyaBlk x0 x11 x17 x27
        x28) ∗ owns (c : Thread nD τ) arg32 fullShare (dybBlk x0 x11 x17 x27 x28) ∗ owns (c : Thread nD τ) arg33 fullShare (dycBlk x0
        x11 x17 x27 x28) ∗ owns (c : Thread nD τ) arg34 fullShare (dgateBlk x0 x1 x11 x12 x13 x17 x18 x27 x28) ∗ owns (c : Thread nD τ)
        arg35 fullShare (dscbBlk i x0 x3 x4 x5 x6 x7 x8 x11 x17 x19 x20 x27 x28) ∗ owns (c : Thread nD τ) arg36 fullShare (dsuBlk x0 x9
        x10 x11 x17 x21 x22 x23 x25 x26 x27 x28) ∗ owns (c : Thread nD τ) arg37 fullShare (dsvBlk x0 x9 x10 x11 x17 x21 x24 x26 x27 x28)
        ∗ owns (c : Thread nD τ) arg38 fullShare (dzmBlk x0 x11 x14 x15 x16 x17 x27 x28) ∗ owns (c : Thread nD τ) arg39 fullShare
        (dhsBlk x0 x1 x11 x17 x18 x27 x28) ∗ owns (c : Thread nD τ) arg40 fullShare (dcpBlk x0 x2 x11 x17 x20 x27 x28) ∗ owns (c :
        Thread nD τ) arg41 fullShare (dqgNext x0 x17 xo40) ∗ owns (c : Thread nD τ) arg42 fullShare (dlgNext x0 x9 x10 x11 x17 x24 x26
        x27 x28 xo41) ∗ owns (c : Thread nD τ) arg43 fullShare (dlbNext x0 x9 x11 x17 x24 x26 x27 x28 xo42) ∗ owns (c : Thread nD τ)
        arg44 fullShare (dwsNext x0 x9 x10 x11 x17 x21 x22 x26 x27 x28 xo43) ∗ owns (c : Thread nD τ) arg45 fullShare (dbsNext x0 x9 x11
        x17 x26 x27 x28 xo44) ∗ (∃ d, owns (c : Thread nD τ) arg46 fullShare d) ∗ (∃ d, owns (c : Thread nD τ) arg47 fullShare d)) -∗ K ⟨⟩))
    ⊢ wp frame (wpE (defs₀ (F := F)) Variants.none c none) E
      (cc0_mix_out_bwd i arg1 w1 arg2 w2 arg3 w3 arg4 w4 arg5 w5 arg6 w6 arg7 w7 arg8 w8 arg9 w9 arg10 w10 arg11 w11 arg12 w12 arg13 w13 arg14 w14 arg15
        w15 arg16 w16 arg17 w17 arg18 w18 arg19 w19 arg20 w20 arg21 w21 arg22 w22 arg23 w23 arg24 w24 arg25 w25 arg26 w26 arg27 w27
        arg28 w28 arg29 w29 arg30 w30 arg31 w31 arg32 w32 arg33 w33 arg34 w34 arg35 w35 arg36 w36 arg37 w37 arg38 w38 arg39 w39 arg40
        w40 arg41 w41 arg42 w42 arg43 w43 arg44 w44 arg45 w45 arg46 w46 arg47 w47) K := by
  obtain ⟨h0, h1, h2, h3, h4, h5, h6, h7, h8, h9, h10, h11, h12, h13, h14, h15, h16, h17, h18, h19, h20, h21⟩ := h
  simp only [cc0_mix_out_bwd_eq_skeleton]; unfold cc0_mix_out_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, ⟨%f16, %e16, H16⟩, ⟨%f17, %e17, H17⟩, ⟨%f18, %e18, H18⟩, ⟨%f19, %e19, H19⟩, ⟨%f20, %e20, H20⟩, ⟨%f21, %e21,
    H21⟩, ⟨%f22, %e22, H22⟩, ⟨%f23, %e23, H23⟩, ⟨%f24, %e24, H24⟩, ⟨%f25, %e25, H25⟩, ⟨%f26, %e26, H26⟩, ⟨%f27, %e27, H27⟩, ⟨%f28,
    %e28, H28⟩, ⟨%d29, %f29, -, H29⟩, ⟨%d30, %f30, -, H30⟩, ⟨%d31, %f31, -, H31⟩, ⟨%d32, %f32, -, H32⟩, ⟨%d33, %f33, -, H33⟩, ⟨%d34,
    %f34, -, H34⟩, ⟨%d35, %f35, -, H35⟩, ⟨%d36, %f36, -, H36⟩, ⟨%d37, %f37, -, H37⟩, ⟨%d38, %f38, -, H38⟩, ⟨%d39, %f39, -, H39⟩,
    ⟨%f40, %e40, H40⟩, ⟨%f41, %e41, H41⟩, ⟨%f42, %e42, H42⟩, ⟨%f43, %e43, H43⟩, ⟨%f44, %e44, H44⟩, ⟨%d45, %f45, -, H45⟩, ⟨%d46,
    %f46, -, H46⟩, Hk⟩
  obtain rfl := w1.eq_unread e0
  obtain rfl := w2.eq_unread e1
  obtain rfl := w3.eq_unread e2
  obtain rfl := w4.eq_unread e3
  obtain rfl := w5.eq_unread e4
  obtain rfl := w6.eq_unread e5
  obtain rfl := w7.eq_unread e6
  obtain rfl := w8.eq_unread e7
  obtain rfl := w9.eq_unread e8
  obtain rfl := w10.eq_unread e9
  obtain rfl := w11.eq_unread e10
  obtain rfl := w12.eq_unread e11
  obtain rfl := w13.eq_unread e12
  obtain rfl := w14.eq_unread e13
  obtain rfl := w15.eq_unread e14
  obtain rfl := w16.eq_unread e15
  obtain rfl := w17.eq_unread e16
  obtain rfl := w18.eq_unread e17
  obtain rfl := w19.eq_unread e18
  obtain rfl := w20.eq_unread e19
  obtain rfl := w21.eq_unread e20
  obtain rfl := w22.eq_unread e21
  obtain rfl := w23.eq_unread e22
  obtain rfl := w24.eq_unread e23
  obtain rfl := w25.eq_unread e24
  obtain rfl := w26.eq_unread e25
  obtain rfl := w27.eq_unread e26
  obtain rfl := w28.eq_unread e27
  obtain rfl := w29.eq_unread e28
  obtain rfl := w41.eq_unread e40
  obtain rfl := w42.eq_unread e41
  obtain rfl := w43.eq_unread e42
  obtain rfl := w44.eq_unread e43
  obtain rfl := w45.eq_unread e44
  sl_exec (disch := first | sl_exact h0 | sl_exact h1 | sl_exact h2 | sl_exact h3 | sl_exact h4 | sl_exact h5 | sl_exact h6 | sl_exact h7 | sl_exact h8 | sl_exact h9 | sl_exact h10 | sl_exact h11 | sl_exact h12 | sl_exact h13 | sl_exact h14 | sl_exact h15 | sl_exact h16 | sl_exact h17 | sl_exact h18 | sl_exact h19 | sl_exact h20 | sl_exact h21)
  sl_step
  iapply Hk
  isplitl [H0]; · iexists _; isplitr; (· ipureintro; exact w1.read_unread _); iexact H0
  isplitl [H1]; · iexists _; isplitr; (· ipureintro; exact w2.read_unread _); iexact H1
  isplitl [H2]; · iexists _; isplitr; (· ipureintro; exact w3.read_unread _); iexact H2
  isplitl [H3]; · iexists _; isplitr; (· ipureintro; exact w4.read_unread _); iexact H3
  isplitl [H4]; · iexists _; isplitr; (· ipureintro; exact w5.read_unread _); iexact H4
  isplitl [H5]; · iexists _; isplitr; (· ipureintro; exact w6.read_unread _); iexact H5
  isplitl [H6]; · iexists _; isplitr; (· ipureintro; exact w7.read_unread _); iexact H6
  isplitl [H7]; · iexists _; isplitr; (· ipureintro; exact w8.read_unread _); iexact H7
  isplitl [H8]; · iexists _; isplitr; (· ipureintro; exact w9.read_unread _); iexact H8
  isplitl [H9]; · iexists _; isplitr; (· ipureintro; exact w10.read_unread _); iexact H9
  isplitl [H10]; · iexists _; isplitr; (· ipureintro; exact w11.read_unread _); iexact H10
  isplitl [H11]; · iexists _; isplitr; (· ipureintro; exact w12.read_unread _); iexact H11
  isplitl [H12]; · iexists _; isplitr; (· ipureintro; exact w13.read_unread _); iexact H12
  isplitl [H13]; · iexists _; isplitr; (· ipureintro; exact w14.read_unread _); iexact H13
  isplitl [H14]; · iexists _; isplitr; (· ipureintro; exact w15.read_unread _); iexact H14
  isplitl [H15]; · iexists _; isplitr; (· ipureintro; exact w16.read_unread _); iexact H15
  isplitl [H16]; · iexists _; isplitr; (· ipureintro; exact w17.read_unread _); iexact H16
  isplitl [H17]; · iexists _; isplitr; (· ipureintro; exact w18.read_unread _); iexact H17
  isplitl [H18]; · iexists _; isplitr; (· ipureintro; exact w19.read_unread _); iexact H18
  isplitl [H19]; · iexists _; isplitr; (· ipureintro; exact w20.read_unread _); iexact H19
  isplitl [H20]; · iexists _; isplitr; (· ipureintro; exact w21.read_unread _); iexact H20
  isplitl [H21]; · iexists _; isplitr; (· ipureintro; exact w22.read_unread _); iexact H21
  isplitl [H22]; · iexists _; isplitr; (· ipureintro; exact w23.read_unread _); iexact H22
  isplitl [H23]; · iexists _; isplitr; (· ipureintro; exact w24.read_unread _); iexact H23
  isplitl [H24]; · iexists _; isplitr; (· ipureintro; exact w25.read_unread _); iexact H24
  isplitl [H25]; · iexists _; isplitr; (· ipureintro; exact w26.read_unread _); iexact H25
  isplitl [H26]; · iexists _; isplitr; (· ipureintro; exact w27.read_unread _); iexact H26
  isplitl [H27]; · iexists _; isplitr; (· ipureintro; exact w28.read_unread _); iexact H27
  isplitl [H28]; · iexists _; isplitr; (· ipureintro; exact w29.read_unread _); iexact H28
  isplitl [H29]
  · iexists _; isplitr
    swap; · iexact H29
    ipureintro
    refine Eq.trans (View.read_writes_eq_canon _ _ _ ?_) ?_
    · exact View.cover_of_tiledL _ S256x1024.size (by sl_kernel_rfl)
    frame_out [readCov_whole] <;> rfl
  isplitl [H30]
  · iexists _; isplitr
    swap; · iexact H30
    ipureintro
    refine Eq.trans (View.read_writes_eq_canon _ _ _ ?_) ?_
    · exact View.cover_of_tiledL _ S256x1024.size (by sl_kernel_rfl)
    frame_out [readCov_whole] <;> rfl
  isplitl [H31]
  · iexists _; isplitr
    swap; · iexact H31
    ipureintro
    refine Eq.trans (View.read_writes_eq_canon _ _ _ ?_) ?_
    · exact View.cover_of_tiledL _ S256x1024.size (by sl_kernel_rfl)
    frame_out [readCov_whole] <;> rfl
  isplitl [H32]
  · iexists _; isplitr
    swap; · iexact H32
    ipureintro
    refine Eq.trans (View.read_writes_eq_canon _ _ _ ?_) ?_
    · exact View.cover_of_tiledL _ S256x1024.size (by sl_kernel_rfl)
    frame_out [readCov_whole] <;> rfl
  isplitl [H33]
  · iexists _; isplitr
    swap; · iexact H33
    ipureintro
    refine Eq.trans (View.read_writes_eq_canon _ _ _ ?_) ?_
    · exact View.cover_of_tiledL _ S256x1024.size (by sl_kernel_rfl)
    frame_out [readCov_whole] <;> rfl
  isplitl [H34]
  · iexists _; isplitr
    swap; · iexact H34
    ipureintro
    refine Eq.trans (View.read_writes_eq_canon _ _ _ ?_) ?_
    · exact View.cover_of_tiledL _ S256x512.size (by sl_kernel_rfl)
    frame_out [readCov_whole] <;> rfl
  isplitl [H35]
  · iexists _; isplitr
    swap; · iexact H35
    ipureintro
    refine Eq.trans (View.read_writes_eq_canon _ _ _ ?_) ?_
    · exact View.cover_of_tiledL _ S256x512.size (by sl_kernel_rfl)
    frame_out [readCov_whole] <;> rfl
  isplitl [H36]
  · iexists _; isplitr
    swap; · iexact H36
    ipureintro
    refine Eq.trans (View.read_writes_eq_canon _ _ _ ?_) ?_
    · exact View.cover_of_tiledL _ S256x512.size (by sl_kernel_rfl)
    frame_out [readCov_whole] <;> rfl
  isplitl [H37]
  · iexists _; isplitr
    swap; · iexact H37
    ipureintro
    refine Eq.trans (View.read_writes_eq_canon _ _ _ ?_) ?_
    · exact View.cover_of_tiledL _ ![256, 1024] (by sl_kernel_rfl)
    frame_out [readCov_whole] <;> rfl
  isplitl [H38]
  · iexists _; isplitr
    swap; · iexact H38
    ipureintro
    refine Eq.trans (View.read_writes_eq_canon _ _ _ ?_) ?_
    · exact View.cover_of_tiledL _ S256x1024.size (by sl_kernel_rfl)
    frame_out [readCov_whole] <;> rfl
  isplitl [H39]
  · iexists _; isplitr
    swap; · iexact H39
    ipureintro
    refine Eq.trans (View.read_writes_eq_canon _ _ _ ?_) ?_
    · exact View.cover_of_tiledL _ S256x512.size (by sl_kernel_rfl)
    frame_out [readCov_whole] <;> rfl
  isplitl [H40]
  · iexists _; isplitr
    swap; · iexact H40
    ipureintro
    refine Eq.trans (View.read_writes_eq_canon _ _ _ ?_) ?_
    · exact View.cover_of_tiledL _ S1x1024.size (by sl_kernel_rfl)
    frame_out [readCov_whole] <;> rfl
  isplitl [H41]
  · iexists _; isplitr
    swap; · iexact H41
    ipureintro
    refine Eq.trans (View.read_writes_eq_canon _ _ _ ?_) ?_
    · exact View.cover_of_tiledL _ S1x512.size (by sl_kernel_rfl)
    frame_out [readCov_whole] <;> rfl
  isplitl [H42]
  · iexists _; isplitr
    swap; · iexact H42
    ipureintro
    refine Eq.trans (View.read_writes_eq_canon _ _ _ ?_) ?_
    · exact View.cover_of_tiledL _ S1x512.size (by sl_kernel_rfl)
    frame_out [readCov_whole] <;> rfl
  isplitl [H43]
  · iexists _; isplitr
    swap; · iexact H43
    ipureintro
    refine Eq.trans (View.read_writes_eq_canon _ _ _ ?_) ?_
    · exact View.cover_of_tiledL _ ![1, 128, 128] (by sl_kernel_rfl)
    frame_out [readCov_whole] <;> rfl
  isplitl [H44]
  · iexists _; isplitr
    swap; · iexact H44
    ipureintro
    refine Eq.trans (View.read_writes_eq_canon _ _ _ ?_) ?_
    · exact View.cover_of_tiledL _ ![1, 128, 128] (by sl_kernel_rfl)
    frame_out [readCov_whole] <;> rfl
  isplitl [H45]
  · iexists _; iexists _; isplitr
    swap; · iexact H45
    ipureintro; rfl
  iexists _; iexists _; isplitr
  swap; · iexact H46
  ipureintro; rfl

end Cert.MixOutIdeal.Body

end
-- ==== Proof.MixOutFrame.lean ====
/- The output layer's backward call at every grid point: what each window's staging buffer holds there, the five
   running sums included, and from it the run of the whole program, its results and its unchanged arguments. -/
module

public import proofs.«01_k».proof.Proof.MixOutFirst
public import proofs.«01_k».proof.Proof.MixOutNext
public import Idealize.ShloMosaic.Lib.Claim

@[expose] public section

set_option maxRecDepth 16384

noncomputable section

namespace Cert.MixOutIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixOutIdeal.Gen Cert.MixOutIdeal.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body leaves -/

/-- The block of the gradient in front of the norm at point `t`, -/
def dmxAt (c : Dev nD) (t : Fin cfg0.N) : Vec F S256x1024 .bf16 := dmxBlk (iblk m c 0 t) (iblk m c 17 t) (iblk m c 28 t)

/-- of that at the first branch, -/
def dyaAt (c : Dev nD) (t : Fin cfg0.N) : Vec F S256x1024 .bf16 := dyaBlk (iblk m c 0 t) (iblk m c 11 t) (iblk m c 17 t) (iblk m c
    27 t) (iblk m c 28 t)

/-- the second -/
def dybAt (c : Dev nD) (t : Fin cfg0.N) : Vec F S256x1024 .bf16 := dybBlk (iblk m c 0 t) (iblk m c 11 t) (iblk m c 17 t) (iblk m c
    27 t) (iblk m c 28 t)

/-- and the third, -/
def dycAt (c : Dev nD) (t : Fin cfg0.N) : Vec F S256x1024 .bf16 := dycBlk (iblk m c 0 t) (iblk m c 11 t) (iblk m c 17 t) (iblk m c
    27 t) (iblk m c 28 t)

/-- at the recurrence's gate, -/
def dgateAt (c : Dev nD) (t : Fin cfg0.N) : Vec F S256x1024 .bf16 := dgateBlk (iblk m c 0 t) (X0_1 m c t) (iblk m c 11 t) (iblk m
    c 12 t) (iblk m c 13 t) (iblk m c 17 t) (iblk m c 18 t) (iblk m c 27 t) (iblk m c 28 t)

/-- the short convolution's gate, -/
def dscbAt (c : Dev nD) (t : Fin cfg0.N) : Vec F S256x512 .bf16 := dscbBlk (grid0.coords t) (iblk m c 0 t) (iblk m c 3 t) (iblk m
    c 4 t) (iblk m c 5 t) (iblk m c 6 t) (iblk m c 7 t) (iblk m c 8 t) (iblk m c 11 t) (iblk m c 17 t) (iblk m c 19 t) (iblk m c
    20 t) (iblk m c 27 t) (iblk m c 28 t)

/-- the spatial gating unit's gate -/
def dsuAt (c : Dev nD) (t : Fin cfg0.N) : Vec F S256x512 .bf16 := dsuBlk (iblk m c 0 t) (iblk m c 9 t) (iblk m c 10 t) (iblk m c
    11 t) (iblk m c 17 t) (iblk m c 21 t) (iblk m c 22 t) (iblk m c 23 t) (iblk m c 25 t) (iblk m c 26 t) (iblk m c 27 t) (iblk m
    c 28 t)

/-- and what that unit mixes, -/
def dsvAt (c : Dev nD) (t : Fin cfg0.N) : Vec F S256x512 .bf16 := dsvBlk (iblk m c 0 t) (iblk m c 9 t) (iblk m c 10 t) (iblk m c
    11 t) (iblk m c 17 t) (iblk m c 21 t) (iblk m c 24 t) (iblk m c 26 t) (iblk m c 27 t) (iblk m c 28 t)

/-- at the merge gates, -/
def dzmAt (c : Dev nD) (t : Fin cfg0.N) : Vec F S256x3072 .bf16 := dzmBlk (iblk m c 0 t) (iblk m c 11 t) (iblk m c 14 t) (iblk m c
    15 t) (iblk m c 16 t) (iblk m c 17 t) (iblk m c 27 t) (iblk m c 28 t)

/-- at the recurrence -/
def dhsAt (c : Dev nD) (t : Fin cfg0.N) : Vec F S256x1024 .f32 := dhsBlk (iblk m c 0 t) (X0_1 m c t) (iblk m c 11 t) (iblk m c 17
    t) (iblk m c 18 t) (iblk m c 27 t) (iblk m c 28 t)

/-- and at the short convolution. -/
def dcpAt (c : Dev nD) (t : Fin cfg0.N) : Vec F S256x512 .f32 := dcpBlk (iblk m c 0 t) (iblk m c 2 t) (iblk m c 11 t) (iblk m c 17
    t) (iblk m c 20 t) (iblk m c 27 t) (iblk m c 28 t)

/-- The five running sums: of the gradients of the norm's gain, the unit's gain and shift, its mixing weights and its mixing bias. -/
abbrev Sums (F : FTy → Type) := Vec F S1x1024 .f32 × Vec F S1x512 .f32 × Vec F S1x512 .f32 × Vec F S4x128x128 .f32 × Vec F S4x128x128 .f32

/-- Their first terms, from the blocks at point `t`. -/
def first (c : Dev nD) (t : Fin cfg0.N) : Sums F := (dqgTerm (iblk m c 0 t) (iblk m c 17 t), dlgTerm (iblk m c 0 t) (iblk m c 9 t)
    (iblk m c 10 t) (iblk m c 11 t) (iblk m c 17 t) (iblk m c 24 t) (iblk m c 26 t) (iblk m c 27 t) (iblk m c 28 t), dlbTerm (iblk
    m c 0 t) (iblk m c 9 t) (iblk m c 11 t) (iblk m c 17 t) (iblk m c 24 t) (iblk m c 26 t) (iblk m c 27 t) (iblk m c 28 t),
    dwsTerm (iblk m c 0 t) (iblk m c 9 t) (iblk m c 10 t) (iblk m c 11 t) (iblk m c 17 t) (iblk m c 21 t) (iblk m c 22 t) (iblk m
    c 26 t) (iblk m c 27 t) (iblk m c 28 t), dbsTerm (iblk m c 0 t) (iblk m c 9 t) (iblk m c 11 t) (iblk m c 17 t) (iblk m c 26 t)
    (iblk m c 27 t) (iblk m c 28 t))

/-- The terms of point `t` added to the sums `p`. -/
def next (c : Dev nD) (t : Fin cfg0.N) (p : Sums F) : Sums F := (dqgNext (iblk m c 0 t) (iblk m c 17 t) p.1, dlgNext (iblk m c 0
    t) (iblk m c 9 t) (iblk m c 10 t) (iblk m c 11 t) (iblk m c 17 t) (iblk m c 24 t) (iblk m c 26 t) (iblk m c 27 t) (iblk m c 28
    t) p.2.1, dlbNext (iblk m c 0 t) (iblk m c 9 t) (iblk m c 11 t) (iblk m c 17 t) (iblk m c 24 t) (iblk m c 26 t) (iblk m c 27
    t) (iblk m c 28 t) p.2.2.1, dwsNext (iblk m c 0 t) (iblk m c 9 t) (iblk m c 10 t) (iblk m c 11 t) (iblk m c 17 t) (iblk m c 21
    t) (iblk m c 22 t) (iblk m c 26 t) (iblk m c 27 t) (iblk m c 28 t) p.2.2.2.1, dbsNext (iblk m c 0 t) (iblk m c 9 t) (iblk m c
    11 t) (iblk m c 17 t) (iblk m c 26 t) (iblk m c 27 t) (iblk m c 28 t) p.2.2.2.2)

/-- The sums after point `n`. -/
def sums (c : Dev nD) : (n : ℕ) → n < cfg0.N → Sums F
  | 0, h => first m c ⟨0, h⟩
  | n + 1, h => next m c ⟨n + 1, h⟩ (sums c n (Nat.lt_of_succ_lt h))

theorem sums_start (c : Dev nD) (t : Fin cfg0.N) (ht : t.val = 0) : sums m c t.val t.isLt = first m c t := by
  obtain ⟨n, hn⟩ := t
  obtain rfl : n = 0 := ht
  rfl

theorem sums_step (c : Dev nD) (t : Fin cfg0.N) (ht : t.val ≠ 0) :
    sums m c t.val t.isLt = next m c t (sums m c (t.val - 1) (Nat.lt_of_le_of_lt (Nat.sub_le _ _) t.isLt)) := by
  obtain ⟨n, hn⟩ := t
  cases n with
  | zero => exact absurd rfl ht
  | succ n => rfl

/-! ## The proof data -/

/-- What every window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => dmxAt m c t
    | ⟨30, _⟩ => dyaAt m c t
    | ⟨31, _⟩ => dybAt m c t
    | ⟨32, _⟩ => dycAt m c t
    | ⟨33, _⟩ => dgateAt m c t
    | ⟨34, _⟩ => dscbAt m c t
    | ⟨35, _⟩ => dsuAt m c t
    | ⟨36, _⟩ => dsvAt m c t
    | ⟨37, _⟩ => dzmAt m c t
    | ⟨38, _⟩ => dhsAt m c t
    | ⟨39, _⟩ => dcpAt m c t
    | ⟨40, _⟩ => (sums m c t.val t.isLt).1
    | ⟨41, _⟩ => (sums m c t.val t.isLt).2.1
    | ⟨42, _⟩ => (sums m c t.val t.isLt).2.2.1
    | ⟨43, _⟩ => (sums m c t.val t.isLt).2.2.2.1
    | ⟨44, _⟩ => (sums m c t.val t.isLt).2.2.2.2
    | ⟨_ + 45, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)

theorem after0_0 : (dats m 0 c).after 0 t = iblk m c 0 t := by dsimp only [dats]
theorem after0_1 : (dats m 0 c).after 1 t = X0_1 m c t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = iblk m c 20 t := by dsimp only [dats]
theorem after0_21 : (dats m 0 c).after 21 t = iblk m c 21 t := by dsimp only [dats]
theorem after0_22 : (dats m 0 c).after 22 t = iblk m c 22 t := by dsimp only [dats]
theorem after0_23 : (dats m 0 c).after 23 t = iblk m c 23 t := by dsimp only [dats]
theorem after0_24 : (dats m 0 c).after 24 t = iblk m c 24 t := by dsimp only [dats]
theorem after0_25 : (dats m 0 c).after 25 t = iblk m c 25 t := by dsimp only [dats]
theorem after0_26 : (dats m 0 c).after 26 t = iblk m c 26 t := by dsimp only [dats]
theorem after0_27 : (dats m 0 c).after 27 t = iblk m c 27 t := by dsimp only [dats]
theorem after0_28 : (dats m 0 c).after 28 t = iblk m c 28 t := by dsimp only [dats]
theorem after0_29 : (dats m 0 c).after 29 t = dmxAt m c t := by dsimp only [dats]
theorem after0_30 : (dats m 0 c).after 30 t = dyaAt m c t := by dsimp only [dats]
theorem after0_31 : (dats m 0 c).after 31 t = dybAt m c t := by dsimp only [dats]
theorem after0_32 : (dats m 0 c).after 32 t = dycAt m c t := by dsimp only [dats]
theorem after0_33 : (dats m 0 c).after 33 t = dgateAt m c t := by dsimp only [dats]
theorem after0_34 : (dats m 0 c).after 34 t = dscbAt m c t := by dsimp only [dats]
theorem after0_35 : (dats m 0 c).after 35 t = dsuAt m c t := by dsimp only [dats]
theorem after0_36 : (dats m 0 c).after 36 t = dsvAt m c t := by dsimp only [dats]
theorem after0_37 : (dats m 0 c).after 37 t = dzmAt m c t := by dsimp only [dats]
theorem after0_38 : (dats m 0 c).after 38 t = dhsAt m c t := by dsimp only [dats]
theorem after0_39 : (dats m 0 c).after 39 t = dcpAt m c t := by dsimp only [dats]
theorem after0_40 : (dats m 0 c).after 40 t = (sums m c t.val t.isLt).1 := by dsimp only [dats]
theorem after0_41 : (dats m 0 c).after 41 t = (sums m c t.val t.isLt).2.1 := by dsimp only [dats]
theorem after0_42 : (dats m 0 c).after 42 t = (sums m c t.val t.isLt).2.2.1 := by dsimp only [dats]
theorem after0_43 : (dats m 0 c).after 43 t = (sums m c t.val t.isLt).2.2.2.1 := by dsimp only [dats]
theorem after0_44 : (dats m 0 c).after 44 t = (sums m c t.val t.isLt).2.2.2.2 := by dsimp only [dats]

theorem before0_0 (d) : (dats m 0 c).before 0 t d = iblk m c 0 t := before0_0_of m (dats m 0 c) (A_eq m c 0) (after0_0 m c) t d
theorem before0_1 (d) : (dats m 0 c).before 1 t d = X0_1 m c t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d
theorem before0_10 (d) : (dats m 0 c).before 10 t d = iblk m c 10 t := before0_10_of m (dats m 0 c) (A_eq m c 10) (after0_10 m c) t d
theorem before0_11 (d) : (dats m 0 c).before 11 t d = iblk m c 11 t := before0_11_of m (dats m 0 c) (A_eq m c 11) (after0_11 m c) t d
theorem before0_12 (d) : (dats m 0 c).before 12 t d = iblk m c 12 t := before0_12_of m (dats m 0 c) (A_eq m c 12) (after0_12 m c) t d
theorem before0_13 (d) : (dats m 0 c).before 13 t d = iblk m c 13 t := before0_13_of m (dats m 0 c) (A_eq m c 13) (after0_13 m c) t d
theorem before0_14 (d) : (dats m 0 c).before 14 t d = iblk m c 14 t := before0_14_of m (dats m 0 c) (A_eq m c 14) (after0_14 m c) t d
theorem before0_15 (d) : (dats m 0 c).before 15 t d = iblk m c 15 t := before0_15_of m (dats m 0 c) (A_eq m c 15) (after0_15 m c) t d
theorem before0_16 (d) : (dats m 0 c).before 16 t d = iblk m c 16 t := before0_16_of m (dats m 0 c) (A_eq m c 16) (after0_16 m c) t d
theorem before0_17 (d) : (dats m 0 c).before 17 t d = iblk m c 17 t := before0_17_of m (dats m 0 c) (A_eq m c 17) (after0_17 m c) t d
theorem before0_18 (d) : (dats m 0 c).before 18 t d = iblk m c 18 t := before0_18_of m (dats m 0 c) (A_eq m c 18) (after0_18 m c) t d
theorem before0_19 (d) : (dats m 0 c).before 19 t d = iblk m c 19 t := before0_19_of m (dats m 0 c) (A_eq m c 19) (after0_19 m c) t d
theorem before0_20 (d) : (dats m 0 c).before 20 t d = iblk m c 20 t := before0_20_of m (dats m 0 c) (A_eq m c 20) (after0_20 m c) t d
theorem before0_21 (d) : (dats m 0 c).before 21 t d = iblk m c 21 t := before0_21_of m (dats m 0 c) (A_eq m c 21) (after0_21 m c) t d
theorem before0_22 (d) : (dats m 0 c).before 22 t d = iblk m c 22 t := before0_22_of m (dats m 0 c) (A_eq m c 22) (after0_22 m c) t d
theorem before0_23 (d) : (dats m 0 c).before 23 t d = iblk m c 23 t := before0_23_of m (dats m 0 c) (A_eq m c 23) (after0_23 m c) t d
theorem before0_24 (d) : (dats m 0 c).before 24 t d = iblk m c 24 t := before0_24_of m (dats m 0 c) (A_eq m c 24) (after0_24 m c) t d
theorem before0_25 (d) : (dats m 0 c).before 25 t d = iblk m c 25 t := before0_25_of m (dats m 0 c) (A_eq m c 25) (after0_25 m c) t d
theorem before0_26 (d) : (dats m 0 c).before 26 t d = iblk m c 26 t := before0_26_of m (dats m 0 c) (A_eq m c 26) (after0_26 m c) t d
theorem before0_27 (d) : (dats m 0 c).before 27 t d = iblk m c 27 t := before0_27_of m (dats m 0 c) (A_eq m c 27) (after0_27 m c) t d
theorem before0_28 (d) : (dats m 0 c).before 28 t d = iblk m c 28 t := before0_28_of m (dats m 0 c) (A_eq m c 28) (after0_28 m c) t d

end

/-- A fact under the conditions one by one, from all of them. -/
theorem spread {p0 p1 p2 p3 p4 p5 p6 p7 p8 p9 p10 p11 p12 p13 p14 p15 p16 p17 p18 p19 p20 p21 P : Prop}
    (f : p0 → p1 → p2 → p3 → p4 → p5 → p6 → p7 → p8 → p9 → p10 → p11 → p12 → p13 → p14 → p15 → p16 → p17 → p18 → p19 → p20 → p21 → P)
    (h : p0 ∧ p1 ∧ p2 ∧ p3 ∧ p4 ∧ p5 ∧ p6 ∧ p7 ∧ p8 ∧ p9 ∧ p10 ∧ p11 ∧ p12 ∧ p13 ∧ p14 ∧ p15 ∧ p16 ∧ p17 ∧ p18 ∧ p19 ∧ p20 ∧ p21) : P :=
  let ⟨h0, h1, h2, h3, h4, h5, h6, h7, h8, h9, h10, h11, h12, h13, h14, h15, h16, h17, h18, h19, h20, h21⟩ := h
  f h0 h1 h2 h3 h4 h5 h6 h7 h8 h9 h10 h11 h12 h13 h14 h15 h16 h17 h18 h19 h20 h21

/-- Sum 1 is stored at every point. -/
theorem live_40 (t : Fin cfg0.N) : cfg0.idle 40 (grid0.coords t) = false := by
  by_cases ht : t.val = 0
  · exact spread (liveAt0_40_A t) (starts t ht)
  · exact spread (liveAt0_40_B t) (continues t ht)

/-- After the first point its buffer holds what the point before left. -/
theorem before_40 (c : Dev nD) (t : Fin cfg0.N) (ht : t.val ≠ 0) (d) :
    (dats m 0 c).before 40 t d = (sums m c (t.val - 1) (Nat.lt_of_le_of_lt (Nat.sub_le _ _) t.isLt)).1 := by
  rw [Dat.before_out_traj _ 40 rfl (fun _ _ => rfl)
    (fun s _ hi _ => absurd hi (by rw [live_40 s]; exact Bool.false_ne_true)) t.val t rfl d,
    if_neg (by rw [spread (notFresh0_40_B t) (continues t ht)]; exact Bool.false_ne_true)]
  dsimp only [dats]

/-- Sum 2 is stored at every point. -/
theorem live_41 (t : Fin cfg0.N) : cfg0.idle 41 (grid0.coords t) = false := by
  by_cases ht : t.val = 0
  · exact spread (liveAt0_41_A t) (starts t ht)
  · exact spread (liveAt0_41_B t) (continues t ht)

/-- After the first point its buffer holds what the point before left. -/
theorem before_41 (c : Dev nD) (t : Fin cfg0.N) (ht : t.val ≠ 0) (d) :
    (dats m 0 c).before 41 t d = (sums m c (t.val - 1) (Nat.lt_of_le_of_lt (Nat.sub_le _ _) t.isLt)).2.1 := by
  rw [Dat.before_out_traj _ 41 rfl (fun _ _ => rfl)
    (fun s _ hi _ => absurd hi (by rw [live_41 s]; exact Bool.false_ne_true)) t.val t rfl d,
    if_neg (by rw [spread (notFresh0_41_B t) (continues t ht)]; exact Bool.false_ne_true)]
  dsimp only [dats]

/-- Sum 3 is stored at every point. -/
theorem live_42 (t : Fin cfg0.N) : cfg0.idle 42 (grid0.coords t) = false := by
  by_cases ht : t.val = 0
  · exact spread (liveAt0_42_A t) (starts t ht)
  · exact spread (liveAt0_42_B t) (continues t ht)

/-- After the first point its buffer holds what the point before left. -/
theorem before_42 (c : Dev nD) (t : Fin cfg0.N) (ht : t.val ≠ 0) (d) :
    (dats m 0 c).before 42 t d = (sums m c (t.val - 1) (Nat.lt_of_le_of_lt (Nat.sub_le _ _) t.isLt)).2.2.1 := by
  rw [Dat.before_out_traj _ 42 rfl (fun _ _ => rfl)
    (fun s _ hi _ => absurd hi (by rw [live_42 s]; exact Bool.false_ne_true)) t.val t rfl d,
    if_neg (by rw [spread (notFresh0_42_B t) (continues t ht)]; exact Bool.false_ne_true)]
  dsimp only [dats]

/-- Sum 4 is stored at every point. -/
theorem live_43 (t : Fin cfg0.N) : cfg0.idle 43 (grid0.coords t) = false := by
  by_cases ht : t.val = 0
  · exact spread (liveAt0_43_A t) (starts t ht)
  · exact spread (liveAt0_43_B t) (continues t ht)

/-- After the first point its buffer holds what the point before left. -/
theorem before_43 (c : Dev nD) (t : Fin cfg0.N) (ht : t.val ≠ 0) (d) :
    (dats m 0 c).before 43 t d = (sums m c (t.val - 1) (Nat.lt_of_le_of_lt (Nat.sub_le _ _) t.isLt)).2.2.2.1 := by
  rw [Dat.before_out_traj _ 43 rfl (fun _ _ => rfl)
    (fun s _ hi _ => absurd hi (by rw [live_43 s]; exact Bool.false_ne_true)) t.val t rfl d,
    if_neg (by rw [spread (notFresh0_43_B t) (continues t ht)]; exact Bool.false_ne_true)]
  dsimp only [dats]

/-- Sum 5 is stored at every point. -/
theorem live_44 (t : Fin cfg0.N) : cfg0.idle 44 (grid0.coords t) = false := by
  by_cases ht : t.val = 0
  · exact spread (liveAt0_44_A t) (starts t ht)
  · exact spread (liveAt0_44_B t) (continues t ht)

/-- After the first point its buffer holds what the point before left. -/
theorem before_44 (c : Dev nD) (t : Fin cfg0.N) (ht : t.val ≠ 0) (d) :
    (dats m 0 c).before 44 t d = (sums m c (t.val - 1) (Nat.lt_of_le_of_lt (Nat.sub_le _ _) t.isLt)).2.2.2.2 := by
  rw [Dat.before_out_traj _ 44 rfl (fun _ _ => rfl)
    (fun s _ hi _ => absurd hi (by rw [live_44 s]; exact Bool.false_ne_true)) t.val t rfl d,
    if_neg (by rw [spread (notFresh0_44_B t) (continues t ht)]; exact Bool.false_ne_true)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d))
    ∗ (∃ d, owns c.tc (ms0_16 t) fullShare ((dats m 0 c).before 16 t d))
    ∗ (∃ d, owns c.tc (ms0_17 t) fullShare ((dats m 0 c).before 17 t d))
    ∗ (∃ d, owns c.tc (ms0_18 t) fullShare ((dats m 0 c).before 18 t d))
    ∗ (∃ d, owns c.tc (ms0_19 t) fullShare ((dats m 0 c).before 19 t d))
    ∗ (∃ d, owns c.tc (ms0_20 t) fullShare ((dats m 0 c).before 20 t d))
    ∗ (∃ d, owns c.tc (ms0_21 t) fullShare ((dats m 0 c).before 21 t d))
    ∗ (∃ d, owns c.tc (ms0_22 t) fullShare ((dats m 0 c).before 22 t d))
    ∗ (∃ d, owns c.tc (ms0_23 t) fullShare ((dats m 0 c).before 23 t d))
    ∗ (∃ d, owns c.tc (ms0_24 t) fullShare ((dats m 0 c).before 24 t d))
    ∗ (∃ d, owns c.tc (ms0_25 t) fullShare ((dats m 0 c).before 25 t d))
    ∗ (∃ d, owns c.tc (ms0_26 t) fullShare ((dats m 0 c).before 26 t d))
    ∗ (∃ d, owns c.tc (ms0_27 t) fullShare ((dats m 0 c).before 27 t d))
    ∗ (∃ d, owns c.tc (ms0_28 t) fullShare ((dats m 0 c).before 28 t d))
    ∗ (∃ d, owns c.tc (ms0_29 t) fullShare ((dats m 0 c).before 29 t d))
    ∗ (∃ d, owns c.tc (ms0_30 t) fullShare ((dats m 0 c).before 30 t d))
    ∗ (∃ d, owns c.tc (ms0_31 t) fullShare ((dats m 0 c).before 31 t d))
    ∗ (∃ d, owns c.tc (ms0_32 t) fullShare ((dats m 0 c).before 32 t d))
    ∗ (∃ d, owns c.tc (ms0_33 t) fullShare ((dats m 0 c).before 33 t d))
    ∗ (∃ d, owns c.tc (ms0_34 t) fullShare ((dats m 0 c).before 34 t d))
    ∗ (∃ d, owns c.tc (ms0_35 t) fullShare ((dats m 0 c).before 35 t d))
    ∗ (∃ d, owns c.tc (ms0_36 t) fullShare ((dats m 0 c).before 36 t d))
    ∗ (∃ d, owns c.tc (ms0_37 t) fullShare ((dats m 0 c).before 37 t d))
    ∗ (∃ d, owns c.tc (ms0_38 t) fullShare ((dats m 0 c).before 38 t d))
    ∗ (∃ d, owns c.tc (ms0_39 t) fullShare ((dats m 0 c).before 39 t d))
    ∗ (∃ d, owns c.tc (ms0_40 t) fullShare ((dats m 0 c).before 40 t d))
    ∗ (∃ d, owns c.tc (ms0_41 t) fullShare ((dats m 0 c).before 41 t d))
    ∗ (∃ d, owns c.tc (ms0_42 t) fullShare ((dats m 0 c).before 42 t d))
    ∗ (∃ d, owns c.tc (ms0_43 t) fullShare ((dats m 0 c).before 43 t d))
    ∗ (∃ d, owns c.tc (ms0_44 t) fullShare ((dats m 0 c).before 44 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t
    ∗ (dats m 0 c).leavesExact 36 t
    ∗ (dats m 0 c).leavesExact 37 t
    ∗ (dats m 0 c).leavesExact 38 t
    ∗ (dats m 0 c).leavesExact 39 t
    ∗ (dats m 0 c).leavesExact 40 t
    ∗ (dats m 0 c).leavesExact 41 t
    ∗ (dats m 0 c).leavesExact 42 t
    ∗ (dats m 0 c).leavesExact 43 t
    ∗ (dats m 0 c).leavesExact 44 t)

section
variable (c : Dev nD) (t : Fin cfg0.N)

theorem leaves_0 : (dats m 0 c).leavesExact 0 t = owns c.tc (ms0_0 t) fullShare ((dats m 0 c).after 0 t) := by unfold Dat.leavesExact; rw [liveAt0_0 t]
theorem leaves_1 : (dats m 0 c).leavesExact 1 t = owns c.tc (ms0_1 t) fullShare ((dats m 0 c).after 1 t) := by unfold Dat.leavesExact; rw [liveAt0_1 t]
theorem leaves_2 : (dats m 0 c).leavesExact 2 t = owns c.tc (ms0_2 t) fullShare ((dats m 0 c).after 2 t) := by unfold Dat.leavesExact; rw [liveAt0_2 t]
theorem leaves_3 : (dats m 0 c).leavesExact 3 t = owns c.tc (ms0_3 t) fullShare ((dats m 0 c).after 3 t) := by unfold Dat.leavesExact; rw [liveAt0_3 t]
theorem leaves_4 : (dats m 0 c).leavesExact 4 t = owns c.tc (ms0_4 t) fullShare ((dats m 0 c).after 4 t) := by unfold Dat.leavesExact; rw [liveAt0_4 t]
theorem leaves_5 : (dats m 0 c).leavesExact 5 t = owns c.tc (ms0_5 t) fullShare ((dats m 0 c).after 5 t) := by unfold Dat.leavesExact; rw [liveAt0_5 t]
theorem leaves_6 : (dats m 0 c).leavesExact 6 t = owns c.tc (ms0_6 t) fullShare ((dats m 0 c).after 6 t) := by unfold Dat.leavesExact; rw [liveAt0_6 t]
theorem leaves_7 : (dats m 0 c).leavesExact 7 t = owns c.tc (ms0_7 t) fullShare ((dats m 0 c).after 7 t) := by unfold Dat.leavesExact; rw [liveAt0_7 t]
theorem leaves_8 : (dats m 0 c).leavesExact 8 t = owns c.tc (ms0_8 t) fullShare ((dats m 0 c).after 8 t) := by unfold Dat.leavesExact; rw [liveAt0_8 t]
theorem leaves_9 : (dats m 0 c).leavesExact 9 t = owns c.tc (ms0_9 t) fullShare ((dats m 0 c).after 9 t) := by unfold Dat.leavesExact; rw [liveAt0_9 t]
theorem leaves_10 : (dats m 0 c).leavesExact 10 t = owns c.tc (ms0_10 t) fullShare ((dats m 0 c).after 10 t) := by unfold Dat.leavesExact; rw [liveAt0_10 t]
theorem leaves_11 : (dats m 0 c).leavesExact 11 t = owns c.tc (ms0_11 t) fullShare ((dats m 0 c).after 11 t) := by unfold Dat.leavesExact; rw [liveAt0_11 t]
theorem leaves_12 : (dats m 0 c).leavesExact 12 t = owns c.tc (ms0_12 t) fullShare ((dats m 0 c).after 12 t) := by unfold Dat.leavesExact; rw [liveAt0_12 t]
theorem leaves_13 : (dats m 0 c).leavesExact 13 t = owns c.tc (ms0_13 t) fullShare ((dats m 0 c).after 13 t) := by unfold Dat.leavesExact; rw [liveAt0_13 t]
theorem leaves_14 : (dats m 0 c).leavesExact 14 t = owns c.tc (ms0_14 t) fullShare ((dats m 0 c).after 14 t) := by unfold Dat.leavesExact; rw [liveAt0_14 t]
theorem leaves_15 : (dats m 0 c).leavesExact 15 t = owns c.tc (ms0_15 t) fullShare ((dats m 0 c).after 15 t) := by unfold Dat.leavesExact; rw [liveAt0_15 t]
theorem leaves_16 : (dats m 0 c).leavesExact 16 t = owns c.tc (ms0_16 t) fullShare ((dats m 0 c).after 16 t) := by unfold Dat.leavesExact; rw [liveAt0_16 t]
theorem leaves_17 : (dats m 0 c).leavesExact 17 t = owns c.tc (ms0_17 t) fullShare ((dats m 0 c).after 17 t) := by unfold Dat.leavesExact; rw [liveAt0_17 t]
theorem leaves_18 : (dats m 0 c).leavesExact 18 t = owns c.tc (ms0_18 t) fullShare ((dats m 0 c).after 18 t) := by unfold Dat.leavesExact; rw [liveAt0_18 t]
theorem leaves_19 : (dats m 0 c).leavesExact 19 t = owns c.tc (ms0_19 t) fullShare ((dats m 0 c).after 19 t) := by unfold Dat.leavesExact; rw [liveAt0_19 t]
theorem leaves_20 : (dats m 0 c).leavesExact 20 t = owns c.tc (ms0_20 t) fullShare ((dats m 0 c).after 20 t) := by unfold Dat.leavesExact; rw [liveAt0_20 t]
theorem leaves_21 : (dats m 0 c).leavesExact 21 t = owns c.tc (ms0_21 t) fullShare ((dats m 0 c).after 21 t) := by unfold Dat.leavesExact; rw [liveAt0_21 t]
theorem leaves_22 : (dats m 0 c).leavesExact 22 t = owns c.tc (ms0_22 t) fullShare ((dats m 0 c).after 22 t) := by unfold Dat.leavesExact; rw [liveAt0_22 t]
theorem leaves_23 : (dats m 0 c).leavesExact 23 t = owns c.tc (ms0_23 t) fullShare ((dats m 0 c).after 23 t) := by unfold Dat.leavesExact; rw [liveAt0_23 t]
theorem leaves_24 : (dats m 0 c).leavesExact 24 t = owns c.tc (ms0_24 t) fullShare ((dats m 0 c).after 24 t) := by unfold Dat.leavesExact; rw [liveAt0_24 t]
theorem leaves_25 : (dats m 0 c).leavesExact 25 t = owns c.tc (ms0_25 t) fullShare ((dats m 0 c).after 25 t) := by unfold Dat.leavesExact; rw [liveAt0_25 t]
theorem leaves_26 : (dats m 0 c).leavesExact 26 t = owns c.tc (ms0_26 t) fullShare ((dats m 0 c).after 26 t) := by unfold Dat.leavesExact; rw [liveAt0_26 t]
theorem leaves_27 : (dats m 0 c).leavesExact 27 t = owns c.tc (ms0_27 t) fullShare ((dats m 0 c).after 27 t) := by unfold Dat.leavesExact; rw [liveAt0_27 t]
theorem leaves_28 : (dats m 0 c).leavesExact 28 t = owns c.tc (ms0_28 t) fullShare ((dats m 0 c).after 28 t) := by unfold Dat.leavesExact; rw [liveAt0_28 t]
theorem leaves_29 : (dats m 0 c).leavesExact 29 t = owns c.tc (ms0_29 t) fullShare ((dats m 0 c).after 29 t) := by unfold Dat.leavesExact; rw [liveAt0_29 t]
theorem leaves_30 : (dats m 0 c).leavesExact 30 t = owns c.tc (ms0_30 t) fullShare ((dats m 0 c).after 30 t) := by unfold Dat.leavesExact; rw [liveAt0_30 t]
theorem leaves_31 : (dats m 0 c).leavesExact 31 t = owns c.tc (ms0_31 t) fullShare ((dats m 0 c).after 31 t) := by unfold Dat.leavesExact; rw [liveAt0_31 t]
theorem leaves_32 : (dats m 0 c).leavesExact 32 t = owns c.tc (ms0_32 t) fullShare ((dats m 0 c).after 32 t) := by unfold Dat.leavesExact; rw [liveAt0_32 t]
theorem leaves_33 : (dats m 0 c).leavesExact 33 t = owns c.tc (ms0_33 t) fullShare ((dats m 0 c).after 33 t) := by unfold Dat.leavesExact; rw [liveAt0_33 t]
theorem leaves_34 : (dats m 0 c).leavesExact 34 t = owns c.tc (ms0_34 t) fullShare ((dats m 0 c).after 34 t) := by unfold Dat.leavesExact; rw [liveAt0_34 t]
theorem leaves_35 : (dats m 0 c).leavesExact 35 t = owns c.tc (ms0_35 t) fullShare ((dats m 0 c).after 35 t) := by unfold Dat.leavesExact; rw [liveAt0_35 t]
theorem leaves_36 : (dats m 0 c).leavesExact 36 t = owns c.tc (ms0_36 t) fullShare ((dats m 0 c).after 36 t) := by unfold Dat.leavesExact; rw [liveAt0_36 t]
theorem leaves_37 : (dats m 0 c).leavesExact 37 t = owns c.tc (ms0_37 t) fullShare ((dats m 0 c).after 37 t) := by unfold Dat.leavesExact; rw [liveAt0_37 t]
theorem leaves_38 : (dats m 0 c).leavesExact 38 t = owns c.tc (ms0_38 t) fullShare ((dats m 0 c).after 38 t) := by unfold Dat.leavesExact; rw [liveAt0_38 t]
theorem leaves_39 : (dats m 0 c).leavesExact 39 t = owns c.tc (ms0_39 t) fullShare ((dats m 0 c).after 39 t) := by unfold Dat.leavesExact; rw [liveAt0_39 t]
theorem leaves_40 : (dats m 0 c).leavesExact 40 t = owns c.tc (ms0_40 t) fullShare ((dats m 0 c).after 40 t) := by unfold Dat.leavesExact; rw [live_40 t]
theorem leaves_41 : (dats m 0 c).leavesExact 41 t = owns c.tc (ms0_41 t) fullShare ((dats m 0 c).after 41 t) := by unfold Dat.leavesExact; rw [live_41 t]
theorem leaves_42 : (dats m 0 c).leavesExact 42 t = owns c.tc (ms0_42 t) fullShare ((dats m 0 c).after 42 t) := by unfold Dat.leavesExact; rw [live_42 t]
theorem leaves_43 : (dats m 0 c).leavesExact 43 t = owns c.tc (ms0_43 t) fullShare ((dats m 0 c).after 43 t) := by unfold Dat.leavesExact; rw [live_43 t]
theorem leaves_44 : (dats m 0 c).leavesExact 44 t = owns c.tc (ms0_44 t) fullShare ((dats m 0 c).after 44 t) := by unfold Dat.leavesExact; rw [live_44 t]

end

set_option maxHeartbeats 12800000 in
/-- The body at any point takes the blocks it finds to the blocks stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23, before0_24, before0_25, before0_26, before0_27, before0_28]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves_0, leaves_1, leaves_2, leaves_3, leaves_4, leaves_5, leaves_6, leaves_7, leaves_8, leaves_9, leaves_10, leaves_11,
    leaves_12, leaves_13, leaves_14, leaves_15, leaves_16, leaves_17, leaves_18, leaves_19, leaves_20, leaves_21, leaves_22,
    leaves_23, leaves_24, leaves_25, leaves_26, leaves_27, leaves_28, leaves_29, leaves_30, leaves_31, leaves_32, leaves_33,
    leaves_34, leaves_35, leaves_36, leaves_37, leaves_38, leaves_39, leaves_40, leaves_41, leaves_42, leaves_43, leaves_44]
  rw [after0_0, after0_1, after0_2, after0_3, after0_4, after0_5, after0_6, after0_7, after0_8, after0_9, after0_10,
    after0_11, after0_12, after0_13, after0_14, after0_15, after0_16, after0_17, after0_18, after0_19, after0_20, after0_21,
    after0_22, after0_23, after0_24, after0_25, after0_26, after0_27, after0_28, after0_29, after0_30, after0_31, after0_32,
    after0_33, after0_34, after0_35, after0_36, after0_37, after0_38, after0_39, after0_40, after0_41, after0_42, after0_43,
    after0_44]
  by_cases ht : t.val = 0
  · rw [sums_start m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18,
      H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩,
      ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37,
      H37⟩, ⟨%d38, H38⟩, ⟨%d39, H39⟩, ⟨%d40, H40⟩, ⟨%d41, H41⟩, ⟨%d42, H42⟩, ⟨%d43, H43⟩, ⟨%d44, H44⟩⟩
    iapply (run_first c (grid0.coords t) _ _ _ _ _ _ _ _ _ _ _ _ _ _ _ _ _ _ _ _ _ _ _ _ _ _ _ _ _ _ _ _ _ _ _ _ _ _ _ _ _ _ _ _ _
      scM0_0 scM0_1 (hs0_0 t) (hs0_1 t) (hs0_2 t) (hs0_3 t) (hs0_4 t) (hs0_5 t) (hs0_6 t) (hs0_7 t) (hs0_8 t) (hs0_9 t) (hs0_10 t)
      (hs0_11 t) (hs0_12 t) (hs0_13 t) (hs0_14 t) (hs0_15 t) (hs0_16 t) (hs0_17 t) (hs0_18 t) (hs0_19 t) (hs0_20 t) (hs0_21 t)
      (hs0_22 t) (hs0_23 t) (hs0_24 t) (hs0_25 t) (hs0_26 t) (hs0_27 t) (hs0_28 t) (hs0_29 t) (hs0_30 t) (hs0_31 t) (hs0_32 t)
      (hs0_33 t) (hs0_34 t) (hs0_35 t) (hs0_36 t) (hs0_37 t) (hs0_38 t) (hs0_39 t) (hs0_40 t) (hs0_41 t) (hs0_42 t) (hs0_43 t)
      (hs0_44 t) (Memref.isWhole_whole _) (Memref.isWhole_whole _) (starts t ht) (iblk m c 0 t) (X0_1 m c t) (iblk m c 2 t)
      (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) (iblk m c 15 t) (iblk m c 16 t) (iblk m c 17 t)
      (iblk m c 18 t) (iblk m c 19 t) (iblk m c 20 t) (iblk m c 21 t) (iblk m c 22 t) (iblk m c 23 t) (iblk m c 24 t)
      (iblk m c 25 t) (iblk m c 26 t) (iblk m c 27 t) (iblk m c 28 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [HS0]; · iexact HS0
    isplitl [HS1]; · iexact HS1
    iintro ⟨H0, H1, H2, H3, H4, H5, H6, H7, H8, H9, H10, H11, H12, H13, H14, H15, H16, H17, H18, H19, H20, H21, H22, H23, H24, H25,
      H26, H27, H28, H29, H30, H31, H32, H33, H34, H35, H36, H37, H38, H39, H40, H41, H42, H43, H44, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    iexact H44
  · rw [sums_step m c t ht]
    simp only [before_40 m c t ht, before_41 m c t ht, before_42 m c t ht, before_43 m c t ht, before_44 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18,
      H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩,
      ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37,
      H37⟩, ⟨%d38, H38⟩, ⟨%d39, H39⟩, ⟨%d40, H40⟩, ⟨%d41, H41⟩, ⟨%d42, H42⟩, ⟨%d43, H43⟩, ⟨%d44, H44⟩⟩
    iapply (run_next c (grid0.coords t) _ _ _ _ _ _ _ _ _ _ _ _ _ _ _ _ _ _ _ _ _ _ _ _ _ _ _ _ _ _ _ _ _ _ _ _ _ _ _ _ _ _ _ _ _ scM0_0
      scM0_1 (hs0_0 t) (hs0_1 t) (hs0_2 t) (hs0_3 t) (hs0_4 t) (hs0_5 t) (hs0_6 t) (hs0_7 t) (hs0_8 t) (hs0_9 t) (hs0_10 t)
      (hs0_11 t) (hs0_12 t) (hs0_13 t) (hs0_14 t) (hs0_15 t) (hs0_16 t) (hs0_17 t) (hs0_18 t) (hs0_19 t) (hs0_20 t) (hs0_21 t)
      (hs0_22 t) (hs0_23 t) (hs0_24 t) (hs0_25 t) (hs0_26 t) (hs0_27 t) (hs0_28 t) (hs0_29 t) (hs0_30 t) (hs0_31 t) (hs0_32 t)
      (hs0_33 t) (hs0_34 t) (hs0_35 t) (hs0_36 t) (hs0_37 t) (hs0_38 t) (hs0_39 t) (hs0_40 t) (hs0_41 t) (hs0_42 t) (hs0_43 t)
      (hs0_44 t) (Memref.isWhole_whole _) (Memref.isWhole_whole _) (continues t ht) (iblk m c 0 t) (X0_1 m c t) (iblk m c 2 t)
      (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) (iblk m c 15 t) (iblk m c 16 t) (iblk m c 17 t)
      (iblk m c 18 t) (iblk m c 19 t) (iblk m c 20 t) (iblk m c 21 t) (iblk m c 22 t) (iblk m c 23 t) (iblk m c 24 t)
      (iblk m c 25 t) (iblk m c 26 t) (iblk m c 27 t) (iblk m c 28 t)
      (sums m c (t.val - 1) (Nat.lt_of_le_of_lt (Nat.sub_le
      _ _) t.isLt)).1 (sums m c (t.val - 1) (Nat.lt_of_le_of_lt (Nat.sub_le _ _) t.isLt)).2.1 (sums m c (t.val - 1)
      (Nat.lt_of_le_of_lt (Nat.sub_le _ _) t.isLt)).2.2.1 (sums m c (t.val - 1) (Nat.lt_of_le_of_lt (Nat.sub_le _ _)
      t.isLt)).2.2.2.1 (sums m c (t.val - 1) (Nat.lt_of_le_of_lt (Nat.sub_le _ _) t.isLt)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexact H40
    isplitl [H41]; · iexact H41
    isplitl [H42]; · iexact H42
    isplitl [H43]; · iexact H43
    isplitl [H44]; · iexact H44
    isplitl [HS0]; · iexact HS0
    isplitl [HS1]; · iexact HS1
    iintro ⟨H0, H1, H2, H3, H4, H5, H6, H7, H8, H9, H10, H11, H12, H13, H14, H15, H16, H17, H18, H19, H20, H21, H22, H23, H24, H25,
      H26, H27, H28, H29, H30, H31, H32, H33, H34, H35, H36, H37, H38, H39, H40, H41, H42, H43, H44, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    isplitl [H41]; · iexact H41
    isplitl [H42]; · iexact H42
    isplitl [H43]; · iexact H43
    iexact H44

theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays end as the proof data say, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.MixOutIdeal.Whole

end
-- ==== Proof.MixOutKernel.lean ====
/- What the output layer's backward call leaves in ten of its output arrays, over the extended reals. -/
module

public import proofs.«01_k».proof.Proof.MixOutVal
public import proofs.«01_k».proof.Proof.MixOutFrame

@[expose] public section

set_option maxRecDepth 16384

noncomputable section

namespace Cert.MixOutIdeal.Val

open Cert.MixOutIdeal Cert.MixOutIdeal.Gen Cert.MixOutIdeal.Body Cert.MixOutIdeal.Whole Cert.Shift
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arrays written tile by tile -/

theorem emb29 (t : Fin cfg0.N) (y : Fin 256) (k : Fin 1024) : ((View.whole main_v152_0).slice (win0_29.rect t)).emb (ix2 y k) = ix2 (at_ (tile t) y) k := by
  blk_ext [idxB t, at_, tile]
theorem final29 : (dats m 0 c).arrAt 29 (cfgs 0).N = dmxArr (args m c) := by
  refine (dats m 0 c).arrAt_eq_of_covers 29 _ (by decide +kernel) fun t _ y => ?_
  blk_simp
  rw [after0_29]
  idx_vars y
  refine Eq.trans ?_ (congrArg _ (emb29 t y0 y1).symm)
  exact dmx_blk m c t y0 y1

theorem emb30 (t : Fin cfg0.N) (y : Fin 256) (k : Fin 1024) : ((View.whole main_v152_1).slice (win0_30.rect t)).emb (ix2 y k) = ix2 (at_ (tile t) y) k := by
  blk_ext [idxB t, at_, tile]
theorem final30 : (dats m 0 c).arrAt 30 (cfgs 0).N = dyaArr (args m c) := by
  refine (dats m 0 c).arrAt_eq_of_covers 30 _ (by decide +kernel) fun t _ y => ?_
  blk_simp
  rw [after0_30]
  idx_vars y
  refine Eq.trans ?_ (congrArg _ (emb30 t y0 y1).symm)
  exact dya_blk m c t y0 y1

theorem emb31 (t : Fin cfg0.N) (y : Fin 256) (k : Fin 1024) : ((View.whole main_v152_2).slice (win0_31.rect t)).emb (ix2 y k) = ix2 (at_ (tile t) y) k := by
  blk_ext [idxB t, at_, tile]
theorem final31 : (dats m 0 c).arrAt 31 (cfgs 0).N = dybArr (args m c) := by
  refine (dats m 0 c).arrAt_eq_of_covers 31 _ (by decide +kernel) fun t _ y => ?_
  blk_simp
  rw [after0_31]
  idx_vars y
  refine Eq.trans ?_ (congrArg _ (emb31 t y0 y1).symm)
  exact dyb_blk m c t y0 y1

theorem emb32 (t : Fin cfg0.N) (y : Fin 256) (k : Fin 1024) : ((View.whole main_v152_3).slice (win0_32.rect t)).emb (ix2 y k) = ix2 (at_ (tile t) y) k := by
  blk_ext [idxB t, at_, tile]
theorem final32 : (dats m 0 c).arrAt 32 (cfgs 0).N = dycArr (args m c) := by
  refine (dats m 0 c).arrAt_eq_of_covers 32 _ (by decide +kernel) fun t _ y => ?_
  blk_simp
  rw [after0_32]
  idx_vars y
  refine Eq.trans ?_ (congrArg _ (emb32 t y0 y1).symm)
  exact dyc_blk m c t y0 y1

theorem emb33 (t : Fin cfg0.N) (y : Fin 256) (k : Fin 1024) : ((View.whole main_v152_4).slice (win0_33.rect t)).emb (ix2 y k) = ix2 (at_ (tile t) y) k := by
  blk_ext [idxB t, at_, tile]
theorem final33 : (dats m 0 c).arrAt 33 (cfgs 0).N = dgateArr (args m c) := by
  refine (dats m 0 c).arrAt_eq_of_covers 33 _ (by decide +kernel) fun t _ y => ?_
  blk_simp
  rw [after0_33]
  idx_vars y
  refine Eq.trans ?_ (congrArg _ (emb33 t y0 y1).symm)
  exact dgate_blk m c t y0 y1

theorem emb34 (t : Fin cfg0.N) (y : Fin 256) (k : Fin 512) : ((View.whole main_v152_5).slice (win0_34.rect t)).emb (ix2 y k) = ix2 (at_ (tile t) y) k := by
  blk_ext [idxB t, at_, tile]
theorem final34 : (dats m 0 c).arrAt 34 (cfgs 0).N = dscbArr (args m c) := by
  refine (dats m 0 c).arrAt_eq_of_covers 34 _ (by decide +kernel) fun t _ y => ?_
  blk_simp
  rw [after0_34]
  idx_vars y
  refine Eq.trans ?_ (congrArg _ (emb34 t y0 y1).symm)
  exact dscb_blk m c t y0 y1

theorem emb37 (t : Fin cfg0.N) (y : Fin 256) (k : Fin 3072) : ((View.whole main_v152_8).slice (win0_37.rect t)).emb (ix2 y k) = ix2 (at_ (tile t) y) k := by
  blk_ext [idxB t, at_, tile]
theorem final37 : (dats m 0 c).arrAt 37 (cfgs 0).N = dzmArr (args m c) := by
  refine (dats m 0 c).arrAt_eq_of_covers 37 _ (by decide +kernel) fun t _ y => ?_
  blk_simp
  rw [after0_37]
  idx_vars y
  refine Eq.trans ?_ (congrArg _ (emb37 t y0 y1).symm)
  exact dzm_blk m c t y0 y1

theorem emb38 (t : Fin cfg0.N) (y : Fin 256) (k : Fin 1024) : ((View.whole main_v152_9).slice (win0_38.rect t)).emb (ix2 y k) = ix2 (at_ (tile t) y) k := by
  blk_ext [idxB t, at_, tile]
theorem final38 : (dats m 0 c).arrAt 38 (cfgs 0).N = dhsArr (args m c) := by
  refine (dats m 0 c).arrAt_eq_of_covers 38 _ (by decide +kernel) fun t _ y => ?_
  blk_simp
  rw [after0_38]
  idx_vars y
  refine Eq.trans ?_ (congrArg _ (emb38 t y0 y1).symm)
  exact dhs_blk m c t y0 y1

theorem emb39 (t : Fin cfg0.N) (y : Fin 256) (k : Fin 512) : ((View.whole main_v152_10).slice (win0_39.rect t)).emb (ix2 y k) = ix2 (at_ (tile t) y) k := by
  blk_ext [idxB t, at_, tile]
theorem final39 : (dats m 0 c).arrAt 39 (cfgs 0).N = dcpArr (args m c) := by
  refine (dats m 0 c).arrAt_eq_of_covers 39 _ (by decide +kernel) fun t _ y => ?_
  blk_simp
  rw [after0_39]
  idx_vars y
  refine Eq.trans ?_ (congrArg _ (emb39 t y0 y1).symm)
  exact dcp_blk m c t y0 y1

/-! ## The sum over the tiles -/

theorem emb40 (t : Fin cfg0.N) (y : Fin 1) (k : Fin 1024) : ((View.whole main_v152_11).slice (win0_40.rect t)).emb (ix2 y k) = ix2 y k := by
  blk_ext [idxB t]

/-- A row's term of the norm's weight's gradient. -/
def gainTerm (A : Args) (k : Fin 1024) (s : Fin 16384) : EReal := A.dy (ix2 s k) * (mx A (ix2 s k) * Rows.scale (mrow A s))

/-- What starts with the first tile's sum and takes in each further tile's is the sum over all rows. -/
theorem total (S : ∀ n, n < cfg0.N → EReal) (g : Fin 16384 → EReal)
    (h0 : ∀ t : Fin cfg0.N, t.val = 0 → S t.val t.isLt = ∑ y : Fin 256, g (at_ (tile t) y))
    (hs : ∀ t : Fin cfg0.N, t.val ≠ 0 →
      S t.val t.isLt = S (t.val - 1) (Nat.lt_of_le_of_lt (Nat.sub_le _ _) t.isLt) + ∑ y : Fin 256, g (at_ (tile t) y))
    (t : Fin cfg0.N) (ht : t.val % 64 = 63) : S t.val t.isLt = ∑ s, g s := by
  have e : cfg0.N = 64 := N_0
  have H : ∀ n (hn : n < cfg0.N), S n hn = ∑ p : Fin (n + 1), ∑ y : Fin 256, g (at_ ⟨p.val, by omega⟩ y) := by
    intro n
    induction n with
    | zero => exact fun hn => by rw [Fin.sum_univ_one]; exact h0 ⟨0, hn⟩ rfl
    | succ n ih =>
      intro hn
      rw [Fin.sum_univ_castSucc]
      exact (hs ⟨n + 1, hn⟩ (Nat.succ_ne_zero n)).trans (congrArg₂ (fun a b : EReal => a + b) (ih (by omega)) rfl)
  obtain ⟨n, hn⟩ := t
  obtain rfl : n = 63 := by dsimp only at ht; omega
  rw [Fin.sum_univ_tiles 64 256 rfl]
  exact H 63 hn

theorem first40 (t : Fin cfg0.N) : (first m c t).1 = dqgTerm (iblk m c 0 t) (iblk m c 17 t) := by
  unfold first; dsimp only

theorem next40 (t : Fin cfg0.N) (p : Sums Ideal) : (next m c t p).1 = dqgNext (iblk m c 0 t) (iblk m c 17 t) p.1 := by
  unfold next; dsimp only

theorem start40 (r : Fin 1) (k : Fin 1024) (t : Fin cfg0.N) (ht : t.val = 0) : (sums m c t.val t.isLt).1 (ix2 r k)
    = ∑ y : Fin 256, gainTerm (args m c) k (at_ (tile t) y) := by
  obtain rfl : r = 0 := Subsingleton.elim _ _
  exact (congrArg (fun p : Sums Ideal => p.1 (ix2 0 k)) (sums_start m c t ht)).trans ((congrFun (first40 m c t) (ix2 0 k)).trans (dqg_blk m c t k))

theorem step40 (r : Fin 1) (k : Fin 1024) (t : Fin cfg0.N) (ht : t.val ≠ 0) : (sums m c t.val t.isLt).1 (ix2 r k)
    = @HAdd.hAdd EReal EReal EReal _ ((sums m c (t.val - 1) (Nat.lt_of_le_of_lt (Nat.sub_le _ _) t.isLt)).1 (ix2 r k))
      (∑ y : Fin 256, gainTerm (args m c) k (at_ (tile t) y)) := by
  obtain rfl : r = 0 := Subsingleton.elim _ _
  exact (congrArg (fun p : Sums Ideal => p.1 (ix2 0 k)) (sums_step m c t ht)).trans ((congrFun (next40 m c t _) (ix2 0 k)).trans (dqgNext_blk m c t _ k))

theorem sum40 (r : Fin 1) (k : Fin 1024) : ∑ s : Fin 16384, gainTerm (args m c) k s = dqgArr (args m c) (ix2 r k) := by
  unfold dqgArr gainTerm; rfl

theorem final40 : (dats m 0 c).arrAt 40 (cfgs 0).N = dqgArr (args m c) := by
  refine (dats m 0 c).arrAt_eq_of_covers 40 _ (by decide +kernel) fun t hf y => ?_
  blk_simp
  rw [after0_40]
  idx_vars y
  refine Eq.trans ?_ (congrArg _ (emb40 t y0 y1).symm)
  exact (total (fun n h => (sums m c n h).1 (ix2 y0 y1)) _ (start40 m c y0 y1) (step40 m c y0 y1) t ((flush0_40 t).mp hf)).trans (sum40 m c y0 y1)

end Cert.MixOutIdeal.Val

end
-- ==== Proof.MixOutFwd.lean ====
/- The output layer's forward pass on real arguments: its gates in closed form, and its values real. -/
module

public import proofs.«01_k».proof.Proof.Gen.MixOutRefIdeal.Read
public import proofs.«01_k».proof.Proof.Gelu
public import proofs.«01_k».proof.Proof.FfnATie
public import proofs.«01_k».proof.Proof.MixInTie

@[expose] public section

set_option maxRecDepth 16384

noncomputable section

namespace Cert.MixOutFwd

open Idealize.ShloMosaic Idealize.ShloMosaic.TcCoe Idealize.SL.Sem
open Cert.MixOutRefIdeal.Read Cert.Finite
open Cert.MixOutRefIdeal (S16384x1024 S16384x4608 S16384x3072 S1024x1024 S3x512 S512x1024 S512 S4x128x128 S4x128 S1024)
open Cert.Shift
open Cert.Gelu (sgm th gelu dgelu c c3)

variable {dy : FVec Ideal S16384x1024 .f32} {za : FVec Ideal S16384x4608 .f32} {zm : FVec Ideal S16384x3072 .f32} {hf hr : FVec Ideal S16384x1024 .f32}
  {wlo : FVec Ideal S1024x1024 .f32} {scw : FVec Ideal S3x512 .f32} {wso : FVec Ideal S512x1024 .f32} {lg lb : FVec Ideal S512 .f32}
  {ws : FVec Ideal S4x128x128 .f32} {bs : FVec Ideal S4x128 .f32} {wgo : FVec Ideal S512x1024 .f32} {wo : FVec Ideal S1024x1024 .f32}
  {qg : FVec Ideal S1024 .f32}

/-! ## The numbers in the text -/

theorem three : Ideal.ofBits .f32 0x40400000#32 = ((3 : ℝ) : EReal) := by
  simp [Ideal.ofBits, Ideal.ieee, -EReal.coe_mul]; norm_num
theorem width : Ideal.ofBits .f32 0x44000000#32 = ((512 : ℝ) : EReal) := by
  simp [Ideal.ofBits, Ideal.ieee, -EReal.coe_mul]; norm_num
theorem root : ∃ r : ℝ, Ideal.ofBits .f32 0x3F4C422A#32 = (r : EReal) :=
  ⟨_, by simp [Ideal.ofBits, Ideal.ieee, -EReal.coe_mul]; rfl⟩
/-- The cubic coefficient is written as a quotient of two numbers that the format holds exactly. -/
theorem cubic : Ideal.div (Ideal.ofBits .f32 0x460BBC00#32) (Ideal.ofBits .f32 0x48435000#32) = ((8943 / 200000 : ℝ) : EReal) := by
  have e : Ideal.ofBits .f32 0x460BBC00#32 = ((8943 : ℝ) : EReal) := by
    simp [Ideal.ofBits, Ideal.ieee, -EReal.coe_mul]; norm_num
  have e' : Ideal.ofBits .f32 0x48435000#32 = ((200000 : ℝ) : EReal) := by
    simp [Ideal.ofBits, Ideal.ieee, -EReal.coe_mul]; norm_num
  rw [e, e', Ideal.div_coe (by norm_num), ← EReal.coe_mul]
  norm_num

/-! ## The gates -/

theorem isR_half : IsR (Ideal.ofBits .f32 0x3F000000#32) := ⟨_, Lit.half⟩
theorem isR_one : IsR (Ideal.ofBits .f32 0x3F800000#32) := ⟨_, Lit.one⟩

theorem th_eq (x : EReal) : Ideal.tanh (Ideal.ofBits .f32 0x3F4C422A#32
    * (x + Ideal.div (Ideal.ofBits .f32 0x460BBC00#32) (Ideal.ofBits .f32 0x48435000#32) * (x * x * x))) = th x := by
  unfold th
  rw [cubic, ← mul_assoc, ← mul_assoc]
  rfl

theorem isR_th {x : EReal} (h : IsR x) : IsR (th x) :=
  (IsR.mul root (h.add (((IsR.mul ⟨_, rfl⟩ h).mul h).mul h))).tanh

theorem isR_gelu {x : EReal} (h : IsR x) : IsR (gelu x) := (isR_half.mul h).mul (IsR.one.add (isR_th h))

theorem isR_dgelu {x : EReal} (h : IsR x) : IsR (dgelu x) :=
  (isR_half.mul (IsR.one.add (isR_th h))).add (((isR_half.mul h).mul (IsR.one.sub ((isR_th h).mul (isR_th h)))).mul
    (IsR.mul root (IsR.one.add ((IsR.mul ⟨_, rfl⟩ h).mul h))))

theorem isR_sgm {x : EReal} (h : IsR x) : IsR (sgm x) := FfnATie.isR_sgm h

theorem gelu_eq (x : EReal) : x * (Ideal.ofBits .f32 0x3F000000#32 * (1 + th x)) = gelu x := by
  unfold gelu
  rw [← mul_assoc, mul_comm x]

/-- The gradient at the GeLU's argument: the reference goes through the product, the cube and the root of two over pi one by one. -/
theorem dgelu_eq {a h x : EReal} (ha : IsR a) (hh : IsR h) (hx : IsR x) :
    h * a * (Ideal.ofBits .f32 0x3F000000#32 * (1 + th x))
      + Ideal.ofBits .f32 0x3F4C422A#32 * (Ideal.ofBits .f32 0x3F000000#32 * (x * (h * a)) * ((1 + th x) * (1 - th x)))
      + Ideal.div (Ideal.ofBits .f32 0x460BBC00#32) (Ideal.ofBits .f32 0x48435000#32)
          * (Ideal.ofBits .f32 0x3F4C422A#32 * (Ideal.ofBits .f32 0x3F000000#32 * (x * (h * a)) * ((1 + th x) * (1 - th x))))
          * (Ideal.ofBits .f32 0x40400000#32 * (x * x))
      = a * h * dgelu x := by
  unfold dgelu c3
  obtain ⟨t, ht⟩ := isR_th hx
  obtain ⟨r, hr⟩ := root
  obtain ⟨a, rfl⟩ := ha
  obtain ⟨h, rfl⟩ := hh
  obtain ⟨x, rfl⟩ := hx
  rw [ht, cubic, hr, three, Lit.half]
  simp only [← EReal.coe_one, ← EReal.coe_mul, ← EReal.coe_add, ← EReal.coe_sub]
  congr 1
  ring

theorem sig_eq (h : IsReal zm) (s : Fin 16384) (q : Fin 3072) : val_main_v127 (F := Ideal) zm (ix2 s q) = sgm (zm (ix2 s q)) := by
  pointwise [val_main_v122, val_main_v123, val_main_cst_25, val_main_v124, val_main_v125, val_main_cst_26, val_main_v126, val_main_v127]
  exact FfnATie.logistic_eq (h _)

theorem th0_eq (s : Fin 16384) (k : Fin 1024) : val_main_v44 (F := Ideal) za (ix2 s k) = th (za (ix2 s ⟨k.val, by omega⟩)) := by
  pointwise [val_main_v0, val_main_v34, val_main_v35, val_main_cst_2, val_main_cst_3, val_main_v33, val_main_v39, val_main_v40, val_main_v41, val_main_cst_5, val_main_v42, val_main_v43, val_main_v44]
  exact th_eq _

theorem gelu0_eq (s : Fin 16384) (k : Fin 1024) : val_main_v54 (F := Ideal) za (ix2 s k) = gelu (za (ix2 s ⟨k.val, by omega⟩)) := by
  pointwise [val_main_v0, val_main_cst_8, val_main_v50, val_main_v51, val_main_cst_9, val_main_v52, val_main_v53, val_main_v54]
  rw [th0_eq]
  exact gelu_eq _

/-! ## The branches are real -/

theorem real_gelu0 (h : IsReal za) : IsReal (val_main_v54 (F := Ideal) za) := fun j => by
  idx_vars j
  rw [gelu0_eq]
  exact isR_gelu (h _)

theorem real_ya (hza : IsReal za) (hhf : IsReal hf) (hhr : IsReal hr) (hw : IsReal wlo) : IsReal (val_main_v56 (F := Ideal) za hf hr wlo) := fun j => by
  have e : ∀ i, IsR ((val_main_v55 (F := Ideal) za hf hr) i) := fun i => ((hhf i).add (hhr i)).mul (real_gelu0 hza i)
  idx_vars j
  have e' : (val_main_v56 (F := Ideal) za hf hr wlo) (ix2 j0 j1) = ∑ l : Fin 1024, (val_main_v55 (F := Ideal) za hf hr) (ix2 j0 l) * wlo (ix2 l j1) := by
    pointwise [val_main_v56]
  rw [e']
  exact .sum _ fun l => (e _).mul (hw _)

/-- The short convolution: a row before, the row, a row after. -/
theorem conv_eq (s : Fin 16384) (k : Fin 512) : val_main_v31 (F := Ideal) za scw (ix2 s k)
    = scw (ix2 0 k) * behind 1 (fun s => za (ix2 s ⟨2560 + k.val, by omega⟩) * za (ix2 s ⟨3072 + k.val, by omega⟩)) s
      + scw (ix2 1 k) * (za (ix2 s ⟨2560 + k.val, by omega⟩) * za (ix2 s ⟨3072 + k.val, by omega⟩))
      + scw (ix2 2 k) * ahead 1 (fun s => za (ix2 s ⟨2560 + k.val, by omega⟩) * za (ix2 s ⟨3072 + k.val, by omega⟩)) s := by
  pointwise [val_main_v2, val_main_v3, val_main_v6, val_main_cst, val_main_v7, val_main_cst_0, val_main_v8, val_main_v9, val_main_v10, val_main_v11, val_main_v12, val_main_v13, val_main_v14, val_main_v15, val_main_cst_1, val_main_v16, val_main_v17, val_main_v18, val_main_v19, val_main_v20, val_main_v21, val_main_v22, val_main_v23, val_main_v24, val_main_v25, val_main_v26, val_main_v27, val_main_v28, val_main_v29, val_main_v30, val_main_v31]
  rw [mul_comm (scw (ix2 0 k)), mul_comm (scw (ix2 1 k)), mul_comm (scw (ix2 2 k))]
  exact congrArg₂ (fun a b : EReal => a + b) (congrArg (fun a : EReal => a * scw (ix2 0 k) + _)
      (MixInTie.behind_pad 1 (fun s => za (ix2 s ⟨2560 + k.val, by omega⟩) * za (ix2 s ⟨3072 + k.val, by omega⟩)) s
        (fun _ h => ⟨s.val - 1, h⟩) (by omega) (fun k h => by dsimp only; omega)))
    (congrArg (fun a : EReal => a * scw (ix2 2 k))
      (MixInTie.ahead_pad 1 (fun s => za (ix2 s ⟨2560 + k.val, by omega⟩) * za (ix2 s ⟨3072 + k.val, by omega⟩)) s
        (fun _ h => ⟨2 + s.val - 1, h⟩) (by omega) (fun k h => by dsimp only; omega)))

theorem real_conv (hza : IsReal za) (hs : IsReal scw) : IsReal (val_main_v31 (F := Ideal) za scw) := fun j => by
  have e : ∀ (k : Fin 512) (s : Fin 16384), IsR (za (ix2 s ⟨2560 + k.val, by omega⟩) * za (ix2 s ⟨3072 + k.val, by omega⟩)) := fun (k : Fin 512) (s : Fin 16384) => (hza _).mul (hza _)
  idx_vars j
  rw [conv_eq]
  exact (((hs _).mul (MixInTie.isR_behind (e _) 1 _)).add ((hs _).mul (e _ _))).add ((hs _).mul (MixInTie.isR_ahead (e _) 1 _))

theorem real_yb (hza : IsReal za) (hs : IsReal scw) (hw : IsReal wso) : IsReal (val_main_v58 (F := Ideal) za scw wso) := fun j => by
  have e : ∀ i, IsR ((val_main_v57 (F := Ideal) za scw) i) := fun i => IsR.mul (hza _) (real_conv hza hs i)
  idx_vars j
  have e' : (val_main_v58 (F := Ideal) za scw wso) (ix2 j0 j1) = ∑ l : Fin 512, (val_main_v57 (F := Ideal) za scw) (ix2 j0 l) * wso (ix2 l j1) := by
    pointwise [val_main_v58]
  rw [e']
  exact .sum _ fun l => (e _).mul (hw _)

theorem real_gate (h : IsReal za) : IsReal (val_main_v72 (F := Ideal) za) := fun j => by
  idx_vars j
  have e : (val_main_v72 (F := Ideal) za) (ix2 j0 j1) = gelu (za (ix2 j0 ⟨3584 + j1.val, by omega⟩)) := by
    pointwise [val_main_v4, val_main_v60, val_main_v61, val_main_cst_10, val_main_cst_11, val_main_v59, val_main_v62, val_main_v63, val_main_v64, val_main_cst_12, val_main_v65, val_main_v66, val_main_v67, val_main_cst_13, val_main_v68, val_main_v69, val_main_cst_14, val_main_v70, val_main_v71, val_main_v72]
    rw [th_eq]
    exact gelu_eq _
  rw [e]
  exact isR_gelu (h _)

theorem real_value (h : IsReal za) : IsReal (val_main_v86 (F := Ideal) za) := fun j => by
  idx_vars j
  have e : (val_main_v86 (F := Ideal) za) (ix2 j0 j1) = gelu (za (ix2 j0 ⟨4096 + j1.val, by omega⟩)) := by
    pointwise [val_main_v5, val_main_v74, val_main_v75, val_main_cst_15, val_main_cst_16, val_main_v73, val_main_v76, val_main_v77, val_main_v78, val_main_cst_17, val_main_v79, val_main_v80, val_main_v81, val_main_cst_18, val_main_v82, val_main_v83, val_main_cst_19, val_main_v84, val_main_v85, val_main_v86]
    rw [th_eq]
    exact gelu_eq _
  rw [e]
  exact isR_gelu (h _)

/-- The layer norm of the third branch: its mean, and one over its root. -/
theorem real_mean (h : IsReal za) (s : Fin 16384) : IsR ((val_main_v90 (F := Ideal) za) (ix2 s 0)) := by
  have e : (val_main_v90 (F := Ideal) za) (ix2 s 0) = Ideal.div (∑ k : Fin 512, (val_main_v86 (F := Ideal) za) (ix2 s k)) (Ideal.ofBits .f32 0x44000000#32) := by
    pointwise [val_main_cst_20, val_main_v87, val_main_v88, val_main_cst_21, val_main_v89, val_main_v90]
  rw [e, width]
  exact .div (by norm_num) (.sum _ fun k => real_value h _)

theorem real_off (h : IsReal za) (s : Fin 16384) (k : Fin 512) : IsR ((val_main_v92 (F := Ideal) za) (ix2 s k)) := by
  have e : (val_main_v92 (F := Ideal) za) (ix2 s k) = (val_main_v86 (F := Ideal) za) (ix2 s k) - (val_main_v90 (F := Ideal) za) (ix2 s 0) := by
    pointwise [val_main_v91, val_main_v92]
  rw [e]
  exact (real_value h _).sub (real_mean h s)

theorem real_root (h : IsReal za) (s : Fin 16384) : IsR ((val_main_v102 (F := Ideal) za) (ix2 s 0)) := by
  have e : (val_main_v102 (F := Ideal) za) (ix2 s 0) = Ideal.rsqrt (Ideal.div (∑ k : Fin 512, (val_main_v92 (F := Ideal) za) (ix2 s k) * (val_main_v92 (F := Ideal) za) (ix2 s k)) (Ideal.ofBits .f32 0x44000000#32)
      + Ideal.ofBits .f32 0x358637BD#32) := by
    pointwise [val_main_cst_24, val_main_v100, val_main_cst_22, val_main_v93, val_main_v94, val_main_v95, val_main_cst_23, val_main_v96, val_main_v97, val_main_v101, val_main_v102]
  obtain ⟨f, hf⟩ := IsReal.choose (real_off h s)
  obtain ⟨b, hb, hb'⟩ := Lit.eps
  have hp : 0 < (∑ k : Fin 512, f k * f k) * (1 / 512) + b := by
    have : 0 ≤ ∑ k : Fin 512, f k * f k := Finset.sum_nonneg fun l _ => mul_self_nonneg _
    positivity
  rw [e]
  simp only [congrFun hf]
  rw [width, Ideal.div_coe (by norm_num), hb']
  simp only [← EReal.coe_mul, ← coe_sum, ← EReal.coe_add]
  rw [Ideal.rsqrt_coe, if_neg (not_lt.2 hp.le), if_neg hp.ne']
  exact ⟨_, rfl⟩

theorem real_normed (h : IsReal za) (hg : IsReal lg) (hb : IsReal lb) : IsReal (val_main_v110 (F := Ideal) za lg lb) := fun j => by
  idx_vars j
  have e : (val_main_v110 (F := Ideal) za lg lb) (ix2 j0 j1) = ((val_main_v86 (F := Ideal) za) (ix2 j0 j1) - (val_main_v90 (F := Ideal) za) (ix2 j0 0)) * (val_main_v102 (F := Ideal) za) (ix2 j0 0) * lg (ix1 j1) + lb (ix1 j1) := by
    pointwise [val_main_v103, val_main_v98, val_main_v99, val_main_v104, val_main_v105, val_main_v106, val_main_v107, val_main_v108, val_main_v109, val_main_v110]
  rw [e]
  exact ((((real_value h _).sub (real_mean h _)).mul (real_root h _)).mul (hg _)).add (hb _)

theorem real_mixed (h : IsReal za) (hg : IsReal lg) (hb : IsReal lb) (hws : IsReal ws) : IsReal (val_main_v112 (F := Ideal) za lg lb ws) := fun j => by
  idx_vars j
  have e : (val_main_v112 (F := Ideal) za lg lb ws) (ix4 j0 j1 j2 j3) = ∑ l : Fin 128, (val_main_v111 (F := Ideal) za lg lb) (ix4 j1 l j0 j2) * ws (ix3 j0 j3 l) := by
    pointwise [val_main_v112]
  rw [e]
  have e' : ∀ i, IsR ((val_main_v111 (F := Ideal) za lg lb) i) := fun i => real_normed h hg hb _
  exact .sum _ fun l => (e' _).mul (hws _)

theorem real_yc (h : IsReal za) (hg : IsReal lg) (hb : IsReal lb) (hws : IsReal ws) (hbs : IsReal bs) (hw : IsReal wgo) : IsReal (val_main_v121 (F := Ideal) za lg lb ws bs wgo) := fun j => by
  have e118 : ∀ i, IsR ((val_main_v118 (F := Ideal) za lg lb ws bs) i) := fun i => IsR.add (real_mixed h hg hb hws _) (hbs _)
  have e120 : ∀ i, IsR ((val_main_v120 (F := Ideal) za lg lb ws bs) i) := fun i => IsR.mul (real_gate h _) (e118 _)
  idx_vars j
  have e : (val_main_v121 (F := Ideal) za lg lb ws bs wgo) (ix2 j0 j1) = ∑ l : Fin 512, (val_main_v120 (F := Ideal) za lg lb ws bs) (ix2 j0 l) * wgo (ix2 l j1) := by
    pointwise [val_main_v121]
  rw [e]
  exact .sum _ fun l => (e120 _).mul (hw _)

/-- The merged rows are real. -/
theorem real_mx (hza : IsReal za) (hzm : IsReal zm) (hhf : IsReal hf) (hhr : IsReal hr) (hwlo : IsReal wlo) (hscw : IsReal scw) (hwso : IsReal wso)
    (hlg : IsReal lg) (hlb : IsReal lb) (hws : IsReal ws) (hbs : IsReal bs) (hwgo : IsReal wgo) (hwo : IsReal wo) : IsReal (val_main_v143 (F := Ideal) za zm hf hr wlo scw wso lg lb ws bs wgo wo) := fun j => by
  have e127 : ∀ i, IsR ((val_main_v127 (F := Ideal) zm) i) := fun i => by
    idx_vars i
    rw [sig_eq hzm]
    exact isR_sgm (hzm _)
  have e142 : ∀ i, IsR ((val_main_v142 (F := Ideal) za zm hf hr wlo scw wso lg lb ws bs wgo) i) := fun i =>
    IsR.add (IsR.add (IsR.mul (e127 _) (real_ya hza hhf hhr hwlo _)) (IsR.mul (e127 _) (real_yb hza hscw hwso _)))
      (IsR.mul (e127 _) (real_yc hza hlg hlb hws hbs hwgo _))
  idx_vars j
  have e : (val_main_v143 (F := Ideal) za zm hf hr wlo scw wso lg lb ws bs wgo wo) (ix2 j0 j1) = ∑ l : Fin 1024, (val_main_v142 (F := Ideal) za zm hf hr wlo scw wso lg lb ws bs wgo) (ix2 j0 l) * wo (ix2 l j1) := by
    pointwise [val_main_v143]
  rw [e]
  exact .sum _ fun l => (e142 _).mul (hwo _)

end Cert.MixOutFwd

end
-- ==== Proof.MixOutTie.lean ====
/- The output layer's gradient is what the chain rule says: the kernel's ten results are the reference's, on real arguments. -/
module

public import proofs.«01_k».proof.Proof.MixOutVal
public import proofs.«01_k».proof.Proof.MixOutFwd

@[expose] public section

set_option maxRecDepth 16384

noncomputable section

namespace Cert.MixOutTie

open Idealize.ShloMosaic Idealize.ShloMosaic.TcCoe Idealize.SL.Sem
open Cert.MixOutRefIdeal (S16384x1024 S16384x4608 S16384x3072 S1024x1024 S3x512 S512x1024 S512 S4x128x128 S4x128 S1024 S16384x512 S1x1024)
open Cert.MixOutRefIdeal.Read Cert.Finite Cert.MixOutFwd
open Cert.Gelu (sgm th gelu dgelu c c3)
open Cert.MixOutIdeal.Val

variable {A : Args}

/-- That every argument is real. -/
structure AllReal (A : Args) : Prop where
  dy : IsReal A.dy
  za : IsReal A.za
  zm : IsReal A.zm
  hf : IsReal A.hf
  hr : IsReal A.hr
  wlo : IsReal A.wlo
  scw : IsReal A.scw
  wso : IsReal A.wso
  lg : IsReal A.lg
  lb : IsReal A.lb
  ws : IsReal A.ws
  bs : IsReal A.bs
  wgo : IsReal A.wgo
  wo : IsReal A.wo
  qg : IsReal A.qg

theorem AllReal.ya (h : AllReal A) : IsReal (Cert.MixOutIdeal.Val.ya A) := real_ya h.za h.hf h.hr h.wlo
theorem AllReal.yb (h : AllReal A) : IsReal (Cert.MixOutIdeal.Val.yb A) := real_yb h.za h.scw h.wso
theorem AllReal.yc (h : AllReal A) : IsReal (Cert.MixOutIdeal.Val.yc A) := real_yc h.za h.lg h.lb h.ws h.bs h.wgo
theorem AllReal.mrow (h : AllReal A) (s : Fin 16384) : IsReal (Cert.MixOutIdeal.Val.mrow A s) := fun _ =>
  real_mx h.za h.zm h.hf h.hr h.wlo h.scw h.wso h.lg h.lb h.ws h.bs h.wgo h.wo _

/-! ## Through the norm -/

theorem meanSq_eq (A : Args) (s : Fin 16384) : val_main_v150 (F := Ideal) A.za A.zm A.hf A.hr A.wlo A.scw A.wso A.lg A.lb A.ws A.bs A.wgo A.wo (ix2 s 0) = Rows.meanSq (mrow A s) := by
  unfold Rows.meanSq mrow mx
  pointwise [val_main_cst_28, val_main_v144, val_main_v145, val_main_v146, val_main_cst_29, val_main_v147, val_main_v148, val_main_cst_30, val_main_v149, val_main_v150]

theorem dmx_eq (h : AllReal A) (s : Fin 16384) (k : Fin 1024) : val_main_v179 (F := Ideal) A.dy A.za A.zm A.hf A.hr A.wlo A.scw A.wso A.lg A.lb A.ws A.bs A.wgo A.wo A.qg (ix2 s k) = dmx A s k := by
  symm
  unfold dmx
  refine (Rows.back_eq_chain (fun l => h.dy _) (h.mrow s) (fun l => h.qg _) k).trans ?_
  symm
  pointwise [val_main_v157, val_main_v163, val_main_v164, val_main_v151, val_main_v169, val_main_v170, val_main_cst_36, val_main_v152, val_main_cst_31, val_main_v153, val_main_v154, val_main_cst_34, val_main_v166, val_main_v167, val_main_v168, val_main_v171, val_main_cst_35, val_main_v172, val_main_v173, val_main_v174, val_main_v175, val_main_v176, val_main_v177, val_main_v178, val_main_v179]
  simp only [Fin.sum_univ_one, Fin.isValue, meanSq_eq]
  rfl

theorem dqg_eq (j : S1x1024.Idx) : dqgArr A j = val_main_v222 (F := Ideal) A.dy A.za A.zm A.hf A.hr A.wlo A.scw A.wso A.lg A.lb A.ws A.bs A.wgo A.wo j := by
  idx_vars j
  unfold dqgArr
  symm
  pointwise [val_main_cst_33, val_main_cst_32, val_main_v151, val_main_v155, val_main_v156, val_main_v160, val_main_v161, val_main_v162, val_main_v165, val_main_v222]
  simp only [Fin.sum_univ_one, Fin.isValue, meanSq_eq]
  exact Finset.sum_congr rfl fun s _ => mul_comm _ _

theorem dm_eq (h : AllReal A) (s : Fin 16384) (k : Fin 1024) : val_main_v180 (F := Ideal) A.dy A.za A.zm A.hf A.hr A.wlo A.scw A.wso A.lg A.lb A.ws A.bs A.wgo A.wo A.qg (ix2 s k) = dm A s k := by
  pointwise [val_main_v180]
  simp only [dmx_eq h]
  rfl

/-! ## The merge -/

theorem sig0_eq (h : AllReal A) (s : Fin 16384) (k : Fin 1024) : val_main_v133 (F := Ideal) A.zm (ix2 s k) = sgm (A.zm (ix2 s ⟨k.val, by omega⟩)) := by
  refine Eq.trans ?_ (sig_eq h.zm s ⟨k.val, by omega⟩)
  pointwise [val_main_v131, val_main_v132, val_main_v133]

theorem sig1_eq (h : AllReal A) (s : Fin 16384) (k : Fin 1024) : val_main_v136 (F := Ideal) A.zm (ix2 s k) = sgm (A.zm (ix2 s ⟨1024 + k.val, by omega⟩)) := by
  refine Eq.trans ?_ (sig_eq h.zm s ⟨1024 + k.val, by omega⟩)
  pointwise [val_main_v131, val_main_v135, val_main_v136]

theorem sig2_eq (h : AllReal A) (s : Fin 16384) (k : Fin 1024) : val_main_v140 (F := Ideal) A.zm (ix2 s k) = sgm (A.zm (ix2 s ⟨2048 + k.val, by omega⟩)) := by
  refine Eq.trans ?_ (sig_eq h.zm s ⟨2048 + k.val, by omega⟩)
  pointwise [val_main_v131, val_main_v139, val_main_v140]

theorem dya_eq (h : AllReal A) (s : Fin 16384) (k : Fin 1024) : val_main_v190 (F := Ideal) A.dy A.za A.zm A.hf A.hr A.wlo A.scw A.wso A.lg A.lb A.ws A.bs A.wgo A.wo A.qg (ix2 s k) = dya A s k := by
  pointwise [val_main_v190]
  rw [dm_eq h, sig0_eq h, mul_comm]
  rfl

theorem dyb_eq (h : AllReal A) (s : Fin 16384) (k : Fin 1024) : val_main_v185 (F := Ideal) A.dy A.za A.zm A.hf A.hr A.wlo A.scw A.wso A.lg A.lb A.ws A.bs A.wgo A.wo A.qg (ix2 s k) = dyb A s k := by
  pointwise [val_main_v185]
  rw [dm_eq h, sig1_eq h, mul_comm]
  rfl

theorem dyc_eq (h : AllReal A) (s : Fin 16384) (k : Fin 1024) : val_main_v181 (F := Ideal) A.dy A.za A.zm A.hf A.hr A.wlo A.scw A.wso A.lg A.lb A.ws A.bs A.wgo A.wo A.qg (ix2 s k) = dyc A s k := by
  pointwise [val_main_v181]
  rw [dm_eq h, sig2_eq h, mul_comm]
  rfl

/-- Of three arrays padded to one length and added, one is read where the others are zero. -/
theorem pads0 {p q r : Prop} [Decidable p] [Decidable q] [Decidable r] (P : p → EReal) (Q : q → EReal) (R : r → EReal) (hp : ¬ p) (hq : ¬ q) (hr : r) :
    (if h : p then P h else 0) + (if h : q then Q h else 0) + (if h : r then R h else 0) = R hr := by
  rw [dif_neg hp, dif_neg hq, dif_pos hr, zero_add, zero_add]

theorem pads1 {p q r : Prop} [Decidable p] [Decidable q] [Decidable r] (P : p → EReal) (Q : q → EReal) (R : r → EReal) (hp : ¬ p) (hq : q) (hr : ¬ r) :
    (if h : p then P h else 0) + (if h : q then Q h else 0) + (if h : r then R h else 0) = Q hq := by
  rw [dif_neg hp, dif_pos hq, dif_neg hr, zero_add, add_zero]

theorem pads2 {p q r : Prop} [Decidable p] [Decidable q] [Decidable r] (P : p → EReal) (Q : q → EReal) (R : r → EReal) (hp : p) (hq : ¬ q) (hr : ¬ r) :
    (if h : p then P h else 0) + (if h : q then Q h else 0) + (if h : r then R h else 0) = P hp := by
  rw [dif_pos hp, dif_neg hq, dif_neg hr, add_zero, add_zero]

theorem dzm_eq (h : AllReal A) (s : Fin 16384) (q : Fin 3072) : val_main_v196 (F := Ideal) A.dy A.za A.zm A.hf A.hr A.wlo A.scw A.wso A.lg A.lb A.ws A.bs A.wgo A.wo A.qg (ix2 s q) = dzm A s q := by
  pointwise [val_main_cst_27, val_main_v128, val_main_v129, val_main_v130, val_main_cst_37, val_main_v182, val_main_v183, val_main_v184, val_main_cst_38, val_main_v186, val_main_v187, val_main_v188, val_main_v189, val_main_cst_39, val_main_v191, val_main_v192, val_main_v193, val_main_v194, val_main_v195, val_main_v196]
  simp only [sig_eq h.zm, dm_eq h]
  by_cases h0 : q.val < 1024
  · refine Eq.trans ?_ (show dzm A s q = _ by unfold dzm; exact dif_pos h0).symm
    have e : q.val % 1024 = q.val := by omega
    refine Eq.trans (congrArg (fun a : EReal => a * _) (pads0 _ _ _ (by omega) (by omega) (by omega))) ?_
    simp only [e]
    exact (mul_assoc _ _ _).symm
  by_cases h1 : q.val < 2048
  · refine Eq.trans ?_ (show dzm A s q = _ by unfold dzm; exact (dif_neg h0).trans (dif_pos h1)).symm
    have e : q.val % 1024 = q.val - 1024 := by omega
    refine Eq.trans (congrArg (fun a : EReal => a * _) (pads1 _ _ _ (by omega) (by omega) (by omega))) ?_
    simp only [e]
    exact (mul_assoc _ _ _).symm
  · refine Eq.trans ?_ (show dzm A s q = _ by unfold dzm; exact (dif_neg h0).trans (dif_neg h1)).symm
    have e : q.val % 1024 = q.val - 2048 := by omega
    refine Eq.trans (congrArg (fun a : EReal => a * _) (pads2 _ _ _ (by omega) (by omega) (by omega))) ?_
    simp only [e]
    exact (mul_assoc _ _ _).symm

/-! ## The recurrence's branch -/

theorem dyaIn_eq (h : AllReal A) (s : Fin 16384) (k : Fin 1024) : val_main_v197 (F := Ideal) A.dy A.za A.zm A.hf A.hr A.wlo A.scw A.wso A.lg A.lb A.ws A.bs A.wgo A.wo A.qg (ix2 s k) = dyaIn A s k := by
  pointwise [val_main_v197]
  simp only [dya_eq h]
  rfl

theorem dhs_eq (h : AllReal A) (j : S16384x1024.Idx) : dhsArr A j = val_main_v199 (F := Ideal) A.dy A.za A.zm A.hf A.hr A.wlo A.scw A.wso A.lg A.lb A.ws A.bs A.wgo A.wo A.qg j := by
  idx_vars j
  symm
  pointwise [val_main_v199]
  rw [dyaIn_eq h, gelu0_eq]
  rfl

theorem isR_dyaIn (h : AllReal A) (s : Fin 16384) (k : Fin 1024) : IsR (dyaIn A s k) :=
  .sum _ fun l => ((IsR.sum _ fun l => (Rows.isR_back (fun l => h.dy _) (h.mrow s) (fun l => h.qg _) l).mul (h.wo _)).mul (isR_sgm (h.zm _))).mul (h.wlo _)

theorem dgate_eq (h : AllReal A) (s : Fin 16384) (k : Fin 1024) : val_main_v211 (F := Ideal) A.dy A.za A.zm A.hf A.hr A.wlo A.scw A.wso A.lg A.lb A.ws A.bs A.wgo A.wo A.qg (ix2 s k) = dgate A s k := by
  pointwise [val_main_v32, val_main_v198, val_main_cst_8, val_main_v50, val_main_v51, val_main_cst_9, val_main_v52, val_main_v53, val_main_v201, val_main_v0, val_main_v200, val_main_cst_40, val_main_v202, val_main_v203, val_main_cst_6, val_main_v45, val_main_v46, val_main_cst_7, val_main_v47, val_main_v48, val_main_v49, val_main_v204, val_main_cst_41, val_main_v205, val_main_v206, val_main_v207, val_main_cst_2, val_main_cst_3, val_main_v33, val_main_v208, val_main_v209, val_main_v36, val_main_cst_4, val_main_v37, val_main_v38, val_main_v210, val_main_v211]
  simp only [dyaIn_eq h, th0_eq]
  exact dgelu_eq (isR_dyaIn h s k) ((h.hf _).add (h.hr _)) (h.za _)

/-! ## The short convolution's branch -/

theorem dqb_eq (h : AllReal A) (s : Fin 16384) (k : Fin 512) : val_main_v212 (F := Ideal) A.dy A.za A.zm A.hf A.hr A.wlo A.scw A.wso A.lg A.lb A.ws A.bs A.wgo A.wo A.qg (ix2 s k) = dqb A s k := by
  pointwise [val_main_v212]
  simp only [dyb_eq h]
  rfl

theorem dcp_eq (h : AllReal A) (j : S16384x512.Idx) : dcpArr A j = val_main_v213 (F := Ideal) A.dy A.za A.zm A.hf A.hr A.wlo A.scw A.wso A.lg A.lb A.ws A.bs A.wgo A.wo A.qg j := by
  idx_vars j
  symm
  pointwise [val_main_v1, val_main_v213]
  rw [dqb_eq h, mul_comm]
  rfl

theorem dscb_eq (h : AllReal A) (s : Fin 16384) (k : Fin 512) : val_main_v214 (F := Ideal) A.dy A.za A.zm A.hf A.hr A.wlo A.scw A.wso A.lg A.lb A.ws A.bs A.wgo A.wo A.qg (ix2 s k) = dscb A s k := by
  pointwise [val_main_v214]
  rw [dqb_eq h, conv_eq]
  rfl

end Cert.MixOutTie

end
-- ==== Proof.MixOutGate.lean ====
/- The gradient at the spatial gating unit's gate: what the output layer's backward call stores for it, and that it is the
   reference's. -/
module

public import proofs.«01_k».proof.Proof.MixOutTie
public import proofs.«01_k».proof.Proof.MixOutFrame

@[expose] public section

set_option maxRecDepth 16384

noncomputable section

namespace Cert.MixOutIdeal.Pay

open Cert.MixOutIdeal Cert.MixOutIdeal.Gen Cert.MixOutIdeal.Body Cert.Shift Cert.Gelu Idealize.ShloMosaic Idealize.ShloMosaic.TcCoe

/-- The mean of a row of 512 entries, and the row centred, divided by its deviation, scaled and shifted. -/
def mean (v : Fin 512 → EReal) : EReal := Ideal.div (∑ k, v k) (Ideal.ofBits .f32 0x44000000#32)
def normed (v g b : Fin 512 → EReal) (k : Fin 512) : EReal :=
  (v k - mean v) * Ideal.rsqrt (mean (fun l => (v l - mean v) * (v l - mean v)) + Ideal.ofBits .f32 0x358637BD#32) * g k + b k

section
variable {y : Fin 256} {q : Fin 512}

/-- The rows the third branch mixes, -/
theorem v_at (x10 : Vec Ideal S256x512 .bf16) (x21 x22 : Vec Ideal S1x512 .f32) : vBlk x10 x21 x22 (ix2 y q)
    = normed (fun l => gelu (x10 (ix2 y l))) (fun l => x21 (ix2 0 l)) (fun l => x22 (ix2 0 l)) q := by
  unfold vBlk cenBlk
  pointwise [k0_pay47, k0_pay46, k0_pay45, k0_pay44, k0_pay40, k0_pay39, k0_pay38, normed, mean, gelu, th]
  simp only [named_c]

set_option maxHeartbeats 1000000 in
/-- and the mixture: within a chunk of 128 rows, by a group's own weights and biases. -/
theorem mixed_at (x10 : Vec Ideal S256x512 .bf16) (x21 x22 : Vec Ideal S1x512 .f32) (x23 : Vec Ideal S4x128x128 .bf16) (x25 : Vec Ideal S128x4 .f32) :
    mixedBlk x10 x21 x22 x23 x25 (ix2 y q) = (∑ l : Fin 128, x23 (ix3 ⟨q.val / 128, by omega⟩ ⟨y.val % 128, by omega⟩ l)
      * vBlk x10 x21 x22 (ix2 ⟨y.val / 128 * 128 + l.val, by omega⟩ q)) + x25 (ix2 ⟨y.val % 128, by omega⟩ ⟨q.val / 128, by omega⟩) := by
  have e3 {a a' : Fin 4} {b b' : Fin 128} (l : Fin 128) (ha : a.val = a'.val) (hb : b.val = b'.val) : ix3 a b l = ix3 a' b' l := by
    rw [Fin.ext ha, Fin.ext hb]
  have e2 {n n' : ℕ} {a a' : Fin n} {b b' : Fin n'} (ha : a.val = a'.val) (hb : b.val = b'.val) : ix2 a b = ix2 a' b' := by
    rw [Fin.ext ha, Fin.ext hb]
  unfold mixedBlk mixFirst
  generalize vBlk x10 x21 x22 = V
  canon_tiles x hh using (View.cover_of_tiledBy _ ![128, 128] (by sl_kernel_rfl) _)
  all_goals
    idx_vars x
    obtain ⟨q, hq⟩ := q
    obtain ⟨y, hy⟩ := y
    replace hh0 : y = _ := hh0
    replace hh1 : q = _ := hh1
    pointwise [k0_pay94, k0_pay90, k0_pay86, k0_pay82, k0_pay78, k0_pay77, k0_pay73, k0_pay67, k0_pay63, k0_pay62]
    refine congrArg₂ (fun a b : EReal => a + b) (Finset.sum_congr rfl fun l _ => congrArg₂ (fun a b : EReal => a * b)
      (congrArg x23 (e3 l ?_ ?_)) (congrArg V (e2 ?_ ?_))) (congrArg x25 (e2 ?_ ?_))
    all_goals (simp only [Fin.isValue, Fin.val_zero, Fin.val_one, Fin.val_two]; first | omega | (change 3 = _; omega))

/-- The gradient behind the branch's projection, and at the gate. -/
theorem dycIn_at (x0 : Vec Ideal S256x1024 .f32) (x11 : Vec Ideal S256x3072 .bf16) (x17 : Vec Ideal S256x1024 .bf16) (x26 : Vec Ideal S512x1024 .bf16)
    (x27 : Vec Ideal S1024x1024 .bf16) (x28 : Vec Ideal S1x1024 .f32) : dycInBlk x0 x11 x17 x26 x27 x28 (ix2 y q)
    = ∑ l : Fin 1024, dycBlk x0 x11 x17 x27 x28 (ix2 y l) * x26 (ix2 q l) := by
  unfold dycInBlk
  generalize dycBlk x0 x11 x17 x27 x28 = D
  pointwise [k0_pay37]

theorem dsu_at (D M : FVec Ideal S256x512 .f32) (x9 : Vec Ideal S256x512 .bf16) :
    k0_pay115 (dugBlk x9) (k0_pay114 D M) (ix2 y q) = D (ix2 y q) * M (ix2 y q) * dgelu (x9 (ix2 y q)) := by
  unfold dugBlk suBlk suTanh
  pointwise [k0_pay115, k0_pay114, k0_pay51, k0_pay50, k0_pay49, k0_pay48, dgelu, th]
  simp only [named_c, named_c3]

end

end Cert.MixOutIdeal.Pay

namespace Cert.MixOutTie

open Idealize.ShloMosaic Idealize.ShloMosaic.TcCoe Idealize.SL.Sem
open Cert.MixOutRefIdeal (S16384x512)
open Cert.MixOutRefIdeal.Read Cert.Finite Cert.MixOutFwd
open Cert.Gelu (sgm th gelu dgelu)
open Cert.MixOutIdeal.Val
open Cert.MixOutIdeal.Pay (normed mean)

variable (A : Args)

/-- What the gate multiplies, by the reference's lines; the gradient behind the projection; and the gradient at the gate. -/
abbrev mix (A : Args) : FVec Ideal S16384x512 .f32 := val_main_v291 (F := Ideal) A.za A.lg A.lb A.ws A.bs
def dycIn (s : Fin 16384) (k : Fin 512) : EReal := ∑ l : Fin 1024, dyc A s l * A.wgo (ix2 k l)
def dsu (s : Fin 16384) (k : Fin 512) : EReal := dycIn A s k * mix A (ix2 s k) * dgelu (A.za (ix2 s ⟨3584 + k.val, by omega⟩))

def dsuArr : FVec Ideal S16384x512 .bf16 := fun j => dsu A (j 0) (j 1)

/-! ## The reference -/

section
variable {A : Args} (s : Fin 16384) (q : Fin 512)

theorem w_eq : val_main_v258 (F := Ideal) A.za (ix2 s q) = gelu (A.za (ix2 s ⟨4096 + q.val, by omega⟩)) := by
  pointwise [val_main_v5, val_main_v246, val_main_v247, val_main_v245, val_main_v248, val_main_v249, val_main_v250, val_main_v251, val_main_v252, val_main_v253, val_main_v254, val_main_v255, val_main_v256, val_main_v257, val_main_v258, val_main_cst_50, val_main_cst_51, val_main_cst_52, val_main_cst_53, val_main_cst_54]
  rw [th_eq]
  exact gelu_eq _

theorem v_eq : val_main_v282 (F := Ideal) A.za A.lg A.lb (ix2 s q)
    = normed (fun l => gelu (A.za (ix2 s ⟨4096 + l.val, by omega⟩))) (fun l => A.lg (ix1 l)) (fun l => A.lb (ix1 l)) q := by
  unfold normed mean
  simp only [← w_eq]
  pointwise [val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_cst_55, val_main_cst_56, val_main_cst_57, val_main_cst_58, val_main_cst_59]

theorem mixed_eq : mix A (ix2 s q) = (∑ l : Fin 128, A.ws (ix3 ⟨q.val / 128, by omega⟩ ⟨s.val % 128, by omega⟩ l)
      * val_main_v282 (F := Ideal) A.za A.lg A.lb (ix2 ⟨s.val / 128 * 128 + l.val, by omega⟩ q)) + A.bs (ix2 ⟨q.val / 128, by omega⟩ ⟨s.val % 128, by omega⟩) := by
  unfold mix
  pointwise [val_main_v283, val_main_v284, val_main_v285, val_main_v286, val_main_v287, val_main_v288, val_main_v289, val_main_v290, val_main_v291]
  exact congrArg (fun a : EReal => a + _) (Finset.sum_congr rfl fun l _ => mul_comm _ _)

theorem v_same : val_main_v282 (F := Ideal) A.za A.lg A.lb = val_main_v110 (F := Ideal) A.za A.lg A.lb := rfl

theorem isR_mix (h : AllReal A) (s : Fin 16384) (q : Fin 512) : IsR (mix A (ix2 s q)) := by
  rw [mixed_eq]
  simp only [v_same]
  exact IsR.add (.sum _ fun l => (h.ws _).mul (real_normed h.za h.lg h.lb _)) (h.bs _)

theorem dycIn_eq (h : AllReal A) : val_main_v294 (F := Ideal) A.dy A.za A.zm A.hf A.hr A.wlo A.scw A.wso A.lg A.lb A.ws A.bs A.wgo A.wo A.qg (ix2 s q) = dycIn A s q := by
  pointwise [val_main_v294]
  simp only [dyc_eq h]
  rfl

theorem isR_dycIn (h : AllReal A) : IsR (dycIn A s q) :=
  .sum _ fun l => ((IsR.sum _ fun l => (Rows.isR_back (fun l => h.dy _) (h.mrow s) (fun l => h.qg _) l).mul (h.wo _)).mul (isR_sgm (h.zm _))).mul (h.wgo _)

theorem th3_eq : val_main_v234 (F := Ideal) A.za (ix2 s q) = th (A.za (ix2 s ⟨3584 + q.val, by omega⟩)) := by
  pointwise [val_main_v4, val_main_v224, val_main_v225, val_main_v223, val_main_v229, val_main_v230, val_main_v231, val_main_v232, val_main_v233, val_main_v234, val_main_cst_42, val_main_cst_43, val_main_cst_45]
  exact th_eq _

theorem dsu_eq (h : AllReal A) : val_main_v307 (F := Ideal) A.dy A.za A.zm A.hf A.hr A.wlo A.scw A.wso A.lg A.lb A.ws A.bs A.wgo A.wo A.qg (ix2 s q) = dsu A s q := by
  have e := isR_mix h s q
  unfold dsu
  generalize hM : mix A = M at e ⊢
  pointwise [val_main_v4, val_main_v223, val_main_v226, val_main_v227, val_main_v228, val_main_v235, val_main_v236, val_main_v237, val_main_v238, val_main_v239, val_main_v240, val_main_v241, val_main_v242, val_main_v243, val_main_v295, val_main_v296, val_main_v297, val_main_v298, val_main_v299, val_main_v300, val_main_v301, val_main_v302, val_main_v303, val_main_v304, val_main_v305, val_main_v306, val_main_v307, val_main_cst_42, val_main_cst_43, val_main_cst_44, val_main_cst_46, val_main_cst_47, val_main_cst_48, val_main_cst_49, val_main_cst_60, val_main_cst_61]
  simp only [dycIn_eq _ _ h, th3_eq, hM]
  exact (dgelu_eq e (isR_dycIn s q h) (h.za _)).trans (by rw [mul_comm (M _)])

end

/-! ## The call -/

section
open Cert.MixOutIdeal Cert.MixOutIdeal.Gen Cert.MixOutIdeal.Body Cert.MixOutIdeal.Whole Cert.Shift Idealize.ShloMosaic.Pipeline
variable (m : (ℓ : Loc nD τ sig) → Buf (Elt Ideal) ℓ) (c : Dev nD)

theorem idxC : ∀ t : Fin cfg0.N, win0_9.index t = ![t.val, 7] ∧ win0_10.index t = ![t.val, 8] ∧ win0_21.index t = ![0, 0] ∧ win0_22.index t = ![0, 0]
    ∧ win0_23.index t = ![0, 0, 0] ∧ win0_25.index t = ![0, 0] ∧ win0_26.index t = ![0, 0] ∧ win0_35.index t = ![t.val, 0] :=
  (by decide +kernel : ∀ t : Fin grid0.N, _)

theorem V_v143 (j : S1x512.Idx) : V m c main_v143 j = (args m c).lg (ix1 (j 1)) := by
  unfold V; after_reads_at; rfl
theorem V_v144 (j : S1x512.Idx) : V m c main_v144 j = (args m c).lb (ix1 (j 1)) := by
  unfold V; after_reads_at; rfl
theorem V_v145 (j : S4x128x128.Idx) : V m c main_v145 j = (args m c).ws j := by
  unfold V; after_reads_at; rfl
theorem V_v148 (j : S128x4.Idx) : V m c main_v148 j = (args m c).bs (ix2 (j 1) (j 0)) := by
  unfold V; after_reads_at; rfl
theorem V_v149 (j : S512x1024.Idx) : V m c main_v149 j = (args m c).wgo j := by
  unfold V; after_reads_at; rfl

variable (t : Fin cfg0.N)

theorem emb9 (y : Fin 256) (k : Fin 512) : ((View.whole main_v133).slice (win0_9.rect t)).emb (ix2 y k) = ix2 (at_ (tile t) y) ⟨3584 + k.val, by omega⟩ := by
  blk_ext [idxC t, at_, tile]
theorem iblk9_at (y : Fin 256) (k : Fin 512) : iblk m c 9 t (ix2 y k) = (args m c).za (ix2 (at_ (tile t) y) ⟨3584 + k.val, by omega⟩) := by
  blk_simp [iblk]; rw [V_v133, emb9]
theorem emb10 (y : Fin 256) (k : Fin 512) : ((View.whole main_v133).slice (win0_10.rect t)).emb (ix2 y k) = ix2 (at_ (tile t) y) ⟨4096 + k.val, by omega⟩ := by
  blk_ext [idxC t, at_, tile]
theorem iblk10_at (y : Fin 256) (k : Fin 512) : iblk m c 10 t (ix2 y k) = (args m c).za (ix2 (at_ (tile t) y) ⟨4096 + k.val, by omega⟩) := by
  blk_simp [iblk]; rw [V_v133, emb10]
theorem iblk21_at (k : Fin 512) : iblk m c 21 t (ix2 0 k) = (args m c).lg (ix1 k) := by
  blk_simp [iblk]; rw [V_v143]; blk_point [idxC t]
theorem iblk22_at (k : Fin 512) : iblk m c 22 t (ix2 0 k) = (args m c).lb (ix1 k) := by
  blk_simp [iblk]; rw [V_v144]; blk_point [idxC t]
theorem iblk23_at (a : Fin 4) (y k : Fin 128) : iblk m c 23 t (ix3 a y k) = (args m c).ws (ix3 a y k) := by
  blk_simp [iblk]; rw [V_v145]; blk_point [idxC t]
theorem iblk25_at (y : Fin 128) (a : Fin 4) : iblk m c 25 t (ix2 y a) = (args m c).bs (ix2 a y) := by
  blk_simp [iblk]; rw [V_v148]; blk_point [idxC t]
theorem iblk26_at (y : Fin 512) (k : Fin 1024) : iblk m c 26 t (ix2 y k) = (args m c).wgo (ix2 y k) := by
  blk_simp [iblk]; rw [V_v149]; blk_point [idxC t]

variable (y : Fin 256) (k : Fin 512)

theorem v_blk : vBlk (F := Ideal) (iblk m c 10 t) (iblk m c 21 t) (iblk m c 22 t) (ix2 y k)
    = val_main_v282 (F := Ideal) (args m c).za (args m c).lg (args m c).lb (ix2 (at_ (tile t) y) k) :=
  (Pay.v_at _ _ _).trans ((Rows.congr3 (fun a b g => normed a b g k) (funext fun l => congrArg gelu (iblk10_at m c t y l))
    (funext (iblk21_at m c t)) (funext (iblk22_at m c t))).trans (v_eq (A := args m c) _ k).symm)

theorem mixed_blk : mixedBlk (F := Ideal) (iblk m c 10 t) (iblk m c 21 t) (iblk m c 22 t) (iblk m c 23 t) (iblk m c 25 t) (ix2 y k)
    = mix (args m c) (ix2 (at_ (tile t) y) k) := by
  have e1 : (⟨y.val % 128, by omega⟩ : Fin 128) = ⟨(at_ (tile t) y).val % 128, by omega⟩ := Fin.ext (by dsimp only [at_]; omega)
  have e2 (l : Fin 128) : at_ (tile t) ⟨y.val / 128 * 128 + l.val, by omega⟩ = ⟨(at_ (tile t) y).val / 128 * 128 + l.val, by omega⟩ :=
    Fin.ext (by dsimp only [at_]; omega)
  rw [mixed_eq, ← e1, Pay.mixed_at, iblk25_at]
  exact congrArg (fun a : EReal => a + _) (Finset.sum_congr rfl fun l _ => congrArg₂ (fun a b : EReal => a * b) (iblk23_at m c t _ _ l)
    ((v_blk m c t _ k).trans (by rw [e2])))

theorem dycIn_blk : dycInBlk (F := Ideal) (iblk m c 0 t) (iblk m c 11 t) (iblk m c 17 t) (iblk m c 26 t) (iblk m c 27 t) (iblk m c 28 t) (ix2 y k)
    = dycIn (args m c) (at_ (tile t) y) k :=
  (Pay.dycIn_at _ _ _ _ _ _).trans (Finset.sum_congr rfl fun l _ => congrArg₂ (fun a b : EReal => a * b) (dyc_blk m c t y l) (iblk26_at m c t k l))

theorem dsu_blk : dsuAt m c t (ix2 y k) = dsu (args m c) (at_ (tile t) y) k :=
  (Pay.dsu_at _ _ _).trans (congrArg₂ (fun a b : EReal => a * b) (congrArg₂ (fun a b : EReal => a * b) (dycIn_blk m c t y k)
    (mixed_blk m c t y k)) (congrArg dgelu (iblk9_at m c t y k)))

theorem emb35 : ((View.whole main_v152_6).slice (win0_35.rect t)).emb (ix2 y k) = ix2 (at_ (tile t) y) k := by
  blk_ext [idxC t, at_, tile]

omit t y k in
theorem final35 : (dats m 0 c).arrAt 35 (cfgs 0).N = dsuArr (args m c) := by
  refine (dats m 0 c).arrAt_eq_of_covers 35 _ (by decide +kernel) fun t _ y => ?_
  blk_simp
  rw [after0_35]
  idx_vars y
  refine Eq.trans ?_ (congrArg _ (emb35 t y0 y1).symm)
  exact dsu_blk m c t y0 y1

end

end Cert.MixOutTie

end
-- ==== Proof.MixOutRun.lean ====
/- The output layer's backward call run on real arguments: its results are the reference's terms. -/
module

public import proofs.«01_k».proof.Proof.MixOutKernel
public import proofs.«01_k».proof.Proof.MixOutGate
public import proofs.«01_k».proof.Defs

@[expose] public section

set_option maxRecDepth 16384

noncomputable section

namespace Cert.MixOutTie

open Idealize.ShloMosaic Idealize.ShloMosaic.TcCoe Idealize.SL.Sem
open Cert.MixOutRefIdeal.Read Cert.Finite
open Cert.MixOutIdeal.Val (Args args)

open Cert.MixOutIdeal in
/-- A device's array. -/
abbrev loc (c : Dev nD) (r : Ref sig .tc) : Loc nD τ sig := (c : Thread nD τ).loc r

open Cert.MixOutRefIdeal in
/-- A term of the reference's of all its arguments. -/
abbrev all {α : Type} (f : FVec Ideal S16384x1024 .f32 → FVec Ideal S16384x4608 .f32 → FVec Ideal S16384x3072 .f32 → FVec Ideal S16384x1024 .f32
    → FVec Ideal S16384x1024 .f32 → FVec Ideal S1024x1024 .f32 → FVec Ideal S3x512 .f32 → FVec Ideal S512x1024 .f32 → FVec Ideal S512 .f32
    → FVec Ideal S512 .f32 → FVec Ideal S4x128x128 .f32 → FVec Ideal S4x128 .f32 → FVec Ideal S512x1024 .f32 → FVec Ideal S1024x1024 .f32
    → FVec Ideal S1024 .f32 → α) (A : Args) : α :=
  f A.dy A.za A.zm A.hf A.hr A.wlo A.scw A.wso A.lg A.lb A.ws A.bs A.wgo A.wo A.qg

/-- What the precondition says of the arguments. -/
theorem real_args (m : (ℓ : Loc Cert.MixOutIdeal.nD Cert.MixOutIdeal.τ Cert.MixOutIdeal.sig) → Buf (Elt Ideal) ℓ) [Cert.Pre_mix_out_finite.Facts]
    (h : Cert.Pre_MixOutIdeal_mix_out_finite m) (c : Dev Cert.MixOutIdeal.nD) : AllReal (args m c) := by
  have e := congrFun (h c) (fun a => a.elim0)
  unfold Cert.Pre_mix_out_finite.fn Cert.Pre_mix_out_finite.fn_part1 Cert.Pre_mix_out_finite.fn_part2 Cert.Pre_mix_out_finite.fn_part3 Cert.Pre_mix_out_finite.fn_part4 at e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_test _ _ _ _ _ _ e0, isReal_of_test _ _ _ _ _ _ e1, isReal_of_test _ _ _ _ _ _ e2, isReal_of_test _ _ _ _ _ _ e3, isReal_of_test _ _ _ _ _ _ e4,
    isReal_of_test _ _ _ _ _ _ e5, isReal_of_test _ _ _ _ _ _ e6, isReal_of_test _ _ _ _ _ _ e7, isReal_of_test _ _ _ _ _ _ e8, isReal_of_test _ _ _ _ _ _ e9,
    isReal_of_test _ _ _ _ _ _ e10, isReal_of_test _ _ _ _ _ _ e11, isReal_of_test _ _ _ _ _ _ e12, isReal_of_test _ _ _ _ _ _ e13, isReal_of_test _ _ _ _ _ _ e14⟩

set_option maxHeartbeats 1000000 in
open Cert.MixOutIdeal Cert.MixOutIdeal.Gen in
/-- The kernel program's run, its results the reference's terms of the same arguments. -/
theorem run (m : (ℓ : Loc Cert.MixOutIdeal.nD Cert.MixOutIdeal.τ Cert.MixOutIdeal.sig) → Buf (Elt Ideal) ℓ) (g : Dev Cert.MixOutIdeal.nD → PrngReg) [Cert.Pre_mix_out_finite.Facts]
    (hp : Cert.Pre_MixOutIdeal_mix_out_finite m) :
    θ_run (Cert.MixOutIdeal.defs (F := Ideal)) (onTc (τ := Cert.MixOutIdeal.τ) (Cert.MixOutIdeal.main (F := Ideal))) ⟨m, fun _ => 0, g⟩
      (fun r => ∀ c : Dev Cert.MixOutIdeal.nD,
        r.2.mem (loc c main_v152_0) = all (val_main_v215 (F := Ideal)) (args m c)
        ∧ r.2.mem (loc c main_v152_1) = all (val_main_v216 (F := Ideal)) (args m c)
        ∧ r.2.mem (loc c main_v152_2) = all (val_main_v217 (F := Ideal)) (args m c)
        ∧ r.2.mem (loc c main_v152_3) = all (val_main_v218 (F := Ideal)) (args m c)
        ∧ r.2.mem (loc c main_v152_4) = all (val_main_v219 (F := Ideal)) (args m c)
        ∧ r.2.mem (loc c main_v152_5) = all (val_main_v220 (F := Ideal)) (args m c)
        ∧ r.2.mem (loc c main_v152_8) = all (val_main_v221 (F := Ideal)) (args m c)
        ∧ r.2.mem (loc c main_v152_9) = all (val_main_v199 (F := Ideal)) (args m c)
        ∧ r.2.mem (loc c main_v152_10) = all (val_main_v213 (F := Ideal)) (args m c)
        ∧ r.2.mem (loc c main_v152_11) = all (fun dy za zm hf hr wlo scw wso lg lb ws bs wgo wo _ => val_main_v222 (F := Ideal) dy za zm hf hr wlo scw wso lg lb ws bs wgo wo) (args m c)
        ∧ r.2.mem (loc c main_v152_6) = all (val_main_v308 (F := Ideal)) (args m c)
        ∧ r.2.mem (loc c main_arg0) = m (loc c main_arg0) ∧ r.2.mem (loc c main_arg1) = m (loc c main_arg1) ∧ r.2.mem (loc c main_arg2) = m (loc c main_arg2) ∧ r.2.mem (loc c main_arg3) = m (loc c main_arg3) ∧ r.2.mem (loc c main_arg4) = m (loc c main_arg4) ∧ r.2.mem (loc c main_arg5) = m (loc c main_arg5) ∧ r.2.mem (loc c main_arg6) = m (loc c main_arg6) ∧ r.2.mem (loc c main_arg7) = m (loc c main_arg7) ∧ r.2.mem (loc c main_arg8) = m (loc c main_arg8) ∧ r.2.mem (loc c main_arg9) = m (loc c main_arg9) ∧ r.2.mem (loc c main_arg10) = m (loc c main_arg10) ∧ r.2.mem (loc c main_arg11) = m (loc c main_arg11) ∧ r.2.mem (loc c main_arg12) = m (loc c main_arg12) ∧ r.2.mem (loc c main_arg13) = m (loc c main_arg13) ∧ r.2.mem (loc c main_arg14) = m (loc c main_arg14)) := by
  refine (θ_run _ _ _).mono (fun r h c => ?_) (θ_run_and (Whole.run_main m g) (Whole.frame m g))
  have hr := real_args m hp c
  refine ⟨?_, ?_, ?_, ?_, ?_, ?_, ?_, ?_, ?_, ?_, ?_, h.2.1 c⟩
  · exact ((h.1.out_eq c 29).trans (Val.final29 m c)).trans (funext fun j => by idx_vars j; exact (dmx_eq hr j0 j1).symm)
  · exact ((h.1.out_eq c 30).trans (Val.final30 m c)).trans (funext fun j => by idx_vars j; exact (dya_eq hr j0 j1).symm)
  · exact ((h.1.out_eq c 31).trans (Val.final31 m c)).trans (funext fun j => by idx_vars j; exact (dyb_eq hr j0 j1).symm)
  · exact ((h.1.out_eq c 32).trans (Val.final32 m c)).trans (funext fun j => by idx_vars j; exact (dyc_eq hr j0 j1).symm)
  · exact ((h.1.out_eq c 33).trans (Val.final33 m c)).trans (funext fun j => by idx_vars j; exact (dgate_eq hr j0 j1).symm)
  · exact ((h.1.out_eq c 34).trans (Val.final34 m c)).trans (funext fun j => by idx_vars j; exact (dscb_eq hr j0 j1).symm)
  · exact ((h.1.out_eq c 37).trans (Val.final37 m c)).trans (funext fun j => by idx_vars j; exact (dzm_eq hr j0 j1).symm)
  · exact ((h.1.out_eq c 38).trans (Val.final38 m c)).trans (funext fun j => dhs_eq hr j)
  · exact ((h.1.out_eq c 39).trans (Val.final39 m c)).trans (funext fun j => dcp_eq hr j)
  · exact ((h.1.out_eq c 40).trans (Val.final40 m c)).trans (funext fun j => dqg_eq j)
  · exact ((h.1.out_eq c 35).trans (final35 m c)).trans (funext fun j => by idx_vars j; exact (dsu_eq j0 j1 hr).symm)

end Cert.MixOutTie

end
-- ==== Proof.FfnKernel.lean ====
/- What the feed-forward block leaves in its five output arrays, over the extended reals: the block's result, the gated
   activations and their two derivatives, and the output projection's result. -/
module

public import proofs.«01_k».proof.Proof.FfnATie
public import proofs.«01_k».proof.Proof.Gen.FfnIdeal.Frame

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)
open Cert.FfnAIdeal.Val (Tok Vc Wt Wd row proj sgm out dGate dUp col)

variable (m : (ℓ : Loc nD τ sig) → Buf (Elt Ideal) ℓ)

/-- Where each window's block sits at a point. -/
theorem idx : ∀ t : Fin cfg0.N, (win0_0.index t = ![t.val, 0] ∧ win0_1.index t = ![0, 0] ∧ win0_2.index t = ![0, 0, 0]
    ∧ win0_3.index t = ![0, 0, 0] ∧ win0_4.index t = ![0, 0, 0] ∧ win0_5.index t = ![0, 0]
    ∧ win0_6.index t = ![t.val, 0] ∧ win0_7.index t = ![0, t.val, 0] ∧ win0_8.index t = ![0, t.val, 0]
    ∧ win0_9.index t = ![0, t.val, 0] ∧ win0_10.index t = ![t.val, 0]) ∧ t.val < 32 :=
  (by decide +kernel : ∀ t : Fin grid0.N, _)

/-! ## The arrays, as functions of the program's arguments -/

/-- The gated activations. -/
def act (g u : EReal) : EReal := g * sgm g * u

def actArr (x : Tok) (pg : Vc) (wg wu : Wt) : FVec Ideal S4x16384x704 .bf16 := fun j =>
  act (proj x pg wg (j 1) (col (j 0) (j 2))) (proj x pg wu (j 1) (col (j 0) (j 2)))
def gateArr (x : Tok) (pg : Vc) (wg wu : Wt) : FVec Ideal S4x16384x704 .bf16 := fun j =>
  dGate (proj x pg wg (j 1) (col (j 0) (j 2))) (proj x pg wu (j 1) (col (j 0) (j 2)))
def upArr (x : Tok) (pg : Vc) (wg : Wt) : FVec Ideal S4x16384x704 .bf16 := fun j =>
  dUp (proj x pg wg (j 1) (col (j 0) (j 2)))
def outArr (x : Tok) (pg : Vc) (wg wu : Wt) (wd : Wd) : FVec Ideal S16384x1024 .bf16 := fun j => out x pg wg wu wd (j 0) (j 1)

/-- A row with half its branch added: `f` is what the branch makes before its norm, `g` the norm's gain. -/
def join (x f g : Fin 1024 → EReal) (l : Fin 1024) : EReal := x l + Ideal.ofBits .f32 0x3F000000#32 * (f l * Rows.scale f * g l)

def resArr (x : Tok) (pg : Vc) (wg wu : Wt) (wd : Wd) (qg : Vc) : FVec Ideal S16384x1024 .f32 := fun j =>
  join (row x (j 0)) (out x pg wg wu wd (j 0)) (fun l => qg (ix1 l)) (j 1)

/-! ## What the region finds, the lines before it done -/

theorem V_v2 (c : Dev nD) (j : S4x704x1024.Idx) : V m c main_v2 j = m ((c : Thread nD τ).loc main_arg2) (ix2 (j 2) (col (j 0) (j 1))) := by
  unfold V; after_reads_at; rfl
theorem V_v5 (c : Dev nD) (j : S4x704x1024.Idx) : V m c main_v5 j = m ((c : Thread nD τ).loc main_arg3) (ix2 (j 2) (col (j 0) (j 1))) := by
  unfold V; after_reads_at; rfl
theorem V_v7 (c : Dev nD) (j : S4x704x1024.Idx) : V m c main_v7 j = m ((c : Thread nD τ).loc main_arg4) (ix2 (col (j 0) (j 1)) (j 2)) := by
  unfold V; after_reads_at; rfl
theorem V_v8 (c : Dev nD) (j : S16384x1024.Idx) : V m c main_v8 j = m ((c : Thread nD τ).loc main_arg0) (ix3 0 (j 0) (j 1)) := by
  unfold V; after_reads_at
theorem V_v9 (c : Dev nD) (j : S1x1024.Idx) : V m c main_v9 j = m ((c : Thread nD τ).loc main_arg1) (ix1 (j 1)) := by
  unfold V; after_reads_at
theorem V_v10 (c : Dev nD) (j : S1x1024.Idx) : V m c main_v10 j = m ((c : Thread nD τ).loc main_arg5) (ix1 (j 1)) := by
  unfold V; after_reads_at

/-! ## One point's block -/

abbrev Rw := Vec Ideal S512x1024 .bf16
abbrev Wb := Vec Ideal S4x704x1024 .bf16
abbrev Gb := Vec Ideal S4x512x704 .bf16

/-- A projection of the block's normed rows. -/
def prj (e : Rw) (w : Wb) (k : Fin 4) (r : Fin 512) (q : Fin 704) : EReal := ∑ l : Fin 1024, e (ix2 r l) * w (ix3 k q l)
def actBlk (e : Rw) (wg wu : Wb) : Gb := fun y => act (prj e wg (y 0) (y 1) (y 2)) (prj e wu (y 0) (y 1) (y 2))
def gateBlk (e : Rw) (wg wu : Wb) : Gb := fun y => dGate (prj e wg (y 0) (y 1) (y 2)) (prj e wu (y 0) (y 1) (y 2))
def upBlk (e : Rw) (wg : Wb) : Gb := fun y => dUp (prj e wg (y 0) (y 1) (y 2))
def outBlk (e : Rw) (wg wu wd : Wb) : Rw := fun y => ∑ k : Fin 4, ∑ q : Fin 704, act (prj e wg k (y 0) q) (prj e wu k (y 0) q) * wd (ix3 k q (y 1))

/-- The block's rows, normed. -/
def nblk (a : Vec Ideal S512x1024 .f32) (b : Vec Ideal S1x1024 .f32) : Rw := fun y => a y * Rows.scale (fun l => a (ix2 (y 0) l)) * b (ix2 0 (y 1))

variable (x0 : Vec Ideal S512x1024 .f32) (x1 : Vec Ideal S1x1024 .f32) (x2 x3 x4 : Wb) (x5 : Vec Ideal S1x1024 .f32)

set_option maxHeartbeats 3200000 in
theorem out7 : out0_7 x0 x1 x2 x3 x4 x5 = actBlk (nblk x0 x1) x2 x3 := by
  frame_out
  funext y
  canon_tiles x h
  all_goals (open_payloads; pointwise; refine Eq.trans (b := actBlk (nblk x0 x1) x2 x3 (ix3 _ (x 1) (x 2))) rfl (congrArg _ ?_); blk_ext)

set_option maxHeartbeats 3200000 in
theorem out8 : out0_8 x0 x1 x2 x3 x4 x5 = gateBlk (nblk x0 x1) x2 x3 := by
  frame_out
  funext y
  canon_tiles x h
  all_goals (open_payloads; pointwise; refine Eq.trans (b := gateBlk (nblk x0 x1) x2 x3 (ix3 _ (x 1) (x 2))) rfl (congrArg _ ?_); blk_ext)

set_option maxHeartbeats 3200000 in
theorem out9 : out0_9 x0 x1 x2 x3 x4 x5 = upBlk (nblk x0 x1) x2 := by
  frame_out
  funext y
  canon_tiles x h
  all_goals (open_payloads; pointwise; refine Eq.trans (b := upBlk (nblk x0 x1) x2 (ix3 _ (x 1) (x 2))) rfl (congrArg _ ?_); blk_ext)

set_option maxHeartbeats 3200000 in
theorem out10 : out0_10 x0 x1 x2 x3 x4 x5 = outBlk (nblk x0 x1) x2 x3 x4 := by
  frame_out
  funext y
  idx_vars y
  open_payloads
  pointwise
  unfold outBlk
  rw [Fin.sum_univ_four]
  rfl

theorem out6_eq : out0_6 x0 x1 x2 x3 x4 x5 = k0_pay1 (k0_pay2 x0) (out0_10 x0 x1 x2 x3 x4 x5) x5 := by
  unfold out0_6 out0_10 k0_pay44
  frame_out
  rfl

theorem pay1_at (a f : Vec Ideal S512x1024 .f32) (g : Vec Ideal S1x1024 .f32) (r : Fin 512) (l : Fin 1024) :
    k0_pay1 (k0_pay2 a) f g (ix2 r l) = join (fun l => a (ix2 r l)) (fun l => f (ix2 r l)) (fun l => g (ix2 0 l)) l := by
  pointwise [k0_pay1, k0_pay2, join, Rows.scale, Rows.meanSq]

/-! ## The blocks, in the whole arrays -/

/-- Row `r` of the block at point `t`, in the whole array. -/
def rowAt (t : Fin cfg0.N) (r : Fin 512) : Fin 16384 := ⟨t.val * 512 + r.val, by have := (idx t).2; omega⟩

theorem iblk0_at (c : Dev nD) (t : Fin cfg0.N) (r : Fin 512) (l : Fin 1024) :
    iblk m c 0 t (ix2 r l) = m ((c : Thread nD τ).loc main_arg0) (ix3 0 (rowAt t r) l) := by
  blk_simp [iblk]; rw [V_v8]; blk_point [idx t, rowAt]
theorem iblk1_at (c : Dev nD) (t : Fin cfg0.N) (l : Fin 1024) : iblk m c 1 t (ix2 0 l) = m ((c : Thread nD τ).loc main_arg1) (ix1 l) := by
  blk_simp [iblk]; rw [V_v9]; blk_point [idx t]
theorem iblk2_at (c : Dev nD) (t : Fin cfg0.N) (k : Fin 4) (q : Fin 704) (l : Fin 1024) :
    iblk m c 2 t (ix3 k q l) = m ((c : Thread nD τ).loc main_arg2) (ix2 l (col k q)) := by
  blk_simp [iblk]; rw [V_v2]; blk_point [idx t, col]
theorem iblk3_at (c : Dev nD) (t : Fin cfg0.N) (k : Fin 4) (q : Fin 704) (l : Fin 1024) :
    iblk m c 3 t (ix3 k q l) = m ((c : Thread nD τ).loc main_arg3) (ix2 l (col k q)) := by
  blk_simp [iblk]; rw [V_v5]; blk_point [idx t, col]
theorem iblk4_at (c : Dev nD) (t : Fin cfg0.N) (k : Fin 4) (q : Fin 704) (l : Fin 1024) :
    iblk m c 4 t (ix3 k q l) = m ((c : Thread nD τ).loc main_arg4) (ix2 (col k q) l) := by
  blk_simp [iblk]; rw [V_v7]; blk_point [idx t, col]
theorem iblk5_at (c : Dev nD) (t : Fin cfg0.N) (l : Fin 1024) : iblk m c 5 t (ix2 0 l) = m ((c : Thread nD τ).loc main_arg5) (ix1 l) := by
  blk_simp [iblk]; rw [V_v10]; blk_point [idx t]

theorem emb6 (t : Fin cfg0.N) (r : Fin 512) (l : Fin 1024) :
    ((View.whole main_v11_0).slice (win0_6.rect t)).emb (ix2 r l) = ix2 (rowAt t r) l := by blk_ext [idx t, rowAt]
theorem emb7 (t : Fin cfg0.N) (k : Fin 4) (r : Fin 512) (q : Fin 704) :
    ((View.whole main_v11_1).slice (win0_7.rect t)).emb (ix3 k r q) = ix3 k (rowAt t r) q := by blk_ext [idx t, rowAt]
theorem emb8 (t : Fin cfg0.N) (k : Fin 4) (r : Fin 512) (q : Fin 704) :
    ((View.whole main_v11_2).slice (win0_8.rect t)).emb (ix3 k r q) = ix3 k (rowAt t r) q := by blk_ext [idx t, rowAt]
theorem emb9 (t : Fin cfg0.N) (k : Fin 4) (r : Fin 512) (q : Fin 704) :
    ((View.whole main_v11_3).slice (win0_9.rect t)).emb (ix3 k r q) = ix3 k (rowAt t r) q := by blk_ext [idx t, rowAt]
theorem emb10 (t : Fin cfg0.N) (r : Fin 512) (l : Fin 1024) :
    ((View.whole main_v11_4).slice (win0_10.rect t)).emb (ix2 r l) = ix2 (rowAt t r) l := by blk_ext [idx t, rowAt]

/-- The block's normed rows. -/
abbrev nrm (c : Dev nD) (t : Fin cfg0.N) : Rw := nblk (iblk m c 0 t) (iblk m c 1 t)

theorem nrm_at (c : Dev nD) (t : Fin cfg0.N) (r : Fin 512) (l : Fin 1024) : nrm m c t (ix2 r l)
    = row (m ((c : Thread nD τ).loc main_arg0)) (rowAt t r) l * Rows.scale (row (m ((c : Thread nD τ).loc main_arg0)) (rowAt t r)) * (m ((c : Thread nD τ).loc main_arg1) (ix1 l) : EReal) :=
  congrArg₂ (fun a b : EReal => a * b)
    (congrArg₂ (fun a b : EReal => a * b) (iblk0_at m c t r l) (congrArg Rows.scale (funext fun k => iblk0_at m c t r k))) (iblk1_at m c t l)

theorem gate_at (c : Dev nD) (t : Fin cfg0.N) (k : Fin 4) (r : Fin 512) (q : Fin 704) : prj (nrm m c t) (iblk m c 2 t) k r q
    = proj (m ((c : Thread nD τ).loc main_arg0)) (m ((c : Thread nD τ).loc main_arg1)) (m ((c : Thread nD τ).loc main_arg2)) (rowAt t r) (col k q) :=
  Finset.sum_congr rfl fun l _ => congrArg₂ (fun a b : EReal => a * b) (nrm_at m c t r l) (iblk2_at m c t k q l)
theorem up_at (c : Dev nD) (t : Fin cfg0.N) (k : Fin 4) (r : Fin 512) (q : Fin 704) : prj (nrm m c t) (iblk m c 3 t) k r q
    = proj (m ((c : Thread nD τ).loc main_arg0)) (m ((c : Thread nD τ).loc main_arg1)) (m ((c : Thread nD τ).loc main_arg3)) (rowAt t r) (col k q) :=
  Finset.sum_congr rfl fun l _ => congrArg₂ (fun a b : EReal => a * b) (nrm_at m c t r l) (iblk3_at m c t k q l)

theorem out_at (c : Dev nD) (t : Fin cfg0.N) (r : Fin 512) (l : Fin 1024) : outBlk (nrm m c t) (iblk m c 2 t) (iblk m c 3 t) (iblk m c 4 t) (ix2 r l)
    = out (m ((c : Thread nD τ).loc main_arg0)) (m ((c : Thread nD τ).loc main_arg1)) (m ((c : Thread nD τ).loc main_arg2)) (m ((c : Thread nD τ).loc main_arg3)) (m ((c : Thread nD τ).loc main_arg4)) (rowAt t r) l := by
  unfold out
  rw [Fin.sum_univ_tiles 4 704 rfl]
  exact Finset.sum_congr rfl fun k _ => Finset.sum_congr rfl fun q _ => congrArg₂ (fun a b : EReal => a * b)
    (congrArg₂ act (gate_at m c t k r q) (up_at m c t k r q)) (iblk4_at m c t k q l)

/-! ## The arrays after the run -/

theorem final6 (c : Dev nD) : (dats m 0 c).arrAt 6 (cfgs 0).N = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, out6_eq, out10]
  idx_vars y
  refine Eq.trans ?_ (congrArg _ (emb6 t y0 y1).symm)
  exact (pay1_at _ _ _ y0 y1).trans (Rows.congr3 (fun a b g => join a b g y1) (funext fun l => iblk0_at m c t y0 l)
    (funext fun l => out_at m c t y0 l) (funext fun l => iblk5_at m c t l))

theorem final7 (c : Dev nD) : (dats m 0 c).arrAt 7 (cfgs 0).N = actArr (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, out7]
  idx_vars y
  refine Eq.trans ?_ (congrArg _ (emb7 t y0 y1 y2).symm)
  exact congrArg₂ act (gate_at m c t y0 y1 y2) (up_at m c t y0 y1 y2)

theorem final8 (c : Dev nD) : (dats m 0 c).arrAt 8 (cfgs 0).N = gateArr (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8, out8]
  idx_vars y
  refine Eq.trans ?_ (congrArg _ (emb8 t y0 y1 y2).symm)
  exact congrArg₂ dGate (gate_at m c t y0 y1 y2) (up_at m c t y0 y1 y2)

theorem final9 (c : Dev nD) : (dats m 0 c).arrAt 9 (cfgs 0).N = upArr (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9, out9]
  idx_vars y
  refine Eq.trans ?_ (congrArg _ (emb9 t y0 y1 y2).symm)
  exact congrArg dUp (gate_at m c t y0 y1 y2)

theorem final10 (c : Dev nD) : (dats m 0 c).arrAt 10 (cfgs 0).N = outArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10, out10]
  idx_vars y
  refine Eq.trans ?_ (congrArg _ (emb10 t y0 y1).symm)
  exact out_at m c t y0 y1

end Cert.FfnIdeal.Val

end
-- ==== Proof.FfnTie.lean ====
/- The feed-forward block's forward call is the block: its five results are the reference's, on real arguments. -/
module

public import proofs.«01_k».proof.Proof.FfnKernel
public import proofs.«01_k».proof.Proof.Gen.FfnRefIdeal.Read
public import proofs.«01_k».proof.Defs

@[expose] public section

set_option maxRecDepth 16384

noncomputable section

namespace Cert.FfnTie

open Idealize.ShloMosaic Idealize.ShloMosaic.TcCoe Idealize.SL.Sem
open Cert.FfnIdeal (S1x16384x1024 S1024x2816 S2816x1024 S16384x1024 S4x16384x704 S1x1024 S1024 nD τ)
open Cert.FfnRefIdeal.Read Cert.Finite
open Cert.FfnAIdeal.Val (Tok Vc Wt Wd row proj sgm out dGate dUp col)
open Cert.FfnIdeal.Val (act actArr gateArr upArr outArr resArr join)
open Cert.FfnATie (logistic_eq isR_sgm isR_proj gate_eq)

/-! ## The lines before the results -/

theorem meanSq_eq (x : Tok) (s : Fin 16384) : val_main_v7 (F := Ideal) x (ix2 s 0) = Rows.meanSq (row x s) := by
  unfold Rows.meanSq row
  pointwise [val_main_cst, val_main_v0, val_main_v1, val_main_v2, val_main_v3, val_main_cst_0, val_main_v4, val_main_v5, val_main_cst_1, val_main_v6, val_main_v7]

theorem gate_proj (x : Tok) (pg : Vc) (w : Wt) (s : Fin 16384) (q : Fin 2816) : val_main_v14 (F := Ideal) x pg w (ix2 s q) = proj x pg w s q := by
  pointwise [val_main_v0, val_main_v8, val_main_v9, val_main_v10, val_main_v11, val_main_v12, val_main_v13, val_main_v14]
  simp only [meanSq_eq, Fin.isValue]
  rfl

theorem up_proj (x : Tok) (pg : Vc) (w : Wt) (s : Fin 16384) (q : Fin 2816) : val_main_v15 (F := Ideal) x pg w (ix2 s q) = proj x pg w s q := by
  pointwise [val_main_v0, val_main_v8, val_main_v9, val_main_v10, val_main_v11, val_main_v12, val_main_v13, val_main_v15]
  simp only [meanSq_eq, Fin.isValue]
  rfl

variable {x : Tok} {pg qg : Vc} {wg wu : Wt} {wd : Wd}

theorem sgm_eq (hx : IsReal x) (hpg : IsReal pg) (hwg : IsReal wg) (s : Fin 16384) (q : Fin 2816) :
    val_main_v16_2 (F := Ideal) x pg wg (ix2 s q) = sgm (proj x pg wg s q) := by
  pointwise [val_main_call0_v0, val_main_call0_v1, val_main_call0_cst, val_main_call0_v2, val_main_call0_v3, val_main_call0_cst_0, val_main_call0_v4, val_main_v16_2]
  simp only [gate_proj]
  exact logistic_eq (isR_proj hx hpg hwg s q)

theorem act_eq (hx : IsReal x) (hpg : IsReal pg) (hwg : IsReal wg) (s : Fin 16384) (q : Fin 2816) :
    val_main_v17 (F := Ideal) x pg wg wu (ix2 s q) = act (proj x pg wg s q) (proj x pg wu s q) := by
  pointwise [val_main_v16_0, val_main_v17]
  simp only [gate_proj, up_proj, sgm_eq hx hpg hwg]
  rfl

theorem out_eq (hx : IsReal x) (hpg : IsReal pg) (hwg : IsReal wg) (s : Fin 16384) (l : Fin 1024) :
    val_main_v22 (F := Ideal) x pg wg wu wd (ix2 s l) = out x pg wg wu wd s l := by
  pointwise [val_main_v22]
  simp only [act_eq hx hpg hwg]
  rfl

theorem outSq_eq (hx : IsReal x) (hpg : IsReal pg) (hwg : IsReal wg) (s : Fin 16384) :
    val_main_v30 (F := Ideal) x pg wg wu wd (ix2 s 0) = Rows.meanSq (out x pg wg wu wd s) := by
  unfold Rows.meanSq
  pointwise [val_main_cst_3, val_main_v24, val_main_v25, val_main_v26, val_main_cst_4, val_main_v27, val_main_v28, val_main_cst_5, val_main_v29, val_main_v30]
  simp only [out_eq hx hpg hwg]

/-! ## The five results -/

theorem res_eq (hx : IsReal x) (hpg : IsReal pg) (hwg : IsReal wg) (j : S16384x1024.Idx) :
    resArr x pg wg wu wd qg j = val_main_v39 (F := Ideal) x pg wg wu wd qg j := by
  idx_vars j
  pointwise [val_main_v23, val_main_v31, val_main_v32, val_main_v33, val_main_v34, val_main_v35, val_main_v36, val_main_cst_6, val_main_v37, val_main_v38, val_main_v39]
  simp only [out_eq hx hpg hwg, outSq_eq hx hpg hwg, Fin.isValue]
  rfl

theorem act_res (hx : IsReal x) (hpg : IsReal pg) (hwg : IsReal wg) (j : S4x16384x704.Idx) :
    actArr x pg wg wu j = val_main_v42 (F := Ideal) x pg wg wu j := by
  idx_vars j
  have e : val_main_v42 (F := Ideal) x pg wg wu (ix3 j0 j1 j2) = val_main_v17 (F := Ideal) x pg wg wu (ix2 j1 (col j0 j2)) := by
    pointwise [val_main_v40, val_main_v41, val_main_v42]
    blk_ext [col]
  rw [e]
  exact (act_eq hx hpg hwg j1 (col j0 j2)).symm

theorem gate_res (hx : IsReal x) (hpg : IsReal pg) (hwg : IsReal wg) (hwu : IsReal wu) (j : S4x16384x704.Idx) :
    gateArr x pg wg wu j = val_main_v45 (F := Ideal) x pg wg wu j := by
  idx_vars j
  have e : val_main_v45 (F := Ideal) x pg wg wu (ix3 j0 j1 j2) = val_main_v21 (F := Ideal) x pg wg wu (ix2 j1 (col j0 j2)) := by
    pointwise [val_main_v43, val_main_v44, val_main_v45]
    blk_ext [col]
  rw [e]
  pointwise [val_main_cst_2, val_main_v18, val_main_v20, val_main_call1_v1, val_main_call1_v0, val_main_call0_cst_1, val_main_call0_v6, val_main_call0_v7, val_main_v16_1, val_main_call1_v2, val_main_v21]
  simp only [gate_proj, up_proj, sgm_eq hx hpg hwg]
  refine Eq.trans ?_ ((gate_eq (d := 1) ⟨1, EReal.coe_one⟩ (isR_proj hx hpg hwg j1 (col j0 j2)) (isR_proj hx hpg hwu j1 (col j0 j2))
    (isR_sgm (isR_proj hx hpg hwg j1 (col j0 j2)))).trans ?_)
  · rw [one_mul]; rfl
  · simp only [one_mul]

theorem up_res (hx : IsReal x) (hpg : IsReal pg) (hwg : IsReal wg) (j : S4x16384x704.Idx) :
    upArr x pg wg j = val_main_v48 (F := Ideal) x pg wg j := by
  idx_vars j
  have e : val_main_v48 (F := Ideal) x pg wg (ix3 j0 j1 j2) = val_main_v19 (F := Ideal) x pg wg (ix2 j1 (col j0 j2)) := by
    pointwise [val_main_v46, val_main_v47, val_main_v48]
    blk_ext [col]
  rw [e]
  pointwise [val_main_cst_2, val_main_v18, val_main_v16_0, val_main_v19]
  simp only [gate_proj, sgm_eq hx hpg hwg, mul_one]
  rfl

theorem out_res (hx : IsReal x) (hpg : IsReal pg) (hwg : IsReal wg) (j : S16384x1024.Idx) :
    outArr x pg wg wu wd j = val_main_v49 (F := Ideal) x pg wg wu wd j := by
  idx_vars j
  pointwise [val_main_v49]
  exact (out_eq hx hpg hwg j0 j1).symm

/-- What the precondition says of the arguments. -/
theorem real_args (m : (ℓ : Loc Cert.FfnIdeal.nD Cert.FfnIdeal.τ Cert.FfnIdeal.sig) → Buf (Elt Ideal) ℓ) [Cert.Pre_ffn_finite.Facts]
    (h : Cert.Pre_FfnIdeal_ffn_finite m) (c : Dev Cert.FfnIdeal.nD) :
    IsReal (m ((c.tc : Thread _ _).loc Cert.FfnIdeal.main_arg0)) ∧ IsReal (m ((c.tc : Thread _ _).loc Cert.FfnIdeal.main_arg1)) ∧ IsReal (m ((c.tc : Thread _ _).loc Cert.FfnIdeal.main_arg2)) ∧ IsReal (m ((c.tc : Thread _ _).loc Cert.FfnIdeal.main_arg3)) := by
  have e := congrFun (h c) (fun a => a.elim0)
  unfold Cert.Pre_ffn_finite.fn Cert.Pre_ffn_finite.fn_part1 at e
  obtain ⟨e, e3⟩ := IntOp.andi_eq_one.1 e
  obtain ⟨e, e2⟩ := IntOp.andi_eq_one.1 e
  obtain ⟨e0, e1⟩ := IntOp.andi_eq_one.1 e
  exact ⟨isReal_of_test _ _ _ _ _ _ e0, isReal_of_test _ _ _ _ _ _ e1, isReal_of_test _ _ _ _ _ _ e2, isReal_of_test _ _ _ _ _ _ e3⟩

open Cert.FfnIdeal Cert.FfnIdeal.Gen in
/-- The kernel program's run, its results the reference's terms of the same arguments. -/
theorem run (m : (ℓ : Loc Cert.FfnIdeal.nD Cert.FfnIdeal.τ Cert.FfnIdeal.sig) → Buf (Elt Ideal) ℓ) (g : Dev Cert.FfnIdeal.nD → PrngReg) [Cert.Pre_ffn_finite.Facts]
    (hp : Cert.Pre_FfnIdeal_ffn_finite m) :
    θ_run (Cert.FfnIdeal.defs (F := Ideal)) (onTc (τ := Cert.FfnIdeal.τ) (Cert.FfnIdeal.main (F := Ideal))) ⟨m, fun _ => 0, g⟩
      (fun r => ∀ c : Dev Cert.FfnIdeal.nD,
        r.2.mem ((c.tc : Thread _ _).loc Cert.FfnIdeal.main_v11_0) = val_main_v39 (F := Ideal) (m ((c.tc : Thread _ _).loc Cert.FfnIdeal.main_arg0)) (m ((c.tc : Thread _ _).loc Cert.FfnIdeal.main_arg1)) (m ((c.tc : Thread _ _).loc Cert.FfnIdeal.main_arg2)) (m ((c.tc : Thread _ _).loc Cert.FfnIdeal.main_arg3)) (m ((c.tc : Thread _ _).loc Cert.FfnIdeal.main_arg4)) (m ((c.tc : Thread _ _).loc Cert.FfnIdeal.main_arg5))
        ∧ r.2.mem ((c.tc : Thread _ _).loc Cert.FfnIdeal.main_v11_1) = val_main_v42 (F := Ideal) (m ((c.tc : Thread _ _).loc Cert.FfnIdeal.main_arg0)) (m ((c.tc : Thread _ _).loc Cert.FfnIdeal.main_arg1)) (m ((c.tc : Thread _ _).loc Cert.FfnIdeal.main_arg2)) (m ((c.tc : Thread _ _).loc Cert.FfnIdeal.main_arg3))
        ∧ r.2.mem ((c.tc : Thread _ _).loc Cert.FfnIdeal.main_v11_2) = val_main_v45 (F := Ideal) (m ((c.tc : Thread _ _).loc Cert.FfnIdeal.main_arg0)) (m ((c.tc : Thread _ _).loc Cert.FfnIdeal.main_arg1)) (m ((c.tc : Thread _ _).loc Cert.FfnIdeal.main_arg2)) (m ((c.tc : Thread _ _).loc Cert.FfnIdeal.main_arg3))
        ∧ r.2.mem ((c.tc : Thread _ _).loc Cert.FfnIdeal.main_v11_3) = val_main_v48 (F := Ideal) (m ((c.tc : Thread _ _).loc Cert.FfnIdeal.main_arg0)) (m ((c.tc : Thread _ _).loc Cert.FfnIdeal.main_arg1)) (m ((c.tc : Thread _ _).loc Cert.FfnIdeal.main_arg2))
        ∧ r.2.mem ((c.tc : Thread _ _).loc Cert.FfnIdeal.main_v11_4) = val_main_v49 (F := Ideal) (m ((c.tc : Thread _ _).loc Cert.FfnIdeal.main_arg0)) (m ((c.tc : Thread _ _).loc Cert.FfnIdeal.main_arg1)) (m ((c.tc : Thread _ _).loc Cert.FfnIdeal.main_arg2)) (m ((c.tc : Thread _ _).loc Cert.FfnIdeal.main_arg3)) (m ((c.tc : Thread _ _).loc Cert.FfnIdeal.main_arg4))
        ∧ r.2.mem ((c.tc : Thread _ _).loc Cert.FfnIdeal.main_arg0) = m ((c.tc : Thread _ _).loc Cert.FfnIdeal.main_arg0) ∧ r.2.mem ((c.tc : Thread _ _).loc Cert.FfnIdeal.main_arg1) = m ((c.tc : Thread _ _).loc Cert.FfnIdeal.main_arg1) ∧ r.2.mem ((c.tc : Thread _ _).loc Cert.FfnIdeal.main_arg2) = m ((c.tc : Thread _ _).loc Cert.FfnIdeal.main_arg2) ∧ r.2.mem ((c.tc : Thread _ _).loc Cert.FfnIdeal.main_arg3) = m ((c.tc : Thread _ _).loc Cert.FfnIdeal.main_arg3) ∧ r.2.mem ((c.tc : Thread _ _).loc Cert.FfnIdeal.main_arg4) = m ((c.tc : Thread _ _).loc Cert.FfnIdeal.main_arg4) ∧ r.2.mem ((c.tc : Thread _ _).loc Cert.FfnIdeal.main_arg5) = m ((c.tc : Thread _ _).loc Cert.FfnIdeal.main_arg5)) := by
  refine (θ_run _ _ _).mono (fun r h c => ?_) (θ_run_and (Cert.FfnIdeal.Gen.run_main m g) (Cert.FfnIdeal.Gen.unchanged m g))
  obtain ⟨h0, h1, h2, h3⟩ := real_args m hp c
  refine ⟨?_, ?_, ?_, ?_, ?_, h.2 c⟩
  · exact ((h.1.out_eq c 6).trans (Val.final6 m c)).trans (funext fun j => res_eq h0 h1 h2 j)
  · exact ((h.1.out_eq c 7).trans (Val.final7 m c)).trans (funext fun j => act_res h0 h1 h2 j)
  · exact ((h.1.out_eq c 8).trans (Val.final8 m c)).trans (funext fun j => gate_res h0 h1 h2 h3 j)
  · exact ((h.1.out_eq c 9).trans (Val.final9 m c)).trans (funext fun j => up_res h0 h1 h2 j)
  · exact ((h.1.out_eq c 10).trans (Val.final10 m c)).trans (funext fun j => out_res h0 h1 h2 j)

end Cert.FfnTie

end
-- ==== Proof.MixOutBits.lean ====
/- The output layer's call on the machine's own floats: the program without named constants is the one with them, read at the
   words they round to, so the one run serves both. -/
module

public import proofs.«01_k».proof.Proof.MixOutFrame
public import proofs.«01_k».proof.Proof.Gen.MixOut
public import proofs.«01_k».proof.Defs

@[expose] public section

set_option maxRecDepth 16384

noncomputable section

namespace Cert.MixOutBits

open Idealize.ShloMosaic Idealize.ShloMosaic.TcCoe Idealize.SL.Sem

/-- On the machine's floats a named constant is its word. -/
local instance words : Named Bits where
  named _ _ {φ} bits := FloatOps.ofBits φ bits

/-- The two readings of the output layer's call have the same text, so one run serves both. -/
theorem frame_mixOut : Cert.quiescent_MixOut :=
  cast (by sl_kernel_rfl) fun (m : (ℓ : Loc Cert.MixOutIdeal.nD Cert.MixOutIdeal.τ Cert.MixOutIdeal.sig) → Buf (Elt Bits) ℓ) (ρ : Dev Cert.MixOutIdeal.nD → PrngReg) (_ : True) =>
    Cert.MixOutIdeal.Whole.frame m ρ

end Cert.MixOutBits

end
-- ==== Proof.MixFwdBlocks.lean ====
/- The blocks one grid point of the output layer's forward call leaves, as functions of the blocks it reads. -/
module

public import proofs.«01_k».proof.Proof.Gen.MixFwdIdeal.Skeleton
public import Idealize.ShloMosaic.Lib.Pipeline.ValueKit

@[expose] public section

set_option maxRecDepth 16384

noncomputable section

namespace Cert.MixFwdIdeal.Body

open Cert.MixFwdIdeal Cert.MixFwdIdeal.Gen Idealize.ShloMosaic Idealize.ShloMosaic.TcCoe

variable {F : FTy → Type} [FloatOps F]

/-- The row numbers within a block of 256 rows. -/
abbrev rowIds := iota Kind.tc S256x1 32 [0] iota_S256x1_d0_w32

/-- The grid point's number, as the body computes with it. -/
abbrev pt (i : grid0.Coords) : BitVec 32 := BitVec.ofNat 32 (i 0).val

/-- The first branch behind its projection. -/
def yaF (x1 x12 x13 : Vec F S256x1024 .bf16) (x14 : Vec F S1024x1024 .bf16) :=
  k0_pay5 x12 x13 x1 x14

/-- The first factor's rows before the block. -/
def cBefore (i : grid0.Coords) (x4 : Vec F S16x512 .bf16) :=
  k0_pay6 i x4

/-- The product of the two factors one row earlier, -/
def pPrev (i : grid0.Coords) (x3 : Vec F S256x512 .bf16) (x4 : Vec F S16x512 .bf16) (x6 : Vec F S256x512 .bf16) (x7 : Vec F
    S16x512 .bf16) :=
  k0_pay8 (pt i) rowIds (cBefore i x4) x7 x3 x6

/-- and its rows after the block. -/
def pAfter (i : grid0.Coords) (x5 x8 : Vec F S16x512 .bf16) :=
  k0_pay9 (pt i) (Scalar.cmpi .slt (pt i) 63#32) x5 x8

/-- The second branch behind its projection. -/
def ybF (i : grid0.Coords) (x2 x3 : Vec F S256x512 .bf16) (x4 x5 : Vec F S16x512 .bf16) (x6 : Vec F S256x512 .bf16) (x7 x8 : Vec
    F S16x512 .bf16) (x15 : Vec F S3x512 .f32) (x16 : Vec F S512x1024 .bf16) :=
  k0_pay14 (k0_pay7 x3 x6) (pPrev i x3 x4 x6 x7) (pAfter i x5 x8) (k0_pay10 x3 x6) (k0_pay11 rowIds) (k0_pay12 x3 x6) (7#32)
    (View.ld x15 (Rect.unit ![0, 0] ![1, 512] inb_S3x512_S1x512_0_0)) (View.ld x15 (Rect.unit ![1, 0] ![1, 512]
    inb_S3x512_S1x512_1_0)) (View.ld x15 (Rect.unit ![2, 0] ![1, 512] inb_S3x512_S1x512_2_0)) x2 x16

/-- The rows the spatial gating unit mixes: their GeLU, normalized, scaled and shifted. -/
def vBlk (x10 : Vec F S256x512 .bf16) (x17 x18 : Vec F S1x512 .f32) :=
  k0_pay17 (k0_pay15 x10) (k0_pay16 x10) (Scalar.ofBits .f32 0x3F000000#32) x17 x18

/-- The rows mixed within their chunks, group by group. -/
def mixedBlk (x10 : Vec F S256x512 .bf16) (x17 x18 : Vec F S1x512 .f32) (x19 : Vec F S4x128x128 .bf16) (x20 : Vec F S128x4 .f32)
    : Vec F S256x512 .f32 :=
  View.canon
    [⟨Rect.unit ![128, 384] ![128, 128] inb_S256x512_S128x128_128_384, (k0_pay25 (vBlk x10 x17 x18) (View.ld x19 (Rect.unit ![3,
      0, 0] ![1, 128, 128] inb_S4x128x128_S1x128x128_3_0_0)) (View.ld x20 (Rect.unit ![0, 3] ![128, 1] inb_S128x4_S128x1_0_3)))⟩,
      ⟨Rect.unit ![128, 256] ![128, 128] inb_S256x512_S128x128_128_256, (k0_pay24 (vBlk x10 x17 x18) (View.ld x19 (Rect.unit
        ![2, 0, 0] ![1, 128, 128] inb_S4x128x128_S1x128x128_2_0_0)) (View.ld x20 (Rect.unit ![0, 2] ![128, 1]
        inb_S128x4_S128x1_0_2)))⟩,
      ⟨Rect.unit ![128, 128] ![128, 128] inb_S256x512_S128x128_128_128, (k0_pay23 (vBlk x10 x17 x18) (View.ld x19 (Rect.unit
        ![1, 0, 0] ![1, 128, 128] inb_S4x128x128_S1x128x128_1_0_0)) (View.ld x20 (Rect.unit ![0, 1] ![128, 1]
        inb_S128x4_S128x1_0_1)))⟩,
      ⟨Rect.unit ![128, 0] ![128, 128] inb_S256x512_S128x128_128_0, (k0_pay22 (vBlk x10 x17 x18) (View.ld x19 (Rect.unit ![0, 0,
        0] ![1, 128, 128] inb_S4x128x128_S1x128x128_0_0_0)) (View.ld x20 (Rect.unit ![0, 0] ![128, 1] inb_S128x4_S128x1_0_0)))⟩,
      ⟨Rect.unit ![0, 384] ![128, 128] inb_S256x512_S128x128_0_384, (k0_pay21 (vBlk x10 x17 x18) (View.ld x19 (Rect.unit ![3, 0,
        0] ![1, 128, 128] inb_S4x128x128_S1x128x128_3_0_0)) (View.ld x20 (Rect.unit ![0, 3] ![128, 1] inb_S128x4_S128x1_0_3)))⟩,
      ⟨Rect.unit ![0, 256] ![128, 128] inb_S256x512_S128x128_0_256, (k0_pay20 (vBlk x10 x17 x18) (View.ld x19 (Rect.unit ![2, 0,
        0] ![1, 128, 128] inb_S4x128x128_S1x128x128_2_0_0)) (View.ld x20 (Rect.unit ![0, 2] ![128, 1] inb_S128x4_S128x1_0_2)))⟩,
      ⟨Rect.unit ![0, 128] ![128, 128] inb_S256x512_S128x128_0_128, (k0_pay19 (vBlk x10 x17 x18) (View.ld x19 (Rect.unit ![1, 0,
        0] ![1, 128, 128] inb_S4x128x128_S1x128x128_1_0_0)) (View.ld x20 (Rect.unit ![0, 1] ![128, 1] inb_S128x4_S128x1_0_1)))⟩,
      ⟨Rect.unit ![0, 0] ![128, 128] inb_S256x512_S128x128_0_0, (k0_pay18 (k0_pay15 x10) (k0_pay16 x10) (Scalar.ofBits .f32
        0x3F000000#32) x17 x18 (View.ld x19 (Rect.unit ![0, 0, 0] ![1, 128, 128] inb_S4x128x128_S1x128x128_0_0_0)) (View.ld x20
        (Rect.unit ![0, 0] ![128, 1] inb_S128x4_S128x1_0_0)))⟩]

/-- The third branch behind its projection. -/
def ycF (x9 x10 : Vec F S256x512 .bf16) (x17 x18 : Vec F S1x512 .f32) (x19 : Vec F S4x128x128 .bf16) (x20 : Vec F S128x4 .f32)
    (x21 : Vec F S512x1024 .bf16) :=
  k0_pay27 x9 (mixedBlk x10 x17 x18 x19 x20) x21

/-- The branches merged by their gates, behind the merge's projection. -/
def mxF (i : grid0.Coords) (x1 : Vec F S256x1024 .bf16) (x2 x3 : Vec F S256x512 .bf16) (x4 x5 : Vec F S16x512 .bf16) (x6 : Vec F
    S256x512 .bf16) (x7 x8 : Vec F S16x512 .bf16) (x9 x10 : Vec F S256x512 .bf16) (x11 : Vec F S256x3072 .bf16) (x12 x13 : Vec F
    S256x1024 .bf16) (x14 : Vec F S1024x1024 .bf16) (x15 : Vec F S3x512 .f32) (x16 : Vec F S512x1024 .bf16) (x17 x18 : Vec F S1x512
    .f32) (x19 : Vec F S4x128x128 .bf16) (x20 : Vec F S128x4 .f32) (x21 : Vec F S512x1024 .bf16) (x22 : Vec F S1024x1024 .bf16) :=
  k0_pay29 (yaF x1 x12 x13 x14) (ybF i x2 x3 x4 x5 x6 x7 x8 x15 x16) (ycF x9 x10 x17 x18 x19 x20 x21) (View.ld x11 (Rect.unit ![0,
    0] ![256, 1024] inb_S256x3072_S256x1024_0_0)) (View.ld x11 (Rect.unit ![0, 1024] ![256, 1024] inb_S256x3072_S256x1024_0_1024))
    (View.ld x11 (Rect.unit ![0, 2048] ![256, 1024] inb_S256x3072_S256x1024_0_2048)) x22

/-- The layer's output. -/
def outBlk (i : grid0.Coords) (x0 : Vec F S256x1024 .f32) (x1 : Vec F S256x1024 .bf16) (x2 x3 : Vec F S256x512 .bf16) (x4 x5 :
    Vec F S16x512 .bf16) (x6 : Vec F S256x512 .bf16) (x7 x8 : Vec F S16x512 .bf16) (x9 x10 : Vec F S256x512 .bf16) (x11 : Vec F
    S256x3072 .bf16) (x12 x13 : Vec F S256x1024 .bf16) (x14 : Vec F S1024x1024 .bf16) (x15 : Vec F S3x512 .f32) (x16 : Vec F
    S512x1024 .bf16) (x17 x18 : Vec F S1x512 .f32) (x19 : Vec F S4x128x128 .bf16) (x20 : Vec F S128x4 .f32) (x21 : Vec F S512x1024
    .bf16) (x22 : Vec F S1024x1024 .bf16) (x23 : Vec F S1x1024 .f32) : Vec F S256x1024 .f32 :=
  k0_pay3 (mxF i x1 x2 x3 x4 x5 x6 x7 x8 x9 x10 x11 x12 x13 x14 x15 x16 x17 x18 x19 x20 x21 x22) x0 x23

/-- The recurrence's result, gated. -/
def yaInBlk (x1 x12 x13 : Vec F S256x1024 .bf16) : Vec F S256x1024 .bf16 :=
  k0_pay4 x12 x13 x1

/-- The short convolution's, gated. -/
def qBlk (i : grid0.Coords) (x2 x3 : Vec F S256x512 .bf16) (x4 x5 : Vec F S16x512 .bf16) (x6 : Vec F S256x512 .bf16) (x7 x8 :
    Vec F S16x512 .bf16) (x15 : Vec F S3x512 .f32) : Vec F S256x512 .bf16 :=
  k0_pay13 (k0_pay7 x3 x6) (pPrev i x3 x4 x6 x7) (pAfter i x5 x8) (k0_pay10 x3 x6) (k0_pay11 rowIds) (k0_pay12 x3 x6) (7#32)
    (View.ld x15 (Rect.unit ![0, 0] ![1, 512] inb_S3x512_S1x512_0_0)) (View.ld x15 (Rect.unit ![1, 0] ![1, 512]
    inb_S3x512_S1x512_1_0)) (View.ld x15 (Rect.unit ![2, 0] ![1, 512] inb_S3x512_S1x512_2_0)) x2

/-- The mixed rows, gated. -/
def ycInBlk (x9 x10 : Vec F S256x512 .bf16) (x17 x18 : Vec F S1x512 .f32) (x19 : Vec F S4x128x128 .bf16) (x20 : Vec F S128x4
    .f32) : Vec F S256x512 .bf16 :=
  k0_pay26 x9 (mixedBlk x10 x17 x18 x19 x20)

/-- The three branches as stored. -/
def yaBlk (x1 x12 x13 : Vec F S256x1024 .bf16) (x14 : Vec F S1024x1024 .bf16) : Vec F S256x1024 .bf16 :=
  k0_pay30 (yaF x1 x12 x13 x14)

def ybBlk (i : grid0.Coords) (x2 x3 : Vec F S256x512 .bf16) (x4 x5 : Vec F S16x512 .bf16) (x6 : Vec F S256x512 .bf16) (x7 x8 :
    Vec F S16x512 .bf16) (x15 : Vec F S3x512 .f32) (x16 : Vec F S512x1024 .bf16) : Vec F S256x1024 .bf16 :=
  k0_pay31 (ybF i x2 x3 x4 x5 x6 x7 x8 x15 x16)

def ycBlk (x9 x10 : Vec F S256x512 .bf16) (x17 x18 : Vec F S1x512 .f32) (x19 : Vec F S4x128x128 .bf16) (x20 : Vec F S128x4 .f32)
    (x21 : Vec F S512x1024 .bf16) : Vec F S256x1024 .bf16 :=
  k0_pay1 (ycF x9 x10 x17 x18 x19 x20 x21)

/-- The three branches merged by their gates. -/
def mBlk (i : grid0.Coords) (x1 : Vec F S256x1024 .bf16) (x2 x3 : Vec F S256x512 .bf16) (x4 x5 : Vec F S16x512 .bf16) (x6 : Vec
    F S256x512 .bf16) (x7 x8 : Vec F S16x512 .bf16) (x9 x10 : Vec F S256x512 .bf16) (x11 : Vec F S256x3072 .bf16) (x12 x13 : Vec F
    S256x1024 .bf16) (x14 : Vec F S1024x1024 .bf16) (x15 : Vec F S3x512 .f32) (x16 : Vec F S512x1024 .bf16) (x17 x18 : Vec F S1x512
    .f32) (x19 : Vec F S4x128x128 .bf16) (x20 : Vec F S128x4 .f32) (x21 : Vec F S512x1024 .bf16) :=
  k0_pay28 (yaF x1 x12 x13 x14) (ybF i x2 x3 x4 x5 x6 x7 x8 x15 x16) (ycF x9 x10 x17 x18 x19 x20 x21) (View.ld x11 (Rect.unit ![0,
    0] ![256, 1024] inb_S256x3072_S256x1024_0_0)) (View.ld x11 (Rect.unit ![0, 1024] ![256, 1024] inb_S256x3072_S256x1024_0_1024))
    (View.ld x11 (Rect.unit ![0, 2048] ![256, 1024] inb_S256x3072_S256x1024_0_2048))

/-- The merged rows as stored. -/
def mxBlk (i : grid0.Coords) (x1 : Vec F S256x1024 .bf16) (x2 x3 : Vec F S256x512 .bf16) (x4 x5 : Vec F S16x512 .bf16) (x6 : Vec
    F S256x512 .bf16) (x7 x8 : Vec F S16x512 .bf16) (x9 x10 : Vec F S256x512 .bf16) (x11 : Vec F S256x3072 .bf16) (x12 x13 : Vec F
    S256x1024 .bf16) (x14 : Vec F S1024x1024 .bf16) (x15 : Vec F S3x512 .f32) (x16 : Vec F S512x1024 .bf16) (x17 x18 : Vec F S1x512
    .f32) (x19 : Vec F S4x128x128 .bf16) (x20 : Vec F S128x4 .f32) (x21 : Vec F S512x1024 .bf16) (x22 : Vec F S1024x1024 .bf16) :
    Vec F S256x1024 .bf16 :=
  k0_pay2 (mxF i x1 x2 x3 x4 x5 x6 x7 x8 x9 x10 x11 x12 x13 x14 x15 x16 x17 x18 x19 x20 x21 x22)

end Cert.MixFwdIdeal.Body

end
-- ==== Proof.MixFwdPay.lean ====
/- The blocks one grid point of the output layer's forward call leaves, entry by entry over the extended reals. -/
module

public import proofs.«01_k».proof.Proof.MixFwdBlocks
public import proofs.«01_k».proof.Proof.Shift
public import proofs.«01_k».proof.Proof.Rows
public import proofs.«01_k».proof.Proof.Gelu
public import Idealize.ShloMosaic.Lib.Pointwise
public import Idealize.ShloMosaic.Lib.Ring

@[expose] public section

set_option maxRecDepth 16384

noncomputable section

namespace Cert.MixFwdIdeal.Pay

open Cert.MixFwdIdeal Cert.MixFwdIdeal.Gen Cert.MixFwdIdeal.Body Cert.Shift Idealize.ShloMosaic Idealize.ShloMosaic.TcCoe
open Cert.Gelu (sgm)

/-- The GeLU with its cubic coefficient read as the number the word holds. -/
def gelu (x : EReal) : EReal := Ideal.ofBits .f32 0x3F000000#32 * x
  * (1 + Ideal.tanh (Ideal.ofBits .f32 0x3F4C422A#32 * (x + Ideal.ofBits .f32 0x3D372713#32 * x * x * x)))

/-- The mean of a row of 512 entries, and the row centred, divided by its deviation, scaled and shifted. -/
def mean (v : Fin 512 → EReal) : EReal := Ideal.div (∑ k, v k) (Ideal.ofBits .f32 0x44000000#32)
def normed (v g b : Fin 512 → EReal) (k : Fin 512) : EReal :=
  (v k - mean v) * Ideal.rsqrt (mean (fun l => (v l - mean v) * (v l - mean v)) + Ideal.ofBits .f32 0x358637BD#32) * g k + b k

section
variable {y : Fin 256} {k : Fin 1024} {q : Fin 512}

theorem yaIn_at (x1 x12 x13 : Vec Ideal S256x1024 .bf16) :
    yaInBlk x1 x12 x13 (ix2 y k) = (x12 (ix2 y k) + x13 (ix2 y k)) * gelu (x1 (ix2 y k)) := by
  unfold yaInBlk
  pointwise [k0_pay4, gelu]

theorem ya_at (x1 x12 x13 : Vec Ideal S256x1024 .bf16) (x14 : Vec Ideal S1024x1024 .bf16) :
    yaF x1 x12 x13 x14 (ix2 y k) = ∑ l : Fin 1024, yaInBlk x1 x12 x13 (ix2 y l) * x14 (ix2 l k) := by
  unfold yaF yaInBlk
  pointwise [k0_pay5]

/-- The second branch in front of its projection: the short convolution of the two factors' product, gated. -/
theorem q_at {i : grid0.Coords} {t : Fin 64} (hi : (i 0).val = t.val) (x2 : Vec Ideal S256x512 .bf16) {x3 x6 : Vec Ideal S256x512 .bf16}
    {x4 x5 x7 x8 : Vec Ideal S16x512 .bf16} (x15 : Vec Ideal S3x512 .f32) {f : Fin 16384 → Fin 512 → EReal}
    (h : ∀ y k, x3 (ix2 y k) * x6 (ix2 y k) = f (at_ t y) k)
    (hp : ∀ s : Fin 16384, s.val + 1 = t.val * 256 → ∀ k, x4 (ix2 15 k) * x7 (ix2 15 k) = f s k)
    (hn : ∀ s : Fin 16384, s.val = t.val * 256 + 256 → ∀ k, x5 (ix2 0 k) * x8 (ix2 0 k) = f s k) :
    qBlk i x2 x3 x4 x5 x6 x7 x8 x15 (ix2 y q) = x2 (ix2 y q)
      * (x15 (ix2 0 q) * behind 1 (fun s => f s q) (at_ t y) + x15 (ix2 1 q) * f (at_ t y) q + x15 (ix2 2 q) * ahead 1 (fun s => f s q) (at_ t y)) := by
  unfold qBlk pPrev pAfter cBefore
  pointwise [k0_pay13, k0_pay12, k0_pay11, k0_pay10, k0_pay9, k0_pay8, k0_pay7, k0_pay6]
  simp only [pt, hi, select_pos, select_last, gate_mul, gate_twice]
  refine congrArg (_ * ·) (congrArg₂ (· + ·) (congrArg₂ (· + ·) (congrArg (_ * ·) ?_) (congrArg (_ * ·) (h y q))) (congrArg (_ * ·) ?_))
  · exact behind_one (fun s => f s q) t (fun y => x3 (ix2 y q) * x6 (ix2 y q)) (h · q) (x4 (ix2 15 q) * x7 (ix2 15 q)) (hp · · q) y
  · exact ahead_one (fun s => f s q) t (fun y => x3 (ix2 y q) * x6 (ix2 y q)) (h · q) (x5 (ix2 0 q) * x8 (ix2 0 q)) (hn · · q) y

theorem yb_at (i : grid0.Coords) (x2 x3 : Vec Ideal S256x512 .bf16) (x4 x5 : Vec Ideal S16x512 .bf16) (x6 : Vec Ideal S256x512 .bf16)
    (x7 x8 : Vec Ideal S16x512 .bf16) (x15 : Vec Ideal S3x512 .f32) (x16 : Vec Ideal S512x1024 .bf16) :
    ybF i x2 x3 x4 x5 x6 x7 x8 x15 x16 (ix2 y k) = ∑ l : Fin 512, qBlk i x2 x3 x4 x5 x6 x7 x8 x15 (ix2 y l) * x16 (ix2 l k) := by
  unfold ybF qBlk
  pointwise [k0_pay14]

/-- The rows the third branch mixes, -/
theorem v_at (x10 : Vec Ideal S256x512 .bf16) (x17 x18 : Vec Ideal S1x512 .f32) : vBlk x10 x17 x18 (ix2 y q)
    = normed (fun l => gelu (x10 (ix2 y l))) (fun l => x17 (ix2 0 l)) (fun l => x18 (ix2 0 l)) q := by
  unfold vBlk
  pointwise [k0_pay17, k0_pay16, k0_pay15, normed, mean, gelu]

set_option maxHeartbeats 1000000 in
/-- and the mixture: within a chunk of 128 rows, by a group's own weights and biases. -/
theorem mixed_at (x10 : Vec Ideal S256x512 .bf16) (x17 x18 : Vec Ideal S1x512 .f32) (x19 : Vec Ideal S4x128x128 .bf16) (x20 : Vec Ideal S128x4 .f32) :
    mixedBlk x10 x17 x18 x19 x20 (ix2 y q) = (∑ l : Fin 128, x19 (ix3 ⟨q.val / 128, by omega⟩ ⟨y.val % 128, by omega⟩ l)
      * vBlk x10 x17 x18 (ix2 ⟨y.val / 128 * 128 + l.val, by omega⟩ q)) + x20 (ix2 ⟨y.val % 128, by omega⟩ ⟨q.val / 128, by omega⟩) := by
  have e3 {a a' : Fin 4} {b b' : Fin 128} (l : Fin 128) (ha : a.val = a'.val) (hb : b.val = b'.val) : ix3 a b l = ix3 a' b' l := by
    rw [Fin.ext ha, Fin.ext hb]
  have e2 {n n' : ℕ} {a a' : Fin n} {b b' : Fin n'} (ha : a.val = a'.val) (hb : b.val = b'.val) : ix2 a b = ix2 a' b' := by
    rw [Fin.ext ha, Fin.ext hb]
  unfold mixedBlk vBlk k0_pay18
  generalize k0_pay17 (k0_pay15 x10) (k0_pay16 x10) (Scalar.ofBits .f32 0x3F000000#32) x17 x18 = V
  canon_tiles x hh using (View.cover_of_tiledBy _ ![128, 128] (by sl_kernel_rfl) _)
  all_goals
    idx_vars x
    obtain ⟨q, hq⟩ := q
    obtain ⟨y, hy⟩ := y
    replace hh0 : y = _ := hh0
    replace hh1 : q = _ := hh1
    pointwise [k0_pay25, k0_pay24, k0_pay23, k0_pay22, k0_pay21, k0_pay20, k0_pay19]
    refine congrArg₂ (fun a b : EReal => a + b) (Finset.sum_congr rfl fun l _ => congrArg₂ (fun a b : EReal => a * b)
      (congrArg x19 (e3 l ?_ ?_)) (congrArg V (e2 ?_ ?_))) (congrArg x20 (e2 ?_ ?_))
    all_goals (simp only [Fin.isValue, Fin.val_zero, Fin.val_one, Fin.val_two]; first | omega | (change 3 = _; omega))

theorem ycIn_at (x9 x10 : Vec Ideal S256x512 .bf16) (x17 x18 : Vec Ideal S1x512 .f32) (x19 : Vec Ideal S4x128x128 .bf16) (x20 : Vec Ideal S128x4 .f32) :
    ycInBlk x9 x10 x17 x18 x19 x20 (ix2 y q) = gelu (x9 (ix2 y q)) * mixedBlk x10 x17 x18 x19 x20 (ix2 y q) := by
  unfold ycInBlk
  generalize mixedBlk x10 x17 x18 x19 x20 = M
  pointwise [k0_pay26, gelu]

theorem yc_at (x9 x10 : Vec Ideal S256x512 .bf16) (x17 x18 : Vec Ideal S1x512 .f32) (x19 : Vec Ideal S4x128x128 .bf16) (x20 : Vec Ideal S128x4 .f32)
    (x21 : Vec Ideal S512x1024 .bf16) :
    ycF x9 x10 x17 x18 x19 x20 x21 (ix2 y k) = ∑ l : Fin 512, ycInBlk x9 x10 x17 x18 x19 x20 (ix2 y l) * x21 (ix2 l k) := by
  unfold ycF ycInBlk
  generalize mixedBlk x10 x17 x18 x19 x20 = M
  pointwise [k0_pay27]

/-- The branches merged by their gates, behind the merge's projection, and the layer's output. -/
theorem m_at (a b c : FVec Ideal S256x1024 .f32) (z : Vec Ideal S256x3072 .bf16) :
    k0_pay28 a b c (View.ld z (Rect.unit ![0, 0] ![256, 1024] inb_S256x3072_S256x1024_0_0))
      (View.ld z (Rect.unit ![0, 1024] ![256, 1024] inb_S256x3072_S256x1024_0_1024))
      (View.ld z (Rect.unit ![0, 2048] ![256, 1024] inb_S256x3072_S256x1024_0_2048)) (ix2 y k)
    = sgm (z (ix2 y ⟨k.val, by omega⟩)) * a (ix2 y k) + sgm (z (ix2 y ⟨1024 + k.val, by omega⟩)) * b (ix2 y k)
      + sgm (z (ix2 y ⟨2048 + k.val, by omega⟩)) * c (ix2 y k) := by
  pointwise [k0_pay28, sgm]

theorem mx_at (a b c : FVec Ideal S256x1024 .f32) (z0 z1 z2 : Vec Ideal S256x1024 .bf16) (w : Vec Ideal S1024x1024 .bf16) :
    k0_pay29 a b c z0 z1 z2 w (ix2 y k) = ∑ l : Fin 1024, k0_pay28 a b c z0 z1 z2 (ix2 y l) * w (ix2 l k) := by
  pointwise [k0_pay29]

theorem out_at (M x0 : Vec Ideal S256x1024 .f32) (g : Vec Ideal S1x1024 .f32) :
    k0_pay3 M x0 g (ix2 y k) = x0 (ix2 y k) + M (ix2 y k) * Rows.scale (fun l => M (ix2 y l)) * g (ix2 0 k) := by
  pointwise [k0_pay3, Rows.scale, Rows.meanSq]

end

end Cert.MixFwdIdeal.Pay

end
-- ==== Proof.MixFwdRef.lean ====
/- The output layer's forward lines as the reference writes them, entry by entry over the extended reals. -/
module

public import proofs.«01_k».proof.Proof.MixFwdPay
public import proofs.«01_k».proof.Proof.MixInTie
public import proofs.«01_k».proof.Proof.FfnATie
public import proofs.«01_k».proof.Proof.Gen.MixFwdRefIdeal.Read

@[expose] public section

set_option maxRecDepth 16384

noncomputable section

namespace Cert.MixFwdRef

open Idealize.ShloMosaic Idealize.ShloMosaic.TcCoe
open Cert.MixFwdRefIdeal.Read Cert.Finite Cert.Shift
open Cert.MixFwdRefIdeal (S1x16384x1024 S16384x1024 S16384x4608 S16384x3072 S1024x1024 S3x512 S512x1024 S512 S4x128x128 S4x128 S1024)
open Cert.Gelu (sgm)
open Cert.MixFwdIdeal.Pay (gelu mean normed)

variable {x : FVec Ideal S1x16384x1024 .f32} {za : FVec Ideal S16384x4608 .f32} {zm : FVec Ideal S16384x3072 .f32} {hf hr : FVec Ideal S16384x1024 .f32}
  {wlo : FVec Ideal S1024x1024 .f32} {scw : FVec Ideal S3x512 .f32} {wso : FVec Ideal S512x1024 .f32} {lg lb : FVec Ideal S512 .f32}
  {ws : FVec Ideal S4x128x128 .f32} {bs : FVec Ideal S4x128 .f32} {wgo : FVec Ideal S512x1024 .f32} {wo : FVec Ideal S1024x1024 .f32}
  {qg : FVec Ideal S1024 .f32} (s : Fin 16384) (k : Fin 1024) (q : Fin 512)

/-- The reference halves last. -/
theorem gelu_eq (x : EReal) : x * (Ideal.ofBits .f32 0x3F000000#32 * (1 + Ideal.tanh (Ideal.ofBits .f32 0x3F4C422A#32
    * (x + Ideal.ofBits .f32 0x3D372713#32 * (x * x * x))))) = gelu x := by
  unfold gelu
  rw [← mul_assoc, mul_comm x, ← mul_assoc (Ideal.ofBits .f32 0x3D372713#32), ← mul_assoc (Ideal.ofBits .f32 0x3D372713#32)]

theorem yaIn_eq : val_main_v20 (F := Ideal) za hf hr (ix2 s k) = (hf (ix2 s k) + hr (ix2 s k)) * gelu (za (ix2 s ⟨k.val, by omega⟩)) := by
  pointwise [val_main_v0, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rw [gelu_eq]

theorem ya_eq : val_main_v108 (F := Ideal) za hf hr wlo (ix2 s k) = ∑ l : Fin 1024, val_main_v20 (F := Ideal) za hf hr (ix2 s l) * wlo (ix2 l k) := by
  pointwise [val_main_v108]

/-- The product of the convolution's two factors. -/
def p (za : FVec Ideal S16384x4608 .f32) (s : Fin 16384) (q : Fin 512) : EReal :=
  za (ix2 s ⟨2560 + q.val, by omega⟩) * za (ix2 s ⟨3072 + q.val, by omega⟩)

/-- The short convolution, gated: a row before, the row, a row after. -/
theorem q_eq : val_main_v47 (F := Ideal) za scw (ix2 s q) = za (ix2 s ⟨2048 + q.val, by omega⟩)
    * (scw (ix2 0 q) * behind 1 (fun s => p za s q) s + scw (ix2 1 q) * p za s q + scw (ix2 2 q) * ahead 1 (fun s => p za s q) s) := by
  pointwise [val_main_v1, val_main_v2, val_main_v3, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst_3, val_main_cst_4, val_main_cst_5, p]
  rw [mul_comm (scw (ix2 0 q)), mul_comm (scw (ix2 1 q)), mul_comm (scw (ix2 2 q))]
  exact congrArg (fun a : EReal => _ * a) (congrArg₂ (fun a b : EReal => a + b) (congrArg (fun a : EReal => a * scw (ix2 0 q) + _)
      (MixInTie.behind_pad 1 (fun s => p za s q) s (fun _ h => ⟨s.val - 1, h⟩) (by omega) (fun k h => by dsimp only; omega)))
    (congrArg (fun a : EReal => a * scw (ix2 2 q))
      (MixInTie.ahead_pad 1 (fun s => p za s q) s (fun _ h => ⟨2 + s.val - 1, h⟩) (by omega) (fun k h => by dsimp only; omega))))

theorem yb_eq : val_main_v109 (F := Ideal) za scw wso (ix2 s k) = ∑ l : Fin 512, val_main_v47 (F := Ideal) za scw (ix2 s l) * wso (ix2 l k) := by
  pointwise [val_main_v109]

/-- The rows the third branch mixes, -/
theorem w_eq : val_main_v73 (F := Ideal) za (ix2 s q) = gelu (za (ix2 s ⟨4096 + q.val, by omega⟩)) := by
  pointwise [val_main_v5, val_main_v61, val_main_v62, val_main_v63, val_main_v64, val_main_v65, val_main_v66, val_main_v67, val_main_v68, val_main_v69, val_main_v70, val_main_v71, val_main_v72, val_main_v73, val_main_cst_10, val_main_cst_11, val_main_cst_12, val_main_cst_13]
  exact gelu_eq _

theorem v_eq : val_main_v97 (F := Ideal) za lg lb (ix2 s q)
    = normed (fun l => gelu (za (ix2 s ⟨4096 + l.val, by omega⟩))) (fun l => lg (ix1 l)) (fun l => lb (ix1 l)) q := by
  unfold normed mean
  simp only [← w_eq]
  pointwise [val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_cst_14, val_main_cst_15, val_main_cst_16, val_main_cst_17, val_main_cst_18]

/-- and the mixture. -/
theorem mixed_eq : val_main_v106 (F := Ideal) za lg lb ws bs (ix2 s q)
    = (∑ l : Fin 128, ws (ix3 ⟨q.val / 128, by omega⟩ ⟨s.val % 128, by omega⟩ l)
      * val_main_v97 (F := Ideal) za lg lb (ix2 ⟨s.val / 128 * 128 + l.val, by omega⟩ q)) + bs (ix2 ⟨q.val / 128, by omega⟩ ⟨s.val % 128, by omega⟩) := by
  pointwise [val_main_v98, val_main_v99, val_main_v100, val_main_v101, val_main_v102, val_main_v103, val_main_v104, val_main_v105, val_main_v106]
  exact congrArg (fun a : EReal => a + _) (Finset.sum_congr rfl fun l _ => mul_comm _ _)

theorem ycIn_eq : val_main_v107 (F := Ideal) za lg lb ws bs (ix2 s q)
    = gelu (za (ix2 s ⟨3584 + q.val, by omega⟩)) * val_main_v106 (F := Ideal) za lg lb ws bs (ix2 s q) := by
  pointwise [val_main_v4, val_main_v48, val_main_v49, val_main_v50, val_main_v51, val_main_v52, val_main_v53, val_main_v54, val_main_v55, val_main_v56, val_main_v57, val_main_v58, val_main_v59, val_main_v60, val_main_v107, val_main_cst_6, val_main_cst_7, val_main_cst_8, val_main_cst_9]
  rw [gelu_eq]

theorem yc_eq : val_main_v110 (F := Ideal) za lg lb ws bs wgo (ix2 s k)
    = ∑ l : Fin 512, val_main_v107 (F := Ideal) za lg lb ws bs (ix2 s l) * wgo (ix2 l k) := by
  pointwise [val_main_v110]

/-- The merge of the branches by their gates, the merge's projection and the layer's output. -/
theorem sig_eq (h : IsReal zm) (j : Fin 3072) : val_main_v116 (F := Ideal) zm (ix2 s j) = sgm (zm (ix2 s j)) := by
  pointwise [val_main_v111, val_main_v112, val_main_v113, val_main_v114, val_main_v115, val_main_v116, val_main_cst_19, val_main_cst_20]
  exact FfnATie.logistic_eq (h _)

theorem m_eq (h : IsReal zm) : val_main_v128 (F := Ideal) za zm hf hr wlo scw wso lg lb ws bs wgo (ix2 s k)
    = sgm (zm (ix2 s ⟨k.val, by omega⟩)) * val_main_v108 (F := Ideal) za hf hr wlo (ix2 s k)
      + sgm (zm (ix2 s ⟨1024 + k.val, by omega⟩)) * val_main_v109 (F := Ideal) za scw wso (ix2 s k)
      + sgm (zm (ix2 s ⟨2048 + k.val, by omega⟩)) * val_main_v110 (F := Ideal) za lg lb ws bs wgo (ix2 s k) := by
  simp only [← sig_eq s h]
  pointwise [val_main_v117, val_main_v118, val_main_v119, val_main_v120, val_main_v121, val_main_v122, val_main_v123, val_main_v124, val_main_v125, val_main_v126, val_main_v127, val_main_v128]

theorem mx_eq : val_main_v129 (F := Ideal) za zm hf hr wlo scw wso lg lb ws bs wgo wo (ix2 s k)
    = ∑ l : Fin 1024, val_main_v128 (F := Ideal) za zm hf hr wlo scw wso lg lb ws bs wgo (ix2 s l) * wo (ix2 l k) := by
  pointwise [val_main_v129]

theorem out_eq : val_main_v144 (F := Ideal) x za zm hf hr wlo scw wso lg lb ws bs wgo wo qg (ix2 s k)
    = x (ix3 0 s k) + val_main_v129 (F := Ideal) za zm hf hr wlo scw wso lg lb ws bs wgo wo (ix2 s k)
      * Rows.scale (fun l => val_main_v129 (F := Ideal) za zm hf hr wlo scw wso lg lb ws bs wgo wo (ix2 s l)) * qg (ix1 k) := by
  unfold Rows.scale Rows.meanSq
  pointwise [val_main_v130, val_main_v131, val_main_v132, val_main_v133, val_main_v134, val_main_v135, val_main_v136, val_main_v137, val_main_v138, val_main_v139, val_main_v140, val_main_v141, val_main_v142, val_main_v143, val_main_v144, val_main_cst_21, val_main_cst_22, val_main_cst_23]

end Cert.MixFwdRef

end
-- ==== Proof.MixFwdBody.lean ====
module

public import proofs.«01_k».proof.Proof.Gen.MixFwdIdeal.Frame.Runs
public import proofs.«01_k».proof.Proof.MixFwdBlocks
public import Idealize.ShloMosaic.Lib.Claim

/-! # One grid point of the output layer's forward call

What running the body leaves in each of its nine results, as a function of the 24 blocks. Nothing depends on how floats are read. -/

@[expose] public section

set_option maxRecDepth 16384

noncomputable section

namespace Cert.MixFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixFwdIdeal Cert.MixFwdIdeal.Gen

variable {F : FTy → Type} [FloatOps F]

local notation "𝕄" => MT nD τ sig Unit (Elt F) ℕ (UR sig nD τ) ℕ

/-- Reading the whole of a buffer that has been stored into in pieces. -/
theorem readCov_whole (v : View sig .tc .vmem S256x512 .f32) (L : List (View.Piece (Elt F) S256x512 .f32)) :
    v.readCov L (Rect.unit ![0, 0] ![256, 512] inb_S256x512_S256x512_0_0).toLoadRect = View.canon L :=
  (View.readCov_eq_canon' v L _).trans (View.ld_unit_lit' (Val := Elt F) inb_S256x512_S256x512_0_0 (View.canon L) (by decide))

-- the body is some three hundred operations long: the steps through it add up
set_option maxHeartbeats 8000000 in
/-- From the blocks and any contents of the results and the scratch buffer, the body ends with the blocks as they were, the results
as stated, and something in the scratch buffer. -/
theorem run_point (c : Dev nD) (i : grid0.Coords)
    (arg1 : Memref sig .tc .vmem S256x1024 .f32) (arg2 : Memref sig .tc .vmem S256x1024 .bf16) (arg3 arg4 : Memref sig .tc .vmem
    S256x512 .bf16) (arg5 arg6 : Memref sig .tc .vmem S16x512 .bf16) (arg7 : Memref sig .tc .vmem S256x512 .bf16) (arg8 arg9 :
    Memref sig .tc .vmem S16x512 .bf16) (arg10 arg11 : Memref sig .tc .vmem S256x512 .bf16) (arg12 : Memref sig .tc .vmem S256x3072
    .bf16) (arg13 arg14 : Memref sig .tc .vmem S256x1024 .bf16) (arg15 : Memref sig .tc .vmem S1024x1024 .bf16) (arg16 : Memref sig
    .tc .vmem S3x512 .f32) (arg17 : Memref sig .tc .vmem S512x1024 .bf16) (arg18 arg19 : Memref sig .tc .vmem S1x512 .f32) (arg20 :
    Memref sig .tc .vmem S4x128x128 .bf16) (arg21 : Memref sig .tc .vmem S128x4 .f32) (arg22 : Memref sig .tc .vmem S512x1024 .bf16)
    (arg23 : Memref sig .tc .vmem S1024x1024 .bf16) (arg24 : Memref sig .tc .vmem S1x1024 .f32) (arg25 : Memref sig .tc .vmem
    S256x1024 .f32) (arg26 : Memref sig .tc .vmem S256x1024 .bf16) (arg27 arg28 : Memref sig .tc .vmem S256x512 .bf16) (arg29 arg30
    arg31 arg32 arg33 : Memref sig .tc .vmem S256x1024 .bf16) (arg34 : Memref sig .tc .vmem S256x512 .f32)
    (w1 : arg1.IsWhole) (w2 : arg2.IsWhole) (w3 : arg3.IsWhole) (w4 : arg4.IsWhole) (w5 : arg5.IsWhole) (w6 : arg6.IsWhole) (w7 :
    arg7.IsWhole) (w8 : arg8.IsWhole) (w9 : arg9.IsWhole) (w10 : arg10.IsWhole) (w11 : arg11.IsWhole) (w12 : arg12.IsWhole) (w13 :
    arg13.IsWhole) (w14 : arg14.IsWhole) (w15 : arg15.IsWhole) (w16 : arg16.IsWhole) (w17 : arg17.IsWhole) (w18 : arg18.IsWhole)
    (w19 : arg19.IsWhole) (w20 : arg20.IsWhole) (w21 : arg21.IsWhole) (w22 : arg22.IsWhole) (w23 : arg23.IsWhole) (w24 :
    arg24.IsWhole) (w25 : arg25.IsWhole) (w26 : arg26.IsWhole) (w27 : arg27.IsWhole) (w28 : arg28.IsWhole) (w29 : arg29.IsWhole)
    (w30 : arg30.IsWhole) (w31 : arg31.IsWhole) (w32 : arg32.IsWhole) (w33 : arg33.IsWhole) (w34 : arg34.IsWhole)
    (x0 : Vec F S256x1024 .f32) (x1 : Vec F S256x1024 .bf16) (x2 x3 : Vec F S256x512 .bf16) (x4 x5 : Vec F S16x512 .bf16) (x6 : Vec
    F S256x512 .bf16) (x7 x8 : Vec F S16x512 .bf16) (x9 x10 : Vec F S256x512 .bf16) (x11 : Vec F S256x3072 .bf16) (x12 x13 : Vec F
    S256x1024 .bf16) (x14 : Vec F S1024x1024 .bf16) (x15 : Vec F S3x512 .f32) (x16 : Vec F S512x1024 .bf16) (x17 x18 : Vec F S1x512
    .f32) (x19 : Vec F S4x128x128 .bf16) (x20 : Vec F S128x4 .f32) (x21 : Vec F S512x1024 .bf16) (x22 : Vec F S1024x1024 .bf16) (x23
    : Vec F S1x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare
      x11 ∗ owns (c : Thread nD τ) arg13 fullShare x12 ∗ owns (c : Thread nD τ) arg14 fullShare x13 ∗ owns (c : Thread nD τ) arg15
      fullShare x14 ∗ owns (c : Thread nD τ) arg16 fullShare x15 ∗ owns (c : Thread nD τ) arg17 fullShare x16 ∗ owns (c : Thread nD τ)
      arg18 fullShare x17 ∗ owns (c : Thread nD τ) arg19 fullShare x18 ∗ owns (c : Thread nD τ) arg20 fullShare x19 ∗ owns (c : Thread
      nD τ) arg21 fullShare x20 ∗ owns (c : Thread nD τ) arg22 fullShare x21 ∗ owns (c : Thread nD τ) arg23 fullShare x22 ∗ owns (c :
      Thread nD τ) arg24 fullShare x23 ∗ (∃ d, owns (c : Thread nD τ) arg25 fullShare d) ∗ (∃ d, owns (c : Thread nD τ) arg26
      fullShare d) ∗ (∃ d, owns (c : Thread nD τ) arg27 fullShare d) ∗ (∃ d, owns (c : Thread nD τ) arg28 fullShare d) ∗ (∃ d, owns (c
      : Thread nD τ) arg29 fullShare d) ∗ (∃ d, owns (c : Thread nD τ) arg30 fullShare d) ∗ (∃ d, owns (c : Thread nD τ) arg31
      fullShare d) ∗ (∃ d, owns (c : Thread nD τ) arg32 fullShare d) ∗ (∃ d, owns (c : Thread nD τ) arg33 fullShare d) ∗ (∃ d, owns (c
      : Thread nD τ) arg34 fullShare d)
      ∗ (iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare
        x11 ∗ owns (c : Thread nD τ) arg13 fullShare x12 ∗ owns (c : Thread nD τ) arg14 fullShare x13 ∗ owns (c : Thread nD τ) arg15
        fullShare x14 ∗ owns (c : Thread nD τ) arg16 fullShare x15 ∗ owns (c : Thread nD τ) arg17 fullShare x16 ∗ owns (c : Thread nD τ)
        arg18 fullShare x17 ∗ owns (c : Thread nD τ) arg19 fullShare x18 ∗ owns (c : Thread nD τ) arg20 fullShare x19 ∗ owns (c : Thread
        nD τ) arg21 fullShare x20 ∗ owns (c : Thread nD τ) arg22 fullShare x21 ∗ owns (c : Thread nD τ) arg23 fullShare x22 ∗ owns (c :
        Thread nD τ) arg24 fullShare x23 ∗ owns (c : Thread nD τ) arg25 fullShare (outBlk i x0 x1 x2 x3 x4 x5 x6 x7 x8 x9 x10 x11 x12
        x13 x14 x15 x16 x17 x18 x19 x20 x21 x22 x23) ∗ owns (c : Thread nD τ) arg26 fullShare (yaInBlk x1 x12 x13) ∗ owns (c : Thread nD
        τ) arg27 fullShare (qBlk i x2 x3 x4 x5 x6 x7 x8 x15) ∗ owns (c : Thread nD τ) arg28 fullShare (ycInBlk x9 x10 x17 x18 x19 x20) ∗
        owns (c : Thread nD τ) arg29 fullShare (yaBlk x1 x12 x13 x14) ∗ owns (c : Thread nD τ) arg30 fullShare (ybBlk i x2 x3 x4 x5 x6
        x7 x8 x15 x16) ∗ owns (c : Thread nD τ) arg31 fullShare (ycBlk x9 x10 x17 x18 x19 x20 x21) ∗ owns (c : Thread nD τ) arg32
        fullShare (mBlk i x1 x2 x3 x4 x5 x6 x7 x8 x9 x10 x11 x12 x13 x14 x15 x16 x17 x18 x19 x20 x21) ∗ owns (c : Thread nD τ) arg33
        fullShare (mxBlk i x1 x2 x3 x4 x5 x6 x7 x8 x9 x10 x11 x12 x13 x14 x15 x16 x17 x18 x19 x20 x21 x22) ∗ (∃ d, owns (c : Thread nD
        τ) arg34 fullShare d)) -∗ K ⟨⟩))
    ⊢ wp frame (wpE (defs₀ (F := F)) Variants.none c none) E
      (cc0_mix_out_fwd i arg1 w1 arg2 w2 arg3 w3 arg4 w4 arg5 w5 arg6 w6 arg7 w7 arg8 w8 arg9 w9 arg10 w10 arg11 w11 arg12 w12 arg13 w13 arg14 w14 arg15
        w15 arg16 w16 arg17 w17 arg18 w18 arg19 w19 arg20 w20 arg21 w21 arg22 w22 arg23 w23 arg24 w24 arg25 w25 arg26 w26 arg27 w27
        arg28 w28 arg29 w29 arg30 w30 arg31 w31 arg32 w32 arg33 w33 arg34 w34) K := by
  simp only [cc0_mix_out_fwd_eq_skeleton]; unfold cc0_mix_out_fwd_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩,
    ⟨%f15, %e15, H15⟩, ⟨%f16, %e16, H16⟩, ⟨%f17, %e17, H17⟩, ⟨%f18, %e18, H18⟩, ⟨%f19, %e19, H19⟩, ⟨%f20, %e20, H20⟩, ⟨%f21, %e21,
    H21⟩, ⟨%f22, %e22, H22⟩, ⟨%f23, %e23, H23⟩, ⟨%d24, %f24, -, H24⟩, ⟨%d25, %f25, -, H25⟩, ⟨%d26, %f26, -, H26⟩, ⟨%d27, %f27, -,
    H27⟩, ⟨%d28, %f28, -, H28⟩, ⟨%d29, %f29, -, H29⟩, ⟨%d30, %f30, -, H30⟩, ⟨%d31, %f31, -, H31⟩, ⟨%d32, %f32, -, H32⟩, ⟨%d33, %f33,
    -, H33⟩, Hk⟩
  obtain rfl := w1.eq_unread e0; obtain rfl := w2.eq_unread e1; obtain rfl := w3.eq_unread e2
  obtain rfl := w4.eq_unread e3; obtain rfl := w5.eq_unread e4; obtain rfl := w6.eq_unread e5
  obtain rfl := w7.eq_unread e6; obtain rfl := w8.eq_unread e7; obtain rfl := w9.eq_unread e8
  obtain rfl := w10.eq_unread e9; obtain rfl := w11.eq_unread e10; obtain rfl := w12.eq_unread e11
  obtain rfl := w13.eq_unread e12; obtain rfl := w14.eq_unread e13; obtain rfl := w15.eq_unread e14
  obtain rfl := w16.eq_unread e15; obtain rfl := w17.eq_unread e16; obtain rfl := w18.eq_unread e17
  obtain rfl := w19.eq_unread e18; obtain rfl := w20.eq_unread e19; obtain rfl := w21.eq_unread e20
  obtain rfl := w22.eq_unread e21; obtain rfl := w23.eq_unread e22; obtain rfl := w24.eq_unread e23
  sl_exec
  sl_step
  iapply Hk
  isplitl [H0]; · iexists _; isplitr; (· ipureintro; exact w1.read_unread _); iexact H0
  isplitl [H1]; · iexists _; isplitr; (· ipureintro; exact w2.read_unread _); iexact H1
  isplitl [H2]; · iexists _; isplitr; (· ipureintro; exact w3.read_unread _); iexact H2
  isplitl [H3]; · iexists _; isplitr; (· ipureintro; exact w4.read_unread _); iexact H3
  isplitl [H4]; · iexists _; isplitr; (· ipureintro; exact w5.read_unread _); iexact H4
  isplitl [H5]; · iexists _; isplitr; (· ipureintro; exact w6.read_unread _); iexact H5
  isplitl [H6]; · iexists _; isplitr; (· ipureintro; exact w7.read_unread _); iexact H6
  isplitl [H7]; · iexists _; isplitr; (· ipureintro; exact w8.read_unread _); iexact H7
  isplitl [H8]; · iexists _; isplitr; (· ipureintro; exact w9.read_unread _); iexact H8
  isplitl [H9]; · iexists _; isplitr; (· ipureintro; exact w10.read_unread _); iexact H9
  isplitl [H10]; · iexists _; isplitr; (· ipureintro; exact w11.read_unread _); iexact H10
  isplitl [H11]; · iexists _; isplitr; (· ipureintro; exact w12.read_unread _); iexact H11
  isplitl [H12]; · iexists _; isplitr; (· ipureintro; exact w13.read_unread _); iexact H12
  isplitl [H13]; · iexists _; isplitr; (· ipureintro; exact w14.read_unread _); iexact H13
  isplitl [H14]; · iexists _; isplitr; (· ipureintro; exact w15.read_unread _); iexact H14
  isplitl [H15]; · iexists _; isplitr; (· ipureintro; exact w16.read_unread _); iexact H15
  isplitl [H16]; · iexists _; isplitr; (· ipureintro; exact w17.read_unread _); iexact H16
  isplitl [H17]; · iexists _; isplitr; (· ipureintro; exact w18.read_unread _); iexact H17
  isplitl [H18]; · iexists _; isplitr; (· ipureintro; exact w19.read_unread _); iexact H18
  isplitl [H19]; · iexists _; isplitr; (· ipureintro; exact w20.read_unread _); iexact H19
  isplitl [H20]; · iexists _; isplitr; (· ipureintro; exact w21.read_unread _); iexact H20
  isplitl [H21]; · iexists _; isplitr; (· ipureintro; exact w22.read_unread _); iexact H21
  isplitl [H22]; · iexists _; isplitr; (· ipureintro; exact w23.read_unread _); iexact H22
  isplitl [H23]; · iexists _; isplitr; (· ipureintro; exact w24.read_unread _); iexact H23
  isplitl [H24]
  · iexists _; isplitr
    swap; · iexact H24
    ipureintro
    refine Eq.trans (View.read_writes_eq_canon _ _ _ ?_) ?_
    · exact View.cover_of_tiledL _ S256x1024.size (by sl_kernel_rfl)
    frame_out [readCov_whole] <;> rfl
  isplitl [H25]
  · iexists _; isplitr
    swap; · iexact H25
    ipureintro
    refine Eq.trans (View.read_writes_eq_canon _ _ _ ?_) ?_
    · exact View.cover_of_tiledL _ S256x1024.size (by sl_kernel_rfl)
    frame_out [readCov_whole] <;> rfl
  isplitl [H26]
  · iexists _; isplitr
    swap; · iexact H26
    ipureintro
    refine Eq.trans (View.read_writes_eq_canon _ _ _ ?_) ?_
    · exact View.cover_of_tiledL _ S256x512.size (by sl_kernel_rfl)
    frame_out [readCov_whole] <;> rfl
  isplitl [H27]
  · iexists _; isplitr
    swap; · iexact H27
    ipureintro
    refine Eq.trans (View.read_writes_eq_canon _ _ _ ?_) ?_
    · exact View.cover_of_tiledL _ S256x512.size (by sl_kernel_rfl)
    frame_out [readCov_whole] <;> rfl
  isplitl [H28]
  · iexists _; isplitr
    swap; · iexact H28
    ipureintro
    refine Eq.trans (View.read_writes_eq_canon _ _ _ ?_) ?_
    · exact View.cover_of_tiledL _ S256x1024.size (by sl_kernel_rfl)
    frame_out [readCov_whole] <;> rfl
  isplitl [H29]
  · iexists _; isplitr
    swap; · iexact H29
    ipureintro
    refine Eq.trans (View.read_writes_eq_canon _ _ _ ?_) ?_
    · exact View.cover_of_tiledL _ S256x1024.size (by sl_kernel_rfl)
    frame_out [readCov_whole] <;> rfl
  isplitl [H30]
  · iexists _; isplitr
    swap; · iexact H30
    ipureintro
    refine Eq.trans (View.read_writes_eq_canon _ _ _ ?_) ?_
    · exact View.cover_of_tiledL _ S256x1024.size (by sl_kernel_rfl)
    frame_out [readCov_whole] <;> rfl
  isplitl [H31]
  · iexists _; isplitr
    swap; · iexact H31
    ipureintro
    refine Eq.trans (View.read_writes_eq_canon _ _ _ ?_) ?_
    · exact View.cover_of_tiledL _ S256x1024.size (by sl_kernel_rfl)
    frame_out [readCov_whole] <;> rfl
  isplitl [H32]
  · iexists _; isplitr
    swap; · iexact H32
    ipureintro
    refine Eq.trans (View.read_writes_eq_canon _ _ _ ?_) ?_
    · exact View.cover_of_tiledL _ S256x1024.size (by sl_kernel_rfl)
    frame_out [readCov_whole] <;> rfl
  iexists _; iexists _; isplitr
  swap; · iexact H33
  ipureintro; rfl

end Cert.MixFwdIdeal.Body

end
-- ==== Proof.MixFwdFrame.lean ====
module

public import proofs.«01_k».proof.Proof.MixFwdBody
public import Idealize.ShloMosaic.Lib.Claim

/-! # The output layer's forward call at every grid point

What each window's staging buffer holds there, and from it the run of the whole program, its results and its unchanged arguments. -/

@[expose] public section

set_option maxRecDepth 16384

noncomputable section

namespace Cert.MixFwdIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixFwdIdeal.Gen Cert.MixFwdIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves at a point -/

def outAt (c : Dev nD) (t : Fin cfg0.N) : Vec F S256x1024 .f32 := outBlk (grid0.coords t) (iblk m c 0 t) (X0_1 m c t) (iblk m c 2
    t) (iblk m c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t) (iblk m c 18
    t) (iblk m c 19 t) (iblk m c 20 t) (iblk m c 21 t) (iblk m c 22 t) (iblk m c 23 t)
def yaInAt (c : Dev nD) (t : Fin cfg0.N) : Vec F S256x1024 .bf16 := yaInBlk (X0_1 m c t) (iblk m c 12 t) (iblk m c 13 t)
def qAt (c : Dev nD) (t : Fin cfg0.N) : Vec F S256x512 .bf16 := qBlk (grid0.coords t) (iblk m c 2 t) (iblk m c 3 t) (iblk m c 4 t)
    (iblk m c 5 t) (iblk m c 6 t) (iblk m c 7 t) (iblk m c 8 t) (iblk m c 15 t)
def ycInAt (c : Dev nD) (t : Fin cfg0.N) : Vec F S256x512 .bf16 := ycInBlk (iblk m c 9 t) (iblk m c 10 t) (iblk m c 17 t) (iblk m
    c 18 t) (iblk m c 19 t) (iblk m c 20 t)
def yaAt (c : Dev nD) (t : Fin cfg0.N) : Vec F S256x1024 .bf16 := yaBlk (X0_1 m c t) (iblk m c 12 t) (iblk m c 13 t) (iblk m c 14
    t)
def ybAt (c : Dev nD) (t : Fin cfg0.N) : Vec F S256x1024 .bf16 := ybBlk (grid0.coords t) (iblk m c 2 t) (iblk m c 3 t) (iblk m c 4
    t) (iblk m c 5 t) (iblk m c 6 t) (iblk m c 7 t) (iblk m c 8 t) (iblk m c 15 t) (iblk m c 16 t)
def ycAt (c : Dev nD) (t : Fin cfg0.N) : Vec F S256x1024 .bf16 := ycBlk (iblk m c 9 t) (iblk m c 10 t) (iblk m c 17 t) (iblk m c
    18 t) (iblk m c 19 t) (iblk m c 20 t) (iblk m c 21 t)
def mAt (c : Dev nD) (t : Fin cfg0.N) : Vec F S256x1024 .bf16 := mBlk (grid0.coords t) (X0_1 m c t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t) (iblk m c 18 t) (iblk m c 19
    t) (iblk m c 20 t) (iblk m c 21 t)
def mxAt (c : Dev nD) (t : Fin cfg0.N) : Vec F S256x1024 .bf16 := mxBlk (grid0.coords t) (X0_1 m c t) (iblk m c 2 t) (iblk m c 3
    t) (iblk m c 4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t) (iblk m c 18 t) (iblk m c 19
    t) (iblk m c 20 t) (iblk m c 21 t) (iblk m c 22 t)

/-- What every window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => outAt m c t
    | ⟨25, _⟩ => yaInAt m c t
    | ⟨26, _⟩ => qAt m c t
    | ⟨27, _⟩ => ycInAt m c t
    | ⟨28, _⟩ => yaAt m c t
    | ⟨29, _⟩ => ybAt m c t
    | ⟨30, _⟩ => ycAt m c t
    | ⟨31, _⟩ => mAt m c t
    | ⟨32, _⟩ => mxAt m c t
    | ⟨_ + 33, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)

theorem after0_0 : (dats m 0 c).after 0 t = iblk m c 0 t := by dsimp only [dats]
theorem after0_1 : (dats m 0 c).after 1 t = X0_1 m c t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = iblk m c 15 t := by dsimp only [dats]
theorem after0_16 : (dats m 0 c).after 16 t = iblk m c 16 t := by dsimp only [dats]
theorem after0_17 : (dats m 0 c).after 17 t = iblk m c 17 t := by dsimp only [dats]
theorem after0_18 : (dats m 0 c).after 18 t = iblk m c 18 t := by dsimp only [dats]
theorem after0_19 : (dats m 0 c).after 19 t = iblk m c 19 t := by dsimp only [dats]
theorem after0_20 : (dats m 0 c).after 20 t = iblk m c 20 t := by dsimp only [dats]
theorem after0_21 : (dats m 0 c).after 21 t = iblk m c 21 t := by dsimp only [dats]
theorem after0_22 : (dats m 0 c).after 22 t = iblk m c 22 t := by dsimp only [dats]
theorem after0_23 : (dats m 0 c).after 23 t = iblk m c 23 t := by dsimp only [dats]
theorem after0_24 : (dats m 0 c).after 24 t = outAt m c t := by dsimp only [dats]
theorem after0_25 : (dats m 0 c).after 25 t = yaInAt m c t := by dsimp only [dats]
theorem after0_26 : (dats m 0 c).after 26 t = qAt m c t := by dsimp only [dats]
theorem after0_27 : (dats m 0 c).after 27 t = ycInAt m c t := by dsimp only [dats]
theorem after0_28 : (dats m 0 c).after 28 t = yaAt m c t := by dsimp only [dats]
theorem after0_29 : (dats m 0 c).after 29 t = ybAt m c t := by dsimp only [dats]
theorem after0_30 : (dats m 0 c).after 30 t = ycAt m c t := by dsimp only [dats]
theorem after0_31 : (dats m 0 c).after 31 t = mAt m c t := by dsimp only [dats]
theorem after0_32 : (dats m 0 c).after 32 t = mxAt m c t := by dsimp only [dats]

theorem before0_0 (d) : (dats m 0 c).before 0 t d = iblk m c 0 t := before0_0_of m (dats m 0 c) (A_eq m c 0) (after0_0 m c) t d
theorem before0_1 (d) : (dats m 0 c).before 1 t d = X0_1 m c t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d
theorem before0_10 (d) : (dats m 0 c).before 10 t d = iblk m c 10 t := before0_10_of m (dats m 0 c) (A_eq m c 10) (after0_10 m c) t d
theorem before0_11 (d) : (dats m 0 c).before 11 t d = iblk m c 11 t := before0_11_of m (dats m 0 c) (A_eq m c 11) (after0_11 m c) t d
theorem before0_12 (d) : (dats m 0 c).before 12 t d = iblk m c 12 t := before0_12_of m (dats m 0 c) (A_eq m c 12) (after0_12 m c) t d
theorem before0_13 (d) : (dats m 0 c).before 13 t d = iblk m c 13 t := before0_13_of m (dats m 0 c) (A_eq m c 13) (after0_13 m c) t d
theorem before0_14 (d) : (dats m 0 c).before 14 t d = iblk m c 14 t := before0_14_of m (dats m 0 c) (A_eq m c 14) (after0_14 m c) t d
theorem before0_15 (d) : (dats m 0 c).before 15 t d = iblk m c 15 t := before0_15_of m (dats m 0 c) (A_eq m c 15) (after0_15 m c) t d
theorem before0_16 (d) : (dats m 0 c).before 16 t d = iblk m c 16 t := before0_16_of m (dats m 0 c) (A_eq m c 16) (after0_16 m c) t d
theorem before0_17 (d) : (dats m 0 c).before 17 t d = iblk m c 17 t := before0_17_of m (dats m 0 c) (A_eq m c 17) (after0_17 m c) t d
theorem before0_18 (d) : (dats m 0 c).before 18 t d = iblk m c 18 t := before0_18_of m (dats m 0 c) (A_eq m c 18) (after0_18 m c) t d
theorem before0_19 (d) : (dats m 0 c).before 19 t d = iblk m c 19 t := before0_19_of m (dats m 0 c) (A_eq m c 19) (after0_19 m c) t d
theorem before0_20 (d) : (dats m 0 c).before 20 t d = iblk m c 20 t := before0_20_of m (dats m 0 c) (A_eq m c 20) (after0_20 m c) t d
theorem before0_21 (d) : (dats m 0 c).before 21 t d = iblk m c 21 t := before0_21_of m (dats m 0 c) (A_eq m c 21) (after0_21 m c) t d
theorem before0_22 (d) : (dats m 0 c).before 22 t d = iblk m c 22 t := before0_22_of m (dats m 0 c) (A_eq m c 22) (after0_22 m c) t d
theorem before0_23 (d) : (dats m 0 c).before 23 t d = iblk m c 23 t := before0_23_of m (dats m 0 c) (A_eq m c 23) (after0_23 m c) t d

/-! ## The body at a point -/

/-- What the body is called with at point `t`, -/
def bodyPre : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d))
    ∗ (∃ d, owns c.tc (ms0_11 t) fullShare ((dats m 0 c).before 11 t d))
    ∗ (∃ d, owns c.tc (ms0_12 t) fullShare ((dats m 0 c).before 12 t d))
    ∗ (∃ d, owns c.tc (ms0_13 t) fullShare ((dats m 0 c).before 13 t d))
    ∗ (∃ d, owns c.tc (ms0_14 t) fullShare ((dats m 0 c).before 14 t d))
    ∗ (∃ d, owns c.tc (ms0_15 t) fullShare ((dats m 0 c).before 15 t d))
    ∗ (∃ d, owns c.tc (ms0_16 t) fullShare ((dats m 0 c).before 16 t d))
    ∗ (∃ d, owns c.tc (ms0_17 t) fullShare ((dats m 0 c).before 17 t d))
    ∗ (∃ d, owns c.tc (ms0_18 t) fullShare ((dats m 0 c).before 18 t d))
    ∗ (∃ d, owns c.tc (ms0_19 t) fullShare ((dats m 0 c).before 19 t d))
    ∗ (∃ d, owns c.tc (ms0_20 t) fullShare ((dats m 0 c).before 20 t d))
    ∗ (∃ d, owns c.tc (ms0_21 t) fullShare ((dats m 0 c).before 21 t d))
    ∗ (∃ d, owns c.tc (ms0_22 t) fullShare ((dats m 0 c).before 22 t d))
    ∗ (∃ d, owns c.tc (ms0_23 t) fullShare ((dats m 0 c).before 23 t d))
    ∗ (∃ d, owns c.tc (ms0_24 t) fullShare ((dats m 0 c).before 24 t d))
    ∗ (∃ d, owns c.tc (ms0_25 t) fullShare ((dats m 0 c).before 25 t d))
    ∗ (∃ d, owns c.tc (ms0_26 t) fullShare ((dats m 0 c).before 26 t d))
    ∗ (∃ d, owns c.tc (ms0_27 t) fullShare ((dats m 0 c).before 27 t d))
    ∗ (∃ d, owns c.tc (ms0_28 t) fullShare ((dats m 0 c).before 28 t d))
    ∗ (∃ d, owns c.tc (ms0_29 t) fullShare ((dats m 0 c).before 29 t d))
    ∗ (∃ d, owns c.tc (ms0_30 t) fullShare ((dats m 0 c).before 30 t d))
    ∗ (∃ d, owns c.tc (ms0_31 t) fullShare ((dats m 0 c).before 31 t d))
    ∗ (∃ d, owns c.tc (ms0_32 t) fullShare ((dats m 0 c).before 32 t d)))

/-- and what it returns. -/
def bodyPost : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t)
    ∗ owns c.tc (ms0_7 t) fullShare ((dats m 0 c).after 7 t)
    ∗ owns c.tc (ms0_8 t) fullShare ((dats m 0 c).after 8 t)
    ∗ owns c.tc (ms0_9 t) fullShare ((dats m 0 c).after 9 t)
    ∗ owns c.tc (ms0_10 t) fullShare ((dats m 0 c).after 10 t)
    ∗ owns c.tc (ms0_11 t) fullShare ((dats m 0 c).after 11 t)
    ∗ owns c.tc (ms0_12 t) fullShare ((dats m 0 c).after 12 t)
    ∗ owns c.tc (ms0_13 t) fullShare ((dats m 0 c).after 13 t)
    ∗ owns c.tc (ms0_14 t) fullShare ((dats m 0 c).after 14 t)
    ∗ owns c.tc (ms0_15 t) fullShare ((dats m 0 c).after 15 t)
    ∗ owns c.tc (ms0_16 t) fullShare ((dats m 0 c).after 16 t)
    ∗ owns c.tc (ms0_17 t) fullShare ((dats m 0 c).after 17 t)
    ∗ owns c.tc (ms0_18 t) fullShare ((dats m 0 c).after 18 t)
    ∗ owns c.tc (ms0_19 t) fullShare ((dats m 0 c).after 19 t)
    ∗ owns c.tc (ms0_20 t) fullShare ((dats m 0 c).after 20 t)
    ∗ owns c.tc (ms0_21 t) fullShare ((dats m 0 c).after 21 t)
    ∗ owns c.tc (ms0_22 t) fullShare ((dats m 0 c).after 22 t)
    ∗ owns c.tc (ms0_23 t) fullShare ((dats m 0 c).after 23 t)
    ∗ owns c.tc (ms0_24 t) fullShare ((dats m 0 c).after 24 t)
    ∗ owns c.tc (ms0_25 t) fullShare ((dats m 0 c).after 25 t)
    ∗ owns c.tc (ms0_26 t) fullShare ((dats m 0 c).after 26 t)
    ∗ owns c.tc (ms0_27 t) fullShare ((dats m 0 c).after 27 t)
    ∗ owns c.tc (ms0_28 t) fullShare ((dats m 0 c).after 28 t)
    ∗ owns c.tc (ms0_29 t) fullShare ((dats m 0 c).after 29 t)
    ∗ owns c.tc (ms0_30 t) fullShare ((dats m 0 c).after 30 t)
    ∗ owns c.tc (ms0_31 t) fullShare ((dats m 0 c).after 31 t)
    ∗ owns c.tc (ms0_32 t) fullShare ((dats m 0 c).after 32 t))

set_option maxHeartbeats 12800000 in
/-- The body at any point takes the blocks it finds to the blocks stated. -/
theorem sound_body :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19,
    before0_20, before0_21, before0_22, before0_23]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [after0_0, after0_1, after0_2, after0_3, after0_4, after0_5, after0_6, after0_7, after0_8, after0_9, after0_10, after0_11,
    after0_12, after0_13, after0_14, after0_15, after0_16, after0_17, after0_18, after0_19, after0_20, after0_21, after0_22,
    after0_23, after0_24, after0_25, after0_26, after0_27, after0_28, after0_29, after0_30, after0_31, after0_32]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
    H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩,
    ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28,
    H28⟩, ⟨%d29, H29⟩, ⟨%d30, H30⟩, ⟨%d31, H31⟩, ⟨%d32, H32⟩⟩
  iapply (run_point c (grid0.coords t) (ms0_0 t) (ms0_1 t) (ms0_2 t) (ms0_3 t) (ms0_4 t) (ms0_5 t) (ms0_6 t) (ms0_7 t) (ms0_8 t)
    (ms0_9 t) (ms0_10 t) (ms0_11 t) (ms0_12 t) (ms0_13 t) (ms0_14 t) (ms0_15 t) (ms0_16 t) (ms0_17 t) (ms0_18 t) (ms0_19 t)
    (ms0_20 t) (ms0_21 t) (ms0_22 t) (ms0_23 t) (ms0_24 t) (ms0_25 t) (ms0_26 t) (ms0_27 t) (ms0_28 t) (ms0_29 t) (ms0_30 t)
    (ms0_31 t) (ms0_32 t) scM0_0 (hs0_0 t) (hs0_1 t) (hs0_2 t) (hs0_3 t) (hs0_4 t) (hs0_5 t) (hs0_6 t) (hs0_7 t) (hs0_8 t) (hs0_9
    t) (hs0_10 t) (hs0_11 t) (hs0_12 t) (hs0_13 t) (hs0_14 t) (hs0_15 t) (hs0_16 t) (hs0_17 t) (hs0_18 t) (hs0_19 t) (hs0_20 t)
    (hs0_21 t) (hs0_22 t) (hs0_23 t) (hs0_24 t) (hs0_25 t) (hs0_26 t) (hs0_27 t) (hs0_28 t) (hs0_29 t) (hs0_30 t) (hs0_31 t)
    (hs0_32 t) (Memref.isWhole_whole _) (iblk m c 0 t) (X0_1 m c t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (iblk m c 20 t) (iblk m c 21
    t) (iblk m c 22 t) (iblk m c 23 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [HS0]; · iexact HS0
  iintro ⟨H0, H1, H2, H3, H4, H5, H6, H7, H8, H9, H10, H11, H12, H13, H14, H15, H16, H17, H18, H19, H20, H21, H22, H23, H24, H25,
    H26, H27, H28, H29, H30, H31, H32, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

end

theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the arrays end as the proof data say, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.MixFwdIdeal.Whole

end
-- ==== Proof.MixFwdVal.lean ====
/- What the output layer's forward call leaves in its nine arrays, over the extended reals: the lines of the reference. -/
module

public import proofs.«01_k».proof.Proof.MixFwdRef
public import proofs.«01_k».proof.Proof.MixFwdFrame
public import Idealize.ShloMosaic.Lib.Pipeline.ValueKit
public import Idealize.ShloMosaic.Lib.StableHlo.ReadAt

@[expose] public section

set_option maxRecDepth 16384

noncomputable section

namespace Cert.MixFwdIdeal.Val

open Cert.MixFwdIdeal Cert.MixFwdIdeal.Gen Cert.MixFwdIdeal.Body Cert.MixFwdIdeal.Whole Cert.MixFwdRef Cert.Shift
open Idealize.ShloMosaic Idealize.ShloMosaic.TcCoe Idealize.SL.Sem
open Cert.MixFwdRefIdeal.Read Cert.Finite
open Cert.Gelu (sgm)
open Cert.MixFwdIdeal.Pay (gelu normed)

variable (m : (ℓ : Loc nD τ sig) → Buf (Elt Ideal) ℓ)

/-- Where each window's block sits at a point: the tile, its neighbours' rows nearest to it, or the whole array. -/
theorem idxA : ∀ t : Fin cfg0.N, win0_0.index t = ![t.val, 0] ∧ win0_1.index t = ![t.val, 0] ∧ win0_2.index t = ![t.val, 4] ∧ win0_3.index t = ![t.val, 5] ∧
    win0_4.index t = ![t.val * 16 - 1, 5] ∧ win0_5.index t = ![min ((t.val + 1) * 16) 1023, 5] ∧ win0_6.index t = ![t.val, 6] ∧
    win0_7.index t = ![t.val * 16 - 1, 6] ∧ win0_8.index t = ![min ((t.val + 1) * 16) 1023, 6] ∧ win0_9.index t = ![t.val, 7] ∧
    win0_10.index t = ![t.val, 8] ∧ win0_11.index t = ![t.val, 0] ∧ win0_12.index t = ![t.val, 0] ∧ win0_13.index t = ![t.val,
    0] :=
  (by decide +kernel : ∀ t : Fin grid0.N, _)
theorem idxB : ∀ t : Fin cfg0.N, (win0_14.index t = ![0, 0] ∧ win0_15.index t = ![0, 0] ∧ win0_16.index t = ![0, 0] ∧ win0_17.index t = ![0, 0] ∧ win0_18.index t
    = ![0, 0] ∧ win0_19.index t = ![0, 0, 0] ∧ win0_20.index t = ![0, 0] ∧ win0_21.index t = ![0, 0] ∧ win0_22.index t = ![0, 0]
    ∧ win0_23.index t = ![0, 0] ∧ win0_24.index t = ![t.val, 0] ∧ win0_25.index t = ![t.val, 0] ∧ win0_26.index t = ![t.val, 0]
    ∧ win0_27.index t = ![t.val, 0] ∧ win0_28.index t = ![t.val, 0] ∧ win0_29.index t = ![t.val, 0] ∧ win0_30.index t = ![t.val,
    0] ∧ win0_31.index t = ![t.val, 0] ∧ win0_32.index t = ![t.val, 0])
    ∧ (grid0.coords t 0).val = t.val ∧ t.val < 64 :=
  (by decide +kernel : ∀ t : Fin grid0.N, _)

/-- The point as a tile's number. -/
def tile (t : Fin cfg0.N) : Fin 64 := ⟨t.val, (idxB t).2.2⟩
theorem coord (t : Fin cfg0.N) : (grid0.coords t 0).val = (tile t).val := (idxB t).2.1

/-- What a device's arguments hold. -/
abbrev X (c : Dev nD) : FVec Ideal S1x16384x1024 .f32 := m ((c : Thread nD τ).loc main_arg0)
abbrev za (c : Dev nD) : FVec Ideal S16384x4608 .f32 := m ((c : Thread nD τ).loc main_arg1)
abbrev zm (c : Dev nD) : FVec Ideal S16384x3072 .f32 := m ((c : Thread nD τ).loc main_arg2)
abbrev hf (c : Dev nD) : FVec Ideal S16384x1024 .f32 := m ((c : Thread nD τ).loc main_arg3)
abbrev hr (c : Dev nD) : FVec Ideal S16384x1024 .f32 := m ((c : Thread nD τ).loc main_arg4)
abbrev wlo (c : Dev nD) : FVec Ideal S1024x1024 .f32 := m ((c : Thread nD τ).loc main_arg5)
abbrev scw (c : Dev nD) : FVec Ideal S3x512 .f32 := m ((c : Thread nD τ).loc main_arg6)
abbrev wso (c : Dev nD) : FVec Ideal S512x1024 .f32 := m ((c : Thread nD τ).loc main_arg7)
abbrev lg (c : Dev nD) : FVec Ideal S512 .f32 := m ((c : Thread nD τ).loc main_arg8)
abbrev lb (c : Dev nD) : FVec Ideal S512 .f32 := m ((c : Thread nD τ).loc main_arg9)
abbrev ws (c : Dev nD) : FVec Ideal S4x128x128 .f32 := m ((c : Thread nD τ).loc main_arg10)
abbrev bs (c : Dev nD) : FVec Ideal S4x128 .f32 := m ((c : Thread nD τ).loc main_arg11)
abbrev wgo (c : Dev nD) : FVec Ideal S512x1024 .f32 := m ((c : Thread nD τ).loc main_arg12)
abbrev wo (c : Dev nD) : FVec Ideal S1024x1024 .f32 := m ((c : Thread nD τ).loc main_arg13)
abbrev qg (c : Dev nD) : FVec Ideal S1024 .f32 := m ((c : Thread nD τ).loc main_arg14)

/-! ## What the region finds, the lines before it done -/

variable (c : Dev nD)

theorem V_v0 (s : Fin 16384) (k : Fin 1024) : V m c main_v0 (ix2 s k) = X m c (ix3 0 s k) := by
  unfold V; after_reads_at
theorem V_v1 (j : S16384x4608.Idx) : V m c main_v1 j = za m c j := by
  unfold V; after_reads_at
theorem V_v2 (j : S16384x3072.Idx) : V m c main_v2 j = zm m c j := by
  unfold V; after_reads_at
theorem V_v3 (j : S16384x1024.Idx) : V m c main_v3 j = hf m c j := by
  unfold V; after_reads_at
theorem V_v4 (j : S16384x1024.Idx) : V m c main_v4 j = hr m c j := by
  unfold V; after_reads_at
theorem V_v5 (j : S1024x1024.Idx) : V m c main_v5 j = wlo m c j := by
  unfold V; after_reads_at
theorem V_arg6 (j : S3x512.Idx) : V m c main_arg6 j = scw m c j := by
  unfold V; after_reads_at
theorem V_v6 (j : S512x1024.Idx) : V m c main_v6 j = wso m c j := by
  unfold V; after_reads_at
theorem V_v7 (j : S1x512.Idx) : V m c main_v7 j = lg m c (ix1 (j 1)) := by
  unfold V; after_reads_at
theorem V_v8 (j : S1x512.Idx) : V m c main_v8 j = lb m c (ix1 (j 1)) := by
  unfold V; after_reads_at
theorem V_v9 (j : S4x128x128.Idx) : V m c main_v9 j = ws m c j := by
  unfold V; after_reads_at
theorem V_v10 (j : S128x4.Idx) : V m c main_v10 j = bs m c (ix2 (j 1) (j 0)) := by
  unfold V; after_reads_at
theorem V_v11 (j : S512x1024.Idx) : V m c main_v11 j = wgo m c j := by
  unfold V; after_reads_at
theorem V_v12 (j : S1024x1024.Idx) : V m c main_v12 j = wo m c j := by
  unfold V; after_reads_at
theorem V_v13 (j : S1x1024.Idx) : V m c main_v13 j = qg m c (ix1 (j 1)) := by
  unfold V; after_reads_at

/-! ## The blocks, in the whole arrays -/

variable (t : Fin cfg0.N)

theorem emb0 (y : Fin 256) (k : Fin 1024) : ((View.whole main_v0).slice (win0_0.rect t)).emb (ix2 y k) = ix2 (at_ (tile t) y) k := by
  blk_ext [idxA t, at_, tile]
theorem iblk0_at (y : Fin 256) (k : Fin 1024) : iblk m c 0 t (ix2 y k) = X m c (ix3 0 (at_ (tile t) y) k) := by
  blk_simp [iblk]; rw [emb0, V_v0]
theorem iblk11_at (y : Fin 256) (k : Fin 3072) : iblk m c 11 t (ix2 y k) = zm m c (ix2 (at_ (tile t) y) k) := by
  blk_simp [iblk]; rw [V_v2]; blk_point [idxA t, idxB t, at_, tile]
theorem iblk12_at (y : Fin 256) (k : Fin 1024) : iblk m c 12 t (ix2 y k) = hf m c (ix2 (at_ (tile t) y) k) := by
  blk_simp [iblk]; rw [V_v3]; blk_point [idxA t, idxB t, at_, tile]
theorem iblk13_at (y : Fin 256) (k : Fin 1024) : iblk m c 13 t (ix2 y k) = hr m c (ix2 (at_ (tile t) y) k) := by
  blk_simp [iblk]; rw [V_v4]; blk_point [idxA t, idxB t, at_, tile]
theorem iblk14_at (y : Fin 1024) (k : Fin 1024) : iblk m c 14 t (ix2 y k) = wlo m c (ix2 y k) := by
  blk_simp [iblk]; rw [V_v5]; blk_point [idxA t, idxB t, at_, tile]
theorem iblk15_at (y : Fin 3) (k : Fin 512) : iblk m c 15 t (ix2 y k) = scw m c (ix2 y k) := by
  blk_simp [iblk]; rw [V_arg6]; blk_point [idxA t, idxB t, at_, tile]
theorem iblk16_at (y : Fin 512) (k : Fin 1024) : iblk m c 16 t (ix2 y k) = wso m c (ix2 y k) := by
  blk_simp [iblk]; rw [V_v6]; blk_point [idxA t, idxB t, at_, tile]
theorem iblk21_at (y : Fin 512) (k : Fin 1024) : iblk m c 21 t (ix2 y k) = wgo m c (ix2 y k) := by
  blk_simp [iblk]; rw [V_v11]; blk_point [idxA t, idxB t, at_, tile]
theorem iblk22_at (y : Fin 1024) (k : Fin 1024) : iblk m c 22 t (ix2 y k) = wo m c (ix2 y k) := by
  blk_simp [iblk]; rw [V_v12]; blk_point [idxA t, idxB t, at_, tile]
theorem iblk17_at (k : Fin 512) : iblk m c 17 t (ix2 0 k) = lg m c (ix1 k) := by
  blk_simp [iblk]; rw [V_v7]; blk_point [idxA t, idxB t, at_, tile]
theorem iblk18_at (k : Fin 512) : iblk m c 18 t (ix2 0 k) = lb m c (ix1 k) := by
  blk_simp [iblk]; rw [V_v8]; blk_point [idxA t, idxB t, at_, tile]
theorem iblk23_at (k : Fin 1024) : iblk m c 23 t (ix2 0 k) = qg m c (ix1 k) := by
  blk_simp [iblk]; rw [V_v13]; blk_point [idxA t, idxB t, at_, tile]
theorem iblk19_at (a : Fin 4) (y k : Fin 128) : iblk m c 19 t (ix3 a y k) = ws m c (ix3 a y k) := by
  blk_simp [iblk]; rw [V_v9]; blk_point [idxA t, idxB t, at_, tile]
theorem iblk20_at (y : Fin 128) (a : Fin 4) : iblk m c 20 t (ix2 y a) = bs m c (ix2 a y) := by
  blk_simp [iblk]; rw [V_v10]; blk_point [idxA t, idxB t, at_, tile]
theorem emb2 (y : Fin 256) (k : Fin 512) : ((View.whole main_v1).slice (win0_2.rect t)).emb (ix2 y k) = ix2 (at_ (tile t) y) ⟨2048 + k.val, by omega⟩ := by
  blk_ext [idxA t, at_, tile]
theorem iblk2_at (y : Fin 256) (k : Fin 512) : iblk m c 2 t (ix2 y k) = za m c (ix2 (at_ (tile t) y) ⟨2048 + k.val, by omega⟩) := by
  blk_simp [iblk]; rw [V_v1, emb2]
theorem emb3 (y : Fin 256) (k : Fin 512) : ((View.whole main_v1).slice (win0_3.rect t)).emb (ix2 y k) = ix2 (at_ (tile t) y) ⟨2560 + k.val, by omega⟩ := by
  blk_ext [idxA t, at_, tile]
theorem iblk3_at (y : Fin 256) (k : Fin 512) : iblk m c 3 t (ix2 y k) = za m c (ix2 (at_ (tile t) y) ⟨2560 + k.val, by omega⟩) := by
  blk_simp [iblk]; rw [V_v1, emb3]
theorem emb6 (y : Fin 256) (k : Fin 512) : ((View.whole main_v1).slice (win0_6.rect t)).emb (ix2 y k) = ix2 (at_ (tile t) y) ⟨3072 + k.val, by omega⟩ := by
  blk_ext [idxA t, at_, tile]
theorem iblk6_at (y : Fin 256) (k : Fin 512) : iblk m c 6 t (ix2 y k) = za m c (ix2 (at_ (tile t) y) ⟨3072 + k.val, by omega⟩) := by
  blk_simp [iblk]; rw [V_v1, emb6]
theorem emb9 (y : Fin 256) (k : Fin 512) : ((View.whole main_v1).slice (win0_9.rect t)).emb (ix2 y k) = ix2 (at_ (tile t) y) ⟨3584 + k.val, by omega⟩ := by
  blk_ext [idxA t, at_, tile]
theorem iblk9_at (y : Fin 256) (k : Fin 512) : iblk m c 9 t (ix2 y k) = za m c (ix2 (at_ (tile t) y) ⟨3584 + k.val, by omega⟩) := by
  blk_simp [iblk]; rw [V_v1, emb9]
theorem emb10 (y : Fin 256) (k : Fin 512) : ((View.whole main_v1).slice (win0_10.rect t)).emb (ix2 y k) = ix2 (at_ (tile t) y) ⟨4096 + k.val, by omega⟩ := by
  blk_ext [idxA t, at_, tile]
theorem iblk10_at (y : Fin 256) (k : Fin 512) : iblk m c 10 t (ix2 y k) = za m c (ix2 (at_ (tile t) y) ⟨4096 + k.val, by omega⟩) := by
  blk_simp [iblk]; rw [V_v1, emb10]
theorem x1_at (y : Fin 256) (k : Fin 1024) : X0_1 m c t (ix2 y k) = za m c (ix2 (at_ (tile t) y) ⟨k.val, by omega⟩) := by
  unfold X0_1 Pipeline.Window.fill; rw [dif_pos (moved0_1 t (ix2 y k))]; blk_simp [iblk]; rw [V_v1]
  refine congrArg _ (funext fun d => ?_)
  fin_cases d
  all_goals refine Fin.ext ?_; (blk_simp [idxA t, at_, tile]; rfl)

/-! ## The rows next to the tile -/

theorem embh4 (s : Fin 16384) (h : s.val + 1 = t.val * 256) (k : Fin 512) : ((View.whole main_v1).slice (win0_4.rect t)).emb (ix2 15 k) = ix2 s ⟨2560 + k.val, by omega⟩ := by
  have ht := (idxB t).2.2
  have hs := s.isLt
  blk_ext [idxA t]
theorem halo4 (s : Fin 16384) (h : s.val + 1 = t.val * 256) (k : Fin 512) : iblk m c 4 t (ix2 15 k) = za m c (ix2 s ⟨2560 + k.val, by omega⟩) := by
  blk_simp [iblk]; rw [V_v1, embh4 t s h k]
theorem embh7 (s : Fin 16384) (h : s.val + 1 = t.val * 256) (k : Fin 512) : ((View.whole main_v1).slice (win0_7.rect t)).emb (ix2 15 k) = ix2 s ⟨3072 + k.val, by omega⟩ := by
  have ht := (idxB t).2.2
  have hs := s.isLt
  blk_ext [idxA t]
theorem halo7 (s : Fin 16384) (h : s.val + 1 = t.val * 256) (k : Fin 512) : iblk m c 7 t (ix2 15 k) = za m c (ix2 s ⟨3072 + k.val, by omega⟩) := by
  blk_simp [iblk]; rw [V_v1, embh7 t s h k]
theorem embh5 (s : Fin 16384) (h : s.val = t.val * 256 + 256) (k : Fin 512) : ((View.whole main_v1).slice (win0_5.rect t)).emb (ix2 0 k) = ix2 s ⟨2560 + k.val, by omega⟩ := by
  have ht := (idxB t).2.2
  have hs := s.isLt
  blk_ext [idxA t]
theorem halo5 (s : Fin 16384) (h : s.val = t.val * 256 + 256) (k : Fin 512) : iblk m c 5 t (ix2 0 k) = za m c (ix2 s ⟨2560 + k.val, by omega⟩) := by
  blk_simp [iblk]; rw [V_v1, embh5 t s h k]
theorem embh8 (s : Fin 16384) (h : s.val = t.val * 256 + 256) (k : Fin 512) : ((View.whole main_v1).slice (win0_8.rect t)).emb (ix2 0 k) = ix2 s ⟨3072 + k.val, by omega⟩ := by
  have ht := (idxB t).2.2
  have hs := s.isLt
  blk_ext [idxA t]
theorem halo8 (s : Fin 16384) (h : s.val = t.val * 256 + 256) (k : Fin 512) : iblk m c 8 t (ix2 0 k) = za m c (ix2 s ⟨3072 + k.val, by omega⟩) := by
  blk_simp [iblk]; rw [V_v1, embh8 t s h k]

/-! ## The blocks of the results, and the arrays -/

/-- Terms of a product of two matrices, entry by entry. -/
theorem dot {n : ℕ} {a a' b b' : Fin n → EReal} (ha : ∀ l, a l = a' l) (hb : ∀ l, b l = b' l) : ∑ l, a l * b l = ∑ l, a' l * b' l :=
  Finset.sum_congr rfl fun l _ => congrArg₂ (fun a b : EReal => a * b) (ha l) (hb l)

theorem yaIn_blk (y : Fin 256) (k : Fin 1024) : yaInAt m c t (ix2 y k) = val_main_v20 (F := Ideal) (za m c) (hf m c) (hr m c) (ix2 (at_ (tile t) y) k) :=
  Pay.yaIn_at _ _ _ |>.trans (by rw [iblk12_at, iblk13_at, x1_at]; exact (yaIn_eq _ k).symm)
theorem ya_blk (y : Fin 256) (k : Fin 1024) : yaAt m c t (ix2 y k) = val_main_v108 (F := Ideal) (za m c) (hf m c) (hr m c) (wlo m c) (ix2 (at_ (tile t) y) k) :=
  Pay.ya_at _ _ _ _ |>.trans ((dot (yaIn_blk m c t y) (iblk14_at m c t · k)).trans (ya_eq _ k).symm)
theorem q_blk (y : Fin 256) (k : Fin 512) : qAt m c t (ix2 y k) = val_main_v47 (F := Ideal) (za m c) (scw m c) (ix2 (at_ (tile t) y) k) :=
  (Pay.q_at (coord t) _ _ (f := p (za m c)) (fun y k => congrArg₂ (fun a b : EReal => a * b) (iblk3_at m c t y k) (iblk6_at m c t y k))
    (fun s h k => congrArg₂ (fun a b : EReal => a * b) (halo4 m c t s h k) (halo7 m c t s h k))
    (fun s h k => congrArg₂ (fun a b : EReal => a * b) (halo5 m c t s h k) (halo8 m c t s h k))).trans
    (by rw [iblk15_at, iblk15_at, iblk15_at, iblk2_at]; exact (q_eq _ k).symm)
theorem yb_blk (y : Fin 256) (k : Fin 1024) : ybAt m c t (ix2 y k) = val_main_v109 (F := Ideal) (za m c) (scw m c) (wso m c) (ix2 (at_ (tile t) y) k) :=
  (Pay.yb_at _ _ _ _ _ _ _ _ _ _).trans ((dot (q_blk m c t y) (iblk16_at m c t · k)).trans (yb_eq _ k).symm)
theorem v_blk (y : Fin 256) (k : Fin 512) : vBlk (F := Ideal) (iblk m c 10 t) (iblk m c 17 t) (iblk m c 18 t) (ix2 y k) = val_main_v97 (F := Ideal) (za m c) (lg m c) (lb m c) (ix2 (at_ (tile t) y) k) :=
  (Pay.v_at _ _ _).trans ((Rows.congr3 (fun a b g => normed a b g k) (funext fun l => congrArg gelu (iblk10_at m c t y l))
    (funext (iblk17_at m c t)) (funext (iblk18_at m c t))).trans (v_eq _ k).symm)
theorem mixed_blk (y : Fin 256) (k : Fin 512) : mixedBlk (F := Ideal) (iblk m c 10 t) (iblk m c 17 t) (iblk m c 18 t) (iblk m c 19 t) (iblk m c 20 t) (ix2 y k) = val_main_v106 (F := Ideal) (za m c) (lg m c) (lb m c) (ws m c) (bs m c) (ix2 (at_ (tile t) y) k) := by
  have e1 : (⟨y.val % 128, by omega⟩ : Fin 128) = ⟨(at_ (tile t) y).val % 128, by omega⟩ := Fin.ext (by dsimp only [at_]; omega)
  have e2 (l : Fin 128) : at_ (tile t) ⟨y.val / 128 * 128 + l.val, by omega⟩ = ⟨(at_ (tile t) y).val / 128 * 128 + l.val, by omega⟩ :=
    Fin.ext (by dsimp only [at_]; omega)
  rw [mixed_eq, ← e1, Pay.mixed_at, iblk20_at]
  exact congrArg (fun a : EReal => a + _) (dot (iblk19_at m c t _ _) fun l => (v_blk m c t _ k).trans (by rw [e2]))
theorem ycIn_blk (y : Fin 256) (k : Fin 512) : ycInAt m c t (ix2 y k) = val_main_v107 (F := Ideal) (za m c) (lg m c) (lb m c) (ws m c) (bs m c) (ix2 (at_ (tile t) y) k) :=
  (Pay.ycIn_at _ _ _ _ _ _).trans ((congrArg₂ (fun a b : EReal => gelu a * b) (iblk9_at m c t y k) (mixed_blk m c t y k)).trans (ycIn_eq _ k).symm)
theorem yc_blk (y : Fin 256) (k : Fin 1024) : ycAt m c t (ix2 y k) = val_main_v110 (F := Ideal) (za m c) (lg m c) (lb m c) (ws m c) (bs m c) (wgo m c) (ix2 (at_ (tile t) y) k) :=
  (Pay.yc_at _ _ _ _ _ _ _).trans ((dot (ycIn_blk m c t y) (iblk21_at m c t · k)).trans (yc_eq _ k).symm)
theorem m_blk (h : IsReal (zm m c)) (y : Fin 256) (k : Fin 1024) : mAt m c t (ix2 y k) = val_main_v128 (F := Ideal) (za m c) (zm m c) (hf m c) (hr m c) (wlo m c) (scw m c) (wso m c) (lg m c) (lb m c) (ws m c) (bs m c) (wgo m c) (ix2 (at_ (tile t) y) k) :=
  (Pay.m_at _ _ _ _).trans ((congrArg₂ (fun a b : EReal => a + b) (congrArg₂ (fun a b : EReal => a + b)
    (congrArg₂ (fun a b : EReal => sgm a * b) (iblk11_at m c t y _) (ya_blk m c t y k)) (congrArg₂ (fun a b : EReal => sgm a * b) (iblk11_at m c t y _) (yb_blk m c t y k)))
    (congrArg₂ (fun a b : EReal => sgm a * b) (iblk11_at m c t y _) (yc_blk m c t y k))).trans (m_eq _ k h).symm)
theorem mx_blk (h : IsReal (zm m c)) (y : Fin 256) (k : Fin 1024) : mxAt m c t (ix2 y k) = val_main_v129 (F := Ideal) (za m c) (zm m c) (hf m c) (hr m c) (wlo m c) (scw m c) (wso m c) (lg m c) (lb m c) (ws m c) (bs m c) (wgo m c) (wo m c) (ix2 (at_ (tile t) y) k) :=
  (Pay.mx_at _ _ _ _ _ _ _).trans ((dot (m_blk m c t h y) (iblk22_at m c t · k)).trans (mx_eq _ k).symm)
theorem out_blk (h : IsReal (zm m c)) (y : Fin 256) (k : Fin 1024) : outAt m c t (ix2 y k) = val_main_v144 (F := Ideal) (X m c) (za m c) (zm m c) (hf m c) (hr m c) (wlo m c) (scw m c) (wso m c) (lg m c) (lb m c) (ws m c) (bs m c) (wgo m c) (wo m c) (qg m c) (ix2 (at_ (tile t) y) k) :=
  (Pay.out_at _ _ _).trans ((congrArg₂ (fun a b : EReal => a + b) (iblk0_at m c t y k) (congrArg₂ (fun a b : EReal => a * b)
    (congrArg₂ (fun (a : EReal) b => a * Rows.scale b) (mx_blk m c t h y k) (funext (mx_blk m c t h y))) (iblk23_at m c t k))).trans (out_eq _ k).symm)

theorem emb24 (y : Fin 256) (k : Fin 1024) : ((View.whole main_v14_0).slice (win0_24.rect t)).emb (ix2 y k) = ix2 (at_ (tile t) y) k := by
  blk_ext [idxB t, at_, tile]
theorem final24 (h : IsReal (zm m c)) : (dats m 0 c).arrAt 24 (cfgs 0).N = val_main_v144 (F := Ideal) (X m c) (za m c) (zm m c) (hf m c) (hr m c) (wlo m c) (scw m c) (wso m c) (lg m c) (lb m c) (ws m c) (bs m c) (wgo m c) (wo m c) (qg m c) := by
  refine (dats m 0 c).arrAt_eq_of_covers 24 _ (by decide +kernel) fun t _ y => ?_
  blk_simp; rw [after0_24]; idx_vars y
  refine Eq.trans ?_ (congrArg _ (emb24 t y0 y1).symm)
  exact out_blk m c t h y0 y1
theorem emb25 (y : Fin 256) (k : Fin 1024) : ((View.whole main_v14_1).slice (win0_25.rect t)).emb (ix2 y k) = ix2 (at_ (tile t) y) k := by
  blk_ext [idxB t, at_, tile]
theorem final25 : (dats m 0 c).arrAt 25 (cfgs 0).N = val_main_v145 (F := Ideal) (za m c) (hf m c) (hr m c) := by
  refine (dats m 0 c).arrAt_eq_of_covers 25 _ (by decide +kernel) fun t _ y => ?_
  blk_simp; rw [after0_25]; idx_vars y
  refine Eq.trans ?_ (congrArg _ (emb25 t y0 y1).symm)
  exact yaIn_blk m c t y0 y1
theorem emb26 (y : Fin 256) (k : Fin 512) : ((View.whole main_v14_2).slice (win0_26.rect t)).emb (ix2 y k) = ix2 (at_ (tile t) y) k := by
  blk_ext [idxB t, at_, tile]
theorem final26 : (dats m 0 c).arrAt 26 (cfgs 0).N = val_main_v146 (F := Ideal) (za m c) (scw m c) := by
  refine (dats m 0 c).arrAt_eq_of_covers 26 _ (by decide +kernel) fun t _ y => ?_
  blk_simp; rw [after0_26]; idx_vars y
  refine Eq.trans ?_ (congrArg _ (emb26 t y0 y1).symm)
  exact q_blk m c t y0 y1
theorem emb27 (y : Fin 256) (k : Fin 512) : ((View.whole main_v14_3).slice (win0_27.rect t)).emb (ix2 y k) = ix2 (at_ (tile t) y) k := by
  blk_ext [idxB t, at_, tile]
theorem final27 : (dats m 0 c).arrAt 27 (cfgs 0).N = val_main_v147 (F := Ideal) (za m c) (lg m c) (lb m c) (ws m c) (bs m c) := by
  refine (dats m 0 c).arrAt_eq_of_covers 27 _ (by decide +kernel) fun t _ y => ?_
  blk_simp; rw [after0_27]; idx_vars y
  refine Eq.trans ?_ (congrArg _ (emb27 t y0 y1).symm)
  exact ycIn_blk m c t y0 y1
theorem emb28 (y : Fin 256) (k : Fin 1024) : ((View.whole main_v14_4).slice (win0_28.rect t)).emb (ix2 y k) = ix2 (at_ (tile t) y) k := by
  blk_ext [idxB t, at_, tile]
theorem final28 : (dats m 0 c).arrAt 28 (cfgs 0).N = val_main_v148 (F := Ideal) (za m c) (hf m c) (hr m c) (wlo m c) := by
  refine (dats m 0 c).arrAt_eq_of_covers 28 _ (by decide +kernel) fun t _ y => ?_
  blk_simp; rw [after0_28]; idx_vars y
  refine Eq.trans ?_ (congrArg _ (emb28 t y0 y1).symm)
  exact ya_blk m c t y0 y1
theorem emb29 (y : Fin 256) (k : Fin 1024) : ((View.whole main_v14_5).slice (win0_29.rect t)).emb (ix2 y k) = ix2 (at_ (tile t) y) k := by
  blk_ext [idxB t, at_, tile]
theorem final29 : (dats m 0 c).arrAt 29 (cfgs 0).N = val_main_v149 (F := Ideal) (za m c) (scw m c) (wso m c) := by
  refine (dats m 0 c).arrAt_eq_of_covers 29 _ (by decide +kernel) fun t _ y => ?_
  blk_simp; rw [after0_29]; idx_vars y
  refine Eq.trans ?_ (congrArg _ (emb29 t y0 y1).symm)
  exact yb_blk m c t y0 y1
theorem emb30 (y : Fin 256) (k : Fin 1024) : ((View.whole main_v14_6).slice (win0_30.rect t)).emb (ix2 y k) = ix2 (at_ (tile t) y) k := by
  blk_ext [idxB t, at_, tile]
theorem final30 : (dats m 0 c).arrAt 30 (cfgs 0).N = val_main_v150 (F := Ideal) (za m c) (lg m c) (lb m c) (ws m c) (bs m c) (wgo m c) := by
  refine (dats m 0 c).arrAt_eq_of_covers 30 _ (by decide +kernel) fun t _ y => ?_
  blk_simp; rw [after0_30]; idx_vars y
  refine Eq.trans ?_ (congrArg _ (emb30 t y0 y1).symm)
  exact yc_blk m c t y0 y1
theorem emb31 (y : Fin 256) (k : Fin 1024) : ((View.whole main_v14_7).slice (win0_31.rect t)).emb (ix2 y k) = ix2 (at_ (tile t) y) k := by
  blk_ext [idxB t, at_, tile]
theorem final31 (h : IsReal (zm m c)) : (dats m 0 c).arrAt 31 (cfgs 0).N = val_main_v151 (F := Ideal) (za m c) (zm m c) (hf m c) (hr m c) (wlo m c) (scw m c) (wso m c) (lg m c) (lb m c) (ws m c) (bs m c) (wgo m c) := by
  refine (dats m 0 c).arrAt_eq_of_covers 31 _ (by decide +kernel) fun t _ y => ?_
  blk_simp; rw [after0_31]; idx_vars y
  refine Eq.trans ?_ (congrArg _ (emb31 t y0 y1).symm)
  exact m_blk m c t h y0 y1
theorem emb32 (y : Fin 256) (k : Fin 1024) : ((View.whole main_v14_8).slice (win0_32.rect t)).emb (ix2 y k) = ix2 (at_ (tile t) y) k := by
  blk_ext [idxB t, at_, tile]
theorem final32 (h : IsReal (zm m c)) : (dats m 0 c).arrAt 32 (cfgs 0).N = val_main_v152 (F := Ideal) (za m c) (zm m c) (hf m c) (hr m c) (wlo m c) (scw m c) (wso m c) (lg m c) (lb m c) (ws m c) (bs m c) (wgo m c) (wo m c) := by
  refine (dats m 0 c).arrAt_eq_of_covers 32 _ (by decide +kernel) fun t _ y => ?_
  blk_simp; rw [after0_32]; idx_vars y
  refine Eq.trans ?_ (congrArg _ (emb32 t y0 y1).symm)
  exact mx_blk m c t h y0 y1

end Cert.MixFwdIdeal.Val

end
-- ==== Proof.MixFwdRun.lean ====
/- The output layer's forward call run with a real merge gate: its results are the reference's terms. -/
module

public import proofs.«01_k».proof.Proof.MixFwdVal
public import proofs.«01_k».proof.Defs

@[expose] public section

set_option maxRecDepth 16384

noncomputable section

namespace Cert.MixFwdIdeal.Val

open Idealize.ShloMosaic Idealize.ShloMosaic.TcCoe Idealize.SL.Sem
open Cert.MixFwdIdeal Cert.MixFwdIdeal.Gen Cert.MixFwdRefIdeal.Read Cert.Finite

variable (m : (ℓ : Loc nD τ sig) → Buf (Elt Ideal) ℓ) (g : Dev nD → PrngReg) [Cert.Pre_mix_out_fwd_finite.Facts]

/-- What the precondition says: the merge gate's argument is finite. -/
theorem real_zm (h : Cert.Pre_MixFwdIdeal_mix_out_fwd_finite m) (c : Dev nD) : IsReal (zm m c) := by
  have e := congrFun (h c) (fun a => a.elim0)
  unfold Cert.Pre_mix_out_fwd_finite.fn at e
  exact isReal_of_test _ _ _ _ _ _ e

set_option maxHeartbeats 2000000 in
/-- The kernel program's run, its results the reference's terms of the same arguments. -/
theorem run (hp : Cert.Pre_MixFwdIdeal_mix_out_fwd_finite m) :
    θ_run (defs (F := Ideal)) (onTc (τ := τ) (main (F := Ideal))) ⟨m, fun _ => 0, g⟩ (fun r => ∀ c : Dev nD,
      r.2.mem (c.tc.loc main_v14_0) = val_main_v144 (F := Ideal) (X m c) (za m c) (zm m c) (hf m c) (hr m c) (wlo m c) (scw m c) (wso m c) (lg m c) (lb m c) (ws m c) (bs m c) (wgo m c) (wo m c) (qg m c)
      ∧ r.2.mem (c.tc.loc main_v14_1) = val_main_v145 (F := Ideal) (za m c) (hf m c) (hr m c)
      ∧ r.2.mem (c.tc.loc main_v14_2) = val_main_v146 (F := Ideal) (za m c) (scw m c)
      ∧ r.2.mem (c.tc.loc main_v14_3) = val_main_v147 (F := Ideal) (za m c) (lg m c) (lb m c) (ws m c) (bs m c)
      ∧ r.2.mem (c.tc.loc main_v14_4) = val_main_v148 (F := Ideal) (za m c) (hf m c) (hr m c) (wlo m c)
      ∧ r.2.mem (c.tc.loc main_v14_5) = val_main_v149 (F := Ideal) (za m c) (scw m c) (wso m c)
      ∧ r.2.mem (c.tc.loc main_v14_6) = val_main_v150 (F := Ideal) (za m c) (lg m c) (lb m c) (ws m c) (bs m c) (wgo m c)
      ∧ r.2.mem (c.tc.loc main_v14_7) = val_main_v151 (F := Ideal) (za m c) (zm m c) (hf m c) (hr m c) (wlo m c) (scw m c) (wso m c) (lg m c) (lb m c) (ws m c) (bs m c) (wgo m c)
      ∧ r.2.mem (c.tc.loc main_v14_8) = val_main_v152 (F := Ideal) (za m c) (zm m c) (hf m c) (hr m c) (wlo m c) (scw m c) (wso m c) (lg m c) (lb m c) (ws m c) (bs m c) (wgo m c) (wo m c)
      ∧ r.2.mem (c.tc.loc main_arg0) = X m c
      ∧ r.2.mem (c.tc.loc main_arg1) = za m c
      ∧ r.2.mem (c.tc.loc main_arg2) = zm m c
      ∧ r.2.mem (c.tc.loc main_arg3) = hf m c
      ∧ r.2.mem (c.tc.loc main_arg4) = hr m c
      ∧ r.2.mem (c.tc.loc main_arg5) = wlo m c
      ∧ r.2.mem (c.tc.loc main_arg6) = scw m c
      ∧ r.2.mem (c.tc.loc main_arg7) = wso m c
      ∧ r.2.mem (c.tc.loc main_arg8) = lg m c
      ∧ r.2.mem (c.tc.loc main_arg9) = lb m c
      ∧ r.2.mem (c.tc.loc main_arg10) = ws m c
      ∧ r.2.mem (c.tc.loc main_arg11) = bs m c
      ∧ r.2.mem (c.tc.loc main_arg12) = wgo m c
      ∧ r.2.mem (c.tc.loc main_arg13) = wo m c
      ∧ r.2.mem (c.tc.loc main_arg14) = qg m c) := by
  refine (θ_run _ _ _).mono (fun r h c => ?_) (θ_run_and (Whole.run_main m g) (Whole.frame m g))
  have hz := real_zm m hp c
  exact ⟨(h.1.out_eq c 24).trans (final24 m c hz),
    (h.1.out_eq c 25).trans (final25 m c),
    (h.1.out_eq c 26).trans (final26 m c),
    (h.1.out_eq c 27).trans (final27 m c),
    (h.1.out_eq c 28).trans (final28 m c),
    (h.1.out_eq c 29).trans (final29 m c),
    (h.1.out_eq c 30).trans (final30 m c),
    (h.1.out_eq c 31).trans (final31 m c hz),
    (h.1.out_eq c 32).trans (final32 m c hz), h.2.1 c⟩

end Cert.MixFwdIdeal.Val

end
-- ==== Proof.lean ====
module

public import proofs.«01_k».proof.Defs
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.FfnB
public import proofs.«01_k».proof.Proof.Gen.FfnB.Skeleton
public import proofs.«01_k».proof.Proof.Gen.FfnB.Launch
public import proofs.«01_k».proof.Proof.Gen.FfnB.Points
public import proofs.«01_k».proof.Proof.Gen.FfnB.Frame
public import proofs.«01_k».proof.Proof.Gen.FfnBIdeal
public import proofs.«01_k».proof.Proof.Gen.FfnBIdeal.Skeleton
public import proofs.«01_k».proof.Proof.Gen.FfnBIdeal.Launch
public import proofs.«01_k».proof.Proof.Gen.FfnBIdeal.Points
public import proofs.«01_k».proof.Proof.Gen.FfnBIdeal.Frame
public import proofs.«01_k».proof.Proof.Gen.FfnBRefIdeal
public import proofs.«01_k».proof.Proof.Gen.FfnBRefIdeal.Run
public import proofs.«01_k».proof.Proof.Gen.FfnBRefIdeal.Read
public import proofs.«01_k».proof.Proof.Gen.FfnA
public import proofs.«01_k».proof.Proof.Gen.FfnA.Skeleton
public import proofs.«01_k».proof.Proof.Gen.FfnA.Launch
public import proofs.«01_k».proof.Proof.Gen.FfnA.Points
public import proofs.«01_k».proof.Proof.Gen.FfnA.Frame
public import proofs.«01_k».proof.Proof.Gen.FfnAIdeal
public import proofs.«01_k».proof.Proof.Gen.FfnAIdeal.Skeleton
public import proofs.«01_k».proof.Proof.Gen.FfnAIdeal.Launch
public import proofs.«01_k».proof.Proof.Gen.FfnAIdeal.Points
public import proofs.«01_k».proof.Proof.Gen.FfnAIdeal.Frame
public import proofs.«01_k».proof.Proof.Gen.FfnARefIdeal
public import proofs.«01_k».proof.Proof.Gen.FfnARefIdeal.Run
public import proofs.«01_k».proof.Proof.Gen.FfnARefIdeal.Read
public import proofs.«01_k».proof.Proof.Gen.Pre_ffn_b_finite
public import proofs.«01_k».proof.Proof.Gen.Pre_ffn_a_finite
public import proofs.«01_k».proof.Proof.Gen.Pre_mix_in_finite
public import proofs.«01_k».proof.Proof.Gen.MixIn
public import proofs.«01_k».proof.Proof.Gen.MixInIdeal
public import proofs.«01_k».proof.Proof.Gen.MixInIdeal.Skeleton
public import proofs.«01_k».proof.Proof.Gen.MixInIdeal.Frame.Runs
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.Pre_mix_out_finite
public import proofs.«01_k».proof.Proof.Gen.MixOut
public import proofs.«01_k».proof.Proof.Gen.MixOutIdeal
public import proofs.«01_k».proof.Proof.Gen.MixOutIdeal.Skeleton
public import proofs.«01_k».proof.Proof.Gen.MixOutIdeal.Frame.Runs
public import proofs.«01_k».proof.Proof.Gen.MixOutRefIdeal
public import proofs.«01_k».proof.Proof.Gen.MixOutRefIdeal.Run
public import proofs.«01_k».proof.Proof.Gen.MixOutRefIdeal.Read
public import proofs.«01_k».proof.Proof.LossTie
public import proofs.«01_k».proof.Proof.FfnBTie
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.Gen.Pre_mix_out_fwd_finite
public import proofs.«01_k».proof.Proof.Gen.MixFwd
public import proofs.«01_k».proof.Proof.Gen.MixFwdIdeal
public import proofs.«01_k».proof.Proof.Gen.MixFwdIdeal.Skeleton
public import proofs.«01_k».proof.Proof.Gen.MixFwdIdeal.Frame.Runs
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.FfnATie
public import proofs.«01_k».proof.Proof.MixInTie
public import proofs.«01_k».proof.Proof.MixOutRun
public import proofs.«01_k».proof.Proof.FfnTie
public import proofs.«01_k».proof.Proof.MixOutBits
public import proofs.«01_k».proof.Proof.MixFwdRun
public import Idealize.ShloMosaic.Adequacy
public import Idealize.ShloMosaic.Init

@[expose] public section

noncomputable section

namespace Cert.Proof

open Idealize.ShloMosaic Idealize.SL.Sem Cert.LossHead

/-- The loss and its gradient. -/
theorem loss : Cert.algebraic_LossHeadIdeal_LossRefIdeal := by
  intro m g m' g' _ hagree
  refine ⟨_, _, Cert.LossTie.run m g, ?_⟩
  refine (θ_run _ _ _).mono (fun r h c => ?_) (Cert.LossRefIdeal.Value.run m' g')
  obtain ⟨h0, h1, h2⟩ := h c
  rw [(hagree c).1, (hagree c).2] at h0 h1
  exact ⟨h0, h1, h2⟩

/-- The feed-forward block's gradient, its first half. -/
theorem ffnA : Cert.algebraic_FfnAIdeal_FfnARefIdeal_pre_ffn_a_finite := by
  intro m g m' g' hp hagree
  refine ⟨_, _, _, _, Cert.FfnATie.run m g hp, ?_⟩
  refine (θ_run _ _ _).mono (fun r h c => ?_) (Cert.FfnARefIdeal.Value.run m' g')
  obtain ⟨h0, h1, h2, h3, h4⟩ := h c
  obtain ⟨e0, e1, e2, e3, e4, e5, e6⟩ := hagree c
  refine ⟨h0.trans ?_, h1.trans ?_, h2.trans ?_, h3.trans ?_, h4⟩
  all_goals (rw [← e0, ← e1, ← e2, ← e3, ← e4, ← e5]; try rw [← e6]); rfl

/-- The feed-forward block's gradient, its second half. -/
theorem ffnB : Cert.algebraic_FfnBIdeal_FfnBRefIdeal_pre_ffn_b_finite := by
  intro m g m' g' hp hagree
  refine ⟨_, _, _, Cert.FfnBTie.run m g hp, ?_⟩
  refine (θ_run _ _ _).mono (fun r h c => ?_) (Cert.FfnBRefIdeal.Value.run m' g')
  obtain ⟨h0, h1, h2, h3⟩ := h c
  obtain ⟨e0, e1, e2, e3, e4, e5, e6⟩ := hagree c
  refine ⟨h0.trans ?_, h1.trans ?_, h2.trans ?_, h3⟩
  · rw [← e0, ← e1, ← e2, ← e3, ← e4, ← e5, ← e6]; rfl
  · rw [← e0, ← e2]; rfl
  · rw [← e0, ← e3, ← e4, ← e5, ← e6]; rfl

/-- The input layer's gradient: the norm, the projection's two convolutions and their products. -/
theorem mixIn : Cert.algebraic_MixInIdeal_MixInRefIdeal_pre_mix_in_finite := by
  intro m g m' g' hp hagree
  refine ⟨_, _, _, _, _, _, Cert.MixInTie.run m g hp, ?_⟩
  refine (θ_run _ _ _).mono (fun r h c => ?_) (Cert.MixInRefIdeal.Value.run m' g')
  obtain ⟨h0, h1, h2, h3, h4, h5, h6⟩ := h c
  obtain ⟨e0, e1, e2, e3, e4, e5, e6, e7, e8, e9, e10, e11, e12, e13⟩ := hagree c
  refine ⟨h0.trans ?_, h1.trans ?_, h2.trans ?_, h3.trans ?_, h4.trans ?_, h5.trans ?_, h6⟩
  · rw [← e0, ← e1, ← e2, ← e3, ← e4, ← e5, ← e6, ← e7, ← e8, ← e9, ← e10, ← e11, ← e12, ← e13]; rfl
  · rw [← e0, ← e2, ← e3, ← e4, ← e5, ← e6, ← e7, ← e8, ← e9, ← e10, ← e11, ← e12, ← e13]; rfl
  · rw [← e0, ← e2, ← e3, ← e4, ← e5, ← e6, ← e7, ← e8, ← e9, ← e10, ← e11, ← e12, ← e13]; rfl
  · rw [← e0, ← e2, ← e3, ← e6, ← e7]; rfl
  · rw [← e6, ← e7]; rfl
  · rw [← e0, ← e2, ← e3, ← e8]; rfl

set_option maxHeartbeats 2000000 in
/-- The output layer's gradient: the norm, the merge of the three branches, the gates and the short convolution. -/
theorem mixOut : Cert.algebraic_MixOutIdeal_MixOutRefIdeal_pre_mix_out_finite := by
  intro m g m' g' hp hagree
  refine ⟨_, _, _, _, _, _, _, _, _, _, _, Cert.MixOutTie.run m g hp, ?_⟩
  refine (θ_run _ _ _).mono (fun r h c => ?_) (Cert.MixOutRefIdeal.Value.run m' g')
  obtain ⟨h0, h1, h2, h3, h4, h5, h6, h7, h8, h9, h10, h11⟩ := h c
  obtain ⟨e0, e1, e2, e3, e4, e5, e6, e7, e8, e9, e10, e11, e12, e13, e14⟩ := hagree c
  refine ⟨h0.trans ?_, h1.trans ?_, h2.trans ?_, h3.trans ?_, h4.trans ?_, h5.trans ?_, h6.trans ?_, h7.trans ?_, h8.trans ?_, h9.trans ?_, h10.trans ?_, h11⟩
  all_goals (unfold Cert.MixOutTie.all Cert.MixOutIdeal.Val.args; dsimp only; rw [← e0, ← e1, ← e2, ← e3, ← e4, ← e5, ← e6, ← e7, ← e8, ← e9, ← e10, ← e11, ← e12, ← e13]; (try rw [← e14]); rfl)

/-- The feed-forward block's forward call. -/
theorem ffn : Cert.algebraic_FfnIdeal_FfnRefIdeal_pre_ffn_finite := by
  intro m g m' g' hp hagree
  refine ⟨_, _, _, _, _, Cert.FfnTie.run m g hp, ?_⟩
  refine (θ_run _ _ _).mono (fun r h c => ?_) (Cert.FfnRefIdeal.Value.run m' g')
  obtain ⟨h0, h1, h2, h3, h4, h5⟩ := h c
  obtain ⟨e0, e1, e2, e3, e4, e5⟩ := hagree c
  refine ⟨h0.trans ?_, h1.trans ?_, h2.trans ?_, h3.trans ?_, h4.trans ?_, h5⟩
  · rw [← e0, ← e1, ← e2, ← e3, ← e4, ← e5]; rfl
  · rw [← e0, ← e1, ← e2, ← e3]; rfl
  · rw [← e0, ← e1, ← e2, ← e3]; rfl
  · rw [← e0, ← e1, ← e2]; rfl
  · rw [← e0, ← e1, ← e2, ← e3, ← e4]; rfl

set_option maxHeartbeats 2000000 in
/-- The output layer's forward call: the gates, the short convolution, the spatial gating unit, the merge and the norm. -/
theorem mixFwd : Cert.algebraic_MixFwdIdeal_MixFwdRefIdeal_pre_mix_out_fwd_finite := by
  intro m g m' g' hp hagree
  refine ⟨_, _, _, _, _, _, _, _, _, Cert.MixFwdIdeal.Val.run m g hp, ?_⟩
  refine (θ_run _ _ _).mono (fun r h c => ?_) (Cert.MixFwdRefIdeal.Value.run m' g')
  obtain ⟨h0, h1, h2, h3, h4, h5, h6, h7, h8, h9⟩ := h c
  obtain ⟨e0, e1, e2, e3, e4, e5, e6, e7, e8, e9, e10, e11, e12, e13, e14⟩ := hagree c
  refine ⟨h0.trans ?_, h1.trans ?_, h2.trans ?_, h3.trans ?_, h4.trans ?_, h5.trans ?_, h6.trans ?_, h7.trans ?_, h8.trans ?_, h9⟩
  all_goals (simp only [← e0, ← e1, ← e2, ← e3, ← e4, ← e5, ← e6, ← e7, ← e8, ← e9, ← e10, ← e11, ← e12, ← e13, ← e14]; rfl)

/-- The references write no argument. -/
theorem frame_lossRef : Cert.quiescent_LossRefIdeal := fun m ρ _ =>
  (θ_run _ _ _).mono (fun r h => ⟨fun c => (h c).2.2, sem_eq_zero_of_no_sems rfl _⟩) (Cert.LossRefIdeal.Value.run m ρ)

theorem frame_ffnBRef : Cert.quiescent_FfnBRefIdeal := fun m ρ _ =>
  (θ_run _ _ _).mono (fun r h => ⟨fun c => (h c).2.2.2, sem_eq_zero_of_no_sems rfl _⟩) (Cert.FfnBRefIdeal.Value.run m ρ)

theorem frame_ffnARef : Cert.quiescent_FfnARefIdeal := fun m ρ _ =>
  (θ_run _ _ _).mono (fun r h => ⟨fun c => (h c).2.2.2.2, sem_eq_zero_of_no_sems rfl _⟩) (Cert.FfnARefIdeal.Value.run m ρ)

theorem frame_mixInRef : Cert.quiescent_MixInRefIdeal := fun m ρ _ =>
  (θ_run _ _ _).mono (fun r h => ⟨fun c => (h c).2.2.2.2.2.2, sem_eq_zero_of_no_sems rfl _⟩) (Cert.MixInRefIdeal.Value.run m ρ)

/-- The two readings of the input layer's call have the same text, so one run serves both. -/
theorem frame_mixIn : Cert.quiescent_MixIn :=
  cast (by sl_kernel_rfl) fun (m : (ℓ : Loc Cert.MixInIdeal.nD Cert.MixInIdeal.τ Cert.MixInIdeal.sig) → Buf (Elt Bits) ℓ) (ρ : Dev Cert.MixInIdeal.nD → PrngReg) (_ : True) =>
    Cert.MixInIdeal.Whole.frame m ρ

theorem frame_mixInIdeal : Cert.quiescent_MixInIdeal := fun m ρ _ => Cert.MixInIdeal.Whole.frame m ρ

theorem frame_mixOutRef : Cert.quiescent_MixOutRefIdeal := fun m ρ _ =>
  (θ_run _ _ _).mono (fun r h => ⟨fun c => (h c).2.2.2.2.2.2.2.2.2.2.2, sem_eq_zero_of_no_sems rfl _⟩) (Cert.MixOutRefIdeal.Value.run m ρ)

theorem frame_mixOutIdeal : Cert.quiescent_MixOutIdeal := fun m ρ _ => Cert.MixOutIdeal.Whole.frame m ρ

theorem frame_ffnRef : Cert.quiescent_FfnRefIdeal := fun m ρ _ =>
  (θ_run _ _ _).mono (fun r h => ⟨fun c => (h c).2.2.2.2.2, sem_eq_zero_of_no_sems rfl _⟩) (Cert.FfnRefIdeal.Value.run m ρ)

theorem frame_mixFwdRef : Cert.quiescent_MixFwdRefIdeal := fun m ρ _ =>
  (θ_run _ _ _).mono (fun r h => ⟨fun c => (h c).2.2.2.2.2.2.2.2.2, sem_eq_zero_of_no_sems rfl _⟩) (Cert.MixFwdRefIdeal.Value.run m ρ)

theorem frame_mixFwd : Cert.quiescent_MixFwd :=
  cast (by sl_kernel_rfl) fun (m : (ℓ : Loc Cert.MixFwdIdeal.nD Cert.MixFwdIdeal.τ Cert.MixFwdIdeal.sig) → Buf (Elt Bits) ℓ) (ρ : Dev Cert.MixFwdIdeal.nD → PrngReg) (_ : True) =>
    Cert.MixFwdIdeal.Whole.frame m ρ

theorem frame_mixFwdIdeal : Cert.quiescent_MixFwdIdeal := fun m ρ _ => Cert.MixFwdIdeal.Whole.frame m ρ

/-- The GeLU's two coefficients round to the words the program holds. -/
theorem preserves_mixOut : Cert.preserves_MixOut_MixOutIdeal :=
  ⟨IdealRules.named_const.statement Cert.MixOutIdeal.κ "gelu_c" .f32 0x3D372713#32 ((8943 / 200000 : ℝ) : EReal) rfl,
    IdealRules.named_const.statement Cert.MixOutIdeal.κ "gelu_3c" .f32 0x3E095D4F#32 ((26829 / 200000 : ℝ) : EReal) rfl⟩

theorem claim : Cert.Claim := ⟨Cert.LossHead.Gen.facts, Cert.LossHeadIdeal.Gen.facts, Cert.LossRefIdeal.Gen.facts,
  Cert.FfnB.Gen.facts, Cert.FfnBIdeal.Gen.facts, Cert.FfnBRefIdeal.Gen.facts,
  Cert.FfnA.Gen.facts, Cert.FfnAIdeal.Gen.facts, Cert.FfnARefIdeal.Gen.facts,
  Cert.MixIn.Gen.facts, Cert.MixInIdeal.Gen.facts, Cert.MixInRefIdeal.Gen.facts,
  Cert.MixOut.Gen.facts, Cert.MixOutIdeal.Gen.facts, Cert.MixOutRefIdeal.Gen.facts,
  Cert.Ffn.Gen.facts, Cert.FfnIdeal.Gen.facts, Cert.FfnRefIdeal.Gen.facts,
  Cert.MixFwd.Gen.facts, Cert.MixFwdIdeal.Gen.facts, Cert.MixFwdRefIdeal.Gen.facts,
  Cert.Pre_ffn_b_finite.Gen.facts, Cert.Pre_ffn_a_finite.Gen.facts, Cert.Pre_mix_in_finite.Gen.facts, Cert.Pre_mix_out_finite.Gen.facts, Cert.Pre_ffn_finite.Gen.facts, Cert.Pre_mix_out_fwd_finite.Gen.facts,
  fun m ρ _ => Cert.LossHead.Gen.frame m ρ, fun m ρ _ => Cert.LossHeadIdeal.Gen.frame m ρ, frame_lossRef,
  fun m ρ _ => Cert.FfnB.Gen.frame m ρ, fun m ρ _ => Cert.FfnBIdeal.Gen.frame m ρ, fun m ρ _ => Cert.FfnBIdeal.Gen.frame m ρ,
  frame_ffnBRef, fun m ρ _ => frame_ffnBRef m ρ trivial,
  fun m ρ _ => Cert.FfnA.Gen.frame m ρ, fun m ρ _ => Cert.FfnAIdeal.Gen.frame m ρ, fun m ρ _ => Cert.FfnAIdeal.Gen.frame m ρ,
  frame_ffnARef, fun m ρ _ => frame_ffnARef m ρ trivial,
  frame_mixIn, frame_mixInIdeal, fun m ρ _ => frame_mixInIdeal m ρ trivial,
  frame_mixInRef, fun m ρ _ => frame_mixInRef m ρ trivial,
  Cert.MixOutBits.frame_mixOut, frame_mixOutIdeal, fun m ρ _ => frame_mixOutIdeal m ρ trivial,
  frame_mixOutRef, fun m ρ _ => frame_mixOutRef m ρ trivial,
  fun m ρ _ => Cert.Ffn.Gen.frame m ρ, fun m ρ _ => Cert.FfnIdeal.Gen.frame m ρ, fun m ρ _ => Cert.FfnIdeal.Gen.frame m ρ,
  frame_ffnRef, fun m ρ _ => frame_ffnRef m ρ trivial,
  frame_mixFwd, frame_mixFwdIdeal, fun m ρ _ => frame_mixFwdIdeal m ρ trivial,
  frame_mixFwdRef, fun m ρ _ => frame_mixFwdRef m ρ trivial,
  trivial, loss, trivial, ffnB, trivial, ffnA, trivial, mixIn, preserves_mixOut, mixOut, trivial, ffn, trivial, mixFwd⟩

end Cert.Proof

end
